-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_mlp [hPre_finite_mlp : Cert.Pre_finite_mlp.Facts] (m : (ℓ : Loc Cert.KernelIdeal.nD Cert.KernelIdeal.τ Cert.KernelIdeal.sig) → Buf (Elt Ideal) ℓ) : Prop :=
  ∀ c : Dev Cert.KernelIdeal.nD,
    (Cert.Pre_finite_mlp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_mlp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_mlp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_mlp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_mlp.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_mlp [hPre_finite_mlp : Cert.Pre_finite_mlp.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_mlp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_mlp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_mlp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_mlp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_mlp.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_attn [hPre_finite_attn : Cert.Pre_finite_attn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite_attn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_attn [hPre_finite_attn : Cert.Pre_finite_attn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite_attn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_loss [hPre_finite_loss : Cert.Pre_finite_loss.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.1 = (fun _ => 1#1)
    ∧ (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.1 = (fun _ => 1#1)
    ∧ (Cert.Pre_finite_loss.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_loss [hPre_finite_loss : Cert.Pre_finite_loss.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.1 = (fun _ => 1#1)
    ∧ (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.1 = (fun _ => 1#1)
    ∧ (Cert.Pre_finite_loss.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_mix [hPre_finite_mix : Cert.Pre_finite_mix.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.1 = (fun _ => 1#1)
    ∧ (Cert.Pre_finite_mix.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))).2.2.2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_mix [hPre_finite_mix : Cert.Pre_finite_mix.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.1 = (fun _ => 1#1)
    ∧ (Cert.Pre_finite_mix.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))).2.2.2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_proj [hPre_finite_proj : Cert.Pre_finite_proj.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.2.2.1 = (fun _ => 1#1)
    ∧ (Cert.Pre_finite_proj.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10)) (m ((c.tc : Thread Cert.Kernel5Ideal.nD Cert.Kernel5Ideal.τ).loc Cert.Kernel5Ideal.main_arg11)) (m ((c.tc : Thread Cert.Kernel5Ideal.nD Cert.Kernel5Ideal.τ).loc Cert.Kernel5Ideal.main_arg12)) (m ((c.tc : Thread Cert.Kernel5Ideal.nD Cert.Kernel5Ideal.τ).loc Cert.Kernel5Ideal.main_arg13))).2.2.2.2.2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_proj [hPre_finite_proj : Cert.Pre_finite_proj.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.2.2.1 = (fun _ => 1#1)
    ∧ (Cert.Pre_finite_proj.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10)) (m ((c.tc : Thread Cert.Reference5Ideal.nD Cert.Reference5Ideal.τ).loc Cert.Reference5Ideal.main_arg11)) (m ((c.tc : Thread Cert.Reference5Ideal.nD Cert.Reference5Ideal.τ).loc Cert.Reference5Ideal.main_arg12)) (m ((c.tc : Thread Cert.Reference5Ideal.nD Cert.Reference5Ideal.τ).loc Cert.Reference5Ideal.main_arg13))).2.2.2.2.2.2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_attend [hPre_finite_attend : Cert.Pre_finite_attend.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_attend.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_finite_attend.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.1 = (fun _ => 1#1)
    ∧ (Cert.Pre_finite_attend.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_attend [hPre_finite_attend : Cert.Pre_finite_attend.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_attend.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_finite_attend.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.1 = (fun _ => 1#1)
    ∧ (Cert.Pre_finite_attend.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_mlp [hKernelIdeal : Cert.KernelIdeal.Facts] [hPre_finite_mlp : Cert.Pre_finite_mlp.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_mlp m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_mlp [hReferenceIdeal : Cert.ReferenceIdeal.Facts] [hPre_finite_mlp : Cert.Pre_finite_mlp.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_mlp m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_attn [hKernel2Ideal : Cert.Kernel2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_attn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_attn [hReference2Ideal : Cert.Reference2Ideal.Facts] [hPre_finite_attn : Cert.Pre_finite_attn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_attn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_loss [hKernel3Ideal : Cert.Kernel3Ideal.Facts] [hPre_finite_loss : Cert.Pre_finite_loss.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_loss m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_loss [hReference3Ideal : Cert.Reference3Ideal.Facts] [hPre_finite_loss : Cert.Pre_finite_loss.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_loss m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite_mix [hKernel4Ideal : Cert.Kernel4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_mix m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite_mix [hReference4Ideal : Cert.Reference4Ideal.Facts] [hPre_finite_mix : Cert.Pre_finite_mix.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_mix m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Kernel5Ideal_pre_finite_proj [hKernel5Ideal : Cert.Kernel5Ideal.Facts] [hPre_finite_proj : Cert.Pre_finite_proj.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_proj m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Reference5Ideal_pre_finite_proj [hReference5Ideal : Cert.Reference5Ideal.Facts] [hPre_finite_proj : Cert.Pre_finite_proj.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_proj m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_attend [hKernel6Ideal : Cert.Kernel6Ideal.Facts] [hPre_finite_attend : Cert.Pre_finite_attend.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_attend m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_attend [hReference6Ideal : Cert.Reference6Ideal.Facts] [hPre_finite_attend : Cert.Pre_finite_attend.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_attend m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_finite_mlp [hKernelIdeal : Cert.KernelIdeal.Facts] [hReferenceIdeal : Cert.ReferenceIdeal.Facts] [hPre_finite_mlp : Cert.Pre_finite_mlp.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_mlp m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v85) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite_attn [hKernel2Ideal : Cert.Kernel2Ideal.Facts] [hReference2Ideal : Cert.Reference2Ideal.Facts] [hPre_finite_attn : Cert.Pre_finite_attn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_attn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v42_0)) (v1 : (c : Dev Cert.Kernel2Ideal.nD) → Buf (Elt Ideal) ((c.tc : Thread Cert.Kernel2Ideal.nD Cert.Kernel2Ideal.τ).loc Cert.Kernel2Ideal.main_v42_1)) (v2 : (c : Dev Cert.Kernel2Ideal.nD) → Buf (Elt Ideal) ((c.tc : Thread Cert.Kernel2Ideal.nD Cert.Kernel2Ideal.τ).loc Cert.Kernel2Ideal.main_v42_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v42_0) = v0 c
          ∧ r.2.mem ((c.tc : Thread Cert.Kernel2Ideal.nD Cert.Kernel2Ideal.τ).loc Cert.Kernel2Ideal.main_v42_1) = v1 c
          ∧ r.2.mem ((c.tc : Thread Cert.Kernel2Ideal.nD Cert.Kernel2Ideal.τ).loc Cert.Kernel2Ideal.main_v42_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_v63) = v1 c
          ∧ r.2.mem ((c.tc : Thread Cert.Reference2Ideal.nD Cert.Reference2Ideal.τ).loc Cert.Reference2Ideal.main_v58) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite_loss [hKernel3Ideal : Cert.Kernel3Ideal.Facts] [hReference3Ideal : Cert.Reference3Ideal.Facts] [hPre_finite_loss : Cert.Pre_finite_loss.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_loss m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)) (v6 : (c : Dev Cert.Kernel3Ideal.nD) → Buf (Elt Ideal) ((c.tc : Thread Cert.Kernel3Ideal.nD Cert.Kernel3Ideal.τ).loc Cert.Kernel3Ideal.main_v6_6)) (v7 : (c : Dev Cert.Kernel3Ideal.nD) → Buf (Elt Ideal) ((c.tc : Thread Cert.Kernel3Ideal.nD Cert.Kernel3Ideal.τ).loc Cert.Kernel3Ideal.main_v6_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_v6_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v106) = v0 c
          ∧ r.2.mem ((c.tc : Thread Cert.Reference3Ideal.nD Cert.Reference3Ideal.τ).loc Cert.Reference3Ideal.main_v187) = v1 c
          ∧ r.2.mem ((c.tc : Thread Cert.Reference3Ideal.nD Cert.Reference3Ideal.τ).loc Cert.Reference3Ideal.main_v188) = v2 c
          ∧ r.2.mem ((c.tc : Thread Cert.Reference3Ideal.nD Cert.Reference3Ideal.τ).loc Cert.Reference3Ideal.main_v189) = v3 c
          ∧ r.2.mem ((c.tc : Thread Cert.Reference3Ideal.nD Cert.Reference3Ideal.τ).loc Cert.Reference3Ideal.main_v190) = v4 c
          ∧ r.2.mem ((c.tc : Thread Cert.Reference3Ideal.nD Cert.Reference3Ideal.τ).loc Cert.Reference3Ideal.main_v191) = v5 c
          ∧ r.2.mem ((c.tc : Thread Cert.Reference3Ideal.nD Cert.Reference3Ideal.τ).loc Cert.Reference3Ideal.main_v192) = v6 c
          ∧ r.2.mem ((c.tc : Thread Cert.Reference3Ideal.nD Cert.Reference3Ideal.τ).loc Cert.Reference3Ideal.main_v107) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite_mix [hKernel4Ideal : Cert.Kernel4Ideal.Facts] [hReference4Ideal : Cert.Reference4Ideal.Facts] [hPre_finite_mix : Cert.Pre_finite_mix.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_mix m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v39_0)) (v1 : (c : Dev Cert.Kernel4Ideal.nD) → Buf (Elt Ideal) ((c.tc : Thread Cert.Kernel4Ideal.nD Cert.Kernel4Ideal.τ).loc Cert.Kernel4Ideal.main_v39_1)) (v2 : (c : Dev Cert.Kernel4Ideal.nD) → Buf (Elt Ideal) ((c.tc : Thread Cert.Kernel4Ideal.nD Cert.Kernel4Ideal.τ).loc Cert.Kernel4Ideal.main_v39_2)) (v3 : (c : Dev Cert.Kernel4Ideal.nD) → Buf (Elt Ideal) ((c.tc : Thread Cert.Kernel4Ideal.nD Cert.Kernel4Ideal.τ).loc Cert.Kernel4Ideal.main_v39_3)) (v4 : (c : Dev Cert.Kernel4Ideal.nD) → Buf (Elt Ideal) ((c.tc : Thread Cert.Kernel4Ideal.nD Cert.Kernel4Ideal.τ).loc Cert.Kernel4Ideal.main_v39_4)) (v5 : (c : Dev Cert.Kernel4Ideal.nD) → Buf (Elt Ideal) ((c.tc : Thread Cert.Kernel4Ideal.nD Cert.Kernel4Ideal.τ).loc Cert.Kernel4Ideal.main_v39_5)) (v6 : (c : Dev Cert.Kernel4Ideal.nD) → Buf (Elt Ideal) ((c.tc : Thread Cert.Kernel4Ideal.nD Cert.Kernel4Ideal.τ).loc Cert.Kernel4Ideal.main_v39_6)) (v7 : (c : Dev Cert.Kernel4Ideal.nD) → Buf (Elt Ideal) ((c.tc : Thread Cert.Kernel4Ideal.nD Cert.Kernel4Ideal.τ).loc Cert.Kernel4Ideal.main_v39_7)) (v8 : (c : Dev Cert.Kernel4Ideal.nD) → Buf (Elt Ideal) ((c.tc : Thread Cert.Kernel4Ideal.nD Cert.Kernel4Ideal.τ).loc Cert.Kernel4Ideal.main_v39_8)) (v9 : (c : Dev Cert.Kernel4Ideal.nD) → Buf (Elt Ideal) ((c.tc : Thread Cert.Kernel4Ideal.nD Cert.Kernel4Ideal.τ).loc Cert.Kernel4Ideal.main_v39_9)) (v10 : (c : Dev Cert.Kernel4Ideal.nD) → Buf (Elt Ideal) ((c.tc : Thread Cert.Kernel4Ideal.nD Cert.Kernel4Ideal.τ).loc Cert.Kernel4Ideal.main_v39_10)) (v11 : (c : Dev Cert.Kernel4Ideal.nD) → Buf (Elt Ideal) ((c.tc : Thread Cert.Kernel4Ideal.nD Cert.Kernel4Ideal.τ).loc Cert.Kernel4Ideal.main_v39_11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v39_0) = v0 c
          ∧ r.2.mem ((c.tc : Thread Cert.Kernel4Ideal.nD Cert.Kernel4Ideal.τ).loc Cert.Kernel4Ideal.main_v39_1) = v1 c
          ∧ r.2.mem ((c.tc : Thread Cert.Kernel4Ideal.nD Cert.Kernel4Ideal.τ).loc Cert.Kernel4Ideal.main_v39_2) = v2 c
          ∧ r.2.mem ((c.tc : Thread Cert.Kernel4Ideal.nD Cert.Kernel4Ideal.τ).loc Cert.Kernel4Ideal.main_v39_3) = v3 c
          ∧ r.2.mem ((c.tc : Thread Cert.Kernel4Ideal.nD Cert.Kernel4Ideal.τ).loc Cert.Kernel4Ideal.main_v39_4) = v4 c
          ∧ r.2.mem ((c.tc : Thread Cert.Kernel4Ideal.nD Cert.Kernel4Ideal.τ).loc Cert.Kernel4Ideal.main_v39_5) = v5 c
          ∧ r.2.mem ((c.tc : Thread Cert.Kernel4Ideal.nD Cert.Kernel4Ideal.τ).loc Cert.Kernel4Ideal.main_v39_6) = v6 c
          ∧ r.2.mem ((c.tc : Thread Cert.Kernel4Ideal.nD Cert.Kernel4Ideal.τ).loc Cert.Kernel4Ideal.main_v39_7) = v7 c
          ∧ r.2.mem ((c.tc : Thread Cert.Kernel4Ideal.nD Cert.Kernel4Ideal.τ).loc Cert.Kernel4Ideal.main_v39_8) = v8 c
          ∧ r.2.mem ((c.tc : Thread Cert.Kernel4Ideal.nD Cert.Kernel4Ideal.τ).loc Cert.Kernel4Ideal.main_v39_9) = v9 c
          ∧ r.2.mem ((c.tc : Thread Cert.Kernel4Ideal.nD Cert.Kernel4Ideal.τ).loc Cert.Kernel4Ideal.main_v39_10) = v10 c
          ∧ r.2.mem ((c.tc : Thread Cert.Kernel4Ideal.nD Cert.Kernel4Ideal.τ).loc Cert.Kernel4Ideal.main_v39_11) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v97) = v0 c
          ∧ r.2.mem ((c.tc : Thread Cert.Reference4Ideal.nD Cert.Reference4Ideal.τ).loc Cert.Reference4Ideal.main_v100) = v1 c
          ∧ r.2.mem ((c.tc : Thread Cert.Reference4Ideal.nD Cert.Reference4Ideal.τ).loc Cert.Reference4Ideal.main_v103) = v2 c
          ∧ r.2.mem ((c.tc : Thread Cert.Reference4Ideal.nD Cert.Reference4Ideal.τ).loc Cert.Reference4Ideal.main_v106) = v3 c
          ∧ r.2.mem ((c.tc : Thread Cert.Reference4Ideal.nD Cert.Reference4Ideal.τ).loc Cert.Reference4Ideal.main_v108) = v4 c
          ∧ r.2.mem ((c.tc : Thread Cert.Reference4Ideal.nD Cert.Reference4Ideal.τ).loc Cert.Reference4Ideal.main_v110) = v5 c
          ∧ r.2.mem ((c.tc : Thread Cert.Reference4Ideal.nD Cert.Reference4Ideal.τ).loc Cert.Reference4Ideal.main_v112) = v6 c
          ∧ r.2.mem ((c.tc : Thread Cert.Reference4Ideal.nD Cert.Reference4Ideal.τ).loc Cert.Reference4Ideal.main_v113) = v7 c
          ∧ r.2.mem ((c.tc : Thread Cert.Reference4Ideal.nD Cert.Reference4Ideal.τ).loc Cert.Reference4Ideal.main_v114) = v8 c
          ∧ r.2.mem ((c.tc : Thread Cert.Reference4Ideal.nD Cert.Reference4Ideal.τ).loc Cert.Reference4Ideal.main_v115) = v9 c
          ∧ r.2.mem ((c.tc : Thread Cert.Reference4Ideal.nD Cert.Reference4Ideal.τ).loc Cert.Reference4Ideal.main_v116) = v10 c
          ∧ r.2.mem ((c.tc : Thread Cert.Reference4Ideal.nD Cert.Reference4Ideal.τ).loc Cert.Reference4Ideal.main_v54) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal_pre_finite_proj [hKernel5Ideal : Cert.Kernel5Ideal.Facts] [hReference5Ideal : Cert.Reference5Ideal.Facts] [hPre_finite_proj : Cert.Pre_finite_proj.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_proj m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)) →
    ∃ (v0 : (c : Dev Cert.Kernel5Ideal.nD) → Buf (Elt Ideal) ((c.tc : Thread Cert.Kernel5Ideal.nD Cert.Kernel5Ideal.τ).loc Cert.Kernel5Ideal.main_v105_0)) (v1 : (c : Dev Cert.Kernel5Ideal.nD) → Buf (Elt Ideal) ((c.tc : Thread Cert.Kernel5Ideal.nD Cert.Kernel5Ideal.τ).loc Cert.Kernel5Ideal.main_v105_1)) (v2 : (c : Dev Cert.Kernel5Ideal.nD) → Buf (Elt Ideal) ((c.tc : Thread Cert.Kernel5Ideal.nD Cert.Kernel5Ideal.τ).loc Cert.Kernel5Ideal.main_v105_2)) (v3 : (c : Dev Cert.Kernel5Ideal.nD) → Buf (Elt Ideal) ((c.tc : Thread Cert.Kernel5Ideal.nD Cert.Kernel5Ideal.τ).loc Cert.Kernel5Ideal.main_v105_3)) (v4 : (c : Dev Cert.Kernel5Ideal.nD) → Buf (Elt Ideal) ((c.tc : Thread Cert.Kernel5Ideal.nD Cert.Kernel5Ideal.τ).loc Cert.Kernel5Ideal.main_v105_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v105_0) = v0 c
          ∧ r.2.mem ((c.tc : Thread Cert.Kernel5Ideal.nD Cert.Kernel5Ideal.τ).loc Cert.Kernel5Ideal.main_v105_1) = v1 c
          ∧ r.2.mem ((c.tc : Thread Cert.Kernel5Ideal.nD Cert.Kernel5Ideal.τ).loc Cert.Kernel5Ideal.main_v105_2) = v2 c
          ∧ r.2.mem ((c.tc : Thread Cert.Kernel5Ideal.nD Cert.Kernel5Ideal.τ).loc Cert.Kernel5Ideal.main_v105_3) = v3 c
          ∧ r.2.mem ((c.tc : Thread Cert.Kernel5Ideal.nD Cert.Kernel5Ideal.τ).loc Cert.Kernel5Ideal.main_v105_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v369) = v0 c
          ∧ r.2.mem ((c.tc : Thread Cert.Reference5Ideal.nD Cert.Reference5Ideal.τ).loc Cert.Reference5Ideal.main_v371) = v1 c
          ∧ r.2.mem ((c.tc : Thread Cert.Reference5Ideal.nD Cert.Reference5Ideal.τ).loc Cert.Reference5Ideal.main_v370) = v2 c
          ∧ r.2.mem ((c.tc : Thread Cert.Reference5Ideal.nD Cert.Reference5Ideal.τ).loc Cert.Reference5Ideal.main_v345) = v3 c
          ∧ r.2.mem ((c.tc : Thread Cert.Reference5Ideal.nD Cert.Reference5Ideal.τ).loc Cert.Reference5Ideal.main_v284) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13))

def preserves_Kernel6_Kernel6Ideal : Prop :=
  IdealRules.named_const.Statement Cert.Kernel6Ideal.κ "log2_e" .f32 0x3FB8AA3B#32 (((Real.log 2)⁻¹ : ℝ) : EReal)

def algebraic_Kernel6Ideal_Reference6Ideal_pre_finite_attend [hKernel6Ideal : Cert.Kernel6Ideal.Facts] [hReference6Ideal : Cert.Reference6Ideal.Facts] [hPre_finite_attend : Cert.Pre_finite_attend.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_attend m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_v29) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_mlp : Cert.Pre_finite_mlp.Facts) (hPre_finite_attn : Cert.Pre_finite_attn.Facts) (hPre_finite_loss : Cert.Pre_finite_loss.Facts) (hPre_finite_mix : Cert.Pre_finite_mix.Facts) (hPre_finite_proj : Cert.Pre_finite_proj.Facts) (hPre_finite_attend : Cert.Pre_finite_attend.Facts),
    quiescent_Kernel (hKernel := hKernel)
    ∧ quiescent_KernelIdeal (hKernelIdeal := hKernelIdeal)
    ∧ quiescent_KernelIdeal_pre_finite_mlp (hKernelIdeal := hKernelIdeal) (hPre_finite_mlp := hPre_finite_mlp)
    ∧ quiescent_ReferenceIdeal (hReferenceIdeal := hReferenceIdeal)
    ∧ quiescent_ReferenceIdeal_pre_finite_mlp (hReferenceIdeal := hReferenceIdeal) (hPre_finite_mlp := hPre_finite_mlp)
    ∧ quiescent_Kernel2 (hKernel2 := hKernel2)
    ∧ quiescent_Kernel2Ideal (hKernel2Ideal := hKernel2Ideal)
    ∧ quiescent_Kernel2Ideal_pre_finite_attn (hKernel2Ideal := hKernel2Ideal) (hPre_finite_attn := hPre_finite_attn)
    ∧ quiescent_Reference2Ideal (hReference2Ideal := hReference2Ideal)
    ∧ quiescent_Reference2Ideal_pre_finite_attn (hReference2Ideal := hReference2Ideal) (hPre_finite_attn := hPre_finite_attn)
    ∧ quiescent_Kernel3 (hKernel3 := hKernel3)
    ∧ quiescent_Kernel3Ideal (hKernel3Ideal := hKernel3Ideal)
    ∧ quiescent_Kernel3Ideal_pre_finite_loss (hKernel3Ideal := hKernel3Ideal) (hPre_finite_loss := hPre_finite_loss)
    ∧ quiescent_Reference3Ideal (hReference3Ideal := hReference3Ideal)
    ∧ quiescent_Reference3Ideal_pre_finite_loss (hReference3Ideal := hReference3Ideal) (hPre_finite_loss := hPre_finite_loss)
    ∧ quiescent_Kernel4 (hKernel4 := hKernel4)
    ∧ quiescent_Kernel4Ideal (hKernel4Ideal := hKernel4Ideal)
    ∧ quiescent_Kernel4Ideal_pre_finite_mix (hKernel4Ideal := hKernel4Ideal) (hPre_finite_mix := hPre_finite_mix)
    ∧ quiescent_Reference4Ideal (hReference4Ideal := hReference4Ideal)
    ∧ quiescent_Reference4Ideal_pre_finite_mix (hReference4Ideal := hReference4Ideal) (hPre_finite_mix := hPre_finite_mix)
    ∧ quiescent_Kernel5 (hKernel5 := hKernel5)
    ∧ quiescent_Kernel5Ideal (hKernel5Ideal := hKernel5Ideal)
    ∧ quiescent_Kernel5Ideal_pre_finite_proj (hKernel5Ideal := hKernel5Ideal) (hPre_finite_proj := hPre_finite_proj)
    ∧ quiescent_Reference5Ideal (hReference5Ideal := hReference5Ideal)
    ∧ quiescent_Reference5Ideal_pre_finite_proj (hReference5Ideal := hReference5Ideal) (hPre_finite_proj := hPre_finite_proj)
    ∧ quiescent_Kernel6 (hKernel6 := hKernel6)
    ∧ quiescent_Kernel6Ideal (hKernel6Ideal := hKernel6Ideal)
    ∧ quiescent_Kernel6Ideal_pre_finite_attend (hKernel6Ideal := hKernel6Ideal) (hPre_finite_attend := hPre_finite_attend)
    ∧ quiescent_Reference6Ideal (hReference6Ideal := hReference6Ideal)
    ∧ quiescent_Reference6Ideal_pre_finite_attend (hReference6Ideal := hReference6Ideal) (hPre_finite_attend := hPre_finite_attend)
    ∧ preserves_Kernel_KernelIdeal
    ∧ algebraic_KernelIdeal_ReferenceIdeal_pre_finite_mlp (hKernelIdeal := hKernelIdeal) (hReferenceIdeal := hReferenceIdeal) (hPre_finite_mlp := hPre_finite_mlp)
    ∧ preserves_Kernel2_Kernel2Ideal
    ∧ algebraic_Kernel2Ideal_Reference2Ideal_pre_finite_attn (hKernel2Ideal := hKernel2Ideal) (hReference2Ideal := hReference2Ideal) (hPre_finite_attn := hPre_finite_attn)
    ∧ preserves_Kernel3_Kernel3Ideal
    ∧ algebraic_Kernel3Ideal_Reference3Ideal_pre_finite_loss (hKernel3Ideal := hKernel3Ideal) (hReference3Ideal := hReference3Ideal) (hPre_finite_loss := hPre_finite_loss)
    ∧ preserves_Kernel4_Kernel4Ideal
    ∧ algebraic_Kernel4Ideal_Reference4Ideal_pre_finite_mix (hKernel4Ideal := hKernel4Ideal) (hReference4Ideal := hReference4Ideal) (hPre_finite_mix := hPre_finite_mix)
    ∧ preserves_Kernel5_Kernel5Ideal
    ∧ algebraic_Kernel5Ideal_Reference5Ideal_pre_finite_proj (hKernel5Ideal := hKernel5Ideal) (hReference5Ideal := hReference5Ideal) (hPre_finite_proj := hPre_finite_proj)
    ∧ preserves_Kernel6_Kernel6Ideal
    ∧ algebraic_Kernel6Ideal_Reference6Ideal_pre_finite_attend (hKernel6Ideal := hKernel6Ideal) (hReference6Ideal := hReference6Ideal) (hPre_finite_attend := hPre_finite_attend)
-- ==== Pre_finite_attend.lean ====
abbrev S8192x1024 : Shape := ⟨2, ![8192, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S8192x256 .f32) (main_arg2 : FVec F S8192x256 .f32) : IVec S8192x1024 1 × IVec S8192x256 1 × IVec S8192x256 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S8192x256 .f32 := subf main_arg1 main_arg1
  let main_cst_0 : FVec F S_ .f32 := constant S_ .f32 0x00000000#32
  let main_v4 : FVec F S8192x256 .f32 := broadcastInDim S8192x256 ![] bcast_S_S8192x256 main_cst_0
  let main_v5 : IVec S8192x256 1 := cmpf .oeq main_v3 main_v4
  let main_v6 : FVec F S8192x256 .f32 := subf main_arg2 main_arg2
  let main_cst_1 : FVec F S_ .f32 := constant S_ .f32 0x00000000#32
  let main_v7 : FVec F S8192x256 .f32 := broadcastInDim S8192x256 ![] bcast_S_S8192x256 main_cst_1
  let main_v8 : IVec S8192x256 1 := cmpf .oeq main_v6 main_v7
  (main_v2, main_v5, main_v8)
-- ==== Pre_finite_attn.lean ====
abbrev S8192x1024 : Shape := ⟨2, ![8192, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S8192x256 .f32) (main_arg2 : FVec F S8192x256 .f32) (main_arg3 : FVec F S8192x1024 .f32) : IVec S8192x1024 1 × IVec S8192x256 1 × IVec S8192x256 1 × IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S8192x256 .f32 := subf main_arg1 main_arg1
  let main_cst_0 : FVec F S_ .f32 := constant S_ .f32 0x00000000#32
  let main_v4 : FVec F S8192x256 .f32 := broadcastInDim S8192x256 ![] bcast_S_S8192x256 main_cst_0
  let main_v5 : IVec S8192x256 1 := cmpf .oeq main_v3 main_v4
  let main_v6 : FVec F S8192x256 .f32 := subf main_arg2 main_arg2
  let main_cst_1 : FVec F S_ .f32 := constant S_ .f32 0x00000000#32
  let main_v7 : FVec F S8192x256 .f32 := broadcastInDim S8192x256 ![] bcast_S_S8192x256 main_cst_1
  let main_v8 : IVec S8192x256 1 := cmpf .oeq main_v6 main_v7
  let main_v9 : FVec F S8192x1024 .f32 := subf main_arg3 main_arg3
  let main_cst_2 : FVec F S_ .f32 := constant S_ .f32 0x00000000#32
  let main_v10 : FVec F S8192x1024 .f32 := broadcastInDim S8192x1024 ![] bcast_S_S8192x1024 main_cst_2
  let main_v11 : IVec S8192x1024 1 := cmpf .oeq main_v9 main_v10
  (main_v2, main_v5, main_v8, main_v11)
-- ==== Pre_finite_loss.lean ====
abbrev S8192x1024 : Shape := ⟨2, ![8192, 1024]⟩
abbrev S8192x256 : Shape := ⟨2, ![8192, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1x1024x1024 : S_.BroadcastsInDim S1x1024x1024 (![] : Fin 0 → Fin S1x1024x1024.rank)
  bcast_S_S1x256x1024 : S_.BroadcastsInDim S1x256x1024 (![] : Fin 0 → Fin S1x256x1024.rank)
  bcast_S_S1x1024 : S_.BroadcastsInDim S1x1024 (![] : Fin 0 → Fin S1x1024.rank)
  bcast_S_S1024 : S_.BroadcastsInDim S1024 (![] : Fin 0 → Fin S1024.rank)

variable [Facts]

def fn_part1 {F : FTy → Type} [FloatOps F] (main_arg6 : FVec F S1024 .f32) (main_v2 : IVec S8192x1024 1) (main_v5 : IVec S8192x256 1) (main_v8 : IVec S8192x1024 1) (main_v11 : IVec S1x1024x1024 1) (main_v14 : IVec S1x256x1024 1) (main_v17 : IVec S1x1024 1) : IVec S8192x1024 1 × IVec S8192x256 1 × IVec S8192x1024 1 × IVec S1x1024x1024 1 × IVec S1x256x1024 1 × IVec S1x1024 1 × IVec S1024 1 :=
  let main_v18 : FVec F S1024 .f32 := subf main_arg6 main_arg6
  let main_cst_5 : FVec F S_ .f32 := constant S_ .f32 0x00000000#32
  let main_v19 : FVec F S1024 .f32 := broadcastInDim S1024 ![] bcast_S_S1024 main_cst_5
  let main_v20 : IVec S1024 1 := cmpf .oeq main_v18 main_v19
  (main_v2, main_v5, main_v8, main_v11, main_v14, main_v17, main_v20)

def fn {F : FTy → Type} [FloatOps F] (main_arg0 : FVec F S8192x1024 .f32) (main_arg1 : FVec F S8192x256 .f32) (main_arg2 : FVec F S8192x1024 .f32) (main_arg3 : FVec F S1x1024x1024 .f32) (main_arg4 : FVec F S1x256x1024 .f32) (main_arg5 : FVec F S1x1024 .f32) (main_arg6 : FVec F S1024 .f32) : IVec S8192x1024 1 × IVec S8192x256 1 × IVec S8192x1024 1 × IVec S1x1024x1024 1 × IVec S1x256x1024 1 × IVec S1x1024 1 × IVec S1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S8192x256 .f32 := subf main_arg1 main_arg1
  let main_cst_0 : FVec F S_ .f32 := constant S_ .f32 0x00000000#32
  let main_v4 : FVec F S8192x256 .f32 := broadcastInDim S8192x256 ![] bcast_S_S8192x256 main_cst_0
  let main_v5 : IVec S8192x256 1 := cmpf .oeq main_v3 main_v4
  let main_v6 : FVec F S8192x1024 .f32 := subf main_arg2 main_arg2
  let main_cst_1 : FVec F S_ .f32 := constant S_ .f32 0x00000000#32
  let main_v7 : FVec F S8192x1024 .f32 := broadcastInDim S8192x1024 ![] bcast_S_S8192x1024 main_cst_1
  let main_v8 : IVec S8192x1024 1 := cmpf .oeq main_v6 main_v7
  let main_v9 : FVec F S1x1024x1024 .f32 := subf main_arg3 main_arg3
  let main_cst_2 : FVec F S_ .f32 := constant S_ .f32 0x00000000#32
  let main_v10 : FVec F S1x1024x1024 .f32 := broadcastInDim S1x1024x1024 ![] bcast_S_S1x1024x1024 main_cst_2
  let main_v11 : IVec S1x1024x1024 1 := cmpf .oeq main_v9 main_v10
  let main_v12 : FVec F S1x256x1024 .f32 := subf main_arg4 main_arg4
  let main_cst_3 : FVec F S_ .f32 := constant S_ .f32 0x00000000#32
  let main_v13 : FVec F S1x256x1024 .f32 := broadcastInDim S1x256x1024 ![] bcast_S_S1x256x1024 main_cst_3
  let main_v14 : IVec S1x256x1024 1 := cmpf .oeq main_v12 main_v13
  let main_v15 : FVec F S1x1024 .f32 := subf main_arg5 main_arg5
  let main_cst_4 : FVec F S_ .f32 := constant S_ .f32 0x00000000#32
  let main_v16 : FVec F S1x1024 .f32 := broadcastInDim S1x1024 ![] bcast_S_S1x1024 main_cst_4
  let main_v17 : IVec S1x1024 1 := cmpf .oeq main_v15 main_v16
  fn_part1 (F := F) main_arg6 main_v2 main_v5 main_v8 main_v11 main_v14 main_v17
-- ==== Pre_finite_mix.lean ====
abbrev S8192x1024 : Shape := ⟨2, ![8192, 1024]⟩
abbrev S8192x256 : Shape := ⟨2, ![8192, 256]⟩
abbrev S1x2048 : Shape := ⟨2, ![1, 2048]⟩
abbrev S1x1024x1024 : Shape := ⟨3, ![1, 1024, 1024]⟩
abbrev S1x256x1024 : Shape := ⟨3, ![1, 256, 1024]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bcast_S_S1x2048 : S_.BroadcastsInDim S1x2048 (![] : Fin 0 → Fin S1x2048.rank)
  bcast_S_S1x1024x1024 : S_.BroadcastsInDim S1x1024x1024 (![] : Fin 0 → Fin S1x1024x1024.rank)
  bcast_S_S1x256x1024 : S_.BroadcastsInDim S1x256x1024 (![] : Fin 0 → Fin S1x256x1024.rank)

variable [Facts]

def fn_part1 {F : FTy → Type} [FloatOps F] (main_arg6 : FVec F S1x256x1024 .f32) (main_arg7 : FVec F S1x1024x1024 .f32) (main_arg8 : FVec F S8192x1024 .f32) (main_v2 : IVec S8192x1024 1) (main_v5 : IVec S8192x256 1) (main_v8 : IVec S8192x1024 1) (main_v11 : IVec S8192x1024 1) (main_v14 : IVec S1x2048 1) (main_v17 : IVec S1x1024x1024 1) : IVec S8192x1024 1 × IVec S8192x256 1 × IVec S8192x1024 1 × IVec S8192x1024 1 × IVec S1x2048 1 × IVec S1x1024x1024 1 × IVec S1x256x1024 1 × IVec S1x1024x1024 1 × IVec S8192x1024 1 :=
  let main_v18 : FVec F S1x256x1024 .f32 := subf main_arg6 main_arg6
  let main_cst_5 : FVec F S_ .f32 := constant S_ .f32 0x00000000#32
  let main_v19 : FVec F S1x256x1024 .f32 := broadcastInDim S1x256x1024 ![] bcast_S_S1x256x1024 main_cst_5
  let main_v20 : IVec S1x256x1024 1 := cmpf .oeq main_v18 main_v19
  let main_v21 : FVec F S1x1024x1024 .f32 := subf main_arg7 main_arg7
  let main_cst_6 : FVec F S_ .f32 := constant S_ .f32 0x00000000#32
  let main_v22 : FVec F S1x1024x1024 .f32 := broadcastInDim S1x1024x1024 ![] bcast_S_S1x1024x1024 main_cst_6
  let main_v23 : IVec S1x1024x1024 1 := cmpf .oeq main_v21 main_v22
  let main_v24 : FVec F S8192x1024 .f32 := subf main_arg8 main_arg8
  let main_cst_7 : FVec F S_ .f32 := constant S_ .f32 0x00000000#32
  let main_v25 : FVec F S8192x1024 .f32 := broadcastInDim S8192x1024 ![] bcast_S_S8192x1024 main_cst_7
  let main_v26 : IVec S8192x1024 1 := cmpf .oeq main_v24 main_v25
  (main_v2, main_v5, main_v8, main_v11, main_v14, main_v17, main_v20, main_v23, main_v26)

def fn {F : FTy → Type} [FloatOps F] (main_arg0 : FVec F S8192x1024 .f32) (main_arg1 : FVec F S8192x256 .f32) (main_arg2 : FVec F S8192x1024 .f32) (main_arg3 : FVec F S8192x1024 .f32) (main_arg4 : FVec F S1x2048 .f32) (main_arg5 : FVec F S1x1024x1024 .f32) (main_arg6 : FVec F S1x256x1024 .f32) (main_arg7 : FVec F S1x1024x1024 .f32) (main_arg8 : FVec F S8192x1024 .f32) : IVec S8192x1024 1 × IVec S8192x256 1 × IVec S8192x1024 1 × IVec S8192x1024 1 × IVec S1x2048 1 × IVec S1x1024x1024 1 × IVec S1x256x1024 1 × IVec S1x1024x1024 1 × IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S8192x256 .f32 := subf main_arg1 main_arg1
  let main_cst_0 : FVec F S_ .f32 := constant S_ .f32 0x00000000#32
  let main_v4 : FVec F S8192x256 .f32 := broadcastInDim S8192x256 ![] bcast_S_S8192x256 main_cst_0
  let main_v5 : IVec S8192x256 1 := cmpf .oeq main_v3 main_v4
  let main_v6 : FVec F S8192x1024 .f32 := subf main_arg2 main_arg2
  let main_cst_1 : FVec F S_ .f32 := constant S_ .f32 0x00000000#32
  let main_v7 : FVec F S8192x1024 .f32 := broadcastInDim S8192x1024 ![] bcast_S_S8192x1024 main_cst_1
  let main_v8 : IVec S8192x1024 1 := cmpf .oeq main_v6 main_v7
  let main_v9 : FVec F S8192x1024 .f32 := subf main_arg3 main_arg3
  let main_cst_2 : FVec F S_ .f32 := constant S_ .f32 0x00000000#32
  let main_v10 : FVec F S8192x1024 .f32 := broadcastInDim S8192x1024 ![] bcast_S_S8192x1024 main_cst_2
  let main_v11 : IVec S8192x1024 1 := cmpf .oeq main_v9 main_v10
  let main_v12 : FVec F S1x2048 .f32 := subf main_arg4 main_arg4
  let main_cst_3 : FVec F S_ .f32 := constant S_ .f32 0x00000000#32
  let main_v13 : FVec F S1x2048 .f32 := broadcastInDim S1x2048 ![] bcast_S_S1x2048 main_cst_3
  let main_v14 : IVec S1x2048 1 := cmpf .oeq main_v12 main_v13
  let main_v15 : FVec F S1x1024x1024 .f32 := subf main_arg5 main_arg5
  let main_cst_4 : FVec F S_ .f32 := constant S_ .f32 0x00000000#32
  let main_v16 : FVec F S1x1024x1024 .f32 := broadcastInDim S1x1024x1024 ![] bcast_S_S1x1024x1024 main_cst_4
  let main_v17 : IVec S1x1024x1024 1 := cmpf .oeq main_v15 main_v16
  fn_part1 (F := F) main_arg6 main_arg7 main_arg8 main_v2 main_v5 main_v8 main_v11 main_v14 main_v17
-- ==== Pre_finite_mlp.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn {F : FTy → Type} [FloatOps F] (main_arg0 : FVec F S8192x1024 .f32) (main_arg1 : FVec F S1x1024 .f32) (main_arg2 : FVec F S1x1024x4096 .f32) (main_arg3 : FVec F S1x4096x1024 .f32) (main_arg4 : FVec F S8192x1024 .f32) : IVec S8192x1024 1 × IVec S1x1024 1 × IVec S1x1024x4096 1 × IVec S1x4096x1024 1 × IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S1x1024 .f32 := subf main_arg1 main_arg1
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : FVec F S1x1024x4096 .f32 := subf main_arg2 main_arg2
  let main_cst_1 : FVec F S_ .f32 := constant S_ .f32 0x00000000#32
  let main_v7 : FVec F S1x1024x4096 .f32 := broadcastInDim S1x1024x4096 ![] bcast_S_S1x1024x4096 main_cst_1
  let main_v8 : IVec S1x1024x4096 1 := cmpf .oeq main_v6 main_v7
  let main_v9 : FVec F S1x4096x1024 .f32 := subf main_arg3 main_arg3
  let main_cst_2 : FVec F S_ .f32 := constant S_ .f32 0x00000000#32
  let main_v10 : FVec F S1x4096x1024 .f32 := broadcastInDim S1x4096x1024 ![] bcast_S_S1x4096x1024 main_cst_2
  let main_v11 : IVec S1x4096x1024 1 := cmpf .oeq main_v9 main_v10
  let main_v12 : FVec F S8192x1024 .f32 := subf main_arg4 main_arg4
  let main_cst_3 : FVec F S_ .f32 := constant S_ .f32 0x00000000#32
  let main_v13 : FVec F S8192x1024 .f32 := broadcastInDim S8192x1024 ![] bcast_S_S8192x1024 main_cst_3
  let main_v14 : IVec S8192x1024 1 := cmpf .oeq main_v12 main_v13
  (main_v2, main_v5, main_v8, main_v11, main_v14)
-- ==== Pre_finite_proj.lean ====
abbrev S8192x1024 : Shape := ⟨2, ![8192, 1024]⟩
abbrev S1x1024 : Shape := ⟨2, ![1, 1024]⟩
abbrev S1x1024x5888 : Shape := ⟨3, ![1, 1024, 5888]⟩
abbrev S1x128 : Shape := ⟨2, ![1, 128]⟩
abbrev S8192x256 : Shape := ⟨2, ![8192, 256]⟩
abbrev S8192x768 : Shape := ⟨2, ![8192, 768]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x5888 : S_.BroadcastsInDim S1x1024x5888 (![] : Fin 0 → Fin S1x1024x5888.rank)
  bcast_S_S1x128 : S_.BroadcastsInDim S1x128 (![] : Fin 0 → Fin S1x128.rank)
  bcast_S_S8192x256 : S_.BroadcastsInDim S8192x256 (![] : Fin 0 → Fin S8192x256.rank)
  bcast_S_S8192x768 : S_.BroadcastsInDim S8192x768 (![] : Fin 0 → Fin S8192x768.rank)

variable [Facts]

def fn_part2 {F : FTy → Type} [FloatOps F] (main_arg12 : FVec F S8192x1024 .f32) (main_arg13 : FVec F S8192x1024 .f32) (main_v2 : IVec S8192x1024 1) (main_v5 : IVec S1x1024 1) (main_v8 : IVec S1x1024x5888 1) (main_v11 : IVec S1x128 1) (main_v14 : IVec S1x128 1) (main_v17 : IVec S8192x1024 1) (main_v20 : IVec S8192x1024 1) (main_v23 : IVec S8192x256 1) (main_v26 : IVec S8192x256 1) (main_v29 : IVec S8192x768 1) (main_v32 : IVec S8192x768 1) (main_v35 : IVec S8192x768 1) : IVec S8192x1024 1 × IVec S1x1024 1 × IVec S1x1024x5888 1 × IVec S1x128 1 × IVec S1x128 1 × IVec S8192x1024 1 × IVec S8192x1024 1 × IVec S8192x256 1 × IVec S8192x256 1 × IVec S8192x768 1 × IVec S8192x768 1 × IVec S8192x768 1 × IVec S8192x1024 1 × IVec S8192x1024 1 :=
  let main_v36 : FVec F S8192x1024 .f32 := subf main_arg12 main_arg12
  let main_cst_11 : FVec F S_ .f32 := constant S_ .f32 0x00000000#32
  let main_v37 : FVec F S8192x1024 .f32 := broadcastInDim S8192x1024 ![] bcast_S_S8192x1024 main_cst_11
  let main_v38 : IVec S8192x1024 1 := cmpf .oeq main_v36 main_v37
  let main_v39 : FVec F S8192x1024 .f32 := subf main_arg13 main_arg13
  let main_cst_12 : FVec F S_ .f32 := constant S_ .f32 0x00000000#32
  let main_v40 : FVec F S8192x1024 .f32 := broadcastInDim S8192x1024 ![] bcast_S_S8192x1024 main_cst_12
  let main_v41 : IVec S8192x1024 1 := cmpf .oeq main_v39 main_v40
  (main_v2, main_v5, main_v8, main_v11, main_v14, main_v17, main_v20, main_v23, main_v26, main_v29, main_v32, main_v35, main_v38, main_v41)

def fn_part1 {F : FTy → Type} [FloatOps F] (main_arg6 : FVec F S8192x1024 .f32) (main_arg7 : FVec F S8192x256 .f32) (main_arg8 : FVec F S8192x256 .f32) (main_arg9 : FVec F S8192x768 .f32) (main_arg10 : FVec F S8192x768 .f32) (main_arg11 : FVec F S8192x768 .f32) (main_arg12 : FVec F S8192x1024 .f32) (main_arg13 : FVec F S8192x1024 .f32) (main_v2 : IVec S8192x1024 1) (main_v5 : IVec S1x1024 1) (main_v8 : IVec S1x1024x5888 1) (main_v11 : IVec S1x128 1) (main_v14 : IVec S1x128 1) (main_v17 : IVec S8192x1024 1) : IVec S8192x1024 1 × IVec S1x1024 1 × IVec S1x1024x5888 1 × IVec S1x128 1 × IVec S1x128 1 × IVec S8192x1024 1 × IVec S8192x1024 1 × IVec S8192x256 1 × IVec S8192x256 1 × IVec S8192x768 1 × IVec S8192x768 1 × IVec S8192x768 1 × IVec S8192x1024 1 × IVec S8192x1024 1 :=
  let main_v18 : FVec F S8192x1024 .f32 := subf main_arg6 main_arg6
  let main_cst_5 : FVec F S_ .f32 := constant S_ .f32 0x00000000#32
  let main_v19 : FVec F S8192x1024 .f32 := broadcastInDim S8192x1024 ![] bcast_S_S8192x1024 main_cst_5
  let main_v20 : IVec S8192x1024 1 := cmpf .oeq main_v18 main_v19
  let main_v21 : FVec F S8192x256 .f32 := subf main_arg7 main_arg7
  let main_cst_6 : FVec F S_ .f32 := constant S_ .f32 0x00000000#32
  let main_v22 : FVec F S8192x256 .f32 := broadcastInDim S8192x256 ![] bcast_S_S8192x256 main_cst_6
  let main_v23 : IVec S8192x256 1 := cmpf .oeq main_v21 main_v22
  let main_v24 : FVec F S8192x256 .f32 := subf main_arg8 main_arg8
  let main_cst_7 : FVec F S_ .f32 := constant S_ .f32 0x00000000#32
  let main_v25 : FVec F S8192x256 .f32 := broadcastInDim S8192x256 ![] bcast_S_S8192x256 main_cst_7
  let main_v26 : IVec S8192x256 1 := cmpf .oeq main_v24 main_v25
  let main_v27 : FVec F S8192x768 .f32 := subf main_arg9 main_arg9
  let main_cst_8 : FVec F S_ .f32 := constant S_ .f32 0x00000000#32
  let main_v28 : FVec F S8192x768 .f32 := broadcastInDim S8192x768 ![] bcast_S_S8192x768 main_cst_8
  let main_v29 : IVec S8192x768 1 := cmpf .oeq main_v27 main_v28
  let main_v30 : FVec F S8192x768 .f32 := subf main_arg10 main_arg10
  let main_cst_9 : FVec F S_ .f32 := constant S_ .f32 0x00000000#32
  let main_v31 : FVec F S8192x768 .f32 := broadcastInDim S8192x768 ![] bcast_S_S8192x768 main_cst_9
  let main_v32 : IVec S8192x768 1 := cmpf .oeq main_v30 main_v31
  let main_v33 : FVec F S8192x768 .f32 := subf main_arg11 main_arg11
  let main_cst_10 : FVec F S_ .f32 := constant S_ .f32 0x00000000#32
  let main_v34 : FVec F S8192x768 .f32 := broadcastInDim S8192x768 ![] bcast_S_S8192x768 main_cst_10
  let main_v35 : IVec S8192x768 1 := cmpf .oeq main_v33 main_v34
  fn_part2 (F := F) main_arg12 main_arg13 main_v2 main_v5 main_v8 main_v11 main_v14 main_v17 main_v20 main_v23 main_v26 main_v29 main_v32 main_v35

def fn {F : FTy → Type} [FloatOps F] (main_arg0 : FVec F S8192x1024 .f32) (main_arg1 : FVec F S1x1024 .f32) (main_arg2 : FVec F S1x1024x5888 .f32) (main_arg3 : FVec F S1x128 .f32) (main_arg4 : FVec F S1x128 .f32) (main_arg5 : FVec F S8192x1024 .f32) (main_arg6 : FVec F S8192x1024 .f32) (main_arg7 : FVec F S8192x256 .f32) (main_arg8 : FVec F S8192x256 .f32) (main_arg9 : FVec F S8192x768 .f32) (main_arg10 : FVec F S8192x768 .f32) (main_arg11 : FVec F S8192x768 .f32) (main_arg12 : FVec F S8192x1024 .f32) (main_arg13 : FVec F S8192x1024 .f32) : IVec S8192x1024 1 × IVec S1x1024 1 × IVec S1x1024x5888 1 × IVec S1x128 1 × IVec S1x128 1 × IVec S8192x1024 1 × IVec S8192x1024 1 × IVec S8192x256 1 × IVec S8192x256 1 × IVec S8192x768 1 × IVec S8192x768 1 × IVec S8192x768 1 × IVec S8192x1024 1 × IVec S8192x1024 1 :=
  let main_v0 : FVec F S8192x1024 .f32 := subf main_arg0 main_arg0
  let main_cst : FVec F S_ .f32 := constant S_ .f32 0x00000000#32
  let main_v1 : FVec F S8192x1024 .f32 := broadcastInDim S8192x1024 ![] bcast_S_S8192x1024 main_cst
  let main_v2 : IVec S8192x1024 1 := cmpf .oeq main_v0 main_v1
  let main_v3 : FVec F S1x1024 .f32 := subf main_arg1 main_arg1
  let main_cst_0 : FVec F S_ .f32 := constant S_ .f32 0x00000000#32
  let main_v4 : FVec F S1x1024 .f32 := broadcastInDim S1x1024 ![] bcast_S_S1x1024 main_cst_0
  let main_v5 : IVec S1x1024 1 := cmpf .oeq main_v3 main_v4
  let main_v6 : FVec F S1x1024x5888 .f32 := subf main_arg2 main_arg2
  let main_cst_1 : FVec F S_ .f32 := constant S_ .f32 0x00000000#32
  let main_v7 : FVec F S1x1024x5888 .f32 := broadcastInDim S1x1024x5888 ![] bcast_S_S1x1024x5888 main_cst_1
  let main_v8 : IVec S1x1024x5888 1 := cmpf .oeq main_v6 main_v7
  let main_v9 : FVec F S1x128 .f32 := subf main_arg3 main_arg3
  let main_cst_2 : FVec F S_ .f32 := constant S_ .f32 0x00000000#32
  let main_v10 : FVec F S1x128 .f32 := broadcastInDim S1x128 ![] bcast_S_S1x128 main_cst_2
  let main_v11 : IVec S1x128 1 := cmpf .oeq main_v9 main_v10
  let main_v12 : FVec F S1x128 .f32 := subf main_arg4 main_arg4
  let main_cst_3 : FVec F S_ .f32 := constant S_ .f32 0x00000000#32
  let main_v13 : FVec F S1x128 .f32 := broadcastInDim S1x128 ![] bcast_S_S1x128 main_cst_3
  let main_v14 : IVec S1x128 1 := cmpf .oeq main_v12 main_v13
  let main_v15 : FVec F S8192x1024 .f32 := subf main_arg5 main_arg5
  let main_cst_4 : FVec F S_ .f32 := constant S_ .f32 0x00000000#32
  let main_v16 : FVec F S8192x1024 .f32 := broadcastInDim S8192x1024 ![] bcast_S_S8192x1024 main_cst_4
  let main_v17 : IVec S8192x1024 1 := cmpf .oeq main_v15 main_v16
  fn_part1 (F := F) main_arg6 main_arg7 main_arg8 main_arg9 main_arg10 main_arg11 main_arg12 main_arg13 main_v2 main_v5 main_v8 main_v11 main_v14 main_v17
-- ==== Kernel.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩

abbrev nBuf : Space → Nat
  | .hbm => 36
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .bf16⟩
  | .hbm, ⟨33, _⟩ => ⟨S8192x1024, .f32⟩
  | .hbm, ⟨34, _⟩ => ⟨S8192x4096, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S4096x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S1x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .i1⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S4096x1024, .f32⟩
  | .hbm, ⟨37, _⟩ => ⟨S8192x1024, .f32⟩
  | .hbm, ⟨38, _⟩ => ⟨S8192x4096, .f32⟩
  | .hbm, ⟨39, _⟩ => ⟨S8192x4096, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S1024x4096, .f32⟩
  | .hbm, ⟨65, _⟩ => ⟨S8192x4096, .f32⟩
  | .hbm, ⟨66, _⟩ => ⟨S_, .f32⟩
  | .hbm, ⟨67, _⟩ => ⟨S8192x4096, .f32⟩
  | .hbm, ⟨68, _⟩ => ⟨S8192x4096, .f32⟩
  | .hbm, ⟨69, _⟩ => ⟨S_, .f32⟩
  | .hbm, ⟨70, _⟩ => ⟨S8192x4096, .f32⟩
  | .hbm, ⟨71, _⟩ => ⟨S8192x4096, .i1⟩
  | .hbm, ⟨72, _⟩ => ⟨S_, .f32⟩
  | .hbm, ⟨73, _⟩ => ⟨S8192x4096, .f32⟩
  | .hbm, ⟨74, _⟩ => ⟨S8192x4096, .f32⟩
  | .hbm, ⟨75, _⟩ => ⟨S_, .f32⟩
  | .hbm, ⟨76, _⟩ => ⟨S8192x4096, .f32⟩
  | .hbm, ⟨77, _⟩ => ⟨S8192x4096, .f32⟩
  | .hbm, ⟨78, _⟩ => ⟨S4096x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x4096, .f32⟩
  | .hbm, ⟨83, _⟩ => ⟨S8192x4096, .f32⟩
  | .hbm, ⟨84, _⟩ => ⟨S_, .f32⟩
  | .hbm, ⟨85, _⟩ => ⟨S8192x4096, .f32⟩
  | .hbm, ⟨86, _⟩ => ⟨S8192x4096, .f32⟩
  | .hbm, ⟨87, _⟩ => ⟨S8192x1024, .f32⟩
  | .hbm, ⟨88, _⟩ => ⟨S8192x1024, .f32⟩
  | .hbm, ⟨89, _⟩ => ⟨S_, .f32⟩
  | .hbm, ⟨90, _⟩ => ⟨S1024, .f32⟩
  | .hbm, ⟨91, _⟩ => ⟨S1x1024, .f32⟩
  | .hbm, ⟨92, _⟩ => ⟨S8192x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S8192x1024, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1, .f32⟩
  | .hbm, ⟨104, _⟩ => ⟨S_, .f32⟩
  | .hbm, ⟨105, _⟩ => ⟨S8192x1, .f32⟩
  | .hbm, ⟨106, _⟩ => ⟨S8192x1, .f32⟩
  | .hbm, ⟨107, _⟩ => ⟨S_, .f32⟩
  | .hbm, ⟨108, _⟩ => ⟨S8192, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S1x1024, .f32⟩
  | .hbm, ⟨115, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call1_cst : Ref sig .tc := ⟨.hbm, 66, rfl⟩
abbrev main_call1_v0 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_cst_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_17 : Ref sig .tc := ⟨.hbm, 104, rfl⟩
abbrev main_v77 : Ref sig .tc := ⟨.hbm, 105, rfl⟩
abbrev main_v78 : Ref sig .tc := ⟨.hbm, 106, rfl⟩
abbrev main_cst_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩

abbrev nD : Nat := 1
abbrev τ : Topo := Topo.v7x

variable {F : FTy → Type} [FloatOps F]
-- ==== Kernel2.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8x128 : Shape := ⟨2, ![8, 128]⟩
abbrev S256x512 : Shape := ⟨2, ![256, 512]⟩
abbrev S1x4x256 : Shape := ⟨3, ![1, 4, 256]⟩
abbrev S8192x128 : Shape := ⟨2, ![8192, 128]⟩
abbrev S256x128 : Shape := ⟨2, ![256, 128]⟩
abbrev S1024x128 : Shape := ⟨2, ![1024, 128]⟩
abbrev S1024 : Shape := ⟨1, ![1024]⟩
abbrev S1024x1 : Shape := ⟨2, ![1024, 1]⟩
abbrev S4x256 : Shape := ⟨2, ![4, 256]⟩
abbrev S8x256 : Shape := ⟨2, ![8, 256]⟩
abbrev S256x8 : Shape := ⟨2, ![256, 8]⟩
abbrev S256x1 : Shape := ⟨2, ![256, 1]⟩
abbrev S1024x1024 : Shape := ⟨2, ![1024, 1024]⟩

abbrev nBuf : Space → Nat
  | .hbm => 56
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x2x4x128, .f32⟩
  | .hbm, ⟨5, _⟩ => ⟨S8192x2x128, .f32⟩
  | .hbm, ⟨6, _⟩ => ⟨S8192x2x128, .f32⟩
  | .hbm, ⟨7, _⟩ => ⟨S2x8192x8192x4, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S_, .f32⟩
  | .hbm, ⟨12, _⟩ => ⟨S2x4x8192, .f32⟩
  | .hbm, ⟨13, _⟩ => ⟨S2x4x8192, .f32⟩
  | .hbm, ⟨14, _⟩ => ⟨S2x4x8192x1, .f32⟩
  | .hbm, ⟨15, _⟩ => ⟨S2x4x8192x8192, .f32⟩
  | .hbm, ⟨16, _⟩ => ⟨S2x4x8192x8192, .f32⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S2x4x8192x1, .f32⟩
  | .hbm, ⟨21, _⟩ => ⟨S2x4x8192x8192, .f32⟩
  | .hbm, ⟨22, _⟩ => ⟨S2x4x8192x8192, .f32⟩
  | .hbm, ⟨23, _⟩ => ⟨S2x128x4x8192, .f32⟩
  | .hbm, ⟨24, _⟩ => ⟨S8192x2x4x128, .f32⟩
  | .hbm, ⟨25, _⟩ => ⟨S8192x1024, .f32⟩
  | .hbm, ⟨26, _⟩ => ⟨S8192x2x4x128, .f32⟩
  | .hbm, ⟨27, _⟩ => ⟨S8192x2x128, .f32⟩
  | .hbm, ⟨28, _⟩ => ⟨S2x8192x8192x4, .f32⟩
  | .hbm, ⟨29, _⟩ => ⟨S2x4x8192x8192, .f32⟩
  | .hbm, ⟨30, _⟩ => ⟨S_, .f32⟩
  | .hbm, ⟨31, _⟩ => ⟨S2x4x8192, .f32⟩
  | .hbm, ⟨32, _⟩ => ⟨S_, .f32⟩
  | .hbm, ⟨33, _⟩ => ⟨S_, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192, .f32⟩
  | .hbm, ⟨40, _⟩ => ⟨S2x4x8192, .f32⟩
  | .hbm, ⟨41, _⟩ => ⟨S2x4x8192, .f32⟩
  | .hbm, ⟨42, _⟩ => ⟨S2x4x8192, .f32⟩
  | .hbm, ⟨43, _⟩ => ⟨S2x4x8192, .f32⟩
  | .hbm, ⟨44, _⟩ => ⟨S8192x1024, .f32⟩
  | .hbm, ⟨45, _⟩ => ⟨S8192x1024, .f32⟩
  | .hbm, ⟨46, _⟩ => ⟨S8192x1024, .bf16⟩
  | .hbm, ⟨47, _⟩ => ⟨S8192x256, .bf16⟩
  | .hbm, ⟨48, _⟩ => ⟨S8192x256, .bf16⟩
  | .hbm, ⟨49, _⟩ => ⟨S8192x1024, .bf16⟩
  | .hbm, ⟨50, _⟩ => ⟨S8192x1024, .bf16⟩
  | .hbm, ⟨51, _⟩ => ⟨S_, .f32⟩
  | .hbm, ⟨52, _⟩ => ⟨S8x128, .f32⟩
  | .hbm, ⟨53, _⟩ => ⟨S8192x1024, .f32⟩
  | .hbm, ⟨54, _⟩ => ⟨S8192x256, .f32⟩
  | .hbm, ⟨55, _⟩ => ⟨S8192x256, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x4x256, .f32⟩
  | .local _ .vmem, ⟨7, _⟩ => ⟨S1x4x256, .f32⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S256x512, .f32⟩
  | .local _ .vmem, ⟨13, _⟩ => ⟨S256x512, .f32⟩
  | .local _ .vmem, ⟨14, _⟩ => ⟨S8192x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_26 : BitVec 32 := 0#32
  let c8_i32 : BitVec 32 := 8#32
  let v46 : BitVec 32 := Scalar.addi c0_i32_26 c8_i32
  let c1_i32 : BitVec 32 := 1#32
  ⟨c0_i32_26, v46, c1_i32⟩
def k0_mult1 (k0_t1 : Fin k0_t1_loop.trips) : BitVec 32 :=
  let c0_i32_26 : BitVec 32 := 0#32
  let c1_i32 : BitVec 32 := 1#32
  let arg12 : BitVec 32 := Scf.iv c0_i32_26 c1_i32 k0_t1
  let c1024_i32 : BitVec 32 := 1024#32
  let v56 : BitVec 32 := Scalar.muli arg12 c1024_i32
  v56
def k0_off1 (k0_t1 : Fin k0_t1_loop.trips) : Fin 2 → Nat :=
  let c0_i32_26 : BitVec 32 := 0#32
  let c1_i32 : BitVec 32 := 1#32
  let arg12 : BitVec 32 := Scf.iv c0_i32_26 c1_i32 k0_t1
  let c1024_i32 : BitVec 32 := 1024#32
  let v56 : BitVec 32 := Scalar.muli arg12 c1024_i32
  let v57 : BitVec 32 := v56
  let v58 : Index := Scalar.indexCast v57
  let c0_36 : Index := 0#32
  ![v58.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8192 : Shape := ⟨3, ![2, 128, 8192]⟩
abbrev S2x8192x4x128 : Shape := ⟨4, ![2, 8192, 4, 128]⟩
abbrev S2x8192x128 : Shape := ⟨3, ![2, 8192, 128]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x2x4x128, .f32⟩
  | .hbm, ⟨5, _⟩ => ⟨S8192x2x128, .f32⟩
  | .hbm, ⟨6, _⟩ => ⟨S8192x2x128, .f32⟩
  | .hbm, ⟨7, _⟩ => ⟨S2x8192x8192x4, .f32⟩
  | .hbm, ⟨8, _⟩ => ⟨S2x4x8192x8192, .f32⟩
  | .hbm, ⟨9, _⟩ => ⟨S_, .f32⟩
  | .hbm, ⟨10, _⟩ => ⟨S2x4x8192, .f32⟩
  | .hbm, ⟨11, _⟩ => ⟨S2x4x8192x1, .f32⟩
  | .hbm, ⟨12, _⟩ => ⟨S2x4x8192x8192, .f32⟩
  | .hbm, ⟨13, _⟩ => ⟨S2x4x8192x8192, .i1⟩
  | .hbm, ⟨14, _⟩ => ⟨S2x4x8192x8192, .f32⟩
  | .hbm, ⟨15, _⟩ => ⟨S_, .f32⟩
  | .hbm, ⟨16, _⟩ => ⟨S2x4x8192, .f32⟩
  | .hbm, ⟨17, _⟩ => ⟨S_, .f32⟩
  | .hbm, ⟨18, _⟩ => ⟨S2x4x8192, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .i1⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S_, .f32⟩
  | .hbm, ⟨29, _⟩ => ⟨S2x4x8192, .f32⟩
  | .hbm, ⟨30, _⟩ => ⟨S_, .f32⟩
  | .hbm, ⟨31, _⟩ => ⟨S2x4x8192, .f32⟩
  | .hbm, ⟨32, _⟩ => ⟨S2x4x8192, .f32⟩
  | .hbm, ⟨33, _⟩ => ⟨S2x4x8192, .f32⟩
  | .hbm, ⟨34, _⟩ => ⟨S2x4x8192x1, .f32⟩
  | .hbm, ⟨35, _⟩ => ⟨S2x4x8192x8192, .f32⟩
  | .hbm, ⟨36, _⟩ => ⟨S2x4x8192x8192, .f32⟩
  | .hbm, ⟨37, _⟩ => ⟨S2x4x8192x8192, .f32⟩
  | .hbm, ⟨38, _⟩ => ⟨S_, .f32⟩
  | .hbm, ⟨39, _⟩ => ⟨S2x4x8192, .f32⟩
  | .hbm, ⟨40, _⟩ => ⟨S2x4x8192x1, .f32⟩
  | .hbm, ⟨41, _⟩ => ⟨S2x4x8192x8192, .f32⟩
  | .hbm, ⟨42, _⟩ => ⟨S2x4x8192x8192, .f32⟩
  | .hbm, ⟨43, _⟩ => ⟨S2x4x8192x1, .f32⟩
  | .hbm, ⟨44, _⟩ => ⟨S_, .f32⟩
  | .hbm, ⟨45, _⟩ => ⟨S2x4x8192x1, .f32⟩
  | .hbm, ⟨46, _⟩ => ⟨S2x4x8192x1, .f32⟩
  | .hbm, ⟨47, _⟩ => ⟨S2x128x4x8192, .f32⟩
  | .hbm, ⟨48, _⟩ => ⟨S8192x2x4x128, .f32⟩
  | .hbm, ⟨49, _⟩ => ⟨S8192x1024, .f32⟩
  | .hbm, ⟨50, _⟩ => ⟨S8192x2x4x128, .f32⟩
  | .hbm, ⟨51, _⟩ => ⟨S2x128x4x8192, .f32⟩
  | .hbm, ⟨52, _⟩ => ⟨S2x4x8192x8192, .f32⟩
  | .hbm, ⟨53, _⟩ => ⟨S2x128x8192, .f32⟩
  | .hbm, ⟨54, _⟩ => ⟨S8192x2x128, .f32⟩
  | .hbm, ⟨55, _⟩ => ⟨S2x4x8192x8192, .f32⟩
  | .hbm, ⟨56, _⟩ => ⟨S2x4x8192x8192, .f32⟩
  | .hbm, ⟨57, _⟩ => ⟨S2x4x8192x8192, .f32⟩
  | .hbm, ⟨58, _⟩ => ⟨S_, .f32⟩
  | .hbm, ⟨59, _⟩ => ⟨S2x4x8192, .f32⟩
  | .hbm, ⟨60, _⟩ => ⟨S2x4x8192x1, .f32⟩
  | .hbm, ⟨61, _⟩ => ⟨S2x4x8192x1, .f32⟩
  | .hbm, ⟨62, _⟩ => ⟨S2x4x8192x8192, .f32⟩
  | .hbm, ⟨63, _⟩ => ⟨S2x4x8192x8192, .f32⟩
  | .hbm, ⟨64, _⟩ => ⟨S_, .f32⟩
  | .hbm, ⟨65, _⟩ => ⟨S2x4x8192, .f32⟩
  | .hbm, ⟨66, _⟩ => ⟨S2x4x8192x8192, .f32⟩
  | .hbm, ⟨67, _⟩ => ⟨S2x4x8192x8192, .f32⟩
  | .hbm, ⟨68, _⟩ => ⟨S2x4x8192x8192, .f32⟩
  | .hbm, ⟨69, _⟩ => ⟨S2x8192x8192x4, .f32⟩
  | .hbm, ⟨70, _⟩ => ⟨S2x8192x4x128, .f32⟩
  | .hbm, ⟨71, _⟩ => ⟨S8192x2x4x128, .f32⟩
  | .hbm, ⟨72, _⟩ => ⟨S2x8192x128, .f32⟩
  | .hbm, ⟨73, _⟩ => ⟨S8192x2x128, .f32⟩
  | .hbm, ⟨74, _⟩ => ⟨S8192x256, .f32⟩
  | .hbm, ⟨75, _⟩ => ⟨S8192x256, .f32⟩
  | .hbm, ⟨76, _⟩ => ⟨S8192x1024, .f32⟩
  | .hbm, ⟨77, _⟩ => ⟨S_, .f32⟩
  | .hbm, ⟨78, _⟩ => ⟨S_, .f32⟩
  | .hbm, ⟨79, _⟩ => ⟨S8192x256, .f32⟩
  | .hbm, ⟨80, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_9 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Kernel3.lean ====
abbrev S8192x1024 : Shape := ⟨2, ![8192, 1024]⟩
abbrev S8192x256 : Shape := ⟨2, ![8192, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S1024x1024 : Shape := ⟨2, ![1024, 1024]⟩
abbrev S256x1024 : Shape := ⟨2, ![256, 1024]⟩
abbrev S1024x256 : Shape := ⟨2, ![1024, 256]⟩
abbrev S1x128 : Shape := ⟨2, ![1, 128]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 21
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S1x1024x1024, .f32⟩
  | .hbm, ⟨4, _⟩ => ⟨S1x256x1024, .f32⟩
  | .hbm, ⟨5, _⟩ => ⟨S1x1024, .f32⟩
  | .hbm, ⟨6, _⟩ => ⟨S1024, .f32⟩
  | .hbm, ⟨7, _⟩ => ⟨S1024x1024, .f32⟩
  | .hbm, ⟨8, _⟩ => ⟨S1024x1024, .bf16⟩
  | .hbm, ⟨9, _⟩ => ⟨S256x1024, .f32⟩
  | .hbm, ⟨10, _⟩ => ⟨S1024x256, .f32⟩
  | .hbm, ⟨11, _⟩ => ⟨S1024x256, .bf16⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x256, .bf16⟩
  | .hbm, ⟨18, _⟩ => ⟨S1x128, .f32⟩
  | .hbm, ⟨19, _⟩ => ⟨S1x1024, .f32⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x256, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x256, .bf16⟩
  | .local _ .vmem, ⟨19, _⟩ => ⟨S512x256, .bf16⟩
  | .local _ .vmem, ⟨20, _⟩ => ⟨S1x128, .f32⟩
  | .local _ .vmem, ⟨21, _⟩ => ⟨S1x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev main_v6_6 : Ref sig .tc := ⟨.hbm, 19, rfl⟩
abbrev main_v6_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S8192x1024 : Shape := ⟨2, ![8192, 1024]⟩
abbrev S8192x256 : Shape := ⟨2, ![8192, 256]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S256x1024 : Shape := ⟨2, ![256, 1024]⟩
abbrev S1x128 : Shape := ⟨2, ![1, 128]⟩

abbrev nBuf : Space → Nat
  | .hbm => 250
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S1x1024x1024, .f32⟩
  | 4 => ⟨S1x256x1024, .f32⟩
  | 5 => ⟨S1x1024, .f32⟩
  | 6 => ⟨S1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S1024x1024, .f32⟩
  | 29 => ⟨S8192x1024, .f32⟩
  | 30 => ⟨S256x1024, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192x1, .f32⟩
  | 55 => ⟨S8192x1, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1024, .f32⟩
  | 62 => ⟨S8192x1024, .f32⟩
  | 63 => ⟨S1x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192, .f32⟩
  | 73 => ⟨S_, .f32⟩
  | 74 => ⟨S8192, .f32⟩
  | 75 => ⟨S8192, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S8192, .f32⟩
  | 84 => ⟨S_, .f32⟩
  | 85 => ⟨S8192, .f32⟩
  | 86 => ⟨S8192, .f32⟩
  | 87 => ⟨S8192x1024, .f32⟩
  | 88 => ⟨S8192x1024, .f32⟩
  | 89 => ⟨S8192x1024, .f32⟩
  | 90 => ⟨S_, .f32⟩
  | 91 => ⟨S1024, .f32⟩
  | 92 => ⟨S1x1024, .f32⟩
  | 93 => ⟨S8192x1024, .f32⟩
  | 94 => ⟨S8192x1024, .f32⟩
  | 95 => ⟨S_, .f32⟩
  | 96 => ⟨S1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .f32⟩
  | 117 => ⟨S8192x1024, .f32⟩
  | 118 => ⟨S_, .f32⟩
  | 119 => ⟨S1024, .f32⟩
  | 120 => ⟨S1x1024, .f32⟩
  | 121 => ⟨S8192x1024, .f32⟩
  | 122 => ⟨S8192x1024, .f32⟩
  | 123 => ⟨S_, .f32⟩
  | 124 => ⟨S1024, .f32⟩
  | 125 => ⟨S8192x1024, .f32⟩
  | 126 => ⟨S_, .f32⟩
  | 127 => ⟨S8192, .f32⟩
  | _ => ⟨S8192x1024, .f32⟩

abbrev hbmTy0_1 (i : Nat) : BufTy := match i % 128 with
  | 0 => ⟨S8192x1, .f32⟩
  | 1 => ⟨S8192x1024, .f32⟩
  | 2 => ⟨S8192x1024, .f32⟩
  | 3 => ⟨S8192x1024, .f32⟩
  | 4 => ⟨S8192x1, .f32⟩
  | 5 => ⟨S_, .f32⟩
  | 6 => ⟨S8192x1, .f32⟩
  | 7 => ⟨S8192x1, .f32⟩
  | 8 => ⟨S_, .f32⟩
  | 9 => ⟨S8192, .f32⟩
  | 10 => ⟨S8192x1024, .f32⟩
  | 11 => ⟨S8192x1024, .f32⟩
  | 12 => ⟨S8192x1024, .f32⟩
  | 13 => ⟨S8192x1024, .f32⟩
  | 14 => ⟨S8192x1024, .f32⟩
  | 15 => ⟨S1x1024, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S1024x1024, .f32⟩
  | 34 => ⟨S8192x1024, .f32⟩
  | 35 => ⟨S256x1024, .f32⟩
  | 36 => ⟨S8192x1024, .f32⟩
  | 37 => ⟨S8192x1024, .f32⟩
  | 38 => ⟨S8192x1024, .f32⟩
  | 39 => ⟨S_, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192, .f32⟩
  | 78 => ⟨S_, .f32⟩
  | 79 => ⟨S8192, .f32⟩
  | 80 => ⟨S8192, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S8192, .f32⟩
  | 89 => ⟨S_, .f32⟩
  | 90 => ⟨S8192, .f32⟩
  | 91 => ⟨S8192, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x1024, .bf16⟩
  | 117 => ⟨S8192x1024, .bf16⟩
  | 118 => ⟨S8192x1024, .bf16⟩
  | 119 => ⟨S8192x256, .bf16⟩
  | 120 => ⟨S1x128, .f32⟩
  | 121 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_cst_14 : Ref sig .tc := ⟨.hbm, 78, rfl⟩
abbrev main_v56 : Ref sig .tc := ⟨.hbm, 79, rfl⟩
abbrev main_cst_15 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_cst_17 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_18 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_cst_20 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_21 : Ref sig .tc := ⟨.hbm, 104, rfl⟩
abbrev main_v75 : Ref sig .tc := ⟨.hbm, 105, rfl⟩
abbrev main_v76 : Ref sig .tc := ⟨.hbm, 106, rfl⟩
abbrev main_cst_22 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_24 : Ref sig .tc := ⟨.hbm, 123, rfl⟩
abbrev main_v91 : Ref sig .tc := ⟨.hbm, 124, rfl⟩
abbrev main_v92 : Ref sig .tc := ⟨.hbm, 125, rfl⟩
abbrev main_cst_25 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_26 : Ref sig .tc := ⟨.hbm, 133, rfl⟩
abbrev main_v99 : Ref sig .tc := ⟨.hbm, 134, rfl⟩
abbrev main_v100 : Ref sig .tc := ⟨.hbm, 135, rfl⟩
abbrev main_cst_27 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_cst_28 : Ref sig .tc := ⟨.hbm, 146, rfl⟩
abbrev main_v110 : Ref sig .tc := ⟨.hbm, 147, rfl⟩
abbrev main_v111 : Ref sig .tc := ⟨.hbm, 148, rfl⟩
abbrev main_cst_29 : Ref sig .tc := ⟨.hbm, 149, rfl⟩
abbrev main_v112 : Ref sig .tc := ⟨.hbm, 150, rfl⟩
abbrev main_v113 : Ref sig .tc := ⟨.hbm, 151, rfl⟩
abbrev main_cst_30 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_31 : Ref sig .tc := ⟨.hbm, 167, rfl⟩
abbrev main_v128 : Ref sig .tc := ⟨.hbm, 168, rfl⟩
abbrev main_v129 : Ref sig .tc := ⟨.hbm, 169, rfl⟩
abbrev main_cst_32 : Ref sig .tc := ⟨.hbm, 170, rfl⟩
abbrev main_v130 : Ref sig .tc := ⟨.hbm, 171, rfl⟩
abbrev main_v131 : Ref sig .tc := ⟨.hbm, 172, rfl⟩
abbrev main_cst_33 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_34 : Ref sig .tc := ⟨.hbm, 180, rfl⟩
abbrev main_v138 : Ref sig .tc := ⟨.hbm, 181, rfl⟩
abbrev main_v139 : Ref sig .tc := ⟨.hbm, 182, rfl⟩
abbrev main_cst_35 : Ref sig .tc := ⟨.hbm, 183, rfl⟩
abbrev main_v140 : Ref sig .tc := ⟨.hbm, 184, rfl⟩
abbrev main_v141 : Ref sig .tc := ⟨.hbm, 185, rfl⟩
abbrev main_cst_36 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_cst_37 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_38 : Ref sig .tc := ⟨.hbm, 201, rfl⟩
abbrev main_v155 : Ref sig .tc := ⟨.hbm, 202, rfl⟩
abbrev main_v156 : Ref sig .tc := ⟨.hbm, 203, rfl⟩
abbrev main_cst_39 : Ref sig .tc := ⟨.hbm, 204, rfl⟩
abbrev main_v157 : Ref sig .tc := ⟨.hbm, 205, rfl⟩
abbrev main_cst_40 : Ref sig .tc := ⟨.hbm, 206, rfl⟩
abbrev main_v158 : Ref sig .tc := ⟨.hbm, 207, rfl⟩
abbrev main_v159 : Ref sig .tc := ⟨.hbm, 208, rfl⟩
abbrev main_cst_41 : Ref sig .tc := ⟨.hbm, 209, rfl⟩
abbrev main_v160 : Ref sig .tc := ⟨.hbm, 210, rfl⟩
abbrev main_cst_42 : Ref sig .tc := ⟨.hbm, 211, rfl⟩
abbrev main_v161 : Ref sig .tc := ⟨.hbm, 212, rfl⟩
abbrev main_cst_43 : Ref sig .tc := ⟨.hbm, 213, rfl⟩
abbrev main_cst_44 : Ref sig .tc := ⟨.hbm, 214, rfl⟩
abbrev main_v162 : Ref sig .tc := ⟨.hbm, 215, rfl⟩
abbrev main_v163 : Ref sig .tc := ⟨.hbm, 216, rfl⟩
abbrev main_cst_45 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_cst_46 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_cst_47 : Ref sig .tc := ⟨.hbm, 231, rfl⟩
abbrev main_v176 : Ref sig .tc := ⟨.hbm, 232, rfl⟩
abbrev main_v177 : Ref sig .tc := ⟨.hbm, 233, rfl⟩
abbrev main_cst_48 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩

abbrev nD : Nat := 1
abbrev τ : Topo := Topo.v7x

variable {F : FTy → Type} [FloatOps F]
-- ==== Kernel4.lean ====
abbrev S8192x1024 : Shape := ⟨2, ![8192, 1024]⟩
abbrev S8192x256 : Shape := ⟨2, ![8192, 256]⟩
abbrev S1x2048 : Shape := ⟨2, ![1, 2048]⟩
abbrev S1x1024x1024 : Shape := ⟨3, ![1, 1024, 1024]⟩
abbrev S1x256x1024 : Shape := ⟨3, ![1, 256, 1024]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S1024x256 : Shape := ⟨2, ![1024, 256]⟩
abbrev S8x128 : Shape := ⟨2, ![8, 128]⟩
abbrev S1x8192x256 : Shape := ⟨3, ![1, 8192, 256]⟩
abbrev S4x2048x256 : Shape := ⟨3, ![4, 2048, 256]⟩
abbrev S16x512x256 : Shape := ⟨3, ![16, 512, 256]⟩
abbrev S512x1024 : Shape := ⟨2, ![512, 1024]⟩
abbrev S512x256 : Shape := ⟨2, ![512, 256]⟩
abbrev S1x512x256 : Shape := ⟨3, ![1, 512, 256]⟩
abbrev S4x128x256 : Shape := ⟨3, ![4, 128, 256]⟩
abbrev S16x32x256 : Shape := ⟨3, ![16, 32, 256]⟩
abbrev S2x512x128 : Shape := ⟨3, ![2, 512, 128]⟩
abbrev S1x256 : Shape := ⟨2, ![1, 256]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S128x256 : Shape := ⟨2, ![128, 256]⟩
abbrev S1x128x256 : Shape := ⟨3, ![1, 128, 256]⟩
abbrev S1x32x128 : Shape := ⟨3, ![1, 32, 128]⟩
abbrev S32x128 : Shape := ⟨2, ![32, 128]⟩
abbrev S32x256 : Shape := ⟨2, ![32, 256]⟩
abbrev S1x32x256 : Shape := ⟨3, ![1, 32, 256]⟩

abbrev nBuf : Space → Nat
  | .hbm => 65
  | .vmem => 39
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x1024, .f32⟩
  | .hbm, ⟨3, _⟩ => ⟨S8192x1024, .f32⟩
  | .hbm, ⟨4, _⟩ => ⟨S1x2048, .f32⟩
  | .hbm, ⟨5, _⟩ => ⟨S1x1024x1024, .f32⟩
  | .hbm, ⟨6, _⟩ => ⟨S1x256x1024, .f32⟩
  | .hbm, ⟨7, _⟩ => ⟨S1x1024x1024, .f32⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S256x1024, .f32⟩
  | .hbm, ⟨12, _⟩ => ⟨S8192x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S8192x1024, .bf16⟩
  | .hbm, ⟨43, _⟩ => ⟨S8192x256, .bf16⟩
  | .hbm, ⟨44, _⟩ => ⟨S1024x1024, .f32⟩
  | .hbm, ⟨45, _⟩ => ⟨S1024x1024, .bf16⟩
  | .hbm, ⟨46, _⟩ => ⟨S256x1024, .f32⟩
  | .hbm, ⟨47, _⟩ => ⟨S1024x256, .f32⟩
  | .hbm, ⟨48, _⟩ => ⟨S1024x256, .bf16⟩
  | .hbm, ⟨49, _⟩ => ⟨S1024x1024, .f32⟩
  | .hbm, ⟨50, _⟩ => ⟨S1024x1024, .bf16⟩
  | .hbm, ⟨51, _⟩ => ⟨S_, .f32⟩
  | .hbm, ⟨52, _⟩ => ⟨S8x128, .f32⟩
  | .hbm, ⟨53, _⟩ => ⟨S8192x1024, .bf16⟩
  | .hbm, ⟨54, _⟩ => ⟨S1x8192x256, .bf16⟩
  | .hbm, ⟨55, _⟩ => ⟨S4x2048x256, .bf16⟩
  | .hbm, ⟨56, _⟩ => ⟨S16x512x256, .bf16⟩
  | .hbm, ⟨57, _⟩ => ⟨S1x8192x256, .f32⟩
  | .hbm, ⟨58, _⟩ => ⟨S4x2048x256, .f32⟩
  | .hbm, ⟨59, _⟩ => ⟨S16x512x256, .f32⟩
  | .hbm, ⟨60, _⟩ => ⟨S8192x1024, .bf16⟩
  | .hbm, ⟨61, _⟩ => ⟨S8192x1024, .bf16⟩
  | .hbm, ⟨62, _⟩ => ⟨S8192x1024, .bf16⟩
  | .hbm, ⟨63, _⟩ => ⟨S8192x1024, .bf16⟩
  | .hbm, ⟨64, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S1024x1024, .bf16⟩
  | .local _ .vmem, ⟨13, _⟩ => ⟨S1024x256, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S1x512x256, .bf16⟩
  | .local _ .vmem, ⟨18, _⟩ => ⟨S1x512x256, .bf16⟩
  | .local _ .vmem, ⟨19, _⟩ => ⟨S4x128x256, .bf16⟩
  | .local _ .vmem, ⟨20, _⟩ => ⟨S4x128x256, .bf16⟩
  | .local _ .vmem, ⟨21, _⟩ => ⟨S16x32x256, .bf16⟩
  | .local _ .vmem, ⟨22, _⟩ => ⟨S16x32x256, .bf16⟩
  | .local _ .vmem, ⟨23, _⟩ => ⟨S1x512x256, .f32⟩
  | .local _ .vmem, ⟨24, _⟩ => ⟨S1x512x256, .f32⟩
  | .local _ .vmem, ⟨25, _⟩ => ⟨S4x128x256, .f32⟩
  | .local _ .vmem, ⟨26, _⟩ => ⟨S4x128x256, .f32⟩
  | .local _ .vmem, ⟨27, _⟩ => ⟨S16x32x256, .f32⟩
  | .local _ .vmem, ⟨28, _⟩ => ⟨S16x32x256, .f32⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S1x2048, .f32⟩
  | .local _ .vmem, ⟨38, _⟩ => ⟨S2x512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39_0 : Ref sig .tc := ⟨.hbm, 53, rfl⟩
abbrev main_v39_1 : Ref sig .tc := ⟨.hbm, 54, rfl⟩
abbrev main_v39_2 : Ref sig .tc := ⟨.hbm, 55, rfl⟩
abbrev main_v39_3 : Ref sig .tc := ⟨.hbm, 56, rfl⟩
abbrev main_v39_4 : Ref sig .tc := ⟨.hbm, 57, rfl⟩
abbrev main_v39_5 : Ref sig .tc := ⟨.hbm, 58, rfl⟩
abbrev main_v39_6 : Ref sig .tc := ⟨.hbm, 59, rfl⟩
abbrev main_v39_7 : Ref sig .tc := ⟨.hbm, 60, rfl⟩
abbrev main_v39_8 : Ref sig .tc := ⟨.hbm, 61, rfl⟩
abbrev main_v39_9 : Ref sig .tc := ⟨.hbm, 62, rfl⟩
abbrev main_v39_10 : Ref sig .tc := ⟨.hbm, 63, rfl⟩
abbrev main_v39_11 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x32x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x32x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x2048 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Reference4Ideal.lean ====
abbrev S8192x1024 : Shape := ⟨2, ![8192, 1024]⟩
abbrev S8192x256 : Shape := ⟨2, ![8192, 256]⟩
abbrev S1x2048 : Shape := ⟨2, ![1, 2048]⟩
abbrev S1x1024x1024 : Shape := ⟨3, ![1, 1024, 1024]⟩
abbrev S1x256x1024 : Shape := ⟨3, ![1, 256, 1024]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S8192x4x64 : Shape := ⟨3, ![8192, 4, 64]⟩
abbrev S8192x4 : Shape := ⟨2, ![8192, 4]⟩
abbrev S8192x4x1 : Shape := ⟨3, ![8192, 4, 1]⟩
abbrev S8192x1x256 : Shape := ⟨3, ![8192, 1, 256]⟩
abbrev S1x8192x256 : Shape := ⟨3, ![1, 8192, 256]⟩
abbrev S2048x4x256 : Shape := ⟨3, ![2048, 4, 256]⟩
abbrev S4x2048x256 : Shape := ⟨3, ![4, 2048, 256]⟩
abbrev S512x16x256 : Shape := ⟨3, ![512, 16, 256]⟩
abbrev S16x512x256 : Shape := ⟨3, ![16, 512, 256]⟩

abbrev nBuf : Space → Nat
  | .hbm => 143
  | .vmem => 0
  | .smem => 0
  | _ => 0

abbrev hbmTy0_0 (i : Nat) : BufTy := match i % 128 with
  | 0 => ⟨S8192x1024, .f32⟩
  | 1 => ⟨S8192x256, .f32⟩
  | 2 => ⟨S8192x1024, .f32⟩
  | 3 => ⟨S8192x1024, .f32⟩
  | 4 => ⟨S1x2048, .f32⟩
  | 5 => ⟨S1x1024x1024, .f32⟩
  | 6 => ⟨S1x256x1024, .f32⟩
  | 7 => ⟨S1x1024x1024, .f32⟩
  | 8 => ⟨S8192x1024, .f32⟩
  | 9 => ⟨S1024x1024, .f32⟩
  | 10 => ⟨S8192x1024, .f32⟩
  | 11 => ⟨S256x1024, .f32⟩
  | 12 => ⟨S8192x1024, .f32⟩
  | 13 => ⟨S1x1024, .f32⟩
  | 14 => ⟨S1024, .f32⟩
  | 15 => ⟨S1x1024, .f32⟩
  | 16 => ⟨S8192x1024, .f32⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192x1024, .f32⟩
  | 28 => ⟨S8192x1024, .f32⟩
  | 29 => ⟨S8192x1024, .f32⟩
  | 30 => ⟨S8192x1024, .f32⟩
  | 31 => ⟨S1x1024, .f32⟩
  | 32 => ⟨S1024, .f32⟩
  | 33 => ⟨S1x1024, .f32⟩
  | 34 => ⟨S8192x1024, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x1024, .f32⟩
  | 49 => ⟨S8192x1024, .f32⟩
  | 50 => ⟨S1024x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S_, .f32⟩
  | 57 => ⟨S1024, .f32⟩
  | 58 => ⟨S1x1024, .f32⟩
  | 59 => ⟨S_, .f32⟩
  | 60 => ⟨S1024, .f32⟩
  | 61 => ⟨S1x1024, .f32⟩
  | 62 => ⟨S_, .f32⟩
  | 63 => ⟨S1x2048, .f32⟩
  | 64 => ⟨S8192x1024, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S_, .f32⟩
  | 71 => ⟨S1024, .f32⟩
  | 72 => ⟨S1x1024, .f32⟩
  | 73 => ⟨S_, .f32⟩
  | 74 => ⟨S1x2048, .f32⟩
  | 75 => ⟨S1x2048, .f32⟩
  | 76 => ⟨S8192x256, .f32⟩
  | 77 => ⟨S8192x1024, .f32⟩
  | 78 => ⟨S1024x1024, .f32⟩
  | 79 => ⟨S8192x1024, .f32⟩
  | 80 => ⟨S256x1024, .f32⟩
  | 81 => ⟨S8192x1024, .f32⟩
  | 82 => ⟨S1x1024, .f32⟩
  | 83 => ⟨S1024, .f32⟩
  | 84 => ⟨S1x1024, .f32⟩
  | 85 => ⟨S8192x1024, .f32⟩
  | 86 => ⟨S8192x1024, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S_, .f32⟩
  | 93 => ⟨S8192x1024, .f32⟩
  | 94 => ⟨S8192x1024, .f32⟩
  | 95 => ⟨S8192x1024, .f32⟩
  | 96 => ⟨S1x1024, .f32⟩
  | 97 => ⟨S1024, .f32⟩
  | 98 => ⟨S1x1024, .f32⟩
  | 99 => ⟨S8192x1024, .f32⟩
  | 100 => ⟨S8192x1024, .f32⟩
  | 101 => ⟨S8192x1024, .f32⟩
  | 102 => ⟨S8192x1024, .f32⟩
  | 103 => ⟨S_, .f32⟩
  | 104 => ⟨S8192x1024, .f32⟩
  | 105 => ⟨S8192x1024, .f32⟩
  | 106 => ⟨S_, .f32⟩
  | 107 => ⟨S8192x1024, .f32⟩
  | 108 => ⟨S8192x1024, .f32⟩
  | 109 => ⟨S8192x1024, .f32⟩
  | 110 => ⟨S8192x1024, .f32⟩
  | 111 => ⟨S1024x1024, .f32⟩
  | 112 => ⟨S8192x1024, .f32⟩
  | 113 => ⟨S8192x1024, .f32⟩
  | 114 => ⟨S8192x1024, .f32⟩
  | 115 => ⟨S8192x1024, .f32⟩
  | 116 => ⟨S8192x256, .f32⟩
  | 117 => ⟨S8192x4x64, .f32⟩
  | 118 => ⟨S_, .f32⟩
  | 119 => ⟨S8192x4, .f32⟩
  | 120 => ⟨S8192x4x1, .f32⟩
  | 121 => ⟨S8192x4x64, .f32⟩
  | 122 => ⟨S8192x256, .f32⟩
  | 123 => ⟨S8192x1024, .bf16⟩
  | 124 => ⟨S8192x1x256, .f32⟩
  | 125 => ⟨S1x8192x256, .f32⟩
  | 126 => ⟨S1x8192x256, .bf16⟩
  | 127 => ⟨S2048x4x256, .f32⟩
  | _ => ⟨S8192x1024, .f32⟩

abbrev hbmTy0_1 (i : Nat) : BufTy := match i % 128 with
  | 0 => ⟨S4x2048x256, .f32⟩
  | 1 => ⟨S4x2048x256, .bf16⟩
  | 2 => ⟨S512x16x256, .f32⟩
  | 3 => ⟨S16x512x256, .f32⟩
  | 4 => ⟨S16x512x256, .bf16⟩
  | 5 => ⟨S8192x1x256, .f32⟩
  | 6 => ⟨S1x8192x256, .f32⟩
  | 7 => ⟨S2048x4x256, .f32⟩
  | 8 => ⟨S4x2048x256, .f32⟩
  | 9 => ⟨S512x16x256, .f32⟩
  | 10 => ⟨S16x512x256, .f32⟩
  | 11 => ⟨S8192x1024, .bf16⟩
  | 12 => ⟨S8192x1024, .bf16⟩
  | 13 => ⟨S8192x1024, .bf16⟩
  | 14 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_11 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_cst_14 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_15 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1x1024x5888 : Shape := ⟨3, ![1, 1024, 5888]⟩
abbrev S1x128 : Shape := ⟨2, ![1, 128]⟩
abbrev S8192x256 : Shape := ⟨2, ![8192, 256]⟩
abbrev S8192x768 : Shape := ⟨2, ![8192, 768]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5888 : Shape := ⟨2, ![1024, 5888]⟩
abbrev S1024x1280 : Shape := ⟨2, ![1024, 1280]⟩
abbrev S8192x1280 : Shape := ⟨2, ![8192, 1280]⟩
abbrev S128 : Shape := ⟨1, ![128]⟩
abbrev S128x1 : Shape := ⟨2, ![128, 1]⟩
abbrev S128x64 : Shape := ⟨2, ![128, 64]⟩
abbrev S32 : Shape := ⟨1, ![32]⟩
abbrev S1x32 : Shape := ⟨2, ![1, 32]⟩
abbrev S8192x32 : Shape := ⟨2, ![8192, 32]⟩
abbrev S64 : Shape := ⟨1, ![64]⟩
abbrev S1x64 : Shape := ⟨2, ![1, 64]⟩
abbrev S8192x128 : Shape := ⟨2, ![8192, 128]⟩
abbrev S8192x1x256 : Shape := ⟨3, ![8192, 1, 256]⟩
abbrev S1x8192x256 : Shape := ⟨3, ![1, 8192, 256]⟩
abbrev S2048x4x256 : Shape := ⟨3, ![2048, 4, 256]⟩
abbrev S4x2048x256 : Shape := ⟨3, ![4, 2048, 256]⟩
abbrev S512x16x256 : Shape := ⟨3, ![512, 16, 256]⟩
abbrev S16x512x256 : Shape := ⟨3, ![16, 512, 256]⟩
abbrev S5888x1024 : Shape := ⟨2, ![5888, 1024]⟩
abbrev S8192x5888 : Shape := ⟨2, ![8192, 5888]⟩
abbrev S256x1024 : Shape := ⟨2, ![256, 1024]⟩
abbrev S256x256 : Shape := ⟨2, ![256, 256]⟩
abbrev S256x128 : Shape := ⟨2, ![256, 128]⟩
abbrev S1x256x256 : Shape := ⟨3, ![1, 256, 256]⟩
abbrev S4x64x256 : Shape := ⟨3, ![4, 64, 256]⟩
abbrev S16x16x256 : Shape := ⟨3, ![16, 16, 256]⟩
abbrev S256x5888 : Shape := ⟨2, ![256, 5888]⟩
abbrev S2x256x128 : Shape := ⟨3, ![2, 256, 128]⟩
abbrev S1x256x128 : Shape := ⟨3, ![1, 256, 128]⟩
abbrev S1x64x256 : Shape := ⟨3, ![1, 64, 256]⟩
abbrev S64x256 : Shape := ⟨2, ![64, 256]⟩
abbrev S64x128 : Shape := ⟨2, ![64, 128]⟩
abbrev S1x64x128 : Shape := ⟨3, ![1, 64, 128]⟩
abbrev S1x16x256 : Shape := ⟨3, ![1, 16, 256]⟩
abbrev S16x256 : Shape := ⟨2, ![16, 256]⟩
abbrev S16x128 : Shape := ⟨2, ![16, 128]⟩
abbrev S1x16x128 : Shape := ⟨3, ![1, 16, 128]⟩
abbrev S8x256x128 : Shape := ⟨3, ![8, 256, 128]⟩
abbrev S8x256 : Shape := ⟨2, ![8, 256]⟩
abbrev S8x256x1 : Shape := ⟨3, ![8, 256, 1]⟩
abbrev S1x1x128 : Shape := ⟨3, ![1, 1, 128]⟩
abbrev S2x256 : Shape := ⟨2, ![2, 256]⟩
abbrev S2x256x1 : Shape := ⟨3, ![2, 256, 1]⟩
abbrev S256 : Shape := ⟨1, ![256]⟩
abbrev S256x1 : Shape := ⟨2, ![256, 1]⟩

abbrev nBuf : Space → Nat
  | .hbm => 138
  | .vmem => 55
  | .smem => 0
  | _ => 0

abbrev hbmTy0_0 (i : Nat) : BufTy := match i % 128 with
  | 0 => ⟨S8192x1024, .f32⟩
  | 1 => ⟨S1x1024, .f32⟩
  | 2 => ⟨S1x1024x5888, .f32⟩
  | 3 => ⟨S1x128, .f32⟩
  | 4 => ⟨S1x128, .f32⟩
  | 5 => ⟨S8192x1024, .f32⟩
  | 6 => ⟨S8192x1024, .f32⟩
  | 7 => ⟨S8192x256, .f32⟩
  | 8 => ⟨S8192x256, .f32⟩
  | 9 => ⟨S8192x768, .f32⟩
  | 10 => ⟨S8192x768, .f32⟩
  | 11 => ⟨S8192x768, .f32⟩
  | 12 => ⟨S8192x1024, .f32⟩
  | 13 => ⟨S8192x1024, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1024, .f32⟩
  | 27 => ⟨S8192x1024, .f32⟩
  | 28 => ⟨S1x1024, .f32⟩
  | 29 => ⟨S8192x1024, .f32⟩
  | 30 => ⟨S8192x1024, .f32⟩
  | 31 => ⟨S1024x5888, .f32⟩
  | 32 => ⟨S1024x1280, .f32⟩
  | 33 => ⟨S8192x1280, .f32⟩
  | 34 => ⟨S128, .i32⟩
  | 35 => ⟨S128x1, .i32⟩
  | 36 => ⟨S128x64, .i32⟩
  | 37 => ⟨S8192, .i32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S8192, .f32⟩
  | 53 => ⟨S8192x1, .f32⟩
  | 54 => ⟨S1x32, .f32⟩
  | 55 => ⟨S8192x32, .f32⟩
  | 56 => ⟨S8192x32, .f32⟩
  | 57 => ⟨S8192x32, .f32⟩
  | 58 => ⟨S64, .i32⟩
  | 59 => ⟨S1x64, .i32⟩
  | 60 => ⟨S128x64, .i32⟩
  | 61 => ⟨S8192, .i32⟩
  | 62 => ⟨S32, .f32⟩
  | 63 => ⟨S_, .f32⟩
  | 64 => ⟨S32, .f32⟩
  | 65 => ⟨S32, .f32⟩
  | 66 => ⟨S_, .f32⟩
  | 67 => ⟨S32, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S8192, .f32⟩
  | 77 => ⟨S8192x1, .f32⟩
  | 78 => ⟨S1x32, .f32⟩
  | 79 => ⟨S8192x32, .f32⟩
  | 80 => ⟨S8192x32, .f32⟩
  | 81 => ⟨S8192x32, .f32⟩
  | 82 => ⟨S8192x32, .f32⟩
  | 83 => ⟨S8192x32, .f32⟩
  | 84 => ⟨S8192x32, .f32⟩
  | 85 => ⟨S8192x32, .f32⟩
  | 86 => ⟨S_, .f32⟩
  | 87 => ⟨S8192x32, .f32⟩
  | 88 => ⟨S8192x32, .f32⟩
  | 89 => ⟨S8192x32, .f32⟩
  | 90 => ⟨S8192x128, .f32⟩
  | 91 => ⟨S8192x128, .f32⟩
  | 92 => ⟨S8192x128, .f32⟩
  | 93 => ⟨S_, .f32⟩
  | 94 => ⟨S8192x256, .f32⟩
  | 95 => ⟨S8192x256, .f32⟩
  | 96 => ⟨S8192x1024, .f32⟩
  | 97 => ⟨S8192x256, .f32⟩
  | 98 => ⟨S8192x256, .f32⟩
  | 99 => ⟨S8192x1x256, .f32⟩
  | 100 => ⟨S1x8192x256, .f32⟩
  | 101 => ⟨S8192x256, .f32⟩
  | 102 => ⟨S2048x4x256, .f32⟩
  | 103 => ⟨S4x2048x256, .f32⟩
  | 104 => ⟨S8192x256, .f32⟩
  | 105 => ⟨S512x16x256, .f32⟩
  | 106 => ⟨S16x512x256, .f32⟩
  | 107 => ⟨S_, .f32⟩
  | 108 => ⟨S8192x768, .f32⟩
  | 109 => ⟨S8192x768, .f32⟩
  | 110 => ⟨S8192x256, .f32⟩
  | 111 => ⟨S8192x1x256, .f32⟩
  | 112 => ⟨S1x8192x256, .f32⟩
  | 113 => ⟨S8192x256, .f32⟩
  | 114 => ⟨S2048x4x256, .f32⟩
  | 115 => ⟨S4x2048x256, .f32⟩
  | 116 => ⟨S8192x256, .f32⟩
  | 117 => ⟨S512x16x256, .f32⟩
  | 118 => ⟨S16x512x256, .f32⟩
  | 119 => ⟨S8192x256, .f32⟩
  | 120 => ⟨S8192x1x256, .f32⟩
  | 121 => ⟨S1x8192x256, .f32⟩
  | 122 => ⟨S8192x256, .f32⟩
  | 123 => ⟨S2048x4x256, .f32⟩
  | 124 => ⟨S4x2048x256, .f32⟩
  | 125 => ⟨S8192x256, .f32⟩
  | 126 => ⟨S512x16x256, .f32⟩
  | 127 => ⟨S16x512x256, .f32⟩
  | _ => ⟨S8192x1024, .f32⟩

abbrev hbmTy0_1 (i : Nat) : BufTy := match i % 128 with
  | 0 => ⟨S8192x1024, .bf16⟩
  | 1 => ⟨S8192x1024, .bf16⟩
  | 2 => ⟨S1024x5888, .f32⟩
  | 3 => ⟨S5888x1024, .f32⟩
  | 4 => ⟨S5888x1024, .bf16⟩
  | 5 => ⟨S8192x1024, .f32⟩
  | 6 => ⟨S8192x5888, .bf16⟩
  | 7 => ⟨S1x1024, .f32⟩
  | 8 => ⟨S1x128, .f32⟩
  | 9 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x256x256, .f32⟩
  | .local _ .vmem, ⟨21, _⟩ => ⟨S1x256x256, .f32⟩
  | .local _ .vmem, ⟨22, _⟩ => ⟨S4x64x256, .f32⟩
  | .local _ .vmem, ⟨23, _⟩ => ⟨S4x64x256, .f32⟩
  | .local _ .vmem, ⟨24, _⟩ => ⟨S16x16x256, .f32⟩
  | .local _ .vmem, ⟨25, _⟩ => ⟨S16x16x256, .f32⟩
  | .local _ .vmem, ⟨26, _⟩ => ⟨S1x256x256, .f32⟩
  | .local _ .vmem, ⟨27, _⟩ => ⟨S1x256x256, .f32⟩
  | .local _ .vmem, ⟨28, _⟩ => ⟨S4x64x256, .f32⟩
  | .local _ .vmem, ⟨29, _⟩ => ⟨S4x64x256, .f32⟩
  | .local _ .vmem, ⟨30, _⟩ => ⟨S16x16x256, .f32⟩
  | .local _ .vmem, ⟨31, _⟩ => ⟨S16x16x256, .f32⟩
  | .local _ .vmem, ⟨32, _⟩ => ⟨S1x256x256, .f32⟩
  | .local _ .vmem, ⟨33, _⟩ => ⟨S1x256x256, .f32⟩
  | .local _ .vmem, ⟨34, _⟩ => ⟨S4x64x256, .f32⟩
  | .local _ .vmem, ⟨35, _⟩ => ⟨S4x64x256, .f32⟩
  | .local _ .vmem, ⟨36, _⟩ => ⟨S16x16x256, .f32⟩
  | .local _ .vmem, ⟨37, _⟩ => ⟨S16x16x256, .f32⟩
  | .local _ .vmem, ⟨38, _⟩ => ⟨S256x1024, .bf16⟩
  | .local _ .vmem, ⟨39, _⟩ => ⟨S256x1024, .bf16⟩
  | .local _ .vmem, ⟨40, _⟩ => ⟨S256x1024, .bf16⟩
  | .local _ .vmem, ⟨41, _⟩ => ⟨S256x1024, .bf16⟩
  | .local _ .vmem, ⟨42, _⟩ => ⟨S5888x1024, .bf16⟩
  | .local _ .vmem, ⟨43, _⟩ => ⟨S1x1024, .f32⟩
  | .local _ .vmem, ⟨44, _⟩ => ⟨S1x128, .f32⟩
  | .local _ .vmem, ⟨45, _⟩ => ⟨S1x128, .f32⟩
  | .local _ .vmem, ⟨46, _⟩ => ⟨S256x1024, .f32⟩
  | .local _ .vmem, ⟨47, _⟩ => ⟨S256x1024, .f32⟩
  | .local _ .vmem, ⟨48, _⟩ => ⟨S256x5888, .bf16⟩
  | .local _ .vmem, ⟨49, _⟩ => ⟨S256x5888, .bf16⟩
  | .local _ .vmem, ⟨50, _⟩ => ⟨S1x1024, .f32⟩
  | .local _ .vmem, ⟨51, _⟩ => ⟨S1x128, .f32⟩
  | .local _ .vmem, ⟨52, _⟩ => ⟨S1x128, .f32⟩
  | .local _ .vmem, ⟨53, _⟩ => ⟨S256x1024, .f32⟩
  | .local _ .vmem, ⟨54, _⟩ => ⟨S2x256x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_11 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_12 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105_0 : Ref sig .tc := ⟨.hbm, 133, rfl⟩
abbrev main_v105_1 : Ref sig .tc := ⟨.hbm, 134, rfl⟩
abbrev main_v105_2 : Ref sig .tc := ⟨.hbm, 135, rfl⟩
abbrev main_v105_3 : Ref sig .tc := ⟨.hbm, 136, rfl⟩
abbrev main_v105_4 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg22_0 : Ref sig .tc := ⟨.vmem, 43, rfl⟩
abbrev cc0_stg23_0 : Ref sig .tc := ⟨.vmem, 44, rfl⟩
abbrev cc0_stg24_0 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_stg27_0 : Ref sig .tc := ⟨.vmem, 50, rfl⟩
abbrev cc0_stg28_0 : Ref sig .tc := ⟨.vmem, 51, rfl⟩
abbrev cc0_stg29_0 : Ref sig .tc := ⟨.vmem, 52, rfl⟩
abbrev cc0_scratch0 : Ref sig .tc := ⟨.vmem, 53, rfl⟩
abbrev cc0_scratch1 : Ref sig .tc := ⟨.vmem, 54, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem22_0 : DmaSem sig := 43
abbrev cc0_sem23_0 : DmaSem sig := 44
abbrev cc0_sem24_0 : DmaSem sig := 45
abbrev cc0_sem25_0 : DmaSem sig := 46
abbrev cc0_sem25_1 : DmaSem sig := 47
abbrev cc0_sem26_0 : DmaSem sig := 48
abbrev cc0_sem26_1 : DmaSem sig := 49
abbrev cc0_sem27_0 : DmaSem sig := 50
abbrev cc0_sem28_0 : DmaSem sig := 51
abbrev cc0_sem29_0 : DmaSem sig := 52

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x64x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x16x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S5888x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S256x5888 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== Reference5Ideal.lean ====
abbrev S8192x1024 : Shape := ⟨2, ![8192, 1024]⟩
abbrev S1x1024 : Shape := ⟨2, ![1, 1024]⟩
abbrev S1x1024x5888 : Shape := ⟨3, ![1, 1024, 5888]⟩
abbrev S1x128 : Shape := ⟨2, ![1, 128]⟩
abbrev S8192x256 : Shape := ⟨2, ![8192, 256]⟩
abbrev S8192x768 : Shape := ⟨2, ![8192, 768]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x5888 : Shape := ⟨2, ![1024, 5888]⟩
abbrev S8192x5888 : Shape := ⟨2, ![8192, 5888]⟩
abbrev S8192x8x128 : Shape := ⟨3, ![8192, 8, 128]⟩
abbrev S128 : Shape := ⟨1, ![128]⟩
abbrev S8192x8 : Shape := ⟨2, ![8192, 8]⟩
abbrev S8192x8x1 : Shape := ⟨3, ![8192, 8, 1]⟩
abbrev S1x1x128 : Shape := ⟨3, ![1, 1, 128]⟩
abbrev S8192x8x64 : Shape := ⟨3, ![8192, 8, 64]⟩
abbrev S128x1 : Shape := ⟨2, ![128, 1]⟩
abbrev S128x64 : Shape := ⟨2, ![128, 64]⟩
abbrev S32 : Shape := ⟨1, ![32]⟩
abbrev S1x32 : Shape := ⟨2, ![1, 32]⟩
abbrev S8192x32 : Shape := ⟨2, ![8192, 32]⟩
abbrev S8192x1x32 : Shape := ⟨3, ![8192, 1, 32]⟩
abbrev S8192x8x32 : Shape := ⟨3, ![8192, 8, 32]⟩
abbrev S64 : Shape := ⟨1, ![64]⟩
abbrev S1x64 : Shape := ⟨2, ![1, 64]⟩
abbrev S8192x2x128 : Shape := ⟨3, ![8192, 2, 128]⟩
abbrev S8192x2 : Shape := ⟨2, ![8192, 2]⟩
abbrev S8192x2x1 : Shape := ⟨3, ![8192, 2, 1]⟩
abbrev S8192x2x64 : Shape := ⟨3, ![8192, 2, 64]⟩
abbrev S8192x2x32 : Shape := ⟨3, ![8192, 2, 32]⟩

abbrev nBuf : Space → Nat
  | .hbm => 445
  | .vmem => 0
  | .smem => 0
  | _ => 0

abbrev hbmTy0_0 (i : Nat) : BufTy := match i % 128 with
  | 0 => ⟨S8192x1024, .f32⟩
  | 1 => ⟨S1x1024, .f32⟩
  | 2 => ⟨S1x1024x5888, .f32⟩
  | 3 => ⟨S1x128, .f32⟩
  | 4 => ⟨S1x128, .f32⟩
  | 5 => ⟨S8192x1024, .f32⟩
  | 6 => ⟨S8192x1024, .f32⟩
  | 7 => ⟨S8192x256, .f32⟩
  | 8 => ⟨S8192x256, .f32⟩
  | 9 => ⟨S8192x768, .f32⟩
  | 10 => ⟨S8192x768, .f32⟩
  | 11 => ⟨S8192x768, .f32⟩
  | 12 => ⟨S8192x1024, .f32⟩
  | 13 => ⟨S8192x1024, .f32⟩
  | 14 => ⟨S1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S1024x5888, .f32⟩
  | 36 => ⟨S8192x5888, .f32⟩
  | 37 => ⟨S8192x1024, .f32⟩
  | 38 => ⟨S8192x256, .f32⟩
  | 39 => ⟨S8192x256, .f32⟩
  | 40 => ⟨S8192x768, .f32⟩
  | 41 => ⟨S8192x768, .f32⟩
  | 42 => ⟨S8192x768, .f32⟩
  | 43 => ⟨S8192x1024, .f32⟩
  | 44 => ⟨S8192x1024, .f32⟩
  | 45 => ⟨S8192x8x128, .f32⟩
  | 46 => ⟨S128, .f32⟩
  | 47 => ⟨S8192x8x128, .f32⟩
  | 48 => ⟨S_, .f32⟩
  | 49 => ⟨S8192x8, .f32⟩
  | 50 => ⟨S8192x8x1, .f32⟩
  | 51 => ⟨S_, .f32⟩
  | 52 => ⟨S8192x8x1, .f32⟩
  | 53 => ⟨S8192x8x1, .f32⟩
  | 54 => ⟨S_, .f32⟩
  | 55 => ⟨S8192x8x1, .f32⟩
  | 56 => ⟨S8192x8x1, .f32⟩
  | 57 => ⟨S8192x8x1, .f32⟩
  | 58 => ⟨S8192x8x1, .f32⟩
  | 59 => ⟨S_, .f32⟩
  | 60 => ⟨S8192x8x1, .f32⟩
  | 61 => ⟨S8192x8x1, .f32⟩
  | 62 => ⟨S8192x8x128, .f32⟩
  | 63 => ⟨S8192x8x128, .f32⟩
  | 64 => ⟨S1x1x128, .f32⟩
  | 65 => ⟨S8192x8x128, .f32⟩
  | 66 => ⟨S8192x8x128, .f32⟩
  | 67 => ⟨S8192x8x64, .f32⟩
  | 68 => ⟨S128, .i32⟩
  | 69 => ⟨S128x1, .i32⟩
  | 70 => ⟨S128x64, .i32⟩
  | 71 => ⟨S8192, .i32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S8192, .f32⟩
  | 87 => ⟨S8192x1, .f32⟩
  | 88 => ⟨S1x32, .f32⟩
  | 89 => ⟨S8192x32, .f32⟩
  | 90 => ⟨S8192x32, .f32⟩
  | 91 => ⟨S8192x32, .f32⟩
  | 92 => ⟨S8192x32, .f32⟩
  | 93 => ⟨S8192x1x32, .f32⟩
  | 94 => ⟨S8192x32, .f32⟩
  | 95 => ⟨S8192x1x32, .f32⟩
  | 96 => ⟨S8192x8x32, .f32⟩
  | 97 => ⟨S8192x8x32, .f32⟩
  | 98 => ⟨S8192x8x32, .f32⟩
  | 99 => ⟨S8192x8x32, .f32⟩
  | 100 => ⟨S8192x8x32, .f32⟩
  | 101 => ⟨S8192x8x32, .f32⟩
  | 102 => ⟨S8192x8x32, .f32⟩
  | 103 => ⟨S8192x8x32, .f32⟩
  | 104 => ⟨S8192x8x32, .f32⟩
  | 105 => ⟨S8192x8x32, .f32⟩
  | 106 => ⟨S8192x8x32, .f32⟩
  | 107 => ⟨S8192x8x32, .f32⟩
  | 108 => ⟨S8192x8x64, .f32⟩
  | 109 => ⟨S8192x8x64, .f32⟩
  | 110 => ⟨S64, .i32⟩
  | 111 => ⟨S1x64, .i32⟩
  | 112 => ⟨S128x64, .i32⟩
  | 113 => ⟨S8192, .i32⟩
  | 114 => ⟨S32, .f32⟩
  | 115 => ⟨S_, .f32⟩
  | 116 => ⟨S32, .f32⟩
  | 117 => ⟨S32, .f32⟩
  | 118 => ⟨S_, .f32⟩
  | 119 => ⟨S32, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S8192x1024, .f32⟩

abbrev hbmTy0_1 (i : Nat) : BufTy := match i % 128 with
  | 0 => ⟨S8192, .f32⟩
  | 1 => ⟨S8192x1, .f32⟩
  | 2 => ⟨S1x32, .f32⟩
  | 3 => ⟨S8192x32, .f32⟩
  | 4 => ⟨S8192x32, .f32⟩
  | 5 => ⟨S8192x32, .f32⟩
  | 6 => ⟨S8192x32, .f32⟩
  | 7 => ⟨S8192x1x32, .f32⟩
  | 8 => ⟨S8192x32, .f32⟩
  | 9 => ⟨S8192x1x32, .f32⟩
  | 10 => ⟨S8192x8x32, .f32⟩
  | 11 => ⟨S8192x8x32, .f32⟩
  | 12 => ⟨S8192x8x32, .f32⟩
  | 13 => ⟨S8192x8x32, .f32⟩
  | 14 => ⟨S8192x8x32, .f32⟩
  | 15 => ⟨S8192x8x32, .f32⟩
  | 16 => ⟨S8192x8x32, .f32⟩
  | 17 => ⟨S8192x8x32, .f32⟩
  | 18 => ⟨S8192x8x32, .f32⟩
  | 19 => ⟨S8192x8x32, .f32⟩
  | 20 => ⟨S8192x8x32, .f32⟩
  | 21 => ⟨S8192x8x32, .f32⟩
  | 22 => ⟨S8192x8x64, .f32⟩
  | 23 => ⟨S8192x8x128, .f32⟩
  | 24 => ⟨S_, .f32⟩
  | 25 => ⟨S8192x8x128, .f32⟩
  | 26 => ⟨S8192x8x128, .f32⟩
  | 27 => ⟨S8192x2x128, .f32⟩
  | 28 => ⟨S128, .f32⟩
  | 29 => ⟨S8192x2x128, .f32⟩
  | 30 => ⟨S_, .f32⟩
  | 31 => ⟨S8192x2, .f32⟩
  | 32 => ⟨S8192x2x1, .f32⟩
  | 33 => ⟨S_, .f32⟩
  | 34 => ⟨S8192x2x1, .f32⟩
  | 35 => ⟨S8192x2x1, .f32⟩
  | 36 => ⟨S_, .f32⟩
  | 37 => ⟨S8192x2x1, .f32⟩
  | 38 => ⟨S8192x2x1, .f32⟩
  | 39 => ⟨S8192x2x1, .f32⟩
  | 40 => ⟨S8192x2x1, .f32⟩
  | 41 => ⟨S_, .f32⟩
  | 42 => ⟨S8192x2x1, .f32⟩
  | 43 => ⟨S8192x2x1, .f32⟩
  | 44 => ⟨S8192x2x128, .f32⟩
  | 45 => ⟨S8192x2x128, .f32⟩
  | 46 => ⟨S1x1x128, .f32⟩
  | 47 => ⟨S8192x2x128, .f32⟩
  | 48 => ⟨S8192x2x128, .f32⟩
  | 49 => ⟨S8192x2x64, .f32⟩
  | 50 => ⟨S128, .i32⟩
  | 51 => ⟨S128x1, .i32⟩
  | 52 => ⟨S128x64, .i32⟩
  | 53 => ⟨S8192, .i32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S32, .f32⟩
  | 62 => ⟨S_, .f32⟩
  | 63 => ⟨S32, .f32⟩
  | 64 => ⟨S32, .f32⟩
  | 65 => ⟨S_, .f32⟩
  | 66 => ⟨S32, .f32⟩
  | 67 => ⟨S32, .f32⟩
  | 68 => ⟨S8192, .f32⟩
  | 69 => ⟨S8192x1, .f32⟩
  | 70 => ⟨S1x32, .f32⟩
  | 71 => ⟨S8192x32, .f32⟩
  | 72 => ⟨S8192x32, .f32⟩
  | 73 => ⟨S8192x32, .f32⟩
  | 74 => ⟨S8192x32, .f32⟩
  | 75 => ⟨S8192x1x32, .f32⟩
  | 76 => ⟨S8192x32, .f32⟩
  | 77 => ⟨S8192x1x32, .f32⟩
  | 78 => ⟨S8192x2x32, .f32⟩
  | 79 => ⟨S8192x2x32, .f32⟩
  | 80 => ⟨S8192x2x32, .f32⟩
  | 81 => ⟨S8192x2x32, .f32⟩
  | 82 => ⟨S8192x2x32, .f32⟩
  | 83 => ⟨S8192x2x32, .f32⟩
  | 84 => ⟨S8192x2x32, .f32⟩
  | 85 => ⟨S8192x2x32, .f32⟩
  | 86 => ⟨S8192x2x32, .f32⟩
  | 87 => ⟨S8192x2x32, .f32⟩
  | 88 => ⟨S8192x2x32, .f32⟩
  | 89 => ⟨S8192x2x32, .f32⟩
  | 90 => ⟨S8192x2x64, .f32⟩
  | 91 => ⟨S8192x2x64, .f32⟩
  | 92 => ⟨S64, .i32⟩
  | 93 => ⟨S1x64, .i32⟩
  | 94 => ⟨S128x64, .i32⟩
  | 95 => ⟨S8192, .i32⟩
  | 96 => ⟨S32, .f32⟩
  | 97 => ⟨S_, .f32⟩
  | 98 => ⟨S32, .f32⟩
  | 99 => ⟨S32, .f32⟩
  | 100 => ⟨S_, .f32⟩
  | 101 => ⟨S32, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S8192, .f32⟩
  | 111 => ⟨S8192x1, .f32⟩
  | 112 => ⟨S1x32, .f32⟩
  | 113 => ⟨S8192x32, .f32⟩
  | 114 => ⟨S8192x32, .f32⟩
  | 115 => ⟨S8192x32, .f32⟩
  | 116 => ⟨S8192x32, .f32⟩
  | 117 => ⟨S8192x1x32, .f32⟩
  | 118 => ⟨S8192x32, .f32⟩
  | 119 => ⟨S8192x1x32, .f32⟩
  | 120 => ⟨S8192x2x32, .f32⟩
  | 121 => ⟨S8192x2x32, .f32⟩
  | 122 => ⟨S8192x2x32, .f32⟩
  | 123 => ⟨S8192x2x32, .f32⟩
  | 124 => ⟨S8192x2x32, .f32⟩
  | 125 => ⟨S8192x2x32, .f32⟩
  | 126 => ⟨S8192x2x32, .f32⟩
  | 127 => ⟨S8192x2x32, .f32⟩
  | _ => ⟨S8192x1024, .f32⟩

abbrev hbmTy0_2 (i : Nat) : BufTy := match i % 128 with
  | 0 => ⟨S8192x2x32, .f32⟩
  | 1 => ⟨S8192x2x32, .f32⟩
  | 2 => ⟨S8192x2x32, .f32⟩
  | 3 => ⟨S8192x2x32, .f32⟩
  | 4 => ⟨S8192x2x64, .f32⟩
  | 5 => ⟨S8192x2x128, .f32⟩
  | 6 => ⟨S8192x1024, .f32⟩
  | 7 => ⟨S8192x256, .f32⟩
  | 8 => ⟨S_, .f32⟩
  | 9 => ⟨S8192x768, .f32⟩
  | 10 => ⟨S8192x768, .f32⟩
  | 11 => ⟨S_, .f32⟩
  | 12 => ⟨S8192x768, .f32⟩
  | 13 => ⟨S8192x768, .f32⟩
  | 14 => ⟨S8192x2x128, .f32⟩
  | 15 => ⟨S8192x8x128, .f32⟩
  | 16 => ⟨S8192x2x64, .f32⟩
  | 17 => ⟨S8192x2x64, .f32⟩
  | 18 => ⟨S8192x2x32, .f32⟩
  | 19 => ⟨S8192x2x32, .f32⟩
  | 20 => ⟨S8192x2x32, .f32⟩
  | 21 => ⟨S8192x2x32, .f32⟩
  | 22 => ⟨S8192x2x32, .f32⟩
  | 23 => ⟨S8192x2x32, .f32⟩
  | 24 => ⟨S8192x2x32, .f32⟩
  | 25 => ⟨S8192x2x32, .f32⟩
  | 26 => ⟨S8192x2x32, .f32⟩
  | 27 => ⟨S8192x2x32, .f32⟩
  | 28 => ⟨S8192x2x32, .f32⟩
  | 29 => ⟨S8192x2x32, .f32⟩
  | 30 => ⟨S8192x2x32, .f32⟩
  | 31 => ⟨S_, .f32⟩
  | 32 => ⟨S8192x2x64, .f32⟩
  | 33 => ⟨S_, .f32⟩
  | 34 => ⟨S8192x2x64, .f32⟩
  | 35 => ⟨S8192x2x64, .f32⟩
  | 36 => ⟨S_, .f32⟩
  | 37 => ⟨S8192x2x128, .f32⟩
  | 38 => ⟨S8192x2x32, .f32⟩
  | 39 => ⟨S8192x2x32, .f32⟩
  | 40 => ⟨S8192x2x32, .f32⟩
  | 41 => ⟨S8192x2x32, .f32⟩
  | 42 => ⟨S8192x2x32, .f32⟩
  | 43 => ⟨S8192x2x32, .f32⟩
  | 44 => ⟨S8192x2x32, .f32⟩
  | 45 => ⟨S8192x2x32, .f32⟩
  | 46 => ⟨S8192x2x32, .f32⟩
  | 47 => ⟨S8192x2x32, .f32⟩
  | 48 => ⟨S8192x2x32, .f32⟩
  | 49 => ⟨S8192x2x32, .f32⟩
  | 50 => ⟨S8192x2x32, .f32⟩
  | 51 => ⟨S_, .f32⟩
  | 52 => ⟨S8192x2x64, .f32⟩
  | 53 => ⟨S_, .f32⟩
  | 54 => ⟨S8192x2x64, .f32⟩
  | 55 => ⟨S8192x2x64, .f32⟩
  | 56 => ⟨S_, .f32⟩
  | 57 => ⟨S8192x2x128, .f32⟩
  | 58 => ⟨S8192x2x128, .f32⟩
  | 59 => ⟨S8192x2x128, .f32⟩
  | 60 => ⟨S_, .f32⟩
  | 61 => ⟨S128, .f32⟩
  | 62 => ⟨S1x1x128, .f32⟩
  | 63 => ⟨S8192x2x128, .f32⟩
  | 64 => ⟨S8192x2x128, .f32⟩
  | 65 => ⟨S_, .f32⟩
  | 66 => ⟨S128, .f32⟩
  | 67 => ⟨S8192x2x128, .f32⟩
  | 68 => ⟨S_, .f32⟩
  | 69 => ⟨S8192x2, .f32⟩
  | 70 => ⟨S8192x2x1, .f32⟩
  | 71 => ⟨S8192x2x128, .f32⟩
  | 72 => ⟨S8192x2x128, .f32⟩
  | 73 => ⟨S8192x2x1, .f32⟩
  | 74 => ⟨S_, .f32⟩
  | 75 => ⟨S8192x2x1, .f32⟩
  | 76 => ⟨S8192x2x1, .f32⟩
  | 77 => ⟨S_, .f32⟩
  | 78 => ⟨S8192x2, .f32⟩
  | 79 => ⟨S8192x2x128, .f32⟩
  | 80 => ⟨S8192x2x128, .f32⟩
  | 81 => ⟨S8192x2x128, .f32⟩
  | 82 => ⟨S8192x2x128, .f32⟩
  | 83 => ⟨S8192x2x128, .f32⟩
  | 84 => ⟨S1x128, .f32⟩
  | 85 => ⟨S8192x256, .f32⟩
  | 86 => ⟨S_, .f32⟩
  | 87 => ⟨S8192x8x128, .f32⟩
  | 88 => ⟨S8192x8x128, .f32⟩
  | 89 => ⟨S8192x8x64, .f32⟩
  | 90 => ⟨S8192x8x64, .f32⟩
  | 91 => ⟨S8192x8x32, .f32⟩
  | 92 => ⟨S8192x8x32, .f32⟩
  | 93 => ⟨S8192x8x32, .f32⟩
  | 94 => ⟨S8192x8x32, .f32⟩
  | 95 => ⟨S8192x8x32, .f32⟩
  | 96 => ⟨S8192x8x32, .f32⟩
  | 97 => ⟨S8192x8x32, .f32⟩
  | 98 => ⟨S8192x8x32, .f32⟩
  | 99 => ⟨S8192x8x32, .f32⟩
  | 100 => ⟨S8192x8x32, .f32⟩
  | 101 => ⟨S8192x8x32, .f32⟩
  | 102 => ⟨S8192x8x32, .f32⟩
  | 103 => ⟨S8192x8x32, .f32⟩
  | 104 => ⟨S_, .f32⟩
  | 105 => ⟨S8192x8x64, .f32⟩
  | 106 => ⟨S_, .f32⟩
  | 107 => ⟨S8192x8x64, .f32⟩
  | 108 => ⟨S8192x8x64, .f32⟩
  | 109 => ⟨S_, .f32⟩
  | 110 => ⟨S8192x8x128, .f32⟩
  | 111 => ⟨S8192x8x32, .f32⟩
  | 112 => ⟨S8192x8x32, .f32⟩
  | 113 => ⟨S8192x8x32, .f32⟩
  | 114 => ⟨S8192x8x32, .f32⟩
  | 115 => ⟨S8192x8x32, .f32⟩
  | 116 => ⟨S8192x8x32, .f32⟩
  | 117 => ⟨S8192x8x32, .f32⟩
  | 118 => ⟨S8192x8x32, .f32⟩
  | 119 => ⟨S8192x8x32, .f32⟩
  | 120 => ⟨S8192x8x32, .f32⟩
  | 121 => ⟨S8192x8x32, .f32⟩
  | 122 => ⟨S8192x8x32, .f32⟩
  | 123 => ⟨S8192x8x32, .f32⟩
  | 124 => ⟨S_, .f32⟩
  | 125 => ⟨S8192x8x64, .f32⟩
  | 126 => ⟨S_, .f32⟩
  | 127 => ⟨S8192x8x64, .f32⟩
  | _ => ⟨S8192x1024, .f32⟩

abbrev hbmTy0_3 (i : Nat) : BufTy := match i % 128 with
  | 0 => ⟨S8192x8x64, .f32⟩
  | 1 => ⟨S_, .f32⟩
  | 2 => ⟨S8192x8x128, .f32⟩
  | 3 => ⟨S8192x8x128, .f32⟩
  | 4 => ⟨S8192x8x128, .f32⟩
  | 5 => ⟨S_, .f32⟩
  | 6 => ⟨S128, .f32⟩
  | 7 => ⟨S1x1x128, .f32⟩
  | 8 => ⟨S8192x8x128, .f32⟩
  | 9 => ⟨S8192x8x128, .f32⟩
  | 10 => ⟨S_, .f32⟩
  | 11 => ⟨S128, .f32⟩
  | 12 => ⟨S8192x8x128, .f32⟩
  | 13 => ⟨S_, .f32⟩
  | 14 => ⟨S8192x8, .f32⟩
  | 15 => ⟨S8192x8x1, .f32⟩
  | 16 => ⟨S8192x8x128, .f32⟩
  | 17 => ⟨S8192x8x128, .f32⟩
  | 18 => ⟨S8192x8x1, .f32⟩
  | 19 => ⟨S_, .f32⟩
  | 20 => ⟨S8192x8x1, .f32⟩
  | 21 => ⟨S8192x8x1, .f32⟩
  | 22 => ⟨S_, .f32⟩
  | 23 => ⟨S8192x8, .f32⟩
  | 24 => ⟨S8192x8x128, .f32⟩
  | 25 => ⟨S8192x8x128, .f32⟩
  | 26 => ⟨S8192x8x128, .f32⟩
  | 27 => ⟨S8192x8x128, .f32⟩
  | 28 => ⟨S8192x8x128, .f32⟩
  | 29 => ⟨S1x128, .f32⟩
  | 30 => ⟨S8192x1024, .f32⟩
  | 31 => ⟨S8192x5888, .f32⟩
  | 32 => ⟨S8192x1024, .f32⟩
  | 33 => ⟨S8192x1024, .f32⟩
  | 34 => ⟨S_, .f32⟩
  | 35 => ⟨S1024, .f32⟩
  | 36 => ⟨S1x1024, .f32⟩
  | 37 => ⟨S8192x1024, .f32⟩
  | 38 => ⟨S8192x1024, .f32⟩
  | 39 => ⟨S_, .f32⟩
  | 40 => ⟨S1024, .f32⟩
  | 41 => ⟨S8192x1024, .f32⟩
  | 42 => ⟨S_, .f32⟩
  | 43 => ⟨S8192, .f32⟩
  | 44 => ⟨S8192x1, .f32⟩
  | 45 => ⟨S8192x1024, .f32⟩
  | 46 => ⟨S8192x1024, .f32⟩
  | 47 => ⟨S8192x1024, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S1x1024, .f32⟩
  | 60 => ⟨S8192x5888, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_11 : Ref sig .tc := ⟨.hbm, 115, rfl⟩
abbrev main_v89 : Ref sig .tc := ⟨.hbm, 116, rfl⟩
abbrev main_v90 : Ref sig .tc := ⟨.hbm, 117, rfl⟩
abbrev main_cst_12 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_cst_13 : Ref sig .tc := ⟨.hbm, 122, rfl⟩
abbrev main_v94 : Ref sig .tc := ⟨.hbm, 123, rfl⟩
abbrev main_v95 : Ref sig .tc := ⟨.hbm, 124, rfl⟩
abbrev main_cst_14 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_15 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_16 : Ref sig .tc := ⟨.hbm, 158, rfl⟩
abbrev main_v127 : Ref sig .tc := ⟨.hbm, 159, rfl⟩
abbrev main_v128 : Ref sig .tc := ⟨.hbm, 160, rfl⟩
abbrev main_cst_17 : Ref sig .tc := ⟨.hbm, 161, rfl⟩
abbrev main_v129 : Ref sig .tc := ⟨.hbm, 162, rfl⟩
abbrev main_v130 : Ref sig .tc := ⟨.hbm, 163, rfl⟩
abbrev main_cst_18 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_19 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_20 : Ref sig .tc := ⟨.hbm, 183, rfl⟩
abbrev main_v148 : Ref sig .tc := ⟨.hbm, 184, rfl⟩
abbrev main_v149 : Ref sig .tc := ⟨.hbm, 185, rfl⟩
abbrev main_cst_21 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_22 : Ref sig .tc := ⟨.hbm, 190, rfl⟩
abbrev main_v153 : Ref sig .tc := ⟨.hbm, 191, rfl⟩
abbrev main_v154 : Ref sig .tc := ⟨.hbm, 192, rfl⟩
abbrev main_cst_23 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_cst_24 : Ref sig .tc := ⟨.hbm, 225, rfl⟩
abbrev main_v186 : Ref sig .tc := ⟨.hbm, 226, rfl⟩
abbrev main_v187 : Ref sig .tc := ⟨.hbm, 227, rfl⟩
abbrev main_cst_25 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_cst_26 : Ref sig .tc := ⟨.hbm, 232, rfl⟩
abbrev main_v191 : Ref sig .tc := ⟨.hbm, 233, rfl⟩
abbrev main_v192 : Ref sig .tc := ⟨.hbm, 234, rfl⟩
abbrev main_cst_27 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_v210 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_cst_28 : Ref sig .tc := ⟨.hbm, 264, rfl⟩
abbrev main_v221 : Ref sig .tc := ⟨.hbm, 265, rfl⟩
abbrev main_v222 : Ref sig .tc := ⟨.hbm, 266, rfl⟩
abbrev main_cst_29 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_cst_30 : Ref sig .tc := ⟨.hbm, 287, rfl⟩
abbrev main_v242 : Ref sig .tc := ⟨.hbm, 288, rfl⟩
abbrev main_cst_31 : Ref sig .tc := ⟨.hbm, 289, rfl⟩
abbrev main_v243 : Ref sig .tc := ⟨.hbm, 290, rfl⟩
abbrev main_v244 : Ref sig .tc := ⟨.hbm, 291, rfl⟩
abbrev main_cst_32 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_cst_33 : Ref sig .tc := ⟨.hbm, 307, rfl⟩
abbrev main_v259 : Ref sig .tc := ⟨.hbm, 308, rfl⟩
abbrev main_cst_34 : Ref sig .tc := ⟨.hbm, 309, rfl⟩
abbrev main_v260 : Ref sig .tc := ⟨.hbm, 310, rfl⟩
abbrev main_v261 : Ref sig .tc := ⟨.hbm, 311, rfl⟩
abbrev main_cst_35 : Ref sig .tc := ⟨.hbm, 312, rfl⟩
abbrev main_v262 : Ref sig .tc := ⟨.hbm, 313, rfl⟩
abbrev main_v263 : Ref sig .tc := ⟨.hbm, 314, rfl⟩
abbrev main_v264 : Ref sig .tc := ⟨.hbm, 315, rfl⟩
abbrev main_cst_36 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_cst_37 : Ref sig .tc := ⟨.hbm, 321, rfl⟩
abbrev main_v269 : Ref sig .tc := ⟨.hbm, 322, rfl⟩
abbrev main_v270 : Ref sig .tc := ⟨.hbm, 323, rfl⟩
abbrev main_cst_38 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_cst_39 : Ref sig .tc := ⟨.hbm, 330, rfl⟩
abbrev main_v276 : Ref sig .tc := ⟨.hbm, 331, rfl⟩
abbrev main_v277 : Ref sig .tc := ⟨.hbm, 332, rfl⟩
abbrev main_cst_40 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_cst_41 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_v296 : Ref sig .tc := ⟨.hbm, 353, rfl⟩
abbrev main_v297 : Ref sig .tc := ⟨.hbm, 354, rfl⟩
abbrev main_v298 : Ref sig .tc := ⟨.hbm, 355, rfl⟩
abbrev main_v299 : Ref sig .tc := ⟨.hbm, 356, rfl⟩
abbrev main_v300 : Ref sig .tc := ⟨.hbm, 357, rfl⟩
abbrev main_v301 : Ref sig .tc := ⟨.hbm, 358, rfl⟩
abbrev main_v302 : Ref sig .tc := ⟨.hbm, 359, rfl⟩
abbrev main_cst_42 : Ref sig .tc := ⟨.hbm, 360, rfl⟩
abbrev main_v303 : Ref sig .tc := ⟨.hbm, 361, rfl⟩
abbrev main_cst_43 : Ref sig .tc := ⟨.hbm, 362, rfl⟩
abbrev main_v304 : Ref sig .tc := ⟨.hbm, 363, rfl⟩
abbrev main_v305 : Ref sig .tc := ⟨.hbm, 364, rfl⟩
abbrev main_cst_44 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_v319 : Ref sig .tc := ⟨.hbm, 379, rfl⟩
abbrev main_cst_45 : Ref sig .tc := ⟨.hbm, 380, rfl⟩
abbrev main_v320 : Ref sig .tc := ⟨.hbm, 381, rfl⟩
abbrev main_cst_46 : Ref sig .tc := ⟨.hbm, 382, rfl⟩
abbrev main_v321 : Ref sig .tc := ⟨.hbm, 383, rfl⟩
abbrev main_v322 : Ref sig .tc := ⟨.hbm, 384, rfl⟩
abbrev main_cst_47 : Ref sig .tc := ⟨.hbm, 385, rfl⟩
abbrev main_v323 : Ref sig .tc := ⟨.hbm, 386, rfl⟩
abbrev main_v324 : Ref sig .tc := ⟨.hbm, 387, rfl⟩
abbrev main_v325 : Ref sig .tc := ⟨.hbm, 388, rfl⟩
abbrev main_cst_48 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_cst_49 : Ref sig .tc := ⟨.hbm, 394, rfl⟩
abbrev main_v330 : Ref sig .tc := ⟨.hbm, 395, rfl⟩
abbrev main_v331 : Ref sig .tc := ⟨.hbm, 396, rfl⟩
abbrev main_cst_50 : Ref sig .tc := ⟨.hbm, 397, rfl⟩
abbrev main_v332 : Ref sig .tc := ⟨.hbm, 398, rfl⟩
abbrev main_v333 : Ref sig .tc := ⟨.hbm, 399, rfl⟩
abbrev main_v334 : Ref sig .tc := ⟨.hbm, 400, rfl⟩
abbrev main_v335 : Ref sig .tc := ⟨.hbm, 401, rfl⟩
abbrev main_v336 : Ref sig .tc := ⟨.hbm, 402, rfl⟩
abbrev main_cst_51 : Ref sig .tc := ⟨.hbm, 403, rfl⟩
abbrev main_v337 : Ref sig .tc := ⟨.hbm, 404, rfl⟩
abbrev main_v338 : Ref sig .tc := ⟨.hbm, 405, rfl⟩
abbrev main_cst_52 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩
abbrev main_v344 : Ref sig .tc := ⟨.hbm, 412, rfl⟩
abbrev main_v345 : Ref sig .tc := ⟨.hbm, 413, rfl⟩
abbrev main_v346 : Ref sig .tc := ⟨.hbm, 414, rfl⟩
abbrev main_v347 : Ref sig .tc := ⟨.hbm, 415, rfl⟩
abbrev main_v348 : Ref sig .tc := ⟨.hbm, 416, rfl⟩
abbrev main_v349 : Ref sig .tc := ⟨.hbm, 417, rfl⟩
abbrev main_cst_53 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_cst_54 : Ref sig .tc := ⟨.hbm, 423, rfl⟩
abbrev main_v354 : Ref sig .tc := ⟨.hbm, 424, rfl⟩
abbrev main_v355 : Ref sig .tc := ⟨.hbm, 425, rfl⟩
abbrev main_cst_55 : Ref sig .tc := ⟨.hbm, 426, rfl⟩
abbrev main_v356 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_v361 : Ref sig .tc := ⟨.hbm, 432, rfl⟩
abbrev main_cst_56 : Ref sig .tc := ⟨.hbm, 433, rfl⟩
abbrev main_v362 : Ref sig .tc := ⟨.hbm, 434, rfl⟩
abbrev main_v363 : Ref sig .tc := ⟨.hbm, 435, rfl⟩
abbrev main_cst_57 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_v367 : Ref sig .tc := ⟨.hbm, 440, rfl⟩
abbrev main_v368 : Ref sig .tc := ⟨.hbm, 441, rfl⟩
abbrev main_v369 : Ref sig .tc := ⟨.hbm, 442, rfl⟩
abbrev main_v370 : Ref sig .tc := ⟨.hbm, 443, rfl⟩
abbrev main_v371 : Ref sig .tc := ⟨.hbm, 444, rfl⟩

abbrev nD : Nat := 1
abbrev τ : Topo := Topo.v7x

variable {F : FTy → Type} [FloatOps F]
-- ==== Kernel6.lean ====
abbrev S8192x1024 : Shape := ⟨2, ![8192, 1024]⟩
abbrev S8192x256 : Shape := ⟨2, ![8192, 256]⟩
abbrev S_ : Shape := ⟨0, ![]⟩
abbrev S2x4x8192 : Shape := ⟨3, ![2, 4, 8192]⟩
abbrev S2048x512 : Shape := ⟨2, ![2048, 512]⟩
abbrev S8192x128 : Shape := ⟨2, ![8192, 128]⟩
abbrev S1x4x2048 : Shape := ⟨3, ![1, 4, 2048]⟩
abbrev S2048x128 : Shape := ⟨2, ![2048, 128]⟩
abbrev S1x8192 : Shape := ⟨2, ![1, 8192]⟩
abbrev S128x8192 : Shape := ⟨2, ![128, 8192]⟩
abbrev S512x128 : Shape := ⟨2, ![512, 128]⟩
abbrev S512x8192 : Shape := ⟨2, ![512, 8192]⟩
abbrev S8192 : Shape := ⟨1, ![8192]⟩
abbrev S1x2048 : Shape := ⟨2, ![1, 2048]⟩
abbrev S1x1x2048 : Shape := ⟨3, ![1, 1, 2048]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S8192x256, .bf16⟩
  | .hbm, ⟨9, _⟩ => ⟨S8192x256, .bf16⟩
  | .hbm, ⟨10, _⟩ => ⟨S8192x1024, .bf16⟩
  | .hbm, ⟨11, _⟩ => ⟨S2x4x8192, .f32⟩
  | .local _ .vmem, ⟨0, _⟩ => ⟨S2048x512, .bf16⟩
  | .local _ .vmem, ⟨1, _⟩ => ⟨S2048x512, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S2048x512, .bf16⟩
  | .local _ .vmem, ⟨7, _⟩ => ⟨S2048x512, .bf16⟩
  | .local _ .vmem, ⟨8, _⟩ => ⟨S1x4x2048, .f32⟩
  | .local _ .vmem, ⟨9, _⟩ => ⟨S1x4x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v49 : BitVec 32 := Scalar.muli arg7 c512_i32
  v49
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c512_i32 : BitVec 32 := 512#32
  let v49 : BitVec 32 := Scalar.muli arg7 c512_i32
  let v50 : BitVec 32 := v49
  let v51 : Index := Scalar.indexCast v50
  let c0_25 : Index := 0#32
  ![v51.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel6Ideal.lean ====
variable {F : FTy → Type} [FloatOps F] [Named F]
def κ : String → Option EReal := fun
  | "log2_e" => some (((Real.log 2)⁻¹ : ℝ) : EReal)
  | _ => none
-- ==== Reference6Ideal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x2x4x128, .f32⟩
  | .hbm, ⟨4, _⟩ => ⟨S8192x2x128, .f32⟩
  | .hbm, ⟨5, _⟩ => ⟨S2x8192x8192x4, .f32⟩
  | .hbm, ⟨6, _⟩ => ⟨S2x4x8192x8192, .f32⟩
  | .hbm, ⟨7, _⟩ => ⟨S2x4x8192x8192, .f32⟩
  | .hbm, ⟨8, _⟩ => ⟨S_, .f32⟩
  | .hbm, ⟨9, _⟩ => ⟨S2x4x8192, .f32⟩
  | .hbm, ⟨10, _⟩ => ⟨S2x4x8192, .f32⟩
  | .hbm, ⟨11, _⟩ => ⟨S8192x2x4x128, .f32⟩
  | .hbm, ⟨12, _⟩ => ⟨S8192x2x128, .f32⟩
  | .hbm, ⟨13, _⟩ => ⟨S8192x2x128, .f32⟩
  | .hbm, ⟨14, _⟩ => ⟨S2x8192x8192x4, .f32⟩
  | .hbm, ⟨15, _⟩ => ⟨S2x4x8192x8192, .f32⟩
  | .hbm, ⟨16, _⟩ => ⟨S_, .f32⟩
  | .hbm, ⟨17, _⟩ => ⟨S2x4x8192, .f32⟩
  | .hbm, ⟨18, _⟩ => ⟨S_, .f32⟩
  | .hbm, ⟨19, _⟩ => ⟨S2x4x8192, .f32⟩
  | .hbm, ⟨20, _⟩ => ⟨S2x4x8192, .f32⟩
  | .hbm, ⟨21, _⟩ => ⟨S2x4x8192x1, .f32⟩
  | .hbm, ⟨22, _⟩ => ⟨S2x4x8192x8192, .f32⟩
  | .hbm, ⟨23, _⟩ => ⟨S2x4x8192x8192, .f32⟩
  | .hbm, ⟨24, _⟩ => ⟨S2x4x8192x8192, .f32⟩
  | .hbm, ⟨25, _⟩ => ⟨S_, .f32⟩
  | .hbm, ⟨26, _⟩ => ⟨S2x4x8192, .f32⟩
  | .hbm, ⟨27, _⟩ => ⟨S2x4x8192x1, .f32⟩
  | .hbm, ⟨28, _⟩ => ⟨S2x4x8192x8192, .f32⟩
  | .hbm, ⟨29, _⟩ => ⟨S2x4x8192x8192, .f32⟩
  | .hbm, ⟨30, _⟩ => ⟨S2x128x4x8192, .f32⟩
  | .hbm, ⟨31, _⟩ => ⟨S8192x2x4x128, .f32⟩
  | .hbm, ⟨32, _⟩ => ⟨S8192x1024, .f32⟩
  | .hbm, ⟨33, _⟩ => ⟨S8192x1024, .bf16⟩
  | .hbm, ⟨34, _⟩ => ⟨S_, .f32⟩
  | .hbm, ⟨35, _⟩ => ⟨S_, .f32⟩
  | .hbm, ⟨36, _⟩ => ⟨S2x4x8192, .f32⟩
  | .hbm, ⟨37, _⟩ => ⟨S2x4x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]
-- ==== Proof.ProjFrame.lean ====
/-
  The run of the input projection's backward kernel.  Its thirty windows make the statement of one grid
  point long; here the body's run is named once per case, the first point and the others, with all its
  memrefs and input blocks, and what the outputs hold, the proof data of the pipeline, the body's triple
  and the run of the whole program are stated over that name.
-/
module

public import proofs.«01_k».proof.Proof.Gen.Kernel5Ideal.Frame.RunB
public import Idealize.ShloMosaic.Lib.Claim

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five output blocks of a point: the input's gradient, the projection's cotangent, and the three gains' sums. -/
abbrev Outs (F : FTy → Type) [FloatOps F] : Type :=
  Vec F S256x1024 .f32 × Vec F S256x5888 .bf16 × Vec F S1x1024 .f32 × Vec F S1x128 .f32 × Vec F S1x128 .f32

/-- The body's run at the first point, which zeroes the gains' sums. -/
def runA (c : Dev nD) (t : Fin cfg0.N) (h : t.val % 32 = 0) :=
  kernelRun0_A c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t) (ms0_26 t) (hs0_26 t) (ms0_27 t) (hs0_27 t) (ms0_28 t) (hs0_28 t) (ms0_29 t) (hs0_29 t)
    scM0_0 (Memref.isWhole_whole _) scM0_1 (Memref.isWhole_whole _)
    ((hcond0_0 t).mpr h)
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t)
    (iblk m c 20 t) (iblk m c 21 t) (iblk m c 22 t) (iblk m c 23 t) (iblk m c 24 t)

/-- The body's run at a later point, over what the point before left in the gains' sums. -/
def runB (c : Dev nD) (t : Fin cfg0.N) (h : ¬t.val % 32 = 0) (p : Outs F) :=
  kernelRun0_B c (grid0.coords t)
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t)
    (ms0_15 t) (hs0_15 t) (ms0_16 t) (hs0_16 t) (ms0_17 t) (hs0_17 t) (ms0_18 t) (hs0_18 t) (ms0_19 t) (hs0_19 t)
    (ms0_20 t) (hs0_20 t) (ms0_21 t) (hs0_21 t) (ms0_22 t) (hs0_22 t) (ms0_23 t) (hs0_23 t) (ms0_24 t) (hs0_24 t)
    (ms0_25 t) (hs0_25 t) (ms0_26 t) (hs0_26 t) (ms0_27 t) (hs0_27 t) (ms0_28 t) (hs0_28 t) (ms0_29 t) (hs0_29 t)
    scM0_0 (Memref.isWhole_whole _) scM0_1 (Memref.isWhole_whole _)
    (fun e => h ((hcond0_0 t).mp e))
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t)
    (iblk m c 14 t) (iblk m c 15 t) (iblk m c 16 t) (iblk m c 17 t) (iblk m c 18 t) (iblk m c 19 t)
    (iblk m c 20 t) (iblk m c 21 t) (iblk m c 22 t) (iblk m c 23 t) (iblk m c 24 t)
    p.2.2.1 p.2.2.2.1 p.2.2.2.2

/-! ## What the outputs hold -/

theorem coverA_25 (c : Dev nD) (t : Fin cfg0.N) (h : t.val % 32 = 0) (y : S256x1024.Idx) :
    ∃ pc ∈ (runA m c t h).1, y ∈ pc.1.set :=
  View.cover_of_tiledL (runA m c t h).1 S256x1024.size (by sl_kernel_rfl) y

theorem coverA_26 (c : Dev nD) (t : Fin cfg0.N) (h : t.val % 32 = 0) (y : S256x5888.Idx) :
    ∃ pc ∈ (runA m c t h).2.1, y ∈ pc.1.set :=
  View.cover_of_tiledL (runA m c t h).2.1 S256x256.size (by sl_kernel_rfl) y

theorem coverA_27 (c : Dev nD) (t : Fin cfg0.N) (h : t.val % 32 = 0) (y : S1x1024.Idx) :
    ∃ pc ∈ (runA m c t h).2.2.1, y ∈ pc.1.set :=
  View.cover_of_tiledL (runA m c t h).2.2.1 S1x1024.size (by sl_kernel_rfl) y

theorem coverA_28 (c : Dev nD) (t : Fin cfg0.N) (h : t.val % 32 = 0) (y : S1x128.Idx) :
    ∃ pc ∈ (runA m c t h).2.2.2.1, y ∈ pc.1.set :=
  View.cover_of_tiledL (runA m c t h).2.2.2.1 S1x128.size (by sl_kernel_rfl) y

theorem coverA_29 (c : Dev nD) (t : Fin cfg0.N) (h : t.val % 32 = 0) (y : S1x128.Idx) :
    ∃ pc ∈ (runA m c t h).2.2.2.2.1, y ∈ pc.1.set :=
  View.cover_of_tiledL (runA m c t h).2.2.2.2.1 S1x128.size (by sl_kernel_rfl) y

/-- The output blocks after the first point: the pieces its run stores, read back. -/
def outA (c : Dev nD) (t : Fin cfg0.N) (h : t.val % 32 = 0) : Outs F :=
  (VO0_25.read (Elt F) (VO0_25.writes (Elt F) VO0_25.junk (runA m c t h).1),
    VO0_26.read (Elt F) (VO0_26.writes (Elt F) VO0_26.junk (runA m c t h).2.1),
    VO0_27.read (Elt F) (VO0_27.writes (Elt F) VO0_27.junk (runA m c t h).2.2.1),
    VO0_28.read (Elt F) (VO0_28.writes (Elt F) VO0_28.junk (runA m c t h).2.2.2.1),
    VO0_29.read (Elt F) (VO0_29.writes (Elt F) VO0_29.junk (runA m c t h).2.2.2.2.1))

theorem coverB_25 (c : Dev nD) (t : Fin cfg0.N) (h : ¬t.val % 32 = 0) (p : Outs F) (y : S256x1024.Idx) :
    ∃ pc ∈ (runB m c t h p).1, y ∈ pc.1.set :=
  View.cover_of_tiledL (runB m c t h p).1 S256x1024.size (by sl_kernel_rfl) y

theorem coverB_26 (c : Dev nD) (t : Fin cfg0.N) (h : ¬t.val % 32 = 0) (p : Outs F) (y : S256x5888.Idx) :
    ∃ pc ∈ (runB m c t h p).2.1, y ∈ pc.1.set :=
  View.cover_of_tiledL (runB m c t h p).2.1 S256x256.size (by sl_kernel_rfl) y

theorem coverB_27 (c : Dev nD) (t : Fin cfg0.N) (h : ¬t.val % 32 = 0) (p : Outs F) (y : S1x1024.Idx) :
    ∃ pc ∈ (runB m c t h p).2.2.1, y ∈ pc.1.set :=
  View.cover_of_tiledL (runB m c t h p).2.2.1 S1x1024.size (by sl_kernel_rfl) y

theorem coverB_28 (c : Dev nD) (t : Fin cfg0.N) (h : ¬t.val % 32 = 0) (p : Outs F) (y : S1x128.Idx) :
    ∃ pc ∈ (runB m c t h p).2.2.2.1, y ∈ pc.1.set :=
  View.cover_of_tiledL (runB m c t h p).2.2.2.1 S1x128.size (by sl_kernel_rfl) y

theorem coverB_29 (c : Dev nD) (t : Fin cfg0.N) (h : ¬t.val % 32 = 0) (p : Outs F) (y : S1x128.Idx) :
    ∃ pc ∈ (runB m c t h p).2.2.2.2.1, y ∈ pc.1.set :=
  View.cover_of_tiledL (runB m c t h p).2.2.2.2.1 S1x128.size (by sl_kernel_rfl) y

/-- The output blocks after the a later point: the pieces its run stores, read back. -/
def outB (c : Dev nD) (t : Fin cfg0.N) (h : ¬t.val % 32 = 0) (p : Outs F) : Outs F :=
  (VO0_25.read (Elt F) (VO0_25.writes (Elt F) VO0_25.junk (runB m c t h p).1),
    VO0_26.read (Elt F) (VO0_26.writes (Elt F) VO0_26.junk (runB m c t h p).2.1),
    VO0_27.read (Elt F) (VO0_27.writes (Elt F) VO0_27.junk (runB m c t h p).2.2.1),
    VO0_28.read (Elt F) (VO0_28.writes (Elt F) VO0_28.junk (runB m c t h p).2.2.2.1),
    VO0_29.read (Elt F) (VO0_29.writes (Elt F) VO0_29.junk (runB m c t h p).2.2.2.2.1))

/-- The output blocks after each point. -/
def outsAt0 (c : Dev nD) : (n : ℕ) → n < cfg0.N → Outs F
  | 0, hn => outA m c ⟨0, hn⟩ rfl
  | n + 1, hn =>
    if h : (n + 1) % 32 = 0 then outA m c ⟨n + 1, hn⟩ h
    else outB m c ⟨n + 1, hn⟩ h (outsAt0 c n (Nat.lt_of_succ_lt hn))

theorem outsAt0_A (c : Dev nD) (t : Fin cfg0.N) (h : t.val % 32 = 0) : outsAt0 m c t.val t.isLt = outA m c t h := by
  obtain ⟨_ | n, hn⟩ := t
  · rfl
  · exact dif_pos h

/-- The output blocks after the point before `t`. -/
def prev (c : Dev nD) (t : Fin cfg0.N) : Outs F := outsAt0 m c (t.val - 1) (Nat.lt_of_le_of_lt (Nat.sub_le _ _) t.isLt)

theorem outsAt0_B (c : Dev nD) (t : Fin cfg0.N) (h : ¬t.val % 32 = 0) :
    outsAt0 m c t.val t.isLt = outB m c t h (prev m c t) := by
  obtain ⟨_ | n, hn⟩ := t
  · exact absurd (Nat.zero_mod _) h
  · exact dif_neg h

/-! ## The pipeline's proof data -/

/-- An input window keeps its block; an output window holds what the point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t.val t.isLt).1
    | ⟨26, _⟩ => (outsAt0 m c t.val t.isLt).2.1
    | ⟨27, _⟩ => (outsAt0 m c t.val t.isLt).2.2.1
    | ⟨28, _⟩ => (outsAt0 m c t.val t.isLt).2.2.2.1
    | ⟨29, _⟩ => (outsAt0 m c t.val t.isLt).2.2.2.2
    | ⟨_ + 30, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_25 (c : Dev nD) (t : Fin cfg0.N) : (dats m 0 c).after 25 t = (outsAt0 m c t.val t.isLt).1 := by
  dsimp only [dats]

theorem after0_26 (c : Dev nD) (t : Fin cfg0.N) : (dats m 0 c).after 26 t = (outsAt0 m c t.val t.isLt).2.1 := by
  dsimp only [dats]

theorem after0_27 (c : Dev nD) (t : Fin cfg0.N) : (dats m 0 c).after 27 t = (outsAt0 m c t.val t.isLt).2.2.1 := by
  dsimp only [dats]

theorem after0_28 (c : Dev nD) (t : Fin cfg0.N) : (dats m 0 c).after 28 t = (outsAt0 m c t.val t.isLt).2.2.2.1 := by
  dsimp only [dats]

theorem after0_29 (c : Dev nD) (t : Fin cfg0.N) : (dats m 0 c).after 29 t = (outsAt0 m c t.val t.isLt).2.2.2.2 := by
  dsimp only [dats]

/-- A gain's sum is carried from point to point. -/
theorem carried27 (c : Dev nD) (t : Fin cfg0.N) (h : ¬t.val % 32 = 0) (d) : (dats m 0 c).before 27 t d = (prev m c t).2.2.1 := by
  have hN : t.val < 32 := lt_of_lt_of_eq t.isLt (show cfg0.N = 32 from N_0)
  rw [Dat.before_out_kept _ 27 rfl t (by omega)
    (Bool.eq_false_iff.mpr fun e => by have := (flush0_27 _).mp e; dsimp only at this; omega) (fun _ => rfl) (fun _ _ => rfl)]
  dsimp only [dats, prev]

/-- A gain's sum is carried from point to point. -/
theorem carried28 (c : Dev nD) (t : Fin cfg0.N) (h : ¬t.val % 32 = 0) (d) : (dats m 0 c).before 28 t d = (prev m c t).2.2.2.1 := by
  have hN : t.val < 32 := lt_of_lt_of_eq t.isLt (show cfg0.N = 32 from N_0)
  rw [Dat.before_out_kept _ 28 rfl t (by omega)
    (Bool.eq_false_iff.mpr fun e => by have := (flush0_28 _).mp e; dsimp only at this; omega) (fun _ => rfl) (fun _ _ => rfl)]
  dsimp only [dats, prev]

/-- A gain's sum is carried from point to point. -/
theorem carried29 (c : Dev nD) (t : Fin cfg0.N) (h : ¬t.val % 32 = 0) (d) : (dats m 0 c).before 29 t d = (prev m c t).2.2.2.2 := by
  have hN : t.val < 32 := lt_of_lt_of_eq t.isLt (show cfg0.N = 32 from N_0)
  rw [Dat.before_out_kept _ 29 rfl t (by omega)
    (Bool.eq_false_iff.mpr fun e => by have := (flush0_29 _).mp e; dsimp only at this; omega) (fun _ => rfl) (fun _ _ => rfl)]
  dsimp only [dats, prev]

/-! ## The body's triple -/

/-- What the body finds at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- What it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [
    before0_0_of m (dats m 0 c) (A_eq m c 0) (fun t => by dsimp only [dats]),
    before0_1_of m (dats m 0 c) (A_eq m c 1) (fun t => by dsimp only [dats]),
    before0_2_of m (dats m 0 c) (A_eq m c 2) (fun t => by dsimp only [dats]),
    before0_3_of m (dats m 0 c) (A_eq m c 3) (fun t => by dsimp only [dats]),
    before0_4_of m (dats m 0 c) (A_eq m c 4) (fun t => by dsimp only [dats]),
    before0_5_of m (dats m 0 c) (A_eq m c 5) (fun t => by dsimp only [dats]),
    before0_6_of m (dats m 0 c) (A_eq m c 6) (fun t => by dsimp only [dats]),
    before0_7_of m (dats m 0 c) (A_eq m c 7) (fun t => by dsimp only [dats]),
    before0_8_of m (dats m 0 c) (A_eq m c 8) (fun t => by dsimp only [dats]),
    before0_9_of m (dats m 0 c) (A_eq m c 9) (fun t => by dsimp only [dats]),
    before0_10_of m (dats m 0 c) (A_eq m c 10) (fun t => by dsimp only [dats]),
    before0_11_of m (dats m 0 c) (A_eq m c 11) (fun t => by dsimp only [dats]),
    before0_12_of m (dats m 0 c) (A_eq m c 12) (fun t => by dsimp only [dats]),
    before0_13_of m (dats m 0 c) (A_eq m c 13) (fun t => by dsimp only [dats]),
    before0_14_of m (dats m 0 c) (A_eq m c 14) (fun t => by dsimp only [dats]),
    before0_15_of m (dats m 0 c) (A_eq m c 15) (fun t => by dsimp only [dats]),
    before0_16_of m (dats m 0 c) (A_eq m c 16) (fun t => by dsimp only [dats]),
    before0_17_of m (dats m 0 c) (A_eq m c 17) (fun t => by dsimp only [dats]),
    before0_18_of m (dats m 0 c) (A_eq m c 18) (fun t => by dsimp only [dats]),
    before0_19_of m (dats m 0 c) (A_eq m c 19) (fun t => by dsimp only [dats]),
    before0_20_of m (dats m 0 c) (A_eq m c 20) (fun t => by dsimp only [dats]),
    before0_21_of m (dats m 0 c) (A_eq m c 21) (fun t => by dsimp only [dats]),
    before0_22_of m (dats m 0 c) (A_eq m c 22) (fun t => by dsimp only [dats]),
    before0_23_of m (dats m 0 c) (A_eq m c 23) (fun t => by dsimp only [dats]),
    before0_24_of m (dats m 0 c) (A_eq m c 24) (fun t => by dsimp only [dats])]
  rw [show (dats m 0 c).Φ t.succ = (dats m 0 c).Φ t.castSucc from rfl,
    show (dats m 0 c).owesAt () t.succ = (dats m 0 c).owesAt () t.castSucc from rfl,
    show (dats m 0 c).after 0 t = iblk m c 0 t by dsimp only [dats],
    show (dats m 0 c).after 1 t = iblk m c 1 t by dsimp only [dats],
    show (dats m 0 c).after 2 t = iblk m c 2 t by dsimp only [dats],
    show (dats m 0 c).after 3 t = iblk m c 3 t by dsimp only [dats],
    show (dats m 0 c).after 4 t = iblk m c 4 t by dsimp only [dats],
    show (dats m 0 c).after 5 t = iblk m c 5 t by dsimp only [dats],
    show (dats m 0 c).after 6 t = iblk m c 6 t by dsimp only [dats],
    show (dats m 0 c).after 7 t = iblk m c 7 t by dsimp only [dats],
    show (dats m 0 c).after 8 t = iblk m c 8 t by dsimp only [dats],
    show (dats m 0 c).after 9 t = iblk m c 9 t by dsimp only [dats],
    show (dats m 0 c).after 10 t = iblk m c 10 t by dsimp only [dats],
    show (dats m 0 c).after 11 t = iblk m c 11 t by dsimp only [dats],
    show (dats m 0 c).after 12 t = iblk m c 12 t by dsimp only [dats],
    show (dats m 0 c).after 13 t = iblk m c 13 t by dsimp only [dats],
    show (dats m 0 c).after 14 t = iblk m c 14 t by dsimp only [dats],
    show (dats m 0 c).after 15 t = iblk m c 15 t by dsimp only [dats],
    show (dats m 0 c).after 16 t = iblk m c 16 t by dsimp only [dats],
    show (dats m 0 c).after 17 t = iblk m c 17 t by dsimp only [dats],
    show (dats m 0 c).after 18 t = iblk m c 18 t by dsimp only [dats],
    show (dats m 0 c).after 19 t = iblk m c 19 t by dsimp only [dats],
    show (dats m 0 c).after 20 t = iblk m c 20 t by dsimp only [dats],
    show (dats m 0 c).after 21 t = iblk m c 21 t by dsimp only [dats],
    show (dats m 0 c).after 22 t = iblk m c 22 t by dsimp only [dats],
    show (dats m 0 c).after 23 t = iblk m c 23 t by dsimp only [dats],
    show (dats m 0 c).after 24 t = iblk m c 24 t by dsimp only [dats], after0_25, after0_26, after0_27, after0_28,
    after0_29]
  rw [show (dats m 0 c).Φ t.castSucc = Pipeline.ΦA spec0 c from rfl, PhiA0_eq]
  by_cases h : t.val % 32 = 0
  · rw [outsAt0_A m c t h]
    unfold outA; dsimp only
    iintro ⟨⟨⟨HS0, HS1⟩, Hg⟩, Ho,
      ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩,
      ⟨%d17, H17⟩, ⟨%d18, H18⟩, ⟨%d19, H19⟩, ⟨%d20, H20⟩, ⟨%d21, H21⟩, ⟨%d22, H22⟩, ⟨%d23, H23⟩, ⟨%d24, H24⟩,
      ⟨%d25, H25⟩, ⟨%d26, H26⟩, ⟨%d27, H27⟩, ⟨%d28, H28⟩, ⟨%d29, H29⟩⟩
    iapply (runA m c t h).2.2.2.2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]; · iexact HS0
    isplitl [HS1]; · iexact HS1
    iintro ⟨
      H0, H1, H2, H3, H4, H5, H6, H7, H8, H9, H10, H11, H12, H13, H14, H15, H16, H17, H18, H19, H20, H21, H22,
      H23, H24, ⟨%e25, H25⟩, ⟨%e26, H26⟩, ⟨%e27, H27⟩, ⟨%e28, H28⟩, ⟨%e29, H29⟩, ⟨%fT0, HS0⟩, HS1⟩
    isplitl [HS0 HS1 Hg]
    · isplitl [HS0 HS1]
      · isplitl [HS0]
        · iexists _; unfold owns; iexists _; isplitr
          swap; · iexact HS0
          ipureintro; rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]
    · unfold owns; iexists _; isplitr; swap; · iexact H25
      ipureintro; exact View.read_writes_of_cover _ _ _ _ _ (coverA_25 m c t h)
    isplitl [H26]
    · unfold owns; iexists _; isplitr; swap; · iexact H26
      ipureintro; exact View.read_writes_of_cover _ _ _ _ _ (coverA_26 m c t h)
    isplitl [H27]
    · unfold owns; iexists _; isplitr; swap; · iexact H27
      ipureintro; exact View.read_writes_of_cover _ _ _ _ _ (coverA_27 m c t h)
    isplitl [H28]
    · unfold owns; iexists _; isplitr; swap; · iexact H28
      ipureintro; exact View.read_writes_of_cover _ _ _ _ _ (coverA_28 m c t h)
    unfold owns; iexists _; isplitr; swap; · iexact H29
    ipureintro; exact View.read_writes_of_cover _ _ _ _ _ (coverA_29 m c t h)
  · rw [outsAt0_B m c t h]
    simp only [carried27 m c t h, carried28 m c t h, carried29 m c t h]
    unfold outB; dsimp only
    iintro ⟨⟨⟨HS0, HS1⟩, Hg⟩, Ho,
      ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩,
      ⟨%d17, H17⟩, ⟨%d18, H18⟩, ⟨%d19, H19⟩, ⟨%d20, H20⟩, ⟨%d21, H21⟩, ⟨%d22, H22⟩, ⟨%d23, H23⟩, ⟨%d24, H24⟩,
      ⟨%d25, H25⟩, ⟨%d26, H26⟩, ⟨%d27, H27⟩, ⟨%d28, H28⟩, ⟨%d29, H29⟩⟩
    iapply (runB m c t h (prev m c t)).2.2.2.2.2.2 Set.univ _
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexists _; iexact H25
    isplitl [H26]; · iexists _; iexact H26
    isplitl [H27]; · iexact H27
    isplitl [H28]; · iexact H28
    isplitl [H29]; · iexact H29
    isplitl [HS0]; · iexact HS0
    isplitl [HS1]; · iexact HS1
    iintro ⟨
      H0, H1, H2, H3, H4, H5, H6, H7, H8, H9, H10, H11, H12, H13, H14, H15, H16, H17, H18, H19, H20, H21, H22,
      H23, H24, ⟨%e25, H25⟩, ⟨%e26, H26⟩, ⟨%e27, H27⟩, ⟨%e28, H28⟩, ⟨%e29, H29⟩, ⟨%fT0, HS0⟩, HS1⟩
    isplitl [HS0 HS1 Hg]
    · isplitl [HS0 HS1]
      · isplitl [HS0]
        · iexists _; unfold owns; iexists _; isplitr
          swap; · iexact HS0
          ipureintro; rfl
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]
    · unfold owns; iexists _; isplitr; swap; · iexact H25
      ipureintro; exact View.read_writes_of_cover _ _ _ _ _ (coverB_25 m c t h (prev m c t))
    isplitl [H26]
    · unfold owns; iexists _; isplitr; swap; · iexact H26
      ipureintro; exact View.read_writes_of_cover _ _ _ _ _ (coverB_26 m c t h (prev m c t))
    isplitl [H27]
    · unfold owns; iexists _; isplitr; swap; · iexact H27
      ipureintro; exact View.read_writes_of_cover _ _ _ _ _ (coverB_27 m c t h (prev m c t))
    isplitl [H28]
    · unfold owns; iexists _; isplitr; swap; · iexact H28
      ipureintro; exact View.read_writes_of_cover _ _ _ _ _ (coverB_28 m c t h (prev m c t))
    unfold owns; iexists _; isplitr; swap; · iexact H29
    ipureintro; exact View.read_writes_of_cover _ _ _ _ _ (coverB_29 m c t h (prev m c t))

theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body at every point of the grid. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of the program -/

set_option backward.isDefEq.respectTransparency.types false in
/-- Every execution ends, with the pipeline's arrays as the proof data says and every semaphore at zero. -/
theorem run_quiet : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiet m ρ)

/-- What the frame claim asks of a final state: the arguments as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_quiet m ρ))

end Cert.Kernel5Ideal.Gen

namespace Cert.Kernel5Ideal.Value

open Idealize.ShloMosaic Idealize.ShloMosaic.TcCoe Idealize.SL.Sem Cert.Kernel5Ideal.Gen

variable {F : FTy → Type} [FloatOps F]
variable (m : (ℓ : Loc nD τ sig) → Buf (Elt F) ℓ) (ρ : Dev nD → PrngReg)

/-- An argument a window stages is as launched. -/
theorem kept_in (r : PUnit × MemSt nD τ sig (Elt F)) (h : Pipeline.FramePost cfgs (dats m) 0 (V m) r) (c : Dev nD)
    (w : Fin cfg0.W) (hw : (cfg0.win w).isOut = false) :
    r.2.mem ((c : Thread nD τ).loc (Pipeline.arrRef spec0 w)) = V m c (Pipeline.arrRef spec0 w) :=
  ((h c).1 w).trans (((dats m 0 c).arrAt_in w hw _).trans (A_eq m c w))

/-- The run with the five outputs named and the arguments as launched. -/
theorem run_blocks : θ_run defs (onTc (τ := τ) (main (F := F))) ⟨m, fun _ => 0, ρ⟩ fun r => ∀ c : Dev nD,
      r.2.mem ((c : Thread nD τ).loc main_v105_0) = (dats m 0 c).arrAt 25 cfg0.N
      ∧ r.2.mem ((c : Thread nD τ).loc main_v105_1) = (dats m 0 c).arrAt 26 cfg0.N
      ∧ r.2.mem ((c : Thread nD τ).loc main_v105_2) = (dats m 0 c).arrAt 27 cfg0.N
      ∧ r.2.mem ((c : Thread nD τ).loc main_v105_3) = (dats m 0 c).arrAt 28 cfg0.N
      ∧ r.2.mem ((c : Thread nD τ).loc main_v105_4) = (dats m 0 c).arrAt 29 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1 25, (h c).1 26, (h c).1 27, (h c).1 28, (h c).1 29,
    (kept_in m r h c 1 rfl).trans (V_main_arg0 m c),
    (kept_in m r h c 22 rfl).trans (V_main_arg1 m c),
    ((h c).2 main_arg2 (Pipeline.mem_restRefs_of main_arg2 (by decide) (by decide))).trans (V_main_arg2 m c),
    (kept_in m r h c 23 rfl).trans (V_main_arg3 m c),
    (kept_in m r h c 24 rfl).trans (V_main_arg4 m c),
    (kept_in m r h c 0 rfl).trans (V_main_arg5 m c),
    (kept_in m r h c 2 rfl).trans (V_main_arg6 m c),
    ((h c).2 main_arg7 (Pipeline.mem_restRefs_of main_arg7 (by decide) (by decide))).trans (V_main_arg7 m c),
    (kept_in m r h c 4 rfl).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩) (run_main m ρ)

end Cert.Kernel5Ideal.Value
-- ==== Proof.Reals.lean ====
/-
  Real numbers inside the extended reals: what the value proofs of this certificate share. Every argument of a claim
  with a finiteness precondition is the coercion of a real array; the lemmas here push that coercion through the
  operations the programs use, from the leaves outwards, so that each claim ends in
  an equation of real numbers.
-/
module

public import Idealize.ShloMosaic.Lib.Pipeline.ValueKit
public import Idealize.ShloMosaic.PureOps.Ideal

@[expose] public section

noncomputable section

namespace Cert.Reals

open Idealize.ShloMosaic

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem coe_max_zero (a : ℝ) : max (a : EReal) 0 = ((max a 0 : ℝ) : EReal) := coe_max a 0

theorem coe_div (a b : ℝ) (hb : b ≠ 0) : Ideal.div (a : EReal) (b : EReal) = ((a / b : ℝ) : EReal) := by
  rw [Ideal.div_coe hb, ← EReal.coe_mul, mul_one_div]

/-- The largest of finitely many reals, started at −∞, is a real number. -/
theorem fold_max_real {ι : Type} (s : Finset ι) (hs : s.Nonempty) (f : ι → EReal) (hf : ∀ i, ∃ r : ℝ, f i = (r : EReal)) :
    ∃ M : ℝ, s.fold max ⊥ f = (M : EReal) := by
  classical
  induction s using Finset.induction_on with
  | empty => exact absurd hs (by simp)
  | insert a s ha ih =>
    obtain ⟨r, hr⟩ := hf a
    rw [Finset.fold_insert ha, hr]
    rcases s.eq_empty_or_nonempty with h | h
    · exact ⟨r, by simp [h]⟩
    · obtain ⟨M, hM⟩ := ih h
      exact ⟨max r M, by rw [hM, coe_max]⟩

/-- The host's maximum over one axis of a real array is a real number. -/
theorem hostMax_real {s t u : Shape} {a : Fin s.rank} (x : s.Idx → Ideal .f32) (init : u.Idx → Ideal .f32)
    (h' : s.ReducesTo [a] t) (h : s.Reduces [a] t) (hu : 0 < u.numel) (j : t.Idx) (ha : 0 < s.size a)
    (hi : init (Shape.Idx.first hu) = (⊥ : EReal)) (hx : ∀ i, ∃ r : ℝ, x i = ((r : EReal) : Ideal .f32)) :
    ∃ M : ℝ, Host.reduce FloatOps.maximumf x init h' hu j = ((M : EReal) : Ideal .f32) := by
  rw [Host.reduce_eq_fold_single _ x init h' h hu j, hi]
  exact fold_max_real _ ⟨⟨0, ha⟩, Finset.mem_univ _⟩ _ fun i => hx _

/-- A ReLU gradient with the factor of the square: where the switch is off, the factor is already zero. -/
theorem gate_coe (c p : ℝ) :
    (if 0 < (p : EReal) then ((c * (2 * max p 0) : ℝ) : EReal) else 0) = ((c * (2 * max p 0) : ℝ) : EReal) := by
  split
  · rfl
  · next h => rw [max_eq_right (not_lt.mp fun hp => h (by exact_mod_cast hp))]; simp

/-- A number that is zero when subtracted from itself is a real number. -/
theorem exists_real {x : EReal} (h : x - x = 0) : ∃ r : ℝ, x = (r : EReal) := by
  induction x using EReal.rec with
  | bot => exact absurd h (by simp)
  | coe r => exact ⟨r, rfl⟩
  | top => exact absurd h (by simp)

/-! ## The constants of the programs, as reals -/

/-- The f32 word of `1e-6`. -/
def eps : ℝ := 8796093 / 8796093022208

theorem eps_pos : 0 < eps := by unfold eps; norm_num

theorem word_eps : Ideal.ofBits .f32 897988541#32 = ((eps : ℝ) : EReal) := by
  simp [Ideal.ofBits, Ideal.ieee, eps, -EReal.coe_mul]; norm_num
theorem word_1024 : Ideal.ofBits .f32 1149239296#32 = ((1024 : ℝ) : EReal) := by
  simp [Ideal.ofBits, Ideal.ieee, -EReal.coe_mul]; norm_num
theorem word_2 : Ideal.ofBits .f32 1073741824#32 = ((2 : ℝ) : EReal) := by
  simp [Ideal.ofBits, Ideal.ieee, -EReal.coe_mul]; norm_num
theorem word_1 : Ideal.ofBits .f32 1065353216#32 = ((1 : ℝ) : EReal) := by
  simp [Ideal.ofBits, Ideal.ieee, -EReal.coe_mul]; norm_num
theorem word_bot : Ideal.ofBits .f32 4286578688#32 = (⊥ : EReal) := by
  simp [Ideal.ofBits, Ideal.ieee, -EReal.coe_mul]
theorem word_neg_half : Ideal.ofBits .f32 3204448256#32 = ((-1 / 2 : ℝ) : EReal) := by
  simp [Ideal.ofBits, Ideal.ieee, -EReal.coe_mul]; norm_num

theorem word_half : Ideal.ofBits .f32 1056964608#32 = ((1 / 2 : ℝ) : EReal) := by
  simp [Ideal.ofBits, Ideal.ieee, -EReal.coe_mul]; norm_num
theorem word_inv_1024 : Ideal.ofBits .f32 981467136#32 = ((1 / 1024 : ℝ) : EReal) := by
  simp [Ideal.ofBits, Ideal.ieee, -EReal.coe_mul]; norm_num

/-! ## The logistic gate -/

/-- The logistic function. -/
def sigmoid (z : ℝ) : ℝ := 1 / (1 + Real.exp (-z))

theorem sigmoid_coe (z : ℝ) : Ideal.div ((1 : ℝ) : EReal) ((1 + Real.exp (-z) : ℝ) : EReal) = ((sigmoid z : ℝ) : EReal) :=
  coe_div _ _ (by positivity)

/-! ## The root mean square norm -/

/-- The mean square of `n` reals plus the norm's epsilon, the mean taken with the divisor `N`. -/
def meanSq {n : ℕ} (N : ℝ) (f : Fin n → ℝ) : ℝ := (∑ k, f k * f k) / N + eps

theorem meanSq_pos {n : ℕ} {N : ℝ} (hN : 0 < N) (f : Fin n → ℝ) : 0 < meanSq N f :=
  add_pos_of_nonneg_of_pos (div_nonneg (Finset.sum_nonneg fun k _ => mul_self_nonneg (f k)) hN.le) eps_pos

/-- The reciprocal root of the mean square. -/
def rstd {n : ℕ} (N : ℝ) (f : Fin n → ℝ) : ℝ := (√(meanSq N f))⁻¹

theorem rsqrt_coe {v : ℝ} (hv : 0 < v) : Ideal.rsqrt (v : EReal) = (((√v)⁻¹ : ℝ) : EReal) := by
  show (if v < 0 then (⊥ : EReal) else if v = 0 then ⊤ else (((√v)⁻¹ : ℝ) : EReal)) = _
  rw [if_neg hv.le.not_gt, if_neg hv.ne']

/-- The programs' rsqrt of the mean square, on real entries. -/
theorem rsqrt_meanSq {n : ℕ} {N : ℝ} (hN : 0 < N) (f : Fin n → ℝ) :
    Ideal.rsqrt ((((∑ k, f k * f k) / N + eps : ℝ)) : EReal) = ((rstd N f : ℝ) : EReal) :=
  rsqrt_coe (meanSq_pos hN f)

theorem coe_div_meanSq {n : ℕ} {N : ℝ} (hN : 0 < N) (f : Fin n → ℝ) (a : ℝ) :
    Ideal.div (a : EReal) (((∑ k, f k * f k) / N + eps : ℝ) : EReal) = ((a / meanSq N f : ℝ) : EReal) :=
  coe_div a _ (meanSq_pos hN f).ne'

theorem rstd_div_meanSq {n : ℕ} {N : ℝ} (hN : 0 < N) (f : Fin n → ℝ) :
    rstd N f / meanSq N f = rstd N f * rstd N f * rstd N f := by
  have h : 0 < meanSq N f := meanSq_pos hN f
  have hs : √(meanSq N f) * √(meanSq N f) = meanSq N f := Real.mul_self_sqrt h.le
  have hp : √(meanSq N f) ≠ 0 := (Real.sqrt_pos.mpr h).ne'
  unfold rstd
  rw [div_eq_mul_inv, ← hs, mul_inv]
  rw [hs]; ring

/-- The derivative of `x ↦ x * rstd x` on the cotangent `u`, as reverse mode writes it (through the square, the mean and
    the reciprocal root) and as the kernels write it (`u` less its part along the normalised row, times `rstd`). -/
theorem norm_bwd {n : ℕ} {N : ℝ} (hN : 0 < N) (x u : Fin n → ℝ) (d : Fin n) :
    u d * rstd N x + x d * ((∑ k, x k * u k) * (-1 / 2 * (rstd N x / meanSq N x)) / N)
        + (∑ k, x k * u k) * (-1 / 2 * (rstd N x / meanSq N x)) / N * x d
      = (u d - x d * rstd N x * ((∑ k, u k * (x k * rstd N x)) / N)) * rstd N x := by
  rw [rstd_div_meanSq hN, show (∑ k, u k * (x k * rstd N x)) = (∑ k, x k * u k) * rstd N x by
    rw [Finset.sum_mul]; exact Finset.sum_congr rfl fun k _ => by ring]
  ring

end Cert.Reals

end
-- ==== Proof.Finite.lean ====
/-
  What a finiteness precondition says: an array that a program finds equal to zero when subtracted from itself has real
  entries.
-/
module

public import proofs.«01_k».proof.Proof.Reals
public import Idealize.ShloMosaic.Lib.StableHlo

@[expose] public section

noncomputable section

namespace Cert.Reals

open Idealize.ShloMosaic

theorem reals_of_finite {S : Shape} {x : FVec Ideal S .f32} {z : FVec Ideal S .f32}
    (h : cmpf .oeq (subf x x) z = fun _ => 1#1) (hz : ∀ i, z i = (0 : EReal)) : ∃ f : S.Idx → ℝ, ∀ i, x i = ((f i : ℝ) : EReal) := by
  have : ∀ i, ∃ r : ℝ, x i = (r : EReal) := fun i => by
    have hi : BitVec.ofBool (decide ((x i : EReal) - x i = z i)) = 1#1 := congrFun h i
    apply exists_real
    rw [← hz i]
    by_contra hne
    rw [decide_eq_false hne] at hi
    exact absurd hi (by decide)
  exact ⟨fun i => (this i).choose, fun i => (this i).choose_spec⟩

end Cert.Reals
end
-- ==== Proof.MlpModel.lean ====
/-
  The MLP block's backward pass over real arrays: what both programs of the first pair compute. `X` the residual stream,
  `G` the norm's gain, `W1`, `W2` the two weight matrices (in reference.py's orientation), `CT` the cotangent.
-/
module

public import proofs.«01_k».proof.Proof.Reals

@[expose] public section

noncomputable section

namespace Cert.Mlp

open Cert.Reals

variable (X : Fin 8192 → Fin 1024 → ℝ) (G : Fin 1024 → ℝ) (W1 : Fin 1024 → Fin 4096 → ℝ) (W2 : Fin 4096 → Fin 1024 → ℝ)
  (CT : Fin 8192 → Fin 1024 → ℝ)

/-- The hidden layer before its activation. -/
def pre (t : Fin 8192) (f : Fin 4096) : ℝ := ∑ d, X t d * rstd 1024 (X t) * G d * W1 d f

/-- The gradient of the hidden layer before its activation. -/
def dpre (t : Fin 8192) (f : Fin 4096) : ℝ := (∑ d, CT t d * W2 f d) * (2 * max (pre X G W1 t f) 0)

/-- The gradient of the normalised row. -/
def dh (t : Fin 8192) (d : Fin 1024) : ℝ := ∑ f, dpre X G W1 W2 CT t f * W1 d f

/-- The gradient of the norm's gain. -/
def dg (d : Fin 1024) : ℝ := ∑ t, dh X G W1 W2 CT t d * (X t d * rstd 1024 (X t))

/-- The gradient of the residual stream. -/
def dx (t : Fin 8192) (d : Fin 1024) : ℝ :=
  CT t d + (dh X G W1 W2 CT t d * G d
    - X t d * rstd 1024 (X t) * ((∑ k, dh X G W1 W2 CT t k * G k * (X t k * rstd 1024 (X t))) / 1024)) * rstd 1024 (X t)

end Cert.Mlp

end
-- ==== Proof.MlpRef.lean ====
/-
  The MLP reference's three results, on finite arguments, are the real model of `MlpModel.lean`.
-/
module
public import proofs.«01_k».proof.Proof.Gen.ReferenceIdeal.Read
public import proofs.«01_k».proof.Proof.MlpModel
@[expose] public section
set_option maxRecDepth 16384
noncomputable section
namespace Cert.ReferenceIdeal.Value
open Cert.ReferenceIdeal Cert.ReferenceIdeal.Read Idealize.ShloMosaic Idealize.ShloMosaic.TcCoe Idealize.SL.Sem Cert.Reals

variable (x0 : (⟨S8192x1024, .f32⟩ : BufTy).Contents (Elt Ideal)) (x1 : (⟨S1x1024, .f32⟩ : BufTy).Contents (Elt Ideal))
  (x2 : (⟨S1x1024x4096, .f32⟩ : BufTy).Contents (Elt Ideal)) (x3 : (⟨S1x4096x1024, .f32⟩ : BufTy).Contents (Elt Ideal))
  (x4 : (⟨S8192x1024, .f32⟩ : BufTy).Contents (Elt Ideal))
  (X : Fin 8192 → Fin 1024 → ℝ) (G : Fin 1024 → ℝ) (W1 : Fin 1024 → Fin 4096 → ℝ) (W2 : Fin 4096 → Fin 1024 → ℝ)
  (CT : Fin 8192 → Fin 1024 → ℝ)
  (h0 : ∀ t d, x0 (ix2 t d) = ((X t d : ℝ) : EReal)) (h1 : ∀ d, x1 (ix2 0 d) = ((G d : ℝ) : EReal))
  (h2 : ∀ d f, x2 (ix3 0 d f) = ((W1 d f : ℝ) : EReal)) (h3 : ∀ f d, x3 (ix3 0 f d) = ((W2 f d : ℝ) : EReal))
  (h4 : ∀ t d, x4 (ix2 t d) = ((CT t d : ℝ) : EReal))
include h0 h1 h2 h3 h4

theorem res_dpre (t : Fin 8192) (f : Fin 4096) :
    val_main_v86 (F := Ideal) x0 x1 x2 x3 x4 (ix2 t f) = ((Mlp.dpre X G W1 W2 CT t f : ℝ) : EReal) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_cst, val_main_call0_v0, val_main_v16, val_main_cst_2, val_main_v17, val_main_v18, val_main_cst_3, val_main_v19, val_main_v20, val_main_cst_4, val_main_v21, val_main_v22, val_main_v23, val_main_v24, val_main_v25, val_main_v26, val_main_cst_5, val_main_v27, val_main_v28, val_main_v29, val_main_v30, val_main_cst_6, val_main_v31, val_main_v32, val_main_cst_7, val_main_v33, val_main_v34, val_main_cst_8, val_main_v35, val_main_v36, val_main_v37, val_main_v38, val_main_cst_9, val_main_v39, val_main_v40, val_main_v41, val_main_v42, val_main_v43, val_main_v44, val_main_v45, val_main_v46, val_main_v47, val_main_call1_cst, val_main_call1_v0, val_main_v48, val_main_cst_10, val_main_v49, val_main_v50, val_main_cst_11, val_main_v51, val_main_v52, val_main_cst_12, val_main_v53, val_main_v54, val_main_v55, val_main_v56, val_main_v57, val_main_v58, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_v74, val_main_v75, val_main_v76, val_main_cst_17, val_main_v77, val_main_v78, val_main_cst_18, val_main_v79, val_main_v80, val_main_v81, val_main_v82, val_main_v83, val_main_v84, val_main_v85, val_main_v86]
  simp only [h0, h1, h2, h3, h4, word_eps, word_1024, word_2, word_neg_half, ← EReal.coe_mul, ← EReal.coe_add, coe_sum,
    coe_max_zero, coe_div _ _ (show (1024 : ℝ) ≠ 0 by norm_num), rsqrt_meanSq (show (0 : ℝ) < 1024 by norm_num), gate_coe,
    coe_div_meanSq (show (0 : ℝ) < 1024 by norm_num)]
  rfl

theorem res_dg (d : Fin 1024) :
    val_main_v85 (F := Ideal) x0 x1 x2 x3 x4 (ix2 0 d) = ((Mlp.dg X G W1 W2 CT d : ℝ) : EReal) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_cst, val_main_call0_v0, val_main_v16, val_main_cst_2, val_main_v17, val_main_v18, val_main_cst_3, val_main_v19, val_main_v20, val_main_cst_4, val_main_v21, val_main_v22, val_main_v23, val_main_v24, val_main_v25, val_main_v26, val_main_cst_5, val_main_v27, val_main_v28, val_main_v29, val_main_v30, val_main_cst_6, val_main_v31, val_main_v32, val_main_cst_7, val_main_v33, val_main_v34, val_main_cst_8, val_main_v35, val_main_v36, val_main_v37, val_main_v38, val_main_cst_9, val_main_v39, val_main_v40, val_main_v41, val_main_v42, val_main_v43, val_main_v44, val_main_v45, val_main_v46, val_main_v47, val_main_call1_cst, val_main_call1_v0, val_main_v48, val_main_cst_10, val_main_v49, val_main_v50, val_main_cst_11, val_main_v51, val_main_v52, val_main_cst_12, val_main_v53, val_main_v54, val_main_v55, val_main_v56, val_main_v57, val_main_v58, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_v74, val_main_v75, val_main_v76, val_main_cst_17, val_main_v77, val_main_v78, val_main_cst_18, val_main_v79, val_main_v80, val_main_v81, val_main_v82, val_main_v83, val_main_v84, val_main_v85, val_main_v86]
  simp only [h0, h1, h2, h3, h4, word_eps, word_1024, word_2, word_neg_half, ← EReal.coe_mul, ← EReal.coe_add, coe_sum,
    coe_max_zero, coe_div _ _ (show (1024 : ℝ) ≠ 0 by norm_num), rsqrt_meanSq (show (0 : ℝ) < 1024 by norm_num), gate_coe,
    coe_div_meanSq (show (0 : ℝ) < 1024 by norm_num), Finset.sum_const,
    Finset.card_univ, Fintype.card_fin, one_smul]
  exact congrArg _ (Finset.sum_congr rfl fun t _ => mul_comm _ _)

theorem res_dx (t : Fin 8192) (d : Fin 1024) :
    val_main_v84 (F := Ideal) x0 x1 x2 x3 x4 (ix2 t d) = ((Mlp.dx X G W1 W2 CT t d : ℝ) : EReal) := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_call0_cst, val_main_call0_v0, val_main_v16, val_main_cst_2, val_main_v17, val_main_v18, val_main_cst_3, val_main_v19, val_main_v20, val_main_cst_4, val_main_v21, val_main_v22, val_main_v23, val_main_v24, val_main_v25, val_main_v26, val_main_cst_5, val_main_v27, val_main_v28, val_main_v29, val_main_v30, val_main_cst_6, val_main_v31, val_main_v32, val_main_cst_7, val_main_v33, val_main_v34, val_main_cst_8, val_main_v35, val_main_v36, val_main_v37, val_main_v38, val_main_cst_9, val_main_v39, val_main_v40, val_main_v41, val_main_v42, val_main_v43, val_main_v44, val_main_v45, val_main_v46, val_main_v47, val_main_call1_cst, val_main_call1_v0, val_main_v48, val_main_cst_10, val_main_v49, val_main_v50, val_main_cst_11, val_main_v51, val_main_v52, val_main_cst_12, val_main_v53, val_main_v54, val_main_v55, val_main_v56, val_main_v57, val_main_v58, val_main_v59, val_main_v60, val_main_cst_13, val_main_v61, val_main_v62, val_main_v63, val_main_v64, val_main_cst_14, val_main_v65, val_main_v66, val_main_v67, val_main_v68, val_main_cst_15, val_main_v69, val_main_v70, val_main_cst_16, val_main_v71, val_main_v72, val_main_v73, val_main_v74, val_main_v75, val_main_v76, val_main_cst_17, val_main_v77, val_main_v78, val_main_cst_18, val_main_v79, val_main_v80, val_main_v81, val_main_v82, val_main_v83, val_main_v84, val_main_v85, val_main_v86]
  simp only [h0, h1, h2, h3, h4, word_eps, word_1024, word_2, word_neg_half, ← EReal.coe_mul, ← EReal.coe_add, coe_sum,
    coe_max_zero, coe_div _ _ (show (1024 : ℝ) ≠ 0 by norm_num), rsqrt_meanSq (show (0 : ℝ) < 1024 by norm_num), gate_coe,
    coe_div_meanSq (show (0 : ℝ) < 1024 by norm_num), Finset.sum_const, Finset.card_univ,
    Fintype.card_fin, one_smul]
  refine congrArg _ ?_
  rw [Mlp.dx, ← norm_bwd (show (0 : ℝ) < 1024 by norm_num) (X t) (fun k => Mlp.dh X G W1 W2 CT t k * G k) d, ← add_assoc,
    ← add_assoc]
  rfl

end Cert.ReferenceIdeal.Value
-- ==== Proof.MlpKernel.lean ====
/-
  The MLP backward kernel: what its three result arrays hold after the run, on finite arguments, is the real model of
  `MlpModel.lean`.
-/
module
public import proofs.«01_k».proof.Proof.Gen.KernelIdeal.Value
public import proofs.«01_k».proof.Proof.MlpModel
public import Idealize.ShloMosaic.Lib.Pipeline.ValueKit
@[expose] public section
set_option maxRecDepth 16384
noncomputable section
namespace Cert.KernelIdeal.Value
open Cert.KernelIdeal Cert.KernelIdeal.Gen Idealize.ShloMosaic Idealize.ShloMosaic.TcCoe Idealize.SL.Sem  Idealize.ShloMosaic.StableHlo Cert.Reals
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] ∧ win0_7.index t = ![t.val, 0] ∧ win0_8.index t = ![0, 0] :=
  (by decide +kernel : ∀ t : Fin grid0.N, _)

/-- Eight chunks of 512 columns, in the kernel's order, are the 4096 columns. -/
theorem sum_chunks (f : Fin 4096 → ℝ) :
    (∑ k : Fin 512, f ⟨k, by omega⟩) + (∑ k : Fin 512, f ⟨512 + k, by omega⟩) + (∑ k : Fin 512, f ⟨1024 + k, by omega⟩)
      + (∑ k : Fin 512, f ⟨1536 + k, by omega⟩) + (∑ k : Fin 512, f ⟨2048 + k, by omega⟩)
      + (∑ k : Fin 512, f ⟨2560 + k, by omega⟩) + (∑ k : Fin 512, f ⟨3072 + k, by omega⟩)
      + (∑ k : Fin 512, f ⟨3584 + k, by omega⟩) = ∑ l, f l := by
  rw [← Fin.sum_mul_add_fin 8 512 f, Fin.sum_univ_eight]
  simp

/-- The row of the whole arrays that row `p` of grid point `t`'s blocks is. -/
def row (t : Fin cfg0.N) (p : Fin 512) : Fin 8192 := ⟨t.val * 512 + p.val, by have := t.isLt; have := p.isLt; have : cfg0.N = 16 := N_0; omega⟩

section
variable (c : Dev nD)
  (X : Fin 8192 → Fin 1024 → ℝ) (G : Fin 1024 → ℝ) (W1 : Fin 1024 → Fin 4096 → ℝ) (W2 : Fin 4096 → Fin 1024 → ℝ)
  (CT : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ d f, m ((c : Thread nD τ).loc main_arg2) (ix3 0 d f) = ((W1 d f : ℝ) : EReal))
  (h3 : ∀ f d, m ((c : Thread nD τ).loc main_arg3) (ix3 0 f d) = ((W2 f d : ℝ) : EReal))
  (h4 : ∀ t d, m ((c : Thread nD τ).loc main_arg4) (ix2 t d) = ((CT t d : ℝ) : EReal))

include h2 in
theorem V2 (p : Fin 4096) (d : Fin 1024) : V m c main_v2 (ix2 p d) = ((W1 d p : ℝ) : EReal) := by
  simp only [V, hostOps0, hostOps0_1, hostOps0_2, List.flatten_cons, List.flatten_nil, List.append_nil, List.cons_append,
      List.nil_append, TRef.binary, TRef.nullary, TRef.unary, TRef.toBuf, TRef.ofBuf, cast_eq]
  after_results_simp
  pointwise
  rw [h2]

include h3 in
theorem V4 (p : Fin 4096) (d : Fin 1024) : V m c main_v4 (ix2 p d) = ((W2 p d : ℝ) : EReal) := by
  simp only [V, hostOps0, hostOps0_1, hostOps0_2, List.flatten_cons, List.flatten_nil, List.append_nil, List.cons_append,
      List.nil_append, TRef.binary, TRef.nullary, TRef.unary, TRef.toBuf, TRef.ofBuf, cast_eq]
  after_results_simp
  pointwise
  rw [h3]

include h0 h1 h2 in
theorem V22 (p : Fin 8192) (f : Fin 4096) : V m c main_v22 (ix2 p f) = ((max (Mlp.pre X G W1 p f) 0 : ℝ) : EReal) := by
  simp only [V, hostOps0, hostOps0_1, hostOps0_2, List.flatten_cons, List.flatten_nil, List.append_nil, List.cons_append,
      List.nil_append, TRef.binary, TRef.nullary, TRef.unary, TRef.toBuf, TRef.ofBuf, cast_eq]
  after_results_simp
  pointwise
  simp only [h0, h1, h2, word_eps, word_1024, ← EReal.coe_mul, ← EReal.coe_add, coe_sum,
    coe_max_zero, coe_div _ _ (show (1024 : ℝ) ≠ 0 by norm_num), rsqrt_meanSq (show (0 : ℝ) < 1024 by norm_num)]
  rfl

include h4 in
theorem b0 (t : Fin cfg0.N) (p : Fin 512) (d : Fin 1024) : iblk m c 0 t (ix2 p d) = ((CT (row t p) d : ℝ) : EReal) := by
  rw [← h4]; have : ((row t p) : ℕ) = t.val * 512 + p.val := rfl; blk_point [iblk, V, idx t]

include h0 in
theorem b1 (t : Fin cfg0.N) (p : Fin 512) (d : Fin 1024) : iblk m c 1 t (ix2 p d) = ((X (row t p) d : ℝ) : EReal) := by
  rw [← h0]; have : ((row t p) : ℕ) = t.val * 512 + p.val := rfl; blk_point [iblk, V, idx t]
include h1 in
theorem b5 (t : Fin cfg0.N) (d : Fin 1024) : iblk m c 5 t (ix2 0 d) = ((G d : ℝ) : EReal) := by
  rw [← h1]; blk_point [iblk, V, idx t]
include h0 h1 h2 in
theorem b2 (t : Fin cfg0.N) (p : Fin 512) (f : Fin 4096) : iblk m c 2 t (ix2 p f) = ((max (Mlp.pre X G W1 (row t p) f) 0 : ℝ) : EReal) := by
  rw [← V22 m c X G W1 h0 h1 h2]; have : ((row t p) : ℕ) = t.val * 512 + p.val := rfl
  blk_point [iblk, idx t]
include h2 in
theorem b3 (t : Fin cfg0.N) (p : Fin 4096) (d : Fin 1024) : iblk m c 3 t (ix2 p d) = ((W1 d p : ℝ) : EReal) := by
  rw [← V2 m c W1 h2]; blk_point [iblk, idx t]
include h3 in
theorem b4 (t : Fin cfg0.N) (p : Fin 4096) (d : Fin 1024) : iblk m c 4 t (ix2 p d) = ((W2 p d : ℝ) : EReal) := by
  rw [← V4 m c W2 h3]; blk_point [iblk, idx t]

/-- The gradient of the normalised rows of grid point `t`'s block, as the body accumulates it over the eight chunks. -/
def dhBlock (t : Fin cfg0.N) : Vec Ideal S512x1024 .f32 :=
  (k0_pay23
        (k0_pay20 (k0_pay2 (iblk m c 0 t))
          (k0_pay18 (View.ld (iblk m c 4 t) (Rect.unit ![3072, 0] ![512, 1024] inb_S4096x1024_S512x1024_3072_0)))
          (constant S512x512 FTy.f32 0#32)
          (View.ld (iblk m c 2 t) (Rect.unit ![0, 3072] ![512, 512] inb_S512x4096_S512x512_0_3072))
          (k0_pay17 (k0_pay2 (iblk m c 0 t))
            (View.ld (iblk m c 4 t) (Rect.unit ![2560, 0] ![512, 1024] inb_S4096x1024_S512x1024_2560_0))
            (View.ld (iblk m c 2 t) (Rect.unit ![0, 2560] ![512, 512] inb_S512x4096_S512x512_0_2560))
            (k0_pay15
              (k0_pay14 (k0_pay2 (iblk m c 0 t))
                (View.ld (iblk m c 4 t) (Rect.unit ![2048, 0] ![512, 1024] inb_S4096x1024_S512x1024_2048_0))
                (View.ld (iblk m c 2 t) (Rect.unit ![0, 2048] ![512, 512] inb_S512x4096_S512x512_0_2048)))
              (k0_pay13 (k0_pay2 (iblk m c 0 t))
                (View.ld (iblk m c 4 t) (Rect.unit ![1536, 0] ![512, 1024] inb_S4096x1024_S512x1024_1536_0))
                (View.ld (iblk m c 2 t) (Rect.unit ![0, 1536] ![512, 512] inb_S512x4096_S512x512_0_1536))
                (k0_pay11
                  (k0_pay8 (k0_pay2 (iblk m c 0 t))
                    (k0_pay6 (View.ld (iblk m c 4 t) (Rect.unit ![512, 0] ![512, 1024] inb_S4096x1024_S512x1024_512_0)))
                    (constant S512x512 FTy.f32 0#32)
                    (View.ld (iblk m c 2 t) (Rect.unit ![0, 512] ![512, 512] inb_S512x4096_S512x512_0_512))
                    (k0_pay5 (iblk m c 0 t)
                      (View.ld (iblk m c 4 t) (Rect.unit ![0, 0] ![512, 1024] inb_S4096x1024_S512x1024_0_0))
                      (View.ld (iblk m c 2 t) (Rect.unit ![0, 0] ![512, 512] inb_S512x4096_S512x512_0_0)) (k0_pay3 (F := Ideal))
                      (View.ld (iblk m c 3 t) (Rect.unit ![0, 0] ![512, 1024] inb_S4096x1024_S512x1024_0_0)))
                    (View.ld (iblk m c 3 t) (Rect.unit ![512, 0] ![512, 1024] inb_S4096x1024_S512x1024_512_0)))
                  (k0_pay10 (k0_pay2 (iblk m c 0 t))
                    (View.ld (iblk m c 4 t) (Rect.unit ![1024, 0] ![512, 1024] inb_S4096x1024_S512x1024_1024_0))
                    (View.ld (iblk m c 2 t) (Rect.unit ![0, 1024] ![512, 512] inb_S512x4096_S512x512_0_1024))
                    (View.ld (iblk m c 3 t) (Rect.unit ![1024, 0] ![512, 1024] inb_S4096x1024_S512x1024_1024_0))))
                (View.ld (iblk m c 3 t) (Rect.unit ![1536, 0] ![512, 1024] inb_S4096x1024_S512x1024_1536_0)))
              (View.ld (iblk m c 3 t) (Rect.unit ![2048, 0] ![512, 1024] inb_S4096x1024_S512x1024_2048_0)))
            (View.ld (iblk m c 3 t) (Rect.unit ![2560, 0] ![512, 1024] inb_S4096x1024_S512x1024_2560_0)))
          (View.ld (iblk m c 3 t) (Rect.unit ![3072, 0] ![512, 1024] inb_S4096x1024_S512x1024_3072_0)))
        (k0_pay22 (k0_pay2 (iblk m c 0 t))
          (View.ld (iblk m c 4 t) (Rect.unit ![3584, 0] ![512, 1024] inb_S4096x1024_S512x1024_3584_0))
          (View.ld (iblk m c 2 t) (Rect.unit ![0, 3584] ![512, 512] inb_S512x4096_S512x512_0_3584))
          (View.ld (iblk m c 3 t) (Rect.unit ![3584, 0] ![512, 1024] inb_S4096x1024_S512x1024_3584_0))))

include h0 h1 h2 h3 h4

theorem dh_block (t : Fin cfg0.N) (p : Fin 512) (d : Fin 1024) :
    dhBlock m c t (ix2 p d) = ((Mlp.dh X G W1 W2 CT (row t p) d : ℝ) : EReal) := by
  have B0 := b0 m c CT h4 t
  have B1 := b1 m c X h0 t
  have B2 := b2 m c X G W1 h0 h1 h2 t
  have B3 := b3 m c W1 h2 t
  have B4 := b4 m c W2 h3 t
  have B5 := b5 m c G h1 t
  unfold dhBlock
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
  simp only [B0, B2, B3, B4, word_2, ← EReal.coe_mul, ← EReal.coe_add, coe_sum]
  rw [Mlp.dh, ← sum_chunks]
  rfl

theorem pay_dx (t : Fin cfg0.N) (p : Fin 512) (d : Fin 1024) :
    k0_pay27 (iblk m c 0 t) (iblk m c 1 t) (dhBlock m c t) (iblk m c 5 t) (ix2 p d)
      = ((Mlp.dx X G W1 W2 CT (row t p) d : ℝ) : EReal) := by
  have B0 := b0 m c CT h4 t
  have B1 := b1 m c X h0 t
  have B2 := b2 m c X G W1 h0 h1 h2 t
  have B3 := b3 m c W1 h2 t
  have B4 := b4 m c W2 h3 t
  have B5 := b5 m c G h1 t
  have DH := dh_block m c X G W1 W2 CT h0 h1 h2 h3 h4 t
  pointwise [k0_pay24, k0_pay25, k0_pay27]
  simp only [DH, B0, B1, B2, B3, B4, B5, word_eps, word_1024, word_2, ← EReal.coe_mul, ← EReal.coe_add,
    ← EReal.coe_sub, coe_sum, coe_div _ _ (show (1024 : ℝ) ≠ 0 by norm_num), rsqrt_meanSq (show (0 : ℝ) < 1024 by norm_num)]
  rw [Mlp.dx, mul_comm (rstd 1024 (X (row t p)))]

theorem pay_dg (t : Fin cfg0.N) (a : Vec Ideal S1x1024 .f32) (d : Fin 1024) :
    k0_pay26 (iblk m c 1 t) (dhBlock m c t) a (ix2 0 d)
      = a (ix2 0 d) + ((∑ p, Mlp.dh X G W1 W2 CT (row t p) d * (X (row t p) d * rstd 1024 (X (row t p))) : ℝ) : EReal) := by
  have B0 := b0 m c CT h4 t
  have B1 := b1 m c X h0 t
  have B2 := b2 m c X G W1 h0 h1 h2 t
  have B3 := b3 m c W1 h2 t
  have B4 := b4 m c W2 h3 t
  have B5 := b5 m c G h1 t
  have DH := dh_block m c X G W1 W2 CT h0 h1 h2 h3 h4 t
  pointwise [k0_pay24, k0_pay25, k0_pay26]
  simp only [DH, B0, B1, B2, B3, B4, B5, word_eps, word_1024, word_2, ← EReal.coe_mul, ← EReal.coe_add,
    ← EReal.coe_sub, coe_sum, coe_div _ _ (show (1024 : ℝ) ≠ 0 by norm_num), rsqrt_meanSq (show (0 : ℝ) < 1024 by norm_num)]

theorem out_dx (t : Fin cfg0.N) (p : Fin 512) (d : Fin 1024) :
    (outsAt0 m c t.val t.isLt).1 (ix2 p d) = ((Mlp.dx X G W1 W2 CT (row t p) d : ℝ) : EReal) := by
  rcases Decidable.em (t.val % 16 = 0) with h | h <;> [rw [outsAt0_A m c t h]; rw [outsAt0_B m c t h]] <;> frame_out <;>
    exact pay_dx m c X G W1 W2 CT h0 h1 h2 h3 h4 t p d

theorem out_df (t : Fin cfg0.N) (p : Fin 512) (d : Fin 4096) :
    (outsAt0 m c t.val t.isLt).2.1 (ix2 p d) = ((Mlp.dpre X G W1 W2 CT (row t p) d : ℝ) : EReal) := by
  have B0 := b0 m c CT h4 t
  have B1 := b1 m c X h0 t
  have B2 := b2 m c X G W1 h0 h1 h2 t
  have B3 := b3 m c W1 h2 t
  have B4 := b4 m c W2 h3 t
  have B5 := b5 m c G h1 t
  rcases Decidable.em (t.val % 16 = 0) with h | h <;> [rw [outsAt0_A m c t h]; rw [outsAt0_B m c t h]] <;> frame_out <;>
    canon_tiles x h <;>
    (obtain ⟨q, e, rfl⟩ : ∃ (q e : Fin 512), x = ix2 q e := ⟨x 0, x 1, eq_ix2 x⟩
     obtain rfl : p = q := Fin.ext h0
     have h1 : (d : ℕ) = _ := h1
     pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27]
     simp only [B0, B1, B2, B3, B4, B5, word_2, ← EReal.coe_mul, coe_sum]
     refine congrArg _ ?_
     obtain ⟨d, hd⟩ := d
     simp only at h1
     subst h1
     rfl)

theorem final6 : (dats m 0 c).arrAt 6 cfg0.N = fun i => ((Mlp.dx X G W1 W2 CT (i 0) (i 1) : ℝ) : EReal) := by
  refine (dats m 0 c).arrAt_eq_of_covers 6 _ (by decide +kernel) fun t hf y => ?_
  blk_simp; rw [after0_6]
  obtain ⟨p, d, rfl⟩ : ∃ (p : Fin 512) (d : Fin 1024), y = ix2 p d := ⟨y 0, y 1, eq_ix2 y⟩
  refine (out_dx m c X G W1 W2 CT h0 h1 h2 h3 h4 t p d).trans ?_
  have hr : ((row t p) : ℕ) = t.val * 512 + p.val := rfl
  have e : (win0_6.blk t).view.emb (ix2 p d) = ix2 (row t p) d := by blk_ext [idx t]
  rw [e]
  rfl

theorem final7 : (dats m 0 c).arrAt 7 cfg0.N = fun i => ((Mlp.dpre X G W1 W2 CT (i 0) (i 1) : ℝ) : EReal) := by
  refine (dats m 0 c).arrAt_eq_of_covers 7 _ (by decide +kernel) fun t hf y => ?_
  blk_simp; rw [after0_7]
  obtain ⟨p, d, rfl⟩ : ∃ (p : Fin 512) (d : Fin 4096), y = ix2 p d := ⟨y 0, y 1, eq_ix2 y⟩
  refine (out_df m c X G W1 W2 CT h0 h1 h2 h3 h4 t p d).trans ?_
  have hr : ((row t p) : ℕ) = t.val * 512 + p.val := rfl
  have e : (win0_7.blk t).view.emb (ix2 p d) = ix2 (row t p) d := by blk_ext [idx t]
  rw [e]
  rfl

theorem final8 : (dats m 0 c).arrAt 8 cfg0.N = fun i => ((Mlp.dg X G W1 W2 CT (i 1) : ℝ) : EReal) := by
  refine (dats m 0 c).arrAt_eq_of_after_last 8 t0_15 (by decide +kernel) _ fun j => ?_
  blk_simp; rw [after0_8]
  obtain ⟨z, d, rfl⟩ : ∃ (z : Fin 1) (d : Fin 1024), j = ix2 z d := ⟨j 0, j 1, eq_ix2 j⟩
  obtain rfl : z = 0 := Subsingleton.elim _ _
  show _ = ((Mlp.dg X G W1 W2 CT d : ℝ) : EReal)
  refine (Pipeline.eq_sum_fin_of_reset_step_apply_last
    (fun n h (d : Fin 1024) => (outsAt0 m c n h).2.2 (ix2 0 d)) 16 (fun _ => 0)
    (fun t d => ((∑ p, Mlp.dh X G W1 W2 CT (row t p) d * (X (row t p) d * rstd 1024 (X (row t p))) : ℝ) : EReal))
    (fun t h d => ?_) (fun t h d => ?_) (le_of_eq N_0) t0_15 rfl d).trans ?_
  · rw [outsAt0_A m c t h]; frame_out
    refine (pay_dg m c X G W1 W2 CT h0 h1 h2 h3 h4 t _ d).trans ?_
    refine congrArg (· + _) ?_
    pointwise [k0_pay1]
  · rw [outsAt0_B m c t h]; frame_out
    exact pay_dg m c X G W1 W2 CT h0 h1 h2 h3 h4 t _ d
  · rw [zero_add, coe_sum]
    refine congrArg _ ?_
    rw [Mlp.dg]
    exact Fin.sum_mul_add_congr (fun s k _ => rfl)
end
end Cert.KernelIdeal.Value
-- ==== Proof.Mlp.lean ====
/-
  The claim of the MLP backward kernel: its three results are the reference's gradients.
-/
module

public import proofs.«01_k».proof.Defs
public import proofs.«01_k».proof.Proof.Finite
public import proofs.«01_k».proof.Proof.MlpRef
public import proofs.«01_k».proof.Proof.MlpKernel
public import proofs.«01_k».proof.Proof.Gen.ReferenceIdeal.Run
public import proofs.«01_k».proof.Proof.Gen.Pre_finite_mlp

@[expose] public section

set_option maxRecDepth 16384

noncomputable section

namespace Cert.Mlp

open Idealize.ShloMosaic Idealize.ShloMosaic.TcCoe Idealize.SL.Sem Cert.Reals

open Cert.KernelIdeal in
/-- Where the precondition holds, every argument is the coercion of a real array. -/
theorem reals_of_pre (m : (ℓ : Loc nD τ sig) → Buf (Elt Ideal) ℓ)
    (h : Cert.Pre_KernelIdeal_finite_mlp (hPre_finite_mlp := Cert.Pre_finite_mlp.Gen.facts) m) (c : Dev nD) :
    ∃ (X : Fin 8192 → Fin 1024 → ℝ) (G : Fin 1024 → ℝ) (W1 : Fin 1024 → Fin 4096 → ℝ) (W2 : Fin 4096 → Fin 1024 → ℝ)
      (CT : Fin 8192 → Fin 1024 → ℝ),
      (∀ t d, m ((c : Thread nD τ).loc main_arg0) (ix2 t d) = ((X t d : ℝ) : EReal))
      ∧ (∀ d, m ((c : Thread nD τ).loc main_arg1) (ix2 0 d) = ((G d : ℝ) : EReal))
      ∧ (∀ d f, m ((c : Thread nD τ).loc main_arg2) (ix3 0 d f) = ((W1 d f : ℝ) : EReal))
      ∧ (∀ f d, m ((c : Thread nD τ).loc main_arg3) (ix3 0 f d) = ((W2 f d : ℝ) : EReal))
      ∧ (∀ t d, m ((c : Thread nD τ).loc main_arg4) (ix2 t d) = ((CT t d : ℝ) : EReal)) := by
  obtain ⟨p0, p1, p2, p3, p4⟩ := h c
  have hz : ∀ (S : Shape) (hb : (⟨0, ![]⟩ : Shape).BroadcastsInDim S (![] : Fin 0 → Fin S.rank)) (i : S.Idx),
      broadcastInDim S ![] hb (constant (F := Ideal) ⟨0, ![]⟩ .f32 0#32) i = (0 : EReal) := fun S hb i => by
    exact Ideal.ofBits_zero_f32
  obtain ⟨X, hX⟩ := reals_of_finite p0 (hz _ _)
  obtain ⟨G, hG⟩ := reals_of_finite p1 (hz _ _)
  obtain ⟨W1, hW1⟩ := reals_of_finite p2 (hz _ _)
  obtain ⟨W2, hW2⟩ := reals_of_finite p3 (hz _ _)
  obtain ⟨CT, hCT⟩ := reals_of_finite p4 (hz _ _)
  exact ⟨fun t d => X (ix2 t d), fun d => G (ix2 0 d), fun d f => W1 (ix3 0 d f), fun f d => W2 (ix3 0 f d),
    fun t d => CT (ix2 t d), fun _ _ => hX _, fun _ => hG _, fun _ _ => hW1 _, fun _ _ => hW2 _, fun _ _ => hCT _⟩

theorem algebraic : Cert.algebraic_KernelIdeal_ReferenceIdeal_pre_finite_mlp (hKernelIdeal := Cert.KernelIdeal.Gen.facts)
    (hReferenceIdeal := Cert.ReferenceIdeal.Gen.facts) (hPre_finite_mlp := Cert.Pre_finite_mlp.Gen.facts) := by
  intro m g m' g' hpre hagree
  refine ⟨_, _, _, Cert.KernelIdeal.Value.run_blocks m g, (θ_run _ _ _).mono (fun r h c => ?_) (Cert.ReferenceIdeal.Value.run m' g')⟩
  obtain ⟨X, G, W1, W2, CT, h0, h1, h2, h3, h4⟩ := reals_of_pre m hpre c
  obtain ⟨a0, a1, a2, a3, a4⟩ := hagree c
  obtain ⟨r0, r1, r2, rest⟩ := h c
  have k0 : ∀ t d, m' ((c.tc : Thread Cert.ReferenceIdeal.nD Cert.ReferenceIdeal.τ).loc Cert.ReferenceIdeal.main_arg0) (ix2 t d) = ((X t d : ℝ) : EReal) := fun t d => by rw [a0]; exact h0 t d
  have k1 : ∀ d, m' ((c.tc : Thread Cert.ReferenceIdeal.nD Cert.ReferenceIdeal.τ).loc Cert.ReferenceIdeal.main_arg1) (ix2 0 d) = ((G d : ℝ) : EReal) := fun d => by rw [a1]; exact h1 d
  have k2 : ∀ d f, m' ((c.tc : Thread Cert.ReferenceIdeal.nD Cert.ReferenceIdeal.τ).loc Cert.ReferenceIdeal.main_arg2) (ix3 0 d f) = ((W1 d f : ℝ) : EReal) := fun d f => by rw [a2]; exact h2 d f
  have k3 : ∀ f d, m' ((c.tc : Thread Cert.ReferenceIdeal.nD Cert.ReferenceIdeal.τ).loc Cert.ReferenceIdeal.main_arg3) (ix3 0 f d) = ((W2 f d : ℝ) : EReal) := fun f d => by rw [a3]; exact h3 f d
  have k4 : ∀ t d, m' ((c.tc : Thread Cert.ReferenceIdeal.nD Cert.ReferenceIdeal.τ).loc Cert.ReferenceIdeal.main_arg4) (ix2 t d) = ((CT t d : ℝ) : EReal) := fun t d => by rw [a4]; exact h4 t d
  refine ⟨r0.trans ?_, r1.trans ?_, r2.trans ?_, rest⟩
  · rw [Cert.KernelIdeal.Value.final6 m c X G W1 W2 CT h0 h1 h2 h3 h4, Cert.ReferenceIdeal.Read.val_main_v84_eq]
    funext i
    obtain ⟨t, d, rfl⟩ : ∃ (t : Fin 8192) (d : Fin 1024), i = ix2 t d := ⟨i 0, i 1, eq_ix2 i⟩
    exact Cert.ReferenceIdeal.Value.res_dx _ _ _ _ _ X G W1 W2 CT k0 k1 k2 k3 k4 t d
  · rw [Cert.KernelIdeal.Value.final7 m c X G W1 W2 CT h0 h1 h2 h3 h4]
    refine (Cert.ReferenceIdeal.Read.val_main_v86_eq _ _ _ _ _).trans ?_
    funext i
    obtain ⟨t, d, rfl⟩ : ∃ (t : Fin 8192) (d : Fin 4096), i = ix2 t d := ⟨i 0, i 1, eq_ix2 i⟩
    exact Cert.ReferenceIdeal.Value.res_dpre _ _ _ _ _ X G W1 W2 CT k0 k1 k2 k3 k4 t d
  · rw [Cert.KernelIdeal.Value.final8 m c X G W1 W2 CT h0 h1 h2 h3 h4]
    refine (Cert.ReferenceIdeal.Read.val_main_v85_eq _ _ _ _ _).trans ?_
    funext i
    obtain ⟨z, d, rfl⟩ : ∃ (z : Fin 1) (d : Fin 1024), i = ix2 z d := ⟨i 0, i 1, eq_ix2 i⟩
    obtain rfl : z = 0 := Subsingleton.elim _ _
    exact Cert.ReferenceIdeal.Value.res_dg _ _ _ _ _ X G W1 W2 CT k0 k1 k2 k3 k4 d

end Cert.Mlp

end
-- ==== Proof.AttnModel.lean ====
/-
  Softmax attention's backward pass over real arrays: what both programs of the second pair compute. `Q` the scaled
  queries (eight heads of 128 columns, four to a key head), `K`, `V` the keys and values (two heads), `C` the cotangent.
-/
module

public import proofs.«01_k».proof.Proof.Reals

@[expose] public section

noncomputable section

namespace Cert.Attn

open Cert.Reals

/-- Column `d` of query head `u` of group `g`. -/
def qcol (g : Fin 2) (u : Fin 4) (d : Fin 128) : Fin 1024 := ⟨g.val * 512 + u.val * 128 + d.val, by omega⟩

/-- Column `d` of the key head of group `g`. -/
def kcol (g : Fin 2) (d : Fin 128) : Fin 256 := ⟨g.val * 128 + d.val, by omega⟩

/-- The group of a query column. -/
def qg (e : Fin 1024) : Fin 2 := ⟨e.val / 512, by omega⟩
/-- The head of a query column within its group. -/
def qu (e : Fin 1024) : Fin 4 := ⟨e.val / 128 % 4, by omega⟩
/-- The place of a query column within its head. -/
def qd (e : Fin 1024) : Fin 128 := ⟨e.val % 128, by omega⟩
/-- The group of a key column. -/
def kg (e : Fin 256) : Fin 2 := ⟨e.val / 128, by omega⟩
/-- The place of a key column within its head. -/
def kd (e : Fin 256) : Fin 128 := ⟨e.val % 128, by omega⟩

variable (Q : Fin 8192 → Fin 1024 → ℝ) (K V : Fin 8192 → Fin 256 → ℝ) (C : Fin 8192 → Fin 1024 → ℝ)

/-- The score of query `i` against key `j`. -/
def score (g : Fin 2) (u : Fin 4) (i j : Fin 8192) : ℝ := ∑ d, K j (kcol g d) * Q i (qcol g u d)

/-- The sum of a row's exponentials. -/
def mass (g : Fin 2) (u : Fin 4) (i : Fin 8192) : ℝ := ∑ j, Real.exp (score Q K g u i j)

/-- The attention weight of query `i` on key `j`. -/
def prob (g : Fin 2) (u : Fin 4) (i j : Fin 8192) : ℝ := Real.exp (score Q K g u i j) / mass Q K g u i

/-- The attention's output. -/
def out (g : Fin 2) (u : Fin 4) (i : Fin 8192) (d : Fin 128) : ℝ := ∑ j, V j (kcol g d) * prob Q K g u i j

/-- The gradient of a weight. -/
def dprob (g : Fin 2) (u : Fin 4) (i j : Fin 8192) : ℝ := ∑ d, C i (qcol g u d) * V j (kcol g d)

/-- The gradient of a score. -/
def dscore (g : Fin 2) (u : Fin 4) (i j : Fin 8192) : ℝ :=
  prob Q K g u i j * (dprob V C g u i j - ∑ k, prob Q K g u i k * dprob V C g u i k)

/-- The gradient of the scaled queries. -/
def dq (g : Fin 2) (u : Fin 4) (i : Fin 8192) (d : Fin 128) : ℝ := ∑ j, dscore Q K V C g u i j * K j (kcol g d)

/-- The gradient of the keys. -/
def dk (g : Fin 2) (j : Fin 8192) (d : Fin 128) : ℝ := ∑ u, ∑ i, dscore Q K V C g u i j * Q i (qcol g u d)

/-- The gradient of the values. -/
def dv (g : Fin 2) (j : Fin 8192) (d : Fin 128) : ℝ := ∑ u, ∑ i, prob Q K g u i j * C i (qcol g u d)

/-- The gradient of the scaled queries, by columns. -/
def dQ (i : Fin 8192) (e : Fin 1024) : ℝ := dq Q K V C (qg e) (qu e) i (qd e)
/-- The gradient of the keys per unit of a base-two exponent, by columns. -/
def dK (j : Fin 8192) (e : Fin 256) : ℝ := dk Q K V C (kg e) j (kd e) / Real.log 2
/-- The gradient of the values, by columns. -/
def dV (j : Fin 8192) (e : Fin 256) : ℝ := dv Q K C (kg e) j (kd e)

theorem mass_pos (g : Fin 2) (u : Fin 4) (i : Fin 8192) : 0 < mass Q K g u i :=
  Finset.sum_pos (fun j _ => Real.exp_pos _) ⟨0, Finset.mem_univ _⟩

/-- The weight by its row's log sum: what the backward kernel recomputes. -/
theorem prob_eq_exp (g : Fin 2) (u : Fin 4) (i j : Fin 8192) :
    Real.exp (score Q K g u i j - Real.log (mass Q K g u i)) = prob Q K g u i j := by
  rw [Real.exp_sub, Real.exp_log (mass_pos Q K g u i)]; rfl

/-- The weight with any shift of the row's scores. -/
theorem prob_shift (M : ℝ) (g : Fin 2) (u : Fin 4) (i j : Fin 8192) :
    Real.exp (score Q K g u i j - M) / ∑ k, Real.exp (score Q K g u i k - M) = prob Q K g u i j := by
  simp only [Real.exp_sub, ← Finset.sum_div]
  rw [div_div_div_cancel_right₀ (Real.exp_pos M).ne']; rfl

/-- A row's log sum with any shift of the row's scores. -/
theorem log_shift (M : ℝ) (g : Fin 2) (u : Fin 4) (i : Fin 8192) :
    M + Real.log (∑ k, Real.exp (score Q K g u i k - M)) = Real.log (mass Q K g u i) := by
  simp only [Real.exp_sub, ← Finset.sum_div]
  rw [← mass, Real.log_div (mass_pos Q K g u i).ne' (Real.exp_pos M).ne', Real.log_exp]; ring

/-- The row sum the backward kernel takes from the output and its cotangent. -/
theorem sum_prob_dprob (g : Fin 2) (u : Fin 4) (i : Fin 8192) :
    ∑ d, C i (qcol g u d) * out Q K V g u i d = ∑ k, prob Q K g u i k * dprob V C g u i k := by
  simp only [out, dprob, Finset.mul_sum]
  rw [Finset.sum_comm]
  exact Finset.sum_congr rfl fun k _ => Finset.sum_congr rfl fun d _ => by ring

end Cert.Attn

end
-- ==== Proof.AttnRef.lean ====
/-
  The attention reference's three results, on finite arguments, are the real model of `AttnModel.lean`. The row maximum
  is only known to be some real number; it cancels.
-/
module
public import proofs.«01_k».proof.Proof.Gen.Reference2Ideal.Read
public import proofs.«01_k».proof.Proof.AttnModel
@[expose] public section
set_option maxRecDepth 16384
noncomputable section
namespace Cert.Reference2Ideal.Value
open Cert.Reference2Ideal Cert.Reference2Ideal.Gen Cert.Reference2Ideal.Read Idealize.ShloMosaic Idealize.ShloMosaic.TcCoe Idealize.SL.Sem Cert.Reals

variable (x0 : (⟨S8192x1024, .f32⟩ : BufTy).Contents (Elt Ideal)) (x1 x2 : (⟨S8192x256, .f32⟩ : BufTy).Contents (Elt Ideal))
  (x3 : (⟨S8192x1024, .f32⟩ : BufTy).Contents (Elt Ideal))
  (Q : Fin 8192 → Fin 1024 → ℝ) (K V : Fin 8192 → Fin 256 → ℝ) (C : Fin 8192 → Fin 1024 → ℝ)
  (h0 : ∀ i e, x0 (ix2 i e) = ((Q i e : ℝ) : EReal)) (h1 : ∀ j e, x1 (ix2 j e) = ((K j e : ℝ) : EReal))
include h0 h1

theorem res_score (g : Fin 2) (u : Fin 4) (i j : Fin 8192) :
    val_main_v4 (F := Ideal) x0 x1 (ix4 g u i j) = ((Attn.score Q K g u i j : ℝ) : EReal) := by
  pointwise [val_main_v4, val_main_v3, val_main_v1, val_main_v0]
  simp only [h0, h1, ← EReal.coe_mul, coe_sum]
  rfl

omit h0 h1 in
/-- Softmax's derivative as reverse mode writes it, through the quotient and the row sum. -/
theorem softmax_bwd {n : ℕ} {S : ℝ} (hS : S ≠ 0) (e p : Fin n → ℝ) (j : Fin n) :
    (p j / S + ∑ _ : Fin 1, -∑ k, p k * (1 / (S * S)) * e k) * e j = e j / S * (p j - ∑ k, e k / S * p k) := by
  have : ∑ k, p k * (1 / (S * S)) * e k = (∑ k, e k / S * p k) / S := by
    rw [Finset.sum_div]; exact Finset.sum_congr rfl fun k _ => by field_simp
  rw [this, Finset.sum_const, Finset.card_univ, Fintype.card_fin, one_smul]; field_simp; ring

omit h0 h1 in
theorem reduces_score : S2x4x8192x8192.Reduces [3] S2x4x8192 := by decide +kernel

omit h0 h1 in
theorem size_score : 0 < S2x4x8192x8192.size 3 := by decide +kernel

omit h0 h1 in
theorem max_row (y : FVec Ideal S2x4x8192x8192 .f32) (hy : ∀ i, ∃ r : ℝ, y i = ((r : ℝ) : EReal))
    (z : FVec Ideal S_ .f32) (hz : z (Shape.Idx.first h_S_) = (⊥ : EReal)) (j : S2x4x8192.Idx) :
    ∃ M : ℝ, (Host.reduce FloatOps.maximumf y z reducesTo_S2x4x8192x8192_S2x4x8192_d3 h_S_ :
      FVec Ideal S2x4x8192 .f32) j = ((M : ℝ) : EReal) :=
  hostMax_real (s := S2x4x8192x8192) (t := S2x4x8192) (u := S_) (a := 3) y z _ reduces_score _ j size_score hz hy

omit h0 h1 in
theorem exp_row (y : FVec Ideal S2x4x8192x8192 .f32) (w : FVec Ideal S2x4x8192 .f32)
    (g : Fin 2) (u : Fin 4) (i j : Fin 8192) (M r : ℝ) (hw : w (ix3 g u i) = ((M : ℝ) : EReal)) (hy : y (ix4 g u i j) = ((r : ℝ) : EReal)) :
    (Host.exp (subf y (broadcastInDim S2x4x8192x8192 ![0, 1, 2, 3] bcast_S2x4x8192x1_S2x4x8192x8192_0_1_2_3
      (broadcastInDim S2x4x8192x1 ![0, 1, 2] bcast_S2x4x8192_S2x4x8192x1_0_1_2 (maximumf (val_main_v11 (F := Ideal)) w)))) :
      FVec Ideal S2x4x8192x8192 .f32) (ix4 g u i j) = ((Real.exp (r - M) : ℝ) : EReal) := by
  pointwise [val_main_v11, val_main_cst_1]
  simp only [hw, hy, word_bot, bot_le, max_eq_right, ← EReal.coe_sub, Ideal.exp_coe]

omit h0 h1 in
theorem sum_row (y : FVec Ideal S2x4x8192x8192 .f32)
    (g : Fin 2) (u : Fin 4) (i : Fin 8192) :
    (broadcastInDim S2x4x8192x1 ![0, 1, 2] bcast_S2x4x8192_S2x4x8192x1_0_1_2
      (Host.reduceAdd y (val_main_cst_7 (F := Ideal)) reducesTo_S2x4x8192x8192_S2x4x8192_d3 h_S_) :
      FVec Ideal S2x4x8192x1 .f32) (ix4 g u i 0) = ∑ j : Fin 8192, (y (ix4 g u i j) : EReal) := by
  pointwise [val_main_cst_7]

theorem res_max (g : Fin 2) (u : Fin 4) (i : Fin 8192) :
    ∃ M : ℝ, val_main_v5 (F := Ideal) x0 x1 (ix3 g u i) = ((M : ℝ) : EReal) := by
  have hz : val_main_cst (F := Ideal) (Shape.Idx.first h_S_) = (⊥ : EReal) := by
    pointwise [val_main_cst]
    exact word_bot
  unfold val_main_v5
  refine max_row (val_main_v4 (F := Ideal) x0 x1) (fun y => ?_) (val_main_cst (F := Ideal)) hz (ix3 g u i)
  obtain ⟨g, u, i, j, rfl⟩ : ∃ g u i j, y = ix4 g u i j := ⟨y 0, y 1, y 2, y 3, eq_ix4 y⟩
  exact ⟨_, res_score x0 x1 Q K h0 h1 g u i j⟩

/-- The exponentials and their row sum, at the row's own shift. -/
theorem res_exp (g : Fin 2) (u : Fin 4) (i : Fin 8192) : ∃ M : ℝ,
    (∀ j, val_main_v25 (F := Ideal) x0 x1 (ix4 g u i j) = ((Real.exp (Attn.score Q K g u i j - M) : ℝ) : EReal)) ∧
    val_main_v27 (F := Ideal) x0 x1 (ix4 g u i 0) = ((∑ j, Real.exp (Attn.score Q K g u i j - M) : ℝ) : EReal) := by
  obtain ⟨M, hM⟩ := res_max x0 x1 Q K h0 h1 g u i
  have he : ∀ j, val_main_v25 (F := Ideal) x0 x1 (ix4 g u i j) = ((Real.exp (Attn.score Q K g u i j - M) : ℝ) : EReal) :=
    fun j => exp_row (val_main_v4 (F := Ideal) x0 x1) (val_main_v5 (F := Ideal) x0 x1) g u i j M _ hM
      (res_score x0 x1 Q K h0 h1 g u i j)
  refine ⟨M, he, (sum_row (val_main_v25 (F := Ideal) x0 x1) g u i).trans ?_⟩
  simp only [he, coe_sum]

theorem res_prob (g : Fin 2) (u : Fin 4) (i j : Fin 8192) :
    val_main_v29 (F := Ideal) x0 x1 (ix4 g u i j) = ((Attn.prob Q K g u i j : ℝ) : EReal) := by
  obtain ⟨M, he, hs⟩ := res_exp x0 x1 Q K h0 h1 g u i
  pointwise [val_main_v29, val_main_v28]
  rw [he, hs, coe_div _ _ (Finset.sum_pos (fun j _ => Real.exp_pos _) ⟨0, Finset.mem_univ _⟩).ne', Attn.prob_shift]

variable (h2 : ∀ j e, x2 (ix2 j e) = ((V j e : ℝ) : EReal)) (h3 : ∀ i e, x3 (ix2 i e) = ((C i e : ℝ) : EReal))
include h2 h3

omit h0 h1 in
theorem res_dprob (g : Fin 2) (u : Fin 4) (i j : Fin 8192) :
    val_main_v38 (F := Ideal) x2 x3 (ix4 g u i j) = ((Attn.dprob V C g u i j : ℝ) : EReal) := by
  pointwise [val_main_v38, val_main_v37, val_main_v36, val_main_v2]
  simp only [h2, h3, ← EReal.coe_mul, coe_sum]
  rfl

theorem res_dscore (g : Fin 2) (u : Fin 4) (i j : Fin 8192) :
    val_main_v52 (F := Ideal) x0 x1 x2 x3 (ix4 g u i j) = ((Attn.dscore Q K V C g u i j : ℝ) : EReal) := by
  obtain ⟨M, he, hs⟩ := res_exp x0 x1 Q K h0 h1 g u i
  have hp : 0 < ∑ j, Real.exp (Attn.score Q K g u i j - M) :=
    Finset.sum_pos (fun j _ => Real.exp_pos _) ⟨0, Finset.mem_univ _⟩
  pointwise [val_main_v52, val_main_v51, val_main_v50, val_main_v49, val_main_v48, val_main_v47, val_main_v46, val_main_v45, val_main_v44, val_main_v43, val_main_v42, val_main_v41, val_main_v32, val_main_v31, val_main_v30, val_main_cst_8, val_main_cst_9, val_main_cst_10]
  simp only [he, hs, res_dprob x2 x3 V C h2 h3, ← EReal.coe_one, ← EReal.coe_mul, ← EReal.coe_add, ← EReal.coe_neg, coe_sum,
    coe_div _ _ hp.ne', coe_div _ _ (mul_pos hp hp).ne']
  refine congrArg _ ?_
  simp only [Attn.dscore, ← Attn.prob_shift Q K M]
  exact softmax_bwd hp.ne' (fun j => Real.exp (Attn.score Q K g u i j - M)) (fun j => Attn.dprob V C g u i j) j

theorem res_dv (j : Fin 8192) (e : Fin 256) :
    val_main_v58 (F := Ideal) x0 x1 x3 (ix2 j e) = ((Attn.dV Q K C j e : ℝ) : EReal) := by
  pointwise [val_main_v58, val_main_v40, val_main_v39, val_main_v37, val_main_v36]
  simp only [h3, res_prob x0 x1 Q K h0 h1, ← EReal.coe_mul, coe_sum]
  rw [Attn.dV, Attn.dv]
  refine congrArg Real.toEReal (Finset.sum_congr rfl fun u _ => Finset.sum_congr rfl fun i _ => ?_)
  rw [mul_comm]
  rfl

theorem res_dk (j : Fin 8192) (e : Fin 256) :
    val_main_v63 (F := Ideal) x0 x1 x2 x3 (ix2 j e) = ((Attn.dK Q K V C j e : ℝ) : EReal) := by
  have hl : Real.log 2 ≠ 0 := (Real.log_pos one_lt_two).ne'
  pointwise [val_main_v63, val_main_v62, val_main_v61, val_main_cst_11, val_main_v59, val_main_v57, val_main_v56, val_main_v53, val_main_v0]
  simp only [h0, res_dscore x0 x1 x2 x3 Q K V C h0 h1 h2 h3, word_2, Ideal.log_coe, ← EReal.coe_mul, coe_sum]
  rw [if_neg (by norm_num), coe_div _ _ hl]
  rw [Attn.dK, Attn.dk, Finset.sum_comm]
  rfl

theorem res_dq (i : Fin 8192) (e : Fin 1024) :
    val_main_v60 (F := Ideal) x0 x1 x2 x3 (ix2 i e) = ((Attn.dQ Q K V C i e : ℝ) : EReal) := by
  pointwise [val_main_v60, val_main_v55, val_main_v54, val_main_v53, val_main_v1]
  simp only [h1, res_dscore x0 x1 x2 x3 Q K V C h0 h1 h2 h3, ← EReal.coe_mul, coe_sum]
  rfl

end Cert.Reference2Ideal.Value
-- ==== Proof.AttnLoop.lean ====
/-
  The attention backward kernel's loop over the eight tiles of keys: what it carries (the queries' gradient) and what it
  leaves in the two accumulators (the keys' and the values' gradients), for one block of four stacked query heads whose
  entries are real numbers. The weights are recomputed as powers of two.
-/
module
public import proofs.«01_k».proof.Proof.Gen.Kernel2Ideal.Value
public import Idealize.ShloMosaic.Lib.WritesUnit
public import proofs.«01_k».proof.Proof.AttnModel
@[expose] public section
set_option maxRecDepth 16384
noncomputable section
namespace Cert.Kernel2Ideal.Value
open Cert.Kernel2Ideal Cert.Kernel2Ideal.Gen Idealize.ShloMosaic Idealize.ShloMosaic.TcCoe Idealize.SL.Sem Idealize.ShloMosaic.StableHlo Cert.Reals

/-- The head within its group of a row of the stacked block. -/
def au (a : Fin 1024) : Fin 4 := ⟨a.val / 256, by omega⟩
/-- The query within its block of a row of the stacked block. -/
def ap (a : Fin 1024) : Fin 256 := ⟨a.val % 256, by omega⟩

/-- Reading four stacked blocks of 256 rows. -/
theorem four_rows {α : Type} (f : Fin 4 → Fin 256 → α) (a : Fin 1024) :
    (if h : a.val < 256 then f 0 ⟨a.val, h⟩ else if h : a.val - 256 < 256 then f 1 ⟨a.val - 256, h⟩
      else if h : a.val - 256 - 256 < 256 then f 2 ⟨a.val - 256 - 256, h⟩ else f 3 ⟨a.val - 256 - 256 - 256, by omega⟩)
      = f (au a) (ap a) := by
  obtain ⟨a, ha⟩ := a
  dsimp only [au, ap]
  split_ifs <;> refine congrArg₂ f (Fin.ext ?_) (Fin.ext ?_) <;> simp <;> omega

/-- Key `b` of the tile of trip `s`. -/
def krow (s : ℕ) (b : Fin 1024) : Fin 8192 := ⟨(s * 1024 + b.val) % 8192, Nat.mod_lt _ (by norm_num)⟩

theorem sum_krow (f : Fin 8192 → ℝ) : ∑ s ∈ Finset.range 8, ∑ b, f (krow s b) = ∑ j, f j := by
  rw [Finset.sum_range, ← Fin.sum_mul_add_fin 8 1024 f]
  refine Finset.sum_congr rfl fun s _ => Finset.sum_congr rfl fun b _ => congrArg f (Fin.ext ?_)
  have hs := s.isLt
  have hb := b.isLt
  simp only [krow]
  omega

/-- A tile's load: rows `1024 k …` of the keys. -/
theorem readAt_tile {e : EltTy} (r : Memref sig .tc .vmem S8192x128 e) (X : BufTy.Contents (Elt Ideal) r.view.ty)
    (k : Fin k0_t1_loop.trips) (inb : ∀ a, k0_off1 k a + ![1024, 128] a ≤ S8192x128.size a) (b : Fin 1024) (d : Fin 128) :
    View.readAt (Elt Ideal) r.view (Rect.unit (s := S8192x128) (k0_off1 k) ![1024, 128] inb).toLoadRect X (ix2 b d)
      = r.view.read (Elt Ideal) X (ix2 (krow k.val b) d) := by
  have hk : k.val < 8 := k.isLt
  have hb := b.isLt
  rw [View.readAt_eq_ld]
  refine congrArg (r.view.read (Elt Ideal) X) (funext fun x => Fin.ext ?_)
  have h := k0_off1_eq k
  match x with
  | ⟨0, _⟩ =>
    show k0_off1 k 0 + 1 * b.val = (k.val * 1024 + b.val) % 8192
    rw [h]
    show 1024 * k.val + 1 * b.val = _
    omega
  | ⟨1, _⟩ =>
    show k0_off1 k 1 + 1 * d.val = d.val
    rw [h]
    show 0 + 1 * d.val = _
    omega

/-- A tile's weights: powers of two. -/
def wt (q4 : Fin 1024 → Fin 128 → ℝ) (L : Fin 4 → Fin 256 → ℝ) (Kg : Fin 128 → ℝ) (a : Fin 1024) : ℝ :=
  Real.rpow 2 (∑ d, q4 a d * Kg d - L (au a) (ap a))

/-- The gradient of a score, the row sum taken from the output and its cotangent. -/
def gr (q4 do4 o4 : Fin 1024 → Fin 128 → ℝ) (L : Fin 4 → Fin 256 → ℝ) (Kg Vg : Fin 128 → ℝ) (a : Fin 1024) : ℝ :=
  wt q4 L Kg a * (∑ d, do4 a d * Vg d - ∑ d, do4 a d * o4 a d)

section
variable (v11 v20 v29 : FVec Ideal S1024x128 .bf16) (v30 : FVec Ideal S1024x128 .f32) (v35 : Vec Ideal S1x4x256 .f32)
  (q4 do4 o4 : Fin 1024 → Fin 128 → ℝ) (L : Fin 4 → Fin 256 → ℝ)
  (h11 : ∀ a d, v11 (ix2 a d) = ((q4 a d : ℝ) : EReal)) (h20 : ∀ a d, v20 (ix2 a d) = ((do4 a d : ℝ) : EReal))
  (h29 : ∀ a d, v29 (ix2 a d) = ((o4 a d : ℝ) : EReal)) (h30 : ∀ a d, v30 (ix2 a d) = ((do4 a d : ℝ) : EReal))
  (h35 : ∀ u p, v35 (ix3 0 u p) = ((L u p : ℝ) : EReal))

section
variable (v59 v62 : Vec Ideal S1024x128 .bf16) (v : FVec Ideal S1024x128 .f32) (Kt Vt : Fin 1024 → Fin 128 → ℝ)
  (h59 : ∀ b d, v59 (ix2 b d) = ((Kt b d : ℝ) : EReal)) (h62 : ∀ b d, v62 (ix2 b d) = ((Vt b d : ℝ) : EReal))

include h11 h35 h59 in
theorem pay_wt (a b : Fin 1024) : k0_pay3 v11 v35 v59 (ix2 a b) = ((wt q4 L (Kt b) a : ℝ) : EReal) := by
  pointwise [k0_pay3, k0_pay2]
  simp only [h11, h35, h59, ← EReal.coe_mul, coe_sum]
  rw [four_rows (fun u p => ((L u p : ℝ) : EReal)) a, ← EReal.coe_sub]
  rfl

include h11 h20 h29 h30 h35 h59 h62 in
theorem pay_gr (a b : Fin 1024) :
    k0_pay4 v11 v20 v29 v30 v35 v59 v62 (ix2 a b) = ((gr q4 do4 o4 L (Kt b) (Vt b) a : ℝ) : EReal) := by
  pointwise [k0_pay4]
  simp only [pay_wt v11 v35 q4 L h11 h35 v59 Kt h59, h20, h29, h30, h62, ← EReal.coe_mul, coe_sum, ← EReal.coe_sub]
  rfl

include h11 h20 h29 h30 h35 h59 h62 in
theorem pay_dk (b : Fin 1024) (d : Fin 128) :
    k0_pay5 v11 v20 v29 v30 v35 v59 v62 v (ix2 b d)
      = (v (ix2 b d) : EReal) + ((∑ a, gr q4 do4 o4 L (Kt b) (Vt b) a * q4 a d : ℝ) : EReal) := by
  pointwise [k0_pay5]
  simp only [pay_gr v11 v20 v29 v30 v35 q4 do4 o4 L h11 h20 h29 h30 h35 v59 v62 Kt Vt h59 h62, h11, ← EReal.coe_mul, coe_sum]

include h11 h20 h35 h59 in
theorem pay_dv (b : Fin 1024) (d : Fin 128) :
    k0_pay6 v11 v20 v35 v59 v (ix2 b d) = (v (ix2 b d) : EReal) + ((∑ a, wt q4 L (Kt b) a * do4 a d : ℝ) : EReal) := by
  pointwise [k0_pay6]
  simp only [pay_wt v11 v35 q4 L h11 h35 v59 Kt h59, h20, ← EReal.coe_mul, coe_sum]

include h11 h20 h29 h30 h35 h59 h62 in
theorem pay_dq (a : Fin 1024) (d : Fin 128) :
    k0_pay7 v11 v20 v29 v30 v35 v v59 v62 (ix2 a d)
      = (v (ix2 a d) : EReal) + ((∑ b, gr q4 do4 o4 L (Kt b) (Vt b) a * Kt b d : ℝ) : EReal) := by
  pointwise [k0_pay7, k0_pay2]
  simp only [pay_gr v11 v20 v29 v30 v35 q4 do4 o4 L h11 h20 h29 h30 h35 v59 v62 Kt Vt h59 h62, h59, ← EReal.coe_mul, coe_sum]
end

end

/-- One trip's store: the accumulator gains `T` on the rows of its tile. -/
theorem row_step {κ : Kind} {sp : Space} (r : View sig κ sp S8192x128 .f32) (f : r.ty.Contents (Elt Ideal))
    (k : Fin k0_t1_loop.trips) (inb : ∀ a, k0_off1 k a + ![1024, 128] a ≤ S8192x128.size a)
    (w : FVec Ideal S1024x128 .f32) (P : List (View.Piece (Elt Ideal) S8192x128 .f32)) (E : Fin 8192 → Fin 128 → EReal)
    (T : Fin 8192 → Fin 128 → ℝ) (hw : ∀ b d, w (ix2 b d)
      = E (krow k.val b) d + ((if (krow k.val b).val < 1024 * k.val then T (krow k.val b) d else 0 : ℝ) : EReal)
        + ((T (krow k.val b) d : ℝ) : EReal))
    (hP : ∀ j d, r.read (Elt Ideal) (r.writes (Elt Ideal) f P) (ix2 j d)
      = E j d + ((if j.val < 1024 * k.val then T j d else 0 : ℝ) : EReal)) (j : Fin 8192) (d : Fin 128) :
    r.read (Elt Ideal) (r.writes (Elt Ideal) f (⟨Rect.unit (s := S8192x128) (k0_off1 k) ![1024, 128] inb, w⟩ :: P)) (ix2 j d)
      = E j d + ((if j.val < 1024 * (k.val + 1) then T j d else 0 : ℝ) : EReal) := by
  have hk : k.val < 8 := k.isLt
  rcases Decidable.em (1024 * k.val ≤ j.val ∧ j.val < 1024 * k.val + 1024) with h | h
  · have hj : krow k.val ⟨j.val - 1024 * k.val, by omega⟩ = j := Fin.ext (by simp only [krow]; omega)
    refine (View.read_writes_cons_rows_of_mem r f inb w P (ix2 j d) (ix2 ⟨j.val - 1024 * k.val, by omega⟩ d)
      (k0_off1_eq k) (by show j.val = 1024 * k.val + (j.val - 1024 * k.val); omega) rfl).trans ?_
    rw [hw, hj, if_neg (by omega), if_pos (by omega), EReal.coe_zero, add_zero]
  · refine (View.read_writes_cons_rows_of_not_mem (W := 1024) r f inb w P (ix2 j d) (k0_off1_eq k) rfl
      (by show j.val < 1024 * k.val ∨ 1024 * k.val + 1024 ≤ j.val; omega)).trans ?_
    rw [hP]
    refine congrArg (fun x : ℝ => E j d + (x : EReal)) ?_
    split_ifs <;> first | rfl | omega

section
variable (𝒱 : Variants) (c : Dev nD) (bd : Option 𝒱.V) (i : grid0.Coords)
  (arg2 : Memref sig .tc .vmem S256x512 .bf16) (harg2 : arg2.IsWhole) (arg3 : Memref sig .tc .vmem S256x512 .bf16)
  (harg3 : arg3.IsWhole) (arg4 : Memref sig .tc .vmem S256x512 .bf16) (harg4 : arg4.IsWhole)
  (arg5 : Memref sig .tc .vmem S1x4x256 .f32) (harg5 : arg5.IsWhole) (arg6 : Memref sig .tc .vmem S8192x128 .bf16)
  (harg6 : arg6.IsWhole) (arg7 : Memref sig .tc .vmem S8192x128 .bf16) (harg7 : arg7.IsWhole)
  (arg8 : Memref sig .tc .hbm S8x128 .f32) (harg8 : arg8.IsWhole) (arg9 : Memref sig .tc .vmem S256x512 .f32)
  (harg9 : arg9.IsWhole) (arg10 : Memref sig .tc .vmem S8192x128 .f32) (harg10 : arg10.IsWhole)
  (arg11 : Memref sig .tc .vmem S8192x128 .f32) (harg11 : arg11.IsWhole) (v11 : FVec Ideal S1024x128 .bf16)
  (v20 : FVec Ideal S1024x128 .bf16) (v29 : FVec Ideal S1024x128 .bf16) (v30 : FVec Ideal S1024x128 .f32)
  (v35 : Vec Ideal S1x4x256 .f32) (X_arg6 : BufTy.Contents (Elt Ideal) arg6.view.ty)
  (X_arg7 : BufTy.Contents (Elt Ideal) arg7.view.ty)
  (G10 : BufTy.Contents (Elt Ideal) arg10.view.ty) (G11 : BufTy.Contents (Elt Ideal) arg11.view.ty)
  (q4 do4 o4 : Fin 1024 → Fin 128 → ℝ) (L : Fin 4 → Fin 256 → ℝ) (Kg Vg : Fin 8192 → Fin 128 → ℝ)
  (h11 : ∀ a d, v11 (ix2 a d) = ((q4 a d : ℝ) : EReal)) (h20 : ∀ a d, v20 (ix2 a d) = ((do4 a d : ℝ) : EReal))
  (h29 : ∀ a d, v29 (ix2 a d) = ((o4 a d : ℝ) : EReal)) (h30 : ∀ a d, v30 (ix2 a d) = ((do4 a d : ℝ) : EReal))
  (h35 : ∀ u p, v35 (ix3 0 u p) = ((L u p : ℝ) : EReal))
  (h6 : ∀ j d, arg6.view.read (Elt Ideal) X_arg6 (ix2 j d) = ((Kg j d : ℝ) : EReal))
  (h7 : ∀ j d, arg7.view.read (Elt Ideal) X_arg7 (ix2 j d) = ((Vg j d : ℝ) : EReal))

include h11 h20 h29 h30 h35 h6 h7 in
/-- Before trip `n`: the carried gradient of the queries and the two accumulators. -/
theorem loop_state (n : ℕ) (hn : n ≤ 8) :
    (∀ a d, (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) n).1 (ix2 a d)
        = ((∑ s ∈ Finset.range n, ∑ b, gr q4 do4 o4 L (Kg (krow s b)) (Vg (krow s b)) a * Kg (krow s b) d : ℝ) : EReal))
      ∧ (∀ j d, arg10.view.read (Elt Ideal) (arg10.view.writes (Elt Ideal) G10
          (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) n).2.1) (ix2 j d)
        = (arg10.view.read (Elt Ideal) G10 (ix2 j d) : EReal) + ((if j.val < 1024 * n then ∑ a, gr q4 do4 o4 L (Kg j) (Vg j) a * q4 a d else 0 : ℝ) : EReal))
      ∧ ∀ j d, arg11.view.read (Elt Ideal) (arg11.view.writes (Elt Ideal) G11
          (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) n).2.2) (ix2 j d)
        = (arg11.view.read (Elt Ideal) G11 (ix2 j d) : EReal) + ((if j.val < 1024 * n then ∑ a, wt q4 L (Kg j) a * do4 a d else 0 : ℝ) : EReal) := by
  induction n with
  | zero =>
    refine ⟨fun a d => ?_, fun j d => ?_, fun j d => ?_⟩
    · rw [st_k0_t1_zero, Finset.range_zero, Finset.sum_empty]
      pointwise [k0_pay1]
      rfl
    · rw [if_neg (by omega), EReal.coe_zero, add_zero]
      rfl
    · rw [if_neg (by omega), EReal.coe_zero, add_zero]
      rfl
  | succ n ih =>
    obtain ⟨i1, i2, i3⟩ := ih (by omega)
    have hs := st_k0_t1_succ (F := Ideal) 𝒱 c bd i arg2 harg2 arg3 harg3 arg4 harg4 arg5 harg5 arg6 harg6 arg7 harg7 arg8 harg8 arg9 harg9 arg10 harg10
      arg11 harg11 v11 v20 v29 v30 v35 X_arg6 X_arg7 G10 G11 (k0_pay1 (F := Ideal)) ⟨n, hn⟩
    dsimp only at hs
    rw [hs]
    clear hs
    generalize (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) n) = S at i1 i2 i3 ⊢
    unfold tripR_k0_t1 trip_k0_t1
    dsimp only [List.cons_append, List.nil_append]
    have e6 := fun b d => (readAt_tile arg6 X_arg6 ⟨n, hn⟩ (k0_off1_inb ⟨n, hn⟩) b d).trans (h6 _ d)
    have e7 := fun b d => (readAt_tile arg7 X_arg7 ⟨n, hn⟩ (k0_off1_inb ⟨n, hn⟩) b d).trans (h7 _ d)
    have e10 := fun b d => (readAt_tile arg10 _ ⟨n, hn⟩ (k0_off1_inb ⟨n, hn⟩) b d).trans (i2 _ d)
    have e11 := fun b d => (readAt_tile arg11 _ ⟨n, hn⟩ (k0_off1_inb ⟨n, hn⟩) b d).trans (i3 _ d)
    refine ⟨fun a d => ?_, fun j d => ?_, fun j d => ?_⟩
    · rw [Finset.sum_range_succ, EReal.coe_add, ← i1 a d]
      exact pay_dq v11 v20 v29 v30 v35 q4 do4 o4 L h11 h20 h29 h30 h35 _ _ _ _ _ e6 e7 a d
    · exact row_step arg10.view G10 ⟨n, hn⟩ _ _ _ (fun j d => arg10.view.read (Elt Ideal) G10 (ix2 j d)) _
        (fun b d => (pay_dk v11 v20 v29 v30 v35 q4 do4 o4 L h11 h20 h29 h30 h35 _ _ _ _ _ e6 e7 b d).trans
          (congrArg (· + _) (e10 b d))) i2 j d
    · exact row_step arg11.view G11 ⟨n, hn⟩ _ _ _ (fun j d => arg11.view.read (Elt Ideal) G11 (ix2 j d)) _
        (fun b d => (pay_dv v11 v20 v35 q4 do4 L h11 h20 h35 _ _ _ e6 b d).trans
          (congrArg (· + _) (e11 b d))) i3 j d
include h11 h20 h29 h30 h35 h6 h7 in
/-- After the loop: the gradient of the queries. -/
theorem loop_dq (a : Fin 1024) (d : Fin 128) :
    (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) 8).1 (ix2 a d)
      = ((∑ j, gr q4 do4 o4 L (Kg j) (Vg j) a * Kg j d : ℝ) : EReal) := by
  rw [(loop_state 𝒱 c bd i arg2 harg2 arg3 harg3 arg4 harg4 arg5 harg5 arg6 harg6 arg7 harg7 arg8 harg8 arg9 harg9 arg10 harg10
      arg11 harg11 v11 v20 v29 v30 v35 X_arg6 X_arg7 G10 G11 q4 do4 o4 L Kg Vg
    h11 h20 h29 h30 h35 h6 h7 8 le_rfl).1 a d, sum_krow (fun j => gr q4 do4 o4 L (Kg j) (Vg j) a * Kg j d)]

include h11 h20 h29 h30 h35 h6 h7 in
/-- After the loop: the accumulated gradient of the keys. -/
theorem loop_dk (j : Fin 8192) (d : Fin 128) :
    arg10.view.read (Elt Ideal) (arg10.view.writes (Elt Ideal) G10
        (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) 8).2.1) (ix2 j d)
      = (arg10.view.read (Elt Ideal) G10 (ix2 j d) : EReal) + ((∑ a, gr q4 do4 o4 L (Kg j) (Vg j) a * q4 a d : ℝ) : EReal) := by
  rw [(loop_state 𝒱 c bd i arg2 harg2 arg3 harg3 arg4 harg4 arg5 harg5 arg6 harg6 arg7 harg7 arg8 harg8 arg9 harg9 arg10 harg10
      arg11 harg11 v11 v20 v29 v30 v35 X_arg6 X_arg7 G10 G11 q4 do4 o4 L Kg Vg
    h11 h20 h29 h30 h35 h6 h7 8 le_rfl).2.1 j d, if_pos (by have := j.isLt; omega)]

include h11 h20 h29 h30 h35 h6 h7 in
/-- After the loop: the accumulated gradient of the values. -/
theorem loop_dv (j : Fin 8192) (d : Fin 128) :
    arg11.view.read (Elt Ideal) (arg11.view.writes (Elt Ideal) G11
        (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) 8).2.2) (ix2 j d)
      = (arg11.view.read (Elt Ideal) G11 (ix2 j d) : EReal) + ((∑ a, wt q4 L (Kg j) a * do4 a d : ℝ) : EReal) := by
  rw [(loop_state 𝒱 c bd i arg2 harg2 arg3 harg3 arg4 harg4 arg5 harg5 arg6 harg6 arg7 harg7 arg8 harg8 arg9 harg9 arg10 harg10
      arg11 harg11 v11 v20 v29 v30 v35 X_arg6 X_arg7 G10 G11 q4 do4 o4 L Kg Vg
    h11 h20 h29 h30 h35 h6 h7 8 le_rfl).2.2 j d, if_pos (by have := j.isLt; omega)]

/-- The eight tiles cover the keys' accumulator, so what it held before does not show. -/
theorem cover_dk (y : S8192x128.Idx) : ∃ p ∈ (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) 8).2.1, y ∈ p.1.set :=
  View.cover_of_tiledL (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) 8).2.1 S1024x128.size (by sl_kernel_rfl) y

/-- The eight tiles cover the values' accumulator. -/
theorem cover_dv (y : S8192x128.Idx) : ∃ p ∈ (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) 8).2.2, y ∈ p.1.set :=
  View.cover_of_tiledL (st_k0_t1 (F := Ideal) 𝒱 c bd i arg2 harg2 arg3 harg3 arg4 harg4 arg5 harg5 arg6 harg6 arg7 harg7 arg8 harg8
      arg9 harg9 arg10 harg10 arg11 harg11 v11 v20 v29 v30 v35 X_arg6 X_arg7 G10 G11 (k0_pay1 (F := Ideal)) 8).2.2 S1024x128.size (by sl_kernel_rfl) y
end

end Cert.Kernel2Ideal.Value
-- ==== Proof.AttnHost.lean ====
/-
  The attention kernel's operands: the scaled queries per unit of a base-two exponent, the output and the rows' log sums,
  as the host lines before the call make them on finite arguments. The row maximum is only known to be some real number.
-/
module
public import proofs.«01_k».proof.Proof.Gen.Kernel2Ideal.Value
public import proofs.«01_k».proof.Proof.AttnModel
@[expose] public section
set_option maxRecDepth 16384
noncomputable section
namespace Cert.Kernel2Ideal.Value
open Cert.Kernel2Ideal Cert.Kernel2Ideal.Gen Idealize.ShloMosaic Idealize.ShloMosaic.TcCoe Idealize.SL.Sem  Idealize.ShloMosaic.StableHlo Cert.Reals

theorem reduces_score : S2x4x8192x8192.Reduces [3] S2x4x8192 := by decide +kernel

theorem size_score : 0 < S2x4x8192x8192.size 3 := by decide +kernel

theorem max_row (y : FVec Ideal S2x4x8192x8192 .f32) (hy : ∀ i, ∃ r : ℝ, y i = ((r : ℝ) : EReal)) (j : S2x4x8192.Idx) :
    ∃ M : ℝ, (Host.reduce FloatOps.maximumf y (constant S_ FTy.f32 4286578688#32) reducesTo_S2x4x8192x8192_S2x4x8192_d3 h_S_ :
      FVec Ideal S2x4x8192 .f32) j = ((M : ℝ) : EReal) :=
  hostMax_real (s := S2x4x8192x8192) (t := S2x4x8192) (u := S_) (a := 3) y _ _ reduces_score _ j size_score word_bot hy

/-- A row's log sum from any shift. -/
theorem log_row (y : FVec Ideal S2x4x8192x8192 .f32) (w : FVec Ideal S2x4x8192 .f32) (g : Fin 2) (u : Fin 4) (i : Fin 8192)
    (M : ℝ) (f : Fin 8192 → ℝ) (hw : w (ix3 g u i) = ((M : ℝ) : EReal)) (hy : ∀ j, y (ix4 g u i j) = ((f j : ℝ) : EReal)) :
    (Host.divf (addf w (Host.log (Host.reduceAdd (Host.exp (subf y
      (broadcastInDim S2x4x8192x8192 ![0, 1, 2, 3] bcast_S2x4x8192x1_S2x4x8192x8192_0_1_2_3
        (broadcastInDim S2x4x8192x1 ![0, 1, 2] bcast_S2x4x8192_S2x4x8192x1_0_1_2 w)))) (constant S_ FTy.f32 0#32)
        reducesTo_S2x4x8192x8192_S2x4x8192_d3 h_S_)))
      (broadcastInDim S2x4x8192 ![] bcast_S_S2x4x8192 (Host.log (constant S_ FTy.f32 1073741824#32))) :
      FVec Ideal S2x4x8192 .f32) (ix3 g u i) = (((M + Real.log (∑ j, Real.exp (f j - M))) / Real.log 2 : ℝ) : EReal) := by
  have hp : 0 < ∑ j, Real.exp (f j - M) := Finset.sum_pos (fun j _ => Real.exp_pos _) ⟨0, Finset.mem_univ _⟩
  pointwise
  simp only [hw, hy, word_2, ← EReal.coe_sub, Ideal.exp_coe, coe_sum, Ideal.log_coe]
  rw [if_neg hp.not_ge, if_neg (by norm_num), ← EReal.coe_add, coe_div _ _ (Real.log_pos one_lt_two).ne']

/-- A row's weights from any shift. -/
theorem prob_row (y : FVec Ideal S2x4x8192x8192 .f32) (w : FVec Ideal S2x4x8192 .f32) (g : Fin 2) (u : Fin 4) (i j : Fin 8192)
    (M : ℝ) (f : Fin 8192 → ℝ) (hw : w (ix3 g u i) = ((M : ℝ) : EReal)) (hy : ∀ j, y (ix4 g u i j) = ((f j : ℝ) : EReal)) :
    (Host.divf (Host.exp (subf y
        (broadcastInDim S2x4x8192x8192 ![0, 1, 2, 3] bcast_S2x4x8192x1_S2x4x8192x8192_0_1_2_3
          (broadcastInDim S2x4x8192x1 ![0, 1, 2] bcast_S2x4x8192_S2x4x8192x1_0_1_2
            (maximumf (broadcastInDim S2x4x8192 ![] bcast_S_S2x4x8192 (constant S_ FTy.f32 4286578688#32)) w)))))
      (broadcastInDim S2x4x8192x8192 ![0, 1, 2, 3] bcast_S2x4x8192x1_S2x4x8192x8192_0_1_2_3
        (broadcastInDim S2x4x8192x1 ![0, 1, 2] bcast_S2x4x8192_S2x4x8192x1_0_1_2
          (Host.reduceAdd (Host.exp (subf y
            (broadcastInDim S2x4x8192x8192 ![0, 1, 2, 3] bcast_S2x4x8192x1_S2x4x8192x8192_0_1_2_3
              (broadcastInDim S2x4x8192x1 ![0, 1, 2] bcast_S2x4x8192_S2x4x8192x1_0_1_2
                (maximumf (broadcastInDim S2x4x8192 ![] bcast_S_S2x4x8192 (constant S_ FTy.f32 4286578688#32)) w)))))
            (constant S_ FTy.f32 0#32) reducesTo_S2x4x8192x8192_S2x4x8192_d3 h_S_))) :
      FVec Ideal S2x4x8192x8192 .f32) (ix4 g u i j) = ((Real.exp (f j - M) / ∑ k, Real.exp (f k - M) : ℝ) : EReal) := by
  have hp : 0 < ∑ j, Real.exp (f j - M) := Finset.sum_pos (fun j _ => Real.exp_pos _) ⟨0, Finset.mem_univ _⟩
  pointwise
  simp only [hw, hy, word_bot, bot_le, max_eq_right, ← EReal.coe_sub, Ideal.exp_coe, coe_sum]
  rw [coe_div _ _ hp.ne']

section
variable (Q : Fin 8192 → Fin 1024 → ℝ) (K V' : Fin 8192 → Fin 256 → ℝ)

theorem log_val (y : FVec Ideal S2x4x8192x8192 .f32)
    (hy : ∀ g u i j, y (ix4 g u i j) = ((Attn.score Q K g u i j : ℝ) : EReal)) (g : Fin 2) (u : Fin 4) (i : Fin 8192) :
    (Host.divf (addf (Host.reduce FloatOps.maximumf y (constant S_ FTy.f32 4286578688#32) reducesTo_S2x4x8192x8192_S2x4x8192_d3 h_S_)
      (Host.log (Host.reduceAdd (Host.exp (subf y
      (broadcastInDim S2x4x8192x8192 ![0, 1, 2, 3] bcast_S2x4x8192x1_S2x4x8192x8192_0_1_2_3
        (broadcastInDim S2x4x8192x1 ![0, 1, 2] bcast_S2x4x8192_S2x4x8192x1_0_1_2
          (Host.reduce FloatOps.maximumf y (constant S_ FTy.f32 4286578688#32) reducesTo_S2x4x8192x8192_S2x4x8192_d3 h_S_)))))
        (constant S_ FTy.f32 0#32) reducesTo_S2x4x8192x8192_S2x4x8192_d3 h_S_)))
      (broadcastInDim S2x4x8192 ![] bcast_S_S2x4x8192 (Host.log (constant S_ FTy.f32 1073741824#32))) :
      FVec Ideal S2x4x8192 .f32) (ix3 g u i) = ((Real.log (Attn.mass Q K g u i) / Real.log 2 : ℝ) : EReal) := by
  obtain ⟨M, hM⟩ := max_row y (fun x => ⟨Attn.score Q K (x 0) (x 1) (x 2) (x 3), by rw [eq_ix4 x]; exact hy _ _ _ _⟩) (ix3 g u i)
  rw [log_row y _ g u i M _ hM (hy g u i), Attn.log_shift]

theorem prob_val (y : FVec Ideal S2x4x8192x8192 .f32)
    (hy : ∀ g u i j, y (ix4 g u i j) = ((Attn.score Q K g u i j : ℝ) : EReal)) (g : Fin 2) (u : Fin 4) (i j : Fin 8192) :
    (Host.divf (Host.exp (subf y
        (broadcastInDim S2x4x8192x8192 ![0, 1, 2, 3] bcast_S2x4x8192x1_S2x4x8192x8192_0_1_2_3
          (broadcastInDim S2x4x8192x1 ![0, 1, 2] bcast_S2x4x8192_S2x4x8192x1_0_1_2
            (maximumf (broadcastInDim S2x4x8192 ![] bcast_S_S2x4x8192 (constant S_ FTy.f32 4286578688#32))
              (Host.reduce FloatOps.maximumf y (constant S_ FTy.f32 4286578688#32) reducesTo_S2x4x8192x8192_S2x4x8192_d3 h_S_))))))
      (broadcastInDim S2x4x8192x8192 ![0, 1, 2, 3] bcast_S2x4x8192x1_S2x4x8192x8192_0_1_2_3
        (broadcastInDim S2x4x8192x1 ![0, 1, 2] bcast_S2x4x8192_S2x4x8192x1_0_1_2
          (Host.reduceAdd (Host.exp (subf y
            (broadcastInDim S2x4x8192x8192 ![0, 1, 2, 3] bcast_S2x4x8192x1_S2x4x8192x8192_0_1_2_3
              (broadcastInDim S2x4x8192x1 ![0, 1, 2] bcast_S2x4x8192_S2x4x8192x1_0_1_2
                (maximumf (broadcastInDim S2x4x8192 ![] bcast_S_S2x4x8192 (constant S_ FTy.f32 4286578688#32))
                  (Host.reduce FloatOps.maximumf y (constant S_ FTy.f32 4286578688#32)
                    reducesTo_S2x4x8192x8192_S2x4x8192_d3 h_S_))))))
            (constant S_ FTy.f32 0#32) reducesTo_S2x4x8192x8192_S2x4x8192_d3 h_S_))) :
      FVec Ideal S2x4x8192x8192 .f32) (ix4 g u i j) = ((Attn.prob Q K g u i j : ℝ) : EReal) := by
  obtain ⟨M, hM⟩ := max_row y (fun x => ⟨Attn.score Q K (x 0) (x 1) (x 2) (x 3), by rw [eq_ix4 x]; exact hy _ _ _ _⟩) (ix3 g u i)
  rw [prob_row y _ g u i j M _ hM (hy g u i), Attn.prob_shift]

/-- The output's columns from the weights. -/
theorem out_val (x : FVec Ideal S8192x256 .f32) (p : FVec Ideal S2x4x8192x8192 .f32)
    (hx : ∀ j e, x (ix2 j e) = ((V' j e : ℝ) : EReal))
    (hp : ∀ g u i j, p (ix4 g u i j) = ((Attn.prob Q K g u i j : ℝ) : EReal)) (i : Fin 8192) (e : Fin 1024) :
    (truncf FTy.bf16 (fun k => shapeCast S8192x1024 (transpose S8192x2x4x128 [3, 0, 2, 1]
      (Host.dotGeneral (φ₁ := .f32) dot_S8192x2x128_S2x4x8192x8192_S2x128x4x8192_0_3_2_12_1_0 none
        (fun k => shapeCast S8192x2x128 x shapeCasts_S8192x256_S8192x2x128 k) p)
      transposes_S2x128x4x8192_S8192x2x4x128_3_0_2_1) shapeCasts_S8192x2x4x128_S8192x1024 k) bitsLt_bf16_f32 :
      FVec Ideal S8192x1024 .bf16) (ix2 i e)
      = ((Attn.out Q K V' (Attn.qg e) (Attn.qu e) i (Attn.qd e) : ℝ) : EReal) := by
  pointwise
  simp only [hx, hp, ← EReal.coe_mul, coe_sum]
  rfl
end

section
variable (m : (ℓ : Loc nD τ sig) → Buf (Elt Ideal) ℓ) (c : Dev nD)
  (Q : Fin 8192 → Fin 1024 → ℝ) (K V' : Fin 8192 → Fin 256 → ℝ) (C : Fin 8192 → Fin 1024 → ℝ)
  (h0 : ∀ i e, m ((c : Thread nD τ).loc main_arg0) (ix2 i e) = ((Q i e : ℝ) : EReal))
  (h1 : ∀ j e, m ((c : Thread nD τ).loc main_arg1) (ix2 j e) = ((K j e : ℝ) : EReal))
  (h2 : ∀ j e, m ((c : Thread nD τ).loc main_arg2) (ix2 j e) = ((V' j e : ℝ) : EReal))
  (h3 : ∀ i e, m ((c : Thread nD τ).loc main_arg3) (ix2 i e) = ((C i e : ℝ) : EReal))

include h0 in
theorem V36 (i : Fin 8192) (e : Fin 1024) : V m c main_v36 (ix2 i e) = ((Q i e / Real.log 2 : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h0, word_2, Ideal.log_coe, if_neg (by norm_num), coe_div _ _ (Real.log_pos one_lt_two).ne']

include h1 in
theorem V37 (i : Fin 8192) (e : Fin 256) : V m c main_v37 (ix2 i e) = ((K i e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h1]

include h2 in
theorem V38 (i : Fin 8192) (e : Fin 256) : V m c main_v38 (ix2 i e) = ((V' i e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h2]

include h3 in
theorem V40 (i : Fin 8192) (e : Fin 1024) : V m c main_v40 (ix2 i e) = ((C i e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h3]

include h0 h1 in
theorem V33 (g : Fin 2) (u : Fin 4) (i : Fin 8192) :
    V m c main_v33 (ix3 g u i) = ((Real.log (Attn.mass Q K g u i) / Real.log 2 : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  refine log_val Q K _ (fun g u i j => ?_) g u i
  pointwise
  simp only [h0, h1, ← EReal.coe_mul, coe_sum]
  rfl

include h0 h1 h2 in
theorem V39 (i : Fin 8192) (e : Fin 1024) :
    V m c main_v39 (ix2 i e) = ((Attn.out Q K V' (Attn.qg e) (Attn.qu e) i (Attn.qd e) : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  refine out_val Q K V' _ _ h2 (fun g u i j => prob_val Q K _ (fun g u i j => ?_) g u i j) i e
  pointwise
  simp only [h0, h1, ← EReal.coe_mul, coe_sum]
  rfl
end

end Cert.Kernel2Ideal.Value
-- ==== Proof.AttnKernel.lean ====
/-
  The attention backward kernel: what its three result arrays hold after the run, on finite arguments, is the real model
  of `AttnModel.lean`.
-/
module
public import proofs.«01_k».proof.Proof.AttnLoop
public import proofs.«01_k».proof.Proof.AttnHost
public import Idealize.ShloMosaic.Lib.Pipeline.ValueKit
@[expose] public section
set_option maxRecDepth 16384
noncomputable section
namespace Cert.Kernel2Ideal.Value
open Cert.Kernel2Ideal Cert.Kernel2Ideal.Gen Idealize.ShloMosaic Idealize.ShloMosaic.TcCoe Idealize.SL.Sem  Idealize.ShloMosaic.StableHlo Cert.Reals
variable (m : (ℓ : Loc nD τ sig) → Buf (Elt Ideal) ℓ)

theorem idx : ∀ t : Fin cfg0.N, win0_0.index t = ![t.val % 32, t.val / 32] ∧ win0_1.index t = ![t.val % 32, t.val / 32]
    ∧ win0_2.index t = ![t.val % 32, t.val / 32] ∧ win0_3.index t = ![t.val / 32, 0, t.val % 32]
    ∧ win0_4.index t = ![0, t.val / 32] ∧ win0_5.index t = ![0, t.val / 32] ∧ win0_6.index t = ![t.val % 32, t.val / 32]
    ∧ win0_7.index t = ![0, t.val / 32] ∧ win0_8.index t = ![0, t.val / 32] :=
  (by decide +kernel : ∀ t : Fin grid0.N, _)

/-- The key head of a grid point. -/
def gt (t : Fin cfg0.N) : Fin 2 := ⟨t.val / 32, by have := t.isLt; have : cfg0.N = 64 := N_0; omega⟩
/-- The query that row `p` of a grid point's blocks is. -/
def row (t : Fin cfg0.N) (p : Fin 256) : Fin 8192 := ⟨t.val % 32 * 256 + p.val, by omega⟩
/-- The query column that column `e` of a grid point's blocks is. -/
def col (t : Fin cfg0.N) (e : Fin 512) : Fin 1024 := ⟨(gt t).val * 512 + e.val, by omega⟩

/-- Four blocks of 256 rows stacked, as the body stacks the heads of a group. -/
theorem stack14 (v0 v1 v2 v3 : Vec Ideal S256x128 .bf16) (f : Fin 4 → Fin 256 → Fin 128 → ℝ)
    (h0 : ∀ p d, v0 (ix2 p d) = ((f 0 p d : ℝ) : EReal)) (h1 : ∀ p d, v1 (ix2 p d) = ((f 1 p d : ℝ) : EReal))
    (h2 : ∀ p d, v2 (ix2 p d) = ((f 2 p d : ℝ) : EReal)) (h3 : ∀ p d, v3 (ix2 p d) = ((f 3 p d : ℝ) : EReal))
    (a : Fin 1024) (d : Fin 128) : k0_pay14 v0 v1 v2 v3 (ix2 a d) = ((f (au a) (ap a) d : ℝ) : EReal) := by
  pointwise [k0_pay14]
  simp only [h0, h1, h2, h3]
  exact four_rows (fun u p => ((f u p d : ℝ) : EReal)) a

theorem stack15 (v0 v1 v2 v3 : Vec Ideal S256x128 .bf16) : k0_pay15 v0 v1 v2 v3 = k0_pay14 v0 v1 v2 v3 := rfl
theorem stack16 (v0 v1 v2 v3 : Vec Ideal S256x128 .bf16) : k0_pay16 v0 v1 v2 v3 = k0_pay14 v0 v1 v2 v3 := rfl
theorem stack17 (v0 v1 v2 v3 : Vec Ideal S256x128 .bf16) (x : S1024x128.Idx) :
    k0_pay17 v0 v1 v2 v3 x = (k0_pay14 v0 v1 v2 v3 x : EReal) := rfl

/-- The heads of a block, stacked as the body stacks them. -/
def stack (x : Vec Ideal S256x512 .bf16) : FVec Ideal S1024x128 .bf16 :=
  k0_pay14 (View.ld x (Rect.unit ![0, 0] ![256, 128] inb_S256x512_S256x128_0_0))
    (View.ld x (Rect.unit ![0, 128] ![256, 128] inb_S256x512_S256x128_0_128))
    (View.ld x (Rect.unit ![0, 256] ![256, 128] inb_S256x512_S256x128_0_256))
    (View.ld x (Rect.unit ![0, 384] ![256, 128] inb_S256x512_S256x128_0_384))

theorem stack_apply (x : Vec Ideal S256x512 .bf16) (f : Fin 256 → Fin 512 → ℝ) (h : ∀ p e, x (ix2 p e) = ((f p e : ℝ) : EReal))
    (a : Fin 1024) (d : Fin 128) : stack x (ix2 a d) = ((f (ap a) ⟨(au a).val * 128 + d.val, by omega⟩ : ℝ) : EReal) := by
  refine stack14 _ _ _ _ (fun u p d => f p ⟨u.val * 128 + d.val, by omega⟩) ?_ ?_ ?_ ?_ a d <;>
    (intro p d; pointwise; rw [h])

section
variable (c : Dev nD)
  (Q : Fin 8192 → Fin 1024 → ℝ) (K V' : Fin 8192 → Fin 256 → ℝ) (C : Fin 8192 → Fin 1024 → ℝ)
  (h0 : ∀ i e, m ((c : Thread nD τ).loc main_arg0) (ix2 i e) = ((Q i e : ℝ) : EReal))
  (h1 : ∀ j e, m ((c : Thread nD τ).loc main_arg1) (ix2 j e) = ((K j e : ℝ) : EReal))
  (h2 : ∀ j e, m ((c : Thread nD τ).loc main_arg2) (ix2 j e) = ((V' j e : ℝ) : EReal))
  (h3 : ∀ i e, m ((c : Thread nD τ).loc main_arg3) (ix2 i e) = ((C i e : ℝ) : EReal))

include h0 in
theorem b0 (t : Fin cfg0.N) (p : Fin 256) (e : Fin 512) :
    iblk m c 0 t (ix2 p e) = ((Q (row t p) (col t e) / Real.log 2 : ℝ) : EReal) := by
  rw [← V36 m c Q h0]; have : ((row t p) : ℕ) = t.val % 32 * 256 + p.val := rfl
  have : ((col t e) : ℕ) = t.val / 32 * 512 + e.val := rfl
  blk_point [iblk, idx t]
include h3 in
theorem b1 (t : Fin cfg0.N) (p : Fin 256) (e : Fin 512) :
    iblk m c 1 t (ix2 p e) = ((C (row t p) (col t e) : ℝ) : EReal) := by
  rw [← V40 m c C h3]; have : ((row t p) : ℕ) = t.val % 32 * 256 + p.val := rfl
  have : ((col t e) : ℕ) = t.val / 32 * 512 + e.val := rfl
  blk_point [iblk, idx t]
include h0 h1 h2 in
theorem b2 (t : Fin cfg0.N) (p : Fin 256) (e : Fin 512) :
    iblk m c 2 t (ix2 p e)
      = ((Attn.out Q K V' (Attn.qg (col t e)) (Attn.qu (col t e)) (row t p) (Attn.qd (col t e)) : ℝ) : EReal) := by
  rw [← V39 m c Q K V' h0 h1 h2]; have : ((row t p) : ℕ) = t.val % 32 * 256 + p.val := rfl
  have : ((col t e) : ℕ) = t.val / 32 * 512 + e.val := rfl
  blk_point [iblk, idx t]
include h0 h1 in
theorem b3 (t : Fin cfg0.N) (u : Fin 4) (p : Fin 256) :
    iblk m c 3 t (ix3 0 u p) = ((Real.log (Attn.mass Q K (gt t) u (row t p)) / Real.log 2 : ℝ) : EReal) := by
  rw [← V33 m c Q K h0 h1]; have : ((row t p) : ℕ) = t.val % 32 * 256 + p.val := rfl
  have : ((gt t) : ℕ) = t.val / 32 := rfl
  blk_point [iblk, idx t]
include h1 in
theorem b4 (t : Fin cfg0.N) (j : Fin 8192) (d : Fin 128) :
    iblk m c 4 t (ix2 j d) = ((K j (Attn.kcol (gt t) d) : ℝ) : EReal) := by
  rw [← V37 m c K h1]; have : (Attn.kcol (gt t) d : ℕ) = t.val / 32 * 128 + d.val := rfl
  blk_point [iblk, idx t]
include h2 in
theorem b5 (t : Fin cfg0.N) (j : Fin 8192) (d : Fin 128) :
    iblk m c 5 t (ix2 j d) = ((V' j (Attn.kcol (gt t) d) : ℝ) : EReal) := by
  rw [← V38 m c V' h2]; have : (Attn.kcol (gt t) d : ℕ) = t.val / 32 * 128 + d.val := rfl
  blk_point [iblk, idx t]

/-- The scaled queries per unit of a base-two exponent, by stacked row. -/
def q4 (t : Fin cfg0.N) (a : Fin 1024) (d : Fin 128) : ℝ := Q (row t (ap a)) (Attn.qcol (gt t) (au a) d) / Real.log 2
/-- The cotangent, by stacked row. -/
def c4 (t : Fin cfg0.N) (a : Fin 1024) (d : Fin 128) : ℝ := C (row t (ap a)) (Attn.qcol (gt t) (au a) d)
/-- The output, by stacked row. -/
def o4 (t : Fin cfg0.N) (a : Fin 1024) (d : Fin 128) : ℝ := Attn.out Q K V' (gt t) (au a) (row t (ap a)) d

theorem col_eq (t : Fin cfg0.N) (u : Fin 4) (d : Fin 128) (h : u.val * 128 + d.val < 512) :
    col t ⟨u.val * 128 + d.val, h⟩ = Attn.qcol (gt t) u d := Fin.ext (by simp only [col, Attn.qcol]; omega)
theorem qg_col (t : Fin cfg0.N) (u : Fin 4) (d : Fin 128) : Attn.qg (Attn.qcol (gt t) u d) = gt t :=
  Fin.ext (by simp only [Attn.qg, Attn.qcol]; omega)
theorem qu_col (t : Fin cfg0.N) (u : Fin 4) (d : Fin 128) : Attn.qu (Attn.qcol (gt t) u d) = u :=
  Fin.ext (by simp only [Attn.qu, Attn.qcol]; omega)
theorem qd_col (t : Fin cfg0.N) (u : Fin 4) (d : Fin 128) : Attn.qd (Attn.qcol (gt t) u d) = d :=
  Fin.ext (by simp only [Attn.qd, Attn.qcol]; omega)

include h0 in
theorem s0 (t : Fin cfg0.N) (a : Fin 1024) (d : Fin 128) : stack (iblk m c 0 t) (ix2 a d) = ((q4 Q t a d : ℝ) : EReal) := by
  rw [stack_apply _ _ (b0 m c Q h0 t), col_eq]; rfl
include h3 in
theorem s1 (t : Fin cfg0.N) (a : Fin 1024) (d : Fin 128) : stack (iblk m c 1 t) (ix2 a d) = ((c4 C t a d : ℝ) : EReal) := by
  rw [stack_apply _ _ (b1 m c C h3 t), col_eq]; rfl
include h0 h1 h2 in
theorem s2 (t : Fin cfg0.N) (a : Fin 1024) (d : Fin 128) : stack (iblk m c 2 t) (ix2 a d) = ((o4 Q K V' t a d : ℝ) : EReal) := by
  rw [stack_apply _ _ (b2 m c Q K V' h0 h1 h2 t), col_eq, qg_col, qu_col, qd_col]; rfl

/-- The rows' log sums, in units of the base-two exponent. -/
def lse (t : Fin cfg0.N) (u : Fin 4) (p : Fin 256) : ℝ := Real.log (Attn.mass Q K (gt t) u (row t p)) / Real.log 2

/-- The recomputed weights are the attention's. -/
theorem wt_eq (t : Fin cfg0.N) (j : Fin 8192) (a : Fin 1024) :
    wt (q4 Q t) (lse Q K t) (fun d => K j (Attn.kcol (gt t) d)) a = Attn.prob Q K (gt t) (au a) (row t (ap a)) j := by
  have hl : Real.log 2 ≠ 0 := (Real.log_pos one_lt_two).ne'
  rw [← Attn.prob_eq_exp, wt]
  show (2 : ℝ) ^ (_ : ℝ) = _
  rw [Real.rpow_def_of_pos two_pos, Attn.score, lse]
  refine congrArg Real.exp ?_
  rw [mul_sub, mul_div_cancel₀ _ hl, Finset.mul_sum]
  refine congrArg (· - _) (Finset.sum_congr rfl fun d _ => ?_)
  rw [q4]
  field_simp

/-- The recomputed gradient of a score. -/
theorem gr_eq (t : Fin cfg0.N) (j : Fin 8192) (a : Fin 1024) :
    gr (q4 Q t) (c4 C t) (o4 Q K V' t) (lse Q K t) (fun d => K j (Attn.kcol (gt t) d)) (fun d => V' j (Attn.kcol (gt t) d)) a
      = Attn.dscore Q K V' C (gt t) (au a) (row t (ap a)) j := by
  rw [gr, wt_eq, Attn.dscore, ← Attn.sum_prob_dprob]
  rfl

theorem trips_eq : Scf.trips 0#32 (Scalar.addi 0#32 8#32) 1#32 = 8 := by decide +kernel

include h1 in
theorem k_read (t : Fin cfg0.N) (r : Memref sig .tc .vmem S8192x128 .bf16) (h : r.IsWhole) (j : Fin 8192) (d : Fin 128) :
    r.view.read (Elt Ideal) (h.unread (iblk m c 4 t)) (ix2 j d) = ((K j (Attn.kcol (gt t) d) : ℝ) : EReal) := by
  rw [h.read_unread]; exact b4 m c K h1 t j d
include h2 in
theorem v_read (t : Fin cfg0.N) (r : Memref sig .tc .vmem S8192x128 .bf16) (h : r.IsWhole) (j : Fin 8192) (d : Fin 128) :
    r.view.read (Elt Ideal) (h.unread (iblk m c 5 t)) (ix2 j d) = ((V' j (Attn.kcol (gt t) d) : ℝ) : EReal) := by
  rw [h.read_unread]; exact b5 m c V' h2 t j d

theorem dQ_col (t : Fin cfg0.N) (a : Fin 1024) (e : Fin 512) (d : Fin 128) (p : Fin 256)
    (hu : a.val = e.val / 128 * 256 + p.val) (hd : e.val = e.val / 128 * 128 + d.val) :
    ∑ j, gr (q4 Q t) (c4 C t) (o4 Q K V' t) (lse Q K t) (fun d => K j (Attn.kcol (gt t) d)) (fun d => V' j (Attn.kcol (gt t) d)) a
        * K j (Attn.kcol (gt t) d) = Attn.dQ Q K V' C (row t p) (col t e) := by
  have hp := p.isLt
  have he := e.isLt
  have hdd := d.isLt
  have e1 : au a = ⟨e.val / 128, by omega⟩ := Fin.ext (by simp only [au]; omega)
  have e2 : ap a = p := Fin.ext (by simp only [ap]; omega)
  have e3 : col t e = Attn.qcol (gt t) (au a) d := by rw [e1]; exact Fin.ext (by simp only [col, Attn.qcol]; omega)
  rw [e3, Attn.dQ, qg_col, qu_col, qd_col, Attn.dq]
  refine Finset.sum_congr rfl fun j _ => ?_
  rw [gr_eq, e2]

include h0 h1 h2 h3 in
theorem out_dq (t : Fin cfg0.N) (p : Fin 256) (e : Fin 512) :
    (outsAt0 m c t.val t.isLt).1 (ix2 p e) = ((Attn.dQ Q K V' C (row t p) (col t e) : ℝ) : EReal) := by
  have S0 := s0 m c Q h0 t
  have S1 := s1 m c C h3 t
  have S2 := s2 m c Q K V' h0 h1 h2 t
  have S3 := b3 m c Q K h0 h1 t
  rcases Decidable.em (t.val % 32 = 0) with h | h <;> [rw [outsAt0_A m c t h]; rw [outsAt0_B m c t h]] <;> frame_out <;>
    canon_tiles x h <;>
    (obtain ⟨q, d, rfl⟩ : ∃ (q : Fin 256) (d : Fin 128), x = ix2 q d := ⟨x 0, x 1, eq_ix2 x⟩
     obtain rfl : p = q := Fin.ext h0
     have he : (e : ℕ) = _ := h1
     have hd : d.val < 128 := d.isLt
     have hd1 : ((ix2 p d) 1 : ℕ) = d.val := rfl
     rw [hd1] at he
     pointwise [k0_pay8, k0_pay9, k0_pay10, k0_pay11]
     rw [trips_eq]
     refine (loop_dq _ _ _ _ _ _ _ _ _ _ _ _ _ _ _ _ _ _ _ _ _ _ _ _ _ _ _ _ _ _ _ _ _ (q4 Q t) (c4 C t)
       (o4 Q K V' t) (lse Q K t) (fun j d => K j (Attn.kcol (gt t) d)) (fun j d => V' j (Attn.kcol (gt t) d)) S0 S1 S2 S1 S3
       (k_read m c K ‹_› t _ _) (v_read m c V' h2 t _ _) _ _).trans ?_
     refine congrArg Real.toEReal (dQ_col Q K V' C t _ e d p ?_ ?_) <;> first | omega | (dsimp only; omega))
/-- What one grid point adds to the keys' gradient. -/
def dkTerm (t : Fin cfg0.N) (j : Fin 8192) (d : Fin 128) : ℝ :=
  ∑ a, gr (q4 Q t) (c4 C t) (o4 Q K V' t) (lse Q K t) (fun d => K j (Attn.kcol (gt t) d)) (fun d => V' j (Attn.kcol (gt t) d)) a
    * q4 Q t a d
/-- What one grid point adds to the values' gradient. -/
def dvTerm (t : Fin cfg0.N) (j : Fin 8192) (d : Fin 128) : ℝ :=
  ∑ a, wt (q4 Q t) (lse Q K t) (fun d => K j (Attn.kcol (gt t) d)) a * c4 C t a d

/-- A whole store over anything reads back. -/
theorem read_whole (r : Memref sig .tc .vmem S8192x128 .f32) (f : BufTy.Contents (Elt Ideal) r.view.ty)
    (inb : ∀ a, ![0, 0] a + S8192x128.size a ≤ S8192x128.size a) (w : FVec Ideal S8192x128 .f32) (j : Fin 8192) (d : Fin 128) :
    r.view.read (Elt Ideal) (r.view.writes (Elt Ideal) f [⟨Rect.unit (s := S8192x128) ![0, 0] S8192x128.size inb, w⟩]) (ix2 j d)
      = w (ix2 j d) :=
  View.read_writes_cons_rows_of_mem r.view f inb w [] (ix2 j d) (ix2 j d) rfl (Nat.zero_add _).symm rfl

include h0 h1 h2 h3 in
theorem out_dk_A (t : Fin cfg0.N) (h : t.val % 32 = 0) (j : Fin 8192) (d : Fin 128) :
    (outsAt0 m c t.val t.isLt).2.1 (ix2 j d) = (0 : EReal) + ((dkTerm Q K V' C t j d : ℝ) : EReal) := by
  have S0 := s0 m c Q h0 t
  have S1 := s1 m c C h3 t
  have S2 := s2 m c Q K V' h0 h1 h2 t
  have S3 := b3 m c Q K h0 h1 t
  rw [outsAt0_A m c t h]
  frame_out
  rw [trips_eq, ← View.read_writes_junk_eq_canon (ms0_7 t).view, View.writes_append]
  refine (loop_dk _ _ _ _ _ _ _ _ _ _ _ _ _ _ _ _ _ _ _ _ _ _ _ _ _ _ _ _ _ _ _ _ _ (q4 Q t) (c4 C t)
     (o4 Q K V' t) (lse Q K t) (fun j d => K j (Attn.kcol (gt t) d)) (fun j d => V' j (Attn.kcol (gt t) d)) S0 S1 S2 S1 S3
     (k_read m c K h1 t _ _) (v_read m c V' h2 t _ _) _ _).trans ?_
  refine congrArg (· + _) ((read_whole _ _ _ _ j d).trans ?_)
  pointwise [k0_pay12]

include h0 h1 h2 h3 in
theorem out_dk_B (t : Fin cfg0.N) (h : ¬t.val % 32 = 0) (j : Fin 8192) (d : Fin 128) :
    (outsAt0 m c t.val t.isLt).2.1 (ix2 j d)
      = ((outsAt0 m c (t.val - 1) (Nat.lt_of_le_of_lt (Nat.sub_le _ _) t.isLt)).2.1 (ix2 j d) : EReal)
        + ((dkTerm Q K V' C t j d : ℝ) : EReal) := by
  have S0 := s0 m c Q h0 t
  have S1 := s1 m c C h3 t
  have S2 := s2 m c Q K V' h0 h1 h2 t
  have S3 := b3 m c Q K h0 h1 t
  rw [outsAt0_B m c t h]
  frame_out
  rw [trips_eq]
  refine (congrFun (View.read_writes_eq_canon (ms0_7 t).view
    ((hs0_7 t).unread (outsAt0 m c (t.val - 1) (Nat.lt_of_le_of_lt (Nat.sub_le _ _) t.isLt)).2.1) _ (cover_dk _ _ _ _ _ _ _ _ _ _ _ _ _ _ _ _ _ _ _ _ _ _ _ _
    _ _ _ _ _ _ _ _ _)) (ix2 j d)).symm.trans ?_
  refine (loop_dk _ _ _ _ _ _ _ _ _ _ _ _ _ _ _ _ _ _ _ _ _ _ _ _ _ _ _ _ _ _ _ _ _ (q4 Q t) (c4 C t)
     (o4 Q K V' t) (lse Q K t) (fun j d => K j (Attn.kcol (gt t) d)) (fun j d => V' j (Attn.kcol (gt t) d)) S0 S1 S2 S1 S3
     (k_read m c K h1 t _ _) (v_read m c V' h2 t _ _) _ _).trans ?_
  rw [Memref.IsWhole.read_unread]
  rfl

include h0 h1 h2 h3 in
theorem out_dv_A (t : Fin cfg0.N) (h : t.val % 32 = 0) (j : Fin 8192) (d : Fin 128) :
    (outsAt0 m c t.val t.isLt).2.2 (ix2 j d) = (0 : EReal) + ((dvTerm Q K C t j d : ℝ) : EReal) := by
  have S0 := s0 m c Q h0 t
  have S1 := s1 m c C h3 t
  have S2 := s2 m c Q K V' h0 h1 h2 t
  have S3 := b3 m c Q K h0 h1 t
  rw [outsAt0_A m c t h]
  frame_out
  rw [trips_eq, ← View.read_writes_junk_eq_canon (ms0_8 t).view, View.writes_append]
  refine (loop_dv _ _ _ _ _ _ _ _ _ _ _ _ _ _ _ _ _ _ _ _ _ _ _ _ _ _ _ _ _ _ _ _ _ (q4 Q t) (c4 C t)
     (o4 Q K V' t) (lse Q K t) (fun j d => K j (Attn.kcol (gt t) d)) (fun j d => V' j (Attn.kcol (gt t) d)) S0 S1 S2 S1 S3
     (k_read m c K h1 t _ _) (v_read m c V' h2 t _ _) _ _).trans ?_
  refine congrArg (· + _) ((read_whole _ _ _ _ j d).trans ?_)
  pointwise [k0_pay13]

include h0 h1 h2 h3 in
theorem out_dv_B (t : Fin cfg0.N) (h : ¬t.val % 32 = 0) (j : Fin 8192) (d : Fin 128) :
    (outsAt0 m c t.val t.isLt).2.2 (ix2 j d)
      = ((outsAt0 m c (t.val - 1) (Nat.lt_of_le_of_lt (Nat.sub_le _ _) t.isLt)).2.2 (ix2 j d) : EReal)
        + ((dvTerm Q K C t j d : ℝ) : EReal) := by
  have S0 := s0 m c Q h0 t
  have S1 := s1 m c C h3 t
  have S2 := s2 m c Q K V' h0 h1 h2 t
  have S3 := b3 m c Q K h0 h1 t
  rw [outsAt0_B m c t h]
  frame_out
  rw [trips_eq]
  refine (congrFun (View.read_writes_eq_canon (ms0_8 t).view
    ((hs0_8 t).unread (outsAt0 m c (t.val - 1) (Nat.lt_of_le_of_lt (Nat.sub_le _ _) t.isLt)).2.2) _ (cover_dv _ _ _ _ _ _ _ _ _ _ _ _ _ _ _ _ _ _ _ _ _ _ _ _
    _ _ _ _ _ _ _ _ _)) (ix2 j d)).symm.trans ?_
  refine (loop_dv _ _ _ _ _ _ _ _ _ _ _ _ _ _ _ _ _ _ _ _ _ _ _ _ _ _ _ _ _ _ _ _ _ (q4 Q t) (c4 C t)
     (o4 Q K V' t) (lse Q K t) (fun j d => K j (Attn.kcol (gt t) d)) (fun j d => V' j (Attn.kcol (gt t) d)) S0 S1 S2 S1 S3
     (k_read m c K h1 t _ _) (v_read m c V' h2 t _ _) _ _).trans ?_
  rw [Memref.IsWhole.read_unread]
  rfl

/-- The stacked rows of the 32 query blocks are the queries of the four heads. -/
theorem sum_blocks (F : Fin 4 → Fin 8192 → ℝ) (ro : Fin 32 → Fin 256 → Fin 8192) (hro : ∀ s p, (ro s p).val = s.val * 256 + p.val) :
    ∑ s : Fin 32, ∑ a : Fin 1024, F (au a) (ro s (ap a)) = ∑ u, ∑ i, F u i := by
  have e : ∀ s : Fin 32, ∑ a : Fin 1024, F (au a) (ro s (ap a)) = ∑ u : Fin 4, ∑ p : Fin 256, F u (ro s p) := fun s => by
    rw [← Fin.sum_mul_add_fin 4 256 fun a : Fin 1024 => F (au a) (ro s (ap a))]
    refine Finset.sum_congr rfl fun u _ => Finset.sum_congr rfl fun p _ => ?_
    have hp := p.isLt
    refine congrArg₂ F (Fin.ext ?_) (congrArg (ro s) (Fin.ext ?_)) <;> simp only [au, ap] <;> omega
  simp only [e]
  rw [Finset.sum_comm]
  refine Finset.sum_congr rfl fun u _ => ?_
  rw [← Fin.sum_mul_add_fin 32 256 fun i : Fin 8192 => F u i]
  exact Finset.sum_congr rfl fun s _ => Finset.sum_congr rfl fun p _ => congrArg (F u) (Fin.ext (hro s p))

/-- The grid point of query block `s` in `t`'s run. -/
theorem gt_run (t : Fin cfg0.N) (s : Fin 32) (h : 32 * (t.val / 32) + s.val < cfg0.N) :
    gt ⟨32 * (t.val / 32) + s.val, h⟩ = gt t := Fin.ext (by simp only [gt]; omega)

theorem run_dk (t : Fin cfg0.N) (h : ∀ s : Fin 32, 32 * (t.val / 32) + s.val < cfg0.N) (j : Fin 8192) (d : Fin 128) :
    ∑ s : Fin 32, dkTerm Q K V' C ⟨32 * (t.val / 32) + s.val, h s⟩ j d = Attn.dK Q K V' C j (Attn.kcol (gt t) d) := by
  have e1 : Attn.kg (Attn.kcol (gt t) d) = gt t := Fin.ext (by simp only [Attn.kg, Attn.kcol]; omega)
  have e2 : Attn.kd (Attn.kcol (gt t) d) = d := Fin.ext (by simp only [Attn.kd, Attn.kcol]; omega)
  have key := sum_blocks (fun u i => Attn.dscore Q K V' C (gt t) u i j * (Q i (Attn.qcol (gt t) u d) / Real.log 2))
    (fun s => row ⟨32 * (t.val / 32) + s.val, h s⟩) (fun s p => by simp only [row]; omega)
  rw [Attn.dK, Attn.dk, e1, e2, Finset.sum_div]
  refine Eq.trans ?_ (key.trans (Finset.sum_congr rfl fun u _ => ?_))
  · refine Finset.sum_congr rfl fun s _ => ?_
    rw [dkTerm]
    refine Finset.sum_congr rfl fun a _ => ?_
    rw [gr_eq, q4, gt_run]
  · rw [Finset.sum_div]
    exact Finset.sum_congr rfl fun i _ => (mul_div_assoc _ _ _).symm

theorem run_dv (t : Fin cfg0.N) (h : ∀ s : Fin 32, 32 * (t.val / 32) + s.val < cfg0.N) (j : Fin 8192) (d : Fin 128) :
    ∑ s : Fin 32, dvTerm Q K C ⟨32 * (t.val / 32) + s.val, h s⟩ j d = Attn.dV Q K C j (Attn.kcol (gt t) d) := by
  have e1 : Attn.kg (Attn.kcol (gt t) d) = gt t := Fin.ext (by simp only [Attn.kg, Attn.kcol]; omega)
  have e2 : Attn.kd (Attn.kcol (gt t) d) = d := Fin.ext (by simp only [Attn.kd, Attn.kcol]; omega)
  have key := sum_blocks (fun u i => Attn.prob Q K (gt t) u i j * C i (Attn.qcol (gt t) u d))
    (fun s => row ⟨32 * (t.val / 32) + s.val, h s⟩) (fun s p => by simp only [row]; omega)
  rw [Attn.dV, Attn.dv, e1, e2]
  refine Eq.trans ?_ key
  refine Finset.sum_congr rfl fun s _ => ?_
  rw [dvTerm]
  refine Finset.sum_congr rfl fun a _ => ?_
  rw [wt_eq, c4, gt_run]

include h0 h1 h2 h3 in
theorem final6 : (dats m 0 c).arrAt 6 cfg0.N = fun i => ((Attn.dQ Q K V' C (i 0) (i 1) : ℝ) : EReal) := by
  refine (dats m 0 c).arrAt_eq_of_covers 6 _ (by decide +kernel) fun t hf y => ?_
  blk_simp; rw [after0_6]
  obtain ⟨p, e, rfl⟩ : ∃ (p : Fin 256) (e : Fin 512), y = ix2 p e := ⟨y 0, y 1, eq_ix2 y⟩
  refine (out_dq m c Q K V' C h0 h1 h2 h3 t p e).trans ?_
  have hr : ((row t p) : ℕ) = t.val % 32 * 256 + p.val := rfl
  have hc : ((col t e) : ℕ) = t.val / 32 * 512 + e.val := rfl
  have e : (win0_6.blk t).view.emb (ix2 p e) = ix2 (row t p) (col t e) := by blk_ext [idx t]
  rw [e]
  rfl

include h0 h1 h2 h3 in
theorem final7 : (dats m 0 c).arrAt 7 cfg0.N = fun i => ((Attn.dK Q K V' C (i 0) (i 1) : ℝ) : EReal) := by
  refine (dats m 0 c).arrAt_eq_of_covers 7 _ (by decide +kernel) fun t hf y => ?_
  blk_simp; rw [after0_7]
  obtain ⟨j, d, rfl⟩ : ∃ (j : Fin 8192) (d : Fin 128), y = ix2 j d := ⟨y 0, y 1, eq_ix2 y⟩
  refine (Pipeline.eq_sum_fin_of_reset_step_apply_of_flush
    (fun n h (x : Fin 8192 × Fin 128) => ((outsAt0 m c n h).2.1 (ix2 x.1 x.2) : EReal)) 32 (fun _ => 0)
    (fun t x => ((dkTerm Q K V' C t x.1 x.2 : ℝ) : EReal))
    (fun t h x => out_dk_A m c Q K V' C h0 h1 h2 h3 t h x.1 x.2) (fun t h x => out_dk_B m c Q K V' C h0 h1 h2 h3 t h x.1 x.2)
    t ((flush0_7 t).mp hf) (j, d)).trans ?_
  have hc : (Attn.kcol (gt t) d : ℕ) = t.val / 32 * 128 + d.val := rfl
  have e : (win0_7.blk t).view.emb (ix2 j d) = ix2 j (Attn.kcol (gt t) d) := by blk_ext [idx t]
  rw [e, zero_add, coe_sum]
  refine congrArg Real.toEReal ?_
  exact run_dk Q K V' C t _ j d

include h0 h1 h2 h3 in
theorem final8 : (dats m 0 c).arrAt 8 cfg0.N = fun i => ((Attn.dV Q K C (i 0) (i 1) : ℝ) : EReal) := by
  refine (dats m 0 c).arrAt_eq_of_covers 8 _ (by decide +kernel) fun t hf y => ?_
  blk_simp; rw [after0_8]
  obtain ⟨j, d, rfl⟩ : ∃ (j : Fin 8192) (d : Fin 128), y = ix2 j d := ⟨y 0, y 1, eq_ix2 y⟩
  refine (Pipeline.eq_sum_fin_of_reset_step_apply_of_flush
    (fun n h (x : Fin 8192 × Fin 128) => ((outsAt0 m c n h).2.2 (ix2 x.1 x.2) : EReal)) 32 (fun _ => 0)
    (fun t x => ((dvTerm Q K C t x.1 x.2 : ℝ) : EReal))
    (fun t h x => out_dv_A m c Q K V' C h0 h1 h2 h3 t h x.1 x.2) (fun t h x => out_dv_B m c Q K V' C h0 h1 h2 h3 t h x.1 x.2)
    t ((flush0_8 t).mp hf) (j, d)).trans ?_
  have hc : (Attn.kcol (gt t) d : ℕ) = t.val / 32 * 128 + d.val := rfl
  have e : (win0_8.blk t).view.emb (ix2 j d) = ix2 j (Attn.kcol (gt t) d) := by blk_ext [idx t]
  rw [e, zero_add, coe_sum]
  refine congrArg Real.toEReal ?_
  exact run_dv Q K C t _ j d
end
end Cert.Kernel2Ideal.Value
-- ==== Proof.Attn.lean ====
/-
  The claim of the attention backward kernel: its three results are the reference's gradients.
-/
module

public import proofs.«01_k».proof.Defs
public import proofs.«01_k».proof.Proof.Finite
public import proofs.«01_k».proof.Proof.AttnRef
public import proofs.«01_k».proof.Proof.AttnKernel
public import proofs.«01_k».proof.Proof.Gen.Reference2Ideal.Run
public import proofs.«01_k».proof.Proof.Gen.Pre_finite_attn

@[expose] public section

set_option maxRecDepth 16384

noncomputable section

namespace Cert.Attn

open Idealize.ShloMosaic Idealize.ShloMosaic.TcCoe Idealize.SL.Sem Cert.Reals

open Cert.Kernel2Ideal in
/-- Where the precondition holds, every argument is the coercion of a real array. -/
theorem reals_of_pre (m : (ℓ : Loc nD τ sig) → Buf (Elt Ideal) ℓ)
    (h : Cert.Pre_Kernel2Ideal_finite_attn (hPre_finite_attn := Cert.Pre_finite_attn.Gen.facts) m) (c : Dev nD) :
    ∃ (Q : Fin 8192 → Fin 1024 → ℝ) (K V : Fin 8192 → Fin 256 → ℝ) (C : Fin 8192 → Fin 1024 → ℝ),
      (∀ i e, m ((c : Thread nD τ).loc main_arg0) (ix2 i e) = ((Q i e : ℝ) : EReal))
      ∧ (∀ j e, m ((c : Thread nD τ).loc main_arg1) (ix2 j e) = ((K j e : ℝ) : EReal))
      ∧ (∀ j e, m ((c : Thread nD τ).loc main_arg2) (ix2 j e) = ((V j e : ℝ) : EReal))
      ∧ (∀ i e, m ((c : Thread nD τ).loc main_arg3) (ix2 i e) = ((C i e : ℝ) : EReal)) := by
  obtain ⟨p0, p1, p2, p3⟩ := h c
  have hz : ∀ (S : Shape) (hb : (⟨0, ![]⟩ : Shape).BroadcastsInDim S (![] : Fin 0 → Fin S.rank)) (i : S.Idx),
      broadcastInDim S ![] hb (constant (F := Ideal) ⟨0, ![]⟩ .f32 0#32) i = (0 : EReal) := fun S hb i => by
    exact Ideal.ofBits_zero_f32
  obtain ⟨Q, hQ⟩ := reals_of_finite p0 (hz _ _)
  obtain ⟨K, hK⟩ := reals_of_finite p1 (hz _ _)
  obtain ⟨V, hV⟩ := reals_of_finite p2 (hz _ _)
  obtain ⟨C, hC⟩ := reals_of_finite p3 (hz _ _)
  exact ⟨fun i e => Q (ix2 i e), fun i e => K (ix2 i e), fun i e => V (ix2 i e), fun i e => C (ix2 i e),
    fun _ _ => hQ _, fun _ _ => hK _, fun _ _ => hV _, fun _ _ => hC _⟩

theorem algebraic : Cert.algebraic_Kernel2Ideal_Reference2Ideal_pre_finite_attn (hKernel2Ideal := Cert.Kernel2Ideal.Gen.facts)
    (hReference2Ideal := Cert.Reference2Ideal.Gen.facts) (hPre_finite_attn := Cert.Pre_finite_attn.Gen.facts) := by
  intro m g m' g' hpre hagree
  refine ⟨_, _, _, Cert.Kernel2Ideal.Value.run_blocks m g, (θ_run _ _ _).mono (fun r h c => ?_) (Cert.Reference2Ideal.Value.run m' g')⟩
  obtain ⟨Q, K, V, C, h0, h1, h2, h3⟩ := reals_of_pre m hpre c
  obtain ⟨a0, a1, a2, a3⟩ := hagree c
  obtain ⟨r0, r1, r2, rest⟩ := h c
  have k0 : ∀ i e, m' ((c.tc : Thread Cert.Reference2Ideal.nD Cert.Reference2Ideal.τ).loc Cert.Reference2Ideal.main_arg0) (ix2 i e) = ((Q i e : ℝ) : EReal) := fun i e => by rw [a0]; exact h0 i e
  have k1 : ∀ j e, m' ((c.tc : Thread Cert.Reference2Ideal.nD Cert.Reference2Ideal.τ).loc Cert.Reference2Ideal.main_arg1) (ix2 j e) = ((K j e : ℝ) : EReal) := fun j e => by rw [a1]; exact h1 j e
  have k2 : ∀ j e, m' ((c.tc : Thread Cert.Reference2Ideal.nD Cert.Reference2Ideal.τ).loc Cert.Reference2Ideal.main_arg2) (ix2 j e) = ((V j e : ℝ) : EReal) := fun j e => by rw [a2]; exact h2 j e
  have k3 : ∀ i e, m' ((c.tc : Thread Cert.Reference2Ideal.nD Cert.Reference2Ideal.τ).loc Cert.Reference2Ideal.main_arg3) (ix2 i e) = ((C i e : ℝ) : EReal) := fun i e => by rw [a3]; exact h3 i e
  refine ⟨r0.trans ?_, r1.trans ?_, r2.trans ?_, rest⟩
  · rw [Cert.Kernel2Ideal.Value.final6 m c Q K V C h0 h1 h2 h3]
    refine (Cert.Reference2Ideal.Read.val_main_v60_eq _ _).trans ?_
    funext i
    obtain ⟨i, e, rfl⟩ : ∃ (t : Fin 8192) (d : Fin 1024), i = ix2 t d := ⟨i 0, i 1, eq_ix2 i⟩
    exact Cert.Reference2Ideal.Value.res_dq _ _ _ _ Q K V C k0 k1 k2 k3 i e
  · rw [Cert.Kernel2Ideal.Value.final7 m c Q K V C h0 h1 h2 h3]
    refine (Cert.Reference2Ideal.Read.val_main_v63_eq _ _).trans ?_
    funext i
    obtain ⟨i, e, rfl⟩ : ∃ (t : Fin 8192) (d : Fin 256), i = ix2 t d := ⟨i 0, i 1, eq_ix2 i⟩
    exact Cert.Reference2Ideal.Value.res_dk _ _ _ _ Q K V C k0 k1 k2 k3 i e
  · rw [Cert.Kernel2Ideal.Value.final8 m c Q K V C h0 h1 h2 h3]
    refine (Cert.Reference2Ideal.Read.val_main_v58_eq _ _ _).trans ?_
    funext i
    obtain ⟨i, e, rfl⟩ : ∃ (t : Fin 8192) (d : Fin 256), i = ix2 t d := ⟨i 0, i 1, eq_ix2 i⟩
    exact Cert.Reference2Ideal.Value.res_dv _ _ _ _ Q K V C k0 k1 k2 k3 i e

end Cert.Attn

end
-- ==== Proof.LossModel.lean ====
/-
  The loss and its gradient back through the last norm and the gated embedding, over real arrays: what both programs of
  the third pair compute. `X` the residual stream, `P` the per-token embeddings, `T` the targets, `Wg` and `Wp` the gate's
  and the embedding's weights (in reference.py's orientation), `Gp` and `Gf` the gains of the gate's norm and the last one.
-/
module

public import proofs.«01_k».proof.Proof.Reals

@[expose] public section

noncomputable section

namespace Cert.Loss

open Cert.Reals

variable (X : Fin 8192 → Fin 1024 → ℝ) (P : Fin 8192 → Fin 256 → ℝ) (T : Fin 8192 → Fin 1024 → ℝ)
  (Wg : Fin 1024 → Fin 1024 → ℝ) (Wp : Fin 256 → Fin 1024 → ℝ) (Gp Gf : Fin 1024 → ℝ)

/-- The gate's normalised input. -/
def h (t : Fin 8192) (d : Fin 1024) : ℝ := X t d * rstd 1024 (X t) * Gp d

/-- The gate. -/
def gate (t : Fin 8192) (e : Fin 1024) : ℝ := sigmoid (∑ d, h X Gp t d * Wg d e)

/-- The embedding's projection. -/
def pe (t : Fin 8192) (e : Fin 1024) : ℝ := ∑ k, P t k * Wp k e

/-- The residual stream after the gated embedding. -/
def x4 (t : Fin 8192) (e : Fin 1024) : ℝ := X t e + gate X Wg Gp t e * pe P Wp t e

/-- Its normalised rows. -/
def n4 (t : Fin 8192) (e : Fin 1024) : ℝ := x4 X P Wg Wp Gp t e * rstd 1024 (x4 X P Wg Wp Gp t)

/-- The output less its target. -/
def err (t : Fin 8192) (e : Fin 1024) : ℝ := n4 X P Wg Wp Gp t e * Gf e - T t e

/-- The loss: half the sum over the tokens of the mean square error. -/
def loss : ℝ := ∑ t, 1 / 2 * ((∑ e, err X P T Wg Wp Gp Gf t e * err X P T Wg Wp Gp Gf t e) / 1024)

/-- The gradient of the output. -/
def dy (t : Fin 8192) (e : Fin 1024) : ℝ := err X P T Wg Wp Gp Gf t e * (1 / 1024)

/-- The gradient of the last norm's gain. -/
def dgf (e : Fin 1024) : ℝ := ∑ t, dy X P T Wg Wp Gp Gf t e * n4 X P Wg Wp Gp t e

/-- The gradient of the residual stream after the gated embedding. -/
def dx4 (t : Fin 8192) (e : Fin 1024) : ℝ :=
  (dy X P T Wg Wp Gp Gf t e * Gf e - x4 X P Wg Wp Gp t e * rstd 1024 (x4 X P Wg Wp Gp t)
    * ((∑ k, dy X P T Wg Wp Gp Gf t k * Gf k * (x4 X P Wg Wp Gp t k * rstd 1024 (x4 X P Wg Wp Gp t))) / 1024))
    * rstd 1024 (x4 X P Wg Wp Gp t)

/-- The gradient of the embedding's projection. -/
def dpe (t : Fin 8192) (e : Fin 1024) : ℝ := dx4 X P T Wg Wp Gp Gf t e * gate X Wg Gp t e

/-- The gradient of the gate before its sigmoid. -/
def dpre (t : Fin 8192) (e : Fin 1024) : ℝ :=
  dx4 X P T Wg Wp Gp Gf t e * pe P Wp t e * gate X Wg Gp t e * (1 - gate X Wg Gp t e)

/-- The gradient of the gate's normalised input. -/
def dh (t : Fin 8192) (d : Fin 1024) : ℝ := ∑ e, dpre X P T Wg Wp Gp Gf t e * Wg d e

/-- The gradient of the gain of the gate's norm. -/
def dgp (d : Fin 1024) : ℝ := ∑ t, dh X P T Wg Wp Gp Gf t d * (X t d * rstd 1024 (X t))

/-- The gradient of the residual stream. -/
def dx (t : Fin 8192) (d : Fin 1024) : ℝ :=
  dx4 X P T Wg Wp Gp Gf t d + (dh X P T Wg Wp Gp Gf t d * Gp d - X t d * rstd 1024 (X t)
    * ((∑ k, dh X P T Wg Wp Gp Gf t k * Gp k * (X t k * rstd 1024 (X t))) / 1024)) * rstd 1024 (X t)

end Cert.Loss

end
-- ==== Proof.LossRef.lean ====
/-
  The loss reference's eight results, on finite arguments, are the real model of `LossModel.lean`, one stage at a time.
-/
module
public import proofs.«01_k».proof.Proof.Gen.Reference3Ideal.Read
public import proofs.«01_k».proof.Proof.LossModel
@[expose] public section
set_option maxRecDepth 16384
noncomputable section
namespace Cert.Reference3Ideal.Value
open Cert.Reference3Ideal Cert.Reference3Ideal.Read Idealize.ShloMosaic Idealize.ShloMosaic.TcCoe Idealize.SL.Sem Cert.Reals

variable {x0 : (⟨S8192x1024, .f32⟩ : BufTy).Contents (Elt Ideal)} {x1 : (⟨S8192x256, .f32⟩ : BufTy).Contents (Elt Ideal)}
  {x2 : (⟨S8192x1024, .f32⟩ : BufTy).Contents (Elt Ideal)} {x3 : (⟨S1x1024x1024, .f32⟩ : BufTy).Contents (Elt Ideal)}
  {x4 : (⟨S1x256x1024, .f32⟩ : BufTy).Contents (Elt Ideal)} {x5 : (⟨S1x1024, .f32⟩ : BufTy).Contents (Elt Ideal)}
  {x6 : (⟨S1024, .f32⟩ : BufTy).Contents (Elt Ideal)}
  {X : Fin 8192 → Fin 1024 → ℝ} {P : Fin 8192 → Fin 256 → ℝ} {T : Fin 8192 → Fin 1024 → ℝ}
  {Wg : Fin 1024 → Fin 1024 → ℝ} {Wp : Fin 256 → Fin 1024 → ℝ} {Gp Gf : Fin 1024 → ℝ}
  (h0 : ∀ t d, x0 (ix2 t d) = ((X t d : ℝ) : EReal)) (h1 : ∀ t d, x1 (ix2 t d) = ((P t d : ℝ) : EReal))
  (h2 : ∀ t d, x2 (ix2 t d) = ((T t d : ℝ) : EReal)) (h3 : ∀ d e, x3 (ix3 0 d e) = ((Wg d e : ℝ) : EReal))
  (h4 : ∀ k e, x4 (ix3 0 k e) = ((Wp k e : ℝ) : EReal)) (h5 : ∀ d, x5 (ix2 0 d) = ((Gp d : ℝ) : EReal))
  (h6 : ∀ d, x6 (ix1 d) = ((Gf d : ℝ) : EReal))

section
include h0

theorem rstd_x (t : Fin 8192) (z : Fin 1) : val_main_v8 (F := Ideal) x0 (ix2 t z) = ((rstd 1024 (X t) : ℝ) : EReal) := by
  pointwise [val_main_v8, val_main_v7, val_main_v6, val_main_cst_1, val_main_v5, val_main_v4, val_main_cst_0, val_main_v3,
    val_main_v2, val_main_cst, val_main_v1]
  simp only [h0, word_eps, word_1024, ← EReal.coe_mul, ← EReal.coe_add, coe_sum,
    coe_div _ _ (show (1024 : ℝ) ≠ 0 by norm_num), rsqrt_meanSq (show (0 : ℝ) < 1024 by norm_num)]

theorem slope_x (t : Fin 8192) (z : Fin 1) : val_main_v11 (F := Ideal) x0 (ix2 t z)
    = ((-1 / 2 * (rstd 1024 (X t) / meanSq 1024 (X t)) : ℝ) : EReal) := by
  pointwise [val_main_v11, val_main_v10, val_main_cst_2, val_main_v9, val_main_v7, val_main_v6, val_main_cst_1, val_main_v5,
    val_main_v4, val_main_cst_0, val_main_v3, val_main_v2, val_main_cst, val_main_v1]
  simp only [rstd_x h0, h0, word_eps, word_1024, word_neg_half, ← EReal.coe_mul, ← EReal.coe_add, coe_sum,
    coe_div _ _ (show (1024 : ℝ) ≠ 0 by norm_num), coe_div_meanSq (show (0 : ℝ) < 1024 by norm_num)]

theorem n_x (t : Fin 8192) (d : Fin 1024) :
    val_main_v13 (F := Ideal) x0 (ix2 t d) = ((X t d * rstd 1024 (X t) : ℝ) : EReal) := by
  pointwise [val_main_v13, val_main_v12]
  simp only [rstd_x h0, h0, ← EReal.coe_mul]

include h5
theorem h_x (t : Fin 8192) (d : Fin 1024) :
    val_main_v16 (F := Ideal) x0 x5 (ix2 t d) = ((Loss.h X Gp t d : ℝ) : EReal) := by
  pointwise [val_main_v16, val_main_v15, val_main_v14, val_main_v0]
  simp only [n_x h0, h5, ← EReal.coe_mul]
  rfl

include h3
theorem gate_x (t : Fin 8192) (e : Fin 1024) :
    val_main_v26 (F := Ideal) x0 x3 x5 (ix2 t e) = ((Loss.gate X Wg Gp t e : ℝ) : EReal) := by
  pointwise [val_main_v26, val_main_v25, val_main_cst_4, val_main_v24, val_main_v23, val_main_cst_3, val_main_v22, val_main_v21,
    val_main_v18, val_main_v17]
  simp only [h_x h0 h5, h3, ← EReal.coe_mul, coe_sum, ← EReal.coe_neg, Ideal.exp_coe, ← EReal.coe_one, ← EReal.coe_add, sigmoid_coe]
  rfl

theorem slope_gate (t : Fin 8192) (e : Fin 1024) : val_main_v29 (F := Ideal) x0 x3 x5 (ix2 t e)
    = ((Loss.gate X Wg Gp t e * (1 - Loss.gate X Wg Gp t e) : ℝ) : EReal) := by
  pointwise [val_main_v29, val_main_v28, val_main_v27, val_main_cst_5]
  simp only [gate_x h0 h3 h5, ← EReal.coe_mul, ← EReal.coe_one, ← EReal.coe_sub]
end

section
include h1 h4
theorem pe_x (t : Fin 8192) (e : Fin 1024) : val_main_v20 (F := Ideal) x1 x4 (ix2 t e) = ((Loss.pe P Wp t e : ℝ) : EReal) := by
  pointwise [val_main_v20, val_main_v19]
  simp only [h1, h4, ← EReal.coe_mul, coe_sum]
  rfl
end

section
include h0 h1 h3 h4 h5
theorem x4_x (t : Fin 8192) (e : Fin 1024) :
    val_main_v31 (F := Ideal) x0 x1 x3 x4 x5 (ix2 t e) = ((Loss.x4 X P Wg Wp Gp t e : ℝ) : EReal) := by
  pointwise [val_main_v31, val_main_v30]
  simp only [h0, gate_x h0 h3 h5, pe_x h1 h4, ← EReal.coe_mul, ← EReal.coe_add]
  rfl

theorem rstd_4 (t : Fin 8192) (z : Fin 1) :
    val_main_v39 (F := Ideal) x0 x1 x3 x4 x5 (ix2 t z) = ((rstd 1024 (Loss.x4 X P Wg Wp Gp t) : ℝ) : EReal) := by
  pointwise [val_main_v39, val_main_v38, val_main_v37, val_main_cst_8, val_main_v36, val_main_v35, val_main_cst_7, val_main_v34,
    val_main_v33, val_main_cst_6, val_main_v32]
  simp only [x4_x h0 h1 h3 h4 h5, word_eps, word_1024, ← EReal.coe_mul, ← EReal.coe_add, coe_sum,
    coe_div _ _ (show (1024 : ℝ) ≠ 0 by norm_num), rsqrt_meanSq (show (0 : ℝ) < 1024 by norm_num)]

theorem slope_4 (t : Fin 8192) (z : Fin 1) : val_main_v42 (F := Ideal) x0 x1 x3 x4 x5 (ix2 t z)
    = ((-1 / 2 * (rstd 1024 (Loss.x4 X P Wg Wp Gp t) / meanSq 1024 (Loss.x4 X P Wg Wp Gp t)) : ℝ) : EReal) := by
  pointwise [val_main_v42, val_main_v41, val_main_cst_9, val_main_v40, val_main_v38, val_main_v37, val_main_cst_8, val_main_v36,
    val_main_v35, val_main_cst_7, val_main_v34, val_main_v33, val_main_cst_6, val_main_v32]
  simp only [rstd_4 h0 h1 h3 h4 h5, x4_x h0 h1 h3 h4 h5, word_eps, word_1024, word_neg_half, ← EReal.coe_mul, ← EReal.coe_add,
    coe_sum, coe_div _ _ (show (1024 : ℝ) ≠ 0 by norm_num), coe_div_meanSq (show (0 : ℝ) < 1024 by norm_num)]

theorem n_4 (t : Fin 8192) (e : Fin 1024) :
    val_main_v44 (F := Ideal) x0 x1 x3 x4 x5 (ix2 t e) = ((Loss.n4 X P Wg Wp Gp t e : ℝ) : EReal) := by
  pointwise [val_main_v44, val_main_v43]
  simp only [rstd_4 h0 h1 h3 h4 h5, x4_x h0 h1 h3 h4 h5, ← EReal.coe_mul]
  rfl

include h2 h6
theorem err_x (t : Fin 8192) (e : Fin 1024) :
    val_main_v48 (F := Ideal) x0 x1 x2 x3 x4 x5 x6 (ix2 t e) = ((Loss.err X P T Wg Wp Gp Gf t e : ℝ) : EReal) := by
  pointwise [val_main_v48, val_main_v47, val_main_v46, val_main_v45]
  simp only [n_4 h0 h1 h3 h4 h5, h2, h6, ← EReal.coe_mul, ← EReal.coe_sub]
  rfl

theorem res_loss (z : Fin 1) (l : Fin 128) :
    val_main_v191 (F := Ideal) x0 x1 x2 x3 x4 x5 x6 (ix2 z l) = ((Loss.loss X P T Wg Wp Gp Gf : ℝ) : EReal) := by
  pointwise [val_main_v191, val_main_v56, val_main_cst_14, val_main_v55, val_main_cst_13, val_main_v54, val_main_v53, val_main_cst_12,
    val_main_v52, val_main_cst_11, val_main_v49]
  simp only [err_x h0 h1 h2 h3 h4 h5 h6, word_half, word_1024, ← EReal.coe_mul, coe_sum,
    coe_div _ _ (show (1024 : ℝ) ≠ 0 by norm_num)]
  rw [Loss.loss, Finset.mul_sum]

theorem dy_x (t : Fin 8192) (e : Fin 1024) :
    val_main_v62 (F := Ideal) x0 x1 x2 x3 x4 x5 x6 (ix2 t e) = ((Loss.dy X P T Wg Wp Gp Gf t e : ℝ) : EReal) := by
  pointwise [val_main_v62, val_main_v61, val_main_v60, val_main_v59, val_main_cst_17, val_main_v58, val_main_v57, val_main_cst_15,
    val_main_cst_16, val_main_v51, val_main_v50, val_main_cst_10]
  simp only [err_x h0 h1 h2 h3 h4 h5 h6, word_half, word_1024, word_2, ← EReal.coe_one, ← EReal.coe_mul,
    coe_div _ _ (show (1024 : ℝ) ≠ 0 by norm_num)]
  rw [Loss.dy]
  refine congrArg Real.toEReal ?_
  ring

theorem res_dgf (z : Fin 1) (e : Fin 1024) :
    val_main_v192 (F := Ideal) x0 x1 x2 x3 x4 x5 x6 (ix2 z e) = ((Loss.dgf X P T Wg Wp Gp Gf e : ℝ) : EReal) := by
  pointwise [val_main_v192, val_main_v68, val_main_cst_19, val_main_v65, val_main_v64, val_main_cst_18, val_main_v63]
  simp only [dy_x h0 h1 h2 h3 h4 h5 h6, n_4 h0 h1 h3 h4 h5, ← EReal.coe_mul, coe_sum, Finset.sum_const, Finset.card_univ,
    Fintype.card_fin, one_smul]
  rw [Loss.dgf]
  exact congrArg Real.toEReal (Finset.sum_congr rfl fun t _ => mul_comm _ _)

theorem dn_4 (t : Fin 8192) (e : Fin 1024) :
    val_main_v67 (F := Ideal) x0 x1 x2 x3 x4 x5 x6 (ix2 t e) = ((Loss.dy X P T Wg Wp Gp Gf t e * Gf e : ℝ) : EReal) := by
  pointwise [val_main_v67, val_main_v66, val_main_v45]
  simp only [dy_x h0 h1 h2 h3 h4 h5 h6, h6, ← EReal.coe_mul]

theorem dx4_x (t : Fin 8192) (e : Fin 1024) :
    val_main_v82 (F := Ideal) x0 x1 x2 x3 x4 x5 x6 (ix2 t e) = ((Loss.dx4 X P T Wg Wp Gp Gf t e : ℝ) : EReal) := by
  pointwise [val_main_v82, val_main_v81, val_main_v80, val_main_v79, val_main_v78, val_main_v77, val_main_cst_22, val_main_v76,
    val_main_v75, val_main_cst_21, val_main_v74, val_main_v73, val_main_v72, val_main_v71, val_main_v70, val_main_cst_20, val_main_v69]
  simp only [dn_4 h0 h1 h2 h3 h4 h5 h6, rstd_4 h0 h1 h3 h4 h5, slope_4 h0 h1 h3 h4 h5, x4_x h0 h1 h3 h4 h5, word_1024,
    ← EReal.coe_mul, ← EReal.coe_add, coe_sum, coe_div _ _ (show (1024 : ℝ) ≠ 0 by norm_num), Finset.sum_const, Finset.card_univ,
    Fintype.card_fin, one_smul]
  rw [Loss.dx4]
  exact congrArg Real.toEReal
    (norm_bwd (show (0 : ℝ) < 1024 by norm_num) (Loss.x4 X P Wg Wp Gp t) (fun k => Loss.dy X P T Wg Wp Gp Gf t k * Gf k) e)

theorem dpre_x (t : Fin 8192) (e : Fin 1024) :
    val_main_v84 (F := Ideal) x0 x1 x2 x3 x4 x5 x6 (ix2 t e) = ((Loss.dpre X P T Wg Wp Gp Gf t e : ℝ) : EReal) := by
  pointwise [val_main_v84, val_main_v83]
  simp only [dx4_x h0 h1 h2 h3 h4 h5 h6, pe_x h1 h4, slope_gate h0 h3 h5, ← EReal.coe_mul]
  rw [Loss.dpre, mul_assoc (_ * _)]

theorem dh_x (t : Fin 8192) (d : Fin 1024) :
    val_main_v85 (F := Ideal) x0 x1 x2 x3 x4 x5 x6 (ix2 t d) = ((Loss.dh X P T Wg Wp Gp Gf t d : ℝ) : EReal) := by
  pointwise [val_main_v85, val_main_v17]
  simp only [dpre_x h0 h1 h2 h3 h4 h5 h6, h3, ← EReal.coe_mul, coe_sum]
  rfl

theorem res_dgp (z : Fin 1) (d : Fin 1024) :
    val_main_v107 (F := Ideal) x0 x1 x2 x3 x4 x5 x6 (ix2 z d) = ((Loss.dgp X P T Wg Wp Gp Gf d : ℝ) : EReal) := by
  pointwise [val_main_v107, val_main_v91, val_main_cst_24, val_main_v88, val_main_v87, val_main_cst_23, val_main_v86]
  simp only [dh_x h0 h1 h2 h3 h4 h5 h6, n_x h0, ← EReal.coe_mul, coe_sum, Finset.sum_const, Finset.card_univ,
    Fintype.card_fin, one_smul]
  rw [Loss.dgp]
  exact congrArg Real.toEReal (Finset.sum_congr rfl fun t _ => mul_comm _ _)

theorem res_dx (t : Fin 8192) (d : Fin 1024) :
    val_main_v106 (F := Ideal) x0 x1 x2 x3 x4 x5 x6 (ix2 t d) = ((Loss.dx X P T Wg Wp Gp Gf t d : ℝ) : EReal) := by
  pointwise [val_main_v106, val_main_v105, val_main_v104, val_main_v103, val_main_v102, val_main_v101, val_main_cst_27, val_main_v100,
    val_main_v99, val_main_cst_26, val_main_v98, val_main_v97, val_main_v96, val_main_v95, val_main_v94, val_main_v93, val_main_cst_25,
    val_main_v92, val_main_v90, val_main_v89, val_main_v14, val_main_v0]
  simp only [dh_x h0 h1 h2 h3 h4 h5 h6, dx4_x h0 h1 h2 h3 h4 h5 h6, rstd_x h0, slope_x h0, h0, h5, word_1024,
    ← EReal.coe_mul, ← EReal.coe_add, coe_sum, coe_div _ _ (show (1024 : ℝ) ≠ 0 by norm_num), Finset.sum_const, Finset.card_univ,
    Fintype.card_fin, one_smul]
  rw [Loss.dx, ← norm_bwd (show (0 : ℝ) < 1024 by norm_num) (X t) (fun k => Loss.dh X P T Wg Wp Gp Gf t k * Gp k) d, ← add_assoc,
    ← add_assoc]
end

/-! The second derivative in the reference, with respect to the gate and the projection, repeats the first one's lines. -/

theorem again_h : val_main_v121 (F := Ideal) x0 x5 = val_main_v16 x0 x5 := rfl

theorem again_gate : val_main_v131 (F := Ideal) x0 x3 x5 = val_main_v26 x0 x3 x5 := by
  unfold val_main_v131 val_main_v130 val_main_v129 val_main_v127 val_main_v126 val_main_v123
  rw [again_h]; rfl

theorem again_x4 : val_main_v136 (F := Ideal) x0 x1 x3 x4 x5 = val_main_v31 x0 x1 x3 x4 x5 := by
  unfold val_main_v136 val_main_v135
  rw [again_gate]; rfl

theorem again_rstd : val_main_v144 (F := Ideal) x0 x1 x3 x4 x5 = val_main_v39 x0 x1 x3 x4 x5 := by
  unfold val_main_v144 val_main_v143 val_main_v141 val_main_v139 val_main_v138 val_main_v137
  rw [again_x4]; rfl

theorem again_slope : val_main_v147 (F := Ideal) x0 x1 x3 x4 x5 = val_main_v42 x0 x1 x3 x4 x5 := by
  unfold val_main_v147 val_main_v145 val_main_v143 val_main_v141 val_main_v139 val_main_v138 val_main_v137
  rw [again_rstd, again_x4]; rfl

theorem again_dn : val_main_v169 (F := Ideal) x0 x1 x2 x3 x4 x5 x6 = val_main_v67 x0 x1 x2 x3 x4 x5 x6 := by
  unfold val_main_v169 val_main_v167 val_main_v156 val_main_v153 val_main_v152 val_main_v149 val_main_v148
  rw [again_rstd, again_x4]; rfl

theorem again_dx4 : val_main_v183 (F := Ideal) x0 x1 x2 x3 x4 x5 x6 = val_main_v82 x0 x1 x2 x3 x4 x5 x6 := by
  unfold val_main_v183 val_main_v182 val_main_v181 val_main_v180 val_main_v179 val_main_v178 val_main_v177 val_main_v175 val_main_v174
    val_main_v173 val_main_v172 val_main_v171 val_main_v170
  rw [again_dn, again_rstd, again_slope, again_x4]; rfl

section
include h0 h5
theorem res_h (t : Fin 8192) (d : Fin 1024) :
    val_main_v187 (F := Ideal) x0 x5 (ix2 t d) = ((Loss.h X Gp t d : ℝ) : EReal) := by
  unfold val_main_v187
  rw [again_h]
  pointwise
  exact h_x h0 h5 t d
end

section
include h1
theorem res_p (t : Fin 8192) (k : Fin 256) : val_main_v190 (F := Ideal) x1 (ix2 t k) = ((P t k : ℝ) : EReal) := by
  pointwise [val_main_v190]
  exact h1 t k
end

section
include h0 h1 h2 h3 h4 h5 h6
theorem res_dpe (t : Fin 8192) (e : Fin 1024) :
    val_main_v189 (F := Ideal) x0 x1 x2 x3 x4 x5 x6 (ix2 t e) = ((Loss.dpe X P T Wg Wp Gp Gf t e : ℝ) : EReal) := by
  pointwise [val_main_v189, val_main_v184]
  rw [again_dx4, again_gate, dx4_x h0 h1 h2 h3 h4 h5 h6, gate_x h0 h3 h5, ← EReal.coe_mul, Loss.dpe, mul_comm]

theorem res_dpre (t : Fin 8192) (e : Fin 1024) :
    val_main_v188 (F := Ideal) x0 x1 x2 x3 x4 x5 x6 (ix2 t e) = ((Loss.dpre X P T Wg Wp Gp Gf t e : ℝ) : EReal) := by
  pointwise [val_main_v188, val_main_v186, val_main_v185, val_main_v134, val_main_v133, val_main_v132, val_main_cst_33]
  rw [again_dx4, again_gate, show val_main_v125 (F := Ideal) x1 x4 = val_main_v20 x1 x4 from rfl]
  simp only [dx4_x h0 h1 h2 h3 h4 h5 h6, gate_x h0 h3 h5, pe_x h1 h4, ← EReal.coe_one, ← EReal.coe_sub, ← EReal.coe_mul]
  rw [Loss.dpre, mul_assoc (_ * _)]
end

end Cert.Reference3Ideal.Value
-- ==== Proof.LossKernel.lean ====
/-
  The loss kernel: what its eight result arrays hold after the run, on finite arguments, is the real model of
  `LossModel.lean`.
-/
module
public import proofs.«01_k».proof.Proof.Gen.Kernel3Ideal.Value
public import proofs.«01_k».proof.Proof.LossModel
public import Idealize.ShloMosaic.Lib.Pipeline.ValueKit
@[expose] public section
set_option maxRecDepth 16384
noncomputable section
namespace Cert.Kernel3Ideal.Value
open Cert.Kernel3Ideal Cert.Kernel3Ideal.Gen Idealize.ShloMosaic Idealize.ShloMosaic.TcCoe Idealize.SL.Sem Idealize.ShloMosaic.StableHlo Cert.Reals
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![0, 0] ∧ win0_13.index t = ![0, 0] ∧ win0_14.index t = ![0, 0] :=
  (by decide +kernel : ∀ t : Fin grid0.N, _)

/-- The row of the whole arrays that row `p` of grid point `t`'s blocks is. -/
def row (t : Fin cfg0.N) (p : Fin 512) : Fin 8192 := ⟨t.val * 512 + p.val, by have := t.isLt; have := p.isLt; have : cfg0.N = 16 := N_0; omega⟩

section
variable (c : Dev nD) {X : Fin 8192 → Fin 1024 → ℝ} {P : Fin 8192 → Fin 256 → ℝ} {T : Fin 8192 → Fin 1024 → ℝ}
  {Wg : Fin 1024 → Fin 1024 → ℝ} {Wp : Fin 256 → Fin 1024 → ℝ} {Gp Gf : Fin 1024 → ℝ}
  (h0 : ∀ t d, m ((c : Thread nD τ).loc main_arg0) (ix2 t d) = ((X t d : ℝ) : EReal))
  (h1 : ∀ t d, m ((c : Thread nD τ).loc main_arg1) (ix2 t d) = ((P t d : ℝ) : EReal))
  (h2 : ∀ t d, m ((c : Thread nD τ).loc main_arg2) (ix2 t d) = ((T t d : ℝ) : EReal))
  (h3 : ∀ d e, m ((c : Thread nD τ).loc main_arg3) (ix3 0 d e) = ((Wg d e : ℝ) : EReal))
  (h4 : ∀ k e, m ((c : Thread nD τ).loc main_arg4) (ix3 0 k e) = ((Wp k e : ℝ) : EReal))
  (h5 : ∀ d, m ((c : Thread nD τ).loc main_arg5) (ix2 0 d) = ((Gp d : ℝ) : EReal))
  (h6 : ∀ d, m ((c : Thread nD τ).loc main_arg6) (ix1 d) = ((Gf d : ℝ) : EReal))

include h3 in
theorem Vg (d e : Fin 1024) : V m c main_v1 (ix2 d e) = ((Wg d e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h3]

include h4 in
theorem Vp (e : Fin 1024) (k : Fin 256) : V m c main_v4 (ix2 e k) = ((Wp k e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h4]

include h6 in
theorem Vf (d : Fin 1024) : V m c main_v5 (ix2 0 d) = ((Gf d : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h6]

include h0 in
theorem b0 (t : Fin cfg0.N) (p : Fin 512) (d : Fin 1024) : iblk m c 0 t (ix2 p d) = ((X (row t p) d : ℝ) : EReal) := by
  rw [← h0]; have : ((row t p) : ℕ) = t.val * 512 + p.val := rfl; blk_point [iblk, V, idx t]

include h1 in
theorem b1 (t : Fin cfg0.N) (p : Fin 512) (d : Fin 256) : iblk m c 1 t (ix2 p d) = ((P (row t p) d : ℝ) : EReal) := by
  rw [← h1]; have : ((row t p) : ℕ) = t.val * 512 + p.val := rfl; blk_point [iblk, V, idx t]

include h2 in
theorem b2 (t : Fin cfg0.N) (p : Fin 512) (d : Fin 1024) : iblk m c 2 t (ix2 p d) = ((T (row t p) d : ℝ) : EReal) := by
  rw [← h2]; have : ((row t p) : ℕ) = t.val * 512 + p.val := rfl; blk_point [iblk, V, idx t]

include h3 in
theorem b3 (t : Fin cfg0.N) (d e : Fin 1024) : iblk m c 3 t (ix2 d e) = ((Wg d e : ℝ) : EReal) := by
  rw [← Vg m c h3]; blk_point [iblk, idx t]

include h4 in
theorem b4 (t : Fin cfg0.N) (e : Fin 1024) (k : Fin 256) : iblk m c 4 t (ix2 e k) = ((Wp k e : ℝ) : EReal) := by
  rw [← Vp m c h4]; blk_point [iblk, idx t]

include h5 in
theorem b5 (t : Fin cfg0.N) (d : Fin 1024) : iblk m c 5 t (ix2 0 d) = ((Gp d : ℝ) : EReal) := by
  rw [← h5]; blk_point [iblk, V, idx t]

include h6 in
theorem b6 (t : Fin cfg0.N) (d : Fin 1024) : iblk m c 6 t (ix2 0 d) = ((Gf d : ℝ) : EReal) := by
  rw [← Vf m c h6]; blk_point [iblk, idx t]

/-! ## The body's stages at one grid point -/

/-- The gate of the point's rows. -/
def gateB (t : Fin cfg0.N) : FVec Ideal S512x1024 .f32 := k0_pay8 (iblk m c 0 t) (iblk m c 5 t) (iblk m c 3 t)
/-- The projection of the point's embeddings. -/
def peB (t : Fin cfg0.N) : FVec Ideal S512x1024 .f32 := k0_pay10 (k0_pay9 (iblk m c 1 t)) (iblk m c 4 t)
/-- The reciprocal root of the point's rows after the gated embedding. -/
def rstdB (t : Fin cfg0.N) : FVec Ideal S512x1 .f32 := k0_pay12 (iblk m c 0 t) (gateB m c t) (k0_pay9 (iblk m c 1 t)) (iblk m c 4 t)
/-- Those rows, normalised. -/
def nB (t : Fin cfg0.N) : FVec Ideal S512x1024 .f32 := k0_pay13 (iblk m c 0 t) (gateB m c t) (k0_pay9 (iblk m c 1 t)) (iblk m c 4 t)
/-- The gradient of the point's outputs. -/
def dyB (t : Fin cfg0.N) : FVec Ideal S512x1024 .f32 :=
  k0_pay16 (iblk m c 0 t) (gateB m c t) (k0_pay9 (iblk m c 1 t)) (iblk m c 4 t) (iblk m c 6 t) (iblk m c 2 t)
/-- The gradient of the point's rows after the gated embedding. -/
def dx4B (t : Fin cfg0.N) : FVec Ideal S512x1024 .f32 := k0_pay20 (rstdB m c t) (nB m c t) (dyB m c t) (iblk m c 6 t)
/-- The gradient of the gate's normalised input. -/
def dhB (t : Fin cfg0.N) : FVec Ideal S512x1024 .f32 :=
  k0_pay23 (gateB m c t) (peB m c t) (rstdB m c t) (nB m c t) (dyB m c t) (iblk m c 6 t) (iblk m c 3 t)

section
include h0
theorem pay_r (t : Fin cfg0.N) (p : Fin 512) (z : Fin 1) :
    k0_pay5 (iblk m c 0 t) (ix2 p z) = ((rstd 1024 (X (row t p)) : ℝ) : EReal) := by
  pointwise [k0_pay5]
  simp only [b0 m c h0, word_eps, word_1024, ← EReal.coe_mul, ← EReal.coe_add, coe_sum,
    coe_div _ _ (show (1024 : ℝ) ≠ 0 by norm_num), rsqrt_meanSq (show (0 : ℝ) < 1024 by norm_num)]

theorem pay_n (t : Fin cfg0.N) (p : Fin 512) (d : Fin 1024) :
    k0_pay6 (iblk m c 0 t) (ix2 p d) = ((X (row t p) d * rstd 1024 (X (row t p)) : ℝ) : EReal) := by
  pointwise [k0_pay6]
  simp only [pay_r m c h0, b0 m c h0, ← EReal.coe_mul]

include h5
theorem pay_h (t : Fin cfg0.N) (p : Fin 512) (d : Fin 1024) :
    k0_pay7 (iblk m c 0 t) (iblk m c 5 t) (ix2 p d) = ((Loss.h X Gp (row t p) d : ℝ) : EReal) := by
  pointwise [k0_pay7]
  simp only [pay_n m c h0, b5 m c h5, ← EReal.coe_mul]
  rfl

include h3
theorem pay_gate (t : Fin cfg0.N) (p : Fin 512) (e : Fin 1024) :
    gateB m c t (ix2 p e) = ((Loss.gate X Wg Gp (row t p) e : ℝ) : EReal) := by
  unfold gateB
  pointwise [k0_pay8]
  simp only [pay_h m c h0 h5, b3 m c h3, ← EReal.coe_mul, coe_sum, zero_sub, ← EReal.coe_neg, Ideal.exp_coe, ← EReal.coe_one,
    ← EReal.coe_add, sigmoid_coe]
  rfl
end

section
include h1
theorem pay_p (t : Fin cfg0.N) (p : Fin 512) (k : Fin 256) :
    k0_pay9 (iblk m c 1 t) (ix2 p k) = ((P (row t p) k : ℝ) : EReal) := by
  pointwise [k0_pay9]
  exact b1 m c h1 t p k

include h4
theorem pay_pe (t : Fin cfg0.N) (p : Fin 512) (e : Fin 1024) :
    k0_pay10 (k0_pay9 (iblk m c 1 t)) (iblk m c 4 t) (ix2 p e) = ((Loss.pe P Wp (row t p) e : ℝ) : EReal) := by
  pointwise [k0_pay10]
  simp only [pay_p m c h1, b4 m c h4, ← EReal.coe_mul, coe_sum]
  rfl
end

section
include h0 h1 h3 h4 h5
theorem pay_x4 (t : Fin cfg0.N) (p : Fin 512) (e : Fin 1024) :
    k0_pay11 (iblk m c 0 t) (gateB m c t) (k0_pay9 (iblk m c 1 t)) (iblk m c 4 t) (ix2 p e)
      = ((Loss.x4 X P Wg Wp Gp (row t p) e : ℝ) : EReal) := by
  pointwise [k0_pay11]
  simp only [b0 m c h0, pay_gate m c h0 h3 h5, pay_pe m c h1 h4, ← EReal.coe_mul, ← EReal.coe_add]
  rfl

theorem pay_rstd (t : Fin cfg0.N) (p : Fin 512) (z : Fin 1) :
    rstdB m c t (ix2 p z) = ((rstd 1024 (Loss.x4 X P Wg Wp Gp (row t p)) : ℝ) : EReal) := by
  unfold rstdB
  pointwise [k0_pay12]
  simp only [pay_x4 m c h0 h1 h3 h4 h5, word_eps, word_1024, ← EReal.coe_mul, ← EReal.coe_add, coe_sum,
    coe_div _ _ (show (1024 : ℝ) ≠ 0 by norm_num), rsqrt_meanSq (show (0 : ℝ) < 1024 by norm_num)]

theorem pay_n4 (t : Fin cfg0.N) (p : Fin 512) (e : Fin 1024) :
    nB m c t (ix2 p e) = ((Loss.n4 X P Wg Wp Gp (row t p) e : ℝ) : EReal) := by
  have r := pay_rstd m c h0 h1 h3 h4 h5 t p
  unfold rstdB at r
  unfold nB
  pointwise [k0_pay13]
  simp only [pay_x4 m c h0 h1 h3 h4 h5, r, ← EReal.coe_mul]
  rfl

include h2 h6
theorem pay_err (t : Fin cfg0.N) (p : Fin 512) (e : Fin 1024) :
    k0_pay14 (iblk m c 0 t) (gateB m c t) (k0_pay9 (iblk m c 1 t)) (iblk m c 4 t) (iblk m c 6 t) (iblk m c 2 t) (ix2 p e)
      = ((Loss.err X P T Wg Wp Gp Gf (row t p) e : ℝ) : EReal) := by
  have n := pay_n4 m c h0 h1 h3 h4 h5 t
  unfold nB at n
  pointwise [k0_pay14]
  simp only [n, b6 m c h6, b2 m c h2, ← EReal.coe_mul, ← EReal.coe_sub]
  rfl

theorem pay_loss (t : Fin cfg0.N) (a : Vec Ideal S1x128 .f32) (l : Fin 128) :
    k0_pay15 (iblk m c 0 t) (gateB m c t) (k0_pay9 (iblk m c 1 t)) (iblk m c 4 t) (iblk m c 6 t) (iblk m c 2 t) a (ix2 0 l)
      = a (ix2 0 l) + ((∑ p, 1 / 2 * ((∑ e, Loss.err X P T Wg Wp Gp Gf (row t p) e * Loss.err X P T Wg Wp Gp Gf (row t p) e) / 1024) : ℝ) : EReal) := by
  pointwise [k0_pay15]
  simp only [pay_err m c h0 h1 h2 h3 h4 h5 h6, word_half, word_1024, ← EReal.coe_mul, coe_sum,
    coe_div _ _ (show (1024 : ℝ) ≠ 0 by norm_num)]

theorem pay_dy (t : Fin cfg0.N) (p : Fin 512) (e : Fin 1024) :
    dyB m c t (ix2 p e) = ((Loss.dy X P T Wg Wp Gp Gf (row t p) e : ℝ) : EReal) := by
  unfold dyB
  pointwise [k0_pay16]
  simp only [pay_err m c h0 h1 h2 h3 h4 h5 h6, word_inv_1024, ← EReal.coe_mul]
  rfl

theorem pay_dgf (t : Fin cfg0.N) (a : Vec Ideal S1x1024 .f32) (e : Fin 1024) :
    k0_pay19 (k0_pay17 a) (k0_pay18 (iblk m c 0 t) (gateB m c t) (k0_pay9 (iblk m c 1 t)) (iblk m c 4 t) (iblk m c 6 t) (iblk m c 2 t)) (ix2 0 e)
      = a (ix2 0 e) + ((∑ p, Loss.dy X P T Wg Wp Gp Gf (row t p) e * Loss.n4 X P Wg Wp Gp (row t p) e : ℝ) : EReal) := by
  have n := pay_n4 m c h0 h1 h3 h4 h5 t
  have y := pay_dy m c h0 h1 h2 h3 h4 h5 h6 t
  unfold nB at n
  unfold dyB at y
  pointwise [k0_pay19, k0_pay18, k0_pay17]
  simp only [n, y, ← EReal.coe_mul, coe_sum]

theorem pay_dx4 (t : Fin cfg0.N) (p : Fin 512) (e : Fin 1024) :
    dx4B m c t (ix2 p e) = ((Loss.dx4 X P T Wg Wp Gp Gf (row t p) e : ℝ) : EReal) := by
  unfold dx4B
  pointwise [k0_pay20]
  simp only [pay_n4 m c h0 h1 h3 h4 h5, pay_rstd m c h0 h1 h3 h4 h5, pay_dy m c h0 h1 h2 h3 h4 h5 h6, b6 m c h6, word_1024,
    ← EReal.coe_mul, ← EReal.coe_sub, coe_sum, coe_div _ _ (show (1024 : ℝ) ≠ 0 by norm_num)]
  rw [mul_comm (rstd _ _)]
  rfl

theorem pay_dpe (t : Fin cfg0.N) (p : Fin 512) (e : Fin 1024) :
    k0_pay21 (gateB m c t) (rstdB m c t) (nB m c t) (dyB m c t) (iblk m c 6 t) (ix2 p e)
      = ((Loss.dpe X P T Wg Wp Gp Gf (row t p) e : ℝ) : EReal) := by
  have x := pay_dx4 m c h0 h1 h2 h3 h4 h5 h6 t
  unfold dx4B at x
  pointwise [k0_pay21]
  simp only [x, pay_gate m c h0 h3 h5, ← EReal.coe_mul]
  rfl

theorem pay_dpre (t : Fin cfg0.N) (p : Fin 512) (e : Fin 1024) :
    k0_pay22 (gateB m c t) (peB m c t) (rstdB m c t) (nB m c t) (dyB m c t) (iblk m c 6 t) (ix2 p e)
      = ((Loss.dpre X P T Wg Wp Gp Gf (row t p) e : ℝ) : EReal) := by
  have x := pay_dx4 m c h0 h1 h2 h3 h4 h5 h6 t
  have q := pay_pe m c h1 h4 t
  unfold dx4B at x
  unfold peB
  pointwise [k0_pay22]
  simp only [x, q, pay_gate m c h0 h3 h5, ← EReal.coe_mul, ← EReal.coe_one, ← EReal.coe_sub]
  rfl

theorem pay_dh (t : Fin cfg0.N) (p : Fin 512) (d : Fin 1024) :
    dhB m c t (ix2 p d) = ((Loss.dh X P T Wg Wp Gp Gf (row t p) d : ℝ) : EReal) := by
  unfold dhB
  pointwise [k0_pay23]
  simp only [pay_dpre m c h0 h1 h2 h3 h4 h5 h6, b3 m c h3, ← EReal.coe_mul, coe_sum]
  rfl

theorem pay_dgp (t : Fin cfg0.N) (a : Vec Ideal S1x1024 .f32) (d : Fin 1024) :
    k0_pay24 (k0_pay6 (iblk m c 0 t)) (gateB m c t) (peB m c t) (rstdB m c t) (nB m c t) (dyB m c t) (iblk m c 6 t) (iblk m c 3 t) a (ix2 0 d)
      = a (ix2 0 d) + ((∑ p, Loss.dh X P T Wg Wp Gp Gf (row t p) d * (X (row t p) d * rstd 1024 (X (row t p))) : ℝ) : EReal) := by
  have h := pay_dh m c h0 h1 h2 h3 h4 h5 h6 t
  unfold dhB at h
  pointwise [k0_pay24]
  simp only [h, pay_n m c h0, ← EReal.coe_mul, coe_sum]

theorem pay_dx (t : Fin cfg0.N) (p : Fin 512) (d : Fin 1024) :
    k0_pay1 (k0_pay5 (iblk m c 0 t)) (k0_pay6 (iblk m c 0 t)) (dx4B m c t) (dhB m c t) (iblk m c 5 t) (ix2 p d)
      = ((Loss.dx X P T Wg Wp Gp Gf (row t p) d : ℝ) : EReal) := by
  pointwise [k0_pay1]
  simp only [pay_n m c h0, pay_r m c h0, pay_dx4 m c h0 h1 h2 h3 h4 h5 h6, pay_dh m c h0 h1 h2 h3 h4 h5 h6, b5 m c h5, word_1024,
    ← EReal.coe_mul, ← EReal.coe_add, ← EReal.coe_sub, coe_sum, coe_div _ _ (show (1024 : ℝ) ≠ 0 by norm_num)]
  rw [mul_comm (rstd _ _)]
  rfl

/-! ## The result arrays -/

theorem final7 : (dats m 0 c).arrAt 7 cfg0.N = fun i => ((Loss.dx X P T Wg Wp Gp Gf (i 0) (i 1) : ℝ) : EReal) := by
  refine (dats m 0 c).arrAt_eq_of_covers 7 _ (by decide +kernel) fun t hf y => ?_
  blk_simp; rw [after0_7]
  obtain ⟨p, d, rfl⟩ : ∃ (p : Fin 512) (d : Fin 1024), y = ix2 p d := ⟨y 0, y 1, eq_ix2 y⟩
  have out : (outsAt0 m c t.val t.isLt).1 (ix2 p d) = ((Loss.dx X P T Wg Wp Gp Gf (row t p) d : ℝ) : EReal) := by
    rcases Decidable.em (t.val % 16 = 0) with h | h <;> [rw [outsAt0_A m c t h]; rw [outsAt0_B m c t h]] <;> frame_out <;>
      exact pay_dx m c h0 h1 h2 h3 h4 h5 h6 t p d
  refine out.trans ?_
  have hr : ((row t p) : ℕ) = t.val * 512 + p.val := rfl
  have e : (win0_7.blk t).view.emb (ix2 p d) = ix2 (row t p) d := by blk_ext [idx t]
  rw [e]
  rfl

theorem final8 : (dats m 0 c).arrAt 8 cfg0.N = fun i => ((Loss.h X Gp (i 0) (i 1) : ℝ) : EReal) := by
  refine (dats m 0 c).arrAt_eq_of_covers 8 _ (by decide +kernel) fun t hf y => ?_
  blk_simp; rw [after0_8]
  obtain ⟨p, d, rfl⟩ : ∃ (p : Fin 512) (d : Fin 1024), y = ix2 p d := ⟨y 0, y 1, eq_ix2 y⟩
  have out : (outsAt0 m c t.val t.isLt).2.1 (ix2 p d) = ((Loss.h X Gp (row t p) d : ℝ) : EReal) := by
    rcases Decidable.em (t.val % 16 = 0) with h | h <;> [rw [outsAt0_A m c t h]; rw [outsAt0_B m c t h]] <;> frame_out <;>
      exact pay_h m c h0 h5 t p d
  refine out.trans ?_
  have hr : ((row t p) : ℕ) = t.val * 512 + p.val := rfl
  have e : (win0_8.blk t).view.emb (ix2 p d) = ix2 (row t p) d := by blk_ext [idx t]
  rw [e]
  rfl

theorem final9 : (dats m 0 c).arrAt 9 cfg0.N = fun i => ((Loss.dpre X P T Wg Wp Gp Gf (i 0) (i 1) : ℝ) : EReal) := by
  refine (dats m 0 c).arrAt_eq_of_covers 9 _ (by decide +kernel) fun t hf y => ?_
  blk_simp; rw [after0_9]
  obtain ⟨p, d, rfl⟩ : ∃ (p : Fin 512) (d : Fin 1024), y = ix2 p d := ⟨y 0, y 1, eq_ix2 y⟩
  have out : (outsAt0 m c t.val t.isLt).2.2.1 (ix2 p d) = ((Loss.dpre X P T Wg Wp Gp Gf (row t p) d : ℝ) : EReal) := by
    rcases Decidable.em (t.val % 16 = 0) with h | h <;> [rw [outsAt0_A m c t h]; rw [outsAt0_B m c t h]] <;> frame_out <;>
      exact pay_dpre m c h0 h1 h2 h3 h4 h5 h6 t p d
  refine out.trans ?_
  have hr : ((row t p) : ℕ) = t.val * 512 + p.val := rfl
  have e : (win0_9.blk t).view.emb (ix2 p d) = ix2 (row t p) d := by blk_ext [idx t]
  rw [e]
  rfl

theorem final10 : (dats m 0 c).arrAt 10 cfg0.N = fun i => ((Loss.dpe X P T Wg Wp Gp Gf (i 0) (i 1) : ℝ) : EReal) := by
  refine (dats m 0 c).arrAt_eq_of_covers 10 _ (by decide +kernel) fun t hf y => ?_
  blk_simp; rw [after0_10]
  obtain ⟨p, d, rfl⟩ : ∃ (p : Fin 512) (d : Fin 1024), y = ix2 p d := ⟨y 0, y 1, eq_ix2 y⟩
  have out : (outsAt0 m c t.val t.isLt).2.2.2.1 (ix2 p d) = ((Loss.dpe X P T Wg Wp Gp Gf (row t p) d : ℝ) : EReal) := by
    rcases Decidable.em (t.val % 16 = 0) with h | h <;> [rw [outsAt0_A m c t h]; rw [outsAt0_B m c t h]] <;> frame_out <;>
      exact pay_dpe m c h0 h1 h2 h3 h4 h5 h6 t p d
  refine out.trans ?_
  have hr : ((row t p) : ℕ) = t.val * 512 + p.val := rfl
  have e : (win0_10.blk t).view.emb (ix2 p d) = ix2 (row t p) d := by blk_ext [idx t]
  rw [e]
  rfl

theorem final11 : (dats m 0 c).arrAt 11 cfg0.N = fun i => ((P (i 0) (i 1) : ℝ) : EReal) := by
  refine (dats m 0 c).arrAt_eq_of_covers 11 _ (by decide +kernel) fun t hf y => ?_
  blk_simp; rw [after0_11]
  obtain ⟨p, d, rfl⟩ : ∃ (p : Fin 512) (d : Fin 256), y = ix2 p d := ⟨y 0, y 1, eq_ix2 y⟩
  have out : (outsAt0 m c t.val t.isLt).2.2.2.2.1 (ix2 p d) = ((P (row t p) d : ℝ) : EReal) := by
    rcases Decidable.em (t.val % 16 = 0) with h | h <;> [rw [outsAt0_A m c t h]; rw [outsAt0_B m c t h]] <;> frame_out <;>
      exact pay_p m c h1 t p d
  refine out.trans ?_
  have hr : ((row t p) : ℕ) = t.val * 512 + p.val := rfl
  have e : (win0_11.blk t).view.emb (ix2 p d) = ix2 (row t p) d := by blk_ext [idx t]
  rw [e]
  rfl

theorem final12 : (dats m 0 c).arrAt 12 cfg0.N = fun i => ((Loss.loss X P T Wg Wp Gp Gf : ℝ) : EReal) := by
  refine (dats m 0 c).arrAt_eq_of_after_last 12 t0_15 (by decide +kernel) _ fun j => ?_
  blk_simp; rw [after0_12]
  obtain ⟨z, d, rfl⟩ : ∃ (z : Fin 1) (d : Fin 128), j = ix2 z d := ⟨j 0, j 1, eq_ix2 j⟩
  obtain rfl : z = 0 := Subsingleton.elim _ _
  show _ = ((Loss.loss X P T Wg Wp Gp Gf : ℝ) : EReal)
  refine (Pipeline.eq_sum_fin_of_reset_step_apply_last
    (fun n h (d : Fin 128) => (outsAt0 m c n h).2.2.2.2.2.1 (ix2 0 d)) 16 (fun _ => 0)
    (fun t _ => ((∑ p, 1 / 2 * ((∑ e, Loss.err X P T Wg Wp Gp Gf (row t p) e * Loss.err X P T Wg Wp Gp Gf (row t p) e) / 1024) : ℝ) : EReal))
    (fun t h d => ?_) (fun t h d => ?_) (le_of_eq N_0) t0_15 rfl d).trans ?_
  · rw [outsAt0_A m c t h]; frame_out
    refine (pay_loss m c h0 h1 h2 h3 h4 h5 h6 t _ d).trans ?_
    refine congrArg (· + _) ?_
    pointwise [k0_pay2]
  · rw [outsAt0_B m c t h]; frame_out
    exact pay_loss m c h0 h1 h2 h3 h4 h5 h6 t _ d
  · rw [zero_add, coe_sum]
    refine congrArg Real.toEReal ?_
    rw [Loss.loss]
    exact Fin.sum_mul_add_congr (fun s k _ => rfl)

theorem final13 : (dats m 0 c).arrAt 13 cfg0.N = fun i => ((Loss.dgf X P T Wg Wp Gp Gf (i 1) : ℝ) : EReal) := by
  refine (dats m 0 c).arrAt_eq_of_after_last 13 t0_15 (by decide +kernel) _ fun j => ?_
  blk_simp; rw [after0_13]
  obtain ⟨z, d, rfl⟩ : ∃ (z : Fin 1) (d : Fin 1024), j = ix2 z d := ⟨j 0, j 1, eq_ix2 j⟩
  obtain rfl : z = 0 := Subsingleton.elim _ _
  show _ = ((Loss.dgf X P T Wg Wp Gp Gf d : ℝ) : EReal)
  refine (Pipeline.eq_sum_fin_of_reset_step_apply_last
    (fun n h (d : Fin 1024) => (outsAt0 m c n h).2.2.2.2.2.2.1 (ix2 0 d)) 16 (fun _ => 0)
    (fun t d => ((∑ p, Loss.dy X P T Wg Wp Gp Gf (row t p) d * Loss.n4 X P Wg Wp Gp (row t p) d : ℝ) : EReal))
    (fun t h d => ?_) (fun t h d => ?_) (le_of_eq N_0) t0_15 rfl d).trans ?_
  · rw [outsAt0_A m c t h]; frame_out
    refine (pay_dgf m c h0 h1 h2 h3 h4 h5 h6 t _ d).trans ?_
    refine congrArg (· + _) ?_
    pointwise [k0_pay3]
  · rw [outsAt0_B m c t h]; frame_out
    exact pay_dgf m c h0 h1 h2 h3 h4 h5 h6 t _ d
  · rw [zero_add, coe_sum]
    refine congrArg Real.toEReal ?_
    rw [Loss.dgf]
    exact Fin.sum_mul_add_congr (fun s k _ => rfl)

theorem final14 : (dats m 0 c).arrAt 14 cfg0.N = fun i => ((Loss.dgp X P T Wg Wp Gp Gf (i 1) : ℝ) : EReal) := by
  refine (dats m 0 c).arrAt_eq_of_after_last 14 t0_15 (by decide +kernel) _ fun j => ?_
  blk_simp; rw [after0_14]
  obtain ⟨z, d, rfl⟩ : ∃ (z : Fin 1) (d : Fin 1024), j = ix2 z d := ⟨j 0, j 1, eq_ix2 j⟩
  obtain rfl : z = 0 := Subsingleton.elim _ _
  show _ = ((Loss.dgp X P T Wg Wp Gp Gf d : ℝ) : EReal)
  refine (Pipeline.eq_sum_fin_of_reset_step_apply_last
    (fun n h (d : Fin 1024) => (outsAt0 m c n h).2.2.2.2.2.2.2 (ix2 0 d)) 16 (fun _ => 0)
    (fun t d => ((∑ p, Loss.dh X P T Wg Wp Gp Gf (row t p) d * (X (row t p) d * rstd 1024 (X (row t p))) : ℝ) : EReal))
    (fun t h d => ?_) (fun t h d => ?_) (le_of_eq N_0) t0_15 rfl d).trans ?_
  · rw [outsAt0_A m c t h]; frame_out
    refine (pay_dgp m c h0 h1 h2 h3 h4 h5 h6 t _ d).trans ?_
    refine congrArg (· + _) ?_
    pointwise [k0_pay4]
  · rw [outsAt0_B m c t h]; frame_out
    exact pay_dgp m c h0 h1 h2 h3 h4 h5 h6 t _ d
  · rw [zero_add, coe_sum]
    refine congrArg Real.toEReal ?_
    rw [Loss.dgp]
    exact Fin.sum_mul_add_congr (fun s k _ => rfl)

end
end
end Cert.Kernel3Ideal.Value
-- ==== Proof.Loss.lean ====
/-
  The claim of the loss kernel: its eight results are the reference's loss, gradients and saved arrays.
-/
module

public import proofs.«01_k».proof.Defs
public import proofs.«01_k».proof.Proof.Finite
public import proofs.«01_k».proof.Proof.LossRef
public import proofs.«01_k».proof.Proof.LossKernel
public import proofs.«01_k».proof.Proof.Gen.Reference3Ideal.Run
public import proofs.«01_k».proof.Proof.Gen.Pre_finite_loss

@[expose] public section

set_option maxRecDepth 16384

noncomputable section

namespace Cert.Loss

open Idealize.ShloMosaic Idealize.ShloMosaic.TcCoe Idealize.SL.Sem Cert.Reals

open Cert.Kernel3Ideal in
/-- Where the precondition holds, every argument is the coercion of a real array. -/
theorem reals_of_pre (m : (ℓ : Loc nD τ sig) → Buf (Elt Ideal) ℓ)
    (h : Cert.Pre_Kernel3Ideal_finite_loss (hPre_finite_loss := Cert.Pre_finite_loss.Gen.facts) m) (c : Dev nD) :
    ∃ (X : Fin 8192 → Fin 1024 → ℝ) (P : Fin 8192 → Fin 256 → ℝ) (T : Fin 8192 → Fin 1024 → ℝ) (Wg : Fin 1024 → Fin 1024 → ℝ) (Wp : Fin 256 → Fin 1024 → ℝ) (Gp : Fin 1024 → ℝ) (Gf : Fin 1024 → ℝ),
      (∀ t d, m ((c : Thread nD τ).loc main_arg0) (ix2 t d) = ((X t d : ℝ) : EReal))
      ∧ (∀ t d, m ((c : Thread nD τ).loc main_arg1) (ix2 t d) = ((P t d : ℝ) : EReal))
      ∧ (∀ t d, m ((c : Thread nD τ).loc main_arg2) (ix2 t d) = ((T t d : ℝ) : EReal))
      ∧ (∀ d e, m ((c : Thread nD τ).loc main_arg3) (ix3 0 d e) = ((Wg d e : ℝ) : EReal))
      ∧ (∀ k e, m ((c : Thread nD τ).loc main_arg4) (ix3 0 k e) = ((Wp k e : ℝ) : EReal))
      ∧ (∀ d, m ((c : Thread nD τ).loc main_arg5) (ix2 0 d) = ((Gp d : ℝ) : EReal))
      ∧ (∀ d, m ((c : Thread nD τ).loc main_arg6) (ix1 d) = ((Gf d : ℝ) : EReal)) := by
  obtain ⟨p0, p1, p2, p3, p4, p5, p6⟩ := h c
  have hz : ∀ (S : Shape) (hb : (⟨0, ![]⟩ : Shape).BroadcastsInDim S (![] : Fin 0 → Fin S.rank)) (i : S.Idx),
      broadcastInDim S ![] hb (constant (F := Ideal) ⟨0, ![]⟩ .f32 0#32) i = (0 : EReal) := fun S hb i => by
    exact Ideal.ofBits_zero_f32
  obtain ⟨X, hX⟩ := reals_of_finite p0 (hz _ _)
  obtain ⟨P, hP⟩ := reals_of_finite p1 (hz _ _)
  obtain ⟨T, hT⟩ := reals_of_finite p2 (hz _ _)
  obtain ⟨Wg, hWg⟩ := reals_of_finite p3 (hz _ _)
  obtain ⟨Wp, hWp⟩ := reals_of_finite p4 (hz _ _)
  obtain ⟨Gp, hGp⟩ := reals_of_finite p5 (hz _ _)
  obtain ⟨Gf, hGf⟩ := reals_of_finite p6 (hz _ _)
  exact ⟨fun t d => X (ix2 t d), fun t d => P (ix2 t d), fun t d => T (ix2 t d), fun d e => Wg (ix3 0 d e), fun k e => Wp (ix3 0 k e), fun d => Gp (ix2 0 d), fun d => Gf (ix1 d),
    fun _ _ => hX _, fun _ _ => hP _, fun _ _ => hT _, fun _ _ => hWg _, fun _ _ => hWp _, fun _ => hGp _, fun _ => hGf _⟩

theorem algebraic : Cert.algebraic_Kernel3Ideal_Reference3Ideal_pre_finite_loss (hKernel3Ideal := Cert.Kernel3Ideal.Gen.facts)
    (hReference3Ideal := Cert.Reference3Ideal.Gen.facts) (hPre_finite_loss := Cert.Pre_finite_loss.Gen.facts) := by
  intro m g m' g' hpre hagree
  refine ⟨_, _, _, _, _, _, _, _, Cert.Kernel3Ideal.Value.run_blocks m g, (θ_run _ _ _).mono (fun r h c => ?_) (Cert.Reference3Ideal.Value.run m' g')⟩
  obtain ⟨X, P, T, Wg, Wp, Gp, Gf, h0, h1, h2, h3, h4, h5, h6⟩ := reals_of_pre m hpre c
  obtain ⟨a0, a1, a2, a3, a4, a5, a6⟩ := hagree c
  obtain ⟨r0, r1, r2, r3, r4, r5, r6, r7, rest⟩ := h c
  have k0 : ∀ t d, m' ((c.tc : Thread Cert.Reference3Ideal.nD Cert.Reference3Ideal.τ).loc Cert.Reference3Ideal.main_arg0) (ix2 t d)
      = ((X t d : ℝ) : EReal) := fun t d => by rw [a0]; exact h0 t d
  have k1 : ∀ t d, m' ((c.tc : Thread Cert.Reference3Ideal.nD Cert.Reference3Ideal.τ).loc Cert.Reference3Ideal.main_arg1) (ix2 t d)
      = ((P t d : ℝ) : EReal) := fun t d => by rw [a1]; exact h1 t d
  have k2 : ∀ t d, m' ((c.tc : Thread Cert.Reference3Ideal.nD Cert.Reference3Ideal.τ).loc Cert.Reference3Ideal.main_arg2) (ix2 t d)
      = ((T t d : ℝ) : EReal) := fun t d => by rw [a2]; exact h2 t d
  have k3 : ∀ d e, m' ((c.tc : Thread Cert.Reference3Ideal.nD Cert.Reference3Ideal.τ).loc Cert.Reference3Ideal.main_arg3) (ix3 0 d e)
      = ((Wg d e : ℝ) : EReal) := fun d e => by rw [a3]; exact h3 d e
  have k4 : ∀ k e, m' ((c.tc : Thread Cert.Reference3Ideal.nD Cert.Reference3Ideal.τ).loc Cert.Reference3Ideal.main_arg4) (ix3 0 k e)
      = ((Wp k e : ℝ) : EReal) := fun k e => by rw [a4]; exact h4 k e
  have k5 : ∀ d, m' ((c.tc : Thread Cert.Reference3Ideal.nD Cert.Reference3Ideal.τ).loc Cert.Reference3Ideal.main_arg5) (ix2 0 d)
      = ((Gp d : ℝ) : EReal) := fun d => by rw [a5]; exact h5 d
  have k6 : ∀ d, m' ((c.tc : Thread Cert.Reference3Ideal.nD Cert.Reference3Ideal.τ).loc Cert.Reference3Ideal.main_arg6) (ix1 d)
      = ((Gf d : ℝ) : EReal) := fun d => by rw [a6]; exact h6 d
  refine ⟨r0.trans ?_, r1.trans ?_, r2.trans ?_, r3.trans ?_, r4.trans ?_, r5.trans ?_, r6.trans ?_, r7.trans ?_, rest⟩
  · rw [Cert.Kernel3Ideal.Value.final7 m c  h0 h1 h2 h3 h4 h5 h6]
    refine (Cert.Reference3Ideal.Read.val_main_v106_eq _).trans ?_
    funext i
    obtain ⟨t, d, rfl⟩ : ∃ (t : Fin 8192) (d : Fin 1024), i = ix2 t d := ⟨i 0, i 1, eq_ix2 i⟩
    exact Cert.Reference3Ideal.Value.res_dx k0 k1 k2 k3 k4 k5 k6 t d
  · rw [Cert.Kernel3Ideal.Value.final8 m c  h0 h1 h2 h3 h4 h5 h6]
    refine (Cert.Reference3Ideal.Read.val_main_v187_eq _).trans ?_
    funext i
    obtain ⟨t, d, rfl⟩ : ∃ (t : Fin 8192) (d : Fin 1024), i = ix2 t d := ⟨i 0, i 1, eq_ix2 i⟩
    exact Cert.Reference3Ideal.Value.res_h k0 k5 t d
  · rw [Cert.Kernel3Ideal.Value.final9 m c  h0 h1 h2 h3 h4 h5 h6]
    refine (Cert.Reference3Ideal.Read.val_main_v188_eq _).trans ?_
    funext i
    obtain ⟨t, d, rfl⟩ : ∃ (t : Fin 8192) (d : Fin 1024), i = ix2 t d := ⟨i 0, i 1, eq_ix2 i⟩
    exact Cert.Reference3Ideal.Value.res_dpre k0 k1 k2 k3 k4 k5 k6 t d
  · rw [Cert.Kernel3Ideal.Value.final10 m c  h0 h1 h2 h3 h4 h5 h6]
    refine (Cert.Reference3Ideal.Read.val_main_v189_eq _).trans ?_
    funext i
    obtain ⟨t, d, rfl⟩ : ∃ (t : Fin 8192) (d : Fin 1024), i = ix2 t d := ⟨i 0, i 1, eq_ix2 i⟩
    exact Cert.Reference3Ideal.Value.res_dpe k0 k1 k2 k3 k4 k5 k6 t d
  · rw [Cert.Kernel3Ideal.Value.final11 m c  h0 h1 h2 h3 h4 h5 h6]
    refine (Cert.Reference3Ideal.Read.val_main_v190_eq _).trans ?_
    funext i
    obtain ⟨t, d, rfl⟩ : ∃ (t : Fin 8192) (d : Fin 256), i = ix2 t d := ⟨i 0, i 1, eq_ix2 i⟩
    exact Cert.Reference3Ideal.Value.res_p k1 t d
  · rw [Cert.Kernel3Ideal.Value.final12 m c  h0 h1 h2 h3 h4 h5 h6]
    refine (Cert.Reference3Ideal.Read.val_main_v191_eq _).trans ?_
    funext i
    obtain ⟨t, d, rfl⟩ : ∃ (t : Fin 1) (d : Fin 128), i = ix2 t d := ⟨i 0, i 1, eq_ix2 i⟩
    exact Cert.Reference3Ideal.Value.res_loss k0 k1 k2 k3 k4 k5 k6 t d
  · rw [Cert.Kernel3Ideal.Value.final13 m c  h0 h1 h2 h3 h4 h5 h6]
    refine (Cert.Reference3Ideal.Read.val_main_v192_eq _).trans ?_
    funext i
    obtain ⟨t, d, rfl⟩ : ∃ (t : Fin 1) (d : Fin 1024), i = ix2 t d := ⟨i 0, i 1, eq_ix2 i⟩
    exact Cert.Reference3Ideal.Value.res_dgf k0 k1 k2 k3 k4 k5 k6 t d
  · rw [Cert.Kernel3Ideal.Value.final14 m c  h0 h1 h2 h3 h4 h5 h6]
    refine (Cert.Reference3Ideal.Read.val_main_v107_eq _).trans ?_
    funext i
    obtain ⟨t, d, rfl⟩ : ∃ (t : Fin 1) (d : Fin 1024), i = ix2 t d := ⟨i 0, i 1, eq_ix2 i⟩
    exact Cert.Reference3Ideal.Value.res_dgp k0 k1 k2 k3 k4 k5 k6 t d

end Cert.Loss

end
-- ==== Proof.MixModel.lean ====
/-
  The gradient back through the output projection, the two gates and the two mixers' projections, over real arrays: what
  both programs of the fourth pair compute. `Oa` and `Ob` the two mixers' outputs, `Ga` and `Gb` the gates before their
  sigmoids and biases `Bg`, `Wa`, `Wb`, `Wo` the projections' weights, `Ct` the cotangent of the output.
-/
module

public import proofs.«01_k».proof.Proof.Reals

@[expose] public section

noncomputable section

namespace Cert.Mix

open Cert.Reals

variable (Oa : Fin 8192 → Fin 1024 → ℝ) (Ob : Fin 8192 → Fin 256 → ℝ) (G Ga Gb : Fin 8192 → Fin 1024 → ℝ)
  (Bg : Fin 2048 → ℝ) (Wa : Fin 1024 → Fin 1024 → ℝ) (Wb : Fin 256 → Fin 1024 → ℝ) (Wo : Fin 1024 → Fin 1024 → ℝ)
  (Ct : Fin 8192 → Fin 1024 → ℝ)

/-- The lane of the first half of the bias. -/
def lo (e : Fin 1024) : Fin 2048 := ⟨e.val, by omega⟩

/-- The lane of the second half of the bias. -/
def hi (e : Fin 1024) : Fin 2048 := ⟨1024 + e.val, by omega⟩

/-- The first gate. -/
def gateA (t : Fin 8192) (e : Fin 1024) : ℝ := sigmoid (Ga t e + Bg (lo e))

/-- The second gate. -/
def gateB (t : Fin 8192) (e : Fin 1024) : ℝ := sigmoid (Gb t e + Bg (hi e))

/-- The first mixer's projected output. -/
def ya (t : Fin 8192) (e : Fin 1024) : ℝ := ∑ k, Oa t k * Wa k e

/-- The second mixer's projected output. -/
def yb (t : Fin 8192) (e : Fin 1024) : ℝ := ∑ k, Ob t k * Wb k e

/-- The gradient of the gated sum. -/
def du (t : Fin 8192) (e : Fin 1024) : ℝ := ∑ d, Ct t d * Wo e d

/-- The gradient of the first projected output. -/
def dya (t : Fin 8192) (e : Fin 1024) : ℝ := du Wo Ct t e * gateA Ga Bg t e

/-- The gradient of the second projected output. -/
def dyb (t : Fin 8192) (e : Fin 1024) : ℝ := du Wo Ct t e * gateB Gb Bg t e

/-- The gradient of the first gate before its sigmoid. -/
def dga (t : Fin 8192) (e : Fin 1024) : ℝ :=
  du Wo Ct t e * ya Oa Wa t e * gateA Ga Bg t e * (1 - gateA Ga Bg t e)

/-- The gradient of the second gate before its sigmoid. -/
def dgb (t : Fin 8192) (e : Fin 1024) : ℝ :=
  du Wo Ct t e * yb Ob Wb t e * gateB Gb Bg t e * (1 - gateB Gb Bg t e)

/-- The gradient of the gates' biases. -/
def dbg (e : Fin 2048) : ℝ :=
  if h : e.val < 1024 then ∑ t, dga Oa Ga Bg Wa Wo Ct t ⟨e.val, h⟩
  else ∑ t, dgb Ob Gb Bg Wb Wo Ct t ⟨e.val - 1024, by omega⟩

/-- The gradient of the first mixer's output. -/
def doa (t : Fin 8192) (k : Fin 1024) : ℝ := ∑ e, dya Ga Bg Wo Ct t e * Wa k e

/-- The gradient of the second mixer's output. -/
def dob (t : Fin 8192) (k : Fin 256) : ℝ := ∑ e, dyb Gb Bg Wo Ct t e * Wb k e

/-- Per head, the sum over its lanes of the second mixer's output times its gradient. -/
def dd (t : Fin 8192) (k : Fin 256) : ℝ :=
  ∑ j : Fin 256, if j.val / 64 = k.val / 64 then dob Gb Bg Wb Wo Ct t j * Ob t j else 0

/-- The token at place `q` of residue `r`, of `n` residues. -/
def tok (n m : ℕ) (h : m * n = 8192) (r : Fin n) (q : Fin m) : Fin 8192 :=
  ⟨q.val * n + r.val, by
    have a : (q.val + 1) * n ≤ m * n := Nat.mul_le_mul_right n q.isLt
    have b := r.isLt
    rw [Nat.add_mul, Nat.one_mul] at a
    omega⟩

end Cert.Mix

end
-- ==== Proof.MixRef.lean ====
/-
  The gates' reference: its twelve results, on finite arguments, are the real model of `MixModel.lean`, one stage at a time.
-/
module
public import proofs.«01_k».proof.Proof.Gen.Reference4Ideal.Read
public import proofs.«01_k».proof.Proof.MixModel
@[expose] public section
set_option maxRecDepth 16384
noncomputable section
namespace Cert.Reference4Ideal.Value
open Cert.Reference4Ideal Cert.Reference4Ideal.Read Idealize.ShloMosaic Idealize.ShloMosaic.TcCoe Idealize.SL.Sem Cert.Reals

variable {x0 : (⟨S8192x1024, .f32⟩ : BufTy).Contents (Elt Ideal)} {x1 : (⟨S8192x256, .f32⟩ : BufTy).Contents (Elt Ideal)}
  {x2 x3 : (⟨S8192x1024, .f32⟩ : BufTy).Contents (Elt Ideal)} {x4 : (⟨S1x2048, .f32⟩ : BufTy).Contents (Elt Ideal)}
  {x5 : (⟨S1x1024x1024, .f32⟩ : BufTy).Contents (Elt Ideal)} {x6 : (⟨S1x256x1024, .f32⟩ : BufTy).Contents (Elt Ideal)}
  {x7 : (⟨S1x1024x1024, .f32⟩ : BufTy).Contents (Elt Ideal)} {x8 : (⟨S8192x1024, .f32⟩ : BufTy).Contents (Elt Ideal)}
  {Oa : Fin 8192 → Fin 1024 → ℝ} {Ob : Fin 8192 → Fin 256 → ℝ} {Ga Gb : Fin 8192 → Fin 1024 → ℝ}
  {Bg : Fin 2048 → ℝ} {Wa : Fin 1024 → Fin 1024 → ℝ} {Wb : Fin 256 → Fin 1024 → ℝ} {Wo : Fin 1024 → Fin 1024 → ℝ}
  {Ct : Fin 8192 → Fin 1024 → ℝ}
  (h0 : ∀ t d, x0 (ix2 t d) = ((Oa t d : ℝ) : EReal)) (h1 : ∀ t d, x1 (ix2 t d) = ((Ob t d : ℝ) : EReal))
  (h2 : ∀ t d, x2 (ix2 t d) = ((Ga t d : ℝ) : EReal)) (h3 : ∀ t d, x3 (ix2 t d) = ((Gb t d : ℝ) : EReal))
  (h4 : ∀ d, x4 (ix2 0 d) = ((Bg d : ℝ) : EReal)) (h5 : ∀ k e, x5 (ix3 0 k e) = ((Wa k e : ℝ) : EReal))
  (h6 : ∀ k e, x6 (ix3 0 k e) = ((Wb k e : ℝ) : EReal)) (h7 : ∀ k e, x7 (ix3 0 k e) = ((Wo k e : ℝ) : EReal))
  (h8 : ∀ t d, x8 (ix2 t d) = ((Ct t d : ℝ) : EReal))

theorem tok_one (r : Fin 1) (q : Fin 8192) : Mix.tok 1 8192 rfl r q = q := Fin.ext (by show q.val * 1 + r.val = q.val; omega)

/-- The sum over the lanes of a lane's head, numbered within the head. -/
theorem head_sum (f : Fin 256 → ℝ) (k : Fin 256) :
    (∑ j : Fin 256, if j.val / 64 = k.val / 64 then f j else 0) = ∑ l : Fin 64, f ⟨k.val / 64 * 64 + l.val, by omega⟩ := by
  rw [← Finset.sum_filter]
  refine Finset.sum_nbij' (fun j => (⟨j.val % 64, by omega⟩ : Fin 64)) (fun l => ⟨k.val / 64 * 64 + l.val, by omega⟩) ?_ ?_ ?_ ?_ ?_
  · intro j _; exact Finset.mem_univ _
  · intro l _; refine Finset.mem_filter.mpr ⟨Finset.mem_univ _, ?_⟩; show (k.val / 64 * 64 + l.val) / 64 = k.val / 64; omega
  · intro j hj
    have e := (Finset.mem_filter.mp hj).2
    refine Fin.ext ?_
    show k.val / 64 * 64 + j.val % 64 = j.val
    omega
  · intro l _; refine Fin.ext ?_; show (k.val / 64 * 64 + l.val) % 64 = l.val; omega
  · intro j hj
    have e := (Finset.mem_filter.mp hj).2
    refine congrArg f (Fin.ext ?_)
    show j.val = k.val / 64 * 64 + j.val % 64
    omega

include h0 h5 in
theorem ya_at (t : Fin 8192) (e : Fin 1024) : val_main_v1 (F := Ideal) x0 x5 (ix2 t e) = ((Mix.ya Oa Wa t e : ℝ) : EReal) := by
  pointwise [val_main_v1, val_main_v0]
  simp only [h0, h5, ← EReal.coe_mul, coe_sum]
  rfl

include h1 h6 in
theorem yb_at (t : Fin 8192) (e : Fin 1024) : val_main_v3 (F := Ideal) x1 x6 (ix2 t e) = ((Mix.yb Ob Wb t e : ℝ) : EReal) := by
  pointwise [val_main_v3, val_main_v2]
  simp only [h1, h6, ← EReal.coe_mul, coe_sum]
  rfl

include h2 h4 in
theorem gateA_at (t : Fin 8192) (e : Fin 1024) : val_main_v14 (F := Ideal) x2 x4 (ix2 t e) = ((Mix.gateA Ga Bg t e : ℝ) : EReal) := by
  pointwise [val_main_v14, val_main_v13, val_main_cst_0, val_main_v12, val_main_v11, val_main_cst, val_main_v10, val_main_v9, val_main_v8,
    val_main_v7, val_main_v6, val_main_v5, val_main_v4]
  simp only [h2, h4, ← EReal.coe_add, ← EReal.coe_neg, Ideal.exp_coe, ← EReal.coe_one, ← EReal.coe_add, sigmoid_coe]
  rfl

include h3 h4 in
theorem gateB_at (t : Fin 8192) (e : Fin 1024) : val_main_v29 (F := Ideal) x3 x4 (ix2 t e) = ((Mix.gateB Gb Bg t e : ℝ) : EReal) := by
  pointwise [val_main_v29, val_main_v28, val_main_cst_3, val_main_v27, val_main_v26, val_main_cst_2, val_main_v25, val_main_v24, val_main_v23,
    val_main_v22, val_main_v21, val_main_v20, val_main_v19]
  simp only [h3, h4, ← EReal.coe_add, ← EReal.coe_neg, Ideal.exp_coe, ← EReal.coe_one, ← EReal.coe_add, sigmoid_coe]
  rfl

theorem again_gateA : val_main_v71 (F := Ideal) x2 x4 = val_main_v14 x2 x4 := rfl
theorem again_gateB : val_main_v83 (F := Ideal) x3 x4 = val_main_v29 x3 x4 := rfl
theorem again_du : val_main_v88 (F := Ideal) x7 x8 = val_main_v37 x7 x8 := rfl

section
include h7 h8
theorem du_at (t : Fin 8192) (e : Fin 1024) : val_main_v37 (F := Ideal) x7 x8 (ix2 t e) = ((Mix.du Wo Ct t e : ℝ) : EReal) := by
  pointwise [val_main_v37, val_main_v35]
  simp only [h7, h8, ← EReal.coe_mul, coe_sum]
  rfl

section
include h2 h4
theorem dya_at (t : Fin 8192) (e : Fin 1024) :
    val_main_v46 (F := Ideal) x2 x4 x7 x8 (ix2 t e) = ((Mix.dya Ga Bg Wo Ct t e : ℝ) : EReal) := by
  pointwise [val_main_v46]
  simp only [gateA_at h2 h4, du_at h7 h8, ← EReal.coe_mul]
  refine congrArg Real.toEReal ?_
  rw [Mix.dya, mul_comm]

theorem res_dya (t : Fin 8192) (e : Fin 1024) :
    val_main_v115 (F := Ideal) x2 x4 x7 x8 (ix2 t e) = ((Mix.dya Ga Bg Wo Ct t e : ℝ) : EReal) := by
  pointwise [val_main_v115, val_main_v90]
  simp only [again_gateA, again_du, gateA_at h2 h4, du_at h7 h8, ← EReal.coe_mul]
  refine congrArg Real.toEReal ?_
  rw [Mix.dya, mul_comm]

include h5
theorem res_doa (t : Fin 8192) (k : Fin 1024) :
    val_main_v97 (F := Ideal) x2 x4 x5 x7 x8 (ix2 t k) = ((Mix.doa Ga Bg Wa Wo Ct t k : ℝ) : EReal) := by
  pointwise [val_main_v97, val_main_v56, val_main_v0]
  simp only [dya_at h2 h4 h7 h8, h5, ← EReal.coe_mul, coe_sum]
  rfl

include h0
theorem dga_at (t : Fin 8192) (e : Fin 1024) :
    val_main_v48 (F := Ideal) x0 x2 x4 x5 x7 x8 (ix2 t e) = ((Mix.dga Oa Ga Bg Wa Wo Ct t e : ℝ) : EReal) := by
  pointwise [val_main_v48, val_main_v47, val_main_v17, val_main_v16, val_main_v15, val_main_cst_1]
  simp only [gateA_at h2 h4, du_at h7 h8, ya_at h0 h5, ← EReal.coe_mul, ← EReal.coe_one, ← EReal.coe_sub]
  refine congrArg Real.toEReal ?_
  rw [Mix.dga, mul_assoc (Mix.du Wo Ct t e * Mix.ya Oa Wa t e)]

theorem res_dga (t : Fin 8192) (e : Fin 1024) :
    val_main_v113 (F := Ideal) x0 x2 x4 x5 x7 x8 (ix2 t e) = ((Mix.dga Oa Ga Bg Wa Wo Ct t e : ℝ) : EReal) := by
  pointwise [val_main_v113]
  exact dga_at h0 h2 h4 h5 h7 h8 t e
end

section
include h3 h4
theorem dyb_at (t : Fin 8192) (e : Fin 1024) :
    val_main_v38 (F := Ideal) x3 x4 x7 x8 (ix2 t e) = ((Mix.dyb Gb Bg Wo Ct t e : ℝ) : EReal) := by
  pointwise [val_main_v38]
  simp only [gateB_at h3 h4, du_at h7 h8, ← EReal.coe_mul]
  refine congrArg Real.toEReal ?_
  rw [Mix.dyb, mul_comm]

theorem res_dyb (t : Fin 8192) (e : Fin 1024) :
    val_main_v116 (F := Ideal) x3 x4 x7 x8 (ix2 t e) = ((Mix.dyb Gb Bg Wo Ct t e : ℝ) : EReal) := by
  pointwise [val_main_v116, val_main_v89]
  simp only [again_gateB, again_du, gateB_at h3 h4, du_at h7 h8, ← EReal.coe_mul]
  refine congrArg Real.toEReal ?_
  rw [Mix.dyb, mul_comm]

include h6
theorem dob_at (t : Fin 8192) (k : Fin 256) :
    val_main_v55 (F := Ideal) x3 x4 x6 x7 x8 (ix2 t k) = ((Mix.dob Gb Bg Wb Wo Ct t k : ℝ) : EReal) := by
  pointwise [val_main_v55, val_main_v2]
  simp only [dyb_at h3 h4 h7 h8, h6, ← EReal.coe_mul, coe_sum]
  rfl

theorem res_dob1 (r : Fin 1) (q : Fin 8192) (k : Fin 256) :
    val_main_v100 (F := Ideal) x3 x4 x6 x7 x8 (ix3 r q k) = ((Mix.dob Gb Bg Wb Wo Ct (Mix.tok 1 8192 rfl r q) k : ℝ) : EReal) := by
  pointwise [val_main_v100, val_main_v99, val_main_v98]
  rw [tok_one]
  exact dob_at h3 h4 h6 h7 h8 _ k

theorem res_dob4 (r : Fin 4) (q : Fin 2048) (k : Fin 256) :
    val_main_v103 (F := Ideal) x3 x4 x6 x7 x8 (ix3 r q k) = ((Mix.dob Gb Bg Wb Wo Ct (Mix.tok 4 2048 rfl r q) k : ℝ) : EReal) := by
  pointwise [val_main_v103, val_main_v102, val_main_v101]
  exact dob_at h3 h4 h6 h7 h8 _ k

theorem res_dob16 (r : Fin 16) (q : Fin 512) (k : Fin 256) :
    val_main_v106 (F := Ideal) x3 x4 x6 x7 x8 (ix3 r q k) = ((Mix.dob Gb Bg Wb Wo Ct (Mix.tok 16 512 rfl r q) k : ℝ) : EReal) := by
  pointwise [val_main_v106, val_main_v105, val_main_v104]
  exact dob_at h3 h4 h6 h7 h8 _ k

include h1
theorem dgb_at (t : Fin 8192) (e : Fin 1024) :
    val_main_v40 (F := Ideal) x1 x3 x4 x6 x7 x8 (ix2 t e) = ((Mix.dgb Ob Gb Bg Wb Wo Ct t e : ℝ) : EReal) := by
  pointwise [val_main_v40, val_main_v39, val_main_v32, val_main_v31, val_main_v30, val_main_cst_4]
  simp only [gateB_at h3 h4, du_at h7 h8, yb_at h1 h6, ← EReal.coe_mul, ← EReal.coe_one, ← EReal.coe_sub]
  refine congrArg Real.toEReal ?_
  rw [Mix.dgb, mul_assoc (Mix.du Wo Ct t e * Mix.yb Ob Wb t e)]

theorem res_dgb (t : Fin 8192) (e : Fin 1024) :
    val_main_v114 (F := Ideal) x1 x3 x4 x6 x7 x8 (ix2 t e) = ((Mix.dgb Ob Gb Bg Wb Wo Ct t e : ℝ) : EReal) := by
  pointwise [val_main_v114]
  exact dgb_at h1 h3 h4 h6 h7 h8 t e

theorem dd_at (t : Fin 8192) (k : Fin 256) :
    val_main_v96 (F := Ideal) x1 x3 x4 x6 x7 x8 (ix2 t k) = ((Mix.dd Ob Gb Bg Wb Wo Ct t k : ℝ) : EReal) := by
  pointwise [val_main_v96, val_main_v95, val_main_v94, val_main_v93, val_main_cst_15, val_main_v92, val_main_v91]
  simp only [dob_at h3 h4 h6 h7 h8, h1, ← EReal.coe_mul, coe_sum]
  refine congrArg Real.toEReal ?_
  rw [Mix.dd, head_sum]

theorem res_dd1 (r : Fin 1) (q : Fin 8192) (k : Fin 256) :
    val_main_v108 (F := Ideal) x1 x3 x4 x6 x7 x8 (ix3 r q k) = ((Mix.dd Ob Gb Bg Wb Wo Ct (Mix.tok 1 8192 rfl r q) k : ℝ) : EReal) := by
  pointwise [val_main_v108, val_main_v107]
  rw [tok_one]
  exact dd_at h1 h3 h4 h6 h7 h8 _ k

theorem res_dd4 (r : Fin 4) (q : Fin 2048) (k : Fin 256) :
    val_main_v110 (F := Ideal) x1 x3 x4 x6 x7 x8 (ix3 r q k) = ((Mix.dd Ob Gb Bg Wb Wo Ct (Mix.tok 4 2048 rfl r q) k : ℝ) : EReal) := by
  pointwise [val_main_v110, val_main_v109]
  exact dd_at h1 h3 h4 h6 h7 h8 _ k

theorem res_dd16 (r : Fin 16) (q : Fin 512) (k : Fin 256) :
    val_main_v112 (F := Ideal) x1 x3 x4 x6 x7 x8 (ix3 r q k) = ((Mix.dd Ob Gb Bg Wb Wo Ct (Mix.tok 16 512 rfl r q) k : ℝ) : EReal) := by
  pointwise [val_main_v112, val_main_v111]
  exact dd_at h1 h3 h4 h6 h7 h8 _ k
end
end

section
include h0 h1 h2 h3 h4 h5 h6 h7 h8
theorem res_dbg (z : Fin 1) (e : Fin 2048) :
    val_main_v54 (F := Ideal) x0 x1 x2 x3 x4 x5 x6 x7 x8 (ix2 z e) = ((Mix.dbg Oa Ob Ga Gb Bg Wa Wb Wo Ct e : ℝ) : EReal) := by
  pointwise [val_main_v54, val_main_v45, val_main_cst_7, val_main_v44, val_main_v43, val_main_cst_6, val_main_v42, val_main_v41, val_main_cst_5,
    val_main_v53, val_main_cst_10, val_main_v52, val_main_v51, val_main_cst_9, val_main_v50, val_main_v49, val_main_cst_8]
  simp only [dga_at h0 h2 h4 h5 h7 h8, dgb_at h1 h3 h4 h6 h7 h8, coe_sum, Finset.sum_const, Finset.card_univ, Fintype.card_fin, one_smul]
  rw [Mix.dbg]
  by_cases h : e.val < 1024
  · rw [dif_neg (by omega), dif_pos h, dif_pos h, zero_add]
  · rw [dif_pos (by omega), dif_neg h, dif_neg h, add_zero]
end

end Cert.Reference4Ideal.Value

end
-- ==== Proof.MixPlane.lean ====
/-
  The staging plane of the residue classes: a block of 512 rows and 256 lanes is stored as two planes of 128 lanes, and
  read back row `r`, `r + n`, `r + 2 n`, … at a time.
-/
module
public import proofs.«01_k».proof.Proof.Gen.Kernel4Ideal.Value
public import Idealize.ShloMosaic.Lib.Pipeline.ValueKit
@[expose] public section
set_option maxRecDepth 16384
noncomputable section
namespace Cert.Kernel4Ideal.Value
open Cert.Kernel4Ideal Cert.Kernel4Ideal.Gen Idealize.ShloMosaic Idealize.ShloMosaic.TcCoe

/-- The two planes of a block. -/
def plane (v : FVec Ideal S512x256 .f32) : FVec Ideal S2x512x128 .f32 := fun y =>
  v (ix2 (y 1) ⟨(y 0).val * 128 + (y 2).val, by
    have h0 : (y 0).val < 2 := (y 0).isLt
    have h2 : (y 2).val < 128 := (y 2).isLt
    show _ < 256
    omega⟩)

/-- What is read back of a plane. -/
theorem plane_at (v : FVec Ideal S512x256 .f32) (y : S2x512x128.Idx) (p : Fin 512) (k : Fin 256) (hp : (y 1).val = p.val)
    (hk : (y 0).val * 128 + (y 2).val = k.val) : plane v y = v (ix2 p k) := by
  unfold plane
  have e1 : y 1 = p := Fin.ext hp
  rw [e1]
  exact congrArg v (congrArg (ix2 p) (Fin.ext hk))

/-- A row read back in its two halves. -/
theorem plane_halves (v : FVec Ideal S512x256 .f32) (p : Fin 512) (k : Fin 256) (n j : ℕ) (hn : n < 512) (hj : j < 256)
    (hp : n = p.val) (hk : j = k.val) :
    (if h : j < 128 then plane v (ix3 0 ⟨n, hn⟩ ⟨j, h⟩) else plane v (ix3 1 ⟨n, hn⟩ ⟨j - 128, by omega⟩)) = v (ix2 p k) := by
  split
  · exact plane_at v _ _ _ hp (show 0 * 128 + j = k.val by omega)
  · exact plane_at v _ _ _ hp (show 1 * 128 + (j - 128) = k.val by omega)

/-- The mask of one head's lanes. -/
theorem head_mask (a : Fin 4) (d : Fin 256) :
    IntOp.andi (IntOp.cmpi .sge (BitVec.ofNat 32 d.val) (BitVec.ofNat 32 (a.val * 64)))
      (IntOp.cmpi .slt (BitVec.ofNat 32 d.val) (BitVec.ofNat 32 (a.val * 64 + 64))) = if d.val / 64 = a.val then 1#1 else 0#1 := by
  revert a d
  decide +kernel

/-- The sum over the lanes of a lane's head. -/
theorem seg_sum (v : FVec Ideal S512x256 .f32) (p : Fin 512) (k : Fin 256) :
    k0_pay22 v (iota Kind.tc S1x256 32 [1] iota_S1x256_d1_w32)
      (k0_pay18 v (iota Kind.tc S1x256 32 [1] iota_S1x256_d1_w32) (FloatOps.ofBits FTy.f32 0#32))
      (k0_pay20 (iota Kind.tc S1x256 32 [1] iota_S1x256_d1_w32))
      (k0_pay21 v (iota Kind.tc S1x256 32 [1] iota_S1x256_d1_w32)) (ix2 p k)
      = ∑ j : Fin 256, if j.val / 64 = k.val / 64 then v (ix2 p j) else 0 := by
  pointwise [k0_pay22, k0_pay18, k0_pay20, k0_pay21, k0_pay19]
  have m0 : ∀ d : Fin 256, IntOp.andi (IntOp.cmpi .sge (BitVec.ofNat 32 d.val) 0#32) (IntOp.cmpi .slt (BitVec.ofNat 32 d.val) 64#32)
      = if d.val / 64 = 0 then 1#1 else 0#1 := head_mask 0
  have m1 : ∀ d : Fin 256, IntOp.andi (IntOp.cmpi .sge (BitVec.ofNat 32 d.val) 64#32) (IntOp.cmpi .slt (BitVec.ofNat 32 d.val) 128#32)
      = if d.val / 64 = 1 then 1#1 else 0#1 := head_mask 1
  have m2 : ∀ d : Fin 256, IntOp.andi (IntOp.cmpi .sge (BitVec.ofNat 32 d.val) 128#32) (IntOp.cmpi .slt (BitVec.ofNat 32 d.val) 192#32)
      = if d.val / 64 = 2 then 1#1 else 0#1 := head_mask 2
  have m3 : ∀ d : Fin 256, IntOp.andi (IntOp.cmpi .sge (BitVec.ofNat 32 d.val) 192#32) (IntOp.cmpi .slt (BitVec.ofNat 32 d.val) 256#32)
      = if d.val / 64 = 3 then 1#1 else 0#1 := head_mask 3
  have sel : ∀ (q : Prop) [Decidable q] (x y : EReal), Scalar.select (if q then 1#1 else 0#1) x y = if q then x else y := by
    intro q _ x y
    by_cases hq : q
    · rw [if_pos hq, if_pos hq]; rfl
    · rw [if_neg hq, if_neg hq]; rfl
  simp only [m0, m1, m2, m3, sel]
  have hk : k.val / 64 = 0 ∨ k.val / 64 = 1 ∨ k.val / 64 = 2 ∨ k.val / 64 = 3 := by omega
  rcases hk with e | e | e | e <;> simp [e]

/-- The planes stored last are the ones read back. -/
theorem canon_plane (v : FVec Ideal S512x256 .f32) (A B : FVec Ideal S1x512x128 .f32) (L : List (View.Piece (Elt Ideal) S2x512x128 .f32))
    (hA : ∀ p d, A (ix3 0 p d) = v (ix2 p ⟨d.val, by omega⟩)) (hB : ∀ p d, B (ix3 0 p d) = v (ix2 p ⟨128 + d.val, by omega⟩)) :
    View.canon (Val := Elt Ideal) (s := S2x512x128) (e := .f32)
      (⟨Rect.unit ![1, 0, 0] ![1, 512, 128] inb_S2x512x128_S1x512x128_1_0_0, B⟩ ::
       ⟨Rect.unit ![0, 0, 0] ![1, 512, 128] inb_S2x512x128_S1x512x128_0_0_0, A⟩ :: L) = plane v := by
  funext y
  obtain ⟨a, p, d, rfl⟩ : ∃ (a : Fin 2) (p : Fin 512) (d : Fin 128), y = ix3 a p d := ⟨y 0, y 1, y 2, eq_ix3 y⟩
  obtain rfl | rfl : a = 0 ∨ a = 1 := by omega
  · rw [View.canon_cons_of_not_mem _ _ (Rect.not_mem_set_of_axis _ _ (0 : Fin 3) 1 1 rfl rfl rfl (Or.inl (show 0 < 1 by decide)))]
    · have c := View.canon_cons_emb (Val := Elt Ideal) (s := S2x512x128) (e := .f32)
        (Rect.unit ![0, 0, 0] ![1, 512, 128] inb_S2x512x128_S1x512x128_0_0_0) A L (ix3 (n0 := 1) (n1 := 512) (n2 := 128) 0 p d)
      have e : (Rect.unit (s := S2x512x128) ![0, 0, 0] ![1, 512, 128] inb_S2x512x128_S1x512x128_0_0_0).emb
          (ix3 (n0 := 1) (n1 := 512) (n2 := 128) 0 p d) = ix3 0 p d := by
        blk_ext
      rw [e] at c
      rw [c, hA]
      exact (plane_at v (ix3 0 p d) p ⟨d.val, _⟩ rfl (show 0 * 128 + d.val = d.val by omega)).symm
  · have c := View.canon_cons_emb (Val := Elt Ideal) (s := S2x512x128) (e := .f32)
      (Rect.unit ![1, 0, 0] ![1, 512, 128] inb_S2x512x128_S1x512x128_1_0_0) B
        (⟨Rect.unit ![0, 0, 0] ![1, 512, 128] inb_S2x512x128_S1x512x128_0_0_0, A⟩ :: L) (ix3 (n0 := 1) (n1 := 512) (n2 := 128) 0 p d)
    have e : (Rect.unit (s := S2x512x128) ![1, 0, 0] ![1, 512, 128] inb_S2x512x128_S1x512x128_1_0_0).emb
        (ix3 (n0 := 1) (n1 := 512) (n2 := 128) 0 p d) = ix3 1 p d := by
      blk_ext
    rw [e] at c
    rw [c, hB]
    exact (plane_at v (ix3 1 p d) p ⟨128 + d.val, _⟩ rfl (show 1 * 128 + d.val = 128 + d.val by omega)).symm

/-! ## A row of 2048 lanes stored in two halves -/

/-- Off its left half, a row is what it was before. -/
theorem canon_left (A : FVec Ideal S1x1024 .f32) (L : List (View.Piece (Elt Ideal) S1x2048 .f32)) (z : Fin 1) (e : Fin 2048)
    (he : ¬ e.val < 1024) :
    View.canon (Val := Elt Ideal) (s := S1x2048) (e := .f32)
      (⟨Rect.unit ![0, 0] ![1, 1024] inb_S1x2048_S1x1024_0_0, A⟩ :: L) (ix2 z e) = View.canon L (ix2 z e) :=
  View.canon_cons_of_not_mem _ _ (Rect.not_mem_set_of_axis _ _ (1 : Fin 2) 0 1024 rfl rfl rfl (Or.inr (show 0 + 1024 ≤ e.val by omega)))

/-- The row that the stores of its two halves leave. -/
theorem canon_halves (A B : FVec Ideal S1x1024 .f32) (L : List (View.Piece (Elt Ideal) S1x2048 .f32)) (e : Fin 2048) :
    View.canon (Val := Elt Ideal) (s := S1x2048) (e := .f32)
      (⟨Rect.unit ![0, 1024] ![1, 1024] inb_S1x2048_S1x1024_0_1024, B⟩ ::
       ⟨Rect.unit ![0, 0] ![1, 1024] inb_S1x2048_S1x1024_0_0, A⟩ :: L) (ix2 0 e)
      = if h : e.val < 1024 then A (ix2 0 ⟨e.val, h⟩) else B (ix2 0 ⟨e.val - 1024, by omega⟩) := by
  split
  · rename_i he
    rw [View.canon_cons_of_not_mem _ _ (Rect.not_mem_set_of_axis _ _ (1 : Fin 2) 1024 1024 rfl rfl rfl (Or.inl (show e.val < 1024 from he)))]
    have c := View.canon_cons_emb (Val := Elt Ideal) (s := S1x2048) (e := .f32)
      (Rect.unit ![0, 0] ![1, 1024] inb_S1x2048_S1x1024_0_0) A L (ix2 (n0 := 1) (n1 := 1024) 0 ⟨e.val, he⟩)
    have i : (Rect.unit (s := S1x2048) ![0, 0] ![1, 1024] inb_S1x2048_S1x1024_0_0).emb (ix2 (n0 := 1) (n1 := 1024) 0 ⟨e.val, he⟩) = ix2 0 e := by
      blk_ext
    rw [i] at c
    exact c
  · rename_i he
    have c := View.canon_cons_emb (Val := Elt Ideal) (s := S1x2048) (e := .f32)
      (Rect.unit ![0, 1024] ![1, 1024] inb_S1x2048_S1x1024_0_1024) B (⟨Rect.unit ![0, 0] ![1, 1024] inb_S1x2048_S1x1024_0_0, A⟩ :: L)
      (ix2 (n0 := 1) (n1 := 1024) 0 ⟨e.val - 1024, by omega⟩)
    have i : (Rect.unit (s := S1x2048) ![0, 1024] ![1, 1024] inb_S1x2048_S1x1024_0_1024).emb
        (ix2 (n0 := 1) (n1 := 1024) 0 ⟨e.val - 1024, by omega⟩) = ix2 0 e := by
      blk_ext
    rw [i] at c
    exact c

/-! ## A residue class's rows read back in halves -/

/-- Every 4th row of a block, from its two planes, kept. -/
theorem rows_4 (v : FVec Ideal S512x256 .f32) (p : Fin 512) (k : Fin 256) (o : ℕ)
    (i0 : ∀ a : Fin S2x512x128.rank, ![1, 128, 128] a = 0 ∨ ![0, o, 0] a + ![1, 4, 1] a * (![1, 128, 128] a - 1) < S2x512x128.size a)
    (i1 : ∀ a : Fin S2x512x128.rank, ![1, 128, 128] a = 0 ∨ ![1, o, 0] a + ![1, 4, 1] a * (![1, 128, 128] a - 1) < S2x512x128.size a)
    (x : S1x128x256.Idx) (hp : o + 4 * (x 1).val = p.val) (hk : (x 2).val = k.val) :
    k0_pay35 (fun j => plane v (({ off := ![0, o, 0], size := ![1, 128, 128], stride := ![1, 4, 1], inb := i0 } : LoadRect S2x512x128).idx j))
      (fun j => plane v (({ off := ![1, o, 0], size := ![1, 128, 128], stride := ![1, 4, 1], inb := i1 } : LoadRect S2x512x128).idx j)) x
      = v (ix2 p k) := by
  have h1 : (x 1).val < 128 := (x 1).isLt
  have h2 : (x 2).val < 256 := (x 2).isLt
  pointwise [k0_pay35]
  exact plane_halves v p k (o + 4 * (x 1).val) (x 2).val (by omega) h2 hp hk

/-- Every 16th row of a block, from its two planes, kept. -/
theorem rows_16 (v : FVec Ideal S512x256 .f32) (p : Fin 512) (k : Fin 256) (o : ℕ)
    (i0 : ∀ a : Fin S2x512x128.rank, ![1, 32, 128] a = 0 ∨ ![0, o, 0] a + ![1, 16, 1] a * (![1, 32, 128] a - 1) < S2x512x128.size a)
    (i1 : ∀ a : Fin S2x512x128.rank, ![1, 32, 128] a = 0 ∨ ![1, o, 0] a + ![1, 16, 1] a * (![1, 32, 128] a - 1) < S2x512x128.size a)
    (x : S1x32x256.Idx) (hp : o + 16 * (x 1).val = p.val) (hk : (x 2).val = k.val) :
    k0_pay64 (fun j => plane v (({ off := ![0, o, 0], size := ![1, 32, 128], stride := ![1, 16, 1], inb := i0 } : LoadRect S2x512x128).idx j))
      (fun j => plane v (({ off := ![1, o, 0], size := ![1, 32, 128], stride := ![1, 16, 1], inb := i1 } : LoadRect S2x512x128).idx j)) x
      = v (ix2 p k) := by
  have h1 : (x 1).val < 32 := (x 1).isLt
  have h2 : (x 2).val < 256 := (x 2).isLt
  pointwise [k0_pay64]
  exact plane_halves v p k (o + 16 * (x 1).val) (x 2).val (by omega) h2 hp hk

/-- Every 4th row of a block, from its two planes, rounded. -/
theorem rows_4b (v : FVec Ideal S512x256 .f32) (p : Fin 512) (k : Fin 256) (o : ℕ)
    (i0 : ∀ a : Fin S2x512x128.rank, ![1, 128, 128] a = 0 ∨ ![0, o, 0] a + ![1, 4, 1] a * (![1, 128, 128] a - 1) < S2x512x128.size a)
    (i1 : ∀ a : Fin S2x512x128.rank, ![1, 128, 128] a = 0 ∨ ![1, o, 0] a + ![1, 4, 1] a * (![1, 128, 128] a - 1) < S2x512x128.size a)
    (x : S1x128x256.Idx) (hp : o + 4 * (x 1).val = p.val) (hk : (x 2).val = k.val) :
    (k0_pay29 (F := Ideal) (fun j => plane v (({ off := ![0, o, 0], size := ![1, 128, 128], stride := ![1, 4, 1], inb := i0 } : LoadRect S2x512x128).idx j))
      (fun j => plane v (({ off := ![1, o, 0], size := ![1, 128, 128], stride := ![1, 4, 1], inb := i1 } : LoadRect S2x512x128).idx j)) x : EReal)
      = v (ix2 p k) := by
  have h1 : (x 1).val < 128 := (x 1).isLt
  have h2 : (x 2).val < 256 := (x 2).isLt
  pointwise [k0_pay29]
  exact plane_halves v p k (o + 4 * (x 1).val) (x 2).val (by omega) h2 hp hk

/-- Every 16th row of a block, from its two planes, rounded. -/
theorem rows_16b (v : FVec Ideal S512x256 .f32) (p : Fin 512) (k : Fin 256) (o : ℕ)
    (i0 : ∀ a : Fin S2x512x128.rank, ![1, 32, 128] a = 0 ∨ ![0, o, 0] a + ![1, 16, 1] a * (![1, 32, 128] a - 1) < S2x512x128.size a)
    (i1 : ∀ a : Fin S2x512x128.rank, ![1, 32, 128] a = 0 ∨ ![1, o, 0] a + ![1, 16, 1] a * (![1, 32, 128] a - 1) < S2x512x128.size a)
    (x : S1x32x256.Idx) (hp : o + 16 * (x 1).val = p.val) (hk : (x 2).val = k.val) :
    (k0_pay43 (F := Ideal) (fun j => plane v (({ off := ![0, o, 0], size := ![1, 32, 128], stride := ![1, 16, 1], inb := i0 } : LoadRect S2x512x128).idx j))
      (fun j => plane v (({ off := ![1, o, 0], size := ![1, 32, 128], stride := ![1, 16, 1], inb := i1 } : LoadRect S2x512x128).idx j)) x : EReal)
      = v (ix2 p k) := by
  have h1 : (x 1).val < 32 := (x 1).isLt
  have h2 : (x 2).val < 256 := (x 2).isLt
  pointwise [k0_pay43]
  exact plane_halves v p k (o + 16 * (x 1).val) (x 2).val (by omega) h2 hp hk

end Cert.Kernel4Ideal.Value
-- ==== Proof.MixKernel.lean ====
/-
  The gates' backward kernel: what its twelve result arrays hold after the run, on finite arguments, is the real model of
  `MixModel.lean`.
-/
module
public import proofs.«01_k».proof.Proof.MixPlane
public import proofs.«01_k».proof.Proof.MixModel
public import Idealize.ShloMosaic.Lib.Pipeline.ValueKit
@[expose] public section
set_option maxRecDepth 16384
noncomputable section
namespace Cert.Kernel4Ideal.Value
open Cert.Kernel4Ideal Cert.Kernel4Ideal.Gen Idealize.ShloMosaic Idealize.ShloMosaic.TcCoe Idealize.SL.Sem Idealize.ShloMosaic.StableHlo Cert.Reals
variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![0, t.val, 0]
    ∧ win0_11.index t = ![0, t.val, 0] ∧ win0_12.index t = ![0, t.val, 0] ∧ win0_13.index t = ![0, t.val, 0]
    ∧ win0_14.index t = ![0, t.val, 0] ∧ win0_15.index t = ![0, t.val, 0] ∧ win0_16.index t = ![t.val, 0]
    ∧ win0_17.index t = ![t.val, 0] ∧ win0_18.index t = ![t.val, 0] ∧ win0_19.index t = ![t.val, 0] ∧ win0_20.index t = ![0, 0] :=
  (by decide +kernel : ∀ t : Fin grid0.N, _)

/-- The row of the whole arrays that row `p` of grid point `t`'s blocks is. -/
def row (t : Fin cfg0.N) (p : Fin 512) : Fin 8192 := ⟨t.val * 512 + p.val, by have := t.isLt; have := p.isLt; have : cfg0.N = 16 := N_0; omega⟩

section
variable (c : Dev nD) {Oa : Fin 8192 → Fin 1024 → ℝ} {Ob : Fin 8192 → Fin 256 → ℝ} {Ga Gb : Fin 8192 → Fin 1024 → ℝ}
  {Bg : Fin 2048 → ℝ} {Wa : Fin 1024 → Fin 1024 → ℝ} {Wb : Fin 256 → Fin 1024 → ℝ} {Wo : Fin 1024 → Fin 1024 → ℝ}
  {Ct : Fin 8192 → Fin 1024 → ℝ}
  (h0 : ∀ t d, m ((c : Thread nD τ).loc main_arg0) (ix2 t d) = ((Oa t d : ℝ) : EReal))
  (h1 : ∀ t d, m ((c : Thread nD τ).loc main_arg1) (ix2 t d) = ((Ob t d : ℝ) : EReal))
  (h2 : ∀ t d, m ((c : Thread nD τ).loc main_arg2) (ix2 t d) = ((Ga t d : ℝ) : EReal))
  (h3 : ∀ t d, m ((c : Thread nD τ).loc main_arg3) (ix2 t d) = ((Gb t d : ℝ) : EReal))
  (h4 : ∀ d, m ((c : Thread nD τ).loc main_arg4) (ix2 0 d) = ((Bg d : ℝ) : EReal))
  (h5 : ∀ k e, m ((c : Thread nD τ).loc main_arg5) (ix3 0 k e) = ((Wa k e : ℝ) : EReal))
  (h6 : ∀ k e, m ((c : Thread nD τ).loc main_arg6) (ix3 0 k e) = ((Wb k e : ℝ) : EReal))
  (h7 : ∀ k e, m ((c : Thread nD τ).loc main_arg7) (ix3 0 k e) = ((Wo k e : ℝ) : EReal))
  (h8 : ∀ t d, m ((c : Thread nD τ).loc main_arg8) (ix2 t d) = ((Ct t d : ℝ) : EReal))

include h0 h5 in
theorem Vya (t : Fin 8192) (e : Fin 1024) : V m c main_v26 (ix2 t e) = ((Mix.ya Oa Wa t e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h0, h5, ← EReal.coe_mul, coe_sum]
  rfl

include h1 h6 in
theorem Vyb (t : Fin 8192) (e : Fin 1024) : V m c main_v27 (ix2 t e) = ((Mix.yb Ob Wb t e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h1, h6, ← EReal.coe_mul, coe_sum]
  rfl

include h2 h4 in
theorem Vga (t : Fin 8192) (e : Fin 1024) : V m c main_v28 (ix2 t e) = ((Mix.gateA Ga Bg t e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h2, h4, ← EReal.coe_neg, Ideal.exp_coe, ← EReal.coe_one, ← EReal.coe_add, sigmoid_coe]
  rfl

include h3 h4 in
theorem Vgb (t : Fin 8192) (e : Fin 1024) : V m c main_v29 (ix2 t e) = ((Mix.gateB Gb Bg t e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h3, h4, ← EReal.coe_neg, Ideal.exp_coe, ← EReal.coe_one, ← EReal.coe_add, sigmoid_coe]
  rfl

include h1 in
theorem Vob (t : Fin 8192) (k : Fin 256) : V m c main_v30 (ix2 t k) = ((Ob t k : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h1]

include h5 in
theorem Voa (k e : Fin 1024) : V m c main_v32 (ix2 k e) = ((Wa k e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h5]

include h6 in
theorem Vob_t (e : Fin 1024) (k : Fin 256) : V m c main_v35 (ix2 e k) = ((Wb k e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h6]

include h7 in
theorem Vo (k e : Fin 1024) : V m c main_v37 (ix2 k e) = ((Wo k e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h7]

include h8 in
theorem b0 (t : Fin cfg0.N) (p : Fin 512) (d : Fin 1024) : iblk m c 0 t (ix2 p d) = ((Ct (row t p) d : ℝ) : EReal) := by
  rw [← h8]; have : ((row t p) : ℕ) = t.val * 512 + p.val := rfl; blk_point [iblk, V, idx t]

include h0 h5 in
theorem b1 (t : Fin cfg0.N) (p : Fin 512) (d : Fin 1024) : iblk m c 1 t (ix2 p d) = ((Mix.ya Oa Wa (row t p) d : ℝ) : EReal) := by
  rw [← Vya m c h0 h5]; have : ((row t p) : ℕ) = t.val * 512 + p.val := rfl; blk_point [iblk, idx t]

include h1 h6 in
theorem b2 (t : Fin cfg0.N) (p : Fin 512) (d : Fin 1024) : iblk m c 2 t (ix2 p d) = ((Mix.yb Ob Wb (row t p) d : ℝ) : EReal) := by
  rw [← Vyb m c h1 h6]; have : ((row t p) : ℕ) = t.val * 512 + p.val := rfl; blk_point [iblk, idx t]

include h2 h4 in
theorem b3 (t : Fin cfg0.N) (p : Fin 512) (d : Fin 1024) : iblk m c 3 t (ix2 p d) = ((Mix.gateA Ga Bg (row t p) d : ℝ) : EReal) := by
  rw [← Vga m c h2 h4]; have : ((row t p) : ℕ) = t.val * 512 + p.val := rfl; blk_point [iblk, idx t]

include h3 h4 in
theorem b4 (t : Fin cfg0.N) (p : Fin 512) (d : Fin 1024) : iblk m c 4 t (ix2 p d) = ((Mix.gateB Gb Bg (row t p) d : ℝ) : EReal) := by
  rw [← Vgb m c h3 h4]; have : ((row t p) : ℕ) = t.val * 512 + p.val := rfl; blk_point [iblk, idx t]

include h1 in
theorem b5 (t : Fin cfg0.N) (p : Fin 512) (d : Fin 256) : iblk m c 5 t (ix2 p d) = ((Ob (row t p) d : ℝ) : EReal) := by
  rw [← Vob m c h1]; have : ((row t p) : ℕ) = t.val * 512 + p.val := rfl; blk_point [iblk, idx t]

include h5 in
theorem b6 (t : Fin cfg0.N) (k e : Fin 1024) : iblk m c 6 t (ix2 k e) = ((Wa k e : ℝ) : EReal) := by
  rw [← Voa m c h5]; blk_point [iblk, idx t]

include h6 in
theorem b7 (t : Fin cfg0.N) (e : Fin 1024) (k : Fin 256) : iblk m c 7 t (ix2 e k) = ((Wb k e : ℝ) : EReal) := by
  rw [← Vob_t m c h6]; blk_point [iblk, idx t]

include h7 in
theorem b8 (t : Fin cfg0.N) (k e : Fin 1024) : iblk m c 8 t (ix2 k e) = ((Wo k e : ℝ) : EReal) := by
  rw [← Vo m c h7]; blk_point [iblk, idx t]

/-! ## The body's stages at one grid point -/

/-- The gradient of the gated sum at the point's rows. -/
def duB (t : Fin cfg0.N) : FVec Ideal S512x1024 .f32 := k0_pay2 (iblk m c 0 t) (iblk m c 8 t)
/-- The gradient of the second projected output. -/
def dybB (t : Fin cfg0.N) : FVec Ideal S512x1024 .bf16 := k0_pay6 (iblk m c 0 t) (iblk m c 8 t) (iblk m c 4 t)
/-- The gradient of the second mixer's output. -/
def dobB (t : Fin cfg0.N) : FVec Ideal S512x256 .f32 := k0_pay16 (dybB m c t) (iblk m c 7 t)

section
include h7 h8
theorem pay_du (t : Fin cfg0.N) (p : Fin 512) (e : Fin 1024) : duB m c t (ix2 p e) = ((Mix.du Wo Ct (row t p) e : ℝ) : EReal) := by
  unfold duB
  pointwise [k0_pay2]
  simp only [b0 m c h8, b8 m c h7, ← EReal.coe_mul, coe_sum]
  rfl

section
include h2 h4
theorem pay_dya (t : Fin cfg0.N) (p : Fin 512) (e : Fin 1024) :
    k0_pay5 (iblk m c 0 t) (iblk m c 8 t) (iblk m c 3 t) (ix2 p e) = ((Mix.dya Ga Bg Wo Ct (row t p) e : ℝ) : EReal) := by
  have n := pay_du m c h7 h8 t
  unfold duB at n
  pointwise [k0_pay5, k0_pay3]
  simp only [n, b3 m c h2 h4, ← EReal.coe_mul]
  rfl

include h0 h5
theorem pay_dga (t : Fin cfg0.N) (p : Fin 512) (e : Fin 1024) :
    k0_pay7 (iblk m c 0 t) (iblk m c 8 t) (iblk m c 3 t) (iblk m c 1 t) (ix2 p e) = ((Mix.dga Oa Ga Bg Wa Wo Ct (row t p) e : ℝ) : EReal) := by
  have n := pay_du m c h7 h8 t
  unfold duB at n
  pointwise [k0_pay7, k0_pay3]
  simp only [n, b3 m c h2 h4, b1 m c h0 h5, ← EReal.coe_mul, ← EReal.coe_one, ← EReal.coe_sub]
  rfl
end

include h3 h4
theorem pay_dyb (t : Fin cfg0.N) (p : Fin 512) (e : Fin 1024) :
    dybB m c t (ix2 p e) = ((Mix.dyb Gb Bg Wo Ct (row t p) e : ℝ) : EReal) := by
  have n := pay_du m c h7 h8 t
  unfold duB at n
  unfold dybB
  pointwise [k0_pay6, k0_pay4]
  simp only [n, b4 m c h3 h4, ← EReal.coe_mul]
  rfl

section
include h1 h6
theorem pay_dgb (t : Fin cfg0.N) (p : Fin 512) (e : Fin 1024) :
    k0_pay10 (k0_pay8 (iblk m c 0 t) (iblk m c 8 t) (iblk m c 4 t) (iblk m c 2 t)) (k0_pay9 (iblk m c 4 t)) (ix2 p e)
      = ((Mix.dgb Ob Gb Bg Wb Wo Ct (row t p) e : ℝ) : EReal) := by
  have n := pay_du m c h7 h8 t
  unfold duB at n
  pointwise [k0_pay10, k0_pay8, k0_pay9, k0_pay4]
  simp only [n, b4 m c h3 h4, b2 m c h1 h6, ← EReal.coe_mul, ← EReal.coe_one, ← EReal.coe_sub]
  rfl
end

include h6
theorem pay_dob (t : Fin cfg0.N) (p : Fin 512) (k : Fin 256) :
    dobB m c t (ix2 p k) = ((Mix.dob Gb Bg Wb Wo Ct (row t p) k : ℝ) : EReal) := by
  unfold dobB
  pointwise [k0_pay16]
  simp only [pay_dyb m c h3 h4 h7 h8, b7 m c h6, ← EReal.coe_mul, coe_sum]
  rfl
end

section
include h2 h4 h5 h7 h8
theorem pay_doa (t : Fin cfg0.N) (p : Fin 512) (k : Fin 1024) :
    k0_pay15 (k0_pay5 (iblk m c 0 t) (iblk m c 8 t) (iblk m c 3 t)) (iblk m c 6 t) (ix2 p k)
      = ((Mix.doa Ga Bg Wa Wo Ct (row t p) k : ℝ) : EReal) := by
  pointwise [k0_pay15]
  simp only [pay_dya m c h2 h4 h7 h8, b6 m c h5, ← EReal.coe_mul, coe_sum]
  rfl
end

/-- The gradient of the second mixer's output times that output. -/
def prodB (t : Fin cfg0.N) : FVec Ideal S512x256 .f32 := k0_pay17 (dybB m c t) (iblk m c 7 t) (iblk m c 5 t)
/-- The lanes' numbers. -/
def lanes : IVec S1x256 32 := iota Kind.tc S1x256 32 [1] iota_S1x256_d1_w32
/-- The head sums of that product. -/
def ddB (t : Fin cfg0.N) : FVec Ideal S512x256 .f32 :=
  k0_pay22 (prodB m c t) lanes (k0_pay18 (prodB m c t) lanes (FloatOps.ofBits FTy.f32 0#32)) (k0_pay20 lanes) (k0_pay21 (prodB m c t) lanes)

section
include h1 h3 h4 h6 h7 h8
theorem pay_dd (t : Fin cfg0.N) (p : Fin 512) (k : Fin 256) :
    ddB m c t (ix2 p k) = ((Mix.dd Ob Gb Bg Wb Wo Ct (row t p) k : ℝ) : EReal) := by
  refine (seg_sum (prodB m c t) p k).trans ?_
  have e : ∀ j : Fin 256, (if j.val / 64 = k.val / 64 then prodB m c t (ix2 p j) else 0)
      = ((if j.val / 64 = k.val / 64 then Mix.dob Gb Bg Wb Wo Ct (row t p) j * Ob (row t p) j else 0 : ℝ) : EReal) := by
    intro j
    have n := pay_dob m c h3 h4 h6 h7 h8 t p j
    unfold dobB at n
    split
    · unfold prodB
      pointwise [k0_pay17]
      simp only [n, b5 m c h1, ← EReal.coe_mul]
    · rfl
  simp only [e, coe_sum]
  rfl
end

theorem out11 (t : Fin cfg0.N) (y : S4x128x256.Idx) (p : Fin 512) (k : Fin 256) (hp : p.val = (y 1).val * 4 + (y 0).val) (hk : k.val = (y 2).val) :
   (outsAt0 m c t.val t.isLt).2.2.1 y = dobB m c t (ix2 p k) := by
  have cp := canon_plane (dobB m c t) (k0_pay25 (dobB m c t)) (k0_pay26 (dobB m c t)) [] (fun p d => by pointwise [k0_pay25])
    (fun p d => by pointwise [k0_pay26])
  generalize hv : dobB m c t = v at cp ⊢
  unfold dobB dybB at hv
  rcases Decidable.em (t.val % 16 = 0) with h | h <;> [rw [outsAt0_A m c t h]; rw [outsAt0_B m c t h]] <;> frame_out <;>
    simp only [View.readCov_eq_canon', hv, cp] <;> canon_tiles x h <;> refine rows_4b v p k _ _ _ x ?_ ?_ <;> omega

theorem out14 (t : Fin cfg0.N) (y : S4x128x256.Idx) (p : Fin 512) (k : Fin 256) (hp : p.val = (y 1).val * 4 + (y 0).val) (hk : k.val = (y 2).val) :
   (outsAt0 m c t.val t.isLt).2.2.2.2.2.1 y = ddB m c t (ix2 p k) := by
  have cp := fun L => canon_plane (ddB m c t) (k0_pay33 (ddB m c t)) (k0_pay34 (ddB m c t)) L (fun p d => by pointwise [k0_pay33])
    (fun p d => by pointwise [k0_pay34])
  generalize hv : ddB m c t = v at cp ⊢
  unfold ddB prodB dybB lanes at hv
  rcases Decidable.em (t.val % 16 = 0) with h | h <;> [rw [outsAt0_A m c t h]; rw [outsAt0_B m c t h]] <;> frame_out <;>
    simp only [View.readCov_eq_canon', hv, cp] <;> canon_tiles x h <;> refine rows_4 v p k _ _ _ x ?_ ?_ <;> omega

theorem out12 (t : Fin cfg0.N) (y : S16x32x256.Idx) (p : Fin 512) (k : Fin 256) (hp : p.val = (y 1).val * 16 + (y 0).val) (hk : k.val = (y 2).val) :
   (outsAt0 m c t.val t.isLt).2.2.2.1 y = dobB m c t (ix2 p k) := by
  have cp := fun L => canon_plane (dobB m c t) (k0_pay39 (dobB m c t)) (k0_pay40 (dobB m c t)) L (fun p d => by pointwise [k0_pay39])
    (fun p d => by pointwise [k0_pay40])
  generalize hv : dobB m c t = v at cp ⊢
  unfold dobB dybB at hv
  rcases Decidable.em (t.val % 16 = 0) with h | h <;> [rw [outsAt0_A m c t h]; rw [outsAt0_B m c t h]] <;> frame_out <;>
    simp only [View.readCov_eq_canon', hv, cp] <;> canon_tiles x h <;> refine rows_16b v p k _ _ _ x ?_ ?_ <;> omega

theorem out15A (t : Fin cfg0.N) (h : t.val % 16 = 0) (y : S16x32x256.Idx) (p : Fin 512) (k : Fin 256) (hp : p.val = (y 1).val * 16 + (y 0).val) (hk : k.val = (y 2).val) :
   (outsAt0 m c t.val t.isLt).2.2.2.2.2.2.1 y = ddB m c t (ix2 p k) := by
  have cp := fun L => canon_plane (ddB m c t) (k0_pay62 (k0_pay61 (ddB m c t))) (k0_pay63 (ddB m c t)) L (fun p d => by pointwise [k0_pay62, k0_pay61])
    (fun p d => by pointwise [k0_pay63])
  generalize hv : ddB m c t = v at cp ⊢
  unfold ddB prodB dybB lanes at hv
  rw [outsAt0_A m c t h]
  frame_out
  simp only [View.readCov_eq_canon', hv, cp]
  canon_tiles x h <;> refine rows_16 v p k _ _ _ x ?_ ?_ <;> omega

theorem out15B (t : Fin cfg0.N) (h : ¬ t.val % 16 = 0) (y : S16x32x256.Idx) (p : Fin 512) (k : Fin 256) (hp : p.val = (y 1).val * 16 + (y 0).val) (hk : k.val = (y 2).val) :
   (outsAt0 m c t.val t.isLt).2.2.2.2.2.2.1 y = ddB m c t (ix2 p k) := by
  have cp := fun L => canon_plane (ddB m c t) (k0_pay62 (k0_pay61 (ddB m c t))) (k0_pay63 (ddB m c t)) L (fun p d => by pointwise [k0_pay62, k0_pay61])
    (fun p d => by pointwise [k0_pay63])
  generalize hv : ddB m c t = v at cp ⊢
  unfold ddB prodB dybB lanes at hv
  rw [outsAt0_B m c t h]
  frame_out
  simp only [View.readCov_eq_canon', hv, cp]
  canon_tiles x h <;> refine rows_16 v p k _ _ _ x ?_ ?_ <;> omega

theorem out15 (t : Fin cfg0.N) (y : S16x32x256.Idx) (p : Fin 512) (k : Fin 256) (hp : p.val = (y 1).val * 16 + (y 0).val)
    (hk : k.val = (y 2).val) : (outsAt0 m c t.val t.isLt).2.2.2.2.2.2.1 y = ddB m c t (ix2 p k) := by
  rcases Decidable.em (t.val % 16 = 0) with h | h
  · exact out15A m c t h y p k hp hk
  · exact out15B m c t h y p k hp hk

/-- A column of the stored gate gradients, over the two gates. -/
def dbgB (t : Fin cfg0.N) (e : Fin 2048) (p : Fin 512) : EReal :=
  if h : e.val < 1024 then k0_pay7 (iblk m c 0 t) (iblk m c 8 t) (iblk m c 3 t) (iblk m c 1 t) (ix2 p ⟨e.val, h⟩)
  else k0_pay10 (k0_pay8 (iblk m c 0 t) (iblk m c 8 t) (iblk m c 4 t) (iblk m c 2 t)) (k0_pay9 (iblk m c 4 t)) (ix2 p ⟨e.val - 1024, by omega⟩)

theorem out20A (t : Fin cfg0.N) (h : t.val % 16 = 0) (e : Fin 2048) :
    (outsAt0 m c t.val t.isLt).2.2.2.2.2.2.2.2.2.2.2 (ix2 0 e) = 0 + ∑ p : Fin 512, dbgB m c t e p := by
  rw [outsAt0_A m c t h]
  frame_out
  have z : View.canon (Val := Elt Ideal) (s := S1x2048) (e := .f32)
      [⟨Rect.unit ![0, 0] ![1, 2048] inb_S1x2048_S1x2048_0_0, k0_pay1 (F := Ideal)⟩] = k0_pay1 (F := Ideal) :=
    View.canon_cons_unit_lit (Val := Elt Ideal) (S := S1x2048) (e := .f32) inb_S1x2048_S1x2048_0_0 (k0_pay1 (F := Ideal)) [] (by decide)
  simp only [View.readCov_eq_canon']
  rw [canon_halves]
  unfold dbgB
  split
  · rename_i he
    pointwise [k0_pay13]
    rw [z]
    pointwise [k0_pay1]
  · rename_i he
    pointwise [k0_pay14]
    have i : (⟨1024 + (e.val - 1024), by omega⟩ : Fin 2048) = e := Fin.ext (show 1024 + (e.val - 1024) = e.val by omega)
    rw [i, canon_left _ _ _ _ he, z]
    pointwise [k0_pay1]

theorem out20B (t : Fin cfg0.N) (h : ¬ t.val % 16 = 0) (e : Fin 2048) :
    (outsAt0 m c t.val t.isLt).2.2.2.2.2.2.2.2.2.2.2 (ix2 0 e)
      = (outsAt0 m c (t.val - 1) (by omega)).2.2.2.2.2.2.2.2.2.2.2 (ix2 0 e) + ∑ p : Fin 512, dbgB m c t e p := by
  rw [outsAt0_B m c t h]
  frame_out
  rw [canon_halves]
  unfold dbgB
  split
  · rename_i he
    pointwise [k0_pay13]
  · rename_i he
    pointwise [k0_pay14]
    have i : (⟨1024 + (e.val - 1024), by omega⟩ : Fin 2048) = e := Fin.ext (show 1024 + (e.val - 1024) = e.val by omega)
    rw [i]

section
include h0 h1 h2 h3 h4 h5 h6 h7 h8
theorem dbgB_real (t : Fin cfg0.N) (e : Fin 2048) (p : Fin 512) :
    dbgB m c t e p = ((if h : e.val < 1024 then Mix.dga Oa Ga Bg Wa Wo Ct (row t p) ⟨e.val, h⟩
      else Mix.dgb Ob Gb Bg Wb Wo Ct (row t p) ⟨e.val - 1024, by omega⟩ : ℝ) : EReal) := by
  unfold dbgB
  split
  · exact pay_dga m c h0 h2 h4 h5 h7 h8 t p _
  · exact pay_dgb m c h1 h3 h4 h6 h7 h8 t p _
end

/-- The head sums as one residue's rows. -/
theorem pay24_at (v : FVec Ideal S512x256 .f32) (a : IVec S1x256 32) (b : FVec Ideal S512x256 .f32) (e : IVec S512x256 1)
    (f : FVec Ideal S512x256 .f32) (z : Fin 1) (p : Fin 512) (k : Fin 256) :
    k0_pay24 v a b e f (ix3 z p k) = k0_pay22 v a b e f (ix2 p k) := by
  unfold k0_pay24
  generalize k0_pay22 v a b e f = w
  pointwise

end
end Cert.Kernel4Ideal.Value

end
-- ==== Proof.MixFinal.lean ====
/-
  The gates' backward kernel: its twelve result arrays after the run.
-/
module
public import proofs.«01_k».proof.Proof.MixKernel
@[expose] public section
set_option maxRecDepth 16384
noncomputable section
namespace Cert.Kernel4Ideal.Value
open Cert.Kernel4Ideal Cert.Kernel4Ideal.Gen Idealize.ShloMosaic Idealize.ShloMosaic.TcCoe Idealize.SL.Sem Idealize.ShloMosaic.StableHlo Cert.Reals
variable (m : (ℓ : Loc nD τ sig) → Buf (Elt Ideal) ℓ)

section
variable (c : Dev nD) {Oa : Fin 8192 → Fin 1024 → ℝ} {Ob : Fin 8192 → Fin 256 → ℝ} {Ga Gb : Fin 8192 → Fin 1024 → ℝ}
  {Bg : Fin 2048 → ℝ} {Wa : Fin 1024 → Fin 1024 → ℝ} {Wb : Fin 256 → Fin 1024 → ℝ} {Wo : Fin 1024 → Fin 1024 → ℝ}
  {Ct : Fin 8192 → Fin 1024 → ℝ}
  (h0 : ∀ t d, m ((c : Thread nD τ).loc main_arg0) (ix2 t d) = ((Oa t d : ℝ) : EReal))
  (h1 : ∀ t d, m ((c : Thread nD τ).loc main_arg1) (ix2 t d) = ((Ob t d : ℝ) : EReal))
  (h2 : ∀ t d, m ((c : Thread nD τ).loc main_arg2) (ix2 t d) = ((Ga t d : ℝ) : EReal))
  (h3 : ∀ t d, m ((c : Thread nD τ).loc main_arg3) (ix2 t d) = ((Gb t d : ℝ) : EReal))
  (h4 : ∀ d, m ((c : Thread nD τ).loc main_arg4) (ix2 0 d) = ((Bg d : ℝ) : EReal))
  (h5 : ∀ k e, m ((c : Thread nD τ).loc main_arg5) (ix3 0 k e) = ((Wa k e : ℝ) : EReal))
  (h6 : ∀ k e, m ((c : Thread nD τ).loc main_arg6) (ix3 0 k e) = ((Wb k e : ℝ) : EReal))
  (h7 : ∀ k e, m ((c : Thread nD τ).loc main_arg7) (ix3 0 k e) = ((Wo k e : ℝ) : EReal))
  (h8 : ∀ t d, m ((c : Thread nD τ).loc main_arg8) (ix2 t d) = ((Ct t d : ℝ) : EReal))

/-! ## The result arrays -/

section
include h2 h4 h5 h7 h8
theorem final9 : (dats m 0 c).arrAt 9 cfg0.N = fun i => ((Mix.doa Ga Bg Wa Wo Ct (i 0) (i 1) : ℝ) : EReal) := by
  refine (dats m 0 c).arrAt_eq_of_covers 9 _ (by decide +kernel) fun t hf y => ?_
  blk_simp; rw [after0_9]
  obtain ⟨p, d, rfl⟩ : ∃ (p : Fin 512) (d : Fin 1024), y = ix2 p d := ⟨y 0, y 1, eq_ix2 y⟩
  have out : (outsAt0 m c t.val t.isLt).1 (ix2 p d) = ((Mix.doa Ga Bg Wa Wo Ct (row t p) d : ℝ) : EReal) := by
    rcases Decidable.em (t.val % 16 = 0) with h | h <;> [rw [outsAt0_A m c t h]; rw [outsAt0_B m c t h]] <;> frame_out <;>
      exact pay_doa m c h2 h4 h5 h7 h8 t p d
  refine out.trans ?_
  have hr : ((row t p) : ℕ) = t.val * 512 + p.val := rfl
  have e : (win0_9.blk t).view.emb (ix2 p d) = ix2 (row t p) d := by blk_ext [idx t]
  rw [e]
  rfl
end

section
include h3 h4 h6 h7 h8
theorem final10 : (dats m 0 c).arrAt 10 cfg0.N
    = fun i => ((Mix.dob Gb Bg Wb Wo Ct (Mix.tok 1 8192 rfl (i 0) (i 1)) (i 2) : ℝ) : EReal) := by
  refine (dats m 0 c).arrAt_eq_of_covers 10 _ (by decide +kernel) fun t hf y => ?_
  blk_simp; rw [after0_10]
  obtain ⟨r, q, d, rfl⟩ : ∃ (r : Fin 1) (q : Fin 512) (d : Fin 256), y = ix3 r q d := ⟨y 0, y 1, y 2, eq_ix3 y⟩
  have ht : t.val < 16 := lt_of_lt_of_eq t.isLt N_0
  have hp : q.val * 1 + r.val < 512 := by omega
  have out : (outsAt0 m c t.val t.isLt).2.1 (ix3 r q d) = ((Mix.dob Gb Bg Wb Wo Ct (row t ⟨q.val * 1 + r.val, hp⟩) d : ℝ) : EReal) := by
    have out' : (outsAt0 m c t.val t.isLt).2.1 (ix3 r q d) = ((Mix.dob Gb Bg Wb Wo Ct (row t q) d : ℝ) : EReal) := by
      rcases Decidable.em (t.val % 16 = 0) with h | h <;> [rw [outsAt0_A m c t h]; rw [outsAt0_B m c t h]] <;> frame_out <;>
        (pointwise [k0_pay23]
         have n := pay_dob m c h3 h4 h6 h7 h8 t ⟨q.val * 1 + r.val, hp⟩ d
         have e : (⟨q.val * 1 + r.val, hp⟩ : Fin 512) = q := Fin.ext (by show q.val * 1 + r.val = q.val; omega)
         rw [e] at n
         exact n)
    rw [out', show (⟨q.val * 1 + r.val, hp⟩ : Fin 512) = q from Fin.ext (by show q.val * 1 + r.val = q.val; omega)]
  refine out.trans ?_
  have e : (win0_10.blk t).view.emb (ix3 r q d) = ix3 r ⟨t.val * 512 + q.val, by omega⟩ d := by blk_ext [idx t]
  rw [e]
  refine congrArg (fun s => ((Mix.dob Gb Bg Wb Wo Ct s d : ℝ) : EReal)) (Fin.ext ?_)
  show t.val * 512 + (q.val * 1 + r.val) = (t.val * 512 + q.val) * 1 + r.val
  omega
end

section
include h3 h4 h6 h7 h8
theorem final11 : (dats m 0 c).arrAt 11 cfg0.N
    = fun i => ((Mix.dob Gb Bg Wb Wo Ct (Mix.tok 4 2048 rfl (i 0) (i 1)) (i 2) : ℝ) : EReal) := by
  refine (dats m 0 c).arrAt_eq_of_covers 11 _ (by decide +kernel) fun t hf y => ?_
  blk_simp; rw [after0_11]
  obtain ⟨r, q, d, rfl⟩ : ∃ (r : Fin 4) (q : Fin 128) (d : Fin 256), y = ix3 r q d := ⟨y 0, y 1, y 2, eq_ix3 y⟩
  have ht : t.val < 16 := lt_of_lt_of_eq t.isLt N_0
  have hp : q.val * 4 + r.val < 512 := by omega
  have out : (outsAt0 m c t.val t.isLt).2.2.1 (ix3 r q d) = ((Mix.dob Gb Bg Wb Wo Ct (row t ⟨q.val * 4 + r.val, hp⟩) d : ℝ) : EReal) := by
    exact (out11 m c t (ix3 r q d) ⟨q.val * 4 + r.val, hp⟩ d rfl rfl).trans
      (pay_dob m c h3 h4 h6 h7 h8 t ⟨q.val * 4 + r.val, hp⟩ d)
  refine out.trans ?_
  have e : (win0_11.blk t).view.emb (ix3 r q d) = ix3 r ⟨t.val * 128 + q.val, by omega⟩ d := by blk_ext [idx t]
  rw [e]
  refine congrArg (fun s => ((Mix.dob Gb Bg Wb Wo Ct s d : ℝ) : EReal)) (Fin.ext ?_)
  show t.val * 512 + (q.val * 4 + r.val) = (t.val * 128 + q.val) * 4 + r.val
  omega
end

section
include h3 h4 h6 h7 h8
theorem final12 : (dats m 0 c).arrAt 12 cfg0.N
    = fun i => ((Mix.dob Gb Bg Wb Wo Ct (Mix.tok 16 512 rfl (i 0) (i 1)) (i 2) : ℝ) : EReal) := by
  refine (dats m 0 c).arrAt_eq_of_covers 12 _ (by decide +kernel) fun t hf y => ?_
  blk_simp; rw [after0_12]
  obtain ⟨r, q, d, rfl⟩ : ∃ (r : Fin 16) (q : Fin 32) (d : Fin 256), y = ix3 r q d := ⟨y 0, y 1, y 2, eq_ix3 y⟩
  have ht : t.val < 16 := lt_of_lt_of_eq t.isLt N_0
  have hp : q.val * 16 + r.val < 512 := by omega
  have out : (outsAt0 m c t.val t.isLt).2.2.2.1 (ix3 r q d) = ((Mix.dob Gb Bg Wb Wo Ct (row t ⟨q.val * 16 + r.val, hp⟩) d : ℝ) : EReal) := by
    exact (out12 m c t (ix3 r q d) ⟨q.val * 16 + r.val, hp⟩ d rfl rfl).trans
      (pay_dob m c h3 h4 h6 h7 h8 t ⟨q.val * 16 + r.val, hp⟩ d)
  refine out.trans ?_
  have e : (win0_12.blk t).view.emb (ix3 r q d) = ix3 r ⟨t.val * 32 + q.val, by omega⟩ d := by blk_ext [idx t]
  rw [e]
  refine congrArg (fun s => ((Mix.dob Gb Bg Wb Wo Ct s d : ℝ) : EReal)) (Fin.ext ?_)
  show t.val * 512 + (q.val * 16 + r.val) = (t.val * 32 + q.val) * 16 + r.val
  omega
end

section
include h1 h3 h4 h6 h7 h8
theorem final13 : (dats m 0 c).arrAt 13 cfg0.N
    = fun i => ((Mix.dd Ob Gb Bg Wb Wo Ct (Mix.tok 1 8192 rfl (i 0) (i 1)) (i 2) : ℝ) : EReal) := by
  refine (dats m 0 c).arrAt_eq_of_covers 13 _ (by decide +kernel) fun t hf y => ?_
  blk_simp; rw [after0_13]
  obtain ⟨r, q, d, rfl⟩ : ∃ (r : Fin 1) (q : Fin 512) (d : Fin 256), y = ix3 r q d := ⟨y 0, y 1, y 2, eq_ix3 y⟩
  have ht : t.val < 16 := lt_of_lt_of_eq t.isLt N_0
  have hp : q.val * 1 + r.val < 512 := by omega
  have out : (outsAt0 m c t.val t.isLt).2.2.2.2.1 (ix3 r q d) = ((Mix.dd Ob Gb Bg Wb Wo Ct (row t ⟨q.val * 1 + r.val, hp⟩) d : ℝ) : EReal) := by
    have eq : q = ⟨q.val * 1 + r.val, hp⟩ := Fin.ext (show q.val = q.val * 1 + r.val by omega)
    rw [← eq]
    have n := pay_dd m c h1 h3 h4 h6 h7 h8 t q d
    unfold ddB prodB dybB lanes at n
    rcases Decidable.em (t.val % 16 = 0) with h | h <;> [rw [outsAt0_A m c t h]; rw [outsAt0_B m c t h]] <;> frame_out <;>
      exact (pay24_at _ _ _ _ _ r q d).trans n
  refine out.trans ?_
  have e : (win0_13.blk t).view.emb (ix3 r q d) = ix3 r ⟨t.val * 512 + q.val, by omega⟩ d := by blk_ext [idx t]
  rw [e]
  refine congrArg (fun s => ((Mix.dd Ob Gb Bg Wb Wo Ct s d : ℝ) : EReal)) (Fin.ext ?_)
  show t.val * 512 + (q.val * 1 + r.val) = (t.val * 512 + q.val) * 1 + r.val
  omega
end

section
include h1 h3 h4 h6 h7 h8
theorem final14 : (dats m 0 c).arrAt 14 cfg0.N
    = fun i => ((Mix.dd Ob Gb Bg Wb Wo Ct (Mix.tok 4 2048 rfl (i 0) (i 1)) (i 2) : ℝ) : EReal) := by
  refine (dats m 0 c).arrAt_eq_of_covers 14 _ (by decide +kernel) fun t hf y => ?_
  blk_simp; rw [after0_14]
  obtain ⟨r, q, d, rfl⟩ : ∃ (r : Fin 4) (q : Fin 128) (d : Fin 256), y = ix3 r q d := ⟨y 0, y 1, y 2, eq_ix3 y⟩
  have ht : t.val < 16 := lt_of_lt_of_eq t.isLt N_0
  have hp : q.val * 4 + r.val < 512 := by omega
  have out : (outsAt0 m c t.val t.isLt).2.2.2.2.2.1 (ix3 r q d) = ((Mix.dd Ob Gb Bg Wb Wo Ct (row t ⟨q.val * 4 + r.val, hp⟩) d : ℝ) : EReal) := by
    exact (out14 m c t (ix3 r q d) ⟨q.val * 4 + r.val, hp⟩ d rfl rfl).trans
      (pay_dd m c h1 h3 h4 h6 h7 h8 t ⟨q.val * 4 + r.val, hp⟩ d)
  refine out.trans ?_
  have e : (win0_14.blk t).view.emb (ix3 r q d) = ix3 r ⟨t.val * 128 + q.val, by omega⟩ d := by blk_ext [idx t]
  rw [e]
  refine congrArg (fun s => ((Mix.dd Ob Gb Bg Wb Wo Ct s d : ℝ) : EReal)) (Fin.ext ?_)
  show t.val * 512 + (q.val * 4 + r.val) = (t.val * 128 + q.val) * 4 + r.val
  omega
end

section
include h1 h3 h4 h6 h7 h8
theorem final15 : (dats m 0 c).arrAt 15 cfg0.N
    = fun i => ((Mix.dd Ob Gb Bg Wb Wo Ct (Mix.tok 16 512 rfl (i 0) (i 1)) (i 2) : ℝ) : EReal) := by
  refine (dats m 0 c).arrAt_eq_of_covers 15 _ (by decide +kernel) fun t hf y => ?_
  blk_simp; rw [after0_15]
  obtain ⟨r, q, d, rfl⟩ : ∃ (r : Fin 16) (q : Fin 32) (d : Fin 256), y = ix3 r q d := ⟨y 0, y 1, y 2, eq_ix3 y⟩
  have ht : t.val < 16 := lt_of_lt_of_eq t.isLt N_0
  have hp : q.val * 16 + r.val < 512 := by omega
  have out : (outsAt0 m c t.val t.isLt).2.2.2.2.2.2.1 (ix3 r q d) = ((Mix.dd Ob Gb Bg Wb Wo Ct (row t ⟨q.val * 16 + r.val, hp⟩) d : ℝ) : EReal) := by
    exact (out15 m c t (ix3 r q d) ⟨q.val * 16 + r.val, hp⟩ d rfl rfl).trans
      (pay_dd m c h1 h3 h4 h6 h7 h8 t ⟨q.val * 16 + r.val, hp⟩ d)
  refine out.trans ?_
  have e : (win0_15.blk t).view.emb (ix3 r q d) = ix3 r ⟨t.val * 32 + q.val, by omega⟩ d := by blk_ext [idx t]
  rw [e]
  refine congrArg (fun s => ((Mix.dd Ob Gb Bg Wb Wo Ct s d : ℝ) : EReal)) (Fin.ext ?_)
  show t.val * 512 + (q.val * 16 + r.val) = (t.val * 32 + q.val) * 16 + r.val
  omega
end

section
include h0 h2 h4 h5 h7 h8
theorem final16 : (dats m 0 c).arrAt 16 cfg0.N = fun i => ((Mix.dga Oa Ga Bg Wa Wo Ct (i 0) (i 1) : ℝ) : EReal) := by
  refine (dats m 0 c).arrAt_eq_of_covers 16 _ (by decide +kernel) fun t hf y => ?_
  blk_simp; rw [after0_16]
  obtain ⟨p, d, rfl⟩ : ∃ (p : Fin 512) (d : Fin 1024), y = ix2 p d := ⟨y 0, y 1, eq_ix2 y⟩
  have out : (outsAt0 m c t.val t.isLt).2.2.2.2.2.2.2.1 (ix2 p d) = ((Mix.dga Oa Ga Bg Wa Wo Ct (row t p) d : ℝ) : EReal) := by
    rcases Decidable.em (t.val % 16 = 0) with h | h <;> [rw [outsAt0_A m c t h]; rw [outsAt0_B m c t h]] <;> frame_out <;>
      (pointwise [k0_pay11]; exact pay_dga m c h0 h2 h4 h5 h7 h8 t p d)
  refine out.trans ?_
  have hr : ((row t p) : ℕ) = t.val * 512 + p.val := rfl
  have e : (win0_16.blk t).view.emb (ix2 p d) = ix2 (row t p) d := by blk_ext [idx t]
  rw [e]
  rfl
end

section
include h1 h3 h4 h6 h7 h8
theorem final17 : (dats m 0 c).arrAt 17 cfg0.N = fun i => ((Mix.dgb Ob Gb Bg Wb Wo Ct (i 0) (i 1) : ℝ) : EReal) := by
  refine (dats m 0 c).arrAt_eq_of_covers 17 _ (by decide +kernel) fun t hf y => ?_
  blk_simp; rw [after0_17]
  obtain ⟨p, d, rfl⟩ : ∃ (p : Fin 512) (d : Fin 1024), y = ix2 p d := ⟨y 0, y 1, eq_ix2 y⟩
  have out : (outsAt0 m c t.val t.isLt).2.2.2.2.2.2.2.2.1 (ix2 p d) = ((Mix.dgb Ob Gb Bg Wb Wo Ct (row t p) d : ℝ) : EReal) := by
    rcases Decidable.em (t.val % 16 = 0) with h | h <;> [rw [outsAt0_A m c t h]; rw [outsAt0_B m c t h]] <;> frame_out <;>
      (pointwise [k0_pay12]; exact pay_dgb m c h1 h3 h4 h6 h7 h8 t p d)
  refine out.trans ?_
  have hr : ((row t p) : ℕ) = t.val * 512 + p.val := rfl
  have e : (win0_17.blk t).view.emb (ix2 p d) = ix2 (row t p) d := by blk_ext [idx t]
  rw [e]
  rfl
end

section
include h2 h4 h7 h8
theorem final18 : (dats m 0 c).arrAt 18 cfg0.N = fun i => ((Mix.dya Ga Bg Wo Ct (i 0) (i 1) : ℝ) : EReal) := by
  refine (dats m 0 c).arrAt_eq_of_covers 18 _ (by decide +kernel) fun t hf y => ?_
  blk_simp; rw [after0_18]
  obtain ⟨p, d, rfl⟩ : ∃ (p : Fin 512) (d : Fin 1024), y = ix2 p d := ⟨y 0, y 1, eq_ix2 y⟩
  have out : (outsAt0 m c t.val t.isLt).2.2.2.2.2.2.2.2.2.1 (ix2 p d) = ((Mix.dya Ga Bg Wo Ct (row t p) d : ℝ) : EReal) := by
    rcases Decidable.em (t.val % 16 = 0) with h | h <;> [rw [outsAt0_A m c t h]; rw [outsAt0_B m c t h]] <;> frame_out <;>
      exact pay_dya m c h2 h4 h7 h8 t p d
  refine out.trans ?_
  have hr : ((row t p) : ℕ) = t.val * 512 + p.val := rfl
  have e : (win0_18.blk t).view.emb (ix2 p d) = ix2 (row t p) d := by blk_ext [idx t]
  rw [e]
  rfl
end

section
include h3 h4 h7 h8
theorem final19 : (dats m 0 c).arrAt 19 cfg0.N = fun i => ((Mix.dyb Gb Bg Wo Ct (i 0) (i 1) : ℝ) : EReal) := by
  refine (dats m 0 c).arrAt_eq_of_covers 19 _ (by decide +kernel) fun t hf y => ?_
  blk_simp; rw [after0_19]
  obtain ⟨p, d, rfl⟩ : ∃ (p : Fin 512) (d : Fin 1024), y = ix2 p d := ⟨y 0, y 1, eq_ix2 y⟩
  have out : (outsAt0 m c t.val t.isLt).2.2.2.2.2.2.2.2.2.2.1 (ix2 p d) = ((Mix.dyb Gb Bg Wo Ct (row t p) d : ℝ) : EReal) := by
    rcases Decidable.em (t.val % 16 = 0) with h | h <;> [rw [outsAt0_A m c t h]; rw [outsAt0_B m c t h]] <;> frame_out <;>
      exact pay_dyb m c h3 h4 h7 h8 t p d
  refine out.trans ?_
  have hr : ((row t p) : ℕ) = t.val * 512 + p.val := rfl
  have e : (win0_19.blk t).view.emb (ix2 p d) = ix2 (row t p) d := by blk_ext [idx t]
  rw [e]
  rfl
end

section
include h0 h1 h2 h3 h4 h5 h6 h7 h8
theorem final20 : (dats m 0 c).arrAt 20 cfg0.N = fun i => ((Mix.dbg Oa Ob Ga Gb Bg Wa Wb Wo Ct (i 1) : ℝ) : EReal) := by
  refine (dats m 0 c).arrAt_eq_of_after_last 20 t0_15 (by decide +kernel) _ fun j => ?_
  blk_simp; rw [after0_20]
  obtain ⟨z, e, rfl⟩ : ∃ (z : Fin 1) (e : Fin 2048), j = ix2 z e := ⟨j 0, j 1, eq_ix2 j⟩
  obtain rfl : z = 0 := Subsingleton.elim _ _
  show _ = ((Mix.dbg Oa Ob Ga Gb Bg Wa Wb Wo Ct e : ℝ) : EReal)
  refine (Pipeline.eq_sum_fin_of_reset_step_apply_last
    (fun n h (e : Fin 2048) => (outsAt0 m c n h).2.2.2.2.2.2.2.2.2.2.2 (ix2 0 e)) 16 (fun _ => 0)
    (fun t e => ∑ p : Fin 512, dbgB m c t e p)
    (fun t h e => out20A m c t h e) (fun t h e => out20B m c t h e) (le_of_eq N_0) t0_15 rfl e).trans ?_
  simp only [dbgB_real m c h0 h1 h2 h3 h4 h5 h6 h7 h8]
  rw [zero_add]
  simp only [coe_sum]
  refine congrArg Real.toEReal ?_
  rw [Mix.dbg]
  split <;> exact Fin.sum_mul_add_congr (fun s k _ => rfl)
end
end
end Cert.Kernel4Ideal.Value

end
-- ==== Proof.Mix.lean ====
/-
  The claim of the gates: the twelve results of their backward kernel are the derivatives of the forward lines.
-/
module

public import proofs.«01_k».proof.Defs
public import proofs.«01_k».proof.Proof.Finite
public import proofs.«01_k».proof.Proof.MixRef
public import proofs.«01_k».proof.Proof.MixFinal
public import proofs.«01_k».proof.Proof.Gen.Reference4Ideal.Run
public import proofs.«01_k».proof.Proof.Gen.Pre_finite_mix

@[expose] public section

set_option maxRecDepth 16384

noncomputable section

namespace Cert.Mix

open Idealize.ShloMosaic Idealize.ShloMosaic.TcCoe Idealize.SL.Sem Cert.Reals

open Cert.Kernel4Ideal in
/-- Where the precondition holds, every argument is the coercion of a real array. -/
theorem reals_of_pre (m : (ℓ : Loc nD τ sig) → Buf (Elt Ideal) ℓ)
    (h : Cert.Pre_Kernel4Ideal_finite_mix (hPre_finite_mix := Cert.Pre_finite_mix.Gen.facts) m) (c : Dev nD) :
    ∃ (Oa : Fin 8192 → Fin 1024 → ℝ) (Ob : Fin 8192 → Fin 256 → ℝ) (Ga : Fin 8192 → Fin 1024 → ℝ) (Gb : Fin 8192 → Fin 1024 → ℝ) (Bg : Fin 2048 → ℝ) (Wa : Fin 1024 → Fin 1024 → ℝ) (Wb : Fin 256 → Fin 1024 → ℝ) (Wo : Fin 1024 → Fin 1024 → ℝ) (Ct : Fin 8192 → Fin 1024 → ℝ),
      (∀ t d, m ((c : Thread nD τ).loc main_arg0) (ix2 t d) = ((Oa t d : ℝ) : EReal))
      ∧ (∀ t d, m ((c : Thread nD τ).loc main_arg1) (ix2 t d) = ((Ob t d : ℝ) : EReal))
      ∧ (∀ t d, m ((c : Thread nD τ).loc main_arg2) (ix2 t d) = ((Ga t d : ℝ) : EReal))
      ∧ (∀ t d, m ((c : Thread nD τ).loc main_arg3) (ix2 t d) = ((Gb t d : ℝ) : EReal))
      ∧ (∀ d, m ((c : Thread nD τ).loc main_arg4) (ix2 0 d) = ((Bg d : ℝ) : EReal))
      ∧ (∀ d e, m ((c : Thread nD τ).loc main_arg5) (ix3 0 d e) = ((Wa d e : ℝ) : EReal))
      ∧ (∀ k e, m ((c : Thread nD τ).loc main_arg6) (ix3 0 k e) = ((Wb k e : ℝ) : EReal))
      ∧ (∀ d e, m ((c : Thread nD τ).loc main_arg7) (ix3 0 d e) = ((Wo d e : ℝ) : EReal))
      ∧ (∀ t d, m ((c : Thread nD τ).loc main_arg8) (ix2 t d) = ((Ct t d : ℝ) : EReal)) := by
  obtain ⟨p0, p1, p2, p3, p4, p5, p6, p7, p8⟩ := h c
  have hz : ∀ (S : Shape) (hb : (⟨0, ![]⟩ : Shape).BroadcastsInDim S (![] : Fin 0 → Fin S.rank)) (i : S.Idx),
      broadcastInDim S ![] hb (constant (F := Ideal) ⟨0, ![]⟩ .f32 0#32) i = (0 : EReal) := fun S hb i => by
    exact Ideal.ofBits_zero_f32
  obtain ⟨Oa, hOa⟩ := reals_of_finite p0 (hz _ _)
  obtain ⟨Ob, hOb⟩ := reals_of_finite p1 (hz _ _)
  obtain ⟨Ga, hGa⟩ := reals_of_finite p2 (hz _ _)
  obtain ⟨Gb, hGb⟩ := reals_of_finite p3 (hz _ _)
  obtain ⟨Bg, hBg⟩ := reals_of_finite p4 (hz _ _)
  obtain ⟨Wa, hWa⟩ := reals_of_finite p5 (hz _ _)
  obtain ⟨Wb, hWb⟩ := reals_of_finite p6 (hz _ _)
  obtain ⟨Wo, hWo⟩ := reals_of_finite p7 (hz _ _)
  obtain ⟨Ct, hCt⟩ := reals_of_finite p8 (hz _ _)
  exact ⟨fun t d => Oa (ix2 t d), fun t d => Ob (ix2 t d), fun t d => Ga (ix2 t d), fun t d => Gb (ix2 t d), fun d => Bg (ix2 0 d), fun d e => Wa (ix3 0 d e), fun k e => Wb (ix3 0 k e), fun d e => Wo (ix3 0 d e), fun t d => Ct (ix2 t d),
    fun _ _ => hOa _, fun _ _ => hOb _, fun _ _ => hGa _, fun _ _ => hGb _, fun _ => hBg _, fun _ _ => hWa _, fun _ _ => hWb _, fun _ _ => hWo _, fun _ _ => hCt _⟩

theorem same_res_doa (m : (ℓ : Loc Cert.Kernel4Ideal.nD Cert.Kernel4Ideal.τ Cert.Kernel4Ideal.sig) → Buf (Elt Ideal) ℓ) (c : Dev Cert.Kernel4Ideal.nD)
    {x2 : (⟨Cert.Reference4Ideal.S8192x1024, .f32⟩ : BufTy).Contents (Elt Ideal)} {x4 : (⟨Cert.Reference4Ideal.S1x2048, .f32⟩ : BufTy).Contents (Elt Ideal)} {x5 : (⟨Cert.Reference4Ideal.S1x1024x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Ga : Fin 8192 → Fin 1024 → ℝ} {Bg : Fin 2048 → ℝ} {Wa : Fin 1024 → Fin 1024 → ℝ} {Wo : Fin 1024 → Fin 1024 → ℝ} {Ct : Fin 8192 → Fin 1024 → ℝ}
    (h2 : ∀ t d, m ((c : Thread Cert.Kernel4Ideal.nD Cert.Kernel4Ideal.τ).loc Cert.Kernel4Ideal.main_arg2) (ix2 t d) = ((Ga t d : ℝ) : EReal))
    (h4 : ∀ d, m ((c : Thread Cert.Kernel4Ideal.nD Cert.Kernel4Ideal.τ).loc Cert.Kernel4Ideal.main_arg4) (ix2 0 d) = ((Bg d : ℝ) : EReal))
    (h5 : ∀ d e, m ((c : Thread Cert.Kernel4Ideal.nD Cert.Kernel4Ideal.τ).loc Cert.Kernel4Ideal.main_arg5) (ix3 0 d e) = ((Wa d e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k2 : ∀ t d, x2 (ix2 t d) = ((Ga t d : ℝ) : EReal))
    (k4 : ∀ d, x4 (ix2 0 d) = ((Bg d : ℝ) : EReal))
    (k5 : ∀ d e, x5 (ix3 0 d e) = ((Wa d e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v97 (F := Ideal) x2 x4 x5 x7 x8 = (Cert.Kernel4Ideal.Gen.dats m 0 c).arrAt 9 Cert.Kernel4Ideal.cfg0.N := by
  rw [Cert.Kernel4Ideal.Value.final9 m c  h2 h4 h5 h7 h8]
  funext i
  obtain ⟨t, d, rfl⟩ : ∃ (t : Fin 8192) (d : Fin 1024), i = ix2 t d := ⟨i 0, i 1, eq_ix2 i⟩
  exact Cert.Reference4Ideal.Value.res_doa k2 k4 k5 k7 k8 t d

theorem same_res_dob1 (m : (ℓ : Loc Cert.Kernel4Ideal.nD Cert.Kernel4Ideal.τ Cert.Kernel4Ideal.sig) → Buf (Elt Ideal) ℓ) (c : Dev Cert.Kernel4Ideal.nD)
    {x3 : (⟨Cert.Reference4Ideal.S8192x1024, .f32⟩ : BufTy).Contents (Elt Ideal)} {x4 : (⟨Cert.Reference4Ideal.S1x2048, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Gb : Fin 8192 → Fin 1024 → ℝ} {Bg : Fin 2048 → ℝ} {Wb : Fin 256 → Fin 1024 → ℝ} {Wo : Fin 1024 → Fin 1024 → ℝ} {Ct : Fin 8192 → Fin 1024 → ℝ}
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k3 : ∀ t d, x3 (ix2 t d) = ((Gb t d : ℝ) : EReal))
    (k4 : ∀ d, x4 (ix2 0 d) = ((Bg d : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v100 (F := Ideal) x3 x4 x6 x7 x8 = (Cert.Kernel4Ideal.Gen.dats m 0 c).arrAt 10 Cert.Kernel4Ideal.cfg0.N := by
  rw [Cert.Kernel4Ideal.Value.final10 m c  h3 h4 h6 h7 h8]
  funext i
  obtain ⟨t, d, e, rfl⟩ : ∃ (t : Fin 1) (d : Fin 8192) (e : Fin 256), i = ix3 t d e := ⟨i 0, i 1, i 2, eq_ix3 i⟩
  exact Cert.Reference4Ideal.Value.res_dob1 k3 k4 k6 k7 k8 t d e

theorem same_res_dob4 (m : (ℓ : Loc Cert.Kernel4Ideal.nD Cert.Kernel4Ideal.τ Cert.Kernel4Ideal.sig) → Buf (Elt Ideal) ℓ) (c : Dev Cert.Kernel4Ideal.nD)
    {x3 : (⟨Cert.Reference4Ideal.S8192x1024, .f32⟩ : BufTy).Contents (Elt Ideal)} {x4 : (⟨Cert.Reference4Ideal.S1x2048, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Gb : Fin 8192 → Fin 1024 → ℝ} {Bg : Fin 2048 → ℝ} {Wb : Fin 256 → Fin 1024 → ℝ} {Wo : Fin 1024 → Fin 1024 → ℝ} {Ct : Fin 8192 → Fin 1024 → ℝ}
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k3 : ∀ t d, x3 (ix2 t d) = ((Gb t d : ℝ) : EReal))
    (k4 : ∀ d, x4 (ix2 0 d) = ((Bg d : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v103 (F := Ideal) x3 x4 x6 x7 x8 = (Cert.Kernel4Ideal.Gen.dats m 0 c).arrAt 11 Cert.Kernel4Ideal.cfg0.N := by
  rw [Cert.Kernel4Ideal.Value.final11 m c  h3 h4 h6 h7 h8]
  funext i
  obtain ⟨t, d, e, rfl⟩ : ∃ (t : Fin 4) (d : Fin 2048) (e : Fin 256), i = ix3 t d e := ⟨i 0, i 1, i 2, eq_ix3 i⟩
  exact Cert.Reference4Ideal.Value.res_dob4 k3 k4 k6 k7 k8 t d e

theorem same_res_dob16 (m : (ℓ : Loc Cert.Kernel4Ideal.nD Cert.Kernel4Ideal.τ Cert.Kernel4Ideal.sig) → Buf (Elt Ideal) ℓ) (c : Dev Cert.Kernel4Ideal.nD)
    {x3 : (⟨Cert.Reference4Ideal.S8192x1024, .f32⟩ : BufTy).Contents (Elt Ideal)} {x4 : (⟨Cert.Reference4Ideal.S1x2048, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Gb : Fin 8192 → Fin 1024 → ℝ} {Bg : Fin 2048 → ℝ} {Wb : Fin 256 → Fin 1024 → ℝ} {Wo : Fin 1024 → Fin 1024 → ℝ} {Ct : Fin 8192 → Fin 1024 → ℝ}
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k3 : ∀ t d, x3 (ix2 t d) = ((Gb t d : ℝ) : EReal))
    (k4 : ∀ d, x4 (ix2 0 d) = ((Bg d : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v106 (F := Ideal) x3 x4 x6 x7 x8 = (Cert.Kernel4Ideal.Gen.dats m 0 c).arrAt 12 Cert.Kernel4Ideal.cfg0.N := by
  rw [Cert.Kernel4Ideal.Value.final12 m c  h3 h4 h6 h7 h8]
  funext i
  obtain ⟨t, d, e, rfl⟩ : ∃ (t : Fin 16) (d : Fin 512) (e : Fin 256), i = ix3 t d e := ⟨i 0, i 1, i 2, eq_ix3 i⟩
  exact Cert.Reference4Ideal.Value.res_dob16 k3 k4 k6 k7 k8 t d e

theorem same_res_dd1 (m : (ℓ : Loc Cert.Kernel4Ideal.nD Cert.Kernel4Ideal.τ Cert.Kernel4Ideal.sig) → Buf (Elt Ideal) ℓ) (c : Dev Cert.Kernel4Ideal.nD)
    {x1 : (⟨Cert.Reference4Ideal.S8192x256, .f32⟩ : BufTy).Contents (Elt Ideal)} {x3 : (⟨Cert.Reference4Ideal.S8192x1024, .f32⟩ : BufTy).Contents (Elt Ideal)} {x4 : (⟨Cert.Reference4Ideal.S1x2048, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Ob : Fin 8192 → Fin 256 → ℝ} {Gb : Fin 8192 → Fin 1024 → ℝ} {Bg : Fin 2048 → ℝ} {Wb : Fin 256 → Fin 1024 → ℝ} {Wo : Fin 1024 → Fin 1024 → ℝ} {Ct : Fin 8192 → Fin 1024 → ℝ}
    (h1 : ∀ t d, m ((c : Thread Cert.Kernel4Ideal.nD Cert.Kernel4Ideal.τ).loc Cert.Kernel4Ideal.main_arg1) (ix2 t d) = ((Ob t d : ℝ) : EReal))
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k1 : ∀ t d, x1 (ix2 t d) = ((Ob t d : ℝ) : EReal))
    (k3 : ∀ t d, x3 (ix2 t d) = ((Gb t d : ℝ) : EReal))
    (k4 : ∀ d, x4 (ix2 0 d) = ((Bg d : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v108 (F := Ideal) x1 x3 x4 x6 x7 x8 = (Cert.Kernel4Ideal.Gen.dats m 0 c).arrAt 13 Cert.Kernel4Ideal.cfg0.N := by
  rw [Cert.Kernel4Ideal.Value.final13 m c  h1 h3 h4 h6 h7 h8]
  funext i
  obtain ⟨t, d, e, rfl⟩ : ∃ (t : Fin 1) (d : Fin 8192) (e : Fin 256), i = ix3 t d e := ⟨i 0, i 1, i 2, eq_ix3 i⟩
  exact Cert.Reference4Ideal.Value.res_dd1 k1 k3 k4 k6 k7 k8 t d e

theorem same_res_dd4 (m : (ℓ : Loc Cert.Kernel4Ideal.nD Cert.Kernel4Ideal.τ Cert.Kernel4Ideal.sig) → Buf (Elt Ideal) ℓ) (c : Dev Cert.Kernel4Ideal.nD)
    {x1 : (⟨Cert.Reference4Ideal.S8192x256, .f32⟩ : BufTy).Contents (Elt Ideal)} {x3 : (⟨Cert.Reference4Ideal.S8192x1024, .f32⟩ : BufTy).Contents (Elt Ideal)} {x4 : (⟨Cert.Reference4Ideal.S1x2048, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Ob : Fin 8192 → Fin 256 → ℝ} {Gb : Fin 8192 → Fin 1024 → ℝ} {Bg : Fin 2048 → ℝ} {Wb : Fin 256 → Fin 1024 → ℝ} {Wo : Fin 1024 → Fin 1024 → ℝ} {Ct : Fin 8192 → Fin 1024 → ℝ}
    (h1 : ∀ t d, m ((c : Thread Cert.Kernel4Ideal.nD Cert.Kernel4Ideal.τ).loc Cert.Kernel4Ideal.main_arg1) (ix2 t d) = ((Ob t d : ℝ) : EReal))
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k1 : ∀ t d, x1 (ix2 t d) = ((Ob t d : ℝ) : EReal))
    (k3 : ∀ t d, x3 (ix2 t d) = ((Gb t d : ℝ) : EReal))
    (k4 : ∀ d, x4 (ix2 0 d) = ((Bg d : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v110 (F := Ideal) x1 x3 x4 x6 x7 x8 = (Cert.Kernel4Ideal.Gen.dats m 0 c).arrAt 14 Cert.Kernel4Ideal.cfg0.N := by
  rw [Cert.Kernel4Ideal.Value.final14 m c  h1 h3 h4 h6 h7 h8]
  funext i
  obtain ⟨t, d, e, rfl⟩ : ∃ (t : Fin 4) (d : Fin 2048) (e : Fin 256), i = ix3 t d e := ⟨i 0, i 1, i 2, eq_ix3 i⟩
  exact Cert.Reference4Ideal.Value.res_dd4 k1 k3 k4 k6 k7 k8 t d e

theorem same_res_dd16 (m : (ℓ : Loc Cert.Kernel4Ideal.nD Cert.Kernel4Ideal.τ Cert.Kernel4Ideal.sig) → Buf (Elt Ideal) ℓ) (c : Dev Cert.Kernel4Ideal.nD)
    {x1 : (⟨Cert.Reference4Ideal.S8192x256, .f32⟩ : BufTy).Contents (Elt Ideal)} {x3 : (⟨Cert.Reference4Ideal.S8192x1024, .f32⟩ : BufTy).Contents (Elt Ideal)} {x4 : (⟨Cert.Reference4Ideal.S1x2048, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Ob : Fin 8192 → Fin 256 → ℝ} {Gb : Fin 8192 → Fin 1024 → ℝ} {Bg : Fin 2048 → ℝ} {Wb : Fin 256 → Fin 1024 → ℝ} {Wo : Fin 1024 → Fin 1024 → ℝ} {Ct : Fin 8192 → Fin 1024 → ℝ}
    (h1 : ∀ t d, m ((c : Thread Cert.Kernel4Ideal.nD Cert.Kernel4Ideal.τ).loc Cert.Kernel4Ideal.main_arg1) (ix2 t d) = ((Ob t d : ℝ) : EReal))
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k1 : ∀ t d, x1 (ix2 t d) = ((Ob t d : ℝ) : EReal))
    (k3 : ∀ t d, x3 (ix2 t d) = ((Gb t d : ℝ) : EReal))
    (k4 : ∀ d, x4 (ix2 0 d) = ((Bg d : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v112 (F := Ideal) x1 x3 x4 x6 x7 x8 = (Cert.Kernel4Ideal.Gen.dats m 0 c).arrAt 15 Cert.Kernel4Ideal.cfg0.N := by
  rw [Cert.Kernel4Ideal.Value.final15 m c  h1 h3 h4 h6 h7 h8]
  funext i
  obtain ⟨t, d, e, rfl⟩ : ∃ (t : Fin 16) (d : Fin 512) (e : Fin 256), i = ix3 t d e := ⟨i 0, i 1, i 2, eq_ix3 i⟩
  exact Cert.Reference4Ideal.Value.res_dd16 k1 k3 k4 k6 k7 k8 t d e

theorem same_res_dga (m : (ℓ : Loc Cert.Kernel4Ideal.nD Cert.Kernel4Ideal.τ Cert.Kernel4Ideal.sig) → Buf (Elt Ideal) ℓ) (c : Dev Cert.Kernel4Ideal.nD)
    {x0 : (⟨Cert.Reference4Ideal.S8192x1024, .f32⟩ : BufTy).Contents (Elt Ideal)} {x2 : (⟨Cert.Reference4Ideal.S8192x1024, .f32⟩ : BufTy).Contents (Elt Ideal)} {x4 : (⟨Cert.Reference4Ideal.S1x2048, .f32⟩ : BufTy).Contents (Elt Ideal)} {x5 : (⟨Cert.Reference4Ideal.S1x1024x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Oa : Fin 8192 → Fin 1024 → ℝ} {Ga : Fin 8192 → Fin 1024 → ℝ} {Bg : Fin 2048 → ℝ} {Wa : Fin 1024 → Fin 1024 → ℝ} {Wo : Fin 1024 → Fin 1024 → ℝ} {Ct : Fin 8192 → Fin 1024 → ℝ}
    (h0 : ∀ t d, m ((c : Thread Cert.Kernel4Ideal.nD Cert.Kernel4Ideal.τ).loc Cert.Kernel4Ideal.main_arg0) (ix2 t d) = ((Oa t d : ℝ) : EReal))
    (h2 : ∀ t d, m ((c : Thread Cert.Kernel4Ideal.nD Cert.Kernel4Ideal.τ).loc Cert.Kernel4Ideal.main_arg2) (ix2 t d) = ((Ga t d : ℝ) : EReal))
    (h4 : ∀ d, m ((c : Thread Cert.Kernel4Ideal.nD Cert.Kernel4Ideal.τ).loc Cert.Kernel4Ideal.main_arg4) (ix2 0 d) = ((Bg d : ℝ) : EReal))
    (h5 : ∀ d e, m ((c : Thread Cert.Kernel4Ideal.nD Cert.Kernel4Ideal.τ).loc Cert.Kernel4Ideal.main_arg5) (ix3 0 d e) = ((Wa d e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k0 : ∀ t d, x0 (ix2 t d) = ((Oa t d : ℝ) : EReal))
    (k2 : ∀ t d, x2 (ix2 t d) = ((Ga t d : ℝ) : EReal))
    (k4 : ∀ d, x4 (ix2 0 d) = ((Bg d : ℝ) : EReal))
    (k5 : ∀ d e, x5 (ix3 0 d e) = ((Wa d e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v113 (F := Ideal) x0 x2 x4 x5 x7 x8 = (Cert.Kernel4Ideal.Gen.dats m 0 c).arrAt 16 Cert.Kernel4Ideal.cfg0.N := by
  rw [Cert.Kernel4Ideal.Value.final16 m c  h0 h2 h4 h5 h7 h8]
  funext i
  obtain ⟨t, d, rfl⟩ : ∃ (t : Fin 8192) (d : Fin 1024), i = ix2 t d := ⟨i 0, i 1, eq_ix2 i⟩
  exact Cert.Reference4Ideal.Value.res_dga k0 k2 k4 k5 k7 k8 t d

theorem same_res_dgb (m : (ℓ : Loc Cert.Kernel4Ideal.nD Cert.Kernel4Ideal.τ Cert.Kernel4Ideal.sig) → Buf (Elt Ideal) ℓ) (c : Dev Cert.Kernel4Ideal.nD)
    {x1 : (⟨Cert.Reference4Ideal.S8192x256, .f32⟩ : BufTy).Contents (Elt Ideal)} {x3 : (⟨Cert.Reference4Ideal.S8192x1024, .f32⟩ : BufTy).Contents (Elt Ideal)} {x4 : (⟨Cert.Reference4Ideal.S1x2048, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Ob : Fin 8192 → Fin 256 → ℝ} {Gb : Fin 8192 → Fin 1024 → ℝ} {Bg : Fin 2048 → ℝ} {Wb : Fin 256 → Fin 1024 → ℝ} {Wo : Fin 1024 → Fin 1024 → ℝ} {Ct : Fin 8192 → Fin 1024 → ℝ}
    (h1 : ∀ t d, m ((c : Thread Cert.Kernel4Ideal.nD Cert.Kernel4Ideal.τ).loc Cert.Kernel4Ideal.main_arg1) (ix2 t d) = ((Ob t d : ℝ) : EReal))
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k1 : ∀ t d, x1 (ix2 t d) = ((Ob t d : ℝ) : EReal))
    (k3 : ∀ t d, x3 (ix2 t d) = ((Gb t d : ℝ) : EReal))
    (k4 : ∀ d, x4 (ix2 0 d) = ((Bg d : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v114 (F := Ideal) x1 x3 x4 x6 x7 x8 = (Cert.Kernel4Ideal.Gen.dats m 0 c).arrAt 17 Cert.Kernel4Ideal.cfg0.N := by
  rw [Cert.Kernel4Ideal.Value.final17 m c  h1 h3 h4 h6 h7 h8]
  funext i
  obtain ⟨t, d, rfl⟩ : ∃ (t : Fin 8192) (d : Fin 1024), i = ix2 t d := ⟨i 0, i 1, eq_ix2 i⟩
  exact Cert.Reference4Ideal.Value.res_dgb k1 k3 k4 k6 k7 k8 t d

theorem same_res_dya (m : (ℓ : Loc Cert.Kernel4Ideal.nD Cert.Kernel4Ideal.τ Cert.Kernel4Ideal.sig) → Buf (Elt Ideal) ℓ) (c : Dev Cert.Kernel4Ideal.nD)
    {x2 : (⟨Cert.Reference4Ideal.S8192x1024, .f32⟩ : BufTy).Contents (Elt Ideal)} {x4 : (⟨Cert.Reference4Ideal.S1x2048, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Ga : Fin 8192 → Fin 1024 → ℝ} {Bg : Fin 2048 → ℝ} {Wo : Fin 1024 → Fin 1024 → ℝ} {Ct : Fin 8192 → Fin 1024 → ℝ}
    (h2 : ∀ t d, m ((c : Thread Cert.Kernel4Ideal.nD Cert.Kernel4Ideal.τ).loc Cert.Kernel4Ideal.main_arg2) (ix2 t d) = ((Ga t d : ℝ) : EReal))
    (h4 : ∀ d, m ((c : Thread Cert.Kernel4Ideal.nD Cert.Kernel4Ideal.τ).loc Cert.Kernel4Ideal.main_arg4) (ix2 0 d) = ((Bg d : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k2 : ∀ t d, x2 (ix2 t d) = ((Ga t d : ℝ) : EReal))
    (k4 : ∀ d, x4 (ix2 0 d) = ((Bg d : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v115 (F := Ideal) x2 x4 x7 x8 = (Cert.Kernel4Ideal.Gen.dats m 0 c).arrAt 18 Cert.Kernel4Ideal.cfg0.N := by
  rw [Cert.Kernel4Ideal.Value.final18 m c  h2 h4 h7 h8]
  funext i
  obtain ⟨t, d, rfl⟩ : ∃ (t : Fin 8192) (d : Fin 1024), i = ix2 t d := ⟨i 0, i 1, eq_ix2 i⟩
  exact Cert.Reference4Ideal.Value.res_dya k2 k4 k7 k8 t d

theorem same_res_dyb (m : (ℓ : Loc Cert.Kernel4Ideal.nD Cert.Kernel4Ideal.τ Cert.Kernel4Ideal.sig) → Buf (Elt Ideal) ℓ) (c : Dev Cert.Kernel4Ideal.nD)
    {x3 : (⟨Cert.Reference4Ideal.S8192x1024, .f32⟩ : BufTy).Contents (Elt Ideal)} {x4 : (⟨Cert.Reference4Ideal.S1x2048, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Gb : Fin 8192 → Fin 1024 → ℝ} {Bg : Fin 2048 → ℝ} {Wo : Fin 1024 → Fin 1024 → ℝ} {Ct : Fin 8192 → Fin 1024 → ℝ}
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k3 : ∀ t d, x3 (ix2 t d) = ((Gb t d : ℝ) : EReal))
    (k4 : ∀ d, x4 (ix2 0 d) = ((Bg d : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v116 (F := Ideal) x3 x4 x7 x8 = (Cert.Kernel4Ideal.Gen.dats m 0 c).arrAt 19 Cert.Kernel4Ideal.cfg0.N := by
  rw [Cert.Kernel4Ideal.Value.final19 m c  h3 h4 h7 h8]
  funext i
  obtain ⟨t, d, rfl⟩ : ∃ (t : Fin 8192) (d : Fin 1024), i = ix2 t d := ⟨i 0, i 1, eq_ix2 i⟩
  exact Cert.Reference4Ideal.Value.res_dyb k3 k4 k7 k8 t d

theorem same_res_dbg (m : (ℓ : Loc Cert.Kernel4Ideal.nD Cert.Kernel4Ideal.τ Cert.Kernel4Ideal.sig) → Buf (Elt Ideal) ℓ) (c : Dev Cert.Kernel4Ideal.nD)
    {x0 : (⟨Cert.Reference4Ideal.S8192x1024, .f32⟩ : BufTy).Contents (Elt Ideal)} {x1 : (⟨Cert.Reference4Ideal.S8192x256, .f32⟩ : BufTy).Contents (Elt Ideal)} {x2 : (⟨Cert.Reference4Ideal.S8192x1024, .f32⟩ : BufTy).Contents (Elt Ideal)} {x3 : (⟨Cert.Reference4Ideal.S8192x1024, .f32⟩ : BufTy).Contents (Elt Ideal)} {x4 : (⟨Cert.Reference4Ideal.S1x2048, .f32⟩ : BufTy).Contents (Elt Ideal)} {x5 : (⟨Cert.Reference4Ideal.S1x1024x1024, .f32⟩ : BufTy).Contents (Elt Ideal)} {x6 : (⟨Cert.Reference4Ideal.S1x256x1024, .f32⟩ : BufTy).Contents (Elt Ideal)} {x7 : (⟨Cert.Reference4Ideal.S1x1024x1024, .f32⟩ : BufTy).Contents (Elt Ideal)} {x8 : (⟨Cert.Reference4Ideal.S8192x1024, .f32⟩ : BufTy).Contents (Elt Ideal)}
    {Oa : Fin 8192 → Fin 1024 → ℝ} {Ob : Fin 8192 → Fin 256 → ℝ} {Ga : Fin 8192 → Fin 1024 → ℝ} {Gb : Fin 8192 → Fin 1024 → ℝ} {Bg : Fin 2048 → ℝ} {Wa : Fin 1024 → Fin 1024 → ℝ} {Wb : Fin 256 → Fin 1024 → ℝ} {Wo : Fin 1024 → Fin 1024 → ℝ} {Ct : Fin 8192 → Fin 1024 → ℝ}
    (h0 : ∀ t d, m ((c : Thread Cert.Kernel4Ideal.nD Cert.Kernel4Ideal.τ).loc Cert.Kernel4Ideal.main_arg0) (ix2 t d) = ((Oa t d : ℝ) : EReal))
    (h1 : ∀ t d, m ((c : Thread Cert.Kernel4Ideal.nD Cert.Kernel4Ideal.τ).loc Cert.Kernel4Ideal.main_arg1) (ix2 t d) = ((Ob t d : ℝ) : EReal))
    (h2 : ∀ t d, m ((c : Thread Cert.Kernel4Ideal.nD Cert.Kernel4Ideal.τ).loc Cert.Kernel4Ideal.main_arg2) (ix2 t d) = ((Ga t d : ℝ) : EReal))
    (h3 : ∀ t d, m ((c : Thread Cert.Kernel4Ideal.nD Cert.Kernel4Ideal.τ).loc Cert.Kernel4Ideal.main_arg3) (ix2 t d) = ((Gb t d : ℝ) : EReal))
    (h4 : ∀ d, m ((c : Thread Cert.Kernel4Ideal.nD Cert.Kernel4Ideal.τ).loc Cert.Kernel4Ideal.main_arg4) (ix2 0 d) = ((Bg d : ℝ) : EReal))
    (h5 : ∀ d e, m ((c : Thread Cert.Kernel4Ideal.nD Cert.Kernel4Ideal.τ).loc Cert.Kernel4Ideal.main_arg5) (ix3 0 d e) = ((Wa d e : ℝ) : EReal))
    (h6 : ∀ k e, m ((c : Thread Cert.Kernel4Ideal.nD Cert.Kernel4Ideal.τ).loc Cert.Kernel4Ideal.main_arg6) (ix3 0 k e) = ((Wb k e : ℝ) : EReal))
    (h7 : ∀ d e, m ((c : Thread Cert.Kernel4Ideal.nD Cert.Kernel4Ideal.τ).loc Cert.Kernel4Ideal.main_arg7) (ix3 0 d e) = ((Wo d e : ℝ) : EReal))
    (h8 : ∀ t d, m ((c : Thread Cert.Kernel4Ideal.nD Cert.Kernel4Ideal.τ).loc Cert.Kernel4Ideal.main_arg8) (ix2 t d) = ((Ct t d : ℝ) : EReal))
    (k0 : ∀ t d, x0 (ix2 t d) = ((Oa t d : ℝ) : EReal))
    (k1 : ∀ t d, x1 (ix2 t d) = ((Ob t d : ℝ) : EReal))
    (k2 : ∀ t d, x2 (ix2 t d) = ((Ga t d : ℝ) : EReal))
    (k3 : ∀ t d, x3 (ix2 t d) = ((Gb t d : ℝ) : EReal))
    (k4 : ∀ d, x4 (ix2 0 d) = ((Bg d : ℝ) : EReal))
    (k5 : ∀ d e, x5 (ix3 0 d e) = ((Wa d e : ℝ) : EReal))
    (k6 : ∀ k e, x6 (ix3 0 k e) = ((Wb k e : ℝ) : EReal))
    (k7 : ∀ d e, x7 (ix3 0 d e) = ((Wo d e : ℝ) : EReal))
    (k8 : ∀ t d, x8 (ix2 t d) = ((Ct t d : ℝ) : EReal)) :
    Cert.Reference4Ideal.Read.val_main_v54 (F := Ideal) x0 x1 x2 x3 x4 x5 x6 x7 x8 = (Cert.Kernel4Ideal.Gen.dats m 0 c).arrAt 20 Cert.Kernel4Ideal.cfg0.N := by
  rw [Cert.Kernel4Ideal.Value.final20 m c  h0 h1 h2 h3 h4 h5 h6 h7 h8]
  funext i
  obtain ⟨t, d, rfl⟩ : ∃ (t : Fin 1) (d : Fin 2048), i = ix2 t d := ⟨i 0, i 1, eq_ix2 i⟩
  exact Cert.Reference4Ideal.Value.res_dbg k0 k1 k2 k3 k4 k5 k6 k7 k8 t d

theorem algebraic : Cert.algebraic_Kernel4Ideal_Reference4Ideal_pre_finite_mix (hKernel4Ideal := Cert.Kernel4Ideal.Gen.facts)
    (hReference4Ideal := Cert.Reference4Ideal.Gen.facts) (hPre_finite_mix := Cert.Pre_finite_mix.Gen.facts) := by
  intro m g m' g' hpre hagree
  refine ⟨_, _, _, _, _, _, _, _, _, _, _, _, Cert.Kernel4Ideal.Value.run_blocks m g, (θ_run _ _ _).mono (fun r h c => ?_) (Cert.Reference4Ideal.Value.run m' g')⟩
  obtain ⟨Oa, Ob, Ga, Gb, Bg, Wa, Wb, Wo, Ct, h0, h1, h2, h3, h4, h5, h6, h7, h8⟩ := reals_of_pre m hpre c
  obtain ⟨a0, a1, a2, a3, a4, a5, a6, a7, a8⟩ := hagree c
  obtain ⟨r0, r1, r2, r3, r4, r5, r6, r7, r8, r9, r10, r11, rest⟩ := h c
  have k0 : ∀ t d, m' ((c.tc : Thread Cert.Reference4Ideal.nD Cert.Reference4Ideal.τ).loc Cert.Reference4Ideal.main_arg0) (ix2 t d)
      = ((Oa t d : ℝ) : EReal) := fun t d => by rw [a0]; exact h0 t d
  have k1 : ∀ t d, m' ((c.tc : Thread Cert.Reference4Ideal.nD Cert.Reference4Ideal.τ).loc Cert.Reference4Ideal.main_arg1) (ix2 t d)
      = ((Ob t d : ℝ) : EReal) := fun t d => by rw [a1]; exact h1 t d
  have k2 : ∀ t d, m' ((c.tc : Thread Cert.Reference4Ideal.nD Cert.Reference4Ideal.τ).loc Cert.Reference4Ideal.main_arg2) (ix2 t d)
      = ((Ga t d : ℝ) : EReal) := fun t d => by rw [a2]; exact h2 t d
  have k3 : ∀ t d, m' ((c.tc : Thread Cert.Reference4Ideal.nD Cert.Reference4Ideal.τ).loc Cert.Reference4Ideal.main_arg3) (ix2 t d)
      = ((Gb t d : ℝ) : EReal) := fun t d => by rw [a3]; exact h3 t d
  have k4 : ∀ d, m' ((c.tc : Thread Cert.Reference4Ideal.nD Cert.Reference4Ideal.τ).loc Cert.Reference4Ideal.main_arg4) (ix2 0 d)
      = ((Bg d : ℝ) : EReal) := fun d => by rw [a4]; exact h4 d
  have k5 : ∀ d e, m' ((c.tc : Thread Cert.Reference4Ideal.nD Cert.Reference4Ideal.τ).loc Cert.Reference4Ideal.main_arg5) (ix3 0 d e)
      = ((Wa d e : ℝ) : EReal) := fun d e => by rw [a5]; exact h5 d e
  have k6 : ∀ k e, m' ((c.tc : Thread Cert.Reference4Ideal.nD Cert.Reference4Ideal.τ).loc Cert.Reference4Ideal.main_arg6) (ix3 0 k e)
      = ((Wb k e : ℝ) : EReal) := fun k e => by rw [a6]; exact h6 k e
  have k7 : ∀ d e, m' ((c.tc : Thread Cert.Reference4Ideal.nD Cert.Reference4Ideal.τ).loc Cert.Reference4Ideal.main_arg7) (ix3 0 d e)
      = ((Wo d e : ℝ) : EReal) := fun d e => by rw [a7]; exact h7 d e
  have k8 : ∀ t d, m' ((c.tc : Thread Cert.Reference4Ideal.nD Cert.Reference4Ideal.τ).loc Cert.Reference4Ideal.main_arg8) (ix2 t d)
      = ((Ct t d : ℝ) : EReal) := fun t d => by rw [a8]; exact h8 t d
  refine ⟨r0.trans ?_, r1.trans ?_, r2.trans ?_, r3.trans ?_, r4.trans ?_, r5.trans ?_, r6.trans ?_, r7.trans ?_, r8.trans ?_, r9.trans ?_, r10.trans ?_, r11.trans ?_, rest⟩
  · exact (Cert.Reference4Ideal.Read.val_main_v97_eq (F := Ideal) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_doa m c h2 h4 h5 h7 h8 k2 k4 k5 k7 k8)
  · exact (Cert.Reference4Ideal.Read.val_main_v100_eq (F := Ideal) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dob1 m c h3 h4 h6 h7 h8 k3 k4 k6 k7 k8)
  · exact (Cert.Reference4Ideal.Read.val_main_v103_eq (F := Ideal) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dob4 m c h3 h4 h6 h7 h8 k3 k4 k6 k7 k8)
  · exact (Cert.Reference4Ideal.Read.val_main_v106_eq (F := Ideal) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dob16 m c h3 h4 h6 h7 h8 k3 k4 k6 k7 k8)
  · exact (Cert.Reference4Ideal.Read.val_main_v108_eq (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dd1 m c h1 h3 h4 h6 h7 h8 k1 k3 k4 k6 k7 k8)
  · exact (Cert.Reference4Ideal.Read.val_main_v110_eq (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dd4 m c h1 h3 h4 h6 h7 h8 k1 k3 k4 k6 k7 k8)
  · exact (Cert.Reference4Ideal.Read.val_main_v112_eq (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dd16 m c h1 h3 h4 h6 h7 h8 k1 k3 k4 k6 k7 k8)
  · exact (Cert.Reference4Ideal.Read.val_main_v113_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dga m c h0 h2 h4 h5 h7 h8 k0 k2 k4 k5 k7 k8)
  · exact (Cert.Reference4Ideal.Read.val_main_v114_eq (F := Ideal) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dgb m c h1 h3 h4 h6 h7 h8 k1 k3 k4 k6 k7 k8)
  · exact (Cert.Reference4Ideal.Read.val_main_v115_eq (F := Ideal) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dya m c h2 h4 h7 h8 k2 k4 k7 k8)
  · exact (Cert.Reference4Ideal.Read.val_main_v116_eq (F := Ideal) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dyb m c h3 h4 h7 h8 k3 k4 k7 k8)
  · exact (Cert.Reference4Ideal.Read.val_main_v54_eq (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) (m' ((c.tc : Thread Cert.Reference4Ideal.nD Cert.Reference4Ideal.τ).loc Cert.Reference4Ideal.main_arg7)) (m' ((c.tc : Thread Cert.Reference4Ideal.nD Cert.Reference4Ideal.τ).loc Cert.Reference4Ideal.main_arg8))).trans
      (same_res_dbg m c h0 h1 h2 h3 h4 h5 h6 h7 h8 k0 k1 k2 k3 k4 k5 k6 k7 k8)

end Cert.Mix

end
-- ==== Proof.ProjModel.lean ====
/-
  The gradient back through the input projection, over real arrays: what both programs of the fifth pair compute. `X` the
  layer's input, `G` the gain of its norm, `W` the projection, `Gq` and `Gk` the gains of the two head norms; the
  cotangents are those of the residual, of the first mixer's queries, keys and values, of the second mixer's, and of the
  two gates.
-/
module

public import proofs.«01_k».proof.Proof.Reals

@[expose] public section

noncomputable section

namespace Cert.Proj

open Cert.Reals

/-- The gradient of a row through its root mean square norm, `u` the gradient of the normed row. -/
def normBack {n : ℕ} (N : ℝ) (x u : Fin n → ℝ) (d : Fin n) : ℝ :=
  (u d - x d * rstd N x * ((∑ k, u k * (x k * rstd N x)) / N)) * rstd N x

/-- The frequencies of the rotary embedding. -/
def freq (l : Fin 32) : ℝ := (10000 : ℝ) ^ (-(2 * (l.val : ℝ)) / 64)

/-- The angle of a lane: the first 64 lanes turn by the token's row in the 128 × 64 picture, the others by its column. -/
def angle (t : Fin 8192) (d : Fin 128) : ℝ :=
  (if d.val < 64 then ((t.val / 64 : ℕ) : ℝ) else ((t.val % 64 : ℕ) : ℝ)) * freq ⟨d.val % 32, by omega⟩

/-- The transposed rotation of a head's 128 lanes. -/
def turn (t : Fin 8192) (g : Fin 128 → ℝ) (d : Fin 128) : ℝ :=
  if h : d.val % 64 < 32 then g ⟨d.val + 32, by omega⟩ * Real.sin (angle t d) + g d * Real.cos (angle t d)
  else g d * Real.cos (angle t d) + -g ⟨d.val - 32, by omega⟩ * Real.sin (angle t d)

/-- The f32 word of `1/√128`. -/
def scale : ℝ := 11863283 / 134217728

variable (X : Fin 8192 → Fin 1024 → ℝ) (G : Fin 1024 → ℝ) (W : Fin 1024 → Fin 5888 → ℝ) (Gq Gk : Fin 128 → ℝ)
  (Cx Cq : Fin 8192 → Fin 1024 → ℝ) (Ck Cv : Fin 8192 → Fin 256 → ℝ) (Dq Dk Dv : Fin 8192 → Fin 768 → ℝ)
  (Ca Cb : Fin 8192 → Fin 1024 → ℝ)

/-- The normed input. -/
def nx (t : Fin 8192) (k : Fin 1024) : ℝ := X t k * rstd 1024 (X t)

/-- The projection. -/
def z (t : Fin 8192) (c : Fin 5888) : ℝ := ∑ k, nx X t k * G k * W k c

/-- A head of the queries before its norm. -/
def zq (t : Fin 8192) (h : Fin 8) (l : Fin 128) : ℝ := z X G W t ⟨h.val * 128 + l.val, by omega⟩

/-- A head of the keys before its norm. -/
def zk (t : Fin 8192) (h : Fin 2) (l : Fin 128) : ℝ := z X G W t ⟨1024 + (h.val * 128 + l.val), by omega⟩

/-- The cotangent of a head of the queries, scaled. -/
def gq (t : Fin 8192) (h : Fin 8) (l : Fin 128) : ℝ := Cq t ⟨h.val * 128 + l.val, by omega⟩ * scale

/-- The cotangent of a head of the keys. -/
def gk (t : Fin 8192) (h : Fin 2) (l : Fin 128) : ℝ := Ck t ⟨h.val * 128 + l.val, by omega⟩

/-- The gradient of a normed head of the queries. -/
def dnq (t : Fin 8192) (h : Fin 8) : Fin 128 → ℝ := turn t (gq Cq t h)

/-- The gradient of a normed head of the keys. -/
def dnk (t : Fin 8192) (h : Fin 2) : Fin 128 → ℝ := turn t (gk Ck t h)

/-- The gradient of a head of the queries. -/
def dzq (t : Fin 8192) (h : Fin 8) : Fin 128 → ℝ := normBack 128 (zq X G W t h) fun l => dnq Cq t h l * Gq l

/-- The gradient of a head of the keys. -/
def dzk (t : Fin 8192) (h : Fin 2) : Fin 128 → ℝ := normBack 128 (zk X G W t h) fun l => dnk Ck t h l * Gk l

/-- The gradient of the projection. -/
def dz (t : Fin 8192) (c : Fin 5888) : ℝ :=
  if h1 : c.val < 1024 then dzq X G W Gq Cq t ⟨c.val / 128, by omega⟩ ⟨c.val % 128, by omega⟩
  else if h2 : c.val < 1280 then dzk X G W Gk Ck t ⟨(c.val - 1024) / 128, by omega⟩ ⟨(c.val - 1024) % 128, by omega⟩
  else if h3 : c.val < 1536 then Cv t ⟨c.val - 1280, by omega⟩
  else if h4 : c.val < 2304 then Dq t ⟨c.val - 1536, by omega⟩ * (1 / 8)
  else if h5 : c.val < 3072 then Dk t ⟨c.val - 2304, by omega⟩
  else if h6 : c.val < 3840 then Dv t ⟨c.val - 3072, by omega⟩
  else if h7 : c.val < 4864 then Ca t ⟨c.val - 3840, by omega⟩
  else Cb t ⟨c.val - 4864, by omega⟩

/-- The gradient of the normed and scaled input. -/
def dh (t : Fin 8192) (k : Fin 1024) : ℝ := ∑ c, dz X G W Gq Gk Cq Ck Cv Dq Dk Dv Ca Cb t c * W k c

/-- The gradient of the input. -/
def dx (t : Fin 8192) (k : Fin 1024) : ℝ :=
  Cx t k + normBack 1024 (X t) (fun d => dh X G W Gq Gk Cq Ck Cv Dq Dk Dv Ca Cb t d * G d) k

/-- The gradient of the norm's gain. -/
def dg (k : Fin 1024) : ℝ := ∑ t, dh X G W Gq Gk Cq Ck Cv Dq Dk Dv Ca Cb t k * nx X t k

/-- The gradient of the queries' gain. -/
def dgq (l : Fin 128) : ℝ := ∑ t, ∑ h, dnq Cq t h l * (zq X G W t h l * rstd 128 (zq X G W t h))

/-- The gradient of the keys' gain. -/
def dgk (l : Fin 128) : ℝ := ∑ t, ∑ h, dnk Ck t h l * (zk X G W t h l * rstd 128 (zk X G W t h))

end Cert.Proj

end
-- ==== Proof.ProjRef.lean ====
/-
  The input projection reference's five results, on finite arguments, are the real model of `ProjModel.lean`, one stage at
  a time.
-/
module

public import proofs.«01_k».proof.Proof.Gen.Reference5Ideal.Read
public import proofs.«01_k».proof.Proof.ProjModel

@[expose] public section

set_option maxRecDepth 16384

noncomputable section

namespace Cert.Reference5Ideal.Value

open Cert.Reference5Ideal Cert.Reference5Ideal.Read Idealize.ShloMosaic Idealize.ShloMosaic.TcCoe Idealize.SL.Sem Cert.Reals

/-! ## A sum over the two leading axes -/

theorem hostReduceAdd_lead2 {n0 n1 n2 : ℕ} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ a : Fin n0, ∑ b : Fin n1, v (ix3 a b l) := by
  refine congrArg (init + ·) ((Finset.sum_filter_eq_sum_of_fiber _ (fun k : Fin n0 × Fin n1 => ix3 k.1 k.2 l)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  · simp only [Fintype.sum_prod_type]

/-! ## The constants -/

theorem word_128 : Ideal.ofBits .f32 1124073472#32 = ((128 : ℝ) : EReal) := by
  simp [Ideal.ofBits, Ideal.ieee, -EReal.coe_mul]; norm_num
theorem word_eighth : Ideal.ofBits .f32 1040187392#32 = ((1 / 8 : ℝ) : EReal) := by
  simp [Ideal.ofBits, Ideal.ieee, -EReal.coe_mul]; norm_num
theorem word_64 : Ideal.ofBits .f32 1115684864#32 = ((64 : ℝ) : EReal) := by
  simp [Ideal.ofBits, Ideal.ieee, -EReal.coe_mul]; norm_num
theorem word_10000 : Ideal.ofBits .f32 1176256512#32 = ((10000 : ℝ) : EReal) := by
  simp [Ideal.ofBits, Ideal.ieee, -EReal.coe_mul]; norm_num
theorem word_scale : Ideal.ofBits .f32 1035273459#32 = ((Proj.scale : ℝ) : EReal) := by
  simp [Ideal.ofBits, Ideal.ieee, Proj.scale, -EReal.coe_mul]; norm_num

/-! ## The angles -/

theorem sitofp_small {n : ℕ} (h : n < 128) : FloatOps.sitofp (F := Ideal) .f32 (BitVec.ofNat 32 n) = ((n : ℝ) : EReal) := by
  have e : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [e, Int.cast_natCast]

theorem freq_row (l : Fin 32) : val_main_v59 (F := Ideal) (ix1 l) = ((Proj.freq l : ℝ) : EReal) := by
  pointwise [val_main_v50, val_main_v51, val_main_v52, val_main_v53, val_main_v54, val_main_v55, val_main_v56, val_main_v57, val_main_v58, val_main_v59, val_main_cst_7, val_main_cst_8, val_main_cst_9, val_main_cst_10]
  simp only [sitofp_small (show l.val < 128 by omega), word_2, word_64, word_10000, ← EReal.coe_mul, ← EReal.coe_neg,
    coe_div _ _ (show (64 : ℝ) ≠ 0 by norm_num), Ideal.pow_coe_coe]
  rfl

theorem freq_col (l : Fin 32) : val_main_v97 (F := Ideal) (ix1 l) = ((Proj.freq l : ℝ) : EReal) := freq_row l

theorem angle_row (t : Fin 8192) (l : Fin 32) :
    val_main_v65 (F := Ideal) (ix2 t l) = ((((t.val / 64 : ℕ) : ℝ) * Proj.freq l : ℝ) : EReal) := by
  pointwise [val_main_v46, val_main_v47, val_main_v48, val_main_v49, val_main_v60, val_main_v61, val_main_v62, val_main_v63, val_main_v64, val_main_v65]
  simp only [freq_row, sitofp_small (show t.val / 64 < 128 by omega), ← EReal.coe_mul]

theorem angle_col (t : Fin 8192) (l : Fin 32) :
    val_main_v103 (F := Ideal) (ix2 t l) = ((((t.val % 64 : ℕ) : ℝ) * Proj.freq l : ℝ) : EReal) := by
  pointwise [val_main_v84, val_main_v85, val_main_v86, val_main_v87, val_main_v98, val_main_v99, val_main_v100, val_main_v101, val_main_v102, val_main_v103]
  simp only [freq_col, sitofp_small (show t.val % 64 < 128 by omega), ← EReal.coe_mul]

variable {x0 : (⟨S8192x1024, .f32⟩ : BufTy).Contents (Elt Ideal)} {x1 : (⟨S1x1024, .f32⟩ : BufTy).Contents (Elt Ideal)}
  {x2 : (⟨S1x1024x5888, .f32⟩ : BufTy).Contents (Elt Ideal)} {x3 x4 : (⟨S1x128, .f32⟩ : BufTy).Contents (Elt Ideal)}
  {x5 x6 : (⟨S8192x1024, .f32⟩ : BufTy).Contents (Elt Ideal)} {x7 x8 : (⟨S8192x256, .f32⟩ : BufTy).Contents (Elt Ideal)}
  {x9 x10 x11 : (⟨S8192x768, .f32⟩ : BufTy).Contents (Elt Ideal)} {x12 x13 : (⟨S8192x1024, .f32⟩ : BufTy).Contents (Elt Ideal)}
  {X : Fin 8192 → Fin 1024 → ℝ} {G : Fin 1024 → ℝ} {W : Fin 1024 → Fin 5888 → ℝ} {Gq Gk : Fin 128 → ℝ}
  {Cx Cq : Fin 8192 → Fin 1024 → ℝ} {Ck Cv : Fin 8192 → Fin 256 → ℝ} {Dq Dk Dv : Fin 8192 → Fin 768 → ℝ}
  {Ca Cb : Fin 8192 → Fin 1024 → ℝ}
  (h0 : ∀ t d, x0 (ix2 t d) = ((X t d : ℝ) : EReal)) (h1 : ∀ d, x1 (ix2 0 d) = ((G d : ℝ) : EReal))
  (h2 : ∀ k c, x2 (ix3 0 k c) = ((W k c : ℝ) : EReal)) (h3 : ∀ d, x3 (ix2 0 d) = ((Gq d : ℝ) : EReal))
  (h4 : ∀ d, x4 (ix2 0 d) = ((Gk d : ℝ) : EReal)) (h5 : ∀ t d, x5 (ix2 t d) = ((Cx t d : ℝ) : EReal))
  (h6 : ∀ t d, x6 (ix2 t d) = ((Cq t d : ℝ) : EReal)) (h7 : ∀ t d, x7 (ix2 t d) = ((Ck t d : ℝ) : EReal))
  (h8 : ∀ t d, x8 (ix2 t d) = ((Cv t d : ℝ) : EReal)) (h9 : ∀ t d, x9 (ix2 t d) = ((Dq t d : ℝ) : EReal))
  (h10 : ∀ t d, x10 (ix2 t d) = ((Dk t d : ℝ) : EReal)) (h11 : ∀ t d, x11 (ix2 t d) = ((Dv t d : ℝ) : EReal))
  (h12 : ∀ t d, x12 (ix2 t d) = ((Ca t d : ℝ) : EReal)) (h13 : ∀ t d, x13 (ix2 t d) = ((Cb t d : ℝ) : EReal))

/-! ## The forward lines -/

section
include h0

theorem rstd_x (t : Fin 8192) (e : Fin 1) : val_main_v8 (F := Ideal) x0 (ix2 t e) = ((rstd 1024 (X t) : ℝ) : EReal) := by
  pointwise [val_main_cst, val_main_v1, val_main_v2, val_main_v3, val_main_v4, val_main_v5, val_main_v6, val_main_v7, val_main_v8, val_main_cst_0, val_main_cst_1]
  simp only [h0, word_eps, word_1024, ← EReal.coe_mul, ← EReal.coe_add, coe_sum,
    coe_div _ _ (show (1024 : ℝ) ≠ 0 by norm_num), rsqrt_meanSq (show (0 : ℝ) < 1024 by norm_num)]

theorem slope_x (t : Fin 8192) (e : Fin 1) : val_main_v11 (F := Ideal) x0 (ix2 t e)
    = ((-1 / 2 * (rstd 1024 (X t) / meanSq 1024 (X t)) : ℝ) : EReal) := by
  pointwise [val_main_cst, val_main_v1, val_main_v2, val_main_v3, val_main_v4, val_main_v5, val_main_v6, val_main_v7, val_main_v9, val_main_v10, val_main_v11, val_main_cst_0, val_main_cst_1, val_main_cst_2]
  simp only [rstd_x h0, h0, word_eps, word_1024, word_neg_half, ← EReal.coe_mul, ← EReal.coe_add, coe_sum,
    coe_div _ _ (show (1024 : ℝ) ≠ 0 by norm_num), coe_div_meanSq (show (0 : ℝ) < 1024 by norm_num)]

theorem n_x (t : Fin 8192) (d : Fin 1024) : val_main_v13 (F := Ideal) x0 (ix2 t d) = ((Proj.nx X t d : ℝ) : EReal) := by
  pointwise [val_main_v12, val_main_v13]
  simp only [rstd_x h0, h0, ← EReal.coe_mul]
  rfl

include h1 h2
theorem z_x (t : Fin 8192) (c : Fin 5888) :
    val_main_v18 (F := Ideal) x0 x1 x2 (ix2 t c) = ((Proj.z X G W t c : ℝ) : EReal) := by
  pointwise [val_main_v18, val_main_v17, val_main_v16, val_main_v15, val_main_v14, val_main_v0]
  simp only [n_x h0, h1, h2, ← EReal.coe_mul, coe_sum]
  rfl

theorem zq_x (t : Fin 8192) (h : Fin 8) (l : Fin 128) :
    val_main_v27 (F := Ideal) x0 x1 x2 (ix3 t h l) = ((Proj.zq X G W t h l : ℝ) : EReal) := by
  pointwise [val_main_v27, val_main_v19]
  simp only [z_x h0 h1 h2]
  rfl

theorem zk_x (t : Fin 8192) (h : Fin 2) (l : Fin 128) :
    val_main_v124 (F := Ideal) x0 x1 x2 (ix3 t h l) = ((Proj.zk X G W t h l : ℝ) : EReal) := by
  pointwise [val_main_v124, val_main_v20]
  simp only [z_x h0 h1 h2]
  rfl

theorem rstd_q (t : Fin 8192) (h : Fin 8) (e : Fin 1) : val_main_v36 (F := Ideal) x0 x1 x2 (ix3 t h e)
    = ((rstd 128 (Proj.zq X G W t h) : ℝ) : EReal) := by
  pointwise [val_main_v29, val_main_v30, val_main_v31, val_main_v32, val_main_v33, val_main_v34, val_main_v35, val_main_v36, val_main_cst_3, val_main_cst_4, val_main_cst_5]
  simp only [zq_x h0 h1 h2, word_eps, word_128, ← EReal.coe_mul, ← EReal.coe_add, coe_sum,
    coe_div _ _ (show (128 : ℝ) ≠ 0 by norm_num), rsqrt_meanSq (show (0 : ℝ) < 128 by norm_num)]

theorem slope_q (t : Fin 8192) (h : Fin 8) (e : Fin 1) : val_main_v39 (F := Ideal) x0 x1 x2 (ix3 t h e)
    = ((-1 / 2 * (rstd 128 (Proj.zq X G W t h) / meanSq 128 (Proj.zq X G W t h)) : ℝ) : EReal) := by
  pointwise [val_main_v29, val_main_v30, val_main_v31, val_main_v32, val_main_v33, val_main_v34, val_main_v35, val_main_v37, val_main_v38, val_main_v39, val_main_cst_3, val_main_cst_4, val_main_cst_5, val_main_cst_6]
  simp only [rstd_q h0 h1 h2, zq_x h0 h1 h2, word_eps, word_128, word_neg_half, ← EReal.coe_mul, ← EReal.coe_add, coe_sum,
    coe_div _ _ (show (128 : ℝ) ≠ 0 by norm_num), coe_div_meanSq (show (0 : ℝ) < 128 by norm_num)]

theorem n_q (t : Fin 8192) (h : Fin 8) (l : Fin 128) : val_main_v41 (F := Ideal) x0 x1 x2 (ix3 t h l)
    = ((Proj.zq X G W t h l * rstd 128 (Proj.zq X G W t h) : ℝ) : EReal) := by
  pointwise [val_main_v40, val_main_v41]
  simp only [rstd_q h0 h1 h2, zq_x h0 h1 h2, ← EReal.coe_mul]

theorem rstd_k (t : Fin 8192) (h : Fin 2) (e : Fin 1) : val_main_v133 (F := Ideal) x0 x1 x2 (ix3 t h e)
    = ((rstd 128 (Proj.zk X G W t h) : ℝ) : EReal) := by
  pointwise [val_main_v126, val_main_v127, val_main_v128, val_main_v129, val_main_v130, val_main_v131, val_main_v132, val_main_v133, val_main_cst_16, val_main_cst_17, val_main_cst_18]
  simp only [zk_x h0 h1 h2, word_eps, word_128, ← EReal.coe_mul, ← EReal.coe_add, coe_sum,
    coe_div _ _ (show (128 : ℝ) ≠ 0 by norm_num), rsqrt_meanSq (show (0 : ℝ) < 128 by norm_num)]

theorem slope_k (t : Fin 8192) (h : Fin 2) (e : Fin 1) : val_main_v136 (F := Ideal) x0 x1 x2 (ix3 t h e)
    = ((-1 / 2 * (rstd 128 (Proj.zk X G W t h) / meanSq 128 (Proj.zk X G W t h)) : ℝ) : EReal) := by
  pointwise [val_main_v126, val_main_v127, val_main_v128, val_main_v129, val_main_v130, val_main_v131, val_main_v132, val_main_v134, val_main_v135, val_main_v136, val_main_cst_16, val_main_cst_17, val_main_cst_18, val_main_cst_19]
  simp only [rstd_k h0 h1 h2, zk_x h0 h1 h2, word_eps, word_128, word_neg_half, ← EReal.coe_mul, ← EReal.coe_add, coe_sum,
    coe_div _ _ (show (128 : ℝ) ≠ 0 by norm_num), coe_div_meanSq (show (0 : ℝ) < 128 by norm_num)]

theorem n_k (t : Fin 8192) (h : Fin 2) (l : Fin 128) : val_main_v138 (F := Ideal) x0 x1 x2 (ix3 t h l)
    = ((Proj.zk X G W t h l * rstd 128 (Proj.zk X G W t h) : ℝ) : EReal) := by
  pointwise [val_main_v137, val_main_v138]
  simp only [rstd_k h0 h1 h2, zk_x h0 h1 h2, ← EReal.coe_mul]
end

/-! ## The transposed rotation -/

theorem cos_row (t : Fin 8192) (e : Fin 1) (l : Fin 32) :
    val_main_v67 (F := Ideal) (ix3 t e l) = ((Real.cos (((t.val / 64 : ℕ) : ℝ) * Proj.freq l) : ℝ) : EReal) := by
  pointwise [val_main_v67, val_main_v66]
  rw [angle_row, Ideal.cos_coe]

theorem sin_row (t : Fin 8192) (e : Fin 1) (l : Fin 32) :
    val_main_v69 (F := Ideal) (ix3 t e l) = ((Real.sin (((t.val / 64 : ℕ) : ℝ) * Proj.freq l) : ℝ) : EReal) := by
  pointwise [val_main_v69, val_main_v68]
  rw [angle_row, Ideal.sin_coe]

theorem cos_col (t : Fin 8192) (e : Fin 1) (l : Fin 32) :
    val_main_v105 (F := Ideal) (ix3 t e l) = ((Real.cos (((t.val % 64 : ℕ) : ℝ) * Proj.freq l) : ℝ) : EReal) := by
  pointwise [val_main_v105, val_main_v104]
  rw [angle_col, Ideal.cos_coe]

theorem sin_col (t : Fin 8192) (e : Fin 1) (l : Fin 32) :
    val_main_v107 (F := Ideal) (ix3 t e l) = ((Real.sin (((t.val % 64 : ℕ) : ℝ) * Proj.freq l) : ℝ) : EReal) := by
  pointwise [val_main_v107, val_main_v106]
  rw [angle_col, Ideal.sin_coe]

theorem cos_row' (t : Fin 8192) (e : Fin 1) (l : Fin 32) :
    val_main_v164 (F := Ideal) (ix3 t e l) = ((Real.cos (((t.val / 64 : ℕ) : ℝ) * Proj.freq l) : ℝ) : EReal) := cos_row t e l

theorem sin_row' (t : Fin 8192) (e : Fin 1) (l : Fin 32) :
    val_main_v166 (F := Ideal) (ix3 t e l) = ((Real.sin (((t.val / 64 : ℕ) : ℝ) * Proj.freq l) : ℝ) : EReal) := sin_row t e l

theorem cos_col' (t : Fin 8192) (e : Fin 1) (l : Fin 32) :
    val_main_v202 (F := Ideal) (ix3 t e l) = ((Real.cos (((t.val % 64 : ℕ) : ℝ) * Proj.freq l) : ℝ) : EReal) := cos_col t e l

theorem sin_col' (t : Fin 8192) (e : Fin 1) (l : Fin 32) :
    val_main_v204 (F := Ideal) (ix3 t e l) = ((Real.sin (((t.val % 64 : ℕ) : ℝ) * Proj.freq l) : ℝ) : EReal) := sin_col t e l

/-- The four quarters of a head, each from its two halves' rotation, are the transposed rotation. -/
theorem turn_split (t : Fin 8192) (g : Fin 128 → ℝ) (l : Fin 128) :
    ((if h_1 : 64 ≤ l.val ∧ l.val - 64 < 64 then
        (if h_2 : 32 ≤ l.val - 64 ∧ l.val - 64 - 32 < 32 then
            ((g ⟨64 + (32 + (l.val - 64 - 32)), by omega⟩ : ℝ) : EReal)
                * ((Real.cos (((t.val % 64 : ℕ) : ℝ) * Proj.freq ⟨l.val - 64 - 32, by omega⟩) : ℝ) : EReal)
              + -((g ⟨64 + (l.val - 64 - 32), by omega⟩ : ℝ) : EReal)
                * ((Real.sin (((t.val % 64 : ℕ) : ℝ) * Proj.freq ⟨l.val - 64 - 32, by omega⟩) : ℝ) : EReal)
          else 0)
        + if h_2 : l.val - 64 < 32 then
            ((g ⟨64 + (32 + (l.val - 64)), by omega⟩ : ℝ) : EReal)
                * ((Real.sin (((t.val % 64 : ℕ) : ℝ) * Proj.freq ⟨l.val - 64, by omega⟩) : ℝ) : EReal)
              + ((g ⟨64 + (l.val - 64), by omega⟩ : ℝ) : EReal)
                * ((Real.cos (((t.val % 64 : ℕ) : ℝ) * Proj.freq ⟨l.val - 64, by omega⟩) : ℝ) : EReal)
          else 0
      else 0)
      + if h_1 : l.val < 64 then
        (if h_2 : 32 ≤ l.val ∧ l.val - 32 < 32 then
            ((g ⟨32 + (l.val - 32), by omega⟩ : ℝ) : EReal)
                * ((Real.cos (((t.val / 64 : ℕ) : ℝ) * Proj.freq ⟨l.val - 32, by omega⟩) : ℝ) : EReal)
              + -((g ⟨l.val - 32, by omega⟩ : ℝ) : EReal)
                * ((Real.sin (((t.val / 64 : ℕ) : ℝ) * Proj.freq ⟨l.val - 32, by omega⟩) : ℝ) : EReal)
          else 0)
        + if h_2 : l.val < 32 then
            ((g ⟨32 + l.val, by omega⟩ : ℝ) : EReal)
                * ((Real.sin (((t.val / 64 : ℕ) : ℝ) * Proj.freq ⟨l.val, by omega⟩) : ℝ) : EReal)
              + ((g ⟨l.val, by omega⟩ : ℝ) : EReal)
                * ((Real.cos (((t.val / 64 : ℕ) : ℝ) * Proj.freq ⟨l.val, by omega⟩) : ℝ) : EReal)
          else 0
      else 0) = ((Proj.turn t g l : ℝ) : EReal) := by
  obtain ⟨l, hl⟩ := l
  unfold Proj.turn Proj.angle
  dsimp only
  have fin_congr : ∀ (a b : ℕ) (ha : a < 128) (hb : b < 128), a = b → g ⟨a, ha⟩ = g ⟨b, hb⟩ := fun a b ha hb e => by subst e; rfl
  have freq_congr : ∀ (a b : ℕ) (ha : a < 32) (hb : b < 32), a = b → Proj.freq ⟨a, ha⟩ = Proj.freq ⟨b, hb⟩ :=
    fun a b ha hb e => by subst e; rfl
  by_cases a : l < 64
  · rw [dif_neg (show ¬(64 ≤ l ∧ l - 64 < 64) by omega), zero_add, dif_pos a]
    by_cases b : l < 32
    · rw [dif_neg (show ¬(32 ≤ l ∧ l - 32 < 32) by omega), zero_add, dif_pos b, dif_pos (show l % 64 < 32 by omega), if_pos a]
      simp only [← EReal.coe_mul, ← EReal.coe_add]
      rw [fin_congr (32 + l) (l + 32) _ (by omega) (by omega), freq_congr l (l % 32) _ (by omega) (by omega)]
    · rw [dif_pos (show 32 ≤ l ∧ l - 32 < 32 by omega), dif_neg b, add_zero, dif_neg (show ¬ l % 64 < 32 by omega), if_pos a]
      simp only [← EReal.coe_mul, ← EReal.coe_add, ← EReal.coe_neg]
      rw [fin_congr (32 + (l - 32)) l _ (by omega) (by omega), freq_congr (l - 32) (l % 32) _ (by omega) (by omega)]
  · rw [dif_pos (show 64 ≤ l ∧ l - 64 < 64 by omega), dif_neg a, add_zero]
    by_cases b : l < 96
    · rw [dif_neg (show ¬(32 ≤ l - 64 ∧ l - 64 - 32 < 32) by omega), zero_add, dif_pos (show l - 64 < 32 by omega),
        dif_pos (show l % 64 < 32 by omega), if_neg a]
      simp only [← EReal.coe_mul, ← EReal.coe_add]
      rw [fin_congr (64 + (32 + (l - 64))) (l + 32) _ (by omega) (by omega), fin_congr (64 + (l - 64)) l _ (by omega) (by omega),
        freq_congr (l - 64) (l % 32) _ (by omega) (by omega)]
    · rw [dif_pos (show 32 ≤ l - 64 ∧ l - 64 - 32 < 32 by omega), dif_neg (show ¬ l - 64 < 32 by omega), add_zero,
        dif_neg (show ¬ l % 64 < 32 by omega), if_neg a]
      simp only [← EReal.coe_mul, ← EReal.coe_add, ← EReal.coe_neg]
      rw [fin_congr (64 + (32 + (l - 64 - 32))) l _ (by omega) (by omega),
        fin_congr (64 + (l - 64 - 32)) (l - 32) _ (by omega) (by omega), freq_congr (l - 64 - 32) (l % 32) _ (by omega) (by omega)]

section
include h6

theorem ct_q (t : Fin 8192) (h : Fin 8) (l : Fin 128) : val_main_v287 (F := Ideal) x6 (ix3 t h l)
    = ((Proj.gq Cq t h l : ℝ) : EReal) := by
  pointwise [val_main_v226, val_main_v286, val_main_v287, val_main_cst_41]
  simp only [h6, word_scale, ← EReal.coe_mul]
  rfl

theorem turn_q (t : Fin 8192) (h : Fin 8) (l : Fin 128) :
    val_main_v324 (F := Ideal) x6 (ix3 t h l) = ((Proj.dnq Cq t h l : ℝ) : EReal) := by
  pointwise [val_main_v288, val_main_v289, val_main_v290, val_main_v291, val_main_v292, val_main_v293, val_main_v294, val_main_v295, val_main_v296, val_main_v297, val_main_v298, val_main_v299, val_main_v300, val_main_v301, val_main_v302, val_main_v303, val_main_v304, val_main_v305, val_main_v306, val_main_v307, val_main_v308, val_main_v309, val_main_v310, val_main_v311, val_main_v312, val_main_v313, val_main_v314, val_main_v315, val_main_v316, val_main_v317, val_main_v318, val_main_v319, val_main_v320, val_main_v321, val_main_v322, val_main_v323, val_main_v324, val_main_cst_42, val_main_cst_43, val_main_cst_44, val_main_cst_45, val_main_cst_46, val_main_cst_47]
  simp only [ct_q h6, cos_row, sin_row, cos_col, sin_col]
  exact turn_split t (Proj.gq Cq t h) l
end

section
include h7

theorem ct_k (t : Fin 8192) (h : Fin 2) (l : Fin 128) : val_main_v225 (F := Ideal) x7 (ix3 t h l)
    = ((Proj.gk Ck t h l : ℝ) : EReal) := by
  pointwise [val_main_v225]
  simp only [h7]
  rfl

theorem turn_k (t : Fin 8192) (h : Fin 2) (l : Fin 128) :
    val_main_v263 (F := Ideal) x7 (ix3 t h l) = ((Proj.dnk Ck t h l : ℝ) : EReal) := by
  pointwise [val_main_v227, val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_v259, val_main_v260, val_main_v261, val_main_v262, val_main_v263, val_main_cst_30, val_main_cst_31, val_main_cst_32, val_main_cst_33, val_main_cst_34, val_main_cst_35]
  simp only [ct_k h7, cos_row', sin_row', cos_col', sin_col']
  exact turn_split t (Proj.gk Ck t h) l
end

/-! ## Back through the head norms -/

section
include h0 h1 h2 h7

theorem sum_k (l : Fin 128) :
    val_main_v265 (F := Ideal) x0 x1 x2 x7 (ix1 l) = ((Proj.dgk X G W Ck l : ℝ) : EReal) := by
  unfold val_main_v265
  rw [Host.reduceAdd_apply]
  refine (hostReduceAdd_lead2 _ _ _ _).trans ?_
  pointwise [val_main_v264, val_main_cst_36]
  simp only [n_k h0 h1 h2, turn_k h7, ← EReal.coe_mul, coe_sum]
  refine congrArg Real.toEReal ?_
  rw [Proj.dgk]
  exact Finset.sum_congr rfl fun t _ => Finset.sum_congr rfl fun h _ => mul_comm _ _

theorem res_dgk (e : Fin 1) (l : Fin 128) :
    val_main_v284 (F := Ideal) x0 x1 x2 x7 (ix2 e l) = ((Proj.dgk X G W Ck l : ℝ) : EReal) := by
  have one : val_main_v269 (F := Ideal) x0 x1 x2 x7 (ix1 l) = val_main_v265 (F := Ideal) x0 x1 x2 x7 (ix1 l) := by
    unfold val_main_v269
    rw [Host.reduceAdd_apply]
    refine (hostReduceAdd_lead2 _ _ _ _).trans ?_
    pointwise [val_main_v266, val_main_cst_37]
    simp only [zero_add, Finset.sum_const, Finset.card_univ, Fintype.card_fin, one_smul]
  pointwise [val_main_v284]
  simp only [one, sum_k h0 h1 h2 h7, zero_add, Finset.sum_const, Finset.card_univ, Fintype.card_fin, one_smul]

include h4
theorem dzk_x (t : Fin 8192) (h : Fin 2) (l : Fin 128) :
    val_main_v283 (F := Ideal) x0 x1 x2 x4 x7 (ix3 t h l)
      = ((Proj.dzk X G W Gk Ck t h l : ℝ) : EReal) := by
  pointwise [val_main_v139, val_main_v125, val_main_v267, val_main_v268, val_main_v270, val_main_v271, val_main_v272, val_main_v273, val_main_v274, val_main_v275, val_main_v276, val_main_v277, val_main_v278, val_main_v279, val_main_v280, val_main_v281, val_main_v282, val_main_v283, val_main_v267, val_main_v268, val_main_cst_38, val_main_cst_39, val_main_cst_40]
  simp only [turn_k h7, rstd_k h0 h1 h2, slope_k h0 h1 h2, zk_x h0 h1 h2, h4, word_128, ← EReal.coe_mul, ← EReal.coe_add,
    coe_sum, coe_div _ _ (show (128 : ℝ) ≠ 0 by norm_num), Finset.sum_const, Finset.card_univ, Fintype.card_fin, one_smul]
  exact congrArg Real.toEReal (norm_bwd (show (0 : ℝ) < 128 by norm_num) (Proj.zk X G W t h)
    (fun k => Proj.dnk Ck t h k * Gk k) l)
end

section
include h0 h1 h2 h6

theorem sum_q (l : Fin 128) :
    val_main_v326 (F := Ideal) x0 x1 x2 x6 (ix1 l) = ((Proj.dgq X G W Cq l : ℝ) : EReal) := by
  unfold val_main_v326
  rw [Host.reduceAdd_apply]
  refine (hostReduceAdd_lead2 _ _ _ _).trans ?_
  pointwise [val_main_v325, val_main_cst_48]
  simp only [n_q h0 h1 h2, turn_q h6, ← EReal.coe_mul, coe_sum]
  refine congrArg Real.toEReal ?_
  rw [Proj.dgq]
  exact Finset.sum_congr rfl fun t _ => Finset.sum_congr rfl fun h _ => mul_comm _ _

theorem res_dgq (e : Fin 1) (l : Fin 128) :
    val_main_v345 (F := Ideal) x0 x1 x2 x6 (ix2 e l) = ((Proj.dgq X G W Cq l : ℝ) : EReal) := by
  have one : val_main_v330 (F := Ideal) x0 x1 x2 x6 (ix1 l) = val_main_v326 (F := Ideal) x0 x1 x2 x6 (ix1 l) := by
    unfold val_main_v330
    rw [Host.reduceAdd_apply]
    refine (hostReduceAdd_lead2 _ _ _ _).trans ?_
    pointwise [val_main_v327, val_main_cst_49]
    simp only [zero_add, Finset.sum_const, Finset.card_univ, Fintype.card_fin, one_smul]
  pointwise [val_main_v345]
  simp only [one, sum_q h0 h1 h2 h6, zero_add, Finset.sum_const, Finset.card_univ, Fintype.card_fin, one_smul]

include h3
theorem dzq_x (t : Fin 8192) (h : Fin 8) (l : Fin 128) :
    val_main_v344 (F := Ideal) x0 x1 x2 x3 x6 (ix3 t h l)
      = ((Proj.dzq X G W Gq Cq t h l : ℝ) : EReal) := by
  pointwise [val_main_v42, val_main_v28, val_main_v328, val_main_v329, val_main_v331, val_main_v332, val_main_v333, val_main_v334, val_main_v335, val_main_v336, val_main_v337, val_main_v338, val_main_v339, val_main_v340, val_main_v341, val_main_v342, val_main_v343, val_main_v344, val_main_v328, val_main_v329, val_main_cst_50, val_main_cst_51, val_main_cst_52]
  simp only [turn_q h6, rstd_q h0 h1 h2, slope_q h0 h1 h2, zq_x h0 h1 h2, h3, word_128, ← EReal.coe_mul, ← EReal.coe_add,
    coe_sum, coe_div _ _ (show (128 : ℝ) ≠ 0 by norm_num), Finset.sum_const, Finset.card_univ, Fintype.card_fin, one_smul]
  exact congrArg Real.toEReal (norm_bwd (show (0 : ℝ) < 128 by norm_num) (Proj.zq X G W t h)
    (fun k => Proj.dnq Cq t h k * Gq k) l)
end

/-! ## Back through the projection and the first norm -/

section
include h0 h1 h2 h3 h4 h6 h7 h8 h9 h10 h11 h12 h13

theorem dz_x (t : Fin 8192) (c : Fin 5888) :
    val_main_v347 (F := Ideal) x0 x1 x2 x3 x4 x6 x7 x8 x9 x10 x11 x12 x13 (ix2 t c)
      = ((Proj.dz X G W Gq Gk Cq Ck Cv Dq Dk Dv Ca Cb t c : ℝ) : EReal) := by
  pointwise [val_main_v347, val_main_v346, val_main_v285, val_main_v224, val_main_v223, val_main_cst_29]
  simp only [dzq_x h0 h1 h2 h3 h6, dzk_x h0 h1 h2 h4 h7, h8, h9, h10, h11, h12, h13, word_eighth, ← EReal.coe_mul]
  obtain ⟨c, hc⟩ := c
  unfold Proj.dz
  dsimp only
  by_cases a1 : c < 1024
  · rw [dif_pos a1, dif_pos a1]
  rw [dif_neg a1, dif_neg a1]
  by_cases a2 : c < 1280
  · rw [dif_pos (show c - 1024 < 256 by omega), dif_pos a2]
  rw [dif_neg (show ¬ c - 1024 < 256 by omega), dif_neg a2]
  by_cases a3 : c < 1536
  · rw [dif_pos (show c - 1024 - 256 < 256 by omega), dif_pos a3]
    exact congrArg (fun i => ((Cv t i : ℝ) : EReal)) (Fin.ext (by dsimp only; omega))
  rw [dif_neg (show ¬ c - 1024 - 256 < 256 by omega), dif_neg a3]
  by_cases a4 : c < 2304
  · rw [dif_pos (show c - 1024 - 256 - 256 < 768 by omega), dif_pos a4]
    exact congrArg (fun i => ((Dq t i * (1 / 8) : ℝ) : EReal)) (Fin.ext (by dsimp only; omega))
  rw [dif_neg (show ¬ c - 1024 - 256 - 256 < 768 by omega), dif_neg a4]
  by_cases a5 : c < 3072
  · rw [dif_pos (show c - 1024 - 256 - 256 - 768 < 768 by omega), dif_pos a5]
    exact congrArg (fun i => ((Dk t i : ℝ) : EReal)) (Fin.ext (by dsimp only; omega))
  rw [dif_neg (show ¬ c - 1024 - 256 - 256 - 768 < 768 by omega), dif_neg a5]
  by_cases a6 : c < 3840
  · rw [dif_pos (show c - 1024 - 256 - 256 - 768 - 768 < 768 by omega), dif_pos a6]
    exact congrArg (fun i => ((Dv t i : ℝ) : EReal)) (Fin.ext (by dsimp only; omega))
  rw [dif_neg (show ¬ c - 1024 - 256 - 256 - 768 - 768 < 768 by omega), dif_neg a6]
  by_cases a7 : c < 4864
  · rw [dif_pos (show c - 1024 - 256 - 256 - 768 - 768 - 768 < 1024 by omega), dif_pos a7]
    exact congrArg (fun i => ((Ca t i : ℝ) : EReal)) (Fin.ext (by dsimp only; omega))
  rw [dif_neg (show ¬ c - 1024 - 256 - 256 - 768 - 768 - 768 < 1024 by omega), dif_neg a7]
  exact congrArg (fun i => ((Cb t i : ℝ) : EReal)) (Fin.ext (by dsimp only; omega))

theorem res_dz (t : Fin 8192) (c : Fin 5888) :
    (val_main_v371 (F := Ideal) x0 x1 x2 x3 x4 x6 x7 x8 x9 x10 x11 x12 x13 (ix2 t c) : EReal)
      = ((Proj.dz X G W Gq Gk Cq Ck Cv Dq Dk Dv Ca Cb t c : ℝ) : EReal) := by
  pointwise [val_main_v371]
  exact dz_x h0 h1 h2 h3 h4 h6 h7 h8 h9 h10 h11 h12 h13 t c

theorem dh_x (t : Fin 8192) (k : Fin 1024) :
    val_main_v348 (F := Ideal) x0 x1 x2 x3 x4 x6 x7 x8 x9 x10 x11 x12 x13 (ix2 t k)
      = ((Proj.dh X G W Gq Gk Cq Ck Cv Dq Dk Dv Ca Cb t k : ℝ) : EReal) := by
  pointwise [val_main_v348, val_main_v17]
  simp only [dz_x h0 h1 h2 h3 h4 h6 h7 h8 h9 h10 h11 h12 h13, h2, ← EReal.coe_mul, coe_sum]
  rfl

theorem res_dg (e : Fin 1) (k : Fin 1024) :
    val_main_v370 (F := Ideal) x0 x1 x2 x3 x4 x6 x7 x8 x9 x10 x11 x12 x13 (ix2 e k)
      = ((Proj.dg X G W Gq Gk Cq Ck Cv Dq Dk Dv Ca Cb k : ℝ) : EReal) := by
  pointwise [val_main_v370, val_main_v354, val_main_cst_54, val_main_v351, val_main_v350, val_main_cst_53, val_main_v349]
  simp only [n_x h0, dh_x h0 h1 h2 h3 h4 h6 h7 h8 h9 h10 h11 h12 h13, ← EReal.coe_mul, coe_sum, Finset.sum_const, Finset.card_univ,
    Fintype.card_fin, one_smul]
  rw [Proj.dg]
  exact congrArg Real.toEReal (Finset.sum_congr rfl fun t _ => mul_comm _ _)

include h5
theorem res_dx (t : Fin 8192) (k : Fin 1024) :
    val_main_v369 (F := Ideal) x0 x1 x2 x3 x4 x5 x6 x7 x8 x9 x10 x11 x12 x13 (ix2 t k)
      = ((Proj.dx X G W Gq Gk Cx Cq Ck Cv Dq Dk Dv Ca Cb t k : ℝ) : EReal) := by
  pointwise [val_main_v0, val_main_v14, val_main_v352, val_main_v353, val_main_v355, val_main_v356, val_main_v357, val_main_v358, val_main_v359, val_main_v360, val_main_v361, val_main_v362, val_main_v363, val_main_v364, val_main_v365, val_main_v366, val_main_v367, val_main_v368, val_main_v369, val_main_cst_55, val_main_cst_56, val_main_cst_57]
  simp only [dh_x h0 h1 h2 h3 h4 h6 h7 h8 h9 h10 h11 h12 h13, rstd_x h0, slope_x h0, h0, h1, h5, word_1024, ← EReal.coe_mul,
    ← EReal.coe_add, coe_sum, coe_div _ _ (show (1024 : ℝ) ≠ 0 by norm_num), Finset.sum_const, Finset.card_univ,
    Fintype.card_fin, one_smul]
  refine congrArg Real.toEReal ?_
  rw [Proj.dx, Proj.normBack, ← norm_bwd (show (0 : ℝ) < 1024 by norm_num) (X t)
    (fun d => Proj.dh X G W Gq Gk Cq Ck Cv Dq Dk Dv Ca Cb t d * G d) k]
  ring
end

end Cert.Reference5Ideal.Value

end
-- ==== Proof.ProjHost.lean ====
/-
  What the host lines of the fifth kernel hand to its call, on finite arguments: the projection it saved, the tables of the
  rotary embedding, and the second mixer's cotangents split into residue classes of the token.
-/
module
public import proofs.«01_k».proof.Proof.ProjFrame
public import proofs.«01_k».proof.Proof.ProjModel
@[expose] public section
set_option maxRecDepth 16384
noncomputable section
namespace Cert.Kernel5Ideal.Value
open Cert.Kernel5Ideal Cert.Kernel5Ideal.Gen Idealize.ShloMosaic Idealize.ShloMosaic.TcCoe Idealize.SL.Sem Idealize.ShloMosaic.StableHlo Cert.Reals
variable (m : (ℓ : Loc nD τ sig) → Buf (Elt Ideal) ℓ) (c : Dev nD)

/-- The f32 word of `log 2`. -/
def ln2w : ℝ := 11629080 / 16777216

theorem word_ln2 : Ideal.ofBits .f32 1060205080#32 = ((ln2w : ℝ) : EReal) := by
  simp [Ideal.ofBits, Ideal.ieee, ln2w, -EReal.coe_mul]; norm_num
theorem ln2w_ne : ln2w ≠ 0 := by norm_num [ln2w]
theorem word_128 : Ideal.ofBits .f32 1124073472#32 = ((128 : ℝ) : EReal) := by
  simp [Ideal.ofBits, Ideal.ieee, -EReal.coe_mul]; norm_num
theorem word_eighth : Ideal.ofBits .f32 1040187392#32 = ((1 / 8 : ℝ) : EReal) := by
  simp [Ideal.ofBits, Ideal.ieee, -EReal.coe_mul]; norm_num
theorem word_64 : Ideal.ofBits .f32 1115684864#32 = ((64 : ℝ) : EReal) := by
  simp [Ideal.ofBits, Ideal.ieee, -EReal.coe_mul]; norm_num
theorem word_10000 : Ideal.ofBits .f32 1176256512#32 = ((10000 : ℝ) : EReal) := by
  simp [Ideal.ofBits, Ideal.ieee, -EReal.coe_mul]; norm_num
theorem word_scale : Ideal.ofBits .f32 1035273459#32 = ((Proj.scale : ℝ) : EReal) := by
  simp [Ideal.ofBits, Ideal.ieee, Proj.scale, -EReal.coe_mul]; norm_num
theorem sitofp_small {n : ℕ} (h : n < 128) : FloatOps.sitofp (F := Ideal) .f32 (BitVec.ofNat 32 n) = ((n : ℝ) : EReal) := by
  have e : (BitVec.ofNat 32 n).toInt = (n : ℤ) := by
    rw [BitVec.toInt_eq_toNat_of_lt (by rw [BitVec.toNat_ofNat]; omega), BitVec.toNat_ofNat]; omega
  show (((BitVec.ofNat 32 n).toInt : ℝ) : EReal) = _
  rw [e, Int.cast_natCast]

/-- Four tables of 32 lanes side by side. -/
theorem quarters (a b d e : FVec Ideal S8192x32 .f32) (f : Fin 8192 → Fin 128 → ℝ) (u : Fin 8192) (l : Fin 128)
    (ha : ∀ l : Fin 32, a (ix2 u l) = ((f u ⟨32 * 0 + l.val, by omega⟩ : ℝ) : EReal))
    (hb : ∀ l : Fin 32, b (ix2 u l) = ((f u ⟨32 * 1 + l.val, by omega⟩ : ℝ) : EReal))
    (hd : ∀ l : Fin 32, d (ix2 u l) = ((f u ⟨32 * 2 + l.val, by omega⟩ : ℝ) : EReal))
    (he : ∀ l : Fin 32, e (ix2 u l) = ((f u ⟨32 * 3 + l.val, by omega⟩ : ℝ) : EReal)) :
    concatenate S8192x128 1 [⟨S8192x32, a⟩, ⟨S8192x32, b⟩, ⟨S8192x32, d⟩, ⟨S8192x32, e⟩]
      concatenates_S8192x32_S8192x32_S8192x32_S8192x32_S8192x128_d1 (ix2 u l) = ((f u l : ℝ) : EReal) := by
  have fin_congr : ∀ (a b : ℕ) (ha : a < 128) (hb : b < 128), a = b → f u ⟨a, ha⟩ = f u ⟨b, hb⟩ := fun a b ha hb e => by subst e; rfl
  obtain ⟨l, hl⟩ := l
  pointwise
  simp only [ha, hb, hd, he]
  split_ifs <;> exact congrArg Real.toEReal (fin_congr _ _ _ _ (by omega))

theorem angle_of (t : Fin 8192) (q : ℕ) (l : Fin 32) (hq : q < 4) : Proj.angle t ⟨32 * q + l.val, by omega⟩
    = (if q < 2 then ((t.val / 64 : ℕ) : ℝ) else ((t.val % 64 : ℕ) : ℝ)) * Proj.freq l := by
  unfold Proj.angle
  have e : Proj.freq ⟨(32 * q + l.val) % 32, by omega⟩ = Proj.freq l := congrArg Proj.freq (Fin.ext (by dsimp only; omega))
  dsimp only
  rw [e]
  by_cases h : q < 2
  · rw [if_pos h, if_pos (by omega)]
  · rw [if_neg h, if_neg (by omega)]

/-- The table of sines that multiplies a gradient before it moves 32 lanes down. -/
def upT (t : Fin 8192) (d : Fin 128) : ℝ := if d.val % 64 < 32 then 0 else Real.sin (Proj.angle t d)
/-- The table of sines that multiplies a gradient before it moves 32 lanes up. -/
def downT (t : Fin 8192) (d : Fin 128) : ℝ := if d.val % 64 < 32 then -Real.sin (Proj.angle t d) else 0

theorem upT_of (t : Fin 8192) (q : ℕ) (l : Fin 32) (hq : q < 4) : upT t ⟨32 * q + l.val, by omega⟩
    = if q % 2 = 0 then 0 else Real.sin ((if q < 2 then ((t.val / 64 : ℕ) : ℝ) else ((t.val % 64 : ℕ) : ℝ)) * Proj.freq l) := by
  rw [upT, angle_of t q l hq]
  by_cases h : q % 2 = 0
  · rw [if_pos h, if_pos (by dsimp only; omega)]
  · rw [if_neg h, if_neg (by dsimp only; omega)]
theorem downT_of (t : Fin 8192) (q : ℕ) (l : Fin 32) (hq : q < 4) : downT t ⟨32 * q + l.val, by omega⟩
    = if q % 2 = 0 then -Real.sin ((if q < 2 then ((t.val / 64 : ℕ) : ℝ) else ((t.val % 64 : ℕ) : ℝ)) * Proj.freq l) else 0 := by
  rw [downT, angle_of t q l hq]
  by_cases h : q % 2 = 0
  · rw [if_pos h, if_pos (by dsimp only; omega)]
  · rw [if_neg h, if_neg (by dsimp only; omega)]

theorem V64 (t : Fin 8192) (d : Fin 128) : V m c main_v64 (ix2 t d) = ((Real.cos (Proj.angle t d) : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  simp only [Matrix.cons_val]
  after_results_simp
  refine quarters _ _ _ _ (fun t d => Real.cos (Proj.angle t d)) t d (fun l => ?_) (fun l => ?_) (fun l => ?_) (fun l => ?_)
  · show _ = ((Real.cos (Proj.angle t ⟨32 * 0 + l.val, by omega⟩) : ℝ) : EReal); rw [angle_of t 0 l (by norm_num), if_pos (by norm_num)]
    pointwise
    simp only [sitofp_small (show t.val / 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
  · show _ = ((Real.cos (Proj.angle t ⟨32 * 1 + l.val, by omega⟩) : ℝ) : EReal); rw [angle_of t 1 l (by norm_num), if_pos (by norm_num)]
    pointwise
    simp only [sitofp_small (show t.val / 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
  · show _ = ((Real.cos (Proj.angle t ⟨32 * 2 + l.val, by omega⟩) : ℝ) : EReal); rw [angle_of t 2 l (by norm_num), if_neg (by norm_num)]
    pointwise
    simp only [sitofp_small (show t.val % 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
  · show _ = ((Real.cos (Proj.angle t ⟨32 * 3 + l.val, by omega⟩) : ℝ) : EReal); rw [angle_of t 3 l (by norm_num), if_neg (by norm_num)]
    pointwise
    simp only [sitofp_small (show t.val % 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
theorem V65 (t : Fin 8192) (d : Fin 128) : V m c main_v65 (ix2 t d) = ((upT t d : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  simp only [Matrix.cons_val]
  after_results_simp
  refine quarters _ _ _ _ (upT) t d (fun l => ?_) (fun l => ?_) (fun l => ?_) (fun l => ?_)
  · rw [upT_of t 0 l (by norm_num), if_pos (by norm_num)]
    pointwise
    exact EReal.coe_zero.symm
  · rw [upT_of t 1 l (by norm_num), if_neg (by norm_num), if_pos (by norm_num)]
    pointwise
    simp only [sitofp_small (show t.val / 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
  · rw [upT_of t 2 l (by norm_num), if_pos (by norm_num)]
    pointwise
    exact EReal.coe_zero.symm
  · rw [upT_of t 3 l (by norm_num), if_neg (by norm_num), if_neg (by norm_num)]
    pointwise
    simp only [sitofp_small (show t.val % 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
theorem V66 (t : Fin 8192) (d : Fin 128) : V m c main_v66 (ix2 t d) = ((downT t d : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  simp only [Matrix.cons_val]
  after_results_simp
  refine quarters _ _ _ _ (downT) t d (fun l => ?_) (fun l => ?_) (fun l => ?_) (fun l => ?_)
  · rw [downT_of t 0 l (by norm_num), if_pos (by norm_num), if_pos (by norm_num)]
    pointwise
    simp only [sitofp_small (show t.val / 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
  · rw [downT_of t 1 l (by norm_num), if_neg (by norm_num)]
    pointwise
    exact EReal.coe_zero.symm
  · rw [downT_of t 2 l (by norm_num), if_pos (by norm_num), if_neg (by norm_num)]
    pointwise
    simp only [sitofp_small (show t.val % 64 < 128 by omega), sitofp_small (show l.val < 128 by omega), word_2, word_64, word_10000,
      ← EReal.coe_mul, ← EReal.coe_neg, coe_div _ _ (show (64 : ℝ) ≠ 0 by norm_num), Ideal.pow_coe_coe, Ideal.cos_coe, Ideal.sin_coe]
    rfl
  · rw [downT_of t 3 l (by norm_num), if_neg (by norm_num)]
    pointwise
    exact EReal.coe_zero.symm
section
variable (X : Fin 8192 → Fin 1024 → ℝ) (G : Fin 1024 → ℝ) (W : Fin 1024 → Fin 5888 → ℝ)
  (Ck : Fin 8192 → Fin 256 → ℝ) (Dq Dk Dv : Fin 8192 → Fin 768 → ℝ) (Ca Cb : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ k d, m ((c : Thread nD τ).loc main_arg2) (ix3 0 k d) = ((W k d : ℝ) : EReal))
  (h7 : ∀ t d, m ((c : Thread nD τ).loc main_arg7) (ix2 t d) = ((Ck t d : ℝ) : EReal))
  (h9 : ∀ t d, m ((c : Thread nD τ).loc main_arg9) (ix2 t d) = ((Dq t d : ℝ) : EReal))
  (h10 : ∀ t d, m ((c : Thread nD τ).loc main_arg10) (ix2 t d) = ((Dk t d : ℝ) : EReal))
  (h11 : ∀ t d, m ((c : Thread nD τ).loc main_arg11) (ix2 t d) = ((Dv t d : ℝ) : EReal))
  (h12 : ∀ t d, m ((c : Thread nD τ).loc main_arg12) (ix2 t d) = ((Ca t d : ℝ) : EReal))
  (h13 : ∀ t d, m ((c : Thread nD τ).loc main_arg13) (ix2 t d) = ((Cb t d : ℝ) : EReal))

include h0 h1 h2 in
theorem V69 (t : Fin 8192) (d : Fin 1024) : V m c main_v69 (ix2 t d) = ((Proj.z X G W t ⟨d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h0, h1, h2, word_eps, word_1024, ← EReal.coe_mul, ← EReal.coe_add, coe_sum,
    coe_div _ _ (show (1024 : ℝ) ≠ 0 by norm_num), rsqrt_meanSq (show (0 : ℝ) < 1024 by norm_num)]
  rfl

include h0 h1 h2 in
theorem V70 (t : Fin 8192) (d : Fin 256) : V m c main_v70 (ix2 t d) = ((Proj.z X G W t ⟨1024 + d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h0, h1, h2, word_eps, word_1024, ← EReal.coe_mul, ← EReal.coe_add, coe_sum,
    coe_div _ _ (show (1024 : ℝ) ≠ 0 by norm_num), rsqrt_meanSq (show (0 : ℝ) < 1024 by norm_num)]
  rfl

include h7 in
theorem V68 (t : Fin 8192) (d : Fin 256) : V m c main_v68 (ix2 t d) = ((Ck t d / ln2w : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h7, word_ln2, coe_div _ _ ln2w_ne]

include h9 in
theorem V73 (r : Fin 1) (i : Fin 8192) (d : Fin 256) : V m c main_v73 (ix3 r i d) = ((Dq ⟨i.val * 1 + r.val, by omega⟩ ⟨0 + d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h9]

include h9 in
theorem V76 (r : Fin 4) (i : Fin 2048) (d : Fin 256) : V m c main_v76 (ix3 r i d) = ((Dq ⟨i.val * 4 + r.val, by omega⟩ ⟨256 + d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h9]

include h9 in
theorem V79 (r : Fin 16) (i : Fin 512) (d : Fin 256) : V m c main_v79 (ix3 r i d) = ((Dq ⟨i.val * 16 + r.val, by omega⟩ ⟨512 + d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h9]

include h10 in
theorem V84 (r : Fin 1) (i : Fin 8192) (d : Fin 256) : V m c main_v84 (ix3 r i d) = ((Dk ⟨i.val * 1 + r.val, by omega⟩ ⟨0 + d.val, by omega⟩ / ln2w : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h10, word_ln2, coe_div _ _ ln2w_ne]

include h10 in
theorem V87 (r : Fin 4) (i : Fin 2048) (d : Fin 256) : V m c main_v87 (ix3 r i d) = ((Dk ⟨i.val * 4 + r.val, by omega⟩ ⟨256 + d.val, by omega⟩ / ln2w : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h10, word_ln2, coe_div _ _ ln2w_ne]

include h10 in
theorem V90 (r : Fin 16) (i : Fin 512) (d : Fin 256) : V m c main_v90 (ix3 r i d) = ((Dk ⟨i.val * 16 + r.val, by omega⟩ ⟨512 + d.val, by omega⟩ / ln2w : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h10, word_ln2, coe_div _ _ ln2w_ne]

include h11 in
theorem V93 (r : Fin 1) (i : Fin 8192) (d : Fin 256) : V m c main_v93 (ix3 r i d) = ((Dv ⟨i.val * 1 + r.val, by omega⟩ ⟨0 + d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h11]

include h11 in
theorem V96 (r : Fin 4) (i : Fin 2048) (d : Fin 256) : V m c main_v96 (ix3 r i d) = ((Dv ⟨i.val * 4 + r.val, by omega⟩ ⟨256 + d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h11]

include h11 in
theorem V99 (r : Fin 16) (i : Fin 512) (d : Fin 256) : V m c main_v99 (ix3 r i d) = ((Dv ⟨i.val * 16 + r.val, by omega⟩ ⟨512 + d.val, by omega⟩ : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  simp only [h11]

include h12 in
theorem V100 (t : Fin 8192) (d : Fin 1024) : V m c main_v100 (ix2 t d) = ((Ca t d : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h12]

include h13 in
theorem V101 (t : Fin 8192) (d : Fin 1024) : V m c main_v101 (ix2 t d) = ((Cb t d : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h13]

include h2 in
theorem V104 (d : Fin 5888) (k : Fin 1024) : V m c main_v104 (ix2 d k) = ((W k d : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h2]

end

end Cert.Kernel5Ideal.Value
-- ==== Proof.ProjStep.lean ====
/-
  The product with the transposed projection in the fifth kernel's body, taken 256 columns at a time: the chain of blocks,
  in the body's order, sums to the whole product.
-/
module
public import proofs.«01_k».proof.Proof.ProjHost
public import Idealize.ShloMosaic.Lib.Pipeline.ValueKit
@[expose] public section
set_option maxRecDepth 16384
noncomputable section
namespace Cert.Kernel5Ideal.Value
open Cert.Kernel5Ideal Cert.Kernel5Ideal.Gen Idealize.ShloMosaic Idealize.ShloMosaic.TcCoe Cert.Reals

/-- A row of the projection's gradient at a column number. -/
def zc (Z : Fin 5888 → ℝ) (n : ℕ) : ℝ := if h : n < 5888 then Z ⟨n, h⟩ else 0

theorem zc_of (Z : Fin 5888 → ℝ) (n : ℕ) (h : n < 5888) : zc Z n = Z ⟨n, h⟩ := dif_pos h

/-- What block `b` of 256 columns adds to an element of the product. -/
def part (Z V : Fin 5888 → ℝ) (b : ℕ) : ℝ := ∑ j : Fin 256, zc Z (256 * b + j.val) * zc V (256 * b + j.val)

/-- The blocks in the body's order. -/
theorem parts_sum (Z V : Fin 5888 → ℝ) :
    0 + part Z V 15 + part Z V 19 + part Z V 16 + part Z V 20 + part Z V 17 + part Z V 21 + part Z V 18 + part Z V 22 + part Z V 5
      + part Z V 6 + part Z V 9 + part Z V 12 + part Z V 7 + part Z V 10 + part Z V 13 + part Z V 8 + part Z V 11 + part Z V 14
      + part Z V 0 + part Z V 1 + part Z V 2 + part Z V 3 + part Z V 4 = ∑ c, Z c * V c := by
  have e : ∑ b : Fin 23, part Z V b.val = ∑ c, Z c * V c := by
    unfold part
    refine Fin.sum_mul_add_congr (fun s k h => ?_)
    simp only [Nat.mul_comm 256 s.val]
    rw [zc_of Z _ h, zc_of V _ h]
  rw [← e, Fin.sum_univ_eq_sum_range (part Z V) 23]
  simp only [Finset.sum_range_succ, Finset.sum_range_zero]
  ring

/-- One block of the product added to what was there. -/
theorem step {A : FVec Ideal S256x1024 .f32} {P : FVec Ideal S256x256 .bf16} {U : FVec Ideal S256x1024 .bf16} {p : Fin 256} {k : Fin 1024}
    (b : ℕ) {a : ℝ} {Z V : Fin 5888 → ℝ} (hP : ∀ j : Fin 256, P (ix2 p j) = ((zc Z (256 * b + j.val) : ℝ) : EReal))
    (hU : ∀ j : Fin 256, U (ix2 j k) = ((zc V (256 * b + j.val) : ℝ) : EReal)) (hA : A (ix2 p k) = ((a : ℝ) : EReal)) {s1 s2} :
    shapeCast S256x1024 (addf (F := Ideal) A (matmul (F := Ideal) dot_S256x256_S256x1024_S256x1024_1_0_0_1_n_n none P
      (shapeCast S256x1024 U s1) (constant (F := Ideal) S256x1024 .f32 0x00000000#32))) s2 (ix2 p k) = ((a + part Z V b : ℝ) : EReal) := by
  pointwise
  simp only [hP, hU, hA, ← EReal.coe_mul, coe_sum, ← EReal.coe_add]
  rfl

/-- The columns of a block stored into the gradient of the projection. -/
theorem col {p : Fin 256} {c : Fin 5888} (b : ℕ) {inb} {w : (Rect.unit (s := S256x5888) ![0, 256 * b] ![256, 256] inb).shape.Idx → Elt Ideal .bf16}
    {L : List (View.Piece (Elt Ideal) S256x5888 .bf16)}
    {Z : Fin 5888 → ℝ} (hw : ∀ j : Fin 256, w (ix2 p j) = ((zc Z (256 * b + j.val) : ℝ) : EReal))
    (hL : c.val / 256 ≠ b → View.canon L (ix2 p c) = ((Z c : ℝ) : EReal)) :
    View.canon ((⟨Rect.unit (s := S256x5888) ![0, 256 * b] ![256, 256] inb, w⟩ : View.Piece (Elt Ideal) S256x5888 .bf16) :: L) (ix2 p c)
      = ((Z c : ℝ) : EReal) := by
  by_cases h : c.val / 256 = b
  · have hm : c.val % 256 < 256 := Nat.mod_lt _ (by decide)
    have e : (ix2 p c : S256x5888.Idx) = (Rect.unit (s := S256x5888) ![0, 256 * b] ![256, 256] inb).emb (ix2 p (⟨c.val % 256, hm⟩ : Fin 256)) := by
      funext a
      refine Fin.ext ?_
      match a with
      | ⟨0, _⟩ => show p.val = 0 + 1 * p.val; omega
      | ⟨1, _⟩ => show c.val = 256 * b + 1 * (c.val % 256); omega
    rw [e]
    refine (View.canon_cons_emb _ w L _).trans ?_
    rw [hw]
    have e2 : 256 * b + c.val % 256 = c.val := by omega
    dsimp only
    rw [e2, zc_of Z c.val c.isLt]
  · refine (View.canon_cons_of_not_mem _ L fun hm => h ?_).trans (hL h)
    obtain ⟨x, hx⟩ := LoadRect.exists_idx_of_mem _ hm
    have h1 : 256 * b + 1 * (x 1).val = c.val := congrArg (fun i : S256x5888.Idx => (i 1).val) hx
    have hx1 : (x 1).val < 256 := (x 1).isLt
    omega

section
variable {f : Fin 256 → Fin 256 → ℝ} {a0 a1 : FVec Ideal S256x128 .f32} {b0 b1 : Vec Ideal S1x256x128 .f32} (p j : Fin 256)

theorem fin_pick (p : Fin 256) {a : ℕ} (ha : a < 256) (h : a = j.val) : ((f p ⟨a, ha⟩ : ℝ) : EReal) = ((f p j : ℝ) : EReal) := by
  subst h; rfl

theorem qb4 (ha : ∀ p (l : Fin 128), a0 (ix2 p l) = ((f p ⟨l.val, by omega⟩ : ℝ) : EReal))
    (hb : ∀ p (l : Fin 128), b1 (ix3 0 p l) = ((f p ⟨128 + l.val, by omega⟩ : ℝ) : EReal)) :
    (k0_pay50 (F := Ideal) a0 b1 (ix2 p j) : EReal) = ((f p j * (1 / 8) : ℝ) : EReal) := by
  pointwise [k0_pay50]
  split
  · rw [ha, word_eighth, ← EReal.coe_mul]
  · rw [hb, word_eighth, ← EReal.coe_mul]
    have e : 128 + (j.val - 128) = j.val := by omega
    simp only [e]

theorem kb4 (ha : ∀ p (l : Fin 128), a0 (ix2 p l) = ((f p ⟨l.val, by omega⟩ / ln2w : ℝ) : EReal))
    (hb : ∀ p (l : Fin 128), b1 (ix3 0 p l) = ((f p ⟨128 + l.val, by omega⟩ / ln2w : ℝ) : EReal)) :
    (k0_pay66 (F := Ideal) a0 b1 (ix2 p j) : EReal) = ((f p j : ℝ) : EReal) := by
  pointwise [k0_pay66]
  split
  · rw [ha, word_ln2, ← EReal.coe_mul, div_mul_cancel₀ _ ln2w_ne]
  · rw [hb, word_ln2, ← EReal.coe_mul, div_mul_cancel₀ _ ln2w_ne]
    have e : 128 + (j.val - 128) = j.val := by omega
    simp only [e]

theorem vb4 (ha : ∀ p (l : Fin 128), a0 (ix2 p l) = ((f p ⟨l.val, by omega⟩ : ℝ) : EReal))
    (hb : ∀ p (l : Fin 128), b1 (ix3 0 p l) = ((f p ⟨128 + l.val, by omega⟩ : ℝ) : EReal)) :
    (k0_pay82 (F := Ideal) a0 b1 (ix2 p j) : EReal) = ((f p j : ℝ) : EReal) := by
  pointwise [k0_pay82]
  split
  · rw [ha]
  · rw [hb]
    have e : 128 + (j.val - 128) = j.val := by omega
    simp only [e]

theorem qb16 (ha : ∀ p (l : Fin 128), b0 (ix3 0 p l) = ((f p ⟨l.val, by omega⟩ : ℝ) : EReal))
    (hb : ∀ p (l : Fin 128), b1 (ix3 0 p l) = ((f p ⟨128 + l.val, by omega⟩ : ℝ) : EReal)) :
    (k0_pay135 (F := Ideal) b0 b1 (ix2 p j) : EReal) = ((f p j * (1 / 8) : ℝ) : EReal) := by
  pointwise [k0_pay135]
  split
  · rw [ha, word_eighth, ← EReal.coe_mul]
  · rw [hb, word_eighth, ← EReal.coe_mul]
    have e : 128 + (j.val - 128) = j.val := by omega
    simp only [e]

theorem kb16 (ha : ∀ p (l : Fin 128), b0 (ix3 0 p l) = ((f p ⟨l.val, by omega⟩ / ln2w : ℝ) : EReal))
    (hb : ∀ p (l : Fin 128), b1 (ix3 0 p l) = ((f p ⟨128 + l.val, by omega⟩ / ln2w : ℝ) : EReal)) :
    (k0_pay188 (F := Ideal) b0 b1 (ix2 p j) : EReal) = ((f p j : ℝ) : EReal) := by
  pointwise [k0_pay188]
  split
  · rw [ha, word_ln2, ← EReal.coe_mul, div_mul_cancel₀ _ ln2w_ne]
  · rw [hb, word_ln2, ← EReal.coe_mul, div_mul_cancel₀ _ ln2w_ne]
    have e : 128 + (j.val - 128) = j.val := by omega
    simp only [e]

theorem vb16 (ha : ∀ p (l : Fin 128), b0 (ix3 0 p l) = ((f p ⟨l.val, by omega⟩ : ℝ) : EReal))
    (hb : ∀ p (l : Fin 128), b1 (ix3 0 p l) = ((f p ⟨128 + l.val, by omega⟩ : ℝ) : EReal)) :
    (k0_pay241 (F := Ideal) b0 b1 (ix2 p j) : EReal) = ((f p j : ℝ) : EReal) := by
  pointwise [k0_pay241]
  split
  · rw [ha]
  · rw [hb]
    have e : 128 + (j.val - 128) = j.val := by omega
    simp only [e]

end

section
variable {v : FVec Ideal S8x256x128 .bf16} {u : FVec Ideal S2x256x128 .bf16} {F : Fin 8 → Fin 256 → Fin 128 → ℝ} {E : Fin 2 → Fin 256 → Fin 128 → ℝ}
  (hv : ∀ h p l, (v (ix3 h p l) : EReal) = ((F h p l : ℝ) : EReal)) (hu : ∀ h p l, (u (ix3 h p l) : EReal) = ((E h p l : ℝ) : EReal)) (p j : Fin 256)

theorem fin_head {n : ℕ} {F : Fin n → Fin 256 → Fin 128 → ℝ} (p : Fin 256) {a a' : Fin n} {b b' : Fin 128} (h : a = a') (h' : b = b') :
    ((F a p b : ℝ) : EReal) = ((F a' p b' : ℝ) : EReal) := by
  subst h; subst h'; rfl

include hv
theorem qa0 : (k0_pay265 (F := Ideal) v (ix2 p j) : EReal) = ((F ⟨2 * 0 + j.val / 128, by omega⟩ p ⟨j.val % 128, by omega⟩ : ℝ) : EReal) := by
  pointwise [k0_pay265]
  split
  · rw [hv]; exact fin_head p (Fin.ext (show 0 = j.val / 128 by omega)) (Fin.ext (show j.val = j.val % 128 by omega))
  · rw [hv]; exact fin_head p (Fin.ext (show 1 = j.val / 128 by omega)) (Fin.ext (show j.val - 128 = j.val % 128 by omega))

theorem qa1 : (k0_pay268 (F := Ideal) v (k0_pay267 (F := Ideal) v) (ix2 p j) : EReal) = ((F ⟨2 * 1 + j.val / 128, by omega⟩ p ⟨j.val % 128, by omega⟩ : ℝ) : EReal) := by
  pointwise [k0_pay268, k0_pay267]
  split
  · rw [hv]; exact fin_head p (Fin.ext (show 2 = 2 * 1 + j.val / 128 by omega)) (Fin.ext (show j.val = j.val % 128 by omega))
  · rw [hv]; exact fin_head p (Fin.ext (show 3 = 2 * 1 + j.val / 128 by omega)) (Fin.ext (show j.val - 128 = j.val % 128 by omega))

theorem qa2 : (k0_pay270 (F := Ideal) v (ix2 p j) : EReal) = ((F ⟨2 * 2 + j.val / 128, by omega⟩ p ⟨j.val % 128, by omega⟩ : ℝ) : EReal) := by
  pointwise [k0_pay270]
  split
  · rw [hv]; exact fin_head p (Fin.ext (show 4 = 2 * 2 + j.val / 128 by omega)) (Fin.ext (show j.val = j.val % 128 by omega))
  · rw [hv]; exact fin_head p (Fin.ext (show 5 = 2 * 2 + j.val / 128 by omega)) (Fin.ext (show j.val - 128 = j.val % 128 by omega))

theorem qa3 : (k0_pay272 (F := Ideal) v (ix2 p j) : EReal) = ((F ⟨2 * 3 + j.val / 128, by omega⟩ p ⟨j.val % 128, by omega⟩ : ℝ) : EReal) := by
  pointwise [k0_pay272]
  split
  · rw [hv]; exact fin_head p (Fin.ext (show 6 = 2 * 3 + j.val / 128 by omega)) (Fin.ext (show j.val = j.val % 128 by omega))
  · rw [hv]; exact fin_head p (Fin.ext (show 7 = 2 * 3 + j.val / 128 by omega)) (Fin.ext (show j.val - 128 = j.val % 128 by omega))

omit hv
include hu
theorem ka0 : (k0_pay274 (F := Ideal) u (ix2 p j) : EReal) = ((E ⟨j.val / 128, by omega⟩ p ⟨j.val % 128, by omega⟩ : ℝ) : EReal) := by
  pointwise [k0_pay274]
  split
  · rw [hu]; exact fin_head p (Fin.ext (show 0 = j.val / 128 by omega)) (Fin.ext (show j.val = j.val % 128 by omega))
  · rw [hu]; exact fin_head p (Fin.ext (show 1 = j.val / 128 by omega)) (Fin.ext (show j.val - 128 = j.val % 128 by omega))
end

section
variable (X : Fin 8192 → Fin 1024 → ℝ) (G : Fin 1024 → ℝ) (W : Fin 1024 → Fin 5888 → ℝ) (Gq Gk : Fin 128 → ℝ)
  (Cq : Fin 8192 → Fin 1024 → ℝ) (Ck Cv : Fin 8192 → Fin 256 → ℝ) (Dq Dk Dv : Fin 8192 → Fin 768 → ℝ)
  (Ca Cb : Fin 8192 → Fin 1024 → ℝ) (t : Fin 8192) (j : Fin 256)

/-- The gradient of the projection, block by block of 256 columns. -/
theorem zc_qa (b : ℕ) (h : b < 4) : zc (Proj.dz X G W Gq Gk Cq Ck Cv Dq Dk Dv Ca Cb t) (256 * b + j.val)
    = Proj.dzq X G W Gq Cq t ⟨2 * b + j.val / 128, by omega⟩ ⟨j.val % 128, by omega⟩ := by
  rw [zc_of _ _ (by omega)]; unfold Proj.dz; dsimp only
  rw [dif_pos (by omega)]
  exact congrArg₂ (Proj.dzq X G W Gq Cq t) (Fin.ext (by dsimp only; omega)) (Fin.ext (by dsimp only; omega))

theorem zc_ka : zc (Proj.dz X G W Gq Gk Cq Ck Cv Dq Dk Dv Ca Cb t) (256 * 4 + j.val)
    = Proj.dzk X G W Gk Ck t ⟨j.val / 128, by omega⟩ ⟨j.val % 128, by omega⟩ := by
  rw [zc_of _ _ (by omega)]; unfold Proj.dz; dsimp only
  rw [dif_neg (by omega), dif_pos (by omega)]
  exact congrArg₂ (Proj.dzk X G W Gk Ck t) (Fin.ext (by dsimp only; omega)) (Fin.ext (by dsimp only; omega))

theorem zc_va (b off : ℕ) (h : off + 256 ≤ 256) (hb : 256 * b = 1280 + off) :
    zc (Proj.dz X G W Gq Gk Cq Ck Cv Dq Dk Dv Ca Cb t) (256 * b + j.val) = Cv t ⟨off + j.val, by omega⟩ := by
  rw [zc_of _ _ (by omega)]; unfold Proj.dz; dsimp only
  rw [dif_neg (by omega), dif_neg (by omega), dif_pos (by omega)]
  exact congrArg (Cv t) (Fin.ext (by dsimp only; omega))

theorem zc_qb (b off : ℕ) (h : off + 256 ≤ 768) (hb : 256 * b = 1536 + off) :
    zc (Proj.dz X G W Gq Gk Cq Ck Cv Dq Dk Dv Ca Cb t) (256 * b + j.val) = Dq t ⟨off + j.val, by omega⟩ * (1 / 8) := by
  rw [zc_of _ _ (by omega)]; unfold Proj.dz; dsimp only
  rw [dif_neg (by omega), dif_neg (by omega), dif_neg (by omega), dif_pos (by omega)]
  exact congrArg (fun i => Dq t i * (1 / 8)) (Fin.ext (by dsimp only; omega))

theorem zc_kb (b off : ℕ) (h : off + 256 ≤ 768) (hb : 256 * b = 2304 + off) :
    zc (Proj.dz X G W Gq Gk Cq Ck Cv Dq Dk Dv Ca Cb t) (256 * b + j.val) = Dk t ⟨off + j.val, by omega⟩ := by
  rw [zc_of _ _ (by omega)]; unfold Proj.dz; dsimp only
  rw [dif_neg (by omega), dif_neg (by omega), dif_neg (by omega), dif_neg (by omega), dif_pos (by omega)]
  exact congrArg (Dk t) (Fin.ext (by dsimp only; omega))

theorem zc_vb (b off : ℕ) (h : off + 256 ≤ 768) (hb : 256 * b = 3072 + off) :
    zc (Proj.dz X G W Gq Gk Cq Ck Cv Dq Dk Dv Ca Cb t) (256 * b + j.val) = Dv t ⟨off + j.val, by omega⟩ := by
  rw [zc_of _ _ (by omega)]; unfold Proj.dz; dsimp only
  rw [dif_neg (by omega), dif_neg (by omega), dif_neg (by omega), dif_neg (by omega), dif_neg (by omega), dif_pos (by omega)]
  exact congrArg (Dv t) (Fin.ext (by dsimp only; omega))

theorem zc_ga (b off : ℕ) (h : off + 256 ≤ 1024) (hb : 256 * b = 3840 + off) :
    zc (Proj.dz X G W Gq Gk Cq Ck Cv Dq Dk Dv Ca Cb t) (256 * b + j.val) = Ca t ⟨off + j.val, by omega⟩ := by
  rw [zc_of _ _ (by omega)]; unfold Proj.dz; dsimp only
  rw [dif_neg (by omega), dif_neg (by omega), dif_neg (by omega), dif_neg (by omega), dif_neg (by omega), dif_neg (by omega), dif_pos (by omega)]
  exact congrArg (Ca t) (Fin.ext (by dsimp only; omega))

theorem zc_gb (b off : ℕ) (h : off + 256 ≤ 1024) (hb : 256 * b = 4864 + off) :
    zc (Proj.dz X G W Gq Gk Cq Ck Cv Dq Dk Dv Ca Cb t) (256 * b + j.val) = Cb t ⟨off + j.val, by omega⟩ := by
  rw [zc_of _ _ (by omega)]; unfold Proj.dz; dsimp only
  rw [dif_neg (by omega), dif_neg (by omega), dif_neg (by omega), dif_neg (by omega), dif_neg (by omega), dif_neg (by omega), dif_neg (by omega)]
  exact congrArg (Cb t) (Fin.ext (by dsimp only; omega))

end

end Cert.Kernel5Ideal.Value
-- ==== Proof.ProjPlane.lean ====
/-
  Reading back a plane of the scratch buffer through which the fifth kernel's body puts the residue classes of a block's
  tokens in order again: class `r` of `dil` was stored at the rows `r, r + dil, …` of the plane.
-/
module
public import proofs.«01_k».proof.Proof.ProjFrame
public import Idealize.ShloMosaic.Lib.Pipeline.ValueKit
public import Idealize.ShloMosaic.Lib.Pipeline.ReadBack
@[expose] public section
set_option maxRecDepth 16384
noncomputable section
namespace Cert.Kernel5Ideal.Value
open Cert.Kernel5Ideal Cert.Kernel5Ideal.Gen Idealize.ShloMosaic Idealize.ShloMosaic.TcCoe

theorem tile_inb {n dil p r : ℕ} (hp : p < 2) (hr : r < dil) (h : n * dil = 256) (hn : 0 < n) :
    ∀ a, (![1, n, 128] : Fin 3 → ℕ) a = 0 ∨
      (![p, r, 0] : Fin 3 → ℕ) a + (![1, dil, 1] : Fin 3 → ℕ) a * ((![1, n, 128] : Fin 3 → ℕ) a - 1) < S2x256x128.size a := by
  intro a
  have : dil * (n - 1) + dil = 256 := by rw [Nat.mul_sub_one, Nat.sub_add_cancel (Nat.le_mul_of_pos_right dil hn), Nat.mul_comm, h]
  match a with
  | ⟨0, _⟩ => exact Or.inr (show p + 1 * (1 - 1) < 2 by omega)
  | ⟨1, _⟩ => exact Or.inr (show r + dil * (n - 1) < 256 by omega)
  | ⟨2, _⟩ => exact Or.inr (show 0 + 1 * (128 - 1) < 128 by omega)

theorem tile_pos {dil : ℕ} (h : 0 < dil) : ∀ a, 0 < (![1, dil, 1] : Fin 3 → ℕ) a := fun a => by
  match a with
  | ⟨0, _⟩ => exact Nat.one_pos
  | ⟨1, _⟩ => exact h
  | ⟨2, _⟩ => exact Nat.one_pos

/-- The rows of residue `r` of a plane `p`. -/
abbrev tile (n dil p r : ℕ) (hp : p < 2) (hr : r < dil) (h : n * dil = 256) (hn : 0 < n) : Rect S2x256x128 :=
  { off := ![p, r, 0], size := ![1, n, 128], stride := ![1, dil, 1], inb := tile_inb hp hr h hn, stride_pos := tile_pos (by omega) }

/-- Under the last store of a class, a plane's element of that class is the stored one, any other is the earlier one. -/
theorem canon_tile {n dil p r : ℕ} (hp : p < 2) (hr : r < dil) (h : n * dil = 256) (hn : 0 < n)
    (w : (tile n dil p r hp hr h hn).shape.Idx → Elt Ideal .f32) (L : List (View.Piece (Elt Ideal) S2x256x128 .f32))
    (q : Fin 2) (y : Fin 256) (l : Fin 128) :
    View.canon ((⟨tile n dil p r hp hr h hn, w⟩ : View.Piece (Elt Ideal) S2x256x128 .f32) :: L) (ix3 q y l)
      = if p = q.val ∧ y.val % dil = r then
          w (ix3 (0 : Fin 1) (⟨y.val / dil, by rw [Nat.div_lt_iff_lt_mul (by omega), h]; exact y.isLt⟩ : Fin n) l)
        else View.canon L (ix3 q y l) := by
  have hy : y.val / dil < n := by rw [Nat.div_lt_iff_lt_mul (by omega), h]; exact y.isLt
  by_cases c : p = q.val ∧ y.val % dil = r
  · rw [if_pos c]
    have e : (ix3 q y l : S2x256x128.Idx) = (tile n dil p r hp hr h hn).emb (ix3 (0 : Fin 1) (⟨y.val / dil, hy⟩ : Fin n) l) := by
      funext a
      refine Fin.ext ?_
      match a with
      | ⟨0, _⟩ => show q.val = p + 1 * 0; omega
      | ⟨1, _⟩ => show y.val = r + dil * (y.val / dil); rw [← c.2]; exact (Nat.mod_add_div _ _).symm
      | ⟨2, _⟩ => show l.val = 0 + 1 * l.val; omega
    rw [e]
    exact View.canon_cons_emb _ w L _
  · rw [if_neg c]
    refine View.canon_cons_of_not_mem _ L fun hm => c ?_
    obtain ⟨x, hx⟩ := LoadRect.exists_idx_of_mem _ hm
    have h0 : p + 1 * (x 0).val = q.val := congrArg (fun i : S2x256x128.Idx => (i 0).val) hx
    have h1 : r + dil * (x 1).val = y.val := congrArg (fun i : S2x256x128.Idx => (i 1).val) hx
    have hx0 : (x 0).val < 1 := (x 0).isLt
    exact ⟨by omega, by rw [← h1, Nat.add_mul_mod_self_left, Nat.mod_eq_of_lt hr]⟩

theorem idx_plane {q : ℕ} (hq : q < 2) (inb) (y : Fin 256) (l : Fin 128) :
    (Rect.unit (s := S2x256x128) ![q, 0, 0] ![1, 256, 128] inb).toLoadRect.idx (ix3 (0 : Fin 1) y l) = ix3 (⟨q, hq⟩ : Fin 2) y l := by
  funext a
  refine Fin.ext ?_
  match a with
  | ⟨0, _⟩ => show q + 1 * 0 = q; omega
  | ⟨1, _⟩ => show 0 + 1 * y.val = y.val; omega
  | ⟨2, _⟩ => show 0 + 1 * l.val = l.val; omega

variable {D : Fin 256 → Fin 128 → ℝ}

/-- Plane 0 after the stores of 4 classes. -/
theorem plane4_0 {v : View sig .tc .vmem S2x256x128 .f32}
    {w0_3 : (tile 64 4 0 3 (by decide) (by decide) (by decide) (by decide)).shape.Idx → Elt Ideal .f32}
    {w1_2 : (tile 64 4 1 2 (by decide) (by decide) (by decide) (by decide)).shape.Idx → Elt Ideal .f32}
    {w0_2 : (tile 64 4 0 2 (by decide) (by decide) (by decide) (by decide)).shape.Idx → Elt Ideal .f32}
    {w1_1 : (tile 64 4 1 1 (by decide) (by decide) (by decide) (by decide)).shape.Idx → Elt Ideal .f32}
    {w0_1 : (tile 64 4 0 1 (by decide) (by decide) (by decide) (by decide)).shape.Idx → Elt Ideal .f32}
    {w1_0 : (tile 64 4 1 0 (by decide) (by decide) (by decide) (by decide)).shape.Idx → Elt Ideal .f32}
    {w0_0 : (tile 64 4 0 0 (by decide) (by decide) (by decide) (by decide)).shape.Idx → Elt Ideal .f32}
    {L : List (View.Piece (Elt Ideal) S2x256x128 .f32)} {inb}
    (h0 : ∀ (i : Fin 64) (l : Fin 128), w0_0 (ix3 (0 : Fin 1) i l) = ((D ⟨i.val * 4 + 0, by omega⟩ l : ℝ) : EReal))
    (h1 : ∀ (i : Fin 64) (l : Fin 128), w0_1 (ix3 (0 : Fin 1) i l) = ((D ⟨i.val * 4 + 1, by omega⟩ l : ℝ) : EReal))
    (h2 : ∀ (i : Fin 64) (l : Fin 128), w0_2 (ix3 (0 : Fin 1) i l) = ((D ⟨i.val * 4 + 2, by omega⟩ l : ℝ) : EReal))
    (h3 : ∀ (i : Fin 64) (l : Fin 128), w0_3 (ix3 (0 : Fin 1) i l) = ((D ⟨i.val * 4 + 3, by omega⟩ l : ℝ) : EReal))
    (y : Fin 256) (l : Fin 128) :
    v.readCov (⟨tile 64 4 0 3 (by decide) (by decide) (by decide) (by decide), w0_3⟩ ::
      ⟨tile 64 4 1 2 (by decide) (by decide) (by decide) (by decide), w1_2⟩ ::
      ⟨tile 64 4 0 2 (by decide) (by decide) (by decide) (by decide), w0_2⟩ ::
      ⟨tile 64 4 1 1 (by decide) (by decide) (by decide) (by decide), w1_1⟩ ::
      ⟨tile 64 4 0 1 (by decide) (by decide) (by decide) (by decide), w0_1⟩ ::
      ⟨tile 64 4 1 0 (by decide) (by decide) (by decide) (by decide), w1_0⟩ ::
      ⟨tile 64 4 0 0 (by decide) (by decide) (by decide) (by decide), w0_0⟩ :: L)
      (Rect.unit (s := S2x256x128) ![0, 0, 0] ![1, 256, 128] inb).toLoadRect (ix3 (0 : Fin 1) y l) = ((D y l : ℝ) : EReal) := by
  rw [View.readCov_eq_canon']
  dsimp only
  rw [idx_plane (by decide) inb y l]
  have fin_congr : ∀ (a : ℕ) (ha : a < 256), a = y.val → ((D ⟨a, ha⟩ l : ℝ) : EReal) = ((D y l : ℝ) : EReal) := fun a ha e => by subst e; rfl
  have hm : y.val % 4 < 4 := Nat.mod_lt _ (by decide)
  have hd := Nat.mod_add_div y.val 4
  rw [canon_tile]
  by_cases c3 : y.val % 4 = 3
  · rw [if_pos ⟨rfl, c3⟩, h3]; exact fin_congr _ _ (by dsimp only; omega)
  rw [if_neg (fun h => c3 h.2)]
  rw [canon_tile, if_neg (by simp)]
  rw [canon_tile]
  by_cases c2 : y.val % 4 = 2
  · rw [if_pos ⟨rfl, c2⟩, h2]; exact fin_congr _ _ (by dsimp only; omega)
  rw [if_neg (fun h => c2 h.2)]
  rw [canon_tile, if_neg (by simp)]
  rw [canon_tile]
  by_cases c1 : y.val % 4 = 1
  · rw [if_pos ⟨rfl, c1⟩, h1]; exact fin_congr _ _ (by dsimp only; omega)
  rw [if_neg (fun h => c1 h.2)]
  rw [canon_tile, if_neg (by simp)]
  rw [canon_tile]
  by_cases c0 : y.val % 4 = 0
  · rw [if_pos ⟨rfl, c0⟩, h0]; exact fin_congr _ _ (by dsimp only; omega)
  rw [if_neg (fun h => c0 h.2)]
  exact absurd hm (by omega)

/-- Plane 1 after the stores of 4 classes. -/
theorem plane4_1 {v : View sig .tc .vmem S2x256x128 .f32}
    {w1_3 : (tile 64 4 1 3 (by decide) (by decide) (by decide) (by decide)).shape.Idx → Elt Ideal .f32}
    {w0_3 : (tile 64 4 0 3 (by decide) (by decide) (by decide) (by decide)).shape.Idx → Elt Ideal .f32}
    {w1_2 : (tile 64 4 1 2 (by decide) (by decide) (by decide) (by decide)).shape.Idx → Elt Ideal .f32}
    {w0_2 : (tile 64 4 0 2 (by decide) (by decide) (by decide) (by decide)).shape.Idx → Elt Ideal .f32}
    {w1_1 : (tile 64 4 1 1 (by decide) (by decide) (by decide) (by decide)).shape.Idx → Elt Ideal .f32}
    {w0_1 : (tile 64 4 0 1 (by decide) (by decide) (by decide) (by decide)).shape.Idx → Elt Ideal .f32}
    {w1_0 : (tile 64 4 1 0 (by decide) (by decide) (by decide) (by decide)).shape.Idx → Elt Ideal .f32}
    {w0_0 : (tile 64 4 0 0 (by decide) (by decide) (by decide) (by decide)).shape.Idx → Elt Ideal .f32}
    {L : List (View.Piece (Elt Ideal) S2x256x128 .f32)} {inb}
    (h0 : ∀ (i : Fin 64) (l : Fin 128), w1_0 (ix3 (0 : Fin 1) i l) = ((D ⟨i.val * 4 + 0, by omega⟩ l : ℝ) : EReal))
    (h1 : ∀ (i : Fin 64) (l : Fin 128), w1_1 (ix3 (0 : Fin 1) i l) = ((D ⟨i.val * 4 + 1, by omega⟩ l : ℝ) : EReal))
    (h2 : ∀ (i : Fin 64) (l : Fin 128), w1_2 (ix3 (0 : Fin 1) i l) = ((D ⟨i.val * 4 + 2, by omega⟩ l : ℝ) : EReal))
    (h3 : ∀ (i : Fin 64) (l : Fin 128), w1_3 (ix3 (0 : Fin 1) i l) = ((D ⟨i.val * 4 + 3, by omega⟩ l : ℝ) : EReal))
    (y : Fin 256) (l : Fin 128) :
    v.readCov (⟨tile 64 4 1 3 (by decide) (by decide) (by decide) (by decide), w1_3⟩ ::
      ⟨tile 64 4 0 3 (by decide) (by decide) (by decide) (by decide), w0_3⟩ ::
      ⟨tile 64 4 1 2 (by decide) (by decide) (by decide) (by decide), w1_2⟩ ::
      ⟨tile 64 4 0 2 (by decide) (by decide) (by decide) (by decide), w0_2⟩ ::
      ⟨tile 64 4 1 1 (by decide) (by decide) (by decide) (by decide), w1_1⟩ ::
      ⟨tile 64 4 0 1 (by decide) (by decide) (by decide) (by decide), w0_1⟩ ::
      ⟨tile 64 4 1 0 (by decide) (by decide) (by decide) (by decide), w1_0⟩ ::
      ⟨tile 64 4 0 0 (by decide) (by decide) (by decide) (by decide), w0_0⟩ :: L)
      (Rect.unit (s := S2x256x128) ![1, 0, 0] ![1, 256, 128] inb).toLoadRect (ix3 (0 : Fin 1) y l) = ((D y l : ℝ) : EReal) := by
  rw [View.readCov_eq_canon']
  dsimp only
  rw [idx_plane (by decide) inb y l]
  have fin_congr : ∀ (a : ℕ) (ha : a < 256), a = y.val → ((D ⟨a, ha⟩ l : ℝ) : EReal) = ((D y l : ℝ) : EReal) := fun a ha e => by subst e; rfl
  have hm : y.val % 4 < 4 := Nat.mod_lt _ (by decide)
  have hd := Nat.mod_add_div y.val 4
  rw [canon_tile]
  by_cases c3 : y.val % 4 = 3
  · rw [if_pos ⟨rfl, c3⟩, h3]; exact fin_congr _ _ (by dsimp only; omega)
  rw [if_neg (fun h => c3 h.2)]
  rw [canon_tile, if_neg (by simp)]
  rw [canon_tile]
  by_cases c2 : y.val % 4 = 2
  · rw [if_pos ⟨rfl, c2⟩, h2]; exact fin_congr _ _ (by dsimp only; omega)
  rw [if_neg (fun h => c2 h.2)]
  rw [canon_tile, if_neg (by simp)]
  rw [canon_tile]
  by_cases c1 : y.val % 4 = 1
  · rw [if_pos ⟨rfl, c1⟩, h1]; exact fin_congr _ _ (by dsimp only; omega)
  rw [if_neg (fun h => c1 h.2)]
  rw [canon_tile, if_neg (by simp)]
  rw [canon_tile]
  by_cases c0 : y.val % 4 = 0
  · rw [if_pos ⟨rfl, c0⟩, h0]; exact fin_congr _ _ (by dsimp only; omega)
  rw [if_neg (fun h => c0 h.2)]
  rw [canon_tile, if_neg (by simp)]
  exact absurd hm (by omega)

set_option maxHeartbeats 2000000 in
/-- Plane 0 after the stores of 16 classes. -/
theorem plane16_0 {v : View sig .tc .vmem S2x256x128 .f32}
    {w0_15 : (tile 16 16 0 15 (by decide) (by decide) (by decide) (by decide)).shape.Idx → Elt Ideal .f32}
    {w1_14 : (tile 16 16 1 14 (by decide) (by decide) (by decide) (by decide)).shape.Idx → Elt Ideal .f32}
    {w0_14 : (tile 16 16 0 14 (by decide) (by decide) (by decide) (by decide)).shape.Idx → Elt Ideal .f32}
    {w1_13 : (tile 16 16 1 13 (by decide) (by decide) (by decide) (by decide)).shape.Idx → Elt Ideal .f32}
    {w0_13 : (tile 16 16 0 13 (by decide) (by decide) (by decide) (by decide)).shape.Idx → Elt Ideal .f32}
    {w1_12 : (tile 16 16 1 12 (by decide) (by decide) (by decide) (by decide)).shape.Idx → Elt Ideal .f32}
    {w0_12 : (tile 16 16 0 12 (by decide) (by decide) (by decide) (by decide)).shape.Idx → Elt Ideal .f32}
    {w1_11 : (tile 16 16 1 11 (by decide) (by decide) (by decide) (by decide)).shape.Idx → Elt Ideal .f32}
    {w0_11 : (tile 16 16 0 11 (by decide) (by decide) (by decide) (by decide)).shape.Idx → Elt Ideal .f32}
    {w1_10 : (tile 16 16 1 10 (by decide) (by decide) (by decide) (by decide)).shape.Idx → Elt Ideal .f32}
    {w0_10 : (tile 16 16 0 10 (by decide) (by decide) (by decide) (by decide)).shape.Idx → Elt Ideal .f32}
    {w1_9 : (tile 16 16 1 9 (by decide) (by decide) (by decide) (by decide)).shape.Idx → Elt Ideal .f32}
    {w0_9 : (tile 16 16 0 9 (by decide) (by decide) (by decide) (by decide)).shape.Idx → Elt Ideal .f32}
    {w1_8 : (tile 16 16 1 8 (by decide) (by decide) (by decide) (by decide)).shape.Idx → Elt Ideal .f32}
    {w0_8 : (tile 16 16 0 8 (by decide) (by decide) (by decide) (by decide)).shape.Idx → Elt Ideal .f32}
    {w1_7 : (tile 16 16 1 7 (by decide) (by decide) (by decide) (by decide)).shape.Idx → Elt Ideal .f32}
    {w0_7 : (tile 16 16 0 7 (by decide) (by decide) (by decide) (by decide)).shape.Idx → Elt Ideal .f32}
    {w1_6 : (tile 16 16 1 6 (by decide) (by decide) (by decide) (by decide)).shape.Idx → Elt Ideal .f32}
    {w0_6 : (tile 16 16 0 6 (by decide) (by decide) (by decide) (by decide)).shape.Idx → Elt Ideal .f32}
    {w1_5 : (tile 16 16 1 5 (by decide) (by decide) (by decide) (by decide)).shape.Idx → Elt Ideal .f32}
    {w0_5 : (tile 16 16 0 5 (by decide) (by decide) (by decide) (by decide)).shape.Idx → Elt Ideal .f32}
    {w1_4 : (tile 16 16 1 4 (by decide) (by decide) (by decide) (by decide)).shape.Idx → Elt Ideal .f32}
    {w0_4 : (tile 16 16 0 4 (by decide) (by decide) (by decide) (by decide)).shape.Idx → Elt Ideal .f32}
    {w1_3 : (tile 16 16 1 3 (by decide) (by decide) (by decide) (by decide)).shape.Idx → Elt Ideal .f32}
    {w0_3 : (tile 16 16 0 3 (by decide) (by decide) (by decide) (by decide)).shape.Idx → Elt Ideal .f32}
    {w1_2 : (tile 16 16 1 2 (by decide) (by decide) (by decide) (by decide)).shape.Idx → Elt Ideal .f32}
    {w0_2 : (tile 16 16 0 2 (by decide) (by decide) (by decide) (by decide)).shape.Idx → Elt Ideal .f32}
    {w1_1 : (tile 16 16 1 1 (by decide) (by decide) (by decide) (by decide)).shape.Idx → Elt Ideal .f32}
    {w0_1 : (tile 16 16 0 1 (by decide) (by decide) (by decide) (by decide)).shape.Idx → Elt Ideal .f32}
    {w1_0 : (tile 16 16 1 0 (by decide) (by decide) (by decide) (by decide)).shape.Idx → Elt Ideal .f32}
    {w0_0 : (tile 16 16 0 0 (by decide) (by decide) (by decide) (by decide)).shape.Idx → Elt Ideal .f32}
    {L : List (View.Piece (Elt Ideal) S2x256x128 .f32)} {inb}
    (h0 : ∀ (i : Fin 16) (l : Fin 128), w0_0 (ix3 (0 : Fin 1) i l) = ((D ⟨i.val * 16 + 0, by omega⟩ l : ℝ) : EReal))
    (h1 : ∀ (i : Fin 16) (l : Fin 128), w0_1 (ix3 (0 : Fin 1) i l) = ((D ⟨i.val * 16 + 1, by omega⟩ l : ℝ) : EReal))
    (h2 : ∀ (i : Fin 16) (l : Fin 128), w0_2 (ix3 (0 : Fin 1) i l) = ((D ⟨i.val * 16 + 2, by omega⟩ l : ℝ) : EReal))
    (h3 : ∀ (i : Fin 16) (l : Fin 128), w0_3 (ix3 (0 : Fin 1) i l) = ((D ⟨i.val * 16 + 3, by omega⟩ l : ℝ) : EReal))
    (h4 : ∀ (i : Fin 16) (l : Fin 128), w0_4 (ix3 (0 : Fin 1) i l) = ((D ⟨i.val * 16 + 4, by omega⟩ l : ℝ) : EReal))
    (h5 : ∀ (i : Fin 16) (l : Fin 128), w0_5 (ix3 (0 : Fin 1) i l) = ((D ⟨i.val * 16 + 5, by omega⟩ l : ℝ) : EReal))
    (h6 : ∀ (i : Fin 16) (l : Fin 128), w0_6 (ix3 (0 : Fin 1) i l) = ((D ⟨i.val * 16 + 6, by omega⟩ l : ℝ) : EReal))
    (h7 : ∀ (i : Fin 16) (l : Fin 128), w0_7 (ix3 (0 : Fin 1) i l) = ((D ⟨i.val * 16 + 7, by omega⟩ l : ℝ) : EReal))
    (h8 : ∀ (i : Fin 16) (l : Fin 128), w0_8 (ix3 (0 : Fin 1) i l) = ((D ⟨i.val * 16 + 8, by omega⟩ l : ℝ) : EReal))
    (h9 : ∀ (i : Fin 16) (l : Fin 128), w0_9 (ix3 (0 : Fin 1) i l) = ((D ⟨i.val * 16 + 9, by omega⟩ l : ℝ) : EReal))
    (h10 : ∀ (i : Fin 16) (l : Fin 128), w0_10 (ix3 (0 : Fin 1) i l) = ((D ⟨i.val * 16 + 10, by omega⟩ l : ℝ) : EReal))
    (h11 : ∀ (i : Fin 16) (l : Fin 128), w0_11 (ix3 (0 : Fin 1) i l) = ((D ⟨i.val * 16 + 11, by omega⟩ l : ℝ) : EReal))
    (h12 : ∀ (i : Fin 16) (l : Fin 128), w0_12 (ix3 (0 : Fin 1) i l) = ((D ⟨i.val * 16 + 12, by omega⟩ l : ℝ) : EReal))
    (h13 : ∀ (i : Fin 16) (l : Fin 128), w0_13 (ix3 (0 : Fin 1) i l) = ((D ⟨i.val * 16 + 13, by omega⟩ l : ℝ) : EReal))
    (h14 : ∀ (i : Fin 16) (l : Fin 128), w0_14 (ix3 (0 : Fin 1) i l) = ((D ⟨i.val * 16 + 14, by omega⟩ l : ℝ) : EReal))
    (h15 : ∀ (i : Fin 16) (l : Fin 128), w0_15 (ix3 (0 : Fin 1) i l) = ((D ⟨i.val * 16 + 15, by omega⟩ l : ℝ) : EReal))
    (y : Fin 256) (l : Fin 128) :
    v.readCov (⟨tile 16 16 0 15 (by decide) (by decide) (by decide) (by decide), w0_15⟩ ::
      ⟨tile 16 16 1 14 (by decide) (by decide) (by decide) (by decide), w1_14⟩ ::
      ⟨tile 16 16 0 14 (by decide) (by decide) (by decide) (by decide), w0_14⟩ ::
      ⟨tile 16 16 1 13 (by decide) (by decide) (by decide) (by decide), w1_13⟩ ::
      ⟨tile 16 16 0 13 (by decide) (by decide) (by decide) (by decide), w0_13⟩ ::
      ⟨tile 16 16 1 12 (by decide) (by decide) (by decide) (by decide), w1_12⟩ ::
      ⟨tile 16 16 0 12 (by decide) (by decide) (by decide) (by decide), w0_12⟩ ::
      ⟨tile 16 16 1 11 (by decide) (by decide) (by decide) (by decide), w1_11⟩ ::
      ⟨tile 16 16 0 11 (by decide) (by decide) (by decide) (by decide), w0_11⟩ ::
      ⟨tile 16 16 1 10 (by decide) (by decide) (by decide) (by decide), w1_10⟩ ::
      ⟨tile 16 16 0 10 (by decide) (by decide) (by decide) (by decide), w0_10⟩ ::
      ⟨tile 16 16 1 9 (by decide) (by decide) (by decide) (by decide), w1_9⟩ ::
      ⟨tile 16 16 0 9 (by decide) (by decide) (by decide) (by decide), w0_9⟩ ::
      ⟨tile 16 16 1 8 (by decide) (by decide) (by decide) (by decide), w1_8⟩ ::
      ⟨tile 16 16 0 8 (by decide) (by decide) (by decide) (by decide), w0_8⟩ ::
      ⟨tile 16 16 1 7 (by decide) (by decide) (by decide) (by decide), w1_7⟩ ::
      ⟨tile 16 16 0 7 (by decide) (by decide) (by decide) (by decide), w0_7⟩ ::
      ⟨tile 16 16 1 6 (by decide) (by decide) (by decide) (by decide), w1_6⟩ ::
      ⟨tile 16 16 0 6 (by decide) (by decide) (by decide) (by decide), w0_6⟩ ::
      ⟨tile 16 16 1 5 (by decide) (by decide) (by decide) (by decide), w1_5⟩ ::
      ⟨tile 16 16 0 5 (by decide) (by decide) (by decide) (by decide), w0_5⟩ ::
      ⟨tile 16 16 1 4 (by decide) (by decide) (by decide) (by decide), w1_4⟩ ::
      ⟨tile 16 16 0 4 (by decide) (by decide) (by decide) (by decide), w0_4⟩ ::
      ⟨tile 16 16 1 3 (by decide) (by decide) (by decide) (by decide), w1_3⟩ ::
      ⟨tile 16 16 0 3 (by decide) (by decide) (by decide) (by decide), w0_3⟩ ::
      ⟨tile 16 16 1 2 (by decide) (by decide) (by decide) (by decide), w1_2⟩ ::
      ⟨tile 16 16 0 2 (by decide) (by decide) (by decide) (by decide), w0_2⟩ ::
      ⟨tile 16 16 1 1 (by decide) (by decide) (by decide) (by decide), w1_1⟩ ::
      ⟨tile 16 16 0 1 (by decide) (by decide) (by decide) (by decide), w0_1⟩ ::
      ⟨tile 16 16 1 0 (by decide) (by decide) (by decide) (by decide), w1_0⟩ ::
      ⟨tile 16 16 0 0 (by decide) (by decide) (by decide) (by decide), w0_0⟩ :: L)
      (Rect.unit (s := S2x256x128) ![0, 0, 0] ![1, 256, 128] inb).toLoadRect (ix3 (0 : Fin 1) y l) = ((D y l : ℝ) : EReal) := by
  rw [View.readCov_eq_canon']
  dsimp only
  rw [idx_plane (by decide) inb y l]
  have fin_congr : ∀ (a : ℕ) (ha : a < 256), a = y.val → ((D ⟨a, ha⟩ l : ℝ) : EReal) = ((D y l : ℝ) : EReal) := fun a ha e => by subst e; rfl
  have hm : y.val % 16 < 16 := Nat.mod_lt _ (by decide)
  have hd := Nat.mod_add_div y.val 16
  rw [canon_tile]
  by_cases c15 : y.val % 16 = 15
  · rw [if_pos ⟨rfl, c15⟩, h15]; exact fin_congr _ _ (by dsimp only; omega)
  rw [if_neg (fun h => c15 h.2)]
  rw [canon_tile, if_neg (by simp)]
  rw [canon_tile]
  by_cases c14 : y.val % 16 = 14
  · rw [if_pos ⟨rfl, c14⟩, h14]; exact fin_congr _ _ (by dsimp only; omega)
  rw [if_neg (fun h => c14 h.2)]
  rw [canon_tile, if_neg (by simp)]
  rw [canon_tile]
  by_cases c13 : y.val % 16 = 13
  · rw [if_pos ⟨rfl, c13⟩, h13]; exact fin_congr _ _ (by dsimp only; omega)
  rw [if_neg (fun h => c13 h.2)]
  rw [canon_tile, if_neg (by simp)]
  rw [canon_tile]
  by_cases c12 : y.val % 16 = 12
  · rw [if_pos ⟨rfl, c12⟩, h12]; exact fin_congr _ _ (by dsimp only; omega)
  rw [if_neg (fun h => c12 h.2)]
  rw [canon_tile, if_neg (by simp)]
  rw [canon_tile]
  by_cases c11 : y.val % 16 = 11
  · rw [if_pos ⟨rfl, c11⟩, h11]; exact fin_congr _ _ (by dsimp only; omega)
  rw [if_neg (fun h => c11 h.2)]
  rw [canon_tile, if_neg (by simp)]
  rw [canon_tile]
  by_cases c10 : y.val % 16 = 10
  · rw [if_pos ⟨rfl, c10⟩, h10]; exact fin_congr _ _ (by dsimp only; omega)
  rw [if_neg (fun h => c10 h.2)]
  rw [canon_tile, if_neg (by simp)]
  rw [canon_tile]
  by_cases c9 : y.val % 16 = 9
  · rw [if_pos ⟨rfl, c9⟩, h9]; exact fin_congr _ _ (by dsimp only; omega)
  rw [if_neg (fun h => c9 h.2)]
  rw [canon_tile, if_neg (by simp)]
  rw [canon_tile]
  by_cases c8 : y.val % 16 = 8
  · rw [if_pos ⟨rfl, c8⟩, h8]; exact fin_congr _ _ (by dsimp only; omega)
  rw [if_neg (fun h => c8 h.2)]
  rw [canon_tile, if_neg (by simp)]
  rw [canon_tile]
  by_cases c7 : y.val % 16 = 7
  · rw [if_pos ⟨rfl, c7⟩, h7]; exact fin_congr _ _ (by dsimp only; omega)
  rw [if_neg (fun h => c7 h.2)]
  rw [canon_tile, if_neg (by simp)]
  rw [canon_tile]
  by_cases c6 : y.val % 16 = 6
  · rw [if_pos ⟨rfl, c6⟩, h6]; exact fin_congr _ _ (by dsimp only; omega)
  rw [if_neg (fun h => c6 h.2)]
  rw [canon_tile, if_neg (by simp)]
  rw [canon_tile]
  by_cases c5 : y.val % 16 = 5
  · rw [if_pos ⟨rfl, c5⟩, h5]; exact fin_congr _ _ (by dsimp only; omega)
  rw [if_neg (fun h => c5 h.2)]
  rw [canon_tile, if_neg (by simp)]
  rw [canon_tile]
  by_cases c4 : y.val % 16 = 4
  · rw [if_pos ⟨rfl, c4⟩, h4]; exact fin_congr _ _ (by dsimp only; omega)
  rw [if_neg (fun h => c4 h.2)]
  rw [canon_tile, if_neg (by simp)]
  rw [canon_tile]
  by_cases c3 : y.val % 16 = 3
  · rw [if_pos ⟨rfl, c3⟩, h3]; exact fin_congr _ _ (by dsimp only; omega)
  rw [if_neg (fun h => c3 h.2)]
  rw [canon_tile, if_neg (by simp)]
  rw [canon_tile]
  by_cases c2 : y.val % 16 = 2
  · rw [if_pos ⟨rfl, c2⟩, h2]; exact fin_congr _ _ (by dsimp only; omega)
  rw [if_neg (fun h => c2 h.2)]
  rw [canon_tile, if_neg (by simp)]
  rw [canon_tile]
  by_cases c1 : y.val % 16 = 1
  · rw [if_pos ⟨rfl, c1⟩, h1]; exact fin_congr _ _ (by dsimp only; omega)
  rw [if_neg (fun h => c1 h.2)]
  rw [canon_tile, if_neg (by simp)]
  rw [canon_tile]
  by_cases c0 : y.val % 16 = 0
  · rw [if_pos ⟨rfl, c0⟩, h0]; exact fin_congr _ _ (by dsimp only; omega)
  rw [if_neg (fun h => c0 h.2)]
  exact absurd hm (by omega)

set_option maxHeartbeats 2000000 in
/-- Plane 1 after the stores of 16 classes. -/
theorem plane16_1 {v : View sig .tc .vmem S2x256x128 .f32}
    {w1_15 : (tile 16 16 1 15 (by decide) (by decide) (by decide) (by decide)).shape.Idx → Elt Ideal .f32}
    {w0_15 : (tile 16 16 0 15 (by decide) (by decide) (by decide) (by decide)).shape.Idx → Elt Ideal .f32}
    {w1_14 : (tile 16 16 1 14 (by decide) (by decide) (by decide) (by decide)).shape.Idx → Elt Ideal .f32}
    {w0_14 : (tile 16 16 0 14 (by decide) (by decide) (by decide) (by decide)).shape.Idx → Elt Ideal .f32}
    {w1_13 : (tile 16 16 1 13 (by decide) (by decide) (by decide) (by decide)).shape.Idx → Elt Ideal .f32}
    {w0_13 : (tile 16 16 0 13 (by decide) (by decide) (by decide) (by decide)).shape.Idx → Elt Ideal .f32}
    {w1_12 : (tile 16 16 1 12 (by decide) (by decide) (by decide) (by decide)).shape.Idx → Elt Ideal .f32}
    {w0_12 : (tile 16 16 0 12 (by decide) (by decide) (by decide) (by decide)).shape.Idx → Elt Ideal .f32}
    {w1_11 : (tile 16 16 1 11 (by decide) (by decide) (by decide) (by decide)).shape.Idx → Elt Ideal .f32}
    {w0_11 : (tile 16 16 0 11 (by decide) (by decide) (by decide) (by decide)).shape.Idx → Elt Ideal .f32}
    {w1_10 : (tile 16 16 1 10 (by decide) (by decide) (by decide) (by decide)).shape.Idx → Elt Ideal .f32}
    {w0_10 : (tile 16 16 0 10 (by decide) (by decide) (by decide) (by decide)).shape.Idx → Elt Ideal .f32}
    {w1_9 : (tile 16 16 1 9 (by decide) (by decide) (by decide) (by decide)).shape.Idx → Elt Ideal .f32}
    {w0_9 : (tile 16 16 0 9 (by decide) (by decide) (by decide) (by decide)).shape.Idx → Elt Ideal .f32}
    {w1_8 : (tile 16 16 1 8 (by decide) (by decide) (by decide) (by decide)).shape.Idx → Elt Ideal .f32}
    {w0_8 : (tile 16 16 0 8 (by decide) (by decide) (by decide) (by decide)).shape.Idx → Elt Ideal .f32}
    {w1_7 : (tile 16 16 1 7 (by decide) (by decide) (by decide) (by decide)).shape.Idx → Elt Ideal .f32}
    {w0_7 : (tile 16 16 0 7 (by decide) (by decide) (by decide) (by decide)).shape.Idx → Elt Ideal .f32}
    {w1_6 : (tile 16 16 1 6 (by decide) (by decide) (by decide) (by decide)).shape.Idx → Elt Ideal .f32}
    {w0_6 : (tile 16 16 0 6 (by decide) (by decide) (by decide) (by decide)).shape.Idx → Elt Ideal .f32}
    {w1_5 : (tile 16 16 1 5 (by decide) (by decide) (by decide) (by decide)).shape.Idx → Elt Ideal .f32}
    {w0_5 : (tile 16 16 0 5 (by decide) (by decide) (by decide) (by decide)).shape.Idx → Elt Ideal .f32}
    {w1_4 : (tile 16 16 1 4 (by decide) (by decide) (by decide) (by decide)).shape.Idx → Elt Ideal .f32}
    {w0_4 : (tile 16 16 0 4 (by decide) (by decide) (by decide) (by decide)).shape.Idx → Elt Ideal .f32}
    {w1_3 : (tile 16 16 1 3 (by decide) (by decide) (by decide) (by decide)).shape.Idx → Elt Ideal .f32}
    {w0_3 : (tile 16 16 0 3 (by decide) (by decide) (by decide) (by decide)).shape.Idx → Elt Ideal .f32}
    {w1_2 : (tile 16 16 1 2 (by decide) (by decide) (by decide) (by decide)).shape.Idx → Elt Ideal .f32}
    {w0_2 : (tile 16 16 0 2 (by decide) (by decide) (by decide) (by decide)).shape.Idx → Elt Ideal .f32}
    {w1_1 : (tile 16 16 1 1 (by decide) (by decide) (by decide) (by decide)).shape.Idx → Elt Ideal .f32}
    {w0_1 : (tile 16 16 0 1 (by decide) (by decide) (by decide) (by decide)).shape.Idx → Elt Ideal .f32}
    {w1_0 : (tile 16 16 1 0 (by decide) (by decide) (by decide) (by decide)).shape.Idx → Elt Ideal .f32}
    {w0_0 : (tile 16 16 0 0 (by decide) (by decide) (by decide) (by decide)).shape.Idx → Elt Ideal .f32}
    {L : List (View.Piece (Elt Ideal) S2x256x128 .f32)} {inb}
    (h0 : ∀ (i : Fin 16) (l : Fin 128), w1_0 (ix3 (0 : Fin 1) i l) = ((D ⟨i.val * 16 + 0, by omega⟩ l : ℝ) : EReal))
    (h1 : ∀ (i : Fin 16) (l : Fin 128), w1_1 (ix3 (0 : Fin 1) i l) = ((D ⟨i.val * 16 + 1, by omega⟩ l : ℝ) : EReal))
    (h2 : ∀ (i : Fin 16) (l : Fin 128), w1_2 (ix3 (0 : Fin 1) i l) = ((D ⟨i.val * 16 + 2, by omega⟩ l : ℝ) : EReal))
    (h3 : ∀ (i : Fin 16) (l : Fin 128), w1_3 (ix3 (0 : Fin 1) i l) = ((D ⟨i.val * 16 + 3, by omega⟩ l : ℝ) : EReal))
    (h4 : ∀ (i : Fin 16) (l : Fin 128), w1_4 (ix3 (0 : Fin 1) i l) = ((D ⟨i.val * 16 + 4, by omega⟩ l : ℝ) : EReal))
    (h5 : ∀ (i : Fin 16) (l : Fin 128), w1_5 (ix3 (0 : Fin 1) i l) = ((D ⟨i.val * 16 + 5, by omega⟩ l : ℝ) : EReal))
    (h6 : ∀ (i : Fin 16) (l : Fin 128), w1_6 (ix3 (0 : Fin 1) i l) = ((D ⟨i.val * 16 + 6, by omega⟩ l : ℝ) : EReal))
    (h7 : ∀ (i : Fin 16) (l : Fin 128), w1_7 (ix3 (0 : Fin 1) i l) = ((D ⟨i.val * 16 + 7, by omega⟩ l : ℝ) : EReal))
    (h8 : ∀ (i : Fin 16) (l : Fin 128), w1_8 (ix3 (0 : Fin 1) i l) = ((D ⟨i.val * 16 + 8, by omega⟩ l : ℝ) : EReal))
    (h9 : ∀ (i : Fin 16) (l : Fin 128), w1_9 (ix3 (0 : Fin 1) i l) = ((D ⟨i.val * 16 + 9, by omega⟩ l : ℝ) : EReal))
    (h10 : ∀ (i : Fin 16) (l : Fin 128), w1_10 (ix3 (0 : Fin 1) i l) = ((D ⟨i.val * 16 + 10, by omega⟩ l : ℝ) : EReal))
    (h11 : ∀ (i : Fin 16) (l : Fin 128), w1_11 (ix3 (0 : Fin 1) i l) = ((D ⟨i.val * 16 + 11, by omega⟩ l : ℝ) : EReal))
    (h12 : ∀ (i : Fin 16) (l : Fin 128), w1_12 (ix3 (0 : Fin 1) i l) = ((D ⟨i.val * 16 + 12, by omega⟩ l : ℝ) : EReal))
    (h13 : ∀ (i : Fin 16) (l : Fin 128), w1_13 (ix3 (0 : Fin 1) i l) = ((D ⟨i.val * 16 + 13, by omega⟩ l : ℝ) : EReal))
    (h14 : ∀ (i : Fin 16) (l : Fin 128), w1_14 (ix3 (0 : Fin 1) i l) = ((D ⟨i.val * 16 + 14, by omega⟩ l : ℝ) : EReal))
    (h15 : ∀ (i : Fin 16) (l : Fin 128), w1_15 (ix3 (0 : Fin 1) i l) = ((D ⟨i.val * 16 + 15, by omega⟩ l : ℝ) : EReal))
    (y : Fin 256) (l : Fin 128) :
    v.readCov (⟨tile 16 16 1 15 (by decide) (by decide) (by decide) (by decide), w1_15⟩ ::
      ⟨tile 16 16 0 15 (by decide) (by decide) (by decide) (by decide), w0_15⟩ ::
      ⟨tile 16 16 1 14 (by decide) (by decide) (by decide) (by decide), w1_14⟩ ::
      ⟨tile 16 16 0 14 (by decide) (by decide) (by decide) (by decide), w0_14⟩ ::
      ⟨tile 16 16 1 13 (by decide) (by decide) (by decide) (by decide), w1_13⟩ ::
      ⟨tile 16 16 0 13 (by decide) (by decide) (by decide) (by decide), w0_13⟩ ::
      ⟨tile 16 16 1 12 (by decide) (by decide) (by decide) (by decide), w1_12⟩ ::
      ⟨tile 16 16 0 12 (by decide) (by decide) (by decide) (by decide), w0_12⟩ ::
      ⟨tile 16 16 1 11 (by decide) (by decide) (by decide) (by decide), w1_11⟩ ::
      ⟨tile 16 16 0 11 (by decide) (by decide) (by decide) (by decide), w0_11⟩ ::
      ⟨tile 16 16 1 10 (by decide) (by decide) (by decide) (by decide), w1_10⟩ ::
      ⟨tile 16 16 0 10 (by decide) (by decide) (by decide) (by decide), w0_10⟩ ::
      ⟨tile 16 16 1 9 (by decide) (by decide) (by decide) (by decide), w1_9⟩ ::
      ⟨tile 16 16 0 9 (by decide) (by decide) (by decide) (by decide), w0_9⟩ ::
      ⟨tile 16 16 1 8 (by decide) (by decide) (by decide) (by decide), w1_8⟩ ::
      ⟨tile 16 16 0 8 (by decide) (by decide) (by decide) (by decide), w0_8⟩ ::
      ⟨tile 16 16 1 7 (by decide) (by decide) (by decide) (by decide), w1_7⟩ ::
      ⟨tile 16 16 0 7 (by decide) (by decide) (by decide) (by decide), w0_7⟩ ::
      ⟨tile 16 16 1 6 (by decide) (by decide) (by decide) (by decide), w1_6⟩ ::
      ⟨tile 16 16 0 6 (by decide) (by decide) (by decide) (by decide), w0_6⟩ ::
      ⟨tile 16 16 1 5 (by decide) (by decide) (by decide) (by decide), w1_5⟩ ::
      ⟨tile 16 16 0 5 (by decide) (by decide) (by decide) (by decide), w0_5⟩ ::
      ⟨tile 16 16 1 4 (by decide) (by decide) (by decide) (by decide), w1_4⟩ ::
      ⟨tile 16 16 0 4 (by decide) (by decide) (by decide) (by decide), w0_4⟩ ::
      ⟨tile 16 16 1 3 (by decide) (by decide) (by decide) (by decide), w1_3⟩ ::
      ⟨tile 16 16 0 3 (by decide) (by decide) (by decide) (by decide), w0_3⟩ ::
      ⟨tile 16 16 1 2 (by decide) (by decide) (by decide) (by decide), w1_2⟩ ::
      ⟨tile 16 16 0 2 (by decide) (by decide) (by decide) (by decide), w0_2⟩ ::
      ⟨tile 16 16 1 1 (by decide) (by decide) (by decide) (by decide), w1_1⟩ ::
      ⟨tile 16 16 0 1 (by decide) (by decide) (by decide) (by decide), w0_1⟩ ::
      ⟨tile 16 16 1 0 (by decide) (by decide) (by decide) (by decide), w1_0⟩ ::
      ⟨tile 16 16 0 0 (by decide) (by decide) (by decide) (by decide), w0_0⟩ :: L)
      (Rect.unit (s := S2x256x128) ![1, 0, 0] ![1, 256, 128] inb).toLoadRect (ix3 (0 : Fin 1) y l) = ((D y l : ℝ) : EReal) := by
  rw [View.readCov_eq_canon']
  dsimp only
  rw [idx_plane (by decide) inb y l]
  have fin_congr : ∀ (a : ℕ) (ha : a < 256), a = y.val → ((D ⟨a, ha⟩ l : ℝ) : EReal) = ((D y l : ℝ) : EReal) := fun a ha e => by subst e; rfl
  have hm : y.val % 16 < 16 := Nat.mod_lt _ (by decide)
  have hd := Nat.mod_add_div y.val 16
  rw [canon_tile]
  by_cases c15 : y.val % 16 = 15
  · rw [if_pos ⟨rfl, c15⟩, h15]; exact fin_congr _ _ (by dsimp only; omega)
  rw [if_neg (fun h => c15 h.2)]
  rw [canon_tile, if_neg (by simp)]
  rw [canon_tile]
  by_cases c14 : y.val % 16 = 14
  · rw [if_pos ⟨rfl, c14⟩, h14]; exact fin_congr _ _ (by dsimp only; omega)
  rw [if_neg (fun h => c14 h.2)]
  rw [canon_tile, if_neg (by simp)]
  rw [canon_tile]
  by_cases c13 : y.val % 16 = 13
  · rw [if_pos ⟨rfl, c13⟩, h13]; exact fin_congr _ _ (by dsimp only; omega)
  rw [if_neg (fun h => c13 h.2)]
  rw [canon_tile, if_neg (by simp)]
  rw [canon_tile]
  by_cases c12 : y.val % 16 = 12
  · rw [if_pos ⟨rfl, c12⟩, h12]; exact fin_congr _ _ (by dsimp only; omega)
  rw [if_neg (fun h => c12 h.2)]
  rw [canon_tile, if_neg (by simp)]
  rw [canon_tile]
  by_cases c11 : y.val % 16 = 11
  · rw [if_pos ⟨rfl, c11⟩, h11]; exact fin_congr _ _ (by dsimp only; omega)
  rw [if_neg (fun h => c11 h.2)]
  rw [canon_tile, if_neg (by simp)]
  rw [canon_tile]
  by_cases c10 : y.val % 16 = 10
  · rw [if_pos ⟨rfl, c10⟩, h10]; exact fin_congr _ _ (by dsimp only; omega)
  rw [if_neg (fun h => c10 h.2)]
  rw [canon_tile, if_neg (by simp)]
  rw [canon_tile]
  by_cases c9 : y.val % 16 = 9
  · rw [if_pos ⟨rfl, c9⟩, h9]; exact fin_congr _ _ (by dsimp only; omega)
  rw [if_neg (fun h => c9 h.2)]
  rw [canon_tile, if_neg (by simp)]
  rw [canon_tile]
  by_cases c8 : y.val % 16 = 8
  · rw [if_pos ⟨rfl, c8⟩, h8]; exact fin_congr _ _ (by dsimp only; omega)
  rw [if_neg (fun h => c8 h.2)]
  rw [canon_tile, if_neg (by simp)]
  rw [canon_tile]
  by_cases c7 : y.val % 16 = 7
  · rw [if_pos ⟨rfl, c7⟩, h7]; exact fin_congr _ _ (by dsimp only; omega)
  rw [if_neg (fun h => c7 h.2)]
  rw [canon_tile, if_neg (by simp)]
  rw [canon_tile]
  by_cases c6 : y.val % 16 = 6
  · rw [if_pos ⟨rfl, c6⟩, h6]; exact fin_congr _ _ (by dsimp only; omega)
  rw [if_neg (fun h => c6 h.2)]
  rw [canon_tile, if_neg (by simp)]
  rw [canon_tile]
  by_cases c5 : y.val % 16 = 5
  · rw [if_pos ⟨rfl, c5⟩, h5]; exact fin_congr _ _ (by dsimp only; omega)
  rw [if_neg (fun h => c5 h.2)]
  rw [canon_tile, if_neg (by simp)]
  rw [canon_tile]
  by_cases c4 : y.val % 16 = 4
  · rw [if_pos ⟨rfl, c4⟩, h4]; exact fin_congr _ _ (by dsimp only; omega)
  rw [if_neg (fun h => c4 h.2)]
  rw [canon_tile, if_neg (by simp)]
  rw [canon_tile]
  by_cases c3 : y.val % 16 = 3
  · rw [if_pos ⟨rfl, c3⟩, h3]; exact fin_congr _ _ (by dsimp only; omega)
  rw [if_neg (fun h => c3 h.2)]
  rw [canon_tile, if_neg (by simp)]
  rw [canon_tile]
  by_cases c2 : y.val % 16 = 2
  · rw [if_pos ⟨rfl, c2⟩, h2]; exact fin_congr _ _ (by dsimp only; omega)
  rw [if_neg (fun h => c2 h.2)]
  rw [canon_tile, if_neg (by simp)]
  rw [canon_tile]
  by_cases c1 : y.val % 16 = 1
  · rw [if_pos ⟨rfl, c1⟩, h1]; exact fin_congr _ _ (by dsimp only; omega)
  rw [if_neg (fun h => c1 h.2)]
  rw [canon_tile, if_neg (by simp)]
  rw [canon_tile]
  by_cases c0 : y.val % 16 = 0
  · rw [if_pos ⟨rfl, c0⟩, h0]; exact fin_congr _ _ (by dsimp only; omega)
  rw [if_neg (fun h => c0 h.2)]
  rw [canon_tile, if_neg (by simp)]
  exact absurd hm (by omega)

end Cert.Kernel5Ideal.Value
-- ==== Proof.ProjHeads.lean ====
/-
  The head norms' part of the fifth kernel's body on blocks of finite numbers: the transposed rotation by two lane rolls,
  the gradient back through the norms of the queries' and of the keys' heads, and what a block adds to their gains.
-/
module
public import proofs.«01_k».proof.Proof.ProjHost
public import Idealize.ShloMosaic.Lib.Pipeline.ValueKit
@[expose] public section
set_option maxRecDepth 16384
noncomputable section
namespace Cert.Kernel5Ideal.Value
open Cert.Kernel5Ideal Cert.Kernel5Ideal.Gen Idealize.ShloMosaic Idealize.ShloMosaic.TcCoe Cert.Reals

/-- A gradient turned back by the two rolled products. -/
theorem turn_rolls (t : Fin 8192) (g : Fin 128 → ℝ) (l : Fin 128) :
    g l * Real.cos (Proj.angle t l)
      + g ⟨(l.val + 128 - 96) % 128, Nat.mod_lt _ (by decide)⟩ * upT t ⟨(l.val + 128 - 96) % 128, Nat.mod_lt _ (by decide)⟩
      + g ⟨(l.val + 128 - 32) % 128, Nat.mod_lt _ (by decide)⟩ * downT t ⟨(l.val + 128 - 32) % 128, Nat.mod_lt _ (by decide)⟩
      = Proj.turn t g l := by
  obtain ⟨l, hl⟩ := l
  have fin_congr : ∀ (a b : ℕ) (ha : a < 128) (hb : b < 128), a = b → g ⟨a, ha⟩ = g ⟨b, hb⟩ := fun a b ha hb e => by subst e; rfl
  unfold Proj.turn upT downT
  dsimp only
  by_cases b : l % 64 < 32
  · rw [dif_pos b, if_neg (show ¬ (l + 128 - 96) % 128 % 64 < 32 by omega), if_neg (show ¬ (l + 128 - 32) % 128 % 64 < 32 by omega), mul_zero, add_zero,
      fin_congr ((l + 128 - 96) % 128) (l + 32) _ (by omega) (by omega), add_comm]
    congr 3
    unfold Proj.angle
    dsimp only
    simp only [show (l + 128 - 96) % 128 % 32 = l % 32 by omega]
    by_cases a : l < 64
    · rw [if_pos a, if_pos (by omega)]
    · rw [if_neg a, if_neg (by omega)]
  · rw [dif_neg b, if_pos (show (l + 128 - 96) % 128 % 64 < 32 by omega), if_pos (show (l + 128 - 32) % 128 % 64 < 32 by omega), mul_zero, add_zero,
      fin_congr ((l + 128 - 32) % 128) (l - 32) _ (by omega) (by omega)]
    have e : Proj.angle t ⟨(l + 128 - 32) % 128, Nat.mod_lt _ (by decide)⟩ = Proj.angle t ⟨l, hl⟩ := by
      unfold Proj.angle
      dsimp only
      simp only [show (l + 128 - 32) % 128 % 32 = l % 32 by omega]
      by_cases a : l < 64
      · rw [if_pos a, if_pos (by omega)]
      · rw [if_neg a, if_neg (by omega)]
    rw [e]
    ring

section
variable (R : Fin 256 → Fin 8192) (co s1 s2 : FVec Ideal S1x256x128 .f32)
  (hc : ∀ p l, co (ix3 0 p l) = ((Real.cos (Proj.angle (R p) l) : ℝ) : EReal))
  (hu : ∀ p l, s1 (ix3 0 p l) = ((upT (R p) l : ℝ) : EReal))
  (hd : ∀ p l, s2 (ix3 0 p l) = ((downT (R p) l : ℝ) : EReal))

section
variable (a : FVec Ideal S8x256x128 .f32) (g : Fin 8 → Fin 256 → Fin 128 → ℝ) (ha : ∀ h p l, a (ix3 h p l) = ((g h p l : ℝ) : EReal))
  (v0 v1 v2 v3 v4 v5 v6 : FVec Ideal S256x128 .f32) (v7 : Vec Ideal S256x128 .f32) (z : Fin 8 → Fin 256 → Fin 128 → ℝ)
  (acc gain : Vec Ideal S1x128 .f32) (A Gq : Fin 128 → ℝ)
  (hacc : ∀ l, acc (ix2 0 l) = ((A l : ℝ) : EReal)) (hgain : ∀ l, gain (ix2 0 l) = ((Gq l : ℝ) : EReal))
  (h0 : ∀ p l, v0 (ix2 p l) = ((z 0 p l : ℝ) : EReal))
  (h1 : ∀ p l, v1 (ix2 p l) = ((z 1 p l : ℝ) : EReal))
  (h2 : ∀ p l, v2 (ix2 p l) = ((z 2 p l : ℝ) : EReal))
  (h3 : ∀ p l, v3 (ix2 p l) = ((z 3 p l : ℝ) : EReal))
  (h4 : ∀ p l, v4 (ix2 p l) = ((z 4 p l : ℝ) : EReal))
  (h5 : ∀ p l, v5 (ix2 p l) = ((z 5 p l : ℝ) : EReal))
  (h6 : ∀ p l, v6 (ix2 p l) = ((z 6 p l : ℝ) : EReal))
  (h7 : ∀ p l, v7 (ix2 p l) = ((z 7 p l : ℝ) : EReal))

include h0 h1 h2 h3 h4 h5 h6 h7
theorem stack8 (h : Fin 8) (p : Fin 256) (l : Fin 128) : k0_pay251 (F := Ideal) v0 v1 v2 v3 v4 v5 v6 v7 (ix3 h p l) = ((z h p l : ℝ) : EReal) := by
  pointwise [k0_pay251]
  simp only [h0, h1, h2, h3, h4, h5, h6, h7]
  fin_cases h <;> rfl

theorem scaled8 (h : Fin 8) (p : Fin 256) (l : Fin 128) :
    k0_pay243 (F := Ideal) v0 v1 v2 v3 v4 v5 v6 v7 (ix3 h p l) = ((z h p l * Proj.scale : ℝ) : EReal) := by
  pointwise [k0_pay243]
  simp only [h0, h1, h2, h3, h4, h5, h6, h7, word_scale]
  fin_cases h <;> exact (EReal.coe_mul _ _).symm

theorem rstd8 (h : Fin 8) (p : Fin 256) (e : Fin 1) :
    k0_pay253 (F := Ideal) v0 v1 v2 v3 v4 v5 v6 v7 (ix3 h p e) = ((rstd 128 (z h p) : ℝ) : EReal) := by
  pointwise [k0_pay253]
  simp only [stack8 v0 v1 v2 v3 v4 v5 v6 v7 z h0 h1 h2 h3 h4 h5 h6 h7, word_eps, word_128, ← EReal.coe_mul, ← EReal.coe_add, coe_sum,
    coe_div _ _ (show (128 : ℝ) ≠ 0 by norm_num), rsqrt_meanSq (show (0 : ℝ) < 128 by norm_num)]

theorem normed8 (h : Fin 8) (p : Fin 256) (l : Fin 128) :
    k0_pay254 (F := Ideal) v0 v1 v2 v3 v4 v5 v6 v7 (ix3 h p l) = ((z h p l * rstd 128 (z h p) : ℝ) : EReal) := by
  pointwise [k0_pay254]
  simp only [stack8 v0 v1 v2 v3 v4 v5 v6 v7 z h0 h1 h2 h3 h4 h5 h6 h7, rstd8 v0 v1 v2 v3 v4 v5 v6 v7 z h0 h1 h2 h3 h4 h5 h6 h7, ← EReal.coe_mul]
omit h0 h1 h2 h3 h4 h5 h6 h7

include hc hu hd ha
theorem turn8 (h : Fin 8) (p : Fin 256) (l : Fin 128) :
    k0_pay252 (F := Ideal) co s1 s2 a (ix3 h p l) = ((Proj.turn (R p) (g h p) l : ℝ) : EReal) := by
  rw [← turn_rolls]
  pointwise [k0_pay252]
  simp only [hc, hu, hd, ha, ← EReal.coe_mul, ← EReal.coe_add]

include hgain in
theorem gained8 (h : Fin 8) (p : Fin 256) (l : Fin 128) :
    k0_pay256 (F := Ideal) co s1 s2 a gain (ix3 h p l) = ((Proj.turn (R p) (g h p) l * Gq l : ℝ) : EReal) := by
  pointwise [k0_pay256]
  simp only [turn8 R co s1 s2 hc hu hd a g ha, hgain, ← EReal.coe_mul]

include h0 h1 h2 h3 h4 h5 h6 h7
include hacc in
theorem gain8 (e : Fin 1) (l : Fin 128) :
    k0_pay255 (F := Ideal) co s1 s2 a v0 v1 v2 v3 v4 v5 v6 v7 acc (ix2 e l)
      = ((A l + ∑ p, ∑ h, Proj.turn (R p) (g h p) l * (z h p l * rstd 128 (z h p)) : ℝ) : EReal) := by
  obtain rfl : e = 0 := Subsingleton.elim _ _
  pointwise [k0_pay255]
  simp only [turn8 R co s1 s2 hc hu hd a g ha, normed8 v0 v1 v2 v3 v4 v5 v6 v7 z h0 h1 h2 h3 h4 h5 h6 h7, hacc, ← EReal.coe_mul, coe_sum, ← EReal.coe_add]

include hgain in
theorem back8 (h : Fin 8) (p : Fin 256) (l : Fin 128) :
    k0_pay258 (F := Ideal) (k0_pay253 (F := Ideal) v0 v1 v2 v3 v4 v5 v6 v7) (k0_pay254 (F := Ideal) v0 v1 v2 v3 v4 v5 v6 v7) (k0_pay256 (F := Ideal) co s1 s2 a gain)
      (k0_pay257 (F := Ideal) co s1 s2 a v0 v1 v2 v3 v4 v5 v6 v7 gain) (ix3 h p l)
      = ((Proj.normBack 128 (z h p) (fun l => Proj.turn (R p) (g h p) l * Gq l) l : ℝ) : EReal) := by
  pointwise [k0_pay258, k0_pay257]
  simp only [gained8 R co s1 s2 hc hu hd a g ha gain Gq hgain, normed8 v0 v1 v2 v3 v4 v5 v6 v7 z h0 h1 h2 h3 h4 h5 h6 h7, rstd8 v0 v1 v2 v3 v4 v5 v6 v7 z h0 h1 h2 h3 h4 h5 h6 h7, word_128,
    ← EReal.coe_mul, ← EReal.coe_add, ← EReal.coe_sub, coe_sum, coe_div _ _ (show (128 : ℝ) ≠ 0 by norm_num)]
  refine congrArg Real.toEReal ?_
  rw [Proj.normBack]
  ring
end

section
variable (a0 a1 v0 v1 : Vec Ideal S256x128 .f32) (g z : Fin 2 → Fin 256 → Fin 128 → ℝ)
  (acc gain : Vec Ideal S1x128 .f32) (A Gk : Fin 128 → ℝ)
  (hacc : ∀ l, acc (ix2 0 l) = ((A l : ℝ) : EReal)) (hgain : ∀ l, gain (ix2 0 l) = ((Gk l : ℝ) : EReal))
  (ha0 : ∀ p l, a0 (ix2 p l) = ((g 0 p l / ln2w : ℝ) : EReal)) (ha1 : ∀ p l, a1 (ix2 p l) = ((g 1 p l / ln2w : ℝ) : EReal))
  (h0 : ∀ p l, v0 (ix2 p l) = ((z 0 p l : ℝ) : EReal)) (h1 : ∀ p l, v1 (ix2 p l) = ((z 1 p l : ℝ) : EReal))

include h0 h1
theorem stack2 (h : Fin 2) (p : Fin 256) (l : Fin 128) : k0_pay259 (F := Ideal) v0 v1 (ix3 h p l) = ((z h p l : ℝ) : EReal) := by
  pointwise [k0_pay259]
  simp only [h0, h1]
  fin_cases h <;> rfl

theorem rstd2 (h : Fin 2) (p : Fin 256) (e : Fin 1) :
    k0_pay261 (F := Ideal) v0 v1 (ix3 h p e) = ((rstd 128 (z h p) : ℝ) : EReal) := by
  pointwise [k0_pay261]
  simp only [stack2 v0 v1 z h0 h1, word_eps, word_128, ← EReal.coe_mul, ← EReal.coe_add, coe_sum,
    coe_div _ _ (show (128 : ℝ) ≠ 0 by norm_num), rsqrt_meanSq (show (0 : ℝ) < 128 by norm_num)]

theorem normed2 (h : Fin 2) (p : Fin 256) (l : Fin 128) :
    k0_pay262 (F := Ideal) v0 v1 (ix3 h p l) = ((z h p l * rstd 128 (z h p) : ℝ) : EReal) := by
  pointwise [k0_pay262]
  simp only [stack2 v0 v1 z h0 h1, rstd2 v0 v1 z h0 h1, ← EReal.coe_mul]
omit h0 h1

include hc hu hd ha0 ha1
theorem turn2 (h : Fin 2) (p : Fin 256) (l : Fin 128) :
    k0_pay260 (F := Ideal) co s1 s2 a0 a1 (ix3 h p l) = ((Proj.turn (R p) (g h p) l : ℝ) : EReal) := by
  rw [← turn_rolls]
  pointwise [k0_pay260]
  simp only [hc, hu, hd, ha0, ha1, word_ln2]
  fin_cases h <;>
    (simp only [show (0 : ℕ) < 1 from Nat.one_pos, lt_self_iff_false, ↓reduceDIte, ← EReal.coe_mul, ← EReal.coe_add, div_mul_cancel₀ _ ln2w_ne]; rfl)

include h0 h1
include hacc in
theorem gain2 (e : Fin 1) (l : Fin 128) :
    k0_pay263 (F := Ideal) (k0_pay260 (F := Ideal) co s1 s2 a0 a1) (k0_pay262 (F := Ideal) v0 v1) acc (ix2 e l)
      = ((A l + ∑ p, ∑ h, Proj.turn (R p) (g h p) l * (z h p l * rstd 128 (z h p)) : ℝ) : EReal) := by
  obtain rfl : e = 0 := Subsingleton.elim _ _
  pointwise [k0_pay263]
  simp only [turn2 R co s1 s2 hc hu hd a0 a1 g ha0 ha1, normed2 v0 v1 z h0 h1, hacc, ← EReal.coe_mul, coe_sum, ← EReal.coe_add]

include hgain in
theorem back2 (h : Fin 2) (p : Fin 256) (l : Fin 128) :
    k0_pay264 (F := Ideal) (k0_pay260 (F := Ideal) co s1 s2 a0 a1) (k0_pay261 (F := Ideal) v0 v1) (k0_pay262 (F := Ideal) v0 v1) gain (ix3 h p l)
      = ((Proj.normBack 128 (z h p) (fun l => Proj.turn (R p) (g h p) l * Gk l) l : ℝ) : EReal) := by
  pointwise [k0_pay264]
  simp only [turn2 R co s1 s2 hc hu hd a0 a1 g ha0 ha1, normed2 v0 v1 z h0 h1, rstd2 v0 v1 z h0 h1, hgain, word_128,
    ← EReal.coe_mul, ← EReal.coe_add, ← EReal.coe_sub, coe_sum, coe_div _ _ (show (128 : ℝ) ≠ 0 by norm_num)]
  refine congrArg Real.toEReal ?_
  rw [Proj.normBack]
  ring
end
end

end Cert.Kernel5Ideal.Value
-- ==== Proof.ProjBlocks.lean ====
/-
  The fifth kernel's blocks at a grid point, on finite arguments, as the real model's values.
-/
module
public import proofs.«01_k».proof.Proof.ProjHost
public import Idealize.ShloMosaic.Lib.Pipeline.ValueKit
@[expose] public section
set_option maxRecDepth 16384
noncomputable section
namespace Cert.Kernel5Ideal.Value
open Cert.Kernel5Ideal Cert.Kernel5Ideal.Gen Idealize.ShloMosaic Idealize.ShloMosaic.TcCoe Idealize.SL.Sem Cert.Reals
variable (m : (ℓ : Loc nD τ sig) → Buf (Elt Ideal) ℓ) (c : Dev nD)

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![0, t.val, 0]
    ∧ win0_11.index t = ![0, t.val, 0]
    ∧ win0_12.index t = ![0, t.val, 0]
    ∧ win0_13.index t = ![0, t.val, 0]
    ∧ win0_14.index t = ![0, t.val, 0] :=
  (by decide +kernel : ∀ t : Fin grid0.N, _)
theorem idx' : ∀ t : Fin cfg0.N, win0_15.index t = ![0, t.val, 0]
    ∧ win0_16.index t = ![0, t.val, 0]
    ∧ win0_17.index t = ![0, t.val, 0]
    ∧ win0_18.index t = ![0, t.val, 0]
    ∧ win0_19.index t = ![t.val, 0]
    ∧ win0_20.index t = ![t.val, 0]
    ∧ win0_21.index t = ![0, 0]
    ∧ win0_22.index t = ![0, 0]
    ∧ win0_23.index t = ![0, 0]
    ∧ win0_24.index t = ![0, 0]
    ∧ win0_25.index t = ![t.val, 0]
    ∧ win0_26.index t = ![t.val, 0]
    ∧ win0_27.index t = ![0, 0]
    ∧ win0_28.index t = ![0, 0]
    ∧ win0_29.index t = ![0, 0] :=
  (by decide +kernel : ∀ t : Fin grid0.N, _)

/-- The row of the whole arrays that row `p` of grid point `t`'s blocks is. -/
def row (t : Fin cfg0.N) (p : Fin 256) : Fin 8192 := ⟨t.val * 256 + p.val, by have := t.isLt; have := p.isLt; have : cfg0.N = 32 := N_0; omega⟩

section
variable (X : Fin 8192 → Fin 1024 → ℝ) (G : Fin 1024 → ℝ) (W : Fin 1024 → Fin 5888 → ℝ) (Gq Gk : Fin 128 → ℝ)
  (Cx Cq : Fin 8192 → Fin 1024 → ℝ) (Ck Cv : Fin 8192 → Fin 256 → ℝ) (Dq Dk Dv : Fin 8192 → Fin 768 → ℝ)
  (Ca Cb : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ k d, m ((c : Thread nD τ).loc main_arg2) (ix3 0 k d) = ((W k d : ℝ) : EReal))
  (h3 : ∀ d, m ((c : Thread nD τ).loc main_arg3) (ix2 0 d) = ((Gq d : ℝ) : EReal))
  (h4 : ∀ d, m ((c : Thread nD τ).loc main_arg4) (ix2 0 d) = ((Gk d : ℝ) : EReal))
  (h5 : ∀ t d, m ((c : Thread nD τ).loc main_arg5) (ix2 t d) = ((Cx t d : ℝ) : EReal))
  (h6 : ∀ t d, m ((c : Thread nD τ).loc main_arg6) (ix2 t d) = ((Cq t d : ℝ) : EReal))
  (h7 : ∀ t d, m ((c : Thread nD τ).loc main_arg7) (ix2 t d) = ((Ck t d : ℝ) : EReal))
  (h8 : ∀ t d, m ((c : Thread nD τ).loc main_arg8) (ix2 t d) = ((Cv t d : ℝ) : EReal))
  (h9 : ∀ t d, m ((c : Thread nD τ).loc main_arg9) (ix2 t d) = ((Dq t d : ℝ) : EReal))
  (h10 : ∀ t d, m ((c : Thread nD τ).loc main_arg10) (ix2 t d) = ((Dk t d : ℝ) : EReal))
  (h11 : ∀ t d, m ((c : Thread nD τ).loc main_arg11) (ix2 t d) = ((Dv t d : ℝ) : EReal))
  (h12 : ∀ t d, m ((c : Thread nD τ).loc main_arg12) (ix2 t d) = ((Ca t d : ℝ) : EReal))
  (h13 : ∀ t d, m ((c : Thread nD τ).loc main_arg13) (ix2 t d) = ((Cb t d : ℝ) : EReal))

include h5 in
theorem b0 (t : Fin cfg0.N) (p : Fin 256) (d : Fin 1024) : iblk m c 0 t (ix2 p d) = ((Cx (row t p) d : ℝ) : EReal) := by
  rw [← h5]; have : ((row t p) : ℕ) = t.val * 256 + p.val := rfl; blk_point [iblk, V, idx t]
include h0 in
theorem b1 (t : Fin cfg0.N) (p : Fin 256) (d : Fin 1024) : iblk m c 1 t (ix2 p d) = ((X (row t p) d : ℝ) : EReal) := by
  rw [← h0]; have : ((row t p) : ℕ) = t.val * 256 + p.val := rfl; blk_point [iblk, V, idx t]
include h6 in
theorem b2 (t : Fin cfg0.N) (p : Fin 256) (d : Fin 1024) : iblk m c 2 t (ix2 p d) = ((Cq (row t p) d : ℝ) : EReal) := by
  rw [← h6]; have : ((row t p) : ℕ) = t.val * 256 + p.val := rfl; blk_point [iblk, V, idx t]
include h7 in
theorem b3 (t : Fin cfg0.N) (p : Fin 256) (d : Fin 256) : iblk m c 3 t (ix2 p d) = ((Ck (row t p) d / ln2w : ℝ) : EReal) := by
  rw [← V68 m c Ck h7]; have : ((row t p) : ℕ) = t.val * 256 + p.val := rfl; blk_point [iblk, idx t]
include h8 in
theorem b4 (t : Fin cfg0.N) (p : Fin 256) (d : Fin 256) : iblk m c 4 t (ix2 p d) = ((Cv (row t p) d : ℝ) : EReal) := by
  rw [← h8]; have : ((row t p) : ℕ) = t.val * 256 + p.val := rfl; blk_point [iblk, V, idx t]
include h0 h1 h2 in
theorem b5 (t : Fin cfg0.N) (p : Fin 256) (d : Fin 1024) : iblk m c 5 t (ix2 p d) = ((Proj.z X G W (row t p) ⟨d.val, by omega⟩ : ℝ) : EReal) := by
  rw [← V69 m c X G W h0 h1 h2]; have : ((row t p) : ℕ) = t.val * 256 + p.val := rfl; blk_point [iblk, idx t]
include h0 h1 h2 in
theorem b6 (t : Fin cfg0.N) (p : Fin 256) (d : Fin 256) : iblk m c 6 t (ix2 p d) = ((Proj.z X G W (row t p) ⟨1024 + d.val, by omega⟩ : ℝ) : EReal) := by
  rw [← V70 m c X G W h0 h1 h2]; have : ((row t p) : ℕ) = t.val * 256 + p.val := rfl; blk_point [iblk, idx t]
theorem b7 (t : Fin cfg0.N) (p : Fin 256) (d : Fin 128) : iblk m c 7 t (ix2 p d) = ((Real.cos (Proj.angle (row t p) d) : ℝ) : EReal) := by
  rw [← V64 m c]; have : ((row t p) : ℕ) = t.val * 256 + p.val := rfl; blk_point [iblk, idx t]
theorem b8 (t : Fin cfg0.N) (p : Fin 256) (d : Fin 128) : iblk m c 8 t (ix2 p d) = ((upT (row t p) d : ℝ) : EReal) := by
  rw [← V65 m c]; have : ((row t p) : ℕ) = t.val * 256 + p.val := rfl; blk_point [iblk, idx t]
theorem b9 (t : Fin cfg0.N) (p : Fin 256) (d : Fin 128) : iblk m c 9 t (ix2 p d) = ((downT (row t p) d : ℝ) : EReal) := by
  rw [← V66 m c]; have : ((row t p) : ℕ) = t.val * 256 + p.val := rfl; blk_point [iblk, idx t]
include h9 in
theorem b10 (t : Fin cfg0.N) (r : Fin 1) (i : Fin 256) (d : Fin 256) :
    iblk m c 10 t (ix3 r i d) = ((Dq (row t ⟨i.val * 1 + r.val, by omega⟩) ⟨0 + d.val, by omega⟩ : ℝ) : EReal) := by
  have ht := t.isLt
  have hN : cfg0.N = 32 := N_0
  have e : row t ⟨i.val * 1 + r.val, by omega⟩ = ⟨(t.val * 256 + i.val) * 1 + r.val, by omega⟩ := Fin.ext (by simp only [row]; omega)
  rw [e]
  refine Eq.trans ?_ (V73 m c Dq h9 r ⟨t.val * 256 + i.val, by omega⟩ d)
  blk_point [iblk, idx t]
include h9 in
theorem b11 (t : Fin cfg0.N) (r : Fin 4) (i : Fin 64) (d : Fin 256) :
    iblk m c 11 t (ix3 r i d) = ((Dq (row t ⟨i.val * 4 + r.val, by omega⟩) ⟨256 + d.val, by omega⟩ : ℝ) : EReal) := by
  have ht := t.isLt
  have hN : cfg0.N = 32 := N_0
  have e : row t ⟨i.val * 4 + r.val, by omega⟩ = ⟨(t.val * 64 + i.val) * 4 + r.val, by omega⟩ := Fin.ext (by simp only [row]; omega)
  rw [e]
  refine Eq.trans ?_ (V76 m c Dq h9 r ⟨t.val * 64 + i.val, by omega⟩ d)
  blk_point [iblk, idx t]
include h9 in
theorem b12 (t : Fin cfg0.N) (r : Fin 16) (i : Fin 16) (d : Fin 256) :
    iblk m c 12 t (ix3 r i d) = ((Dq (row t ⟨i.val * 16 + r.val, by omega⟩) ⟨512 + d.val, by omega⟩ : ℝ) : EReal) := by
  have ht := t.isLt
  have hN : cfg0.N = 32 := N_0
  have e : row t ⟨i.val * 16 + r.val, by omega⟩ = ⟨(t.val * 16 + i.val) * 16 + r.val, by omega⟩ := Fin.ext (by simp only [row]; omega)
  rw [e]
  refine Eq.trans ?_ (V79 m c Dq h9 r ⟨t.val * 16 + i.val, by omega⟩ d)
  blk_point [iblk, idx t]
include h10 in
theorem b13 (t : Fin cfg0.N) (r : Fin 1) (i : Fin 256) (d : Fin 256) :
    iblk m c 13 t (ix3 r i d) = ((Dk (row t ⟨i.val * 1 + r.val, by omega⟩) ⟨0 + d.val, by omega⟩ / ln2w : ℝ) : EReal) := by
  have ht := t.isLt
  have hN : cfg0.N = 32 := N_0
  have e : row t ⟨i.val * 1 + r.val, by omega⟩ = ⟨(t.val * 256 + i.val) * 1 + r.val, by omega⟩ := Fin.ext (by simp only [row]; omega)
  rw [e]
  refine Eq.trans ?_ (V84 m c Dk h10 r ⟨t.val * 256 + i.val, by omega⟩ d)
  blk_point [iblk, idx t]
include h10 in
theorem b14 (t : Fin cfg0.N) (r : Fin 4) (i : Fin 64) (d : Fin 256) :
    iblk m c 14 t (ix3 r i d) = ((Dk (row t ⟨i.val * 4 + r.val, by omega⟩) ⟨256 + d.val, by omega⟩ / ln2w : ℝ) : EReal) := by
  have ht := t.isLt
  have hN : cfg0.N = 32 := N_0
  have e : row t ⟨i.val * 4 + r.val, by omega⟩ = ⟨(t.val * 64 + i.val) * 4 + r.val, by omega⟩ := Fin.ext (by simp only [row]; omega)
  rw [e]
  refine Eq.trans ?_ (V87 m c Dk h10 r ⟨t.val * 64 + i.val, by omega⟩ d)
  blk_point [iblk, idx t]
include h10 in
theorem b15 (t : Fin cfg0.N) (r : Fin 16) (i : Fin 16) (d : Fin 256) :
    iblk m c 15 t (ix3 r i d) = ((Dk (row t ⟨i.val * 16 + r.val, by omega⟩) ⟨512 + d.val, by omega⟩ / ln2w : ℝ) : EReal) := by
  have ht := t.isLt
  have hN : cfg0.N = 32 := N_0
  have e : row t ⟨i.val * 16 + r.val, by omega⟩ = ⟨(t.val * 16 + i.val) * 16 + r.val, by omega⟩ := Fin.ext (by simp only [row]; omega)
  rw [e]
  refine Eq.trans ?_ (V90 m c Dk h10 r ⟨t.val * 16 + i.val, by omega⟩ d)
  blk_point [iblk, idx' t]
include h11 in
theorem b16 (t : Fin cfg0.N) (r : Fin 1) (i : Fin 256) (d : Fin 256) :
    iblk m c 16 t (ix3 r i d) = ((Dv (row t ⟨i.val * 1 + r.val, by omega⟩) ⟨0 + d.val, by omega⟩ : ℝ) : EReal) := by
  have ht := t.isLt
  have hN : cfg0.N = 32 := N_0
  have e : row t ⟨i.val * 1 + r.val, by omega⟩ = ⟨(t.val * 256 + i.val) * 1 + r.val, by omega⟩ := Fin.ext (by simp only [row]; omega)
  rw [e]
  refine Eq.trans ?_ (V93 m c Dv h11 r ⟨t.val * 256 + i.val, by omega⟩ d)
  blk_point [iblk, idx' t]
include h11 in
theorem b17 (t : Fin cfg0.N) (r : Fin 4) (i : Fin 64) (d : Fin 256) :
    iblk m c 17 t (ix3 r i d) = ((Dv (row t ⟨i.val * 4 + r.val, by omega⟩) ⟨256 + d.val, by omega⟩ : ℝ) : EReal) := by
  have ht := t.isLt
  have hN : cfg0.N = 32 := N_0
  have e : row t ⟨i.val * 4 + r.val, by omega⟩ = ⟨(t.val * 64 + i.val) * 4 + r.val, by omega⟩ := Fin.ext (by simp only [row]; omega)
  rw [e]
  refine Eq.trans ?_ (V96 m c Dv h11 r ⟨t.val * 64 + i.val, by omega⟩ d)
  blk_point [iblk, idx' t]
include h11 in
theorem b18 (t : Fin cfg0.N) (r : Fin 16) (i : Fin 16) (d : Fin 256) :
    iblk m c 18 t (ix3 r i d) = ((Dv (row t ⟨i.val * 16 + r.val, by omega⟩) ⟨512 + d.val, by omega⟩ : ℝ) : EReal) := by
  have ht := t.isLt
  have hN : cfg0.N = 32 := N_0
  have e : row t ⟨i.val * 16 + r.val, by omega⟩ = ⟨(t.val * 16 + i.val) * 16 + r.val, by omega⟩ := Fin.ext (by simp only [row]; omega)
  rw [e]
  refine Eq.trans ?_ (V99 m c Dv h11 r ⟨t.val * 16 + i.val, by omega⟩ d)
  blk_point [iblk, idx' t]
include h12 in
theorem b19 (t : Fin cfg0.N) (p : Fin 256) (d : Fin 1024) : iblk m c 19 t (ix2 p d) = ((Ca (row t p) d : ℝ) : EReal) := by
  rw [← V100 m c Ca h12]; have : ((row t p) : ℕ) = t.val * 256 + p.val := rfl; blk_point [iblk, idx' t]
include h13 in
theorem b20 (t : Fin cfg0.N) (p : Fin 256) (d : Fin 1024) : iblk m c 20 t (ix2 p d) = ((Cb (row t p) d : ℝ) : EReal) := by
  rw [← V101 m c Cb h13]; have : ((row t p) : ℕ) = t.val * 256 + p.val := rfl; blk_point [iblk, idx' t]
include h2 in
theorem b21 (t : Fin cfg0.N) (d : Fin 5888) (k : Fin 1024) : iblk m c 21 t (ix2 d k) = ((W k d : ℝ) : EReal) := by
  rw [← V104 m c W h2]; blk_point [iblk, idx' t]
include h1 in
theorem b22 (t : Fin cfg0.N) (d : Fin 1024) : iblk m c 22 t (ix2 0 d) = ((G d : ℝ) : EReal) := by
  rw [← h1]; blk_point [iblk, V, idx' t]
include h3 in
theorem b23 (t : Fin cfg0.N) (d : Fin 128) : iblk m c 23 t (ix2 0 d) = ((Gq d : ℝ) : EReal) := by
  rw [← h3]; blk_point [iblk, V, idx' t]
include h4 in
theorem b24 (t : Fin cfg0.N) (d : Fin 128) : iblk m c 24 t (ix2 0 d) = ((Gk d : ℝ) : EReal) := by
  rw [← h4]; blk_point [iblk, V, idx' t]
end

end Cert.Kernel5Ideal.Value
-- ==== Proof.ProjLoads.lean ====
/-
  The parts of a block of the queries' and keys' heads as the fifth kernel's body reads them, and the gradients back
  through the head norms of a block.
-/
module
public import proofs.«01_k».proof.Proof.ProjStep
public import proofs.«01_k».proof.Proof.ProjHeads
public import proofs.«01_k».proof.Proof.ProjBlocks
@[expose] public section
set_option maxRecDepth 16384
noncomputable section
namespace Cert.Kernel5Ideal.Value
open Cert.Kernel5Ideal Cert.Kernel5Ideal.Gen Idealize.ShloMosaic Idealize.ShloMosaic.TcCoe Idealize.SL.Sem Idealize.ShloMosaic.StableHlo Cert.Reals

variable (m : (ℓ : Loc nD τ sig) → Buf (Elt Ideal) ℓ) (c : Dev nD)
variable (X : Fin 8192 → Fin 1024 → ℝ) (G : Fin 1024 → ℝ) (W : Fin 1024 → Fin 5888 → ℝ) (Gq Gk : Fin 128 → ℝ)
  (Cx Cq : Fin 8192 → Fin 1024 → ℝ) (Ck Cv : Fin 8192 → Fin 256 → ℝ) (Dq Dk Dv : Fin 8192 → Fin 768 → ℝ)
  (Ca Cb : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ k d, m ((c : Thread nD τ).loc main_arg2) (ix3 0 k d) = ((W k d : ℝ) : EReal))
  (h3 : ∀ d, m ((c : Thread nD τ).loc main_arg3) (ix2 0 d) = ((Gq d : ℝ) : EReal))
  (h4 : ∀ d, m ((c : Thread nD τ).loc main_arg4) (ix2 0 d) = ((Gk d : ℝ) : EReal))
  (h5 : ∀ t d, m ((c : Thread nD τ).loc main_arg5) (ix2 t d) = ((Cx t d : ℝ) : EReal))
  (h6 : ∀ t d, m ((c : Thread nD τ).loc main_arg6) (ix2 t d) = ((Cq t d : ℝ) : EReal))
  (h7 : ∀ t d, m ((c : Thread nD τ).loc main_arg7) (ix2 t d) = ((Ck t d : ℝ) : EReal))
  (h8 : ∀ t d, m ((c : Thread nD τ).loc main_arg8) (ix2 t d) = ((Cv t d : ℝ) : EReal))
  (h9 : ∀ t d, m ((c : Thread nD τ).loc main_arg9) (ix2 t d) = ((Dq t d : ℝ) : EReal))
  (h10 : ∀ t d, m ((c : Thread nD τ).loc main_arg10) (ix2 t d) = ((Dk t d : ℝ) : EReal))
  (h11 : ∀ t d, m ((c : Thread nD τ).loc main_arg11) (ix2 t d) = ((Dv t d : ℝ) : EReal))
  (h12 : ∀ t d, m ((c : Thread nD τ).loc main_arg12) (ix2 t d) = ((Ca t d : ℝ) : EReal))
  (h13 : ∀ t d, m ((c : Thread nD τ).loc main_arg13) (ix2 t d) = ((Cb t d : ℝ) : EReal))

include h6 in
theorem ld2 (t : Fin cfg0.N) (o : ℕ) (ho : o + 128 ≤ 1024) {inb} (p : Fin 256) (l : Fin 128) :
    View.ld (iblk m c 2 t) (Rect.unit (s := S256x1024) ![0, o] ![256, 128] inb) (ix2 p l) = ((Cq (row t p) ⟨o + l.val, by omega⟩ : ℝ) : EReal) := by
  have e : (Rect.unit (s := S256x1024) ![0, o] ![256, 128] inb).emb (ix2 p l) = ix2 p (⟨o + l.val, by omega⟩ : Fin 1024) := by
    funext a
    refine Fin.ext ?_
    match a with
    | ⟨0, _⟩ => show 0 + 1 * p.val = p.val; omega
    | ⟨1, _⟩ => show o + 1 * l.val = o + l.val; omega
  exact (congrArg (iblk m c 2 t) e).trans (b2 m c Cq h6 t p _)

include h0 h1 h2 in
theorem ld5 (t : Fin cfg0.N) (o : ℕ) (ho : o + 128 ≤ 1024) {inb} (p : Fin 256) (l : Fin 128) :
    View.ld (iblk m c 5 t) (Rect.unit (s := S256x1024) ![0, o] ![256, 128] inb) (ix2 p l) = ((Proj.z X G W (row t p) ⟨o + l.val, by omega⟩ : ℝ) : EReal) := by
  have e : (Rect.unit (s := S256x1024) ![0, o] ![256, 128] inb).emb (ix2 p l) = ix2 p (⟨o + l.val, by omega⟩ : Fin 1024) := by
    funext a
    refine Fin.ext ?_
    match a with
    | ⟨0, _⟩ => show 0 + 1 * p.val = p.val; omega
    | ⟨1, _⟩ => show o + 1 * l.val = o + l.val; omega
  exact (congrArg (iblk m c 5 t) e).trans (b5 m c X G W h0 h1 h2 t p _)

include h7 in
theorem ld3 (t : Fin cfg0.N) (o : ℕ) (ho : o + 128 ≤ 256) {inb} (p : Fin 256) (l : Fin 128) :
    View.ld (iblk m c 3 t) (Rect.unit (s := S256x256) ![0, o] ![256, 128] inb) (ix2 p l) = ((Ck (row t p) ⟨o + l.val, by omega⟩ / ln2w : ℝ) : EReal) := by
  have e : (Rect.unit (s := S256x256) ![0, o] ![256, 128] inb).emb (ix2 p l) = ix2 p (⟨o + l.val, by omega⟩ : Fin 256) := by
    funext a
    refine Fin.ext ?_
    match a with
    | ⟨0, _⟩ => show 0 + 1 * p.val = p.val; omega
    | ⟨1, _⟩ => show o + 1 * l.val = o + l.val; omega
  exact (congrArg (iblk m c 3 t) e).trans (b3 m c Ck h7 t p _)

include h0 h1 h2 in
theorem ld6 (t : Fin cfg0.N) (o : ℕ) (ho : o + 128 ≤ 256) {inb} (p : Fin 256) (l : Fin 128) :
    View.ld (iblk m c 6 t) (Rect.unit (s := S256x256) ![0, o] ![256, 128] inb) (ix2 p l) = ((Proj.z X G W (row t p) ⟨1024 + (o + l.val), by omega⟩ : ℝ) : EReal) := by
  have e : (Rect.unit (s := S256x256) ![0, o] ![256, 128] inb).emb (ix2 p l) = ix2 p (⟨o + l.val, by omega⟩ : Fin 256) := by
    funext a
    refine Fin.ext ?_
    match a with
    | ⟨0, _⟩ => show 0 + 1 * p.val = p.val; omega
    | ⟨1, _⟩ => show o + 1 * l.val = o + l.val; omega
  exact (congrArg (iblk m c 6 t) e).trans (b6 m c X G W h0 h1 h2 t p _)

theorem tab5 (t : Fin cfg0.N) (p : Fin 256) (l : Fin 128) : k0_pay5 (F := Ideal) (iblk m c 7 t) (ix3 0 p l) = ((Real.cos (Proj.angle (row t p) l) : ℝ) : EReal) := by
  pointwise [k0_pay5]
  exact b7 m c t p l

theorem tab6 (t : Fin cfg0.N) (p : Fin 256) (l : Fin 128) : k0_pay6 (F := Ideal) (iblk m c 8 t) (ix3 0 p l) = ((upT (row t p) l : ℝ) : EReal) := by
  pointwise [k0_pay6]
  exact b8 m c t p l

theorem tab7 (t : Fin cfg0.N) (p : Fin 256) (l : Fin 128) : k0_pay7 (F := Ideal) (iblk m c 9 t) (ix3 0 p l) = ((downT (row t p) l : ℝ) : EReal) := by
  pointwise [k0_pay7]
  exact b9 m c t p l

theorem cast244 (v : Vec Ideal S256x128 .f32) (p : Fin 256) (l : Fin 128) : k0_pay244 (F := Ideal) v (ix2 p l) = v (ix2 p l) := by
  pointwise [k0_pay244]

theorem cast245 (v : Vec Ideal S256x128 .f32) (p : Fin 256) (l : Fin 128) : k0_pay245 (F := Ideal) v (ix2 p l) = v (ix2 p l) := by
  pointwise [k0_pay245]

theorem cast246 (v : Vec Ideal S256x128 .f32) (p : Fin 256) (l : Fin 128) : k0_pay246 (F := Ideal) v (ix2 p l) = v (ix2 p l) := by
  pointwise [k0_pay246]

theorem cast247 (v : Vec Ideal S256x128 .f32) (p : Fin 256) (l : Fin 128) : k0_pay247 (F := Ideal) v (ix2 p l) = v (ix2 p l) := by
  pointwise [k0_pay247]

theorem cast248 (v : Vec Ideal S256x128 .f32) (p : Fin 256) (l : Fin 128) : k0_pay248 (F := Ideal) v (ix2 p l) = v (ix2 p l) := by
  pointwise [k0_pay248]

theorem cast249 (v : Vec Ideal S256x128 .f32) (p : Fin 256) (l : Fin 128) : k0_pay249 (F := Ideal) v (ix2 p l) = v (ix2 p l) := by
  pointwise [k0_pay249]

theorem cast250 (v : Vec Ideal S256x128 .f32) (p : Fin 256) (l : Fin 128) : k0_pay250 (F := Ideal) v (ix2 p l) = v (ix2 p l) := by
  pointwise [k0_pay250]

include h0 h1 h2 in
theorem headZ (t : Fin cfg0.N) (h : Fin 8) (o : ℕ) (ho : o = h.val * 128) {inb} (p : Fin 256) (l : Fin 128) :
    View.ld (iblk m c 5 t) (Rect.unit (s := S256x1024) ![0, o] ![256, 128] inb) (ix2 p l) = ((Proj.zq X G W (row t p) h l : ℝ) : EReal) := by
  subst ho
  exact ld5 m c X G W h0 h1 h2 t _ (by omega) p l

include h6 in
/-- The queries' cotangents of a block, scaled. -/
theorem scaledQ (t : Fin cfg0.N) {i2_0 i2_1 i2_2 i2_3 i2_4 i2_5 i2_6 i2_7} (h : Fin 8) (p : Fin 256) (l : Fin 128) :
    (k0_pay243 (F := Ideal) (View.ld (iblk m c 2 t) (Rect.unit (s := S256x1024) ![0, 0] ![256, 128] i2_0)) (View.ld (iblk m c 2 t) (Rect.unit (s := S256x1024) ![0, 128] ![256, 128] i2_1)) (View.ld (iblk m c 2 t) (Rect.unit (s := S256x1024) ![0, 256] ![256, 128] i2_2)) (View.ld (iblk m c 2 t) (Rect.unit (s := S256x1024) ![0, 384] ![256, 128] i2_3)) (View.ld (iblk m c 2 t) (Rect.unit (s := S256x1024) ![0, 512] ![256, 128] i2_4)) (View.ld (iblk m c 2 t) (Rect.unit (s := S256x1024) ![0, 640] ![256, 128] i2_5)) (View.ld (iblk m c 2 t) (Rect.unit (s := S256x1024) ![0, 768] ![256, 128] i2_6)) (View.ld (iblk m c 2 t) (Rect.unit (s := S256x1024) ![0, 896] ![256, 128] i2_7))) (ix3 h p l) = ((Proj.gq Cq (row t p) h l : ℝ) : EReal) :=
  scaled8 _ _ _ _ _ _ _ _ (fun h p l => Cq (row t p) ⟨h.val * 128 + l.val, by omega⟩)
    (fun p l => (ld2 m c Cq h6 t 0 (by decide) p l).trans (congrArg (fun i => ((Cq (row t p) i : ℝ) : EReal)) (Fin.ext (show 0 + l.val = 0 * 128 + l.val by omega))))
    (fun p l => (ld2 m c Cq h6 t 128 (by decide) p l).trans (congrArg (fun i => ((Cq (row t p) i : ℝ) : EReal)) (Fin.ext (show 128 + l.val = 1 * 128 + l.val by omega))))
    (fun p l => (ld2 m c Cq h6 t 256 (by decide) p l).trans (congrArg (fun i => ((Cq (row t p) i : ℝ) : EReal)) (Fin.ext (show 256 + l.val = 2 * 128 + l.val by omega))))
    (fun p l => (ld2 m c Cq h6 t 384 (by decide) p l).trans (congrArg (fun i => ((Cq (row t p) i : ℝ) : EReal)) (Fin.ext (show 384 + l.val = 3 * 128 + l.val by omega))))
    (fun p l => (ld2 m c Cq h6 t 512 (by decide) p l).trans (congrArg (fun i => ((Cq (row t p) i : ℝ) : EReal)) (Fin.ext (show 512 + l.val = 4 * 128 + l.val by omega))))
    (fun p l => (ld2 m c Cq h6 t 640 (by decide) p l).trans (congrArg (fun i => ((Cq (row t p) i : ℝ) : EReal)) (Fin.ext (show 640 + l.val = 5 * 128 + l.val by omega))))
    (fun p l => (ld2 m c Cq h6 t 768 (by decide) p l).trans (congrArg (fun i => ((Cq (row t p) i : ℝ) : EReal)) (Fin.ext (show 768 + l.val = 6 * 128 + l.val by omega))))
    (fun p l => (ld2 m c Cq h6 t 896 (by decide) p l).trans (congrArg (fun i => ((Cq (row t p) i : ℝ) : EReal)) (Fin.ext (show 896 + l.val = 7 * 128 + l.val by omega)))) h p l

include h0 h1 h2 h3 h6 in
/-- The gradient of a block's heads of the queries. -/
theorem backQ (t : Fin cfg0.N) {i2_0 i2_1 i2_2 i2_3 i2_4 i2_5 i2_6 i2_7 i5_0 i5_1 i5_2 i5_3 i5_4 i5_5 i5_6 i5_7} (h : Fin 8) (p : Fin 256) (l : Fin 128) :
    (k0_pay258 (F := Ideal) (k0_pay253 (F := Ideal) (k0_pay244 (F := Ideal) (View.ld (iblk m c 5 t) (Rect.unit (s := S256x1024) ![0, 0] ![256, 128] i5_0))) (k0_pay245 (F := Ideal) (View.ld (iblk m c 5 t) (Rect.unit (s := S256x1024) ![0, 128] ![256, 128] i5_1))) (k0_pay246 (F := Ideal) (View.ld (iblk m c 5 t) (Rect.unit (s := S256x1024) ![0, 256] ![256, 128] i5_2))) (k0_pay247 (F := Ideal) (View.ld (iblk m c 5 t) (Rect.unit (s := S256x1024) ![0, 384] ![256, 128] i5_3))) (k0_pay248 (F := Ideal) (View.ld (iblk m c 5 t) (Rect.unit (s := S256x1024) ![0, 512] ![256, 128] i5_4))) (k0_pay249 (F := Ideal) (View.ld (iblk m c 5 t) (Rect.unit (s := S256x1024) ![0, 640] ![256, 128] i5_5))) (k0_pay250 (F := Ideal) (View.ld (iblk m c 5 t) (Rect.unit (s := S256x1024) ![0, 768] ![256, 128] i5_6))) (View.ld (iblk m c 5 t) (Rect.unit (s := S256x1024) ![0, 896] ![256, 128] i5_7)))
      (k0_pay254 (F := Ideal) (k0_pay244 (F := Ideal) (View.ld (iblk m c 5 t) (Rect.unit (s := S256x1024) ![0, 0] ![256, 128] i5_0))) (k0_pay245 (F := Ideal) (View.ld (iblk m c 5 t) (Rect.unit (s := S256x1024) ![0, 128] ![256, 128] i5_1))) (k0_pay246 (F := Ideal) (View.ld (iblk m c 5 t) (Rect.unit (s := S256x1024) ![0, 256] ![256, 128] i5_2))) (k0_pay247 (F := Ideal) (View.ld (iblk m c 5 t) (Rect.unit (s := S256x1024) ![0, 384] ![256, 128] i5_3))) (k0_pay248 (F := Ideal) (View.ld (iblk m c 5 t) (Rect.unit (s := S256x1024) ![0, 512] ![256, 128] i5_4))) (k0_pay249 (F := Ideal) (View.ld (iblk m c 5 t) (Rect.unit (s := S256x1024) ![0, 640] ![256, 128] i5_5))) (k0_pay250 (F := Ideal) (View.ld (iblk m c 5 t) (Rect.unit (s := S256x1024) ![0, 768] ![256, 128] i5_6))) (View.ld (iblk m c 5 t) (Rect.unit (s := S256x1024) ![0, 896] ![256, 128] i5_7)))
      (k0_pay256 (F := Ideal) (k0_pay5 (F := Ideal) (iblk m c 7 t)) (k0_pay6 (F := Ideal) (iblk m c 8 t)) (k0_pay7 (F := Ideal) (iblk m c 9 t)) (k0_pay243 (F := Ideal) (View.ld (iblk m c 2 t) (Rect.unit (s := S256x1024) ![0, 0] ![256, 128] i2_0)) (View.ld (iblk m c 2 t) (Rect.unit (s := S256x1024) ![0, 128] ![256, 128] i2_1)) (View.ld (iblk m c 2 t) (Rect.unit (s := S256x1024) ![0, 256] ![256, 128] i2_2)) (View.ld (iblk m c 2 t) (Rect.unit (s := S256x1024) ![0, 384] ![256, 128] i2_3)) (View.ld (iblk m c 2 t) (Rect.unit (s := S256x1024) ![0, 512] ![256, 128] i2_4)) (View.ld (iblk m c 2 t) (Rect.unit (s := S256x1024) ![0, 640] ![256, 128] i2_5)) (View.ld (iblk m c 2 t) (Rect.unit (s := S256x1024) ![0, 768] ![256, 128] i2_6)) (View.ld (iblk m c 2 t) (Rect.unit (s := S256x1024) ![0, 896] ![256, 128] i2_7))) (iblk m c 23 t))
      (k0_pay257 (F := Ideal) (k0_pay5 (F := Ideal) (iblk m c 7 t)) (k0_pay6 (F := Ideal) (iblk m c 8 t)) (k0_pay7 (F := Ideal) (iblk m c 9 t)) (k0_pay243 (F := Ideal) (View.ld (iblk m c 2 t) (Rect.unit (s := S256x1024) ![0, 0] ![256, 128] i2_0)) (View.ld (iblk m c 2 t) (Rect.unit (s := S256x1024) ![0, 128] ![256, 128] i2_1)) (View.ld (iblk m c 2 t) (Rect.unit (s := S256x1024) ![0, 256] ![256, 128] i2_2)) (View.ld (iblk m c 2 t) (Rect.unit (s := S256x1024) ![0, 384] ![256, 128] i2_3)) (View.ld (iblk m c 2 t) (Rect.unit (s := S256x1024) ![0, 512] ![256, 128] i2_4)) (View.ld (iblk m c 2 t) (Rect.unit (s := S256x1024) ![0, 640] ![256, 128] i2_5)) (View.ld (iblk m c 2 t) (Rect.unit (s := S256x1024) ![0, 768] ![256, 128] i2_6)) (View.ld (iblk m c 2 t) (Rect.unit (s := S256x1024) ![0, 896] ![256, 128] i2_7))) (k0_pay244 (F := Ideal) (View.ld (iblk m c 5 t) (Rect.unit (s := S256x1024) ![0, 0] ![256, 128] i5_0))) (k0_pay245 (F := Ideal) (View.ld (iblk m c 5 t) (Rect.unit (s := S256x1024) ![0, 128] ![256, 128] i5_1))) (k0_pay246 (F := Ideal) (View.ld (iblk m c 5 t) (Rect.unit (s := S256x1024) ![0, 256] ![256, 128] i5_2))) (k0_pay247 (F := Ideal) (View.ld (iblk m c 5 t) (Rect.unit (s := S256x1024) ![0, 384] ![256, 128] i5_3))) (k0_pay248 (F := Ideal) (View.ld (iblk m c 5 t) (Rect.unit (s := S256x1024) ![0, 512] ![256, 128] i5_4))) (k0_pay249 (F := Ideal) (View.ld (iblk m c 5 t) (Rect.unit (s := S256x1024) ![0, 640] ![256, 128] i5_5))) (k0_pay250 (F := Ideal) (View.ld (iblk m c 5 t) (Rect.unit (s := S256x1024) ![0, 768] ![256, 128] i5_6))) (View.ld (iblk m c 5 t) (Rect.unit (s := S256x1024) ![0, 896] ![256, 128] i5_7)) (iblk m c 23 t)) (ix3 h p l) : EReal)
      = ((Proj.dzq X G W Gq Cq (row t p) h l : ℝ) : EReal) :=
  back8 (fun p => row t p) _ _ _ (tab5 m c t) (tab6 m c t) (tab7 m c t) _ (fun h p => Proj.gq Cq (row t p) h) (scaledQ m c Cq h6 t)
    _ _ _ _ _ _ _ _ (fun h p => Proj.zq X G W (row t p) h) _ Gq (b23 m c Gq h3 t)
    (fun p l => (cast244 _ p l).trans (headZ m c X G W h0 h1 h2 t 0 0 rfl p l))
    (fun p l => (cast245 _ p l).trans (headZ m c X G W h0 h1 h2 t 1 128 rfl p l))
    (fun p l => (cast246 _ p l).trans (headZ m c X G W h0 h1 h2 t 2 256 rfl p l))
    (fun p l => (cast247 _ p l).trans (headZ m c X G W h0 h1 h2 t 3 384 rfl p l))
    (fun p l => (cast248 _ p l).trans (headZ m c X G W h0 h1 h2 t 4 512 rfl p l))
    (fun p l => (cast249 _ p l).trans (headZ m c X G W h0 h1 h2 t 5 640 rfl p l))
    (fun p l => (cast250 _ p l).trans (headZ m c X G W h0 h1 h2 t 6 768 rfl p l))
    (fun p l => (headZ m c X G W h0 h1 h2 t 7 896 rfl p l)) h p l

include h0 h1 h2 h6 in
/-- What a block adds to the gradient of the queries' gain. -/
theorem gainQ (t : Fin cfg0.N) {i2_0 i2_1 i2_2 i2_3 i2_4 i2_5 i2_6 i2_7 i5_0 i5_1 i5_2 i5_3 i5_4 i5_5 i5_6 i5_7} (acc : Vec Ideal S1x128 .f32) (A : Fin 128 → ℝ) (hacc : ∀ l, acc (ix2 0 l) = ((A l : ℝ) : EReal)) (e : Fin 1) (l : Fin 128) :
    k0_pay255 (F := Ideal) (k0_pay5 (F := Ideal) (iblk m c 7 t)) (k0_pay6 (F := Ideal) (iblk m c 8 t)) (k0_pay7 (F := Ideal) (iblk m c 9 t)) (k0_pay243 (F := Ideal) (View.ld (iblk m c 2 t) (Rect.unit (s := S256x1024) ![0, 0] ![256, 128] i2_0)) (View.ld (iblk m c 2 t) (Rect.unit (s := S256x1024) ![0, 128] ![256, 128] i2_1)) (View.ld (iblk m c 2 t) (Rect.unit (s := S256x1024) ![0, 256] ![256, 128] i2_2)) (View.ld (iblk m c 2 t) (Rect.unit (s := S256x1024) ![0, 384] ![256, 128] i2_3)) (View.ld (iblk m c 2 t) (Rect.unit (s := S256x1024) ![0, 512] ![256, 128] i2_4)) (View.ld (iblk m c 2 t) (Rect.unit (s := S256x1024) ![0, 640] ![256, 128] i2_5)) (View.ld (iblk m c 2 t) (Rect.unit (s := S256x1024) ![0, 768] ![256, 128] i2_6)) (View.ld (iblk m c 2 t) (Rect.unit (s := S256x1024) ![0, 896] ![256, 128] i2_7))) (k0_pay244 (F := Ideal) (View.ld (iblk m c 5 t) (Rect.unit (s := S256x1024) ![0, 0] ![256, 128] i5_0))) (k0_pay245 (F := Ideal) (View.ld (iblk m c 5 t) (Rect.unit (s := S256x1024) ![0, 128] ![256, 128] i5_1))) (k0_pay246 (F := Ideal) (View.ld (iblk m c 5 t) (Rect.unit (s := S256x1024) ![0, 256] ![256, 128] i5_2))) (k0_pay247 (F := Ideal) (View.ld (iblk m c 5 t) (Rect.unit (s := S256x1024) ![0, 384] ![256, 128] i5_3))) (k0_pay248 (F := Ideal) (View.ld (iblk m c 5 t) (Rect.unit (s := S256x1024) ![0, 512] ![256, 128] i5_4))) (k0_pay249 (F := Ideal) (View.ld (iblk m c 5 t) (Rect.unit (s := S256x1024) ![0, 640] ![256, 128] i5_5))) (k0_pay250 (F := Ideal) (View.ld (iblk m c 5 t) (Rect.unit (s := S256x1024) ![0, 768] ![256, 128] i5_6))) (View.ld (iblk m c 5 t) (Rect.unit (s := S256x1024) ![0, 896] ![256, 128] i5_7)) acc (ix2 e l)
      = ((A l + ∑ p, ∑ h, Proj.dnq Cq (row t p) h l * (Proj.zq X G W (row t p) h l * rstd 128 (Proj.zq X G W (row t p) h)) : ℝ) : EReal) :=
  gain8 (fun p => row t p) _ _ _ (tab5 m c t) (tab6 m c t) (tab7 m c t) _ (fun h p => Proj.gq Cq (row t p) h) (scaledQ m c Cq h6 t)
    _ _ _ _ _ _ _ _ (fun h p => Proj.zq X G W (row t p) h) acc A hacc
    (fun p l => (cast244 _ p l).trans (headZ m c X G W h0 h1 h2 t 0 0 rfl p l))
    (fun p l => (cast245 _ p l).trans (headZ m c X G W h0 h1 h2 t 1 128 rfl p l))
    (fun p l => (cast246 _ p l).trans (headZ m c X G W h0 h1 h2 t 2 256 rfl p l))
    (fun p l => (cast247 _ p l).trans (headZ m c X G W h0 h1 h2 t 3 384 rfl p l))
    (fun p l => (cast248 _ p l).trans (headZ m c X G W h0 h1 h2 t 4 512 rfl p l))
    (fun p l => (cast249 _ p l).trans (headZ m c X G W h0 h1 h2 t 5 640 rfl p l))
    (fun p l => (cast250 _ p l).trans (headZ m c X G W h0 h1 h2 t 6 768 rfl p l))
    (fun p l => (headZ m c X G W h0 h1 h2 t 7 896 rfl p l)) e l

include h0 h1 h2 h4 h7 in
/-- The gradient of a block's heads of the keys. -/
theorem backK (t : Fin cfg0.N) {i3_0 i3_1 i6_0 i6_1} (h : Fin 2) (p : Fin 256) (l : Fin 128) :
    (k0_pay264 (F := Ideal) (k0_pay260 (F := Ideal) (k0_pay5 (F := Ideal) (iblk m c 7 t)) (k0_pay6 (F := Ideal) (iblk m c 8 t)) (k0_pay7 (F := Ideal) (iblk m c 9 t)) (View.ld (iblk m c 3 t) (Rect.unit (s := S256x256) ![0, 0] ![256, 128] i3_0)) (View.ld (iblk m c 3 t) (Rect.unit (s := S256x256) ![0, 128] ![256, 128] i3_1))) (k0_pay261 (F := Ideal) (View.ld (iblk m c 6 t) (Rect.unit (s := S256x256) ![0, 0] ![256, 128] i6_0)) (View.ld (iblk m c 6 t) (Rect.unit (s := S256x256) ![0, 128] ![256, 128] i6_1))) (k0_pay262 (F := Ideal) (View.ld (iblk m c 6 t) (Rect.unit (s := S256x256) ![0, 0] ![256, 128] i6_0)) (View.ld (iblk m c 6 t) (Rect.unit (s := S256x256) ![0, 128] ![256, 128] i6_1))) (iblk m c 24 t) (ix3 h p l) : EReal)
      = ((Proj.dzk X G W Gk Ck (row t p) h l : ℝ) : EReal) :=
  back2 (fun p => row t p) _ _ _ (tab5 m c t) (tab6 m c t) (tab7 m c t) _ _ _ _ (fun h p => Proj.gk Ck (row t p) h) (fun h p => Proj.zk X G W (row t p) h)
    _ Gk (b24 m c Gk h4 t)
    (fun p l => (ld3 m c Ck h7 t 0 (by decide) p l).trans (congrArg (fun i => ((Ck (row t p) i / ln2w : ℝ) : EReal)) (Fin.ext (show 0 + l.val = 0 * 128 + l.val by omega))))
    (fun p l => (ld3 m c Ck h7 t 128 (by decide) p l).trans (congrArg (fun i => ((Ck (row t p) i / ln2w : ℝ) : EReal)) (Fin.ext (show 128 + l.val = 1 * 128 + l.val by omega))))
    (fun p l => (ld6 m c X G W h0 h1 h2 t 0 (by decide) p l).trans (congrArg (fun i => ((Proj.z X G W (row t p) i : ℝ) : EReal)) (Fin.ext (show 1024 + (0 + l.val) = 1024 + (0 * 128 + l.val) by omega))))
    (fun p l => (ld6 m c X G W h0 h1 h2 t 128 (by decide) p l).trans (congrArg (fun i => ((Proj.z X G W (row t p) i : ℝ) : EReal)) (Fin.ext (show 1024 + (128 + l.val) = 1024 + (1 * 128 + l.val) by omega)))) h p l

include h0 h1 h2 h7 in
/-- What a block adds to the gradient of the keys' gain. -/
theorem gainK (t : Fin cfg0.N) {i3_0 i3_1 i6_0 i6_1} (acc : Vec Ideal S1x128 .f32) (A : Fin 128 → ℝ) (hacc : ∀ l, acc (ix2 0 l) = ((A l : ℝ) : EReal)) (e : Fin 1) (l : Fin 128) :
    k0_pay263 (F := Ideal) (k0_pay260 (F := Ideal) (k0_pay5 (F := Ideal) (iblk m c 7 t)) (k0_pay6 (F := Ideal) (iblk m c 8 t)) (k0_pay7 (F := Ideal) (iblk m c 9 t)) (View.ld (iblk m c 3 t) (Rect.unit (s := S256x256) ![0, 0] ![256, 128] i3_0)) (View.ld (iblk m c 3 t) (Rect.unit (s := S256x256) ![0, 128] ![256, 128] i3_1))) (k0_pay262 (F := Ideal) (View.ld (iblk m c 6 t) (Rect.unit (s := S256x256) ![0, 0] ![256, 128] i6_0)) (View.ld (iblk m c 6 t) (Rect.unit (s := S256x256) ![0, 128] ![256, 128] i6_1))) acc (ix2 e l)
      = ((A l + ∑ p, ∑ h, Proj.dnk Ck (row t p) h l * (Proj.zk X G W (row t p) h l * rstd 128 (Proj.zk X G W (row t p) h)) : ℝ) : EReal) :=
  gain2 (fun p => row t p) _ _ _ (tab5 m c t) (tab6 m c t) (tab7 m c t) _ _ _ _ (fun h p => Proj.gk Ck (row t p) h) (fun h p => Proj.zk X G W (row t p) h)
    acc A hacc
    (fun p l => (ld3 m c Ck h7 t 0 (by decide) p l).trans (congrArg (fun i => ((Ck (row t p) i / ln2w : ℝ) : EReal)) (Fin.ext (show 0 + l.val = 0 * 128 + l.val by omega))))
    (fun p l => (ld3 m c Ck h7 t 128 (by decide) p l).trans (congrArg (fun i => ((Ck (row t p) i / ln2w : ℝ) : EReal)) (Fin.ext (show 128 + l.val = 1 * 128 + l.val by omega))))
    (fun p l => (ld6 m c X G W h0 h1 h2 t 0 (by decide) p l).trans (congrArg (fun i => ((Proj.z X G W (row t p) i : ℝ) : EReal)) (Fin.ext (show 1024 + (0 + l.val) = 1024 + (0 * 128 + l.val) by omega))))
    (fun p l => (ld6 m c X G W h0 h1 h2 t 128 (by decide) p l).trans (congrArg (fun i => ((Proj.z X G W (row t p) i : ℝ) : EReal)) (Fin.ext (show 1024 + (128 + l.val) = 1024 + (1 * 128 + l.val) by omega)))) e l

include h2 in
/-- The rows of the transposed projection a block multiplies with. -/
theorem ldW (t : Fin cfg0.N) (k : Fin 1024) (b : ℕ) (hb : b < 23) {inb} (j : Fin 256) :
    View.ld (iblk m c 21 t) (Rect.unit (s := S5888x1024) ![256 * b, 0] ![256, 1024] inb) (ix2 j k) = ((zc (W k) (256 * b + j.val) : ℝ) : EReal) := by
  rw [zc_of _ _ (by omega)]
  have e : (Rect.unit (s := S5888x1024) ![256 * b, 0] ![256, 1024] inb).emb (ix2 j k) = ix2 (⟨256 * b + j.val, by omega⟩ : Fin 5888) k := by
    funext a
    refine Fin.ext ?_
    match a with
    | ⟨0, _⟩ => show 256 * b + 1 * j.val = 256 * b + j.val; omega
    | ⟨1, _⟩ => show 0 + 1 * k.val = k.val; omega
  exact (congrArg (iblk m c 21 t) e).trans (b21 m c W h2 t _ k)

theorem cast128 {X : Vec Ideal S1x256x128 .f32} {s} (p : Fin 256) (l : Fin 128) : shapeCast S256x128 X s (ix2 p l) = X (ix3 0 p l) := by
  pointwise

end Cert.Kernel5Ideal.Value
-- ==== Proof.ProjOpen.lean ====
/-
  The gradient of the normed and scaled input in the fifth kernel's body: 23 blocks of a product with the transposed
  projection, whose left factors are the gates' cotangents, the residue classes put in order again, and the gradients back
  through the head norms.
-/
module
public import proofs.«01_k».proof.Proof.ProjStep
public import proofs.«01_k».proof.Proof.ProjPlane
public import proofs.«01_k».proof.Proof.ProjLoads
@[expose] public section
set_option maxRecDepth 16384
noncomputable section
namespace Cert.Kernel5Ideal.Value
open Cert.Kernel5Ideal Cert.Kernel5Ideal.Gen Idealize.ShloMosaic Idealize.ShloMosaic.TcCoe Idealize.SL.Sem Idealize.ShloMosaic.StableHlo Cert.Reals

variable (m : (ℓ : Loc nD τ sig) → Buf (Elt Ideal) ℓ) (c : Dev nD)
variable (X : Fin 8192 → Fin 1024 → ℝ) (G : Fin 1024 → ℝ) (W : Fin 1024 → Fin 5888 → ℝ) (Gq Gk : Fin 128 → ℝ)
  (Cx Cq : Fin 8192 → Fin 1024 → ℝ) (Ck Cv : Fin 8192 → Fin 256 → ℝ) (Dq Dk Dv : Fin 8192 → Fin 768 → ℝ)
  (Ca Cb : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ k d, m ((c : Thread nD τ).loc main_arg2) (ix3 0 k d) = ((W k d : ℝ) : EReal))
  (h3 : ∀ d, m ((c : Thread nD τ).loc main_arg3) (ix2 0 d) = ((Gq d : ℝ) : EReal))
  (h4 : ∀ d, m ((c : Thread nD τ).loc main_arg4) (ix2 0 d) = ((Gk d : ℝ) : EReal))
  (h5 : ∀ t d, m ((c : Thread nD τ).loc main_arg5) (ix2 t d) = ((Cx t d : ℝ) : EReal))
  (h6 : ∀ t d, m ((c : Thread nD τ).loc main_arg6) (ix2 t d) = ((Cq t d : ℝ) : EReal))
  (h7 : ∀ t d, m ((c : Thread nD τ).loc main_arg7) (ix2 t d) = ((Ck t d : ℝ) : EReal))
  (h8 : ∀ t d, m ((c : Thread nD τ).loc main_arg8) (ix2 t d) = ((Cv t d : ℝ) : EReal))
  (h9 : ∀ t d, m ((c : Thread nD τ).loc main_arg9) (ix2 t d) = ((Dq t d : ℝ) : EReal))
  (h10 : ∀ t d, m ((c : Thread nD τ).loc main_arg10) (ix2 t d) = ((Dk t d : ℝ) : EReal))
  (h11 : ∀ t d, m ((c : Thread nD τ).loc main_arg11) (ix2 t d) = ((Dv t d : ℝ) : EReal))
  (h12 : ∀ t d, m ((c : Thread nD τ).loc main_arg12) (ix2 t d) = ((Ca t d : ℝ) : EReal))
  (h13 : ∀ t d, m ((c : Thread nD τ).loc main_arg13) (ix2 t d) = ((Cb t d : ℝ) : EReal))

include h0 h1 h2 h3 h4 h6 h7 h8 h9 h10 h11 h12 h13
set_option maxHeartbeats 20000000 in
theorem opened (t : Fin cfg0.N) : ∃ D : FVec Ideal S256x1024 .f32,
    (∀ h, (outA m c t h).1 = k0_pay1 (F := Ideal) (k0_pay276 (F := Ideal) (iblk m c 1 t)) (k0_pay277 (F := Ideal) (iblk m c 1 t)) (iblk m c 0 t)
      (k0_pay279 (F := Ideal) D (iblk m c 22 t)) (k0_pay280 (F := Ideal) (k0_pay277 (F := Ideal) (iblk m c 1 t)) D (iblk m c 22 t))
      (Scalar.ofBits .f32 1149239296#32))
    ∧ (∀ h, (outA m c t h).2.2.1 = k0_pay278 (F := Ideal) (k0_pay277 (F := Ideal) (iblk m c 1 t)) D (k0_pay2 (F := Ideal)))
    ∧ (∀ h p, (outB m c t h p).1 = k0_pay1 (F := Ideal) (k0_pay276 (F := Ideal) (iblk m c 1 t)) (k0_pay277 (F := Ideal) (iblk m c 1 t)) (iblk m c 0 t)
      (k0_pay279 (F := Ideal) D (iblk m c 22 t)) (k0_pay280 (F := Ideal) (k0_pay277 (F := Ideal) (iblk m c 1 t)) D (iblk m c 22 t))
      (Scalar.ofBits .f32 1149239296#32))
    ∧ (∀ h p, (outB m c t h p).2.2.1 = k0_pay278 (F := Ideal) (k0_pay277 (F := Ideal) (iblk m c 1 t)) D (p.2.2.1))
    ∧ ∀ p k, D (ix2 p k) = ((Proj.dh X G W Gq Gk Cq Ck Cv Dq Dk Dv Ca Cb (row t p) k : ℝ) : EReal) := by
  refine ⟨?_, ?_, ?_, ?_, ?_, ?_⟩
  case refine_2 =>
    intro h
    unfold outA runA
    dsimp only
    frame_open
    rw [View.read_writes_junk_eq_canon]
    simp (disch := decide) only [↓ View.readCov_skip, ↓ View.readCov_cons_toLoadRect, ↓ View.readCov_fill, View.canon_cons_unit_lit',
      View.readAt_eq_ld, Memref.IsWhole.read_unread, View.ld_unit_lit']
    with_reducible rfl
  case refine_3 =>
    intro h
    unfold outA runA
    dsimp only
    frame_open
    rw [View.read_writes_junk_eq_canon]
    simp (disch := decide) only [↓ View.readCov_skip, ↓ View.readCov_cons_toLoadRect, ↓ View.readCov_fill, View.canon_cons_unit_lit',
      View.readAt_eq_ld, Memref.IsWhole.read_unread, View.ld_unit_lit']
  case refine_4 =>
    intro h p
    unfold outB runB
    dsimp only
    frame_open
    rw [View.read_writes_junk_eq_canon]
    simp (disch := decide) only [↓ View.readCov_skip, ↓ View.readCov_cons_toLoadRect, ↓ View.readCov_fill, View.canon_cons_unit_lit',
      View.readAt_eq_ld, Memref.IsWhole.read_unread, View.ld_unit_lit']
  case refine_5 =>
    intro h p
    unfold outB runB
    dsimp only
    frame_open
    rw [View.read_writes_junk_eq_canon]
    simp (disch := decide) only [↓ View.readCov_skip, ↓ View.readCov_cons_toLoadRect, ↓ View.readCov_fill, View.canon_cons_unit_lit',
      View.readAt_eq_ld, Memref.IsWhole.read_unread, View.ld_unit_lit']
  case refine_6 =>
    intro p k
    rw [Proj.dh, ← parts_sum]
    refine step 4 (Z := Proj.dz X G W Gq Gk Cq Ck Cv Dq Dk Dv Ca Cb (row t p)) (V := W k) ?_ ?_ ?_
    · intro j
      refine Eq.trans (ka0 (backK m c X G W Gk Ck h0 h1 h2 h4 h7 t) p j) (congrArg Real.toEReal (zc_ka X G W Gq Gk Cq Ck Cv Dq Dk Dv Ca Cb (row t p) j).symm)
    · intro j
      exact ldW m c W h2 t k 4 (by decide) j
    refine step 3 (Z := Proj.dz X G W Gq Gk Cq Ck Cv Dq Dk Dv Ca Cb (row t p)) (V := W k) ?_ ?_ ?_
    · intro j
      refine Eq.trans (qa3 (backQ m c X G W Gq Cq h0 h1 h2 h3 h6 t) p j) (congrArg Real.toEReal (zc_qa X G W Gq Gk Cq Ck Cv Dq Dk Dv Ca Cb (row t p) j 3 (by decide)).symm)
    · intro j
      exact ldW m c W h2 t k 3 (by decide) j
    refine step 2 (Z := Proj.dz X G W Gq Gk Cq Ck Cv Dq Dk Dv Ca Cb (row t p)) (V := W k) ?_ ?_ ?_
    · intro j
      refine Eq.trans (qa2 (backQ m c X G W Gq Cq h0 h1 h2 h3 h6 t) p j) (congrArg Real.toEReal (zc_qa X G W Gq Gk Cq Ck Cv Dq Dk Dv Ca Cb (row t p) j 2 (by decide)).symm)
    · intro j
      exact ldW m c W h2 t k 2 (by decide) j
    refine step 1 (Z := Proj.dz X G W Gq Gk Cq Ck Cv Dq Dk Dv Ca Cb (row t p)) (V := W k) ?_ ?_ ?_
    · intro j
      refine Eq.trans (qa1 (backQ m c X G W Gq Cq h0 h1 h2 h3 h6 t) p j) (congrArg Real.toEReal (zc_qa X G W Gq Gk Cq Ck Cv Dq Dk Dv Ca Cb (row t p) j 1 (by decide)).symm)
    · intro j
      exact ldW m c W h2 t k 1 (by decide) j
    refine step 0 (Z := Proj.dz X G W Gq Gk Cq Ck Cv Dq Dk Dv Ca Cb (row t p)) (V := W k) ?_ ?_ ?_
    · intro j
      refine Eq.trans (qa0 (backQ m c X G W Gq Cq h0 h1 h2 h3 h6 t) p j) (congrArg Real.toEReal (zc_qa X G W Gq Gk Cq Ck Cv Dq Dk Dv Ca Cb (row t p) j 0 (by decide)).symm)
    · intro j
      exact ldW m c W h2 t k 0 (by decide) j
    refine step 14 (Z := Proj.dz X G W Gq Gk Cq Ck Cv Dq Dk Dv Ca Cb (row t p)) (V := W k) ?_ ?_ ?_
    · intro j
      refine Eq.trans (vb16 (f := fun p j => Dv (row t p) ⟨512 + j.val, by omega⟩) p j ?_ ?_) (congrArg Real.toEReal (zc_vb X G W Gq Gk Cq Ck Cv Dq Dk Dv Ca Cb (row t p) j 14 512 (by decide) rfl).symm)
      · intro p l
        refine Eq.trans (plane16_0 (D := fun y l => Dv (row t y) ⟨512 + (l.val), by omega⟩) ?_ ?_ ?_ ?_ ?_ ?_ ?_ ?_ ?_ ?_ ?_ ?_ ?_ ?_ ?_ ?_ p l) rfl
        all_goals (intro i l; pointwise [k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]; exact b18 m c Dv h11 t _ _ _)
      · intro p l
        refine Eq.trans (plane16_1 (D := fun y l => Dv (row t y) ⟨512 + (128 + l.val), by omega⟩) ?_ ?_ ?_ ?_ ?_ ?_ ?_ ?_ ?_ ?_ ?_ ?_ ?_ ?_ ?_ ?_ p l) rfl
        all_goals (intro i l; pointwise [k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]; exact b18 m c Dv h11 t _ _ _)
    · intro j
      exact ldW m c W h2 t k 14 (by decide) j
    refine step 11 (Z := Proj.dz X G W Gq Gk Cq Ck Cv Dq Dk Dv Ca Cb (row t p)) (V := W k) ?_ ?_ ?_
    · intro j
      refine Eq.trans (kb16 (f := fun p j => Dk (row t p) ⟨512 + j.val, by omega⟩) p j ?_ ?_) (congrArg Real.toEReal (zc_kb X G W Gq Gk Cq Ck Cv Dq Dk Dv Ca Cb (row t p) j 11 512 (by decide) rfl).symm)
      · intro p l
        refine Eq.trans (plane16_0 (D := fun y l => Dk (row t y) ⟨512 + (l.val), by omega⟩ / ln2w) ?_ ?_ ?_ ?_ ?_ ?_ ?_ ?_ ?_ ?_ ?_ ?_ ?_ ?_ ?_ ?_ p l) rfl
        all_goals (intro i l; pointwise [k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]; exact b15 m c Dk h10 t _ _ _)
      · intro p l
        refine Eq.trans (plane16_1 (D := fun y l => Dk (row t y) ⟨512 + (128 + l.val), by omega⟩ / ln2w) ?_ ?_ ?_ ?_ ?_ ?_ ?_ ?_ ?_ ?_ ?_ ?_ ?_ ?_ ?_ ?_ p l) rfl
        all_goals (intro i l; pointwise [k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]; exact b15 m c Dk h10 t _ _ _)
    · intro j
      exact ldW m c W h2 t k 11 (by decide) j
    refine step 8 (Z := Proj.dz X G W Gq Gk Cq Ck Cv Dq Dk Dv Ca Cb (row t p)) (V := W k) ?_ ?_ ?_
    · intro j
      refine Eq.trans (qb16 (f := fun p j => Dq (row t p) ⟨512 + j.val, by omega⟩) p j ?_ ?_) (congrArg Real.toEReal (zc_qb X G W Gq Gk Cq Ck Cv Dq Dk Dv Ca Cb (row t p) j 8 512 (by decide) rfl).symm)
      · intro p l
        refine Eq.trans (plane16_0 (D := fun y l => Dq (row t y) ⟨512 + (l.val), by omega⟩) ?_ ?_ ?_ ?_ ?_ ?_ ?_ ?_ ?_ ?_ ?_ ?_ ?_ ?_ ?_ ?_ p l) rfl
        all_goals (intro i l; pointwise [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134]; exact b12 m c Dq h9 t _ _ _)
      · intro p l
        refine Eq.trans (plane16_1 (D := fun y l => Dq (row t y) ⟨512 + (128 + l.val), by omega⟩) ?_ ?_ ?_ ?_ ?_ ?_ ?_ ?_ ?_ ?_ ?_ ?_ ?_ ?_ ?_ ?_ p l) rfl
        all_goals (intro i l; pointwise [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134]; exact b12 m c Dq h9 t _ _ _)
    · intro j
      exact ldW m c W h2 t k 8 (by decide) j
    refine step 13 (Z := Proj.dz X G W Gq Gk Cq Ck Cv Dq Dk Dv Ca Cb (row t p)) (V := W k) ?_ ?_ ?_
    · intro j
      refine Eq.trans (vb4 (f := fun p j => Dv (row t p) ⟨256 + j.val, by omega⟩) p j ?_ ?_) (congrArg Real.toEReal (zc_vb X G W Gq Gk Cq Ck Cv Dq Dk Dv Ca Cb (row t p) j 13 256 (by decide) rfl).symm)
      · intro p l
        refine (cast128 p l).trans (plane4_0 (D := fun y l => Dv (row t y) ⟨256 + (l.val), by omega⟩) ?_ ?_ ?_ ?_ p l)
        all_goals (intro i l; pointwise [k0_pay68, k0_pay69, k0_pay70, k0_pay71, k0_pay72, k0_pay73, k0_pay74, k0_pay75, k0_pay76, k0_pay77, k0_pay78, k0_pay79, k0_pay80, k0_pay81]; exact b17 m c Dv h11 t _ _ _)
      · intro p l
        refine Eq.trans (plane4_1 (D := fun y l => Dv (row t y) ⟨256 + (128 + l.val), by omega⟩) ?_ ?_ ?_ ?_ p l) rfl
        all_goals (intro i l; pointwise [k0_pay68, k0_pay69, k0_pay70, k0_pay71, k0_pay72, k0_pay73, k0_pay74, k0_pay75, k0_pay76, k0_pay77, k0_pay78, k0_pay79, k0_pay80, k0_pay81]; exact b17 m c Dv h11 t _ _ _)
    · intro j
      exact ldW m c W h2 t k 13 (by decide) j
    refine step 10 (Z := Proj.dz X G W Gq Gk Cq Ck Cv Dq Dk Dv Ca Cb (row t p)) (V := W k) ?_ ?_ ?_
    · intro j
      refine Eq.trans (kb4 (f := fun p j => Dk (row t p) ⟨256 + j.val, by omega⟩) p j ?_ ?_) (congrArg Real.toEReal (zc_kb X G W Gq Gk Cq Ck Cv Dq Dk Dv Ca Cb (row t p) j 10 256 (by decide) rfl).symm)
      · intro p l
        refine (cast128 p l).trans (plane4_0 (D := fun y l => Dk (row t y) ⟨256 + (l.val), by omega⟩ / ln2w) ?_ ?_ ?_ ?_ p l)
        all_goals (intro i l; pointwise [k0_pay52, k0_pay53, k0_pay54, k0_pay55, k0_pay56, k0_pay57, k0_pay58, k0_pay59, k0_pay60, k0_pay61, k0_pay62, k0_pay63, k0_pay64, k0_pay65]; exact b14 m c Dk h10 t _ _ _)
      · intro p l
        refine Eq.trans (plane4_1 (D := fun y l => Dk (row t y) ⟨256 + (128 + l.val), by omega⟩ / ln2w) ?_ ?_ ?_ ?_ p l) rfl
        all_goals (intro i l; pointwise [k0_pay52, k0_pay53, k0_pay54, k0_pay55, k0_pay56, k0_pay57, k0_pay58, k0_pay59, k0_pay60, k0_pay61, k0_pay62, k0_pay63, k0_pay64, k0_pay65]; exact b14 m c Dk h10 t _ _ _)
    · intro j
      exact ldW m c W h2 t k 10 (by decide) j
    refine step 7 (Z := Proj.dz X G W Gq Gk Cq Ck Cv Dq Dk Dv Ca Cb (row t p)) (V := W k) ?_ ?_ ?_
    · intro j
      refine Eq.trans (qb4 (f := fun p j => Dq (row t p) ⟨256 + j.val, by omega⟩) p j ?_ ?_) (congrArg Real.toEReal (zc_qb X G W Gq Gk Cq Ck Cv Dq Dk Dv Ca Cb (row t p) j 7 256 (by decide) rfl).symm)
      · intro p l
        refine (cast128 p l).trans (plane4_0 (D := fun y l => Dq (row t y) ⟨256 + (l.val), by omega⟩) ?_ ?_ ?_ ?_ p l)
        all_goals (intro i l; pointwise [k0_pay36, k0_pay37, k0_pay38, k0_pay39, k0_pay40, k0_pay41, k0_pay42, k0_pay43, k0_pay44, k0_pay45, k0_pay46, k0_pay47, k0_pay48, k0_pay49]; exact b11 m c Dq h9 t _ _ _)
      · intro p l
        refine Eq.trans (plane4_1 (D := fun y l => Dq (row t y) ⟨256 + (128 + l.val), by omega⟩) ?_ ?_ ?_ ?_ p l) rfl
        all_goals (intro i l; pointwise [k0_pay36, k0_pay37, k0_pay38, k0_pay39, k0_pay40, k0_pay41, k0_pay42, k0_pay43, k0_pay44, k0_pay45, k0_pay46, k0_pay47, k0_pay48, k0_pay49]; exact b11 m c Dq h9 t _ _ _)
    · intro j
      exact ldW m c W h2 t k 7 (by decide) j
    refine step 12 (Z := Proj.dz X G W Gq Gk Cq Ck Cv Dq Dk Dv Ca Cb (row t p)) (V := W k) ?_ ?_ ?_
    · intro j
      refine Eq.trans ?_ (congrArg Real.toEReal (zc_vb X G W Gq Gk Cq Ck Cv Dq Dk Dv Ca Cb (row t p) j 12 0 (by decide) rfl).symm)
      pointwise [k0_pay34]
      rw [b16 m c Dv h11 t]
      exact congrArg₂ (fun (a : Fin 256) (i : Fin 768) => ((Dv (row t a) i : ℝ) : EReal)) (Fin.ext (show p.val * 1 + 0 = p.val by omega)) (Fin.ext (Nat.zero_add _))
    · intro j
      exact ldW m c W h2 t k 12 (by decide) j
    refine step 9 (Z := Proj.dz X G W Gq Gk Cq Ck Cv Dq Dk Dv Ca Cb (row t p)) (V := W k) ?_ ?_ ?_
    · intro j
      refine Eq.trans ?_ (congrArg Real.toEReal (zc_kb X G W Gq Gk Cq Ck Cv Dq Dk Dv Ca Cb (row t p) j 9 0 (by decide) rfl).symm)
      pointwise [k0_pay31]
      rw [b13 m c Dk h10 t, word_ln2, ← EReal.coe_mul, div_mul_cancel₀ _ ln2w_ne]
      exact congrArg₂ (fun (a : Fin 256) (i : Fin 768) => ((Dk (row t a) i : ℝ) : EReal)) (Fin.ext (show p.val * 1 + 0 = p.val by omega)) (Fin.ext (Nat.zero_add _))
    · intro j
      exact ldW m c W h2 t k 9 (by decide) j
    refine step 6 (Z := Proj.dz X G W Gq Gk Cq Ck Cv Dq Dk Dv Ca Cb (row t p)) (V := W k) ?_ ?_ ?_
    · intro j
      refine Eq.trans ?_ (congrArg Real.toEReal (zc_qb X G W Gq Gk Cq Ck Cv Dq Dk Dv Ca Cb (row t p) j 6 0 (by decide) rfl).symm)
      pointwise [k0_pay29]
      rw [b10 m c Dq h9 t, word_eighth, ← EReal.coe_mul]
      exact congrArg₂ (fun (a : Fin 256) (i : Fin 768) => ((Dq (row t a) i * (1 / 8) : ℝ) : EReal)) (Fin.ext (show p.val * 1 + 0 = p.val by omega)) (Fin.ext (Nat.zero_add _))
    · intro j
      exact ldW m c W h2 t k 6 (by decide) j
    refine step 5 (Z := Proj.dz X G W Gq Gk Cq Ck Cv Dq Dk Dv Ca Cb (row t p)) (V := W k) ?_ ?_ ?_
    · intro j
      refine Eq.trans ?_ (congrArg Real.toEReal (zc_va X G W Gq Gk Cq Ck Cv Dq Dk Dv Ca Cb (row t p) j 5 0 (by decide) rfl).symm)
      pointwise [k0_pay26]
      exact b4 m c Cv h8 t p _
    · intro j
      exact ldW m c W h2 t k 5 (by decide) j
    refine step 22 (Z := Proj.dz X G W Gq Gk Cq Ck Cv Dq Dk Dv Ca Cb (row t p)) (V := W k) ?_ ?_ ?_
    · intro j
      refine Eq.trans ?_ (congrArg Real.toEReal (zc_gb X G W Gq Gk Cq Ck Cv Dq Dk Dv Ca Cb (row t p) j 22 768 (by decide) rfl).symm)
      pointwise [k0_pay24]
      exact b20 m c Cb h13 t p _
    · intro j
      exact ldW m c W h2 t k 22 (by decide) j
    refine step 18 (Z := Proj.dz X G W Gq Gk Cq Ck Cv Dq Dk Dv Ca Cb (row t p)) (V := W k) ?_ ?_ ?_
    · intro j
      refine Eq.trans ?_ (congrArg Real.toEReal (zc_ga X G W Gq Gk Cq Ck Cv Dq Dk Dv Ca Cb (row t p) j 18 768 (by decide) rfl).symm)
      pointwise [k0_pay22]
      exact b19 m c Ca h12 t p _
    · intro j
      exact ldW m c W h2 t k 18 (by decide) j
    refine step 21 (Z := Proj.dz X G W Gq Gk Cq Ck Cv Dq Dk Dv Ca Cb (row t p)) (V := W k) ?_ ?_ ?_
    · intro j
      refine Eq.trans ?_ (congrArg Real.toEReal (zc_gb X G W Gq Gk Cq Ck Cv Dq Dk Dv Ca Cb (row t p) j 21 512 (by decide) rfl).symm)
      pointwise [k0_pay20]
      exact b20 m c Cb h13 t p _
    · intro j
      exact ldW m c W h2 t k 21 (by decide) j
    refine step 17 (Z := Proj.dz X G W Gq Gk Cq Ck Cv Dq Dk Dv Ca Cb (row t p)) (V := W k) ?_ ?_ ?_
    · intro j
      refine Eq.trans ?_ (congrArg Real.toEReal (zc_ga X G W Gq Gk Cq Ck Cv Dq Dk Dv Ca Cb (row t p) j 17 512 (by decide) rfl).symm)
      pointwise [k0_pay18]
      exact b19 m c Ca h12 t p _
    · intro j
      exact ldW m c W h2 t k 17 (by decide) j
    refine step 20 (Z := Proj.dz X G W Gq Gk Cq Ck Cv Dq Dk Dv Ca Cb (row t p)) (V := W k) ?_ ?_ ?_
    · intro j
      refine Eq.trans ?_ (congrArg Real.toEReal (zc_gb X G W Gq Gk Cq Ck Cv Dq Dk Dv Ca Cb (row t p) j 20 256 (by decide) rfl).symm)
      pointwise [k0_pay15]
      exact b20 m c Cb h13 t p _
    · intro j
      exact ldW m c W h2 t k 20 (by decide) j
    refine step 16 (Z := Proj.dz X G W Gq Gk Cq Ck Cv Dq Dk Dv Ca Cb (row t p)) (V := W k) ?_ ?_ ?_
    · intro j
      refine Eq.trans ?_ (congrArg Real.toEReal (zc_ga X G W Gq Gk Cq Ck Cv Dq Dk Dv Ca Cb (row t p) j 16 256 (by decide) rfl).symm)
      pointwise [k0_pay13]
      exact b19 m c Ca h12 t p _
    · intro j
      exact ldW m c W h2 t k 16 (by decide) j
    refine step 19 (Z := Proj.dz X G W Gq Gk Cq Ck Cv Dq Dk Dv Ca Cb (row t p)) (V := W k) ?_ ?_ ?_
    · intro j
      refine Eq.trans ?_ (congrArg Real.toEReal (zc_gb X G W Gq Gk Cq Ck Cv Dq Dk Dv Ca Cb (row t p) j 19 0 (by decide) rfl).symm)
      pointwise [k0_pay11]
      exact b20 m c Cb h13 t p _
    · intro j
      exact ldW m c W h2 t k 19 (by decide) j
    refine step 15 (Z := Proj.dz X G W Gq Gk Cq Ck Cv Dq Dk Dv Ca Cb (row t p)) (V := W k) ?_ ?_ ?_
    · intro j
      refine Eq.trans ?_ (congrArg Real.toEReal (zc_ga X G W Gq Gk Cq Ck Cv Dq Dk Dv Ca Cb (row t p) j 15 0 (by decide) rfl).symm)
      pointwise [k0_pay9]
      exact b19 m c Ca h12 t p _
    · intro j
      exact ldW m c W h2 t k 15 (by decide) j
    pointwise [k0_pay8]
    exact EReal.coe_zero.symm

end Cert.Kernel5Ideal.Value
-- ==== Proof.ProjOpenDz.lean ====
/-
  The gradient of the projection in the fifth kernel's body: 23 blocks of 256 columns.
-/
module
public import proofs.«01_k».proof.Proof.ProjPlane
public import proofs.«01_k».proof.Proof.ProjLoads
public import Idealize.ShloMosaic.Lib.Pipeline.ReadBack
@[expose] public section
set_option maxRecDepth 16384
noncomputable section
namespace Cert.Kernel5Ideal.Value
open Cert.Kernel5Ideal Cert.Kernel5Ideal.Gen Idealize.ShloMosaic Idealize.ShloMosaic.TcCoe Idealize.SL.Sem Idealize.ShloMosaic.StableHlo Cert.Reals

variable (m : (ℓ : Loc nD τ sig) → Buf (Elt Ideal) ℓ) (c : Dev nD)
variable (X : Fin 8192 → Fin 1024 → ℝ) (G : Fin 1024 → ℝ) (W : Fin 1024 → Fin 5888 → ℝ) (Gq Gk : Fin 128 → ℝ)
  (Cx Cq : Fin 8192 → Fin 1024 → ℝ) (Ck Cv : Fin 8192 → Fin 256 → ℝ) (Dq Dk Dv : Fin 8192 → Fin 768 → ℝ)
  (Ca Cb : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ k d, m ((c : Thread nD τ).loc main_arg2) (ix3 0 k d) = ((W k d : ℝ) : EReal))
  (h3 : ∀ d, m ((c : Thread nD τ).loc main_arg3) (ix2 0 d) = ((Gq d : ℝ) : EReal))
  (h4 : ∀ d, m ((c : Thread nD τ).loc main_arg4) (ix2 0 d) = ((Gk d : ℝ) : EReal))
  (h5 : ∀ t d, m ((c : Thread nD τ).loc main_arg5) (ix2 t d) = ((Cx t d : ℝ) : EReal))
  (h6 : ∀ t d, m ((c : Thread nD τ).loc main_arg6) (ix2 t d) = ((Cq t d : ℝ) : EReal))
  (h7 : ∀ t d, m ((c : Thread nD τ).loc main_arg7) (ix2 t d) = ((Ck t d : ℝ) : EReal))
  (h8 : ∀ t d, m ((c : Thread nD τ).loc main_arg8) (ix2 t d) = ((Cv t d : ℝ) : EReal))
  (h9 : ∀ t d, m ((c : Thread nD τ).loc main_arg9) (ix2 t d) = ((Dq t d : ℝ) : EReal))
  (h10 : ∀ t d, m ((c : Thread nD τ).loc main_arg10) (ix2 t d) = ((Dk t d : ℝ) : EReal))
  (h11 : ∀ t d, m ((c : Thread nD τ).loc main_arg11) (ix2 t d) = ((Dv t d : ℝ) : EReal))
  (h12 : ∀ t d, m ((c : Thread nD τ).loc main_arg12) (ix2 t d) = ((Ca t d : ℝ) : EReal))
  (h13 : ∀ t d, m ((c : Thread nD τ).loc main_arg13) (ix2 t d) = ((Cb t d : ℝ) : EReal))

include h0 h1 h2 h3 h4 h6 h7 h8 h9 h10 h11 h12 h13
set_option maxHeartbeats 20000000 in
theorem opened_dz (t : Fin cfg0.N) : ∃ Z : FVec Ideal S256x5888 .bf16,
    (∀ h, (outA m c t h).2.1 = Z) ∧ (∀ h p, (outB m c t h p).2.1 = Z)
    ∧ ∀ p k, (Z (ix2 p k) : EReal) = ((Proj.dz X G W Gq Gk Cq Ck Cv Dq Dk Dv Ca Cb (row t p) k : ℝ) : EReal) := by
  refine ⟨?_, ?_, ?_, ?_⟩
  case refine_2 =>
    intro h
    unfold outA runA
    dsimp only
    frame_open
    refine Eq.trans (View.read_writes_junk_eq_canon _ _) ?_
    simp (disch := decide) only [↓ View.readCov_skip, ↓ View.readCov_cons_toLoadRect, ↓ View.readCov_fill,
      View.readAt_eq_ld, Memref.IsWhole.read_unread, View.ld_unit_lit']
    all_goals exact rfl
  case refine_3 =>
    intro h p
    unfold outB runB
    dsimp only
    frame_open
    refine Eq.trans (View.read_writes_junk_eq_canon _ _) ?_
    simp (disch := decide) only [↓ View.readCov_skip, ↓ View.readCov_cons_toLoadRect, ↓ View.readCov_fill,
      View.readAt_eq_ld, Memref.IsWhole.read_unread, View.ld_unit_lit']
    all_goals exact rfl
  case refine_4 =>
    intro p k
    refine col 4 (Z := Proj.dz X G W Gq Gk Cq Ck Cv Dq Dk Dv Ca Cb (row t p)) ?_ fun n4 => ?_
    · intro j
      refine Eq.trans (ka0 (backK m c X G W Gk Ck h0 h1 h2 h4 h7 t) p j) (congrArg Real.toEReal (zc_ka X G W Gq Gk Cq Ck Cv Dq Dk Dv Ca Cb (row t p) j).symm)
    refine col 3 (Z := Proj.dz X G W Gq Gk Cq Ck Cv Dq Dk Dv Ca Cb (row t p)) ?_ fun n3 => ?_
    · intro j
      refine Eq.trans (qa3 (backQ m c X G W Gq Cq h0 h1 h2 h3 h6 t) p j) (congrArg Real.toEReal (zc_qa X G W Gq Gk Cq Ck Cv Dq Dk Dv Ca Cb (row t p) j 3 (by decide)).symm)
    refine col 2 (Z := Proj.dz X G W Gq Gk Cq Ck Cv Dq Dk Dv Ca Cb (row t p)) ?_ fun n2 => ?_
    · intro j
      refine Eq.trans (qa2 (backQ m c X G W Gq Cq h0 h1 h2 h3 h6 t) p j) (congrArg Real.toEReal (zc_qa X G W Gq Gk Cq Ck Cv Dq Dk Dv Ca Cb (row t p) j 2 (by decide)).symm)
    refine col 1 (Z := Proj.dz X G W Gq Gk Cq Ck Cv Dq Dk Dv Ca Cb (row t p)) ?_ fun n1 => ?_
    · intro j
      refine Eq.trans (qa1 (backQ m c X G W Gq Cq h0 h1 h2 h3 h6 t) p j) (congrArg Real.toEReal (zc_qa X G W Gq Gk Cq Ck Cv Dq Dk Dv Ca Cb (row t p) j 1 (by decide)).symm)
    refine col 0 (Z := Proj.dz X G W Gq Gk Cq Ck Cv Dq Dk Dv Ca Cb (row t p)) ?_ fun n0 => ?_
    · intro j
      refine Eq.trans (qa0 (backQ m c X G W Gq Cq h0 h1 h2 h3 h6 t) p j) (congrArg Real.toEReal (zc_qa X G W Gq Gk Cq Ck Cv Dq Dk Dv Ca Cb (row t p) j 0 (by decide)).symm)
    refine col 14 (Z := Proj.dz X G W Gq Gk Cq Ck Cv Dq Dk Dv Ca Cb (row t p)) ?_ fun n14 => ?_
    · intro j
      refine Eq.trans (vb16 (f := fun p j => Dv (row t p) ⟨512 + j.val, by omega⟩) p j ?_ ?_) (congrArg Real.toEReal (zc_vb X G W Gq Gk Cq Ck Cv Dq Dk Dv Ca Cb (row t p) j 14 512 (by decide) rfl).symm)
      · intro p l
        refine Eq.trans (plane16_0 (D := fun y l => Dv (row t y) ⟨512 + (l.val), by omega⟩) ?_ ?_ ?_ ?_ ?_ ?_ ?_ ?_ ?_ ?_ ?_ ?_ ?_ ?_ ?_ ?_ p l) rfl
        all_goals (intro i l; pointwise [k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]; exact b18 m c Dv h11 t _ _ _)
      · intro p l
        refine Eq.trans (plane16_1 (D := fun y l => Dv (row t y) ⟨512 + (128 + l.val), by omega⟩) ?_ ?_ ?_ ?_ ?_ ?_ ?_ ?_ ?_ ?_ ?_ ?_ ?_ ?_ ?_ ?_ p l) rfl
        all_goals (intro i l; pointwise [k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]; exact b18 m c Dv h11 t _ _ _)
    refine col 11 (Z := Proj.dz X G W Gq Gk Cq Ck Cv Dq Dk Dv Ca Cb (row t p)) ?_ fun n11 => ?_
    · intro j
      refine Eq.trans (kb16 (f := fun p j => Dk (row t p) ⟨512 + j.val, by omega⟩) p j ?_ ?_) (congrArg Real.toEReal (zc_kb X G W Gq Gk Cq Ck Cv Dq Dk Dv Ca Cb (row t p) j 11 512 (by decide) rfl).symm)
      · intro p l
        refine Eq.trans (plane16_0 (D := fun y l => Dk (row t y) ⟨512 + (l.val), by omega⟩ / ln2w) ?_ ?_ ?_ ?_ ?_ ?_ ?_ ?_ ?_ ?_ ?_ ?_ ?_ ?_ ?_ ?_ p l) rfl
        all_goals (intro i l; pointwise [k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]; exact b15 m c Dk h10 t _ _ _)
      · intro p l
        refine Eq.trans (plane16_1 (D := fun y l => Dk (row t y) ⟨512 + (128 + l.val), by omega⟩ / ln2w) ?_ ?_ ?_ ?_ ?_ ?_ ?_ ?_ ?_ ?_ ?_ ?_ ?_ ?_ ?_ ?_ p l) rfl
        all_goals (intro i l; pointwise [k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]; exact b15 m c Dk h10 t _ _ _)
    refine col 8 (Z := Proj.dz X G W Gq Gk Cq Ck Cv Dq Dk Dv Ca Cb (row t p)) ?_ fun n8 => ?_
    · intro j
      refine Eq.trans (qb16 (f := fun p j => Dq (row t p) ⟨512 + j.val, by omega⟩) p j ?_ ?_) (congrArg Real.toEReal (zc_qb X G W Gq Gk Cq Ck Cv Dq Dk Dv Ca Cb (row t p) j 8 512 (by decide) rfl).symm)
      · intro p l
        refine Eq.trans (plane16_0 (D := fun y l => Dq (row t y) ⟨512 + (l.val), by omega⟩) ?_ ?_ ?_ ?_ ?_ ?_ ?_ ?_ ?_ ?_ ?_ ?_ ?_ ?_ ?_ ?_ p l) rfl
        all_goals (intro i l; pointwise [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134]; exact b12 m c Dq h9 t _ _ _)
      · intro p l
        refine Eq.trans (plane16_1 (D := fun y l => Dq (row t y) ⟨512 + (128 + l.val), by omega⟩) ?_ ?_ ?_ ?_ ?_ ?_ ?_ ?_ ?_ ?_ ?_ ?_ ?_ ?_ ?_ ?_ p l) rfl
        all_goals (intro i l; pointwise [k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134]; exact b12 m c Dq h9 t _ _ _)
    refine col 13 (Z := Proj.dz X G W Gq Gk Cq Ck Cv Dq Dk Dv Ca Cb (row t p)) ?_ fun n13 => ?_
    · intro j
      refine Eq.trans (vb4 (f := fun p j => Dv (row t p) ⟨256 + j.val, by omega⟩) p j ?_ ?_) (congrArg Real.toEReal (zc_vb X G W Gq Gk Cq Ck Cv Dq Dk Dv Ca Cb (row t p) j 13 256 (by decide) rfl).symm)
      · intro p l
        refine (cast128 p l).trans (plane4_0 (D := fun y l => Dv (row t y) ⟨256 + (l.val), by omega⟩) ?_ ?_ ?_ ?_ p l)
        all_goals (intro i l; pointwise [k0_pay68, k0_pay69, k0_pay70, k0_pay71, k0_pay72, k0_pay73, k0_pay74, k0_pay75, k0_pay76, k0_pay77, k0_pay78, k0_pay79, k0_pay80, k0_pay81]; exact b17 m c Dv h11 t _ _ _)
      · intro p l
        refine Eq.trans (plane4_1 (D := fun y l => Dv (row t y) ⟨256 + (128 + l.val), by omega⟩) ?_ ?_ ?_ ?_ p l) rfl
        all_goals (intro i l; pointwise [k0_pay68, k0_pay69, k0_pay70, k0_pay71, k0_pay72, k0_pay73, k0_pay74, k0_pay75, k0_pay76, k0_pay77, k0_pay78, k0_pay79, k0_pay80, k0_pay81]; exact b17 m c Dv h11 t _ _ _)
    refine col 10 (Z := Proj.dz X G W Gq Gk Cq Ck Cv Dq Dk Dv Ca Cb (row t p)) ?_ fun n10 => ?_
    · intro j
      refine Eq.trans (kb4 (f := fun p j => Dk (row t p) ⟨256 + j.val, by omega⟩) p j ?_ ?_) (congrArg Real.toEReal (zc_kb X G W Gq Gk Cq Ck Cv Dq Dk Dv Ca Cb (row t p) j 10 256 (by decide) rfl).symm)
      · intro p l
        refine (cast128 p l).trans (plane4_0 (D := fun y l => Dk (row t y) ⟨256 + (l.val), by omega⟩ / ln2w) ?_ ?_ ?_ ?_ p l)
        all_goals (intro i l; pointwise [k0_pay52, k0_pay53, k0_pay54, k0_pay55, k0_pay56, k0_pay57, k0_pay58, k0_pay59, k0_pay60, k0_pay61, k0_pay62, k0_pay63, k0_pay64, k0_pay65]; exact b14 m c Dk h10 t _ _ _)
      · intro p l
        refine Eq.trans (plane4_1 (D := fun y l => Dk (row t y) ⟨256 + (128 + l.val), by omega⟩ / ln2w) ?_ ?_ ?_ ?_ p l) rfl
        all_goals (intro i l; pointwise [k0_pay52, k0_pay53, k0_pay54, k0_pay55, k0_pay56, k0_pay57, k0_pay58, k0_pay59, k0_pay60, k0_pay61, k0_pay62, k0_pay63, k0_pay64, k0_pay65]; exact b14 m c Dk h10 t _ _ _)
    refine col 7 (Z := Proj.dz X G W Gq Gk Cq Ck Cv Dq Dk Dv Ca Cb (row t p)) ?_ fun n7 => ?_
    · intro j
      refine Eq.trans (qb4 (f := fun p j => Dq (row t p) ⟨256 + j.val, by omega⟩) p j ?_ ?_) (congrArg Real.toEReal (zc_qb X G W Gq Gk Cq Ck Cv Dq Dk Dv Ca Cb (row t p) j 7 256 (by decide) rfl).symm)
      · intro p l
        refine (cast128 p l).trans (plane4_0 (D := fun y l => Dq (row t y) ⟨256 + (l.val), by omega⟩) ?_ ?_ ?_ ?_ p l)
        all_goals (intro i l; pointwise [k0_pay36, k0_pay37, k0_pay38, k0_pay39, k0_pay40, k0_pay41, k0_pay42, k0_pay43, k0_pay44, k0_pay45, k0_pay46, k0_pay47, k0_pay48, k0_pay49]; exact b11 m c Dq h9 t _ _ _)
      · intro p l
        refine Eq.trans (plane4_1 (D := fun y l => Dq (row t y) ⟨256 + (128 + l.val), by omega⟩) ?_ ?_ ?_ ?_ p l) rfl
        all_goals (intro i l; pointwise [k0_pay36, k0_pay37, k0_pay38, k0_pay39, k0_pay40, k0_pay41, k0_pay42, k0_pay43, k0_pay44, k0_pay45, k0_pay46, k0_pay47, k0_pay48, k0_pay49]; exact b11 m c Dq h9 t _ _ _)
    refine col 12 (Z := Proj.dz X G W Gq Gk Cq Ck Cv Dq Dk Dv Ca Cb (row t p)) ?_ fun n12 => ?_
    · intro j
      refine Eq.trans ?_ (congrArg Real.toEReal (zc_vb X G W Gq Gk Cq Ck Cv Dq Dk Dv Ca Cb (row t p) j 12 0 (by decide) rfl).symm)
      pointwise [k0_pay34]
      rw [b16 m c Dv h11 t]
      exact congrArg₂ (fun (a : Fin 256) (i : Fin 768) => ((Dv (row t a) i : ℝ) : EReal)) (Fin.ext (show p.val * 1 + 0 = p.val by omega)) (Fin.ext (Nat.zero_add _))
    refine col 9 (Z := Proj.dz X G W Gq Gk Cq Ck Cv Dq Dk Dv Ca Cb (row t p)) ?_ fun n9 => ?_
    · intro j
      refine Eq.trans ?_ (congrArg Real.toEReal (zc_kb X G W Gq Gk Cq Ck Cv Dq Dk Dv Ca Cb (row t p) j 9 0 (by decide) rfl).symm)
      pointwise [k0_pay31]
      rw [b13 m c Dk h10 t, word_ln2, ← EReal.coe_mul, div_mul_cancel₀ _ ln2w_ne]
      exact congrArg₂ (fun (a : Fin 256) (i : Fin 768) => ((Dk (row t a) i : ℝ) : EReal)) (Fin.ext (show p.val * 1 + 0 = p.val by omega)) (Fin.ext (Nat.zero_add _))
    refine col 6 (Z := Proj.dz X G W Gq Gk Cq Ck Cv Dq Dk Dv Ca Cb (row t p)) ?_ fun n6 => ?_
    · intro j
      refine Eq.trans ?_ (congrArg Real.toEReal (zc_qb X G W Gq Gk Cq Ck Cv Dq Dk Dv Ca Cb (row t p) j 6 0 (by decide) rfl).symm)
      pointwise [k0_pay29]
      rw [b10 m c Dq h9 t, word_eighth, ← EReal.coe_mul]
      exact congrArg₂ (fun (a : Fin 256) (i : Fin 768) => ((Dq (row t a) i * (1 / 8) : ℝ) : EReal)) (Fin.ext (show p.val * 1 + 0 = p.val by omega)) (Fin.ext (Nat.zero_add _))
    refine col 5 (Z := Proj.dz X G W Gq Gk Cq Ck Cv Dq Dk Dv Ca Cb (row t p)) ?_ fun n5 => ?_
    · intro j
      refine Eq.trans ?_ (congrArg Real.toEReal (zc_va X G W Gq Gk Cq Ck Cv Dq Dk Dv Ca Cb (row t p) j 5 0 (by decide) rfl).symm)
      pointwise [k0_pay26]
      exact b4 m c Cv h8 t p _
    refine col 22 (Z := Proj.dz X G W Gq Gk Cq Ck Cv Dq Dk Dv Ca Cb (row t p)) ?_ fun n22 => ?_
    · intro j
      refine Eq.trans ?_ (congrArg Real.toEReal (zc_gb X G W Gq Gk Cq Ck Cv Dq Dk Dv Ca Cb (row t p) j 22 768 (by decide) rfl).symm)
      pointwise [k0_pay24]
      exact b20 m c Cb h13 t p _
    refine col 18 (Z := Proj.dz X G W Gq Gk Cq Ck Cv Dq Dk Dv Ca Cb (row t p)) ?_ fun n18 => ?_
    · intro j
      refine Eq.trans ?_ (congrArg Real.toEReal (zc_ga X G W Gq Gk Cq Ck Cv Dq Dk Dv Ca Cb (row t p) j 18 768 (by decide) rfl).symm)
      pointwise [k0_pay22]
      exact b19 m c Ca h12 t p _
    refine col 21 (Z := Proj.dz X G W Gq Gk Cq Ck Cv Dq Dk Dv Ca Cb (row t p)) ?_ fun n21 => ?_
    · intro j
      refine Eq.trans ?_ (congrArg Real.toEReal (zc_gb X G W Gq Gk Cq Ck Cv Dq Dk Dv Ca Cb (row t p) j 21 512 (by decide) rfl).symm)
      pointwise [k0_pay20]
      exact b20 m c Cb h13 t p _
    refine col 17 (Z := Proj.dz X G W Gq Gk Cq Ck Cv Dq Dk Dv Ca Cb (row t p)) ?_ fun n17 => ?_
    · intro j
      refine Eq.trans ?_ (congrArg Real.toEReal (zc_ga X G W Gq Gk Cq Ck Cv Dq Dk Dv Ca Cb (row t p) j 17 512 (by decide) rfl).symm)
      pointwise [k0_pay18]
      exact b19 m c Ca h12 t p _
    refine col 20 (Z := Proj.dz X G W Gq Gk Cq Ck Cv Dq Dk Dv Ca Cb (row t p)) ?_ fun n20 => ?_
    · intro j
      refine Eq.trans ?_ (congrArg Real.toEReal (zc_gb X G W Gq Gk Cq Ck Cv Dq Dk Dv Ca Cb (row t p) j 20 256 (by decide) rfl).symm)
      pointwise [k0_pay15]
      exact b20 m c Cb h13 t p _
    refine col 16 (Z := Proj.dz X G W Gq Gk Cq Ck Cv Dq Dk Dv Ca Cb (row t p)) ?_ fun n16 => ?_
    · intro j
      refine Eq.trans ?_ (congrArg Real.toEReal (zc_ga X G W Gq Gk Cq Ck Cv Dq Dk Dv Ca Cb (row t p) j 16 256 (by decide) rfl).symm)
      pointwise [k0_pay13]
      exact b19 m c Ca h12 t p _
    refine col 19 (Z := Proj.dz X G W Gq Gk Cq Ck Cv Dq Dk Dv Ca Cb (row t p)) ?_ fun n19 => ?_
    · intro j
      refine Eq.trans ?_ (congrArg Real.toEReal (zc_gb X G W Gq Gk Cq Ck Cv Dq Dk Dv Ca Cb (row t p) j 19 0 (by decide) rfl).symm)
      pointwise [k0_pay11]
      exact b20 m c Cb h13 t p _
    refine col 15 (Z := Proj.dz X G W Gq Gk Cq Ck Cv Dq Dk Dv Ca Cb (row t p)) ?_ fun n15 => ?_
    · intro j
      refine Eq.trans ?_ (congrArg Real.toEReal (zc_ga X G W Gq Gk Cq Ck Cv Dq Dk Dv Ca Cb (row t p) j 15 0 (by decide) rfl).symm)
      pointwise [k0_pay9]
      exact b19 m c Ca h12 t p _
    exact absurd k.isLt (by omega)

end Cert.Kernel5Ideal.Value
-- ==== Proof.ProjGain.lean ====
/-
  What the fifth kernel's body leaves in its two blocks of the head gains' gradients.
-/
module
public import proofs.«01_k».proof.Proof.ProjLoads
public import proofs.«01_k».proof.Proof.ProjFrame
public import Idealize.ShloMosaic.Lib.Pipeline.ReadBack
@[expose] public section
set_option maxRecDepth 16384
noncomputable section
namespace Cert.Kernel5Ideal.Value
open Cert.Kernel5Ideal Cert.Kernel5Ideal.Gen Idealize.ShloMosaic Idealize.ShloMosaic.TcCoe Idealize.SL.Sem Idealize.ShloMosaic.StableHlo Cert.Reals

variable (m : (ℓ : Loc nD τ sig) → Buf (Elt Ideal) ℓ) (c : Dev nD)
variable (X : Fin 8192 → Fin 1024 → ℝ) (G : Fin 1024 → ℝ) (W : Fin 1024 → Fin 5888 → ℝ) (Gq Gk : Fin 128 → ℝ)
  (Cx Cq : Fin 8192 → Fin 1024 → ℝ) (Ck Cv : Fin 8192 → Fin 256 → ℝ) (Dq Dk Dv : Fin 8192 → Fin 768 → ℝ)
  (Ca Cb : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ k d, m ((c : Thread nD τ).loc main_arg2) (ix3 0 k d) = ((W k d : ℝ) : EReal))
  (h3 : ∀ d, m ((c : Thread nD τ).loc main_arg3) (ix2 0 d) = ((Gq d : ℝ) : EReal))
  (h4 : ∀ d, m ((c : Thread nD τ).loc main_arg4) (ix2 0 d) = ((Gk d : ℝ) : EReal))
  (h5 : ∀ t d, m ((c : Thread nD τ).loc main_arg5) (ix2 t d) = ((Cx t d : ℝ) : EReal))
  (h6 : ∀ t d, m ((c : Thread nD τ).loc main_arg6) (ix2 t d) = ((Cq t d : ℝ) : EReal))
  (h7 : ∀ t d, m ((c : Thread nD τ).loc main_arg7) (ix2 t d) = ((Ck t d : ℝ) : EReal))
  (h8 : ∀ t d, m ((c : Thread nD τ).loc main_arg8) (ix2 t d) = ((Cv t d : ℝ) : EReal))
  (h9 : ∀ t d, m ((c : Thread nD τ).loc main_arg9) (ix2 t d) = ((Dq t d : ℝ) : EReal))
  (h10 : ∀ t d, m ((c : Thread nD τ).loc main_arg10) (ix2 t d) = ((Dk t d : ℝ) : EReal))
  (h11 : ∀ t d, m ((c : Thread nD τ).loc main_arg11) (ix2 t d) = ((Dv t d : ℝ) : EReal))
  (h12 : ∀ t d, m ((c : Thread nD τ).loc main_arg12) (ix2 t d) = ((Ca t d : ℝ) : EReal))
  (h13 : ∀ t d, m ((c : Thread nD τ).loc main_arg13) (ix2 t d) = ((Cb t d : ℝ) : EReal))

set_option maxHeartbeats 2000000 in
theorem outA_gq (t : Fin cfg0.N) (h) : (outA m c t h).2.2.2.1 = k0_pay255 (F := Ideal) (k0_pay5 (F := Ideal) (iblk m c 7 t)) (k0_pay6 (F := Ideal) (iblk m c 8 t)) (k0_pay7 (F := Ideal) (iblk m c 9 t)) (k0_pay243 (F := Ideal) (View.ld (iblk m c 2 t) (Rect.unit (s := S256x1024) ![0, 0] ![256, 128] inb_S256x1024_S256x128_0_0)) (View.ld (iblk m c 2 t) (Rect.unit (s := S256x1024) ![0, 128] ![256, 128] inb_S256x1024_S256x128_0_128)) (View.ld (iblk m c 2 t) (Rect.unit (s := S256x1024) ![0, 256] ![256, 128] inb_S256x1024_S256x128_0_256)) (View.ld (iblk m c 2 t) (Rect.unit (s := S256x1024) ![0, 384] ![256, 128] inb_S256x1024_S256x128_0_384)) (View.ld (iblk m c 2 t) (Rect.unit (s := S256x1024) ![0, 512] ![256, 128] inb_S256x1024_S256x128_0_512)) (View.ld (iblk m c 2 t) (Rect.unit (s := S256x1024) ![0, 640] ![256, 128] inb_S256x1024_S256x128_0_640)) (View.ld (iblk m c 2 t) (Rect.unit (s := S256x1024) ![0, 768] ![256, 128] inb_S256x1024_S256x128_0_768)) (View.ld (iblk m c 2 t) (Rect.unit (s := S256x1024) ![0, 896] ![256, 128] inb_S256x1024_S256x128_0_896))) (k0_pay244 (F := Ideal) (View.ld (iblk m c 5 t) (Rect.unit (s := S256x1024) ![0, 0] ![256, 128] inb_S256x1024_S256x128_0_0))) (k0_pay245 (F := Ideal) (View.ld (iblk m c 5 t) (Rect.unit (s := S256x1024) ![0, 128] ![256, 128] inb_S256x1024_S256x128_0_128))) (k0_pay246 (F := Ideal) (View.ld (iblk m c 5 t) (Rect.unit (s := S256x1024) ![0, 256] ![256, 128] inb_S256x1024_S256x128_0_256))) (k0_pay247 (F := Ideal) (View.ld (iblk m c 5 t) (Rect.unit (s := S256x1024) ![0, 384] ![256, 128] inb_S256x1024_S256x128_0_384))) (k0_pay248 (F := Ideal) (View.ld (iblk m c 5 t) (Rect.unit (s := S256x1024) ![0, 512] ![256, 128] inb_S256x1024_S256x128_0_512))) (k0_pay249 (F := Ideal) (View.ld (iblk m c 5 t) (Rect.unit (s := S256x1024) ![0, 640] ![256, 128] inb_S256x1024_S256x128_0_640))) (k0_pay250 (F := Ideal) (View.ld (iblk m c 5 t) (Rect.unit (s := S256x1024) ![0, 768] ![256, 128] inb_S256x1024_S256x128_0_768))) (View.ld (iblk m c 5 t) (Rect.unit (s := S256x1024) ![0, 896] ![256, 128] inb_S256x1024_S256x128_0_896)) (k0_pay3 (F := Ideal)) := by
  unfold outA runA
  dsimp only
  frame_open
  rw [View.read_writes_junk_eq_canon]
  simp (disch := decide) only [↓ View.readCov_skip, ↓ View.readCov_cons_toLoadRect, ↓ View.readCov_fill, View.canon_cons_unit_lit',
    View.readAt_eq_ld, Memref.IsWhole.read_unread, View.ld_unit_lit']
  rfl

set_option maxHeartbeats 2000000 in
theorem outB_gq (t : Fin cfg0.N) (h) (p) : (outB m c t h p).2.2.2.1 = k0_pay255 (F := Ideal) (k0_pay5 (F := Ideal) (iblk m c 7 t)) (k0_pay6 (F := Ideal) (iblk m c 8 t)) (k0_pay7 (F := Ideal) (iblk m c 9 t)) (k0_pay243 (F := Ideal) (View.ld (iblk m c 2 t) (Rect.unit (s := S256x1024) ![0, 0] ![256, 128] inb_S256x1024_S256x128_0_0)) (View.ld (iblk m c 2 t) (Rect.unit (s := S256x1024) ![0, 128] ![256, 128] inb_S256x1024_S256x128_0_128)) (View.ld (iblk m c 2 t) (Rect.unit (s := S256x1024) ![0, 256] ![256, 128] inb_S256x1024_S256x128_0_256)) (View.ld (iblk m c 2 t) (Rect.unit (s := S256x1024) ![0, 384] ![256, 128] inb_S256x1024_S256x128_0_384)) (View.ld (iblk m c 2 t) (Rect.unit (s := S256x1024) ![0, 512] ![256, 128] inb_S256x1024_S256x128_0_512)) (View.ld (iblk m c 2 t) (Rect.unit (s := S256x1024) ![0, 640] ![256, 128] inb_S256x1024_S256x128_0_640)) (View.ld (iblk m c 2 t) (Rect.unit (s := S256x1024) ![0, 768] ![256, 128] inb_S256x1024_S256x128_0_768)) (View.ld (iblk m c 2 t) (Rect.unit (s := S256x1024) ![0, 896] ![256, 128] inb_S256x1024_S256x128_0_896))) (k0_pay244 (F := Ideal) (View.ld (iblk m c 5 t) (Rect.unit (s := S256x1024) ![0, 0] ![256, 128] inb_S256x1024_S256x128_0_0))) (k0_pay245 (F := Ideal) (View.ld (iblk m c 5 t) (Rect.unit (s := S256x1024) ![0, 128] ![256, 128] inb_S256x1024_S256x128_0_128))) (k0_pay246 (F := Ideal) (View.ld (iblk m c 5 t) (Rect.unit (s := S256x1024) ![0, 256] ![256, 128] inb_S256x1024_S256x128_0_256))) (k0_pay247 (F := Ideal) (View.ld (iblk m c 5 t) (Rect.unit (s := S256x1024) ![0, 384] ![256, 128] inb_S256x1024_S256x128_0_384))) (k0_pay248 (F := Ideal) (View.ld (iblk m c 5 t) (Rect.unit (s := S256x1024) ![0, 512] ![256, 128] inb_S256x1024_S256x128_0_512))) (k0_pay249 (F := Ideal) (View.ld (iblk m c 5 t) (Rect.unit (s := S256x1024) ![0, 640] ![256, 128] inb_S256x1024_S256x128_0_640))) (k0_pay250 (F := Ideal) (View.ld (iblk m c 5 t) (Rect.unit (s := S256x1024) ![0, 768] ![256, 128] inb_S256x1024_S256x128_0_768))) (View.ld (iblk m c 5 t) (Rect.unit (s := S256x1024) ![0, 896] ![256, 128] inb_S256x1024_S256x128_0_896)) p.2.2.2.1 := by
  unfold outB runB
  dsimp only
  frame_open
  rw [View.read_writes_junk_eq_canon]
  simp (disch := decide) only [↓ View.readCov_skip, ↓ View.readCov_cons_toLoadRect, ↓ View.readCov_fill, View.canon_cons_unit_lit',
    View.readAt_eq_ld, Memref.IsWhole.read_unread, View.ld_unit_lit']
  rfl

set_option maxHeartbeats 2000000 in
theorem outA_gk (t : Fin cfg0.N) (h) : (outA m c t h).2.2.2.2 = k0_pay263 (F := Ideal) (k0_pay260 (F := Ideal) (k0_pay5 (F := Ideal) (iblk m c 7 t)) (k0_pay6 (F := Ideal) (iblk m c 8 t)) (k0_pay7 (F := Ideal) (iblk m c 9 t)) (View.ld (iblk m c 3 t) (Rect.unit (s := S256x256) ![0, 0] ![256, 128] inb_S256x256_S256x128_0_0)) (View.ld (iblk m c 3 t) (Rect.unit (s := S256x256) ![0, 128] ![256, 128] inb_S256x256_S256x128_0_128))) (k0_pay262 (F := Ideal) (View.ld (iblk m c 6 t) (Rect.unit (s := S256x256) ![0, 0] ![256, 128] inb_S256x256_S256x128_0_0)) (View.ld (iblk m c 6 t) (Rect.unit (s := S256x256) ![0, 128] ![256, 128] inb_S256x256_S256x128_0_128))) (k0_pay4 (F := Ideal)) := by
  unfold outA runA
  dsimp only
  frame_open
  rw [View.read_writes_junk_eq_canon]
  simp (disch := decide) only [↓ View.readCov_skip, ↓ View.readCov_cons_toLoadRect, ↓ View.readCov_fill, View.canon_cons_unit_lit',
    View.readAt_eq_ld, Memref.IsWhole.read_unread, View.ld_unit_lit']
  rfl

set_option maxHeartbeats 2000000 in
theorem outB_gk (t : Fin cfg0.N) (h) (p) : (outB m c t h p).2.2.2.2 = k0_pay263 (F := Ideal) (k0_pay260 (F := Ideal) (k0_pay5 (F := Ideal) (iblk m c 7 t)) (k0_pay6 (F := Ideal) (iblk m c 8 t)) (k0_pay7 (F := Ideal) (iblk m c 9 t)) (View.ld (iblk m c 3 t) (Rect.unit (s := S256x256) ![0, 0] ![256, 128] inb_S256x256_S256x128_0_0)) (View.ld (iblk m c 3 t) (Rect.unit (s := S256x256) ![0, 128] ![256, 128] inb_S256x256_S256x128_0_128))) (k0_pay262 (F := Ideal) (View.ld (iblk m c 6 t) (Rect.unit (s := S256x256) ![0, 0] ![256, 128] inb_S256x256_S256x128_0_0)) (View.ld (iblk m c 6 t) (Rect.unit (s := S256x256) ![0, 128] ![256, 128] inb_S256x256_S256x128_0_128))) p.2.2.2.2 := by
  unfold outB runB
  dsimp only
  frame_open
  rw [View.read_writes_junk_eq_canon]
  simp (disch := decide) only [↓ View.readCov_skip, ↓ View.readCov_cons_toLoadRect, ↓ View.readCov_fill, View.canon_cons_unit_lit',
    View.readAt_eq_ld, Memref.IsWhole.read_unread, View.ld_unit_lit']
  rfl

/-- The last point. -/
def tLast : Fin cfg0.N := ⟨31, lt_of_lt_of_eq (by decide : 31 < 32) N_0.symm⟩

/-- An accumulated block after the last point. -/
theorem acc_sum {ι : Type} (o : ∀ n, n < cfg0.N → ι → EReal) (f : Fin 8192 → ι → ℝ)
    (hA : ∀ t : Fin cfg0.N, t.val % 32 = 0 → ∀ l, o t.val t.isLt l = ((0 + ∑ p, f (row t p) l : ℝ) : EReal))
    (hB : ∀ t : Fin cfg0.N, ¬t.val % 32 = 0 → ∀ A : ι → ℝ,
      (∀ l, o (t.val - 1) (Nat.lt_of_le_of_lt (Nat.sub_le _ _) t.isLt) l = ((A l : ℝ) : EReal)) →
      ∀ l, o t.val t.isLt l = ((A l + ∑ p, f (row t p) l : ℝ) : EReal)) (l : ι) :
    o tLast.val tLast.isLt l = ((∑ t, f t l : ℝ) : EReal) := by
  have key : ∀ n (hn : n < cfg0.N) l, o n hn l
      = ((∑ s : Fin (n + 1), ∑ p, f (row ⟨s.val, Nat.lt_of_le_of_lt (Nat.le_of_lt_succ s.isLt) hn⟩ p) l : ℝ) : EReal) := by
    intro n
    induction n with
    | zero =>
      intro hn l
      refine (hA ⟨0, hn⟩ (Nat.zero_mod _) l).trans (congrArg Real.toEReal ?_)
      rw [zero_add, Fin.sum_univ_one]
      rfl
    | succ n ih =>
      intro hn l
      have hN : n + 1 < 32 := lt_of_lt_of_eq hn N_0
      refine (hB ⟨n + 1, hn⟩ (by dsimp only; omega) _ (ih (Nat.lt_of_succ_lt hn)) l).trans (congrArg Real.toEReal ?_)
      exact (Fin.sum_univ_castSucc fun s : Fin (n + 1 + 1) =>
        ∑ p, f (row ⟨s.val, Nat.lt_of_le_of_lt (Nat.le_of_lt_succ s.isLt) hn⟩ p) l).symm
  refine (key 31 tLast.isLt l).trans (congrArg Real.toEReal ?_)
  exact Fin.sum_mul_add_congr (fun s k _ => rfl)

theorem sum0 (l : Fin 128) : k0_pay3 (F := Ideal) (ix2 0 l) = ((0 : ℝ) : EReal) := by
  pointwise [k0_pay3]
  exact EReal.coe_zero.symm

theorem sum0' (l : Fin 128) : k0_pay4 (F := Ideal) (ix2 0 l) = ((0 : ℝ) : EReal) := by
  pointwise [k0_pay4]
  exact EReal.coe_zero.symm

include h0 h1 h2 h6 in
theorem final28 : (dats m 0 c).arrAt 28 cfg0.N = fun i => ((Proj.dgq X G W Cq (i 1) : ℝ) : EReal) := by
  refine (dats m 0 c).arrAt_eq_of_after_last 28 tLast (by decide +kernel) _ fun j => ?_
  blk_simp; rw [after0_28]
  obtain ⟨z, e, rfl⟩ : ∃ (z : Fin 1) (e : Fin 128), j = ix2 z e := ⟨j 0, j 1, eq_ix2 j⟩
  obtain rfl : z = 0 := Subsingleton.elim _ _
  show _ = ((Proj.dgq X G W Cq e : ℝ) : EReal)
  refine acc_sum (fun n h (e : Fin 128) => (outsAt0 m c n h).2.2.2.1 (ix2 0 e))
    (fun t l => ∑ h, Proj.dnq Cq t h l * (Proj.zq X G W t h l * rstd 128 (Proj.zq X G W t h))) (fun t h l => ?_) (fun t h A hp l => ?_) e
  · rw [outsAt0_A m c t h, outA_gq]
    exact gainQ m c X G W Cq h0 h1 h2 h6 t _ (fun _ => 0) sum0 0 l
  · rw [outsAt0_B m c t h, outB_gq]
    exact gainQ m c X G W Cq h0 h1 h2 h6 t _ A hp 0 l

include h0 h1 h2 h7 in
theorem final29 : (dats m 0 c).arrAt 29 cfg0.N = fun i => ((Proj.dgk X G W Ck (i 1) : ℝ) : EReal) := by
  refine (dats m 0 c).arrAt_eq_of_after_last 29 tLast (by decide +kernel) _ fun j => ?_
  blk_simp; rw [after0_29]
  obtain ⟨z, e, rfl⟩ : ∃ (z : Fin 1) (e : Fin 128), j = ix2 z e := ⟨j 0, j 1, eq_ix2 j⟩
  obtain rfl : z = 0 := Subsingleton.elim _ _
  show _ = ((Proj.dgk X G W Ck e : ℝ) : EReal)
  refine acc_sum (fun n h (e : Fin 128) => (outsAt0 m c n h).2.2.2.2 (ix2 0 e))
    (fun t l => ∑ h, Proj.dnk Ck t h l * (Proj.zk X G W t h l * rstd 128 (Proj.zk X G W t h))) (fun t h l => ?_) (fun t h A hp l => ?_) e
  · rw [outsAt0_A m c t h, outA_gk]
    exact gainK m c X G W Ck h0 h1 h2 h7 t _ (fun _ => 0) sum0' 0 l
  · rw [outsAt0_B m c t h, outB_gk]
    exact gainK m c X G W Ck h0 h1 h2 h7 t _ A hp 0 l

end Cert.Kernel5Ideal.Value
-- ==== Proof.ProjFinal.lean ====
/-
  The arrays the fifth kernel leaves: the gradients of the input, of the projection and of the three gains.
-/
module
public import proofs.«01_k».proof.Proof.ProjOpen
public import proofs.«01_k».proof.Proof.ProjOpenDz
public import proofs.«01_k».proof.Proof.ProjGain
@[expose] public section
set_option maxRecDepth 16384
noncomputable section
namespace Cert.Kernel5Ideal.Value
open Cert.Kernel5Ideal Cert.Kernel5Ideal.Gen Idealize.ShloMosaic Idealize.ShloMosaic.TcCoe Idealize.SL.Sem Cert.Reals

variable (m : (ℓ : Loc nD τ sig) → Buf (Elt Ideal) ℓ) (c : Dev nD)
variable (X : Fin 8192 → Fin 1024 → ℝ) (G : Fin 1024 → ℝ) (W : Fin 1024 → Fin 5888 → ℝ) (Gq Gk : Fin 128 → ℝ)
  (Cx Cq : Fin 8192 → Fin 1024 → ℝ) (Ck Cv : Fin 8192 → Fin 256 → ℝ) (Dq Dk Dv : Fin 8192 → Fin 768 → ℝ)
  (Ca Cb : Fin 8192 → Fin 1024 → ℝ)
  (h0 : ∀ t d, m ((c : Thread nD τ).loc main_arg0) (ix2 t d) = ((X t d : ℝ) : EReal))
  (h1 : ∀ d, m ((c : Thread nD τ).loc main_arg1) (ix2 0 d) = ((G d : ℝ) : EReal))
  (h2 : ∀ k d, m ((c : Thread nD τ).loc main_arg2) (ix3 0 k d) = ((W k d : ℝ) : EReal))
  (h3 : ∀ d, m ((c : Thread nD τ).loc main_arg3) (ix2 0 d) = ((Gq d : ℝ) : EReal))
  (h4 : ∀ d, m ((c : Thread nD τ).loc main_arg4) (ix2 0 d) = ((Gk d : ℝ) : EReal))
  (h5 : ∀ t d, m ((c : Thread nD τ).loc main_arg5) (ix2 t d) = ((Cx t d : ℝ) : EReal))
  (h6 : ∀ t d, m ((c : Thread nD τ).loc main_arg6) (ix2 t d) = ((Cq t d : ℝ) : EReal))
  (h7 : ∀ t d, m ((c : Thread nD τ).loc main_arg7) (ix2 t d) = ((Ck t d : ℝ) : EReal))
  (h8 : ∀ t d, m ((c : Thread nD τ).loc main_arg8) (ix2 t d) = ((Cv t d : ℝ) : EReal))
  (h9 : ∀ t d, m ((c : Thread nD τ).loc main_arg9) (ix2 t d) = ((Dq t d : ℝ) : EReal))
  (h10 : ∀ t d, m ((c : Thread nD τ).loc main_arg10) (ix2 t d) = ((Dk t d : ℝ) : EReal))
  (h11 : ∀ t d, m ((c : Thread nD τ).loc main_arg11) (ix2 t d) = ((Dv t d : ℝ) : EReal))
  (h12 : ∀ t d, m ((c : Thread nD τ).loc main_arg12) (ix2 t d) = ((Ca t d : ℝ) : EReal))
  (h13 : ∀ t d, m ((c : Thread nD τ).loc main_arg13) (ix2 t d) = ((Cb t d : ℝ) : EReal))

include h0 in
theorem pay_rstd (t : Fin cfg0.N) (p : Fin 256) (e : Fin 1) :
    k0_pay276 (F := Ideal) (iblk m c 1 t) (ix2 p e) = ((rstd 1024 (X (row t p)) : ℝ) : EReal) := by
  pointwise [k0_pay276]
  simp only [b1 m c X h0, word_eps, word_1024, ← EReal.coe_mul, ← EReal.coe_add, coe_sum,
    coe_div _ _ (show (1024 : ℝ) ≠ 0 by norm_num), rsqrt_meanSq (show (0 : ℝ) < 1024 by norm_num)]

include h0 in
theorem pay_nx (t : Fin cfg0.N) (p : Fin 256) (d : Fin 1024) :
    k0_pay277 (F := Ideal) (iblk m c 1 t) (ix2 p d) = ((Proj.nx X (row t p) d : ℝ) : EReal) := by
  pointwise [k0_pay277]
  simp only [pay_rstd m c X h0, b1 m c X h0, ← EReal.coe_mul]
  rfl

section
variable (D : FVec Ideal S256x1024 .f32) (U : Fin 8192 → Fin 1024 → ℝ) (t : Fin cfg0.N)
  (hD : ∀ p k, D (ix2 p k) = ((U (row t p) k : ℝ) : EReal))

include h0 h1 h5 hD in
theorem pay_dx (p : Fin 256) (k : Fin 1024) :
    k0_pay1 (F := Ideal) (k0_pay276 (F := Ideal) (iblk m c 1 t)) (k0_pay277 (F := Ideal) (iblk m c 1 t)) (iblk m c 0 t)
      (k0_pay279 (F := Ideal) D (iblk m c 22 t)) (k0_pay280 (F := Ideal) (k0_pay277 (F := Ideal) (iblk m c 1 t)) D (iblk m c 22 t))
      (Scalar.ofBits .f32 1149239296#32) (ix2 p k)
      = ((Cx (row t p) k + Proj.normBack 1024 (X (row t p)) (fun d => U (row t p) d * G d) k : ℝ) : EReal) := by
  pointwise [k0_pay1, k0_pay279, k0_pay280]
  simp only [pay_rstd m c X h0, pay_nx m c X h0, b0 m c Cx h5, b22 m c G h1, hD, word_1024, ← EReal.coe_mul, ← EReal.coe_add, ← EReal.coe_sub, coe_sum,
    coe_div _ _ (show (1024 : ℝ) ≠ 0 by norm_num)]
  refine congrArg Real.toEReal ?_
  unfold Proj.normBack Proj.nx
  ring

include h0 hD in
theorem pay_dg (acc : Vec Ideal S1x1024 .f32) (A : Fin 1024 → ℝ) (hacc : ∀ k, acc (ix2 0 k) = ((A k : ℝ) : EReal)) (k : Fin 1024) :
    k0_pay278 (F := Ideal) (k0_pay277 (F := Ideal) (iblk m c 1 t)) D acc (ix2 0 k)
      = ((A k + ∑ p, U (row t p) k * Proj.nx X (row t p) k : ℝ) : EReal) := by
  pointwise [k0_pay278]
  simp only [pay_nx m c X h0, hD, hacc, ← EReal.coe_mul, coe_sum, ← EReal.coe_add]
end

theorem sum2 (k : Fin 1024) : k0_pay2 (F := Ideal) (ix2 0 k) = ((0 : ℝ) : EReal) := by
  pointwise [k0_pay2]
  exact EReal.coe_zero.symm

include h0 h1 h2 h3 h4 h6 h7 h8 h9 h10 h11 h12 h13

theorem final26 : (dats m 0 c).arrAt 26 cfg0.N
    = fun i => ((Proj.dz X G W Gq Gk Cq Ck Cv Dq Dk Dv Ca Cb (i 0) (i 1) : ℝ) : EReal) := by
  refine (dats m 0 c).arrAt_eq_of_covers 26 _ (by decide +kernel) fun t hf y => ?_
  blk_simp; rw [after0_26]
  obtain ⟨p, k, rfl⟩ : ∃ (p : Fin 256) (k : Fin 5888), y = ix2 p k := ⟨y 0, y 1, eq_ix2 y⟩
  obtain ⟨Z, oA, oB, hZ⟩ := opened_dz m c X G W Gq Gk Cq Ck Cv Dq Dk Dv Ca Cb h0 h1 h2 h3 h4 h6 h7 h8 h9 h10 h11 h12 h13 t
  have out : (outsAt0 m c t.val t.isLt).2.1 = Z := by
    rcases Decidable.em (t.val % 32 = 0) with h | h
    · rw [outsAt0_A m c t h, oA]
    · rw [outsAt0_B m c t h, oB]
  rw [out]
  refine (hZ p k).trans ?_
  have hr : ((row t p) : ℕ) = t.val * 256 + p.val := rfl
  have e : (win0_26.blk t).view.emb (ix2 p k) = ix2 (row t p) k := by blk_ext [idx' t]
  rw [e]
  rfl

theorem final27 : (dats m 0 c).arrAt 27 cfg0.N
    = fun i => ((Proj.dg X G W Gq Gk Cq Ck Cv Dq Dk Dv Ca Cb (i 1) : ℝ) : EReal) := by
  refine (dats m 0 c).arrAt_eq_of_after_last 27 tLast (by decide +kernel) _ fun j => ?_
  blk_simp; rw [after0_27]
  obtain ⟨z, e, rfl⟩ : ∃ (z : Fin 1) (e : Fin 1024), j = ix2 z e := ⟨j 0, j 1, eq_ix2 j⟩
  obtain rfl : z = 0 := Subsingleton.elim _ _
  show _ = ((Proj.dg X G W Gq Gk Cq Ck Cv Dq Dk Dv Ca Cb e : ℝ) : EReal)
  refine acc_sum (fun n h (e : Fin 1024) => (outsAt0 m c n h).2.2.1 (ix2 0 e))
    (fun t k => Proj.dh X G W Gq Gk Cq Ck Cv Dq Dk Dv Ca Cb t k * Proj.nx X t k) (fun t h l => ?_) (fun t h A hp l => ?_) e <;>
    obtain ⟨D, -, oA, -, oB, hD⟩ := opened m c X G W Gq Gk Cq Ck Cv Dq Dk Dv Ca Cb h0 h1 h2 h3 h4 h6 h7 h8 h9 h10 h11 h12 h13 t
  · rw [outsAt0_A m c t h, oA]
    exact pay_dg m c X h0 D (Proj.dh X G W Gq Gk Cq Ck Cv Dq Dk Dv Ca Cb) t hD _ (fun _ => 0) sum2 l
  · rw [outsAt0_B m c t h, oB]
    exact pay_dg m c X h0 D (Proj.dh X G W Gq Gk Cq Ck Cv Dq Dk Dv Ca Cb) t hD _ A hp l

include h5 in
theorem final25 : (dats m 0 c).arrAt 25 cfg0.N
    = fun i => ((Proj.dx X G W Gq Gk Cx Cq Ck Cv Dq Dk Dv Ca Cb (i 0) (i 1) : ℝ) : EReal) := by
  refine (dats m 0 c).arrAt_eq_of_covers 25 _ (by decide +kernel) fun t hf y => ?_
  blk_simp; rw [after0_25]
  obtain ⟨p, k, rfl⟩ : ∃ (p : Fin 256) (k : Fin 1024), y = ix2 p k := ⟨y 0, y 1, eq_ix2 y⟩
  obtain ⟨D, oA, -, oB, -, hD⟩ := opened m c X G W Gq Gk Cq Ck Cv Dq Dk Dv Ca Cb h0 h1 h2 h3 h4 h6 h7 h8 h9 h10 h11 h12 h13 t
  have out : (outsAt0 m c t.val t.isLt).1 (ix2 p k) = ((Proj.dx X G W Gq Gk Cx Cq Ck Cv Dq Dk Dv Ca Cb (row t p) k : ℝ) : EReal) := by
    rcases Decidable.em (t.val % 32 = 0) with h | h
    · rw [outsAt0_A m c t h, oA]
      exact pay_dx m c X G Cx h0 h1 h5 D (Proj.dh X G W Gq Gk Cq Ck Cv Dq Dk Dv Ca Cb) t hD p k
    · rw [outsAt0_B m c t h, oB]
      exact pay_dx m c X G Cx h0 h1 h5 D (Proj.dh X G W Gq Gk Cq Ck Cv Dq Dk Dv Ca Cb) t hD p k
  refine out.trans ?_
  have hr : ((row t p) : ℕ) = t.val * 256 + p.val := rfl
  have e : (win0_25.blk t).view.emb (ix2 p k) = ix2 (row t p) k := by blk_ext [idx' t]
  rw [e]
  rfl

end Cert.Kernel5Ideal.Value
-- ==== Proof.Proj.lean ====
/-
  The claim of the input projection: the five results of its backward kernel are the derivatives of the forward lines.
-/
module

public import proofs.«01_k».proof.Defs
public import proofs.«01_k».proof.Proof.Finite
public import proofs.«01_k».proof.Proof.ProjRef
public import proofs.«01_k».proof.Proof.ProjFinal
public import proofs.«01_k».proof.Proof.Gen.Reference5Ideal.Run
public import proofs.«01_k».proof.Proof.Gen.Pre_finite_proj

@[expose] public section

set_option maxRecDepth 16384

noncomputable section

namespace Cert.Proj

open Idealize.ShloMosaic Idealize.ShloMosaic.TcCoe Idealize.SL.Sem Cert.Reals

open Cert.Kernel5Ideal in
/-- Where the precondition holds, every argument is the coercion of a real array. -/
theorem reals_of_pre (m : (ℓ : Loc nD τ sig) → Buf (Elt Ideal) ℓ)
    (h : Cert.Pre_Kernel5Ideal_finite_proj (hPre_finite_proj := Cert.Pre_finite_proj.Gen.facts) m) (c : Dev nD) :
    ∃ (X : Fin 8192 → Fin 1024 → ℝ) (G : Fin 1024 → ℝ) (W : Fin 1024 → Fin 5888 → ℝ) (Gq : Fin 128 → ℝ) (Gk : Fin 128 → ℝ) (Cx : Fin 8192 → Fin 1024 → ℝ) (Cq : Fin 8192 → Fin 1024 → ℝ) (Ck : Fin 8192 → Fin 256 → ℝ) (Cv : Fin 8192 → Fin 256 → ℝ) (Dq : Fin 8192 → Fin 768 → ℝ) (Dk : Fin 8192 → Fin 768 → ℝ) (Dv : Fin 8192 → Fin 768 → ℝ) (Ca : Fin 8192 → Fin 1024 → ℝ) (Cb : Fin 8192 → Fin 1024 → ℝ),
      (∀ t d, m ((c : Thread nD τ).loc main_arg0) (ix2 t d) = ((X t d : ℝ) : EReal))
      ∧ (∀ d, m ((c : Thread nD τ).loc main_arg1) (ix2 0 d) = ((G d : ℝ) : EReal))
      ∧ (∀ k d, m ((c : Thread nD τ).loc main_arg2) (ix3 0 k d) = ((W k d : ℝ) : EReal))
      ∧ (∀ d, m ((c : Thread nD τ).loc main_arg3) (ix2 0 d) = ((Gq d : ℝ) : EReal))
      ∧ (∀ d, m ((c : Thread nD τ).loc main_arg4) (ix2 0 d) = ((Gk d : ℝ) : EReal))
      ∧ (∀ t d, m ((c : Thread nD τ).loc main_arg5) (ix2 t d) = ((Cx t d : ℝ) : EReal))
      ∧ (∀ t d, m ((c : Thread nD τ).loc main_arg6) (ix2 t d) = ((Cq t d : ℝ) : EReal))
      ∧ (∀ t d, m ((c : Thread nD τ).loc main_arg7) (ix2 t d) = ((Ck t d : ℝ) : EReal))
      ∧ (∀ t d, m ((c : Thread nD τ).loc main_arg8) (ix2 t d) = ((Cv t d : ℝ) : EReal))
      ∧ (∀ t d, m ((c : Thread nD τ).loc main_arg9) (ix2 t d) = ((Dq t d : ℝ) : EReal))
      ∧ (∀ t d, m ((c : Thread nD τ).loc main_arg10) (ix2 t d) = ((Dk t d : ℝ) : EReal))
      ∧ (∀ t d, m ((c : Thread nD τ).loc main_arg11) (ix2 t d) = ((Dv t d : ℝ) : EReal))
      ∧ (∀ t d, m ((c : Thread nD τ).loc main_arg12) (ix2 t d) = ((Ca t d : ℝ) : EReal))
      ∧ (∀ t d, m ((c : Thread nD τ).loc main_arg13) (ix2 t d) = ((Cb t d : ℝ) : EReal)) := by
  obtain ⟨p0, p1, p2, p3, p4, p5, p6, p7, p8, p9, p10, p11, p12, p13⟩ := h c
  have hz : ∀ (S : Shape) (hb : (⟨0, ![]⟩ : Shape).BroadcastsInDim S (![] : Fin 0 → Fin S.rank)) (i : S.Idx),
      broadcastInDim S ![] hb (constant (F := Ideal) ⟨0, ![]⟩ .f32 0#32) i = (0 : EReal) := fun S hb i => by
    exact Ideal.ofBits_zero_f32
  obtain ⟨X, hX⟩ := reals_of_finite p0 (hz _ _)
  obtain ⟨G, hG⟩ := reals_of_finite p1 (hz _ _)
  obtain ⟨W, hW⟩ := reals_of_finite p2 (hz _ _)
  obtain ⟨Gq, hGq⟩ := reals_of_finite p3 (hz _ _)
  obtain ⟨Gk, hGk⟩ := reals_of_finite p4 (hz _ _)
  obtain ⟨Cx, hCx⟩ := reals_of_finite p5 (hz _ _)
  obtain ⟨Cq, hCq⟩ := reals_of_finite p6 (hz _ _)
  obtain ⟨Ck, hCk⟩ := reals_of_finite p7 (hz _ _)
  obtain ⟨Cv, hCv⟩ := reals_of_finite p8 (hz _ _)
  obtain ⟨Dq, hDq⟩ := reals_of_finite p9 (hz _ _)
  obtain ⟨Dk, hDk⟩ := reals_of_finite p10 (hz _ _)
  obtain ⟨Dv, hDv⟩ := reals_of_finite p11 (hz _ _)
  obtain ⟨Ca, hCa⟩ := reals_of_finite p12 (hz _ _)
  obtain ⟨Cb, hCb⟩ := reals_of_finite p13 (hz _ _)
  exact ⟨fun t d => X (ix2 t d), fun d => G (ix2 0 d), fun k d => W (ix3 0 k d), fun d => Gq (ix2 0 d), fun d => Gk (ix2 0 d), fun t d => Cx (ix2 t d), fun t d => Cq (ix2 t d), fun t d => Ck (ix2 t d), fun t d => Cv (ix2 t d), fun t d => Dq (ix2 t d), fun t d => Dk (ix2 t d), fun t d => Dv (ix2 t d), fun t d => Ca (ix2 t d), fun t d => Cb (ix2 t d),
    fun _ _ => hX _, fun _ => hG _, fun _ _ => hW _, fun _ => hGq _, fun _ => hGk _, fun _ _ => hCx _, fun _ _ => hCq _, fun _ _ => hCk _, fun _ _ => hCv _, fun _ _ => hDq _, fun _ _ => hDk _, fun _ _ => hDv _, fun _ _ => hCa _, fun _ _ => hCb _⟩

theorem same_res_dx (m : (ℓ : Loc Cert.Kernel5Ideal.nD Cert.Kernel5Ideal.τ Cert.Kernel5Ideal.sig) → Buf (Elt Ideal) ℓ) (c : Dev Cert.Kernel5Ideal.nD)
    {x0 : (⟨Cert.Reference5Ideal.S8192x1024, .f32⟩ : BufTy).Contents (Elt Ideal)} {x1 : (⟨Cert.Reference5Ideal.S1x1024, .f32⟩ : BufTy).Contents (Elt Ideal)} {x2 : (⟨Cert.Reference5Ideal.S1x1024x5888, .f32⟩ : BufTy).Contents (Elt Ideal)} {x3 : (⟨Cert.Reference5Ideal.S1x128, .f32⟩ : BufTy).Contents (Elt Ideal)} {x4 : (⟨Cert.Reference5Ideal.S1x128, .f32⟩ : BufTy).Contents (Elt Ideal)} {x5 : (⟨Cert.Reference5Ideal.S8192x1024, .f32⟩ : BufTy).Contents (Elt Ideal)} {x6 : (⟨Cert.Reference5Ideal.S8192x1024, .f32⟩ : BufTy).Contents (Elt Ideal)} {x7 : (⟨Cert.Reference5Ideal.S8192x256, .f32⟩ : BufTy).Contents (Elt Ideal)} {x8 : (⟨Cert.Reference5Ideal.S8192x256, .f32⟩ : BufTy).Contents (Elt Ideal)} {x9 : (⟨Cert.Reference5Ideal.S8192x768, .f32⟩ : BufTy).Contents (Elt Ideal)} {x10 : (⟨Cert.Reference5Ideal.S8192x768, .f32⟩ : BufTy).Contents (Elt Ideal)} {x11 : (⟨Cert.Reference5Ideal.S8192x768, .f32⟩ : BufTy).Contents (Elt Ideal)} {x12 : (⟨Cert.Reference5Ideal.S8192x1024, .f32⟩ : BufTy).Contents (Elt Ideal)} {x13 : (⟨Cert.Reference5Ideal.S8192x1024, .f32⟩ : BufTy).Contents (Elt Ideal)}
    {X : Fin 8192 → Fin 1024 → ℝ} {G : Fin 1024 → ℝ} {W : Fin 1024 → Fin 5888 → ℝ} {Gq : Fin 128 → ℝ} {Gk : Fin 128 → ℝ} {Cx : Fin 8192 → Fin 1024 → ℝ} {Cq : Fin 8192 → Fin 1024 → ℝ} {Ck : Fin 8192 → Fin 256 → ℝ} {Cv : Fin 8192 → Fin 256 → ℝ} {Dq : Fin 8192 → Fin 768 → ℝ} {Dk : Fin 8192 → Fin 768 → ℝ} {Dv : Fin 8192 → Fin 768 → ℝ} {Ca : Fin 8192 → Fin 1024 → ℝ} {Cb : Fin 8192 → Fin 1024 → ℝ}
    (h0 : ∀ t d, m ((c : Thread Cert.Kernel5Ideal.nD Cert.Kernel5Ideal.τ).loc Cert.Kernel5Ideal.main_arg0) (ix2 t d) = ((X t d : ℝ) : EReal))
    (h1 : ∀ d, m ((c : Thread Cert.Kernel5Ideal.nD Cert.Kernel5Ideal.τ).loc Cert.Kernel5Ideal.main_arg1) (ix2 0 d) = ((G d : ℝ) : EReal))
    (h2 : ∀ k d, m ((c : Thread Cert.Kernel5Ideal.nD Cert.Kernel5Ideal.τ).loc Cert.Kernel5Ideal.main_arg2) (ix3 0 k d) = ((W k d : ℝ) : EReal))
    (h3 : ∀ d, m ((c : Thread Cert.Kernel5Ideal.nD Cert.Kernel5Ideal.τ).loc Cert.Kernel5Ideal.main_arg3) (ix2 0 d) = ((Gq d : ℝ) : EReal))
    (h4 : ∀ d, m ((c : Thread Cert.Kernel5Ideal.nD Cert.Kernel5Ideal.τ).loc Cert.Kernel5Ideal.main_arg4) (ix2 0 d) = ((Gk d : ℝ) : EReal))
    (h5 : ∀ t d, m ((c : Thread Cert.Kernel5Ideal.nD Cert.Kernel5Ideal.τ).loc Cert.Kernel5Ideal.main_arg5) (ix2 t d) = ((Cx t d : ℝ) : EReal))
    (h6 : ∀ t d, m ((c : Thread Cert.Kernel5Ideal.nD Cert.Kernel5Ideal.τ).loc Cert.Kernel5Ideal.main_arg6) (ix2 t d) = ((Cq t d : ℝ) : EReal))
    (h7 : ∀ t d, m ((c : Thread Cert.Kernel5Ideal.nD Cert.Kernel5Ideal.τ).loc Cert.Kernel5Ideal.main_arg7) (ix2 t d) = ((Ck t d : ℝ) : EReal))
    (h8 : ∀ t d, m ((c : Thread Cert.Kernel5Ideal.nD Cert.Kernel5Ideal.τ).loc Cert.Kernel5Ideal.main_arg8) (ix2 t d) = ((Cv t d : ℝ) : EReal))
    (h9 : ∀ t d, m ((c : Thread Cert.Kernel5Ideal.nD Cert.Kernel5Ideal.τ).loc Cert.Kernel5Ideal.main_arg9) (ix2 t d) = ((Dq t d : ℝ) : EReal))
    (h10 : ∀ t d, m ((c : Thread Cert.Kernel5Ideal.nD Cert.Kernel5Ideal.τ).loc Cert.Kernel5Ideal.main_arg10) (ix2 t d) = ((Dk t d : ℝ) : EReal))
    (h11 : ∀ t d, m ((c : Thread Cert.Kernel5Ideal.nD Cert.Kernel5Ideal.τ).loc Cert.Kernel5Ideal.main_arg11) (ix2 t d) = ((Dv t d : ℝ) : EReal))
    (h12 : ∀ t d, m ((c : Thread Cert.Kernel5Ideal.nD Cert.Kernel5Ideal.τ).loc Cert.Kernel5Ideal.main_arg12) (ix2 t d) = ((Ca t d : ℝ) : EReal))
    (h13 : ∀ t d, m ((c : Thread Cert.Kernel5Ideal.nD Cert.Kernel5Ideal.τ).loc Cert.Kernel5Ideal.main_arg13) (ix2 t d) = ((Cb t d : ℝ) : EReal))
    (k0 : ∀ t d, x0 (ix2 t d) = ((X t d : ℝ) : EReal))
    (k1 : ∀ d, x1 (ix2 0 d) = ((G d : ℝ) : EReal))
    (k2 : ∀ k d, x2 (ix3 0 k d) = ((W k d : ℝ) : EReal))
    (k3 : ∀ d, x3 (ix2 0 d) = ((Gq d : ℝ) : EReal))
    (k4 : ∀ d, x4 (ix2 0 d) = ((Gk d : ℝ) : EReal))
    (k5 : ∀ t d, x5 (ix2 t d) = ((Cx t d : ℝ) : EReal))
    (k6 : ∀ t d, x6 (ix2 t d) = ((Cq t d : ℝ) : EReal))
    (k7 : ∀ t d, x7 (ix2 t d) = ((Ck t d : ℝ) : EReal))
    (k8 : ∀ t d, x8 (ix2 t d) = ((Cv t d : ℝ) : EReal))
    (k9 : ∀ t d, x9 (ix2 t d) = ((Dq t d : ℝ) : EReal))
    (k10 : ∀ t d, x10 (ix2 t d) = ((Dk t d : ℝ) : EReal))
    (k11 : ∀ t d, x11 (ix2 t d) = ((Dv t d : ℝ) : EReal))
    (k12 : ∀ t d, x12 (ix2 t d) = ((Ca t d : ℝ) : EReal))
    (k13 : ∀ t d, x13 (ix2 t d) = ((Cb t d : ℝ) : EReal)) :
    Cert.Reference5Ideal.Read.val_main_v369 (F := Ideal) x0 x1 x2 x3 x4 x5 x6 x7 x8 x9 x10 x11 x12 x13 = (Cert.Kernel5Ideal.Gen.dats m 0 c).arrAt 25 Cert.Kernel5Ideal.cfg0.N := by
  rw [Cert.Kernel5Ideal.Value.final25 m c _ _ _ _ _ _ _ _ _ _ _ _ _ _ h0 h1 h2 h3 h4 h5 h6 h7 h8 h9 h10 h11 h12 h13]
  funext i
  obtain ⟨t, d, rfl⟩ : ∃ (t : Fin 8192) (d : Fin 1024), i = ix2 t d := ⟨i 0, i 1, eq_ix2 i⟩
  exact Cert.Reference5Ideal.Value.res_dx k0 k1 k2 k3 k4 k5 k6 k7 k8 k9 k10 k11 k12 k13 t d

theorem same_res_dz (m : (ℓ : Loc Cert.Kernel5Ideal.nD Cert.Kernel5Ideal.τ Cert.Kernel5Ideal.sig) → Buf (Elt Ideal) ℓ) (c : Dev Cert.Kernel5Ideal.nD)
    {x0 : (⟨Cert.Reference5Ideal.S8192x1024, .f32⟩ : BufTy).Contents (Elt Ideal)} {x1 : (⟨Cert.Reference5Ideal.S1x1024, .f32⟩ : BufTy).Contents (Elt Ideal)} {x2 : (⟨Cert.Reference5Ideal.S1x1024x5888, .f32⟩ : BufTy).Contents (Elt Ideal)} {x3 : (⟨Cert.Reference5Ideal.S1x128, .f32⟩ : BufTy).Contents (Elt Ideal)} {x4 : (⟨Cert.Reference5Ideal.S1x128, .f32⟩ : BufTy).Contents (Elt Ideal)} {x6 : (⟨Cert.Reference5Ideal.S8192x1024, .f32⟩ : BufTy).Contents (Elt Ideal)} {x7 : (⟨Cert.Reference5Ideal.S8192x256, .f32⟩ : BufTy).Contents (Elt Ideal)} {x8 : (⟨Cert.Reference5Ideal.S8192x256, .f32⟩ : BufTy).Contents (Elt Ideal)} {x9 : (⟨Cert.Reference5Ideal.S8192x768, .f32⟩ : BufTy).Contents (Elt Ideal)} {x10 : (⟨Cert.Reference5Ideal.S8192x768, .f32⟩ : BufTy).Contents (Elt Ideal)} {x11 : (⟨Cert.Reference5Ideal.S8192x768, .f32⟩ : BufTy).Contents (Elt Ideal)} {x12 : (⟨Cert.Reference5Ideal.S8192x1024, .f32⟩ : BufTy).Contents (Elt Ideal)} {x13 : (⟨Cert.Reference5Ideal.S8192x1024, .f32⟩ : BufTy).Contents (Elt Ideal)}
    {X : Fin 8192 → Fin 1024 → ℝ} {G : Fin 1024 → ℝ} {W : Fin 1024 → Fin 5888 → ℝ} {Gq : Fin 128 → ℝ} {Gk : Fin 128 → ℝ} {Cq : Fin 8192 → Fin 1024 → ℝ} {Ck : Fin 8192 → Fin 256 → ℝ} {Cv : Fin 8192 → Fin 256 → ℝ} {Dq : Fin 8192 → Fin 768 → ℝ} {Dk : Fin 8192 → Fin 768 → ℝ} {Dv : Fin 8192 → Fin 768 → ℝ} {Ca : Fin 8192 → Fin 1024 → ℝ} {Cb : Fin 8192 → Fin 1024 → ℝ}
    (h0 : ∀ t d, m ((c : Thread Cert.Kernel5Ideal.nD Cert.Kernel5Ideal.τ).loc Cert.Kernel5Ideal.main_arg0) (ix2 t d) = ((X t d : ℝ) : EReal))
    (h1 : ∀ d, m ((c : Thread Cert.Kernel5Ideal.nD Cert.Kernel5Ideal.τ).loc Cert.Kernel5Ideal.main_arg1) (ix2 0 d) = ((G d : ℝ) : EReal))
    (h2 : ∀ k d, m ((c : Thread Cert.Kernel5Ideal.nD Cert.Kernel5Ideal.τ).loc Cert.Kernel5Ideal.main_arg2) (ix3 0 k d) = ((W k d : ℝ) : EReal))
    (h3 : ∀ d, m ((c : Thread Cert.Kernel5Ideal.nD Cert.Kernel5Ideal.τ).loc Cert.Kernel5Ideal.main_arg3) (ix2 0 d) = ((Gq d : ℝ) : EReal))
    (h4 : ∀ d, m ((c : Thread Cert.Kernel5Ideal.nD Cert.Kernel5Ideal.τ).loc Cert.Kernel5Ideal.main_arg4) (ix2 0 d) = ((Gk d : ℝ) : EReal))
    (h6 : ∀ t d, m ((c : Thread Cert.Kernel5Ideal.nD Cert.Kernel5Ideal.τ).loc Cert.Kernel5Ideal.main_arg6) (ix2 t d) = ((Cq t d : ℝ) : EReal))
    (h7 : ∀ t d, m ((c : Thread Cert.Kernel5Ideal.nD Cert.Kernel5Ideal.τ).loc Cert.Kernel5Ideal.main_arg7) (ix2 t d) = ((Ck t d : ℝ) : EReal))
    (h8 : ∀ t d, m ((c : Thread Cert.Kernel5Ideal.nD Cert.Kernel5Ideal.τ).loc Cert.Kernel5Ideal.main_arg8) (ix2 t d) = ((Cv t d : ℝ) : EReal))
    (h9 : ∀ t d, m ((c : Thread Cert.Kernel5Ideal.nD Cert.Kernel5Ideal.τ).loc Cert.Kernel5Ideal.main_arg9) (ix2 t d) = ((Dq t d : ℝ) : EReal))
    (h10 : ∀ t d, m ((c : Thread Cert.Kernel5Ideal.nD Cert.Kernel5Ideal.τ).loc Cert.Kernel5Ideal.main_arg10) (ix2 t d) = ((Dk t d : ℝ) : EReal))
    (h11 : ∀ t d, m ((c : Thread Cert.Kernel5Ideal.nD Cert.Kernel5Ideal.τ).loc Cert.Kernel5Ideal.main_arg11) (ix2 t d) = ((Dv t d : ℝ) : EReal))
    (h12 : ∀ t d, m ((c : Thread Cert.Kernel5Ideal.nD Cert.Kernel5Ideal.τ).loc Cert.Kernel5Ideal.main_arg12) (ix2 t d) = ((Ca t d : ℝ) : EReal))
    (h13 : ∀ t d, m ((c : Thread Cert.Kernel5Ideal.nD Cert.Kernel5Ideal.τ).loc Cert.Kernel5Ideal.main_arg13) (ix2 t d) = ((Cb t d : ℝ) : EReal))
    (k0 : ∀ t d, x0 (ix2 t d) = ((X t d : ℝ) : EReal))
    (k1 : ∀ d, x1 (ix2 0 d) = ((G d : ℝ) : EReal))
    (k2 : ∀ k d, x2 (ix3 0 k d) = ((W k d : ℝ) : EReal))
    (k3 : ∀ d, x3 (ix2 0 d) = ((Gq d : ℝ) : EReal))
    (k4 : ∀ d, x4 (ix2 0 d) = ((Gk d : ℝ) : EReal))
    (k6 : ∀ t d, x6 (ix2 t d) = ((Cq t d : ℝ) : EReal))
    (k7 : ∀ t d, x7 (ix2 t d) = ((Ck t d : ℝ) : EReal))
    (k8 : ∀ t d, x8 (ix2 t d) = ((Cv t d : ℝ) : EReal))
    (k9 : ∀ t d, x9 (ix2 t d) = ((Dq t d : ℝ) : EReal))
    (k10 : ∀ t d, x10 (ix2 t d) = ((Dk t d : ℝ) : EReal))
    (k11 : ∀ t d, x11 (ix2 t d) = ((Dv t d : ℝ) : EReal))
    (k12 : ∀ t d, x12 (ix2 t d) = ((Ca t d : ℝ) : EReal))
    (k13 : ∀ t d, x13 (ix2 t d) = ((Cb t d : ℝ) : EReal)) :
    Cert.Reference5Ideal.Read.val_main_v371 (F := Ideal) x0 x1 x2 x3 x4 x6 x7 x8 x9 x10 x11 x12 x13 = (Cert.Kernel5Ideal.Gen.dats m 0 c).arrAt 26 Cert.Kernel5Ideal.cfg0.N := by
  rw [Cert.Kernel5Ideal.Value.final26 m c _ _ _ _ _ _ _ _ _ _ _ _ _ h0 h1 h2 h3 h4 h6 h7 h8 h9 h10 h11 h12 h13]
  funext i
  obtain ⟨t, d, rfl⟩ : ∃ (t : Fin 8192) (d : Fin 5888), i = ix2 t d := ⟨i 0, i 1, eq_ix2 i⟩
  exact Cert.Reference5Ideal.Value.res_dz k0 k1 k2 k3 k4 k6 k7 k8 k9 k10 k11 k12 k13 t d

theorem same_res_dg (m : (ℓ : Loc Cert.Kernel5Ideal.nD Cert.Kernel5Ideal.τ Cert.Kernel5Ideal.sig) → Buf (Elt Ideal) ℓ) (c : Dev Cert.Kernel5Ideal.nD)
    {x0 : (⟨Cert.Reference5Ideal.S8192x1024, .f32⟩ : BufTy).Contents (Elt Ideal)} {x1 : (⟨Cert.Reference5Ideal.S1x1024, .f32⟩ : BufTy).Contents (Elt Ideal)} {x2 : (⟨Cert.Reference5Ideal.S1x1024x5888, .f32⟩ : BufTy).Contents (Elt Ideal)} {x3 : (⟨Cert.Reference5Ideal.S1x128, .f32⟩ : BufTy).Contents (Elt Ideal)} {x4 : (⟨Cert.Reference5Ideal.S1x128, .f32⟩ : BufTy).Contents (Elt Ideal)} {x6 : (⟨Cert.Reference5Ideal.S8192x1024, .f32⟩ : BufTy).Contents (Elt Ideal)} {x7 : (⟨Cert.Reference5Ideal.S8192x256, .f32⟩ : BufTy).Contents (Elt Ideal)} {x8 : (⟨Cert.Reference5Ideal.S8192x256, .f32⟩ : BufTy).Contents (Elt Ideal)} {x9 : (⟨Cert.Reference5Ideal.S8192x768, .f32⟩ : BufTy).Contents (Elt Ideal)} {x10 : (⟨Cert.Reference5Ideal.S8192x768, .f32⟩ : BufTy).Contents (Elt Ideal)} {x11 : (⟨Cert.Reference5Ideal.S8192x768, .f32⟩ : BufTy).Contents (Elt Ideal)} {x12 : (⟨Cert.Reference5Ideal.S8192x1024, .f32⟩ : BufTy).Contents (Elt Ideal)} {x13 : (⟨Cert.Reference5Ideal.S8192x1024, .f32⟩ : BufTy).Contents (Elt Ideal)}
    {X : Fin 8192 → Fin 1024 → ℝ} {G : Fin 1024 → ℝ} {W : Fin 1024 → Fin 5888 → ℝ} {Gq : Fin 128 → ℝ} {Gk : Fin 128 → ℝ} {Cq : Fin 8192 → Fin 1024 → ℝ} {Ck : Fin 8192 → Fin 256 → ℝ} {Cv : Fin 8192 → Fin 256 → ℝ} {Dq : Fin 8192 → Fin 768 → ℝ} {Dk : Fin 8192 → Fin 768 → ℝ} {Dv : Fin 8192 → Fin 768 → ℝ} {Ca : Fin 8192 → Fin 1024 → ℝ} {Cb : Fin 8192 → Fin 1024 → ℝ}
    (h0 : ∀ t d, m ((c : Thread Cert.Kernel5Ideal.nD Cert.Kernel5Ideal.τ).loc Cert.Kernel5Ideal.main_arg0) (ix2 t d) = ((X t d : ℝ) : EReal))
    (h1 : ∀ d, m ((c : Thread Cert.Kernel5Ideal.nD Cert.Kernel5Ideal.τ).loc Cert.Kernel5Ideal.main_arg1) (ix2 0 d) = ((G d : ℝ) : EReal))
    (h2 : ∀ k d, m ((c : Thread Cert.Kernel5Ideal.nD Cert.Kernel5Ideal.τ).loc Cert.Kernel5Ideal.main_arg2) (ix3 0 k d) = ((W k d : ℝ) : EReal))
    (h3 : ∀ d, m ((c : Thread Cert.Kernel5Ideal.nD Cert.Kernel5Ideal.τ).loc Cert.Kernel5Ideal.main_arg3) (ix2 0 d) = ((Gq d : ℝ) : EReal))
    (h4 : ∀ d, m ((c : Thread Cert.Kernel5Ideal.nD Cert.Kernel5Ideal.τ).loc Cert.Kernel5Ideal.main_arg4) (ix2 0 d) = ((Gk d : ℝ) : EReal))
    (h6 : ∀ t d, m ((c : Thread Cert.Kernel5Ideal.nD Cert.Kernel5Ideal.τ).loc Cert.Kernel5Ideal.main_arg6) (ix2 t d) = ((Cq t d : ℝ) : EReal))
    (h7 : ∀ t d, m ((c : Thread Cert.Kernel5Ideal.nD Cert.Kernel5Ideal.τ).loc Cert.Kernel5Ideal.main_arg7) (ix2 t d) = ((Ck t d : ℝ) : EReal))
    (h8 : ∀ t d, m ((c : Thread Cert.Kernel5Ideal.nD Cert.Kernel5Ideal.τ).loc Cert.Kernel5Ideal.main_arg8) (ix2 t d) = ((Cv t d : ℝ) : EReal))
    (h9 : ∀ t d, m ((c : Thread Cert.Kernel5Ideal.nD Cert.Kernel5Ideal.τ).loc Cert.Kernel5Ideal.main_arg9) (ix2 t d) = ((Dq t d : ℝ) : EReal))
    (h10 : ∀ t d, m ((c : Thread Cert.Kernel5Ideal.nD Cert.Kernel5Ideal.τ).loc Cert.Kernel5Ideal.main_arg10) (ix2 t d) = ((Dk t d : ℝ) : EReal))
    (h11 : ∀ t d, m ((c : Thread Cert.Kernel5Ideal.nD Cert.Kernel5Ideal.τ).loc Cert.Kernel5Ideal.main_arg11) (ix2 t d) = ((Dv t d : ℝ) : EReal))
    (h12 : ∀ t d, m ((c : Thread Cert.Kernel5Ideal.nD Cert.Kernel5Ideal.τ).loc Cert.Kernel5Ideal.main_arg12) (ix2 t d) = ((Ca t d : ℝ) : EReal))
    (h13 : ∀ t d, m ((c : Thread Cert.Kernel5Ideal.nD Cert.Kernel5Ideal.τ).loc Cert.Kernel5Ideal.main_arg13) (ix2 t d) = ((Cb t d : ℝ) : EReal))
    (k0 : ∀ t d, x0 (ix2 t d) = ((X t d : ℝ) : EReal))
    (k1 : ∀ d, x1 (ix2 0 d) = ((G d : ℝ) : EReal))
    (k2 : ∀ k d, x2 (ix3 0 k d) = ((W k d : ℝ) : EReal))
    (k3 : ∀ d, x3 (ix2 0 d) = ((Gq d : ℝ) : EReal))
    (k4 : ∀ d, x4 (ix2 0 d) = ((Gk d : ℝ) : EReal))
    (k6 : ∀ t d, x6 (ix2 t d) = ((Cq t d : ℝ) : EReal))
    (k7 : ∀ t d, x7 (ix2 t d) = ((Ck t d : ℝ) : EReal))
    (k8 : ∀ t d, x8 (ix2 t d) = ((Cv t d : ℝ) : EReal))
    (k9 : ∀ t d, x9 (ix2 t d) = ((Dq t d : ℝ) : EReal))
    (k10 : ∀ t d, x10 (ix2 t d) = ((Dk t d : ℝ) : EReal))
    (k11 : ∀ t d, x11 (ix2 t d) = ((Dv t d : ℝ) : EReal))
    (k12 : ∀ t d, x12 (ix2 t d) = ((Ca t d : ℝ) : EReal))
    (k13 : ∀ t d, x13 (ix2 t d) = ((Cb t d : ℝ) : EReal)) :
    Cert.Reference5Ideal.Read.val_main_v370 (F := Ideal) x0 x1 x2 x3 x4 x6 x7 x8 x9 x10 x11 x12 x13 = (Cert.Kernel5Ideal.Gen.dats m 0 c).arrAt 27 Cert.Kernel5Ideal.cfg0.N := by
  rw [Cert.Kernel5Ideal.Value.final27 m c _ _ _ _ _ _ _ _ _ _ _ _ _ h0 h1 h2 h3 h4 h6 h7 h8 h9 h10 h11 h12 h13]
  funext i
  obtain ⟨t, d, rfl⟩ : ∃ (t : Fin 1) (d : Fin 1024), i = ix2 t d := ⟨i 0, i 1, eq_ix2 i⟩
  exact Cert.Reference5Ideal.Value.res_dg k0 k1 k2 k3 k4 k6 k7 k8 k9 k10 k11 k12 k13 t d

theorem same_res_dgq (m : (ℓ : Loc Cert.Kernel5Ideal.nD Cert.Kernel5Ideal.τ Cert.Kernel5Ideal.sig) → Buf (Elt Ideal) ℓ) (c : Dev Cert.Kernel5Ideal.nD)
    {x0 : (⟨Cert.Reference5Ideal.S8192x1024, .f32⟩ : BufTy).Contents (Elt Ideal)} {x1 : (⟨Cert.Reference5Ideal.S1x1024, .f32⟩ : BufTy).Contents (Elt Ideal)} {x2 : (⟨Cert.Reference5Ideal.S1x1024x5888, .f32⟩ : BufTy).Contents (Elt Ideal)} {x6 : (⟨Cert.Reference5Ideal.S8192x1024, .f32⟩ : BufTy).Contents (Elt Ideal)}
    {X : Fin 8192 → Fin 1024 → ℝ} {G : Fin 1024 → ℝ} {W : Fin 1024 → Fin 5888 → ℝ} {Cq : Fin 8192 → Fin 1024 → ℝ}
    (h0 : ∀ t d, m ((c : Thread Cert.Kernel5Ideal.nD Cert.Kernel5Ideal.τ).loc Cert.Kernel5Ideal.main_arg0) (ix2 t d) = ((X t d : ℝ) : EReal))
    (h1 : ∀ d, m ((c : Thread Cert.Kernel5Ideal.nD Cert.Kernel5Ideal.τ).loc Cert.Kernel5Ideal.main_arg1) (ix2 0 d) = ((G d : ℝ) : EReal))
    (h2 : ∀ k d, m ((c : Thread Cert.Kernel5Ideal.nD Cert.Kernel5Ideal.τ).loc Cert.Kernel5Ideal.main_arg2) (ix3 0 k d) = ((W k d : ℝ) : EReal))
    (h6 : ∀ t d, m ((c : Thread Cert.Kernel5Ideal.nD Cert.Kernel5Ideal.τ).loc Cert.Kernel5Ideal.main_arg6) (ix2 t d) = ((Cq t d : ℝ) : EReal))
    (k0 : ∀ t d, x0 (ix2 t d) = ((X t d : ℝ) : EReal))
    (k1 : ∀ d, x1 (ix2 0 d) = ((G d : ℝ) : EReal))
    (k2 : ∀ k d, x2 (ix3 0 k d) = ((W k d : ℝ) : EReal))
    (k6 : ∀ t d, x6 (ix2 t d) = ((Cq t d : ℝ) : EReal)) :
    Cert.Reference5Ideal.Read.val_main_v345 (F := Ideal) x0 x1 x2 x6 = (Cert.Kernel5Ideal.Gen.dats m 0 c).arrAt 28 Cert.Kernel5Ideal.cfg0.N := by
  rw [Cert.Kernel5Ideal.Value.final28 m c _ _ _ _ h0 h1 h2 h6]
  funext i
  obtain ⟨t, d, rfl⟩ : ∃ (t : Fin 1) (d : Fin 128), i = ix2 t d := ⟨i 0, i 1, eq_ix2 i⟩
  exact Cert.Reference5Ideal.Value.res_dgq k0 k1 k2 k6 t d

theorem same_res_dgk (m : (ℓ : Loc Cert.Kernel5Ideal.nD Cert.Kernel5Ideal.τ Cert.Kernel5Ideal.sig) → Buf (Elt Ideal) ℓ) (c : Dev Cert.Kernel5Ideal.nD)
    {x0 : (⟨Cert.Reference5Ideal.S8192x1024, .f32⟩ : BufTy).Contents (Elt Ideal)} {x1 : (⟨Cert.Reference5Ideal.S1x1024, .f32⟩ : BufTy).Contents (Elt Ideal)} {x2 : (⟨Cert.Reference5Ideal.S1x1024x5888, .f32⟩ : BufTy).Contents (Elt Ideal)} {x7 : (⟨Cert.Reference5Ideal.S8192x256, .f32⟩ : BufTy).Contents (Elt Ideal)}
    {X : Fin 8192 → Fin 1024 → ℝ} {G : Fin 1024 → ℝ} {W : Fin 1024 → Fin 5888 → ℝ} {Ck : Fin 8192 → Fin 256 → ℝ}
    (h0 : ∀ t d, m ((c : Thread Cert.Kernel5Ideal.nD Cert.Kernel5Ideal.τ).loc Cert.Kernel5Ideal.main_arg0) (ix2 t d) = ((X t d : ℝ) : EReal))
    (h1 : ∀ d, m ((c : Thread Cert.Kernel5Ideal.nD Cert.Kernel5Ideal.τ).loc Cert.Kernel5Ideal.main_arg1) (ix2 0 d) = ((G d : ℝ) : EReal))
    (h2 : ∀ k d, m ((c : Thread Cert.Kernel5Ideal.nD Cert.Kernel5Ideal.τ).loc Cert.Kernel5Ideal.main_arg2) (ix3 0 k d) = ((W k d : ℝ) : EReal))
    (h7 : ∀ t d, m ((c : Thread Cert.Kernel5Ideal.nD Cert.Kernel5Ideal.τ).loc Cert.Kernel5Ideal.main_arg7) (ix2 t d) = ((Ck t d : ℝ) : EReal))
    (k0 : ∀ t d, x0 (ix2 t d) = ((X t d : ℝ) : EReal))
    (k1 : ∀ d, x1 (ix2 0 d) = ((G d : ℝ) : EReal))
    (k2 : ∀ k d, x2 (ix3 0 k d) = ((W k d : ℝ) : EReal))
    (k7 : ∀ t d, x7 (ix2 t d) = ((Ck t d : ℝ) : EReal)) :
    Cert.Reference5Ideal.Read.val_main_v284 (F := Ideal) x0 x1 x2 x7 = (Cert.Kernel5Ideal.Gen.dats m 0 c).arrAt 29 Cert.Kernel5Ideal.cfg0.N := by
  rw [Cert.Kernel5Ideal.Value.final29 m c _ _ _ _ h0 h1 h2 h7]
  funext i
  obtain ⟨t, d, rfl⟩ : ∃ (t : Fin 1) (d : Fin 128), i = ix2 t d := ⟨i 0, i 1, eq_ix2 i⟩
  exact Cert.Reference5Ideal.Value.res_dgk k0 k1 k2 k7 t d

theorem algebraic : Cert.algebraic_Kernel5Ideal_Reference5Ideal_pre_finite_proj (hKernel5Ideal := Cert.Kernel5Ideal.Gen.facts)
    (hReference5Ideal := Cert.Reference5Ideal.Gen.facts) (hPre_finite_proj := Cert.Pre_finite_proj.Gen.facts) := by
  intro m g m' g' hpre hagree
  refine ⟨_, _, _, _, _, Cert.Kernel5Ideal.Value.run_blocks m g, (θ_run _ _ _).mono (fun r h c => ?_) (Cert.Reference5Ideal.Value.run m' g')⟩
  obtain ⟨X, G, W, Gq, Gk, Cx, Cq, Ck, Cv, Dq, Dk, Dv, Ca, Cb, h0, h1, h2, h3, h4, h5, h6, h7, h8, h9, h10, h11, h12, h13⟩ := reals_of_pre m hpre c
  obtain ⟨a0, a1, a2, a3, a4, a5, a6, a7, a8, a9, a10, a11, a12, a13⟩ := hagree c
  obtain ⟨r0, r1, r2, r3, r4, rest⟩ := h c
  have k0 : ∀ t d, m' ((c.tc : Thread Cert.Reference5Ideal.nD Cert.Reference5Ideal.τ).loc Cert.Reference5Ideal.main_arg0) (ix2 t d)
      = ((X t d : ℝ) : EReal) := fun t d => by rw [a0]; exact h0 t d
  have k1 : ∀ d, m' ((c.tc : Thread Cert.Reference5Ideal.nD Cert.Reference5Ideal.τ).loc Cert.Reference5Ideal.main_arg1) (ix2 0 d)
      = ((G d : ℝ) : EReal) := fun d => by rw [a1]; exact h1 d
  have k2 : ∀ k d, m' ((c.tc : Thread Cert.Reference5Ideal.nD Cert.Reference5Ideal.τ).loc Cert.Reference5Ideal.main_arg2) (ix3 0 k d)
      = ((W k d : ℝ) : EReal) := fun k d => by rw [a2]; exact h2 k d
  have k3 : ∀ d, m' ((c.tc : Thread Cert.Reference5Ideal.nD Cert.Reference5Ideal.τ).loc Cert.Reference5Ideal.main_arg3) (ix2 0 d)
      = ((Gq d : ℝ) : EReal) := fun d => by rw [a3]; exact h3 d
  have k4 : ∀ d, m' ((c.tc : Thread Cert.Reference5Ideal.nD Cert.Reference5Ideal.τ).loc Cert.Reference5Ideal.main_arg4) (ix2 0 d)
      = ((Gk d : ℝ) : EReal) := fun d => by rw [a4]; exact h4 d
  have k5 : ∀ t d, m' ((c.tc : Thread Cert.Reference5Ideal.nD Cert.Reference5Ideal.τ).loc Cert.Reference5Ideal.main_arg5) (ix2 t d)
      = ((Cx t d : ℝ) : EReal) := fun t d => by rw [a5]; exact h5 t d
  have k6 : ∀ t d, m' ((c.tc : Thread Cert.Reference5Ideal.nD Cert.Reference5Ideal.τ).loc Cert.Reference5Ideal.main_arg6) (ix2 t d)
      = ((Cq t d : ℝ) : EReal) := fun t d => by rw [a6]; exact h6 t d
  have k7 : ∀ t d, m' ((c.tc : Thread Cert.Reference5Ideal.nD Cert.Reference5Ideal.τ).loc Cert.Reference5Ideal.main_arg7) (ix2 t d)
      = ((Ck t d : ℝ) : EReal) := fun t d => by rw [a7]; exact h7 t d
  have k8 : ∀ t d, m' ((c.tc : Thread Cert.Reference5Ideal.nD Cert.Reference5Ideal.τ).loc Cert.Reference5Ideal.main_arg8) (ix2 t d)
      = ((Cv t d : ℝ) : EReal) := fun t d => by rw [a8]; exact h8 t d
  have k9 : ∀ t d, m' ((c.tc : Thread Cert.Reference5Ideal.nD Cert.Reference5Ideal.τ).loc Cert.Reference5Ideal.main_arg9) (ix2 t d)
      = ((Dq t d : ℝ) : EReal) := fun t d => by rw [a9]; exact h9 t d
  have k10 : ∀ t d, m' ((c.tc : Thread Cert.Reference5Ideal.nD Cert.Reference5Ideal.τ).loc Cert.Reference5Ideal.main_arg10) (ix2 t d)
      = ((Dk t d : ℝ) : EReal) := fun t d => by rw [a10]; exact h10 t d
  have k11 : ∀ t d, m' ((c.tc : Thread Cert.Reference5Ideal.nD Cert.Reference5Ideal.τ).loc Cert.Reference5Ideal.main_arg11) (ix2 t d)
      = ((Dv t d : ℝ) : EReal) := fun t d => by rw [a11]; exact h11 t d
  have k12 : ∀ t d, m' ((c.tc : Thread Cert.Reference5Ideal.nD Cert.Reference5Ideal.τ).loc Cert.Reference5Ideal.main_arg12) (ix2 t d)
      = ((Ca t d : ℝ) : EReal) := fun t d => by rw [a12]; exact h12 t d
  have k13 : ∀ t d, m' ((c.tc : Thread Cert.Reference5Ideal.nD Cert.Reference5Ideal.τ).loc Cert.Reference5Ideal.main_arg13) (ix2 t d)
      = ((Cb t d : ℝ) : EReal) := fun t d => by rw [a13]; exact h13 t d
  refine ⟨r0.trans ?_, r1.trans ?_, r2.trans ?_, r3.trans ?_, r4.trans ?_, rest⟩
  · exact (Cert.Reference5Ideal.Read.val_main_v369_eq (F := Ideal) _).trans
      (same_res_dx m c h0 h1 h2 h3 h4 h5 h6 h7 h8 h9 h10 h11 h12 h13 k0 k1 k2 k3 k4 k5 k6 k7 k8 k9 k10 k11 k12 k13)
  · exact (Cert.Reference5Ideal.Read.val_main_v371_eq (F := Ideal) _).trans
      (same_res_dz m c h0 h1 h2 h3 h4 h6 h7 h8 h9 h10 h11 h12 h13 k0 k1 k2 k3 k4 k6 k7 k8 k9 k10 k11 k12 k13)
  · exact (Cert.Reference5Ideal.Read.val_main_v370_eq (F := Ideal) _).trans
      (same_res_dg m c h0 h1 h2 h3 h4 h6 h7 h8 h9 h10 h11 h12 h13 k0 k1 k2 k3 k4 k6 k7 k8 k9 k10 k11 k12 k13)
  · exact (Cert.Reference5Ideal.Read.val_main_v345_eq (F := Ideal) _).trans
      (same_res_dgq m c h0 h1 h2 h6 k0 k1 k2 k6)
  · exact (Cert.Reference5Ideal.Read.val_main_v284_eq (F := Ideal) _).trans
      (same_res_dgk m c h0 h1 h2 h7 k0 k1 k2 k7)

end Cert.Proj

end
-- ==== Proof.AttendRef.lean ====
/-
  The attention forward reference's two results, on finite arguments, are the real model of `AttnModel.lean`. The row
  maximum is only known to be some real number; it cancels.
-/
module
public import proofs.«01_k».proof.Proof.Gen.Reference6Ideal.Read
public import proofs.«01_k».proof.Proof.AttnModel
@[expose] public section
set_option maxRecDepth 16384
noncomputable section
namespace Cert.Reference6Ideal.Value
open Cert.Reference6Ideal Cert.Reference6Ideal.Gen Cert.Reference6Ideal.Read Idealize.ShloMosaic Idealize.ShloMosaic.TcCoe Idealize.SL.Sem Cert.Reals

theorem reduces_score : S2x4x8192x8192.Reduces [3] S2x4x8192 := by decide +kernel

theorem size_score : 0 < S2x4x8192x8192.size 3 := by decide +kernel

theorem max_row (y : FVec Ideal S2x4x8192x8192 .f32) (hy : ∀ i, ∃ r : ℝ, y i = ((r : ℝ) : EReal))
    (z : FVec Ideal S_ .f32) (hz : z (Shape.Idx.first h_S_) = (⊥ : EReal)) (j : S2x4x8192.Idx) :
    ∃ M : ℝ, (Host.reduce FloatOps.maximumf y z reducesTo_S2x4x8192x8192_S2x4x8192_d3 h_S_ :
      FVec Ideal S2x4x8192 .f32) j = ((M : ℝ) : EReal) :=
  hostMax_real (s := S2x4x8192x8192) (t := S2x4x8192) (u := S_) (a := 3) y z _ reduces_score _ j size_score hz hy

theorem exp_row (y : FVec Ideal S2x4x8192x8192 .f32) (w : FVec Ideal S2x4x8192 .f32)
    (g : Fin 2) (u : Fin 4) (i j : Fin 8192) (M r : ℝ) (hw : w (ix3 g u i) = ((M : ℝ) : EReal)) (hy : y (ix4 g u i j) = ((r : ℝ) : EReal)) :
    (Host.exp (subf y (broadcastInDim S2x4x8192x8192 ![0, 1, 2, 3] bcast_S2x4x8192x1_S2x4x8192x8192_0_1_2_3
      (broadcastInDim S2x4x8192x1 ![0, 1, 2] bcast_S2x4x8192_S2x4x8192x1_0_1_2 (maximumf (val_main_v13 (F := Ideal)) w)))) :
      FVec Ideal S2x4x8192x8192 .f32) (ix4 g u i j) = ((Real.exp (r - M) : ℝ) : EReal) := by
  pointwise [val_main_v13, val_main_cst_1]
  simp only [hw, hy, word_bot, bot_le, max_eq_right, ← EReal.coe_sub, Ideal.exp_coe]

theorem sum_row (y : FVec Ideal S2x4x8192x8192 .f32) (g : Fin 2) (u : Fin 4) (i : Fin 8192) :
    (broadcastInDim S2x4x8192x1 ![0, 1, 2] bcast_S2x4x8192_S2x4x8192x1_0_1_2
      (Host.reduceAdd y (val_main_cst_2 (F := Ideal)) reducesTo_S2x4x8192x8192_S2x4x8192_d3 h_S_) :
      FVec Ideal S2x4x8192x1 .f32) (ix4 g u i 0) = ∑ j : Fin 8192, (y (ix4 g u i j) : EReal) := by
  pointwise [val_main_cst_2]

section
variable {x0 : (⟨S8192x1024, .f32⟩ : BufTy).Contents (Elt Ideal)} {x1 x2 : (⟨S8192x256, .f32⟩ : BufTy).Contents (Elt Ideal)}
  {Q : Fin 8192 → Fin 1024 → ℝ} {K V : Fin 8192 → Fin 256 → ℝ}
  (h0 : ∀ i e, x0 (ix2 i e) = ((Q i e : ℝ) : EReal)) (h1 : ∀ j e, x1 (ix2 j e) = ((K j e : ℝ) : EReal))
  (h2 : ∀ j e, x2 (ix2 j e) = ((V j e : ℝ) : EReal))
include h0 h1

theorem res_score (g : Fin 2) (u : Fin 4) (i j : Fin 8192) :
    val_main_v11 (F := Ideal) x0 x1 (ix4 g u i j) = ((Attn.score Q K g u i j : ℝ) : EReal) := by
  pointwise [val_main_v11, val_main_v10, val_main_v8, val_main_v7]
  simp only [h0, h1, ← EReal.coe_mul, coe_sum]
  rfl

theorem res_lse (g : Fin 2) (u : Fin 4) (i : Fin 8192) :
    val_main_v29 (F := Ideal) x0 x1 (ix3 g u i) = ((Real.log (Attn.mass Q K g u i) / Real.log 2 : ℝ) : EReal) := by
  have hs : ∀ j, val_main_v3 (F := Ideal) x0 x1 (ix4 g u i j) = ((Attn.score Q K g u i j : ℝ) : EReal) :=
    fun j => res_score h0 h1 g u i j
  pointwise [val_main_v29, val_main_v28, val_main_v27, val_main_cst_3, val_main_v6, val_main_v5, val_main_v4, val_main_cst]
  simp only [hs, Ideal.exp_coe, coe_sum, Ideal.log_coe, word_2]
  rw [← Attn.mass, if_neg (Attn.mass_pos Q K g u i).not_ge, if_neg (by norm_num), coe_div _ _ (Real.log_pos one_lt_two).ne']

theorem res_max (g : Fin 2) (u : Fin 4) (i : Fin 8192) :
    ∃ M : ℝ, val_main_v12 (F := Ideal) x0 x1 (ix3 g u i) = ((M : ℝ) : EReal) := by
  have hz : val_main_cst_0 (F := Ideal) (Shape.Idx.first h_S_) = (⊥ : EReal) := by
    pointwise [val_main_cst_0]
    exact word_bot
  unfold val_main_v12
  refine max_row (val_main_v11 (F := Ideal) x0 x1) (fun y => ?_) (val_main_cst_0 (F := Ideal)) hz (ix3 g u i)
  obtain ⟨g, u, i, j, rfl⟩ : ∃ g u i j, y = ix4 g u i j := ⟨y 0, y 1, y 2, y 3, eq_ix4 y⟩
  exact ⟨_, res_score h0 h1 g u i j⟩

/-- The exponentials and their row sum, at the row's own shift. -/
theorem res_exp (g : Fin 2) (u : Fin 4) (i : Fin 8192) : ∃ M : ℝ,
    (∀ j, val_main_v18 (F := Ideal) x0 x1 (ix4 g u i j) = ((Real.exp (Attn.score Q K g u i j - M) : ℝ) : EReal)) ∧
    val_main_v20 (F := Ideal) x0 x1 (ix4 g u i 0) = ((∑ j, Real.exp (Attn.score Q K g u i j - M) : ℝ) : EReal) := by
  obtain ⟨M, hM⟩ := res_max h0 h1 g u i
  have he : ∀ j, val_main_v18 (F := Ideal) x0 x1 (ix4 g u i j) = ((Real.exp (Attn.score Q K g u i j - M) : ℝ) : EReal) :=
    fun j => exp_row (val_main_v11 (F := Ideal) x0 x1) (val_main_v12 (F := Ideal) x0 x1) g u i j M _ hM
      (res_score h0 h1 g u i j)
  refine ⟨M, he, (sum_row (val_main_v18 (F := Ideal) x0 x1) g u i).trans ?_⟩
  simp only [he, coe_sum]

theorem res_prob (g : Fin 2) (u : Fin 4) (i j : Fin 8192) :
    val_main_v22 (F := Ideal) x0 x1 (ix4 g u i j) = ((Attn.prob Q K g u i j : ℝ) : EReal) := by
  obtain ⟨M, he, hs⟩ := res_exp h0 h1 g u i
  pointwise [val_main_v22, val_main_v21]
  rw [he, hs, coe_div _ _ (Finset.sum_pos (fun j _ => Real.exp_pos _) ⟨0, Finset.mem_univ _⟩).ne', Attn.prob_shift]

include h2 in
theorem res_o (i : Fin 8192) (e : Fin 1024) :
    val_main_v26 (F := Ideal) x0 x1 x2 (ix2 i e)
      = ((Attn.out Q K V (Attn.qg e) (Attn.qu e) i (Attn.qd e) : ℝ) : EReal) := by
  pointwise [val_main_v26, val_main_v25, val_main_v24, val_main_v23, val_main_v9]
  simp only [h2, res_prob h0 h1, ← EReal.coe_mul, coe_sum]
  rfl
end

end Cert.Reference6Ideal.Value
-- ==== Proof.AttendLoop.lean ====
/-
  The attention forward kernel's loop over the sixteen tiles of keys: the running maximum, the rescaled row sum and the
  rescaled output it carries, for one block of four stacked query heads whose entries are real numbers. The maximum is
  only known to be some real number.
-/
module
public import proofs.«01_k».proof.Proof.Gen.Kernel6Ideal.Value
public import proofs.«01_k».proof.Proof.AttnModel
@[expose] public section
set_option maxRecDepth 16384
noncomputable section
namespace Cert.Kernel6Ideal.Value
open Cert.Kernel6Ideal Cert.Kernel6Ideal.Gen Idealize.ShloMosaic Idealize.ShloMosaic.TcCoe Idealize.SL.Sem Idealize.ShloMosaic.StableHlo Cert.Reals

/-- The head within its group of a column of the stacked block. -/
def au (a : Fin 8192) : Fin 4 := ⟨a.val / 2048, by omega⟩
/-- The query within its block of a column of the stacked block. -/
def ap (a : Fin 8192) : Fin 2048 := ⟨a.val % 2048, by omega⟩

/-- Reading four stacked blocks of 2048 rows. -/
theorem four_rows {α : Type} (f : Fin 4 → Fin 2048 → α) (a : Fin 8192) :
    (if h : a.val < 2048 then f 0 ⟨a.val, h⟩ else if h : a.val - 2048 < 2048 then f 1 ⟨a.val - 2048, h⟩
      else if h : a.val - 2048 - 2048 < 2048 then f 2 ⟨a.val - 2048 - 2048, h⟩ else f 3 ⟨a.val - 2048 - 2048 - 2048, by omega⟩)
      = f (au a) (ap a) := by
  obtain ⟨a, ha⟩ := a
  dsimp only [au, ap]
  split_ifs <;> refine congrArg₂ f (Fin.ext ?_) (Fin.ext ?_) <;> simp <;> omega

/-- Key `b` of the tile of trip `s`. -/
def krow (s : ℕ) (b : Fin 512) : Fin 8192 := ⟨(s * 512 + b.val) % 8192, Nat.mod_lt _ (by norm_num)⟩

theorem sum_krow (f : Fin 8192 → ℝ) : ∑ s ∈ Finset.range 16, ∑ b, f (krow s b) = ∑ j, f j := by
  rw [Finset.sum_range, ← Fin.sum_mul_add_fin 16 512 f]
  refine Finset.sum_congr rfl fun s _ => Finset.sum_congr rfl fun b _ => congrArg f (Fin.ext ?_)
  have hs := s.isLt
  have hb := b.isLt
  simp only [krow]
  omega

/-- A tile's load: rows `512 k …` of the keys. -/
theorem readAt_tile {e : EltTy} (r : Memref sig .tc .vmem S8192x128 e) (X : BufTy.Contents (Elt Ideal) r.view.ty)
    (k : Fin k0_t1_loop.trips) (inb : ∀ a, k0_off1 k a + ![512, 128] a ≤ S8192x128.size a) (b : Fin 512) (d : Fin 128) :
    View.readAt (Elt Ideal) r.view (Rect.unit (s := S8192x128) (k0_off1 k) ![512, 128] inb).toLoadRect X (ix2 b d)
      = r.view.read (Elt Ideal) X (ix2 (krow k.val b) d) := by
  have hk : k.val < 16 := k.isLt
  have hb := b.isLt
  rw [View.readAt_eq_ld]
  refine congrArg (r.view.read (Elt Ideal) X) (funext fun x => Fin.ext ?_)
  have h := k0_off1_eq k
  match x with
  | ⟨0, _⟩ =>
    show k0_off1 k 0 + 1 * b.val = (k.val * 512 + b.val) % 8192
    rw [h]
    show 512 * k.val + 1 * b.val = _
    omega
  | ⟨1, _⟩ =>
    show k0_off1 k 1 + 1 * d.val = d.val
    rw [h]
    show 0 + 1 * d.val = _
    omega

/-- A power of two. -/
def pw (x : ℝ) : ℝ := Real.rpow 2 x

theorem pw_pos (x : ℝ) : 0 < pw x := Real.rpow_pos_of_pos two_pos x

theorem pw_mul (x y : ℝ) : pw x * pw y = pw (x + y) := (Real.rpow_add two_pos x y).symm

/-- A score, per unit of a base-two exponent. -/
def sc2 (f : Fin 4 → Fin 2048 → Fin 128 → ℝ) (Kg : Fin 128 → ℝ) (a : Fin 8192) : ℝ := ∑ d, Kg d * f (au a) (ap a) d

/-- The largest of a column of reals and a real is a real. -/
theorem max_col (x : FVec Ideal S512x8192 .f32) (hx : ∀ i, ∃ r : ℝ, x i = ((r : ℝ) : EReal)) (w : FVec Ideal S1x8192 .f32)
    (a : Fin 8192) (M : ℝ) (hw : w (ix2 0 a) = ((M : ℝ) : EReal)) :
    ∃ M' : ℝ, (maximumf w (shapeCast S1x8192 (multiReduction .maximumf [0] S8192 x 0xFF800000#32 reduces_S512x8192_S8192
      (.inl rfl) rfl) shapeCasts_S8192_S1x8192) : FVec Ideal S1x8192 .f32) (ix2 0 a) = ((M' : ℝ) : EReal) := by
  have hr : ∀ j : S8192.Idx, ∃ r : ℝ, (multiReduction .maximumf [0] S8192 x 0xFF800000#32 reduces_S512x8192_S8192
      (.inl rfl) rfl : FVec Ideal S8192 .f32) j = ((r : ℝ) : EReal) := fun j => by
    obtain ⟨r, hr⟩ := fold_max_real (Finset.univ : Finset (Fin 512)) ⟨0, Finset.mem_univ _⟩
      (fun k => x (reduces_S512x8192_S8192.lift j k)) fun k => hx _
    refine ⟨r, (Ideal.multiReduction_maximumf_single (a := 0) x 0xFF800000#32 reduces_S512x8192_S8192 (.inl rfl) rfl j).trans ?_⟩
    exact (congrArg (fun z : EReal => (Finset.univ : Finset (Fin 512)).fold max z
      (fun k => x (reduces_S512x8192_S8192.lift j k))) word_bot).trans hr
  generalize (multiReduction .maximumf [0] S8192 x 0xFF800000#32 reduces_S512x8192_S8192
      (.inl rfl) rfl : FVec Ideal S8192 .f32) = y at hr ⊢
  obtain ⟨r, hr⟩ := hr (ix1 a)
  refine ⟨max M r, ?_⟩
  pointwise
  rw [hw, hr, coe_max]

/-- The sum of a column's powers of two. -/
def mass2 (f : Fin 4 → Fin 2048 → Fin 128 → ℝ) (Kg : Fin 8192 → Fin 128 → ℝ) (a : Fin 8192) : ℝ := ∑ j, pw (sc2 f (Kg j) a)

theorem mass2_pos (f : Fin 4 → Fin 2048 → Fin 128 → ℝ) (Kg : Fin 8192 → Fin 128 → ℝ) (a : Fin 8192) : 0 < mass2 f Kg a :=
  Finset.sum_pos (fun _ _ => pw_pos _) ⟨0, Finset.mem_univ _⟩

theorem pw_shift (f : Fin 4 → Fin 2048 → Fin 128 → ℝ) (Kg : Fin 8192 → Fin 128 → ℝ) (a : Fin 8192) (M : ℝ) (j : Fin 8192) :
    pw (sc2 f (Kg j) a - M) = pw (sc2 f (Kg j) a) * pw (-M) := by rw [pw_mul, sub_eq_add_neg]

theorem named_log2_e : Named.named (F := Ideal) Cert.Kernel6Ideal.κ "log2_e" (φ := .f32) 0x3FB8AA3B#32 = (((Real.log 2)⁻¹ : ℝ) : EReal) :=
  IdealRules.named_const.ideal_named_scalar _ _ _ _ rfl

section
variable (m l : FVec Ideal S1x8192 .f32) (acc : FVec Ideal S128x8192 .f32) (a : Fin 8192) (M : ℝ)
  (f : Fin 4 → Fin 2048 → Fin 128 → ℝ) (Kg Vg : Fin 8192 → Fin 128 → ℝ)
  (hm : m (ix2 0 a) = ((M : ℝ) : EReal)) (hl : l (ix2 0 a) = ((∑ j, pw (sc2 f (Kg j) a - M) : ℝ) : EReal))
  (ha : ∀ d, acc (ix2 d a) = ((∑ j, Vg j d * pw (sc2 f (Kg j) a - M) : ℝ) : EReal))

include hl ha in
theorem pay_o (d : Fin 128) :
    k0_pay15 (F := Ideal) l acc (ix2 a d) = ((∑ j, Vg j d * (pw (sc2 f (Kg j) a) / mass2 f Kg a) : ℝ) : EReal) := by
  have hS : 0 < ∑ j, pw (sc2 f (Kg j) a - M) := Finset.sum_pos (fun _ _ => pw_pos _) ⟨0, Finset.mem_univ _⟩
  pointwise [k0_pay15]
  rw [hl, ha, coe_div _ _ hS.ne']
  refine congrArg Real.toEReal ?_
  have hM := (pw_pos (-M)).ne'
  have hT := (mass2_pos f Kg a).ne'
  simp only [pw_shift, ← Finset.sum_mul]
  rw [← mass2]
  simp only [← mul_assoc, ← Finset.sum_mul]
  rw [mul_div_mul_right _ _ hM, Finset.sum_div]
  exact Finset.sum_congr rfl fun j _ => by rw [mul_div_assoc]

include hm hl in
theorem pay_lse :
    k0_pay16 (F := Ideal) m l (ix2 0 a) = ((Real.log (mass2 f Kg a) / Real.log 2 : ℝ) : EReal) := by
  have hl2 : Real.log 2 ≠ 0 := (Real.log_pos one_lt_two).ne'
  have hS : 0 < ∑ j, pw (sc2 f (Kg j) a - M) := Finset.sum_pos (fun _ _ => pw_pos _) ⟨0, Finset.mem_univ _⟩
  pointwise [k0_pay16]
  rw [hm, hl, named_log2_e, Ideal.log_coe, if_neg hS.not_ge, ← EReal.coe_mul, ← EReal.coe_add]
  refine congrArg Real.toEReal ?_
  simp only [pw_shift, ← Finset.sum_mul]
  rw [← mass2, Real.log_mul (mass2_pos f Kg a).ne' (pw_pos (-M)).ne', pw]
  show _ + (_ + Real.log ((2 : ℝ) ^ (-M))) * _ = _
  rw [Real.log_rpow two_pos]
  field_simp
  ring
end

section
variable (v0 v2 v4 v6 : Vec Ideal S2048x128 .bf16) (f : Fin 4 → Fin 2048 → Fin 128 → ℝ)
  (h0 : ∀ p d, v0 (ix2 p d) = ((f 0 p d : ℝ) : EReal)) (h2 : ∀ p d, v2 (ix2 p d) = ((f 1 p d : ℝ) : EReal))
  (h4 : ∀ p d, v4 (ix2 p d) = ((f 2 p d : ℝ) : EReal)) (h6 : ∀ p d, v6 (ix2 p d) = ((f 3 p d : ℝ) : EReal))

section
variable (v52 v55 : Vec Ideal S512x128 .bf16) (Kt Vt : Fin 512 → Fin 128 → ℝ)
  (h52 : ∀ b d, v52 (ix2 b d) = ((Kt b d : ℝ) : EReal)) (h55 : ∀ b d, v55 (ix2 b d) = ((Vt b d : ℝ) : EReal))
  (m l : FVec Ideal S1x8192 .f32) (acc : FVec Ideal S128x8192 .f32) (a : Fin 8192) (M M' : ℝ)
  (hm : m (ix2 0 a) = ((M : ℝ) : EReal))
  (hM' : k0_pay10 (F := Ideal) v0 v2 v4 v6 m v52 (ix2 0 a) = ((M' : ℝ) : EReal))

include h0 h2 h4 h6 h52 in
theorem pay_sc (b : Fin 512) (a : Fin 8192) :
    k0_pay9 (F := Ideal) v0 v2 v4 v6 v52 (ix2 b a) = ((sc2 f (Kt b) a : ℝ) : EReal) := by
  pointwise [k0_pay9]
  simp only [h0, h2, h4, h6, h52]
  rw [sc2, ← coe_sum]
  refine Finset.sum_congr rfl fun d _ => ?_
  rw [four_rows (fun u p => ((f u p d : ℝ) : EReal)) a, ← EReal.coe_mul]

include h0 h2 h4 h6 h52 hm in
theorem pay_max : ∃ M' : ℝ, k0_pay10 (F := Ideal) v0 v2 v4 v6 m v52 (ix2 0 a) = ((M' : ℝ) : EReal) := by
  refine max_col (k0_pay9 (F := Ideal) v0 v2 v4 v6 v52) (fun i => ?_) m a M hm
  obtain ⟨b, a', rfl⟩ : ∃ (b : Fin 512) (a' : Fin 8192), i = ix2 b a' := ⟨i 0, i 1, eq_ix2 i⟩
  exact ⟨_, pay_sc v0 v2 v4 v6 f h0 h2 h4 h6 v52 Kt h52 b a'⟩

include h0 h2 h4 h6 h52 hM' in
theorem pay_pw (b : Fin 512) :
    k0_pay11 (F := Ideal) v0 v2 v4 v6 m v52 (ix2 b a) = ((pw (sc2 f (Kt b) a - M') : ℝ) : EReal) := by
  pointwise [k0_pay11]
  rw [pay_sc v0 v2 v4 v6 f h0 h2 h4 h6 v52 Kt h52 b a, hM', ← EReal.coe_sub]
  rfl

include hm hM' in
theorem pay_alpha : k0_pay12 (F := Ideal) v0 v2 v4 v6 m v52 (ix2 0 a) = ((pw (M - M') : ℝ) : EReal) := by
  pointwise [k0_pay12]
  rw [hm, hM', ← EReal.coe_sub]
  rfl

include h0 h2 h4 h6 h52 hm hM' in
theorem pay_l (L : ℝ) (hl : l (ix2 0 a) = ((L : ℝ) : EReal)) :
    k0_pay13 (F := Ideal) v0 v2 v4 v6 m l v52 (ix2 0 a)
      = ((pw (M - M') * L + ∑ b, pw (sc2 f (Kt b) a - M') : ℝ) : EReal) := by
  pointwise [k0_pay13]
  simp only [pay_alpha v0 v2 v4 v6 v52 m a M M' hm hM', hl, pay_pw v0 v2 v4 v6 f h0 h2 h4 h6 v52 Kt h52 m a M' hM',
    ← EReal.coe_mul, coe_sum, ← EReal.coe_add]

include h0 h2 h4 h6 h52 h55 hm hM' in
theorem pay_acc (d : Fin 128) (A : ℝ) (ha : acc (ix2 d a) = ((A : ℝ) : EReal)) :
    k0_pay14 (F := Ideal) v0 v2 v4 v6 m acc v52 v55 (ix2 d a)
      = ((pw (M - M') * A + ∑ b, Vt b d * pw (sc2 f (Kt b) a - M') : ℝ) : EReal) := by
  pointwise [k0_pay14]
  simp only [pay_alpha v0 v2 v4 v6 v52 m a M M' hm hM', ha, h55, pay_pw v0 v2 v4 v6 f h0 h2 h4 h6 v52 Kt h52 m a M' hM',
    ← EReal.coe_mul, coe_sum, ← EReal.coe_add]
end

/-- The three carried arrays' first values: some number, and zeros. -/
theorem word_start : ∃ r : ℝ, Ideal.ofBits .f32 4048155338#32 = ((r : ℝ) : EReal) := by
  refine ⟨-13234890 * 2 ^ 76, ?_⟩
  simp [Ideal.ofBits, Ideal.ieee, -EReal.coe_mul]

variable (𝒱 : Variants) (c : Dev nD) (bd : Option 𝒱.V) (i : grid0.Coords)
  (arg2 : Memref sig .tc .vmem S2048x512 .bf16) (harg2 : arg2.IsWhole) (arg3 : Memref sig .tc .vmem S8192x128 .bf16)
  (harg3 : arg3.IsWhole) (arg4 : Memref sig .tc .vmem S8192x128 .bf16) (harg4 : arg4.IsWhole)
  (arg5 : Memref sig .tc .vmem S2048x512 .bf16) (harg5 : arg5.IsWhole) (arg6 : Memref sig .tc .vmem S1x4x2048 .f32)
  (harg6 : arg6.IsWhole) (X3 : BufTy.Contents (Elt Ideal) arg3.view.ty) (X4 : BufTy.Contents (Elt Ideal) arg4.view.ty)
  (Kg Vg : Fin 8192 → Fin 128 → ℝ)
  (h3 : ∀ j d, arg3.view.read (Elt Ideal) X3 (ix2 j d) = ((Kg j d : ℝ) : EReal))
  (h4' : ∀ j d, arg4.view.read (Elt Ideal) X4 (ix2 j d) = ((Vg j d : ℝ) : EReal))

include h0 h2 h4 h6 h3 h4' in
/-- Before trip `n`, in each column: the sums over the tiles so far, at some shift. -/
theorem loop_state (a : Fin 8192) (n : ℕ) (hn : n ≤ 16) : ∃ M : ℝ,
    (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) n).1 (ix2 0 a) = ((M : ℝ) : EReal)
    ∧ (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) n).2.1 (ix2 0 a)
        = ((∑ s ∈ Finset.range n, ∑ b, pw (sc2 f (Kg (krow s b)) a - M) : ℝ) : EReal)
    ∧ ∀ d, (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) n).2.2 (ix2 d a)
        = ((∑ s ∈ Finset.range n, ∑ b, Vg (krow s b) d * pw (sc2 f (Kg (krow s b)) a - M) : ℝ) : EReal) := by
  induction n with
  | zero =>
    obtain ⟨r, hr⟩ := word_start
    refine ⟨r, ?_, ?_, fun d => ?_⟩
    · rw [st_k0_t1_zero]
      pointwise [k0_pay6]
      exact hr
    · rw [st_k0_t1_zero, Finset.range_zero, Finset.sum_empty]
      pointwise [k0_pay7]
      rfl
    · rw [st_k0_t1_zero, Finset.range_zero, Finset.sum_empty]
      pointwise [k0_pay8]
      rfl
  | succ n ih =>
    obtain ⟨M, i1, i2, i3⟩ := ih (by omega)
    have hs := st_k0_t1_succ (F := Ideal) 𝒱 c bd i arg2 harg2 arg3 harg3 arg4 harg4 arg5 harg5 arg6 harg6 v0 v2 v4 v6 X3 X4
      (k0_pay6 (F := Ideal), k0_pay7 (F := Ideal), k0_pay8 (F := Ideal)) ⟨n, hn⟩
    dsimp only at hs
    rw [hs]
    clear hs
    generalize (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) n) = S at i1 i2 i3 ⊢
    unfold tripR_k0_t1 trip_k0_t1
    dsimp only
    have e3 := fun b d => (readAt_tile arg3 X3 ⟨n, hn⟩ (k0_off1_inb ⟨n, hn⟩) b d).trans (h3 _ d)
    have e4 := fun b d => (readAt_tile arg4 X4 ⟨n, hn⟩ (k0_off1_inb ⟨n, hn⟩) b d).trans (h4' _ d)
    obtain ⟨M', hM'⟩ := pay_max v0 v2 v4 v6 f h0 h2 h4 h6 _ _ e3 S.1 a M i1
    have hp : ∀ x, pw (M - M') * pw (x - M) = pw (x - M') := fun x => by rw [pw_mul]; congr 1; ring
    refine ⟨M', hM', ?_, fun d => ?_⟩
    · refine (pay_l v0 v2 v4 v6 f h0 h2 h4 h6 _ _ e3 S.1 S.2.1 a M M' i1 hM' _ i2).trans (congrArg Real.toEReal ?_)
      rw [Finset.sum_range_succ]
      simp only [Finset.mul_sum, hp]
    · refine (pay_acc v0 v2 v4 v6 f h0 h2 h4 h6 _ _ _ _ e3 e4 S.1 S.2.2 a M M' i1 hM' d _ (i3 d)).trans (congrArg Real.toEReal ?_)
      rw [Finset.sum_range_succ]
      simp only [Finset.mul_sum, mul_left_comm, hp]

include h0 h2 h4 h6 h3 h4' in
/-- After the loop, in each column: the sums over all keys, at some shift. -/
theorem loop_end (a : Fin 8192) : ∃ M : ℝ,
    (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) 16).1 (ix2 0 a) = ((M : ℝ) : EReal)
    ∧ (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) 16).2.1 (ix2 0 a)
        = ((∑ j, pw (sc2 f (Kg j) a - M) : ℝ) : EReal)
    ∧ ∀ d, (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) 16).2.2 (ix2 d a)
        = ((∑ j, Vg j d * pw (sc2 f (Kg j) a - M) : ℝ) : EReal) := by
  obtain ⟨M, h1, h2', h3'⟩ := loop_state v0 v2 v4 v6 f h0 h2 h4 h6 𝒱 c bd i arg2 harg2 arg3 harg3 arg4 harg4 arg5 harg5 arg6 harg6
    X3 X4 Kg Vg h3 h4' a 16 le_rfl
  refine ⟨M, h1, ?_, fun d => ?_⟩
  · rw [h2', sum_krow (fun j => pw (sc2 f (Kg j) a - M))]
  · rw [h3' d, sum_krow (fun j => Vg j d * pw (sc2 f (Kg j) a - M))]
include h0 h2 h4 h6 h3 h4' in
/-- After the loop: the output, its column's softmax over the values. -/
theorem end_o (a : Fin 8192) (d : Fin 128) :
    k0_pay15 (F := Ideal) (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) 16).2.1
      (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) 16).2.2 (ix2 a d)
      = ((∑ j, Vg j d * (pw (sc2 f (Kg j) a) / mass2 f Kg a) : ℝ) : EReal) := by
  obtain ⟨M, _, e2, e3⟩ := loop_end v0 v2 v4 v6 f h0 h2 h4 h6 𝒱 c bd i arg2 harg2 arg3 harg3 arg4 harg4 arg5 harg5 arg6 harg6
    X3 X4 Kg Vg h3 h4' a
  exact pay_o _ _ a M f Kg Vg e2 e3 d

include h0 h2 h4 h6 h3 h4' in
/-- After the loop: the column's log sum in base two. -/
theorem end_lse (a : Fin 8192) :
    k0_pay16 (F := Ideal) (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) 16).1
      (st_k0_t1 (F := Ideal) 𝒱 c bd i arg2 harg2 arg3 harg3 arg4 harg4 arg5 harg5 arg6 harg6 v0 v2 v4 v6 X3 X4
      (k0_pay6 (F := Ideal), k0_pay7 (F := Ideal), k0_pay8 (F := Ideal)) 16).2.1 (ix2 0 a)
      = ((Real.log (mass2 f Kg a) / Real.log 2 : ℝ) : EReal) := by
  obtain ⟨M, e1, e2, _⟩ := loop_end v0 v2 v4 v6 f h0 h2 h4 h6 𝒱 c bd i arg2 harg2 arg3 harg3 arg4 harg4 arg5 harg5 arg6 harg6
    X3 X4 Kg Vg h3 h4' a
  exact pay_lse _ _ a M f Kg e1 e2
end

end Cert.Kernel6Ideal.Value
-- ==== Proof.AttendKernel.lean ====
/-
  The attention forward kernel: what its two result arrays hold after the run, on finite arguments, is the real model of
  `AttnModel.lean`.
-/
module
public import proofs.«01_k».proof.Proof.AttendLoop
public import Idealize.ShloMosaic.Lib.Pipeline.ValueKit
@[expose] public section
set_option maxRecDepth 16384
noncomputable section
namespace Cert.Kernel6Ideal.Value
open Cert.Kernel6Ideal Cert.Kernel6Ideal.Gen Idealize.ShloMosaic Idealize.ShloMosaic.TcCoe Idealize.SL.Sem  Idealize.ShloMosaic.StableHlo Cert.Reals
variable (m : (ℓ : Loc nD τ sig) → Buf (Elt Ideal) ℓ)

theorem idx : ∀ t : Fin cfg0.N, win0_0.index t = ![t.val % 4, t.val / 4] ∧ win0_1.index t = ![0, t.val / 4]
    ∧ win0_2.index t = ![0, t.val / 4] ∧ win0_3.index t = ![t.val % 4, t.val / 4]
    ∧ win0_4.index t = ![t.val / 4, 0, t.val % 4] :=
  (by decide +kernel : ∀ t : Fin grid0.N, _)

/-- The key head of a grid point. -/
def gt (t : Fin cfg0.N) : Fin 2 := ⟨t.val / 4, by have := t.isLt; have : cfg0.N = 8 := N_0; omega⟩
/-- The query that row `p` of a grid point's blocks is. -/
def row (t : Fin cfg0.N) (p : Fin 2048) : Fin 8192 := ⟨t.val % 4 * 2048 + p.val, by omega⟩
/-- The query column that column `e` of a grid point's blocks is. -/
def col (t : Fin cfg0.N) (e : Fin 512) : Fin 1024 := ⟨(gt t).val * 512 + e.val, by omega⟩

theorem trips_eq : Scf.trips 0#32 (Scalar.addi 0#32 16#32) 1#32 = 16 := by decide +kernel

section
variable (c : Dev nD)
  (Q : Fin 8192 → Fin 1024 → ℝ) (K V' : Fin 8192 → Fin 256 → ℝ)
  (h0 : ∀ i e, m ((c : Thread nD τ).loc main_arg0) (ix2 i e) = ((Q i e : ℝ) : EReal))
  (h1 : ∀ j e, m ((c : Thread nD τ).loc main_arg1) (ix2 j e) = ((K j e : ℝ) : EReal))
  (h2 : ∀ j e, m ((c : Thread nD τ).loc main_arg2) (ix2 j e) = ((V' j e : ℝ) : EReal))

include h0 in
theorem V3 (i : Fin 8192) (e : Fin 1024) : V m c main_v3 (ix2 i e) = ((Q i e / Real.log 2 : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h0, word_2, Ideal.log_coe, if_neg (by norm_num), coe_div _ _ (Real.log_pos one_lt_two).ne']

include h1 in
theorem V4 (i : Fin 8192) (e : Fin 256) : V m c main_v4 (ix2 i e) = ((K i e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h1]

include h2 in
theorem V5 (i : Fin 8192) (e : Fin 256) : V m c main_v5 (ix2 i e) = ((V' i e : ℝ) : EReal) := by
  simp only [V, hostOps0, List.flatten_cons, List.flatten_nil, List.append_nil, List.cons_append,
      List.nil_append, TRef.binary, TRef.nullary, TRef.unary, TRef.toBuf, TRef.ofBuf, cast_eq]
  after_results_simp
  pointwise
  rw [h2]

include h0 in
theorem b0 (t : Fin cfg0.N) (p : Fin 2048) (e : Fin 512) :
    iblk m c 0 t (ix2 p e) = ((Q (row t p) (col t e) / Real.log 2 : ℝ) : EReal) := by
  rw [← V3 m c Q h0]; have : ((row t p) : ℕ) = t.val % 4 * 2048 + p.val := rfl
  have : ((col t e) : ℕ) = t.val / 4 * 512 + e.val := rfl
  blk_point [iblk, idx t]
include h1 in
theorem b1 (t : Fin cfg0.N) (j : Fin 8192) (d : Fin 128) :
    iblk m c 1 t (ix2 j d) = ((K j (Attn.kcol (gt t) d) : ℝ) : EReal) := by
  rw [← V4 m c K h1]; have : (Attn.kcol (gt t) d : ℕ) = t.val / 4 * 128 + d.val := rfl
  blk_point [iblk, idx t]
include h2 in
theorem b2 (t : Fin cfg0.N) (j : Fin 8192) (d : Fin 128) :
    iblk m c 2 t (ix2 j d) = ((V' j (Attn.kcol (gt t) d) : ℝ) : EReal) := by
  rw [← V5 m c V' h2]; have : (Attn.kcol (gt t) d : ℕ) = t.val / 4 * 128 + d.val := rfl
  blk_point [iblk, idx t]

/-- A block's scaled queries per unit of a base-two exponent. -/
def qf (t : Fin cfg0.N) (u : Fin 4) (p : Fin 2048) (d : Fin 128) : ℝ := Q (row t p) (Attn.qcol (gt t) u d) / Real.log 2

theorem col_eq (t : Fin cfg0.N) (u : Fin 4) (d : Fin 128) (e : Fin 512) (h : e.val = u.val * 128 + d.val) :
    col t e = Attn.qcol (gt t) u d := Fin.ext (by simp only [col, Attn.qcol]; omega)
theorem qg_col (t : Fin cfg0.N) (u : Fin 4) (d : Fin 128) : Attn.qg (Attn.qcol (gt t) u d) = gt t :=
  Fin.ext (by simp only [Attn.qg, Attn.qcol]; omega)
theorem qu_col (t : Fin cfg0.N) (u : Fin 4) (d : Fin 128) : Attn.qu (Attn.qcol (gt t) u d) = u :=
  Fin.ext (by simp only [Attn.qu, Attn.qcol]; omega)
theorem qd_col (t : Fin cfg0.N) (u : Fin 4) (d : Fin 128) : Attn.qd (Attn.qcol (gt t) u d) = d :=
  Fin.ext (by simp only [Attn.qd, Attn.qcol]; omega)

/-- The powers of two are the attention's exponentials. -/
theorem pw_score (t : Fin cfg0.N) (j a : Fin 8192) :
    pw (sc2 (qf Q t) (fun d => K j (Attn.kcol (gt t) d)) a) = Real.exp (Attn.score Q K (gt t) (au a) (row t (ap a)) j) := by
  have hl : Real.log 2 ≠ 0 := (Real.log_pos one_lt_two).ne'
  show (2 : ℝ) ^ (_ : ℝ) = _
  rw [Real.rpow_def_of_pos two_pos, Attn.score, sc2, Finset.mul_sum]
  refine congrArg Real.exp (Finset.sum_congr rfl fun d _ => ?_)
  rw [qf]
  field_simp

theorem mass2_eq (t : Fin cfg0.N) (a : Fin 8192) :
    mass2 (qf Q t) (fun j d => K j (Attn.kcol (gt t) d)) a = Attn.mass Q K (gt t) (au a) (row t (ap a)) :=
  Finset.sum_congr rfl fun j _ => pw_score Q K t j a

include h0 in
/-- A head's slice of a block of queries. -/
theorem slice (t : Fin cfg0.N) (u : Fin 4) (x : Vec Ideal S2048x128 .bf16)
    (hx : ∀ (p : Fin 2048) (d : Fin 128) (e : Fin 512), e.val = u.val * 128 + d.val → x (ix2 p d) = (iblk m c 0 t (ix2 p e) : EReal))
    (p : Fin 2048) (d : Fin 128) : x (ix2 p d) = ((qf Q t u p d : ℝ) : EReal) := by
  rw [hx p d ⟨u.val * 128 + d.val, by omega⟩ rfl, b0 m c Q h0, col_eq t u d _ rfl]
  rfl

include h1 in
theorem k_read (t : Fin cfg0.N) (r : Memref sig .tc .vmem S8192x128 .bf16) (h : r.IsWhole) (j : Fin 8192) (d : Fin 128) :
    r.view.read (Elt Ideal) (h.unread (iblk m c 1 t)) (ix2 j d) = ((K j (Attn.kcol (gt t) d) : ℝ) : EReal) := by
  rw [h.read_unread]; exact b1 m c K h1 t j d
include h2 in
theorem v_read (t : Fin cfg0.N) (r : Memref sig .tc .vmem S8192x128 .bf16) (h : r.IsWhole) (j : Fin 8192) (d : Fin 128) :
    r.view.read (Elt Ideal) (h.unread (iblk m c 2 t)) (ix2 j d) = ((V' j (Attn.kcol (gt t) d) : ℝ) : EReal) := by
  rw [h.read_unread]; exact b2 m c V' h2 t j d

theorem o_col (t : Fin cfg0.N) (a : Fin 8192) (e : Fin 512) (d : Fin 128) (p : Fin 2048)
    (hu : a.val = e.val / 128 * 2048 + p.val) (hd : e.val = e.val / 128 * 128 + d.val) :
    ∑ j, V' j (Attn.kcol (gt t) d) * (pw (sc2 (qf Q t) (fun d => K j (Attn.kcol (gt t) d)) a)
        / mass2 (qf Q t) (fun j d => K j (Attn.kcol (gt t) d)) a)
      = Attn.out Q K V' (Attn.qg (col t e)) (Attn.qu (col t e)) (row t p) (Attn.qd (col t e)) := by
  have hp := p.isLt
  have he := e.isLt
  have e1 : au a = ⟨e.val / 128, by omega⟩ := Fin.ext (by simp only [au]; omega)
  have e2 : ap a = p := Fin.ext (by simp only [ap]; omega)
  have e3 : col t e = Attn.qcol (gt t) (au a) d := col_eq t (au a) d e (by rw [e1]; exact hd)
  rw [e3, qg_col, qu_col, qd_col, Attn.out]
  refine Finset.sum_congr rfl fun j _ => ?_
  rw [pw_score, mass2_eq, e2]
  rfl

theorem lse_col (t : Fin cfg0.N) (a : Fin 8192) (u : Fin 4) (p : Fin 2048) (hu : a.val = u.val * 2048 + p.val) :
    Real.log (mass2 (qf Q t) (fun j d => K j (Attn.kcol (gt t) d)) a) / Real.log 2
      = Real.log (Attn.mass Q K (gt t) u (row t p)) / Real.log 2 := by
  have e1 : au a = u := Fin.ext (by simp only [au]; omega)
  have e2 : ap a = p := Fin.ext (by simp only [ap]; omega)
  rw [mass2_eq, e1, e2]

include h0 h1 h2 in
theorem out_o (t : Fin cfg0.N) (p : Fin 2048) (e : Fin 512) :
    (outsAt0 m c t).1 (ix2 p e)
      = ((Attn.out Q K V' (Attn.qg (col t e)) (Attn.qu (col t e)) (row t p) (Attn.qd (col t e)) : ℝ) : EReal) := by
  have S := slice m c Q h0 t
  have RK := k_read m c K h1 t
  have RV := v_read m c V' h2 t
  unfold outsAt0
  frame_out <;>
    canon_tiles x h <;>
    (obtain ⟨q, d, rfl⟩ : ∃ (q : Fin 2048) (d : Fin 128), x = ix2 q d := ⟨x 0, x 1, eq_ix2 x⟩
     obtain rfl : p = q := Fin.ext ‹_›
     have he : (e : ℕ) = _ := ‹_›
     have hd : d.val < 128 := d.isLt
     have hd1 : ((ix2 p d) 1 : ℕ) = d.val := rfl
     rw [hd1] at he
     pointwise [k0_pay17, k0_pay19, k0_pay2, k0_pay4]
     rw [trips_eq]
     refine (end_o _ _ _ _ (qf Q t) (S 0 _ ?_) (S 1 _ ?_) (S 2 _ ?_) (S 3 _ ?_) _ _ _ _ _ _ _ _ _ _ _ _ _ _ _ _
       (fun j d => K j (Attn.kcol (gt t) d)) (fun j d => V' j (Attn.kcol (gt t) d)) (RK _ _) (RV _ _) _ _).trans ?_
     rotate_right
     · refine congrArg Real.toEReal (o_col Q K V' t _ e d p ?_ ?_) <;> first | omega | (dsimp only; omega)
     all_goals
       intro p d e he
       pointwise
       exact congrArg (fun z => iblk m c 0 t (ix2 p z)) (Fin.ext (by rw [he]; simp)))

include h0 h1 h2 in
theorem out_lse (t : Fin cfg0.N) (u : Fin 4) (p : Fin 2048) :
    (outsAt0 m c t).2 (ix3 0 u p) = ((Real.log (Attn.mass Q K (gt t) u (row t p)) / Real.log 2 : ℝ) : EReal) := by
  have S := slice m c Q h0 t
  have RK := k_read m c K h1 t
  have RV := v_read m c V' h2 t
  unfold outsAt0
  frame_out <;>
    canon_tiles x h <;>
    (obtain ⟨z, w, q, rfl⟩ : ∃ (z w : Fin 1) (q : Fin 2048), x = ix3 z w q := ⟨x 0, x 1, x 2, eq_ix3 x⟩
     obtain rfl : p = q := Fin.ext ‹_›
     obtain rfl : w = 0 := Subsingleton.elim _ _
     obtain rfl : z = 0 := Subsingleton.elim _ _
     have hu : (u : ℕ) = _ := ‹_›
     have hu1 : ((ix3 (0 : Fin 1) (0 : Fin 1) p) 1 : ℕ) = 0 := rfl
     rw [hu1] at hu
     pointwise [k0_pay18, k0_pay20, k0_pay1, k0_pay3, k0_pay5]
     rw [trips_eq]
     refine (end_lse _ _ _ _ (qf Q t) (S 0 _ ?_) (S 1 _ ?_) (S 2 _ ?_) (S 3 _ ?_) _ _ _ _ _ _ _ _ _ _ _ _ _ _ _ _
       (fun j d => K j (Attn.kcol (gt t) d)) (fun j d => V' j (Attn.kcol (gt t) d)) (RK _ _) (RV _ _) _).trans ?_
     rotate_right
     · refine congrArg Real.toEReal (lse_col Q K t _ u p ?_) <;> first | omega | (dsimp only; omega)
     all_goals
       intro p d e he
       pointwise
       exact congrArg (fun z => iblk m c 0 t (ix2 p z)) (Fin.ext (by rw [he]; simp)))

include h0 h1 h2 in
theorem final3 : (dats m 0 c).arrAt 3 cfg0.N
    = fun i => ((Attn.out Q K V' (Attn.qg (i 1)) (Attn.qu (i 1)) (i 0) (Attn.qd (i 1)) : ℝ) : EReal) := by
  refine (dats m 0 c).arrAt_eq_of_covers 3 _ (by decide +kernel) fun t hf y => ?_
  blk_simp; rw [after0_3]
  obtain ⟨p, e, rfl⟩ : ∃ (p : Fin 2048) (e : Fin 512), y = ix2 p e := ⟨y 0, y 1, eq_ix2 y⟩
  refine (out_o m c Q K V' h0 h1 h2 t p e).trans ?_
  have hr : ((row t p) : ℕ) = t.val % 4 * 2048 + p.val := rfl
  have hc : ((col t e) : ℕ) = t.val / 4 * 512 + e.val := rfl
  have e : (win0_3.blk t).view.emb (ix2 p e) = ix2 (row t p) (col t e) := by blk_ext [idx t]
  rw [e]
  rfl

include h0 h1 h2 in
theorem final4 : (dats m 0 c).arrAt 4 cfg0.N
    = fun i => ((Real.log (Attn.mass Q K (i 0) (i 1) (i 2)) / Real.log 2 : ℝ) : EReal) := by
  refine (dats m 0 c).arrAt_eq_of_covers 4 _ (by decide +kernel) fun t hf y => ?_
  blk_simp; rw [after0_4]
  obtain ⟨z, u, p, rfl⟩ : ∃ (z : Fin 1) (u : Fin 4) (p : Fin 2048), y = ix3 z u p := ⟨y 0, y 1, y 2, eq_ix3 y⟩
  obtain rfl : z = 0 := Subsingleton.elim _ _
  refine (out_lse m c Q K V' h0 h1 h2 t u p).trans ?_
  have hr : ((row t p) : ℕ) = t.val % 4 * 2048 + p.val := rfl
  have hg : ((gt t) : ℕ) = t.val / 4 := rfl
  have e : (win0_4.blk t).view.emb (ix3 0 u p) = ix3 (gt t) u (row t p) := by blk_ext [idx t]
  rw [e]
  rfl
end
end Cert.Kernel6Ideal.Value
-- ==== Proof.Attend.lean ====
/-
  The claim of the attention forward kernel: its output and its row log sums are the reference's.
-/
module

public import proofs.«01_k».proof.Defs
public import proofs.«01_k».proof.Proof.Finite
public import proofs.«01_k».proof.Proof.AttendRef
public import proofs.«01_k».proof.Proof.AttendKernel
public import proofs.«01_k».proof.Proof.Gen.Reference6Ideal.Run
public import proofs.«01_k».proof.Proof.Gen.Pre_finite_attend

@[expose] public section

set_option maxRecDepth 16384

noncomputable section

namespace Cert.Attend

open Idealize.ShloMosaic Idealize.ShloMosaic.TcCoe Idealize.SL.Sem Cert.Reals

open Cert.Kernel6Ideal in
/-- Where the precondition holds, every argument is the coercion of a real array. -/
theorem reals_of_pre (m : (ℓ : Loc nD τ sig) → Buf (Elt Ideal) ℓ)
    (h : Cert.Pre_Kernel6Ideal_finite_attend (hPre_finite_attend := Cert.Pre_finite_attend.Gen.facts) m) (c : Dev nD) :
    ∃ (Q : Fin 8192 → Fin 1024 → ℝ) (K : Fin 8192 → Fin 256 → ℝ) (V : Fin 8192 → Fin 256 → ℝ),
      (∀ i e, m ((c : Thread nD τ).loc main_arg0) (ix2 i e) = ((Q i e : ℝ) : EReal))
      ∧ (∀ j e, m ((c : Thread nD τ).loc main_arg1) (ix2 j e) = ((K j e : ℝ) : EReal))
      ∧ (∀ j e, m ((c : Thread nD τ).loc main_arg2) (ix2 j e) = ((V j e : ℝ) : EReal)) := by
  obtain ⟨p0, p1, p2⟩ := h c
  have hz : ∀ (S : Shape) (hb : (⟨0, ![]⟩ : Shape).BroadcastsInDim S (![] : Fin 0 → Fin S.rank)) (i : S.Idx),
      broadcastInDim S ![] hb (constant (F := Ideal) ⟨0, ![]⟩ .f32 0#32) i = (0 : EReal) := fun S hb i => by
    exact Ideal.ofBits_zero_f32
  obtain ⟨Q, hQ⟩ := reals_of_finite p0 (hz _ _)
  obtain ⟨K, hK⟩ := reals_of_finite p1 (hz _ _)
  obtain ⟨V, hV⟩ := reals_of_finite p2 (hz _ _)
  exact ⟨fun i e => Q (ix2 i e), fun j e => K (ix2 j e), fun j e => V (ix2 j e),
    fun _ _ => hQ _, fun _ _ => hK _, fun _ _ => hV _⟩

theorem same_res_o (m : (ℓ : Loc Cert.Kernel6Ideal.nD Cert.Kernel6Ideal.τ Cert.Kernel6Ideal.sig) → Buf (Elt Ideal) ℓ) (c : Dev Cert.Kernel6Ideal.nD)
    {x0 : (⟨Cert.Reference6Ideal.S8192x1024, .f32⟩ : BufTy).Contents (Elt Ideal)} {x1 : (⟨Cert.Reference6Ideal.S8192x256, .f32⟩ : BufTy).Contents (Elt Ideal)} {x2 : (⟨Cert.Reference6Ideal.S8192x256, .f32⟩ : BufTy).Contents (Elt Ideal)}
    {Q : Fin 8192 → Fin 1024 → ℝ} {K : Fin 8192 → Fin 256 → ℝ} {V : Fin 8192 → Fin 256 → ℝ}
    (h0 : ∀ i e, m ((c : Thread Cert.Kernel6Ideal.nD Cert.Kernel6Ideal.τ).loc Cert.Kernel6Ideal.main_arg0) (ix2 i e) = ((Q i e : ℝ) : EReal))
    (h1 : ∀ j e, m ((c : Thread Cert.Kernel6Ideal.nD Cert.Kernel6Ideal.τ).loc Cert.Kernel6Ideal.main_arg1) (ix2 j e) = ((K j e : ℝ) : EReal))
    (h2 : ∀ j e, m ((c : Thread Cert.Kernel6Ideal.nD Cert.Kernel6Ideal.τ).loc Cert.Kernel6Ideal.main_arg2) (ix2 j e) = ((V j e : ℝ) : EReal))
    (k0 : ∀ i e, x0 (ix2 i e) = ((Q i e : ℝ) : EReal))
    (k1 : ∀ j e, x1 (ix2 j e) = ((K j e : ℝ) : EReal))
    (k2 : ∀ j e, x2 (ix2 j e) = ((V j e : ℝ) : EReal)) :
    Cert.Reference6Ideal.Read.val_main_v26 (F := Ideal) x0 x1 x2 = (Cert.Kernel6Ideal.Gen.dats m 0 c).arrAt 3 Cert.Kernel6Ideal.cfg0.N := by
  rw [Cert.Kernel6Ideal.Value.final3 m c _ _ _ h0 h1 h2]
  funext i
  obtain ⟨t, d, rfl⟩ : ∃ (t : Fin 8192) (d : Fin 1024), i = ix2 t d := ⟨i 0, i 1, eq_ix2 i⟩
  exact Cert.Reference6Ideal.Value.res_o k0 k1 k2 t d

theorem same_res_lse (m : (ℓ : Loc Cert.Kernel6Ideal.nD Cert.Kernel6Ideal.τ Cert.Kernel6Ideal.sig) → Buf (Elt Ideal) ℓ) (c : Dev Cert.Kernel6Ideal.nD)
    {x0 : (⟨Cert.Reference6Ideal.S8192x1024, .f32⟩ : BufTy).Contents (Elt Ideal)} {x1 : (⟨Cert.Reference6Ideal.S8192x256, .f32⟩ : BufTy).Contents (Elt Ideal)}
    {Q : Fin 8192 → Fin 1024 → ℝ} {K : Fin 8192 → Fin 256 → ℝ}
    (h0 : ∀ i e, m ((c : Thread Cert.Kernel6Ideal.nD Cert.Kernel6Ideal.τ).loc Cert.Kernel6Ideal.main_arg0) (ix2 i e) = ((Q i e : ℝ) : EReal))
    (h1 : ∀ j e, m ((c : Thread Cert.Kernel6Ideal.nD Cert.Kernel6Ideal.τ).loc Cert.Kernel6Ideal.main_arg1) (ix2 j e) = ((K j e : ℝ) : EReal))
    {V : Fin 8192 → Fin 256 → ℝ}
    (h2 : ∀ j e, m ((c : Thread Cert.Kernel6Ideal.nD Cert.Kernel6Ideal.τ).loc Cert.Kernel6Ideal.main_arg2) (ix2 j e) = ((V j e : ℝ) : EReal))
    (k0 : ∀ i e, x0 (ix2 i e) = ((Q i e : ℝ) : EReal))
    (k1 : ∀ j e, x1 (ix2 j e) = ((K j e : ℝ) : EReal)) :
    Cert.Reference6Ideal.Read.val_main_v29 (F := Ideal) x0 x1 = (Cert.Kernel6Ideal.Gen.dats m 0 c).arrAt 4 Cert.Kernel6Ideal.cfg0.N := by
  rw [Cert.Kernel6Ideal.Value.final4 m c _ _ _ h0 h1 h2]
  funext i
  obtain ⟨t, d, e, rfl⟩ : ∃ (t : Fin 2) (d : Fin 4) (e : Fin 8192), i = ix3 t d e := ⟨i 0, i 1, i 2, eq_ix3 i⟩
  exact Cert.Reference6Ideal.Value.res_lse k0 k1 t d e

theorem algebraic : Cert.algebraic_Kernel6Ideal_Reference6Ideal_pre_finite_attend (hKernel6Ideal := Cert.Kernel6Ideal.Gen.facts)
    (hReference6Ideal := Cert.Reference6Ideal.Gen.facts) (hPre_finite_attend := Cert.Pre_finite_attend.Gen.facts) := by
  intro m g m' g' hpre hagree
  refine ⟨_, _, Cert.Kernel6Ideal.Value.run_blocks m g, (θ_run _ _ _).mono (fun r h c => ?_) (Cert.Reference6Ideal.Value.run m' g')⟩
  obtain ⟨Q, K, V, h0, h1, h2⟩ := reals_of_pre m hpre c
  obtain ⟨a0, a1, a2⟩ := hagree c
  obtain ⟨r0, r1, rest⟩ := h c
  have k0 : ∀ i e, m' ((c.tc : Thread Cert.Reference6Ideal.nD Cert.Reference6Ideal.τ).loc Cert.Reference6Ideal.main_arg0) (ix2 i e)
      = ((Q i e : ℝ) : EReal) := fun i e => by rw [a0]; exact h0 i e
  have k1 : ∀ j e, m' ((c.tc : Thread Cert.Reference6Ideal.nD Cert.Reference6Ideal.τ).loc Cert.Reference6Ideal.main_arg1) (ix2 j e)
      = ((K j e : ℝ) : EReal) := fun j e => by rw [a1]; exact h1 j e
  have k2 : ∀ j e, m' ((c.tc : Thread Cert.Reference6Ideal.nD Cert.Reference6Ideal.τ).loc Cert.Reference6Ideal.main_arg2) (ix2 j e)
      = ((V j e : ℝ) : EReal) := fun j e => by rw [a2]; exact h2 j e
  refine ⟨r0.trans ?_, r1.trans ?_, rest⟩
  · exact (Cert.Reference6Ideal.Read.val_main_v26_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2))).trans
      (same_res_o m c h0 h1 h2 k0 k1 k2)
  · exact (Cert.Reference6Ideal.Read.val_main_v29_eq (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))).trans
      (same_res_lse m c h0 h1 h2 k0 k1)

end Cert.Attend

end
-- ==== Proof.lean ====
/-
  The proof of `Cert.Claim`: the frames are the generated ones, except the fifth kernel's, which
  is proved in `ProjFrame`; the value claims are proved in the modules beside this one.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_mlp
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_attn
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite_loss
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite_mix
public import proofs.«01_k».proof.Proof.Gen.Kernel5
public import proofs.«01_k».proof.Proof.Gen.Kernel5Ideal
public import proofs.«01_k».proof.Proof.ProjFrame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_proj
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite_attend
public import proofs.«01_k».proof.Proof.Mlp
public import proofs.«01_k».proof.Proof.Attn
public import proofs.«01_k».proof.Proof.Loss
public import proofs.«01_k».proof.Proof.Mix
public import proofs.«01_k».proof.Proof.Proj
public import proofs.«01_k».proof.Proof.Attend
public import Idealize.ShloMosaic.Adequacy
public import Idealize.ShloMosaic.Init

@[expose] public section

noncomputable section

-- The claims about the kernels and the references also say that every semaphore counter ends at zero.

namespace Cert.Proof

open Idealize.ShloMosaic Idealize.SL.Sem

theorem frame_reference : Cert.quiescent_ReferenceIdeal (hReferenceIdeal := Cert.ReferenceIdeal.Gen.facts) := by
  intro m g _
  exact (θ_run Cert.ReferenceIdeal.defs _ _).mono
    (fun r h => ⟨fun c => (h c).2.2.2, Idealize.ShloMosaic.sem_eq_zero_of_no_sems (by decide) r.2⟩)
    (Cert.ReferenceIdeal.Value.run m g)

theorem frame_reference2 : Cert.quiescent_Reference2Ideal (hReference2Ideal := Cert.Reference2Ideal.Gen.facts) := by
  intro m g _
  exact (θ_run Cert.Reference2Ideal.defs _ _).mono
    (fun r h => ⟨fun c => (h c).2.2.2, Idealize.ShloMosaic.sem_eq_zero_of_no_sems (by decide) r.2⟩)
    (Cert.Reference2Ideal.Value.run m g)

theorem frame_reference3 : Cert.quiescent_Reference3Ideal (hReference3Ideal := Cert.Reference3Ideal.Gen.facts) := by
  intro m g _
  exact (θ_run Cert.Reference3Ideal.defs _ _).mono
    (fun r h => ⟨fun c => (h c).2.2.2.2.2.2.2.2, Idealize.ShloMosaic.sem_eq_zero_of_no_sems (by decide) r.2⟩)
    (Cert.Reference3Ideal.Value.run m g)

theorem frame_reference4 : Cert.quiescent_Reference4Ideal (hReference4Ideal := Cert.Reference4Ideal.Gen.facts) := by
  intro m g _
  exact (θ_run Cert.Reference4Ideal.defs _ _).mono
    (fun r h => ⟨fun c => (h c).2.2.2.2.2.2.2.2.2.2.2.2, Idealize.ShloMosaic.sem_eq_zero_of_no_sems (by decide) r.2⟩)
    (Cert.Reference4Ideal.Value.run m g)

theorem frame_reference5 : Cert.quiescent_Reference5Ideal (hReference5Ideal := Cert.Reference5Ideal.Gen.facts) := by
  intro m g _
  exact (θ_run Cert.Reference5Ideal.defs _ _).mono
    (fun r h => ⟨fun c => (h c).2.2.2.2.2, Idealize.ShloMosaic.sem_eq_zero_of_no_sems (by decide) r.2⟩)
    (Cert.Reference5Ideal.Value.run m g)

theorem frame_reference6 : Cert.quiescent_Reference6Ideal (hReference6Ideal := Cert.Reference6Ideal.Gen.facts) := by
  intro m g _
  exact (θ_run Cert.Reference6Ideal.defs _ _).mono
    (fun r h => ⟨fun c => (h c).2.2, Idealize.ShloMosaic.sem_eq_zero_of_no_sems (by decide) r.2⟩)
    (Cert.Reference6Ideal.Value.run m g)

/-- The two texts of the fifth kernel are the same: one run serves both. -/
theorem frame_kernel5 : Cert.quiescent_Kernel5 (hKernel5 := Cert.Kernel5.Gen.facts) := fun m g _ =>
  Eq.mp (by sl_kernel_rfl) (Cert.Kernel5Ideal.Gen.frame (F := Bits) m g)

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Pre_finite_mlp.Gen.facts,
    Cert.Pre_finite_attn.Gen.facts,
    Cert.Pre_finite_loss.Gen.facts,
    Cert.Pre_finite_mix.Gen.facts,
    Cert.Pre_finite_proj.Gen.facts,
    Cert.Pre_finite_attend.Gen.facts,
    fun m g _ => Cert.Kernel.Gen.frame m g,
    fun m g _ => Cert.KernelIdeal.Gen.frame m g,
    fun m g _ => Cert.KernelIdeal.Gen.frame m g,
    frame_reference,
    fun m g _ => frame_reference m g trivial,
    fun m g _ => Cert.Kernel2.Gen.frame m g,
    fun m g _ => Cert.Kernel2Ideal.Gen.frame m g,
    fun m g _ => Cert.Kernel2Ideal.Gen.frame m g,
    frame_reference2,
    fun m g _ => frame_reference2 m g trivial,
    fun m g _ => Cert.Kernel3.Gen.frame m g,
    fun m g _ => Cert.Kernel3Ideal.Gen.frame m g,
    fun m g _ => Cert.Kernel3Ideal.Gen.frame m g,
    frame_reference3,
    fun m g _ => frame_reference3 m g trivial,
    fun m g _ => Cert.Kernel4.Gen.frame m g,
    fun m g _ => Cert.Kernel4Ideal.Gen.frame m g,
    fun m g _ => Cert.Kernel4Ideal.Gen.frame m g,
    frame_reference4,
    fun m g _ => frame_reference4 m g trivial,
    frame_kernel5,
    fun m g _ => Cert.Kernel5Ideal.Gen.frame m g,
    fun m g _ => Cert.Kernel5Ideal.Gen.frame m g,
    frame_reference5,
    fun m g _ => frame_reference5 m g trivial,
    fun m g _ => Cert.Kernel6.Gen.frame m g,
    fun m g _ => Cert.Kernel6Ideal.Gen.frame m g,
    fun m g _ => Cert.Kernel6Ideal.Gen.frame m g,
    frame_reference6,
    fun m g _ => frame_reference6 m g trivial,
    trivial,
    Cert.Mlp.algebraic,
    trivial,
    Cert.Attn.algebraic,
    trivial,
    Cert.Loss.algebraic,
    trivial,
    Cert.Mix.algebraic,
    trivial,
    Cert.Proj.algebraic,
    IdealRules.named_const.statement Cert.Kernel6Ideal.κ "log2_e" .f32 0x3FB8AA3B#32 (((Real.log 2)⁻¹ : ℝ) : EReal) rfl,
    Cert.Attend.algebraic⟩

end Cert.Proof

end
